-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite [hPre_finite : Cert.Pre_finite.Facts] (m : (ℓ : Loc Cert.PoolIdeal.nD Cert.PoolIdeal.τ Cert.PoolIdeal.sig) → Buf (Elt Ideal) ℓ) : Prop :=
  ∀ c : Dev Cert.PoolIdeal.nD,
    (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).1 = (fun _ => 1#1)
    ∧ (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.1 = (fun _ => 1#1)
    ∧ (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.1 = (fun _ => 1#1)
    ∧ (Cert.Pre_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite [hPre_finite : Cert.Pre_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).1 = (fun _ => 1#1)
    ∧ (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.1 = (fun _ => 1#1)
    ∧ (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.1 = (fun _ => 1#1)
    ∧ (Cert.Pre_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))).2.2.2 = (fun _ => 1#1)

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwOdd (m : (ℓ : Loc Cert.DwOdd.nD Cert.DwOdd.τ Cert.DwOdd.sig) → Buf (Elt Bits) ℓ) : Prop :=
  True

def Pre_DwOddIdeal (m : (ℓ : Loc Cert.DwOddIdeal.nD Cert.DwOddIdeal.τ Cert.DwOddIdeal.sig) → Buf (Elt Ideal) ℓ) : Prop :=
  True

def Pre_DwOddRefIdeal (m : (ℓ : Loc Cert.DwOddRefIdeal.nD Cert.DwOddRefIdeal.τ Cert.DwOddRefIdeal.sig) → Buf (Elt Ideal) ℓ) : Prop :=
  True

def Pre_DwEven (m : (ℓ : Loc Cert.DwEven.nD Cert.DwEven.τ Cert.DwEven.sig) → Buf (Elt Bits) ℓ) : Prop :=
  True

def Pre_DwEvenIdeal (m : (ℓ : Loc Cert.DwEvenIdeal.nD Cert.DwEvenIdeal.τ Cert.DwEvenIdeal.sig) → Buf (Elt Ideal) ℓ) : Prop :=
  True

def Pre_DwEvenRefIdeal (m : (ℓ : Loc Cert.DwEvenRefIdeal.nD Cert.DwEvenRefIdeal.τ Cert.DwEvenRefIdeal.sig) → Buf (Elt Ideal) ℓ) : Prop :=
  True

def Pre_DxOdd (m : (ℓ : Loc Cert.DxOdd.nD Cert.DxOdd.τ Cert.DxOdd.sig) → Buf (Elt Bits) ℓ) : Prop :=
  True

def Pre_DxOddIdeal (m : (ℓ : Loc Cert.DxOddIdeal.nD Cert.DxOddIdeal.τ Cert.DxOddIdeal.sig) → Buf (Elt Ideal) ℓ) : Prop :=
  True

def Pre_DxOddRefIdeal (m : (ℓ : Loc Cert.DxOddRefIdeal.nD Cert.DxOddRefIdeal.τ Cert.DxOddRefIdeal.sig) → Buf (Elt Ideal) ℓ) : Prop :=
  True

def Pre_DxEven (m : (ℓ : Loc Cert.DxEven.nD Cert.DxEven.τ Cert.DxEven.sig) → Buf (Elt Bits) ℓ) : Prop :=
  True

def Pre_DxEvenIdeal (m : (ℓ : Loc Cert.DxEvenIdeal.nD Cert.DxEvenIdeal.τ Cert.DxEvenIdeal.sig) → Buf (Elt Ideal) ℓ) : Prop :=
  True

def Pre_DxEvenRefIdeal (m : (ℓ : Loc Cert.DxEvenRefIdeal.nD Cert.DxEvenRefIdeal.τ Cert.DxEvenRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2))).2.2 = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.1 = (fun _ => 1#1)
    ∧ (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2))).2.2 = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_finite_loss [hPre_finite_loss : Cert.Pre_finite_loss.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).1 = (fun _ => 1#1)
    ∧ (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).2.1 = (fun _ => 1#1)
    ∧ (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).2.2.1 = (fun _ => 1#1)
    ∧ (Cert.Pre_finite_loss.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3))).2.2.2 = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_finite_loss [hPre_finite_loss : Cert.Pre_finite_loss.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).1 = (fun _ => 1#1)
    ∧ (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).2.1 = (fun _ => 1#1)
    ∧ (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).2.2.1 = (fun _ => 1#1)
    ∧ (Cert.Pre_finite_loss.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3))).2.2.2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_finite_fwd [hPre_finite_fwd : Cert.Pre_finite_fwd.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_finite_fwd.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_finite_fwd [hPre_finite_fwd : Cert.Pre_finite_fwd.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_finite_fwd.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2)) (m ((c.tc : Thread Cert.PoolFwdRefIdeal.nD Cert.PoolFwdRefIdeal.τ).loc Cert.PoolFwdRefIdeal.main_arg3))) = (fun _ => 1#1)

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamEven (m : (ℓ : Loc Cert.AdamEven.nD Cert.AdamEven.τ Cert.AdamEven.sig) → Buf (Elt Bits) ℓ) : Prop :=
  True

def Pre_AdamEvenIdeal (m : (ℓ : Loc Cert.AdamEvenIdeal.nD Cert.AdamEvenIdeal.τ Cert.AdamEvenIdeal.sig) → Buf (Elt Ideal) ℓ) : Prop :=
  True

def Pre_AdamEvenRefIdeal (m : (ℓ : Loc Cert.AdamEvenRefIdeal.nD Cert.AdamEvenRefIdeal.τ Cert.AdamEvenRefIdeal.sig) → Buf (Elt Ideal) ℓ) : Prop :=
  True

def Pre_AdamOdd (m : (ℓ : Loc Cert.AdamOdd.nD Cert.AdamOdd.τ Cert.AdamOdd.sig) → Buf (Elt Bits) ℓ) : Prop :=
  True

def Pre_AdamOddIdeal (m : (ℓ : Loc Cert.AdamOddIdeal.nD Cert.AdamOddIdeal.τ Cert.AdamOddIdeal.sig) → Buf (Elt Ideal) ℓ) : Prop :=
  True

def Pre_AdamOddRefIdeal (m : (ℓ : Loc Cert.AdamOddRefIdeal.nD Cert.AdamOddRefIdeal.τ Cert.AdamOddRefIdeal.sig) → Buf (Elt Ideal) ℓ) : Prop :=
  True

def Pre_RsFinal (m : (ℓ : Loc Cert.RsFinal.nD Cert.RsFinal.τ Cert.RsFinal.sig) → Buf (Elt Bits) ℓ) : Prop :=
  True

def Pre_RsFinalIdeal (m : (ℓ : Loc Cert.RsFinalIdeal.nD Cert.RsFinalIdeal.τ Cert.RsFinalIdeal.sig) → Buf (Elt Ideal) ℓ) : Prop :=
  True

def Pre_RsFinalRefIdeal (m : (ℓ : Loc Cert.RsFinalRefIdeal.nD Cert.RsFinalRefIdeal.τ Cert.RsFinalRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_CastX (m : (ℓ : Loc Cert.CastX.nD Cert.CastX.τ Cert.CastX.sig) → Buf (Elt Bits) ℓ) : Prop :=
  True

def Pre_CastXIdeal (m : (ℓ : Loc Cert.CastXIdeal.nD Cert.CastXIdeal.τ Cert.CastXIdeal.sig) → Buf (Elt Ideal) ℓ) : Prop :=
  True

def Pre_CastXRefIdeal (m : (ℓ : Loc Cert.CastXRefIdeal.nD Cert.CastXRefIdeal.τ Cert.CastXRefIdeal.sig) → Buf (Elt Ideal) ℓ) : Prop :=
  True

def Pre_AddOut (m : (ℓ : Loc Cert.AddOut.nD Cert.AddOut.τ Cert.AddOut.sig) → Buf (Elt Bits) ℓ) : Prop :=
  True

def Pre_AddOutIdeal (m : (ℓ : Loc Cert.AddOutIdeal.nD Cert.AddOutIdeal.τ Cert.AddOutIdeal.sig) → Buf (Elt Ideal) ℓ) : Prop :=
  True

def Pre_AddOutRefIdeal (m : (ℓ : Loc Cert.AddOutRefIdeal.nD Cert.AddOutRefIdeal.τ Cert.AddOutRefIdeal.sig) → Buf (Elt Ideal) ℓ) : Prop :=
  True

def Pre_AddEven (m : (ℓ : Loc Cert.AddEven.nD Cert.AddEven.τ Cert.AddEven.sig) → Buf (Elt Bits) ℓ) : Prop :=
  True

def Pre_AddEvenIdeal (m : (ℓ : Loc Cert.AddEvenIdeal.nD Cert.AddEvenIdeal.τ Cert.AddEvenIdeal.sig) → Buf (Elt Ideal) ℓ) : Prop :=
  True

def Pre_AddEvenRefIdeal (m : (ℓ : Loc Cert.AddEvenRefIdeal.nD Cert.AddEvenRefIdeal.τ Cert.AddEvenRefIdeal.sig) → Buf (Elt Ideal) ℓ) : Prop :=
  True

def Pre_AddOdd (m : (ℓ : Loc Cert.AddOdd.nD Cert.AddOdd.τ Cert.AddOdd.sig) → Buf (Elt Bits) ℓ) : Prop :=
  True

def Pre_AddOddIdeal (m : (ℓ : Loc Cert.AddOddIdeal.nD Cert.AddOddIdeal.τ Cert.AddOddIdeal.sig) → Buf (Elt Ideal) ℓ) : Prop :=
  True

def Pre_AddOddRefIdeal (m : (ℓ : Loc Cert.AddOddRefIdeal.nD Cert.AddOddRefIdeal.τ Cert.AddOddRefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_finite [hPoolIdeal : Cert.PoolIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_finite [hPoolRefIdeal : Cert.PoolRefIdeal.Facts] [hPre_finite : Cert.Pre_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwOdd [hDwOdd : Cert.DwOdd.Facts] : Prop :=
  ∀ (m : (ℓ : Loc Cert.DwOdd.nD Cert.DwOdd.τ Cert.DwOdd.sig) → Buf (Elt Bits) ℓ) (g : Dev Cert.DwOdd.nD → PrngReg), Pre_DwOdd m →
    θ_run (Cert.DwOdd.defs (F := Bits)) (onTc (τ := Cert.DwOdd.τ) (Cert.DwOdd.main (F := Bits))) ⟨m, fun _ => 0, g⟩ (fun r => (∀ c : Dev Cert.DwOdd.nD,
      r.2.mem ((c.tc : Thread Cert.DwOdd.nD Cert.DwOdd.τ).loc Cert.DwOdd.main_arg0) = m ((c.tc : Thread Cert.DwOdd.nD Cert.DwOdd.τ).loc Cert.DwOdd.main_arg0)
      ∧ r.2.mem ((c.tc : Thread Cert.DwOdd.nD Cert.DwOdd.τ).loc Cert.DwOdd.main_arg1) = m ((c.tc : Thread Cert.DwOdd.nD Cert.DwOdd.τ).loc Cert.DwOdd.main_arg1))
      ∧ r.2.sem = fun _ => 0)

def quiescent_DwOddIdeal [hDwOddIdeal : Cert.DwOddIdeal.Facts] : Prop :=
  ∀ (m : (ℓ : Loc Cert.DwOddIdeal.nD Cert.DwOddIdeal.τ Cert.DwOddIdeal.sig) → Buf (Elt Ideal) ℓ) (g : Dev Cert.DwOddIdeal.nD → PrngReg), Pre_DwOddIdeal m →
    θ_run (Cert.DwOddIdeal.defs (F := Ideal)) (onTc (τ := Cert.DwOddIdeal.τ) (Cert.DwOddIdeal.main (F := Ideal))) ⟨m, fun _ => 0, g⟩ (fun r => (∀ c : Dev Cert.DwOddIdeal.nD,
      r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
      ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ r.2.sem = fun _ => 0)

def quiescent_DwOddRefIdeal [hDwOddRefIdeal : Cert.DwOddRefIdeal.Facts] : Prop :=
  ∀ (m : (ℓ : Loc Cert.DwOddRefIdeal.nD Cert.DwOddRefIdeal.τ Cert.DwOddRefIdeal.sig) → Buf (Elt Ideal) ℓ) (g : Dev Cert.DwOddRefIdeal.nD → PrngReg), Pre_DwOddRefIdeal m →
    θ_run (Cert.DwOddRefIdeal.defs (F := Ideal)) (onTc (τ := Cert.DwOddRefIdeal.τ) (Cert.DwOddRefIdeal.main (F := Ideal))) ⟨m, fun _ => 0, g⟩ (fun r => (∀ c : Dev Cert.DwOddRefIdeal.nD,
      r.2.mem ((c.tc : Thread Cert.DwOddRefIdeal.nD Cert.DwOddRefIdeal.τ).loc Cert.DwOddRefIdeal.main_arg0) = m ((c.tc : Thread Cert.DwOddRefIdeal.nD Cert.DwOddRefIdeal.τ).loc Cert.DwOddRefIdeal.main_arg0)
      ∧ r.2.mem ((c.tc : Thread Cert.DwOddRefIdeal.nD Cert.DwOddRefIdeal.τ).loc Cert.DwOddRefIdeal.main_arg1) = m ((c.tc : Thread Cert.DwOddRefIdeal.nD Cert.DwOddRefIdeal.τ).loc Cert.DwOddRefIdeal.main_arg1))
      ∧ r.2.sem = fun _ => 0)

def quiescent_DwEven [hDwEven : Cert.DwEven.Facts] : Prop :=
  ∀ (m : (ℓ : Loc Cert.DwEven.nD Cert.DwEven.τ Cert.DwEven.sig) → Buf (Elt Bits) ℓ) (g : Dev Cert.DwEven.nD → PrngReg), Pre_DwEven m →
    θ_run (Cert.DwEven.defs (F := Bits)) (onTc (τ := Cert.DwEven.τ) (Cert.DwEven.main (F := Bits))) ⟨m, fun _ => 0, g⟩ (fun r => (∀ c : Dev Cert.DwEven.nD,
      r.2.mem ((c.tc : Thread Cert.DwEven.nD Cert.DwEven.τ).loc Cert.DwEven.main_arg0) = m ((c.tc : Thread Cert.DwEven.nD Cert.DwEven.τ).loc Cert.DwEven.main_arg0)
      ∧ r.2.mem ((c.tc : Thread Cert.DwEven.nD Cert.DwEven.τ).loc Cert.DwEven.main_arg1) = m ((c.tc : Thread Cert.DwEven.nD Cert.DwEven.τ).loc Cert.DwEven.main_arg1))
      ∧ r.2.sem = fun _ => 0)

def quiescent_DwEvenIdeal [hDwEvenIdeal : Cert.DwEvenIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg), Pre_DwEvenIdeal m →
    θ_run (Cert.DwEvenIdeal.defs (F := Ideal)) (onTc (τ := Cert.DwEvenIdeal.τ) (Cert.DwEvenIdeal.main (F := Ideal))) ⟨m, fun _ => 0, g⟩ (fun r => (∀ c : Dev Cert.DwEvenIdeal.nD,
      r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
      ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ r.2.sem = fun _ => 0)

def quiescent_DwEvenRefIdeal [hDwEvenRefIdeal : Cert.DwEvenRefIdeal.Facts] : Prop :=
  ∀ (m : (ℓ : Loc Cert.DwEvenRefIdeal.nD Cert.DwEvenRefIdeal.τ Cert.DwEvenRefIdeal.sig) → Buf (Elt Ideal) ℓ) (g : Dev Cert.DwEvenRefIdeal.nD → PrngReg), Pre_DwEvenRefIdeal m →
    θ_run (Cert.DwEvenRefIdeal.defs (F := Ideal)) (onTc (τ := Cert.DwEvenRefIdeal.τ) (Cert.DwEvenRefIdeal.main (F := Ideal))) ⟨m, fun _ => 0, g⟩ (fun r => (∀ c : Dev Cert.DwEvenRefIdeal.nD,
      r.2.mem ((c.tc : Thread Cert.DwEvenRefIdeal.nD Cert.DwEvenRefIdeal.τ).loc Cert.DwEvenRefIdeal.main_arg0) = m ((c.tc : Thread Cert.DwEvenRefIdeal.nD Cert.DwEvenRefIdeal.τ).loc Cert.DwEvenRefIdeal.main_arg0)
      ∧ r.2.mem ((c.tc : Thread Cert.DwEvenRefIdeal.nD Cert.DwEvenRefIdeal.τ).loc Cert.DwEvenRefIdeal.main_arg1) = m ((c.tc : Thread Cert.DwEvenRefIdeal.nD Cert.DwEvenRefIdeal.τ).loc Cert.DwEvenRefIdeal.main_arg1))
      ∧ r.2.sem = fun _ => 0)

def quiescent_DxOdd [hDxOdd : Cert.DxOdd.Facts] : Prop :=
  ∀ (m : (ℓ : Loc Cert.DxOdd.nD Cert.DxOdd.τ Cert.DxOdd.sig) → Buf (Elt Bits) ℓ) (g : Dev Cert.DxOdd.nD → PrngReg), Pre_DxOdd m →
    θ_run (Cert.DxOdd.defs (F := Bits)) (onTc (τ := Cert.DxOdd.τ) (Cert.DxOdd.main (F := Bits))) ⟨m, fun _ => 0, g⟩ (fun r => (∀ c : Dev Cert.DxOdd.nD,
      r.2.mem ((c.tc : Thread Cert.DxOdd.nD Cert.DxOdd.τ).loc Cert.DxOdd.main_arg0) = m ((c.tc : Thread Cert.DxOdd.nD Cert.DxOdd.τ).loc Cert.DxOdd.main_arg0)
      ∧ r.2.mem ((c.tc : Thread Cert.DxOdd.nD Cert.DxOdd.τ).loc Cert.DxOdd.main_arg1) = m ((c.tc : Thread Cert.DxOdd.nD Cert.DxOdd.τ).loc Cert.DxOdd.main_arg1)
      ∧ r.2.mem ((c.tc : Thread Cert.DxOdd.nD Cert.DxOdd.τ).loc Cert.DxOdd.main_arg2) = m ((c.tc : Thread Cert.DxOdd.nD Cert.DxOdd.τ).loc Cert.DxOdd.main_arg2))
      ∧ r.2.sem = fun _ => 0)

def quiescent_DxOddIdeal [hDxOddIdeal : Cert.DxOddIdeal.Facts] : Prop :=
  ∀ (m : (ℓ : Loc Cert.DxOddIdeal.nD Cert.DxOddIdeal.τ Cert.DxOddIdeal.sig) → Buf (Elt Ideal) ℓ) (g : Dev Cert.DxOddIdeal.nD → PrngReg), Pre_DxOddIdeal m →
    θ_run (Cert.DxOddIdeal.defs (F := Ideal)) (onTc (τ := Cert.DxOddIdeal.τ) (Cert.DxOddIdeal.main (F := Ideal))) ⟨m, fun _ => 0, g⟩ (fun r => (∀ c : Dev Cert.DxOddIdeal.nD,
      r.2.mem ((c.tc : Thread Cert.DxOddIdeal.nD Cert.DxOddIdeal.τ).loc Cert.DxOddIdeal.main_arg0) = m ((c.tc : Thread Cert.DxOddIdeal.nD Cert.DxOddIdeal.τ).loc Cert.DxOddIdeal.main_arg0)
      ∧ r.2.mem ((c.tc : Thread Cert.DxOddIdeal.nD Cert.DxOddIdeal.τ).loc Cert.DxOddIdeal.main_arg1) = m ((c.tc : Thread Cert.DxOddIdeal.nD Cert.DxOddIdeal.τ).loc Cert.DxOddIdeal.main_arg1)
      ∧ r.2.mem ((c.tc : Thread Cert.DxOddIdeal.nD Cert.DxOddIdeal.τ).loc Cert.DxOddIdeal.main_arg2) = m ((c.tc : Thread Cert.DxOddIdeal.nD Cert.DxOddIdeal.τ).loc Cert.DxOddIdeal.main_arg2))
      ∧ r.2.sem = fun _ => 0)

def quiescent_DxOddRefIdeal [hDxOddRefIdeal : Cert.DxOddRefIdeal.Facts] : Prop :=
  ∀ (m : (ℓ : Loc Cert.DxOddRefIdeal.nD Cert.DxOddRefIdeal.τ Cert.DxOddRefIdeal.sig) → Buf (Elt Ideal) ℓ) (g : Dev Cert.DxOddRefIdeal.nD → PrngReg), Pre_DxOddRefIdeal m →
    θ_run (Cert.DxOddRefIdeal.defs (F := Ideal)) (onTc (τ := Cert.DxOddRefIdeal.τ) (Cert.DxOddRefIdeal.main (F := Ideal))) ⟨m, fun _ => 0, g⟩ (fun r => (∀ c : Dev Cert.DxOddRefIdeal.nD,
      r.2.mem ((c.tc : Thread Cert.DxOddRefIdeal.nD Cert.DxOddRefIdeal.τ).loc Cert.DxOddRefIdeal.main_arg0) = m ((c.tc : Thread Cert.DxOddRefIdeal.nD Cert.DxOddRefIdeal.τ).loc Cert.DxOddRefIdeal.main_arg0)
      ∧ r.2.mem ((c.tc : Thread Cert.DxOddRefIdeal.nD Cert.DxOddRefIdeal.τ).loc Cert.DxOddRefIdeal.main_arg1) = m ((c.tc : Thread Cert.DxOddRefIdeal.nD Cert.DxOddRefIdeal.τ).loc Cert.DxOddRefIdeal.main_arg1)
      ∧ r.2.mem ((c.tc : Thread Cert.DxOddRefIdeal.nD Cert.DxOddRefIdeal.τ).loc Cert.DxOddRefIdeal.main_arg2) = m ((c.tc : Thread Cert.DxOddRefIdeal.nD Cert.DxOddRefIdeal.τ).loc Cert.DxOddRefIdeal.main_arg2))
      ∧ r.2.sem = fun _ => 0)

def quiescent_DxEven [hDxEven : Cert.DxEven.Facts] : Prop :=
  ∀ (m : (ℓ : Loc Cert.DxEven.nD Cert.DxEven.τ Cert.DxEven.sig) → Buf (Elt Bits) ℓ) (g : Dev Cert.DxEven.nD → PrngReg), Pre_DxEven m →
    θ_run (Cert.DxEven.defs (F := Bits)) (onTc (τ := Cert.DxEven.τ) (Cert.DxEven.main (F := Bits))) ⟨m, fun _ => 0, g⟩ (fun r => (∀ c : Dev Cert.DxEven.nD,
      r.2.mem ((c.tc : Thread Cert.DxEven.nD Cert.DxEven.τ).loc Cert.DxEven.main_arg0) = m ((c.tc : Thread Cert.DxEven.nD Cert.DxEven.τ).loc Cert.DxEven.main_arg0)
      ∧ r.2.mem ((c.tc : Thread Cert.DxEven.nD Cert.DxEven.τ).loc Cert.DxEven.main_arg1) = m ((c.tc : Thread Cert.DxEven.nD Cert.DxEven.τ).loc Cert.DxEven.main_arg1)
      ∧ r.2.mem ((c.tc : Thread Cert.DxEven.nD Cert.DxEven.τ).loc Cert.DxEven.main_arg2) = m ((c.tc : Thread Cert.DxEven.nD Cert.DxEven.τ).loc Cert.DxEven.main_arg2))
      ∧ r.2.sem = fun _ => 0)

def quiescent_DxEvenIdeal [hDxEvenIdeal : Cert.DxEvenIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg), Pre_DxEvenIdeal m →
    θ_run (Cert.DxEvenIdeal.defs (F := Ideal)) (onTc (τ := Cert.DxEvenIdeal.τ) (Cert.DxEvenIdeal.main (F := Ideal))) ⟨m, fun _ => 0, g⟩ (fun r => (∀ c : Dev Cert.DxEvenIdeal.nD,
      r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
      ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
      ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2))
      ∧ r.2.sem = fun _ => 0)

def quiescent_DxEvenRefIdeal [hDxEvenRefIdeal : Cert.DxEvenRefIdeal.Facts] : Prop :=
  ∀ (m : (ℓ : Loc Cert.DxEvenRefIdeal.nD Cert.DxEvenRefIdeal.τ Cert.DxEvenRefIdeal.sig) → Buf (Elt Ideal) ℓ) (g : Dev Cert.DxEvenRefIdeal.nD → PrngReg), Pre_DxEvenRefIdeal m →
    θ_run (Cert.DxEvenRefIdeal.defs (F := Ideal)) (onTc (τ := Cert.DxEvenRefIdeal.τ) (Cert.DxEvenRefIdeal.main (F := Ideal))) ⟨m, fun _ => 0, g⟩ (fun r => (∀ c : Dev Cert.DxEvenRefIdeal.nD,
      r.2.mem ((c.tc : Thread Cert.DxEvenRefIdeal.nD Cert.DxEvenRefIdeal.τ).loc Cert.DxEvenRefIdeal.main_arg0) = m ((c.tc : Thread Cert.DxEvenRefIdeal.nD Cert.DxEvenRefIdeal.τ).loc Cert.DxEvenRefIdeal.main_arg0)
      ∧ r.2.mem ((c.tc : Thread Cert.DxEvenRefIdeal.nD Cert.DxEvenRefIdeal.τ).loc Cert.DxEvenRefIdeal.main_arg1) = m ((c.tc : Thread Cert.DxEvenRefIdeal.nD Cert.DxEvenRefIdeal.τ).loc Cert.DxEvenRefIdeal.main_arg1)
      ∧ r.2.mem ((c.tc : Thread Cert.DxEvenRefIdeal.nD Cert.DxEvenRefIdeal.τ).loc Cert.DxEvenRefIdeal.main_arg2) = m ((c.tc : Thread Cert.DxEvenRefIdeal.nD Cert.DxEvenRefIdeal.τ).loc Cert.DxEvenRefIdeal.main_arg2))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ r.2.sem = fun _ => 0)

def quiescent_LossLnIdeal_pre_finite_loss [hLossLnIdeal : Cert.LossLnIdeal.Facts] [hPre_finite_loss : Cert.Pre_finite_loss.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_finite_loss m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3))
      ∧ r.2.sem = fun _ => 0)

def quiescent_LossLnRefIdeal_pre_finite_loss [hLossLnRefIdeal : Cert.LossLnRefIdeal.Facts] [hPre_finite_loss : Cert.Pre_finite_loss.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_finite_loss m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2)
      ∧ r.2.mem ((c.tc : Thread Cert.PoolFwd.nD Cert.PoolFwd.τ).loc Cert.PoolFwd.main_arg3) = m ((c.tc : Thread Cert.PoolFwd.nD Cert.PoolFwd.τ).loc Cert.PoolFwd.main_arg3))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdIdeal_pre_finite_fwd [hPoolFwdIdeal : Cert.PoolFwdIdeal.Facts] [hPre_finite_fwd : Cert.Pre_finite_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_finite_fwd m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
      ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_PoolFwdRefIdeal_pre_finite_fwd [hPoolFwdRefIdeal : Cert.PoolFwdRefIdeal.Facts] [hPre_finite_fwd : Cert.Pre_finite_fwd.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_finite_fwd m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m ((c.tc : Thread Cert.PoolFwdRefIdeal.nD Cert.PoolFwdRefIdeal.τ).loc Cert.PoolFwdRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamEven [hAdamEven : Cert.AdamEven.Facts] : Prop :=
  ∀ (m : (ℓ : Loc Cert.AdamEven.nD Cert.AdamEven.τ Cert.AdamEven.sig) → Buf (Elt Bits) ℓ) (g : Dev Cert.AdamEven.nD → PrngReg), Pre_AdamEven m →
    θ_run (Cert.AdamEven.defs (F := Bits)) (onTc (τ := Cert.AdamEven.τ) (Cert.AdamEven.main (F := Bits))) ⟨m, fun _ => 0, g⟩ (fun r => (∀ c : Dev Cert.AdamEven.nD,
      r.2.mem ((c.tc : Thread Cert.AdamEven.nD Cert.AdamEven.τ).loc Cert.AdamEven.main_arg0) = m ((c.tc : Thread Cert.AdamEven.nD Cert.AdamEven.τ).loc Cert.AdamEven.main_arg0)
      ∧ r.2.mem ((c.tc : Thread Cert.AdamEven.nD Cert.AdamEven.τ).loc Cert.AdamEven.main_arg1) = m ((c.tc : Thread Cert.AdamEven.nD Cert.AdamEven.τ).loc Cert.AdamEven.main_arg1)
      ∧ r.2.mem ((c.tc : Thread Cert.AdamEven.nD Cert.AdamEven.τ).loc Cert.AdamEven.main_arg2) = m ((c.tc : Thread Cert.AdamEven.nD Cert.AdamEven.τ).loc Cert.AdamEven.main_arg2)
      ∧ r.2.mem ((c.tc : Thread Cert.AdamEven.nD Cert.AdamEven.τ).loc Cert.AdamEven.main_arg3) = m ((c.tc : Thread Cert.AdamEven.nD Cert.AdamEven.τ).loc Cert.AdamEven.main_arg3)
      ∧ r.2.mem ((c.tc : Thread Cert.AdamEven.nD Cert.AdamEven.τ).loc Cert.AdamEven.main_arg4) = m ((c.tc : Thread Cert.AdamEven.nD Cert.AdamEven.τ).loc Cert.AdamEven.main_arg4)
      ∧ r.2.mem ((c.tc : Thread Cert.AdamEven.nD Cert.AdamEven.τ).loc Cert.AdamEven.main_arg5) = m ((c.tc : Thread Cert.AdamEven.nD Cert.AdamEven.τ).loc Cert.AdamEven.main_arg5)
      ∧ r.2.mem ((c.tc : Thread Cert.AdamEven.nD Cert.AdamEven.τ).loc Cert.AdamEven.main_arg6) = m ((c.tc : Thread Cert.AdamEven.nD Cert.AdamEven.τ).loc Cert.AdamEven.main_arg6))
      ∧ r.2.sem = fun _ => 0)

def quiescent_AdamEvenIdeal [hAdamEvenIdeal : Cert.AdamEvenIdeal.Facts] : Prop :=
  ∀ (m : (ℓ : Loc Cert.AdamEvenIdeal.nD Cert.AdamEvenIdeal.τ Cert.AdamEvenIdeal.sig) → Buf (Elt Ideal) ℓ) (g : Dev Cert.AdamEvenIdeal.nD → PrngReg), Pre_AdamEvenIdeal m →
    θ_run (Cert.AdamEvenIdeal.defs (F := Ideal)) (onTc (τ := Cert.AdamEvenIdeal.τ) (Cert.AdamEvenIdeal.main (F := Ideal))) ⟨m, fun _ => 0, g⟩ (fun r => (∀ c : Dev Cert.AdamEvenIdeal.nD,
      r.2.mem ((c.tc : Thread Cert.AdamEvenIdeal.nD Cert.AdamEvenIdeal.τ).loc Cert.AdamEvenIdeal.main_arg0) = m ((c.tc : Thread Cert.AdamEvenIdeal.nD Cert.AdamEvenIdeal.τ).loc Cert.AdamEvenIdeal.main_arg0)
      ∧ r.2.mem ((c.tc : Thread Cert.AdamEvenIdeal.nD Cert.AdamEvenIdeal.τ).loc Cert.AdamEvenIdeal.main_arg1) = m ((c.tc : Thread Cert.AdamEvenIdeal.nD Cert.AdamEvenIdeal.τ).loc Cert.AdamEvenIdeal.main_arg1)
      ∧ r.2.mem ((c.tc : Thread Cert.AdamEvenIdeal.nD Cert.AdamEvenIdeal.τ).loc Cert.AdamEvenIdeal.main_arg2) = m ((c.tc : Thread Cert.AdamEvenIdeal.nD Cert.AdamEvenIdeal.τ).loc Cert.AdamEvenIdeal.main_arg2)
      ∧ r.2.mem ((c.tc : Thread Cert.AdamEvenIdeal.nD Cert.AdamEvenIdeal.τ).loc Cert.AdamEvenIdeal.main_arg3) = m ((c.tc : Thread Cert.AdamEvenIdeal.nD Cert.AdamEvenIdeal.τ).loc Cert.AdamEvenIdeal.main_arg3)
      ∧ r.2.mem ((c.tc : Thread Cert.AdamEvenIdeal.nD Cert.AdamEvenIdeal.τ).loc Cert.AdamEvenIdeal.main_arg4) = m ((c.tc : Thread Cert.AdamEvenIdeal.nD Cert.AdamEvenIdeal.τ).loc Cert.AdamEvenIdeal.main_arg4)
      ∧ r.2.mem ((c.tc : Thread Cert.AdamEvenIdeal.nD Cert.AdamEvenIdeal.τ).loc Cert.AdamEvenIdeal.main_arg5) = m ((c.tc : Thread Cert.AdamEvenIdeal.nD Cert.AdamEvenIdeal.τ).loc Cert.AdamEvenIdeal.main_arg5)
      ∧ r.2.mem ((c.tc : Thread Cert.AdamEvenIdeal.nD Cert.AdamEvenIdeal.τ).loc Cert.AdamEvenIdeal.main_arg6) = m ((c.tc : Thread Cert.AdamEvenIdeal.nD Cert.AdamEvenIdeal.τ).loc Cert.AdamEvenIdeal.main_arg6))
      ∧ r.2.sem = fun _ => 0)

def quiescent_AdamEvenRefIdeal [hAdamEvenRefIdeal : Cert.AdamEvenRefIdeal.Facts] : Prop :=
  ∀ (m : (ℓ : Loc Cert.AdamEvenRefIdeal.nD Cert.AdamEvenRefIdeal.τ Cert.AdamEvenRefIdeal.sig) → Buf (Elt Ideal) ℓ) (g : Dev Cert.AdamEvenRefIdeal.nD → PrngReg), Pre_AdamEvenRefIdeal m →
    θ_run (Cert.AdamEvenRefIdeal.defs (F := Ideal)) (onTc (τ := Cert.AdamEvenRefIdeal.τ) (Cert.AdamEvenRefIdeal.main (F := Ideal))) ⟨m, fun _ => 0, g⟩ (fun r => (∀ c : Dev Cert.AdamEvenRefIdeal.nD,
      r.2.mem ((c.tc : Thread Cert.AdamEvenRefIdeal.nD Cert.AdamEvenRefIdeal.τ).loc Cert.AdamEvenRefIdeal.main_arg0) = m ((c.tc : Thread Cert.AdamEvenRefIdeal.nD Cert.AdamEvenRefIdeal.τ).loc Cert.AdamEvenRefIdeal.main_arg0)
      ∧ r.2.mem ((c.tc : Thread Cert.AdamEvenRefIdeal.nD Cert.AdamEvenRefIdeal.τ).loc Cert.AdamEvenRefIdeal.main_arg1) = m ((c.tc : Thread Cert.AdamEvenRefIdeal.nD Cert.AdamEvenRefIdeal.τ).loc Cert.AdamEvenRefIdeal.main_arg1)
      ∧ r.2.mem ((c.tc : Thread Cert.AdamEvenRefIdeal.nD Cert.AdamEvenRefIdeal.τ).loc Cert.AdamEvenRefIdeal.main_arg2) = m ((c.tc : Thread Cert.AdamEvenRefIdeal.nD Cert.AdamEvenRefIdeal.τ).loc Cert.AdamEvenRefIdeal.main_arg2)
      ∧ r.2.mem ((c.tc : Thread Cert.AdamEvenRefIdeal.nD Cert.AdamEvenRefIdeal.τ).loc Cert.AdamEvenRefIdeal.main_arg3) = m ((c.tc : Thread Cert.AdamEvenRefIdeal.nD Cert.AdamEvenRefIdeal.τ).loc Cert.AdamEvenRefIdeal.main_arg3)
      ∧ r.2.mem ((c.tc : Thread Cert.AdamEvenRefIdeal.nD Cert.AdamEvenRefIdeal.τ).loc Cert.AdamEvenRefIdeal.main_arg4) = m ((c.tc : Thread Cert.AdamEvenRefIdeal.nD Cert.AdamEvenRefIdeal.τ).loc Cert.AdamEvenRefIdeal.main_arg4)
      ∧ r.2.mem ((c.tc : Thread Cert.AdamEvenRefIdeal.nD Cert.AdamEvenRefIdeal.τ).loc Cert.AdamEvenRefIdeal.main_arg5) = m ((c.tc : Thread Cert.AdamEvenRefIdeal.nD Cert.AdamEvenRefIdeal.τ).loc Cert.AdamEvenRefIdeal.main_arg5)
      ∧ r.2.mem ((c.tc : Thread Cert.AdamEvenRefIdeal.nD Cert.AdamEvenRefIdeal.τ).loc Cert.AdamEvenRefIdeal.main_arg6) = m ((c.tc : Thread Cert.AdamEvenRefIdeal.nD Cert.AdamEvenRefIdeal.τ).loc Cert.AdamEvenRefIdeal.main_arg6))
      ∧ r.2.sem = fun _ => 0)

def quiescent_AdamOdd [hAdamOdd : Cert.AdamOdd.Facts] : Prop :=
  ∀ (m : (ℓ : Loc Cert.AdamOdd.nD Cert.AdamOdd.τ Cert.AdamOdd.sig) → Buf (Elt Bits) ℓ) (g : Dev Cert.AdamOdd.nD → PrngReg), Pre_AdamOdd m →
    θ_run (Cert.AdamOdd.defs (F := Bits)) (onTc (τ := Cert.AdamOdd.τ) (Cert.AdamOdd.main (F := Bits))) ⟨m, fun _ => 0, g⟩ (fun r => (∀ c : Dev Cert.AdamOdd.nD,
      r.2.mem ((c.tc : Thread Cert.AdamOdd.nD Cert.AdamOdd.τ).loc Cert.AdamOdd.main_arg0) = m ((c.tc : Thread Cert.AdamOdd.nD Cert.AdamOdd.τ).loc Cert.AdamOdd.main_arg0)
      ∧ r.2.mem ((c.tc : Thread Cert.AdamOdd.nD Cert.AdamOdd.τ).loc Cert.AdamOdd.main_arg1) = m ((c.tc : Thread Cert.AdamOdd.nD Cert.AdamOdd.τ).loc Cert.AdamOdd.main_arg1)
      ∧ r.2.mem ((c.tc : Thread Cert.AdamOdd.nD Cert.AdamOdd.τ).loc Cert.AdamOdd.main_arg2) = m ((c.tc : Thread Cert.AdamOdd.nD Cert.AdamOdd.τ).loc Cert.AdamOdd.main_arg2)
      ∧ r.2.mem ((c.tc : Thread Cert.AdamOdd.nD Cert.AdamOdd.τ).loc Cert.AdamOdd.main_arg3) = m ((c.tc : Thread Cert.AdamOdd.nD Cert.AdamOdd.τ).loc Cert.AdamOdd.main_arg3)
      ∧ r.2.mem ((c.tc : Thread Cert.AdamOdd.nD Cert.AdamOdd.τ).loc Cert.AdamOdd.main_arg4) = m ((c.tc : Thread Cert.AdamOdd.nD Cert.AdamOdd.τ).loc Cert.AdamOdd.main_arg4))
      ∧ r.2.sem = fun _ => 0)

def quiescent_AdamOddIdeal [hAdamOddIdeal : Cert.AdamOddIdeal.Facts] : Prop :=
  ∀ (m : (ℓ : Loc Cert.AdamOddIdeal.nD Cert.AdamOddIdeal.τ Cert.AdamOddIdeal.sig) → Buf (Elt Ideal) ℓ) (g : Dev Cert.AdamOddIdeal.nD → PrngReg), Pre_AdamOddIdeal m →
    θ_run (Cert.AdamOddIdeal.defs (F := Ideal)) (onTc (τ := Cert.AdamOddIdeal.τ) (Cert.AdamOddIdeal.main (F := Ideal))) ⟨m, fun _ => 0, g⟩ (fun r => (∀ c : Dev Cert.AdamOddIdeal.nD,
      r.2.mem ((c.tc : Thread Cert.AdamOddIdeal.nD Cert.AdamOddIdeal.τ).loc Cert.AdamOddIdeal.main_arg0) = m ((c.tc : Thread Cert.AdamOddIdeal.nD Cert.AdamOddIdeal.τ).loc Cert.AdamOddIdeal.main_arg0)
      ∧ r.2.mem ((c.tc : Thread Cert.AdamOddIdeal.nD Cert.AdamOddIdeal.τ).loc Cert.AdamOddIdeal.main_arg1) = m ((c.tc : Thread Cert.AdamOddIdeal.nD Cert.AdamOddIdeal.τ).loc Cert.AdamOddIdeal.main_arg1)
      ∧ r.2.mem ((c.tc : Thread Cert.AdamOddIdeal.nD Cert.AdamOddIdeal.τ).loc Cert.AdamOddIdeal.main_arg2) = m ((c.tc : Thread Cert.AdamOddIdeal.nD Cert.AdamOddIdeal.τ).loc Cert.AdamOddIdeal.main_arg2)
      ∧ r.2.mem ((c.tc : Thread Cert.AdamOddIdeal.nD Cert.AdamOddIdeal.τ).loc Cert.AdamOddIdeal.main_arg3) = m ((c.tc : Thread Cert.AdamOddIdeal.nD Cert.AdamOddIdeal.τ).loc Cert.AdamOddIdeal.main_arg3)
      ∧ r.2.mem ((c.tc : Thread Cert.AdamOddIdeal.nD Cert.AdamOddIdeal.τ).loc Cert.AdamOddIdeal.main_arg4) = m ((c.tc : Thread Cert.AdamOddIdeal.nD Cert.AdamOddIdeal.τ).loc Cert.AdamOddIdeal.main_arg4))
      ∧ r.2.sem = fun _ => 0)

def quiescent_AdamOddRefIdeal [hAdamOddRefIdeal : Cert.AdamOddRefIdeal.Facts] : Prop :=
  ∀ (m : (ℓ : Loc Cert.AdamOddRefIdeal.nD Cert.AdamOddRefIdeal.τ Cert.AdamOddRefIdeal.sig) → Buf (Elt Ideal) ℓ) (g : Dev Cert.AdamOddRefIdeal.nD → PrngReg), Pre_AdamOddRefIdeal m →
    θ_run (Cert.AdamOddRefIdeal.defs (F := Ideal)) (onTc (τ := Cert.AdamOddRefIdeal.τ) (Cert.AdamOddRefIdeal.main (F := Ideal))) ⟨m, fun _ => 0, g⟩ (fun r => (∀ c : Dev Cert.AdamOddRefIdeal.nD,
      r.2.mem ((c.tc : Thread Cert.AdamOddRefIdeal.nD Cert.AdamOddRefIdeal.τ).loc Cert.AdamOddRefIdeal.main_arg0) = m ((c.tc : Thread Cert.AdamOddRefIdeal.nD Cert.AdamOddRefIdeal.τ).loc Cert.AdamOddRefIdeal.main_arg0)
      ∧ r.2.mem ((c.tc : Thread Cert.AdamOddRefIdeal.nD Cert.AdamOddRefIdeal.τ).loc Cert.AdamOddRefIdeal.main_arg1) = m ((c.tc : Thread Cert.AdamOddRefIdeal.nD Cert.AdamOddRefIdeal.τ).loc Cert.AdamOddRefIdeal.main_arg1)
      ∧ r.2.mem ((c.tc : Thread Cert.AdamOddRefIdeal.nD Cert.AdamOddRefIdeal.τ).loc Cert.AdamOddRefIdeal.main_arg2) = m ((c.tc : Thread Cert.AdamOddRefIdeal.nD Cert.AdamOddRefIdeal.τ).loc Cert.AdamOddRefIdeal.main_arg2)
      ∧ r.2.mem ((c.tc : Thread Cert.AdamOddRefIdeal.nD Cert.AdamOddRefIdeal.τ).loc Cert.AdamOddRefIdeal.main_arg3) = m ((c.tc : Thread Cert.AdamOddRefIdeal.nD Cert.AdamOddRefIdeal.τ).loc Cert.AdamOddRefIdeal.main_arg3)
      ∧ r.2.mem ((c.tc : Thread Cert.AdamOddRefIdeal.nD Cert.AdamOddRefIdeal.τ).loc Cert.AdamOddRefIdeal.main_arg4) = m ((c.tc : Thread Cert.AdamOddRefIdeal.nD Cert.AdamOddRefIdeal.τ).loc Cert.AdamOddRefIdeal.main_arg4))
      ∧ r.2.sem = fun _ => 0)

def quiescent_RsFinal [hRsFinal : Cert.RsFinal.Facts] : Prop :=
  ∀ (m : (ℓ : Loc Cert.RsFinal.nD Cert.RsFinal.τ Cert.RsFinal.sig) → Buf (Elt Bits) ℓ) (g : Dev Cert.RsFinal.nD → PrngReg), Pre_RsFinal m →
    θ_run (Cert.RsFinal.defs (F := Bits)) (onTc (τ := Cert.RsFinal.τ) (Cert.RsFinal.main (F := Bits))) ⟨m, fun _ => 0, g⟩ (fun r => (∀ c : Dev Cert.RsFinal.nD,
      r.2.mem ((c.tc : Thread Cert.RsFinal.nD Cert.RsFinal.τ).loc Cert.RsFinal.main_arg0) = m ((c.tc : Thread Cert.RsFinal.nD Cert.RsFinal.τ).loc Cert.RsFinal.main_arg0)
      ∧ r.2.mem ((c.tc : Thread Cert.RsFinal.nD Cert.RsFinal.τ).loc Cert.RsFinal.main_arg1) = m ((c.tc : Thread Cert.RsFinal.nD Cert.RsFinal.τ).loc Cert.RsFinal.main_arg1))
      ∧ r.2.sem = fun _ => 0)

def quiescent_RsFinalIdeal [hRsFinalIdeal : Cert.RsFinalIdeal.Facts] : Prop :=
  ∀ (m : (ℓ : Loc Cert.RsFinalIdeal.nD Cert.RsFinalIdeal.τ Cert.RsFinalIdeal.sig) → Buf (Elt Ideal) ℓ) (g : Dev Cert.RsFinalIdeal.nD → PrngReg), Pre_RsFinalIdeal m →
    θ_run (Cert.RsFinalIdeal.defs (F := Ideal)) (onTc (τ := Cert.RsFinalIdeal.τ) (Cert.RsFinalIdeal.main (F := Ideal))) ⟨m, fun _ => 0, g⟩ (fun r => (∀ c : Dev Cert.RsFinalIdeal.nD,
      r.2.mem ((c.tc : Thread Cert.RsFinalIdeal.nD Cert.RsFinalIdeal.τ).loc Cert.RsFinalIdeal.main_arg0) = m ((c.tc : Thread Cert.RsFinalIdeal.nD Cert.RsFinalIdeal.τ).loc Cert.RsFinalIdeal.main_arg0)
      ∧ r.2.mem ((c.tc : Thread Cert.RsFinalIdeal.nD Cert.RsFinalIdeal.τ).loc Cert.RsFinalIdeal.main_arg1) = m ((c.tc : Thread Cert.RsFinalIdeal.nD Cert.RsFinalIdeal.τ).loc Cert.RsFinalIdeal.main_arg1))
      ∧ r.2.sem = fun _ => 0)

def quiescent_RsFinalRefIdeal [hRsFinalRefIdeal : Cert.RsFinalRefIdeal.Facts] : Prop :=
  ∀ (m : (ℓ : Loc Cert.RsFinalRefIdeal.nD Cert.RsFinalRefIdeal.τ Cert.RsFinalRefIdeal.sig) → Buf (Elt Ideal) ℓ) (g : Dev Cert.RsFinalRefIdeal.nD → PrngReg), Pre_RsFinalRefIdeal m →
    θ_run (Cert.RsFinalRefIdeal.defs (F := Ideal)) (onTc (τ := Cert.RsFinalRefIdeal.τ) (Cert.RsFinalRefIdeal.main (F := Ideal))) ⟨m, fun _ => 0, g⟩ (fun r => (∀ c : Dev Cert.RsFinalRefIdeal.nD,
      r.2.mem ((c.tc : Thread Cert.RsFinalRefIdeal.nD Cert.RsFinalRefIdeal.τ).loc Cert.RsFinalRefIdeal.main_arg0) = m ((c.tc : Thread Cert.RsFinalRefIdeal.nD Cert.RsFinalRefIdeal.τ).loc Cert.RsFinalRefIdeal.main_arg0)
      ∧ r.2.mem ((c.tc : Thread Cert.RsFinalRefIdeal.nD Cert.RsFinalRefIdeal.τ).loc Cert.RsFinalRefIdeal.main_arg1) = m ((c.tc : Thread Cert.RsFinalRefIdeal.nD Cert.RsFinalRefIdeal.τ).loc Cert.RsFinalRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_CastX [hCastX : Cert.CastX.Facts] : Prop :=
  ∀ (m : (ℓ : Loc Cert.CastX.nD Cert.CastX.τ Cert.CastX.sig) → Buf (Elt Bits) ℓ) (g : Dev Cert.CastX.nD → PrngReg), Pre_CastX m →
    θ_run (Cert.CastX.defs (F := Bits)) (onTc (τ := Cert.CastX.τ) (Cert.CastX.main (F := Bits))) ⟨m, fun _ => 0, g⟩ (fun r => (∀ c : Dev Cert.CastX.nD,
      r.2.mem ((c.tc : Thread Cert.CastX.nD Cert.CastX.τ).loc Cert.CastX.main_arg0) = m ((c.tc : Thread Cert.CastX.nD Cert.CastX.τ).loc Cert.CastX.main_arg0))
      ∧ r.2.sem = fun _ => 0)

def quiescent_CastXIdeal [hCastXIdeal : Cert.CastXIdeal.Facts] : Prop :=
  ∀ (m : (ℓ : Loc Cert.CastXIdeal.nD Cert.CastXIdeal.τ Cert.CastXIdeal.sig) → Buf (Elt Ideal) ℓ) (g : Dev Cert.CastXIdeal.nD → PrngReg), Pre_CastXIdeal m →
    θ_run (Cert.CastXIdeal.defs (F := Ideal)) (onTc (τ := Cert.CastXIdeal.τ) (Cert.CastXIdeal.main (F := Ideal))) ⟨m, fun _ => 0, g⟩ (fun r => (∀ c : Dev Cert.CastXIdeal.nD,
      r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ r.2.sem = fun _ => 0)

def quiescent_CastXRefIdeal [hCastXRefIdeal : Cert.CastXRefIdeal.Facts] : Prop :=
  ∀ (m : (ℓ : Loc Cert.CastXRefIdeal.nD Cert.CastXRefIdeal.τ Cert.CastXRefIdeal.sig) → Buf (Elt Ideal) ℓ) (g : Dev Cert.CastXRefIdeal.nD → PrngReg), Pre_CastXRefIdeal m →
    θ_run (Cert.CastXRefIdeal.defs (F := Ideal)) (onTc (τ := Cert.CastXRefIdeal.τ) (Cert.CastXRefIdeal.main (F := Ideal))) ⟨m, fun _ => 0, g⟩ (fun r => (∀ c : Dev Cert.CastXRefIdeal.nD,
      r.2.mem ((c.tc : Thread Cert.CastXRefIdeal.nD Cert.CastXRefIdeal.τ).loc Cert.CastXRefIdeal.main_arg0) = m ((c.tc : Thread Cert.CastXRefIdeal.nD Cert.CastXRefIdeal.τ).loc Cert.CastXRefIdeal.main_arg0))
      ∧ r.2.sem = fun _ => 0)

def quiescent_AddOut [hAddOut : Cert.AddOut.Facts] : Prop :=
  ∀ (m : (ℓ : Loc Cert.AddOut.nD Cert.AddOut.τ Cert.AddOut.sig) → Buf (Elt Bits) ℓ) (g : Dev Cert.AddOut.nD → PrngReg), Pre_AddOut m →
    θ_run (Cert.AddOut.defs (F := Bits)) (onTc (τ := Cert.AddOut.τ) (Cert.AddOut.main (F := Bits))) ⟨m, fun _ => 0, g⟩ (fun r => (∀ c : Dev Cert.AddOut.nD,
      r.2.mem ((c.tc : Thread Cert.AddOut.nD Cert.AddOut.τ).loc Cert.AddOut.main_arg0) = m ((c.tc : Thread Cert.AddOut.nD Cert.AddOut.τ).loc Cert.AddOut.main_arg0)
      ∧ r.2.mem ((c.tc : Thread Cert.AddOut.nD Cert.AddOut.τ).loc Cert.AddOut.main_arg1) = m ((c.tc : Thread Cert.AddOut.nD Cert.AddOut.τ).loc Cert.AddOut.main_arg1))
      ∧ r.2.sem = fun _ => 0)

def quiescent_AddOutIdeal [hAddOutIdeal : Cert.AddOutIdeal.Facts] : Prop :=
  ∀ (m : (ℓ : Loc Cert.AddOutIdeal.nD Cert.AddOutIdeal.τ Cert.AddOutIdeal.sig) → Buf (Elt Ideal) ℓ) (g : Dev Cert.AddOutIdeal.nD → PrngReg), Pre_AddOutIdeal m →
    θ_run (Cert.AddOutIdeal.defs (F := Ideal)) (onTc (τ := Cert.AddOutIdeal.τ) (Cert.AddOutIdeal.main (F := Ideal))) ⟨m, fun _ => 0, g⟩ (fun r => (∀ c : Dev Cert.AddOutIdeal.nD,
      r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
      ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1))
      ∧ r.2.sem = fun _ => 0)

def quiescent_AddOutRefIdeal [hAddOutRefIdeal : Cert.AddOutRefIdeal.Facts] : Prop :=
  ∀ (m : (ℓ : Loc Cert.AddOutRefIdeal.nD Cert.AddOutRefIdeal.τ Cert.AddOutRefIdeal.sig) → Buf (Elt Ideal) ℓ) (g : Dev Cert.AddOutRefIdeal.nD → PrngReg), Pre_AddOutRefIdeal m →
    θ_run (Cert.AddOutRefIdeal.defs (F := Ideal)) (onTc (τ := Cert.AddOutRefIdeal.τ) (Cert.AddOutRefIdeal.main (F := Ideal))) ⟨m, fun _ => 0, g⟩ (fun r => (∀ c : Dev Cert.AddOutRefIdeal.nD,
      r.2.mem ((c.tc : Thread Cert.AddOutRefIdeal.nD Cert.AddOutRefIdeal.τ).loc Cert.AddOutRefIdeal.main_arg0) = m ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m ((c.tc : Thread Cert.AddOutRefIdeal.nD Cert.AddOutRefIdeal.τ).loc Cert.AddOutRefIdeal.main_arg1))
      ∧ r.2.sem = fun _ => 0)

def quiescent_AddEven [hAddEven : Cert.AddEven.Facts] : Prop :=
  ∀ (m : (ℓ : Loc Cert.AddEven.nD Cert.AddEven.τ Cert.AddEven.sig) → Buf (Elt Bits) ℓ) (g : Dev Cert.AddEven.nD → PrngReg), Pre_AddEven m →
    θ_run (Cert.AddEven.defs (F := Bits)) (onTc (τ := Cert.AddEven.τ) (Cert.AddEven.main (F := Bits))) ⟨m, fun _ => 0, g⟩ (fun r => (∀ c : Dev Cert.AddEven.nD,
      r.2.mem ((c.tc : Thread Cert.AddEven.nD Cert.AddEven.τ).loc Cert.AddEven.main_arg0) = m ((c.tc : Thread Cert.AddEven.nD Cert.AddEven.τ).loc Cert.AddEven.main_arg0)
      ∧ r.2.mem ((c.tc : Thread Cert.AddEven.nD Cert.AddEven.τ).loc Cert.AddEven.main_arg1) = m ((c.tc : Thread Cert.AddEven.nD Cert.AddEven.τ).loc Cert.AddEven.main_arg1))
      ∧ r.2.sem = fun _ => 0)

def quiescent_AddEvenIdeal [hAddEvenIdeal : Cert.AddEvenIdeal.Facts] : Prop :=
  ∀ (m : (ℓ : Loc Cert.AddEvenIdeal.nD Cert.AddEvenIdeal.τ Cert.AddEvenIdeal.sig) → Buf (Elt Ideal) ℓ) (g : Dev Cert.AddEvenIdeal.nD → PrngReg), Pre_AddEvenIdeal m →
    θ_run (Cert.AddEvenIdeal.defs (F := Ideal)) (onTc (τ := Cert.AddEvenIdeal.τ) (Cert.AddEvenIdeal.main (F := Ideal))) ⟨m, fun _ => 0, g⟩ (fun r => (∀ c : Dev Cert.AddEvenIdeal.nD,
      r.2.mem ((c.tc : Thread Cert.AddEvenIdeal.nD Cert.AddEvenIdeal.τ).loc Cert.AddEvenIdeal.main_arg0) = m ((c.tc : Thread Cert.AddEvenIdeal.nD Cert.AddEvenIdeal.τ).loc Cert.AddEvenIdeal.main_arg0)
      ∧ r.2.mem ((c.tc : Thread Cert.AddEvenIdeal.nD Cert.AddEvenIdeal.τ).loc Cert.AddEvenIdeal.main_arg1) = m ((c.tc : Thread Cert.AddEvenIdeal.nD Cert.AddEvenIdeal.τ).loc Cert.AddEvenIdeal.main_arg1))
      ∧ r.2.sem = fun _ => 0)

def quiescent_AddEvenRefIdeal [hAddEvenRefIdeal : Cert.AddEvenRefIdeal.Facts] : Prop :=
  ∀ (m : (ℓ : Loc Cert.AddEvenRefIdeal.nD Cert.AddEvenRefIdeal.τ Cert.AddEvenRefIdeal.sig) → Buf (Elt Ideal) ℓ) (g : Dev Cert.AddEvenRefIdeal.nD → PrngReg), Pre_AddEvenRefIdeal m →
    θ_run (Cert.AddEvenRefIdeal.defs (F := Ideal)) (onTc (τ := Cert.AddEvenRefIdeal.τ) (Cert.AddEvenRefIdeal.main (F := Ideal))) ⟨m, fun _ => 0, g⟩ (fun r => (∀ c : Dev Cert.AddEvenRefIdeal.nD,
      r.2.mem ((c.tc : Thread Cert.AddEvenRefIdeal.nD Cert.AddEvenRefIdeal.τ).loc Cert.AddEvenRefIdeal.main_arg0) = m ((c.tc : Thread Cert.AddEvenRefIdeal.nD Cert.AddEvenRefIdeal.τ).loc Cert.AddEvenRefIdeal.main_arg0)
      ∧ r.2.mem ((c.tc : Thread Cert.AddEvenRefIdeal.nD Cert.AddEvenRefIdeal.τ).loc Cert.AddEvenRefIdeal.main_arg1) = m ((c.tc : Thread Cert.AddEvenRefIdeal.nD Cert.AddEvenRefIdeal.τ).loc Cert.AddEvenRefIdeal.main_arg1))
      ∧ r.2.sem = fun _ => 0)

def quiescent_AddOdd [hAddOdd : Cert.AddOdd.Facts] : Prop :=
  ∀ (m : (ℓ : Loc Cert.AddOdd.nD Cert.AddOdd.τ Cert.AddOdd.sig) → Buf (Elt Bits) ℓ) (g : Dev Cert.AddOdd.nD → PrngReg), Pre_AddOdd m →
    θ_run (Cert.AddOdd.defs (F := Bits)) (onTc (τ := Cert.AddOdd.τ) (Cert.AddOdd.main (F := Bits))) ⟨m, fun _ => 0, g⟩ (fun r => (∀ c : Dev Cert.AddOdd.nD,
      r.2.mem ((c.tc : Thread Cert.AddOdd.nD Cert.AddOdd.τ).loc Cert.AddOdd.main_arg0) = m ((c.tc : Thread Cert.AddOdd.nD Cert.AddOdd.τ).loc Cert.AddOdd.main_arg0)
      ∧ r.2.mem ((c.tc : Thread Cert.AddOdd.nD Cert.AddOdd.τ).loc Cert.AddOdd.main_arg1) = m ((c.tc : Thread Cert.AddOdd.nD Cert.AddOdd.τ).loc Cert.AddOdd.main_arg1))
      ∧ r.2.sem = fun _ => 0)

def quiescent_AddOddIdeal [hAddOddIdeal : Cert.AddOddIdeal.Facts] : Prop :=
  ∀ (m : (ℓ : Loc Cert.AddOddIdeal.nD Cert.AddOddIdeal.τ Cert.AddOddIdeal.sig) → Buf (Elt Ideal) ℓ) (g : Dev Cert.AddOddIdeal.nD → PrngReg), Pre_AddOddIdeal m →
    θ_run (Cert.AddOddIdeal.defs (F := Ideal)) (onTc (τ := Cert.AddOddIdeal.τ) (Cert.AddOddIdeal.main (F := Ideal))) ⟨m, fun _ => 0, g⟩ (fun r => (∀ c : Dev Cert.AddOddIdeal.nD,
      r.2.mem ((c.tc : Thread Cert.AddOddIdeal.nD Cert.AddOddIdeal.τ).loc Cert.AddOddIdeal.main_arg0) = m ((c.tc : Thread Cert.AddOddIdeal.nD Cert.AddOddIdeal.τ).loc Cert.AddOddIdeal.main_arg0)
      ∧ r.2.mem ((c.tc : Thread Cert.AddOddIdeal.nD Cert.AddOddIdeal.τ).loc Cert.AddOddIdeal.main_arg1) = m ((c.tc : Thread Cert.AddOddIdeal.nD Cert.AddOddIdeal.τ).loc Cert.AddOddIdeal.main_arg1))
      ∧ r.2.sem = fun _ => 0)

def quiescent_AddOddRefIdeal [hAddOddRefIdeal : Cert.AddOddRefIdeal.Facts] : Prop :=
  ∀ (m : (ℓ : Loc Cert.AddOddRefIdeal.nD Cert.AddOddRefIdeal.τ Cert.AddOddRefIdeal.sig) → Buf (Elt Ideal) ℓ) (g : Dev Cert.AddOddRefIdeal.nD → PrngReg), Pre_AddOddRefIdeal m →
    θ_run (Cert.AddOddRefIdeal.defs (F := Ideal)) (onTc (τ := Cert.AddOddRefIdeal.τ) (Cert.AddOddRefIdeal.main (F := Ideal))) ⟨m, fun _ => 0, g⟩ (fun r => (∀ c : Dev Cert.AddOddRefIdeal.nD,
      r.2.mem ((c.tc : Thread Cert.AddOddRefIdeal.nD Cert.AddOddRefIdeal.τ).loc Cert.AddOddRefIdeal.main_arg0) = m ((c.tc : Thread Cert.AddOddRefIdeal.nD Cert.AddOddRefIdeal.τ).loc Cert.AddOddRefIdeal.main_arg0)
      ∧ r.2.mem ((c.tc : Thread Cert.AddOddRefIdeal.nD Cert.AddOddRefIdeal.τ).loc Cert.AddOddRefIdeal.main_arg1) = m ((c.tc : Thread Cert.AddOddRefIdeal.nD Cert.AddOddRefIdeal.τ).loc Cert.AddOddRefIdeal.main_arg1))
      ∧ r.2.sem = fun _ => 0)

def preserves_Pool_PoolIdeal : Prop :=
  True

def algebraic_PoolIdeal_PoolRefIdeal_pre_finite [hPoolIdeal : Cert.PoolIdeal.Facts] [hPoolRefIdeal : Cert.PoolRefIdeal.Facts] [hPre_finite : Cert.Pre_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v3_0)) (v1 : (c : Dev Cert.PoolIdeal.nD) → Buf (Elt Ideal) ((c.tc : Thread Cert.PoolIdeal.nD Cert.PoolIdeal.τ).loc Cert.PoolIdeal.main_v3_1)) (v2 : (c : Dev Cert.PoolIdeal.nD) → Buf (Elt Ideal) ((c.tc : Thread Cert.PoolIdeal.nD Cert.PoolIdeal.τ).loc Cert.PoolIdeal.main_v3_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3_0) = v0 c
          ∧ r.2.mem ((c.tc : Thread Cert.PoolIdeal.nD Cert.PoolIdeal.τ).loc Cert.PoolIdeal.main_v3_1) = v1 c
          ∧ r.2.mem ((c.tc : Thread Cert.PoolIdeal.nD Cert.PoolIdeal.τ).loc Cert.PoolIdeal.main_v3_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v151) = v0 c
          ∧ r.2.mem ((c.tc : Thread Cert.PoolRefIdeal.nD Cert.PoolRefIdeal.τ).loc Cert.PoolRefIdeal.main_v87) = v1 c
          ∧ r.2.mem ((c.tc : Thread Cert.PoolRefIdeal.nD Cert.PoolRefIdeal.τ).loc Cert.PoolRefIdeal.main_v152) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)) →
    ∃ (v0 : (c : Dev Cert.InOddIdeal.nD) → Buf (Elt Ideal) ((c.tc : Thread Cert.InOddIdeal.nD Cert.InOddIdeal.τ).loc Cert.InOddIdeal.main_v2)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2) = v0 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v1) = v0 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)) →
    ∃ (v0 : (c : Dev Cert.InEvenIdeal.nD) → Buf (Elt Ideal) ((c.tc : Thread Cert.InEvenIdeal.nD Cert.InEvenIdeal.τ).loc Cert.InEvenIdeal.main_v2)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2) = v0 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v1) = v0 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v1)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v1) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v11) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v15) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwOdd_DwOddIdeal : Prop :=
  True

def algebraic_DwOddIdeal_DwOddRefIdeal [hDwOddIdeal : Cert.DwOddIdeal.Facts] [hDwOddRefIdeal : Cert.DwOddRefIdeal.Facts] : Prop :=
  ∀ (m : (ℓ : Loc Cert.DwOddIdeal.nD Cert.DwOddIdeal.τ Cert.DwOddIdeal.sig) → Buf (Elt Ideal) ℓ) (g : Dev Cert.DwOddIdeal.nD → PrngReg)
    (m' : (ℓ : Loc Cert.DwOddRefIdeal.nD Cert.DwOddRefIdeal.τ Cert.DwOddRefIdeal.sig) → Buf (Elt Ideal) ℓ) (g' : Dev Cert.DwOddRefIdeal.nD → PrngReg), Pre_DwOddIdeal m →
    (∀ c : Dev Cert.DwOddIdeal.nD,
      m' ((c.tc : Thread Cert.DwOddRefIdeal.nD Cert.DwOddRefIdeal.τ).loc Cert.DwOddRefIdeal.main_arg0) = m ((c.tc : Thread Cert.DwOddIdeal.nD Cert.DwOddIdeal.τ).loc Cert.DwOddIdeal.main_arg0)
      ∧ m' ((c.tc : Thread Cert.DwOddRefIdeal.nD Cert.DwOddRefIdeal.τ).loc Cert.DwOddRefIdeal.main_arg1) = m ((c.tc : Thread Cert.DwOddIdeal.nD Cert.DwOddIdeal.τ).loc Cert.DwOddIdeal.main_arg1)) →
    ∃ (v0 : (c : Dev Cert.DwOddIdeal.nD) → Buf (Elt Ideal) ((c.tc : Thread Cert.DwOddIdeal.nD Cert.DwOddIdeal.τ).loc Cert.DwOddIdeal.main_v0)),
      θ_run (Cert.DwOddIdeal.defs (F := Ideal)) (onTc (τ := Cert.DwOddIdeal.τ) (Cert.DwOddIdeal.main (F := Ideal))) ⟨m, fun _ => 0, g⟩ (fun r => ∀ c : Dev Cert.DwOddIdeal.nD,
          r.2.mem ((c.tc : Thread Cert.DwOddIdeal.nD Cert.DwOddIdeal.τ).loc Cert.DwOddIdeal.main_v0) = v0 c
          ∧ r.2.mem ((c.tc : Thread Cert.DwOddIdeal.nD Cert.DwOddIdeal.τ).loc Cert.DwOddIdeal.main_arg0) = m ((c.tc : Thread Cert.DwOddIdeal.nD Cert.DwOddIdeal.τ).loc Cert.DwOddIdeal.main_arg0)
          ∧ r.2.mem ((c.tc : Thread Cert.DwOddIdeal.nD Cert.DwOddIdeal.τ).loc Cert.DwOddIdeal.main_arg1) = m ((c.tc : Thread Cert.DwOddIdeal.nD Cert.DwOddIdeal.τ).loc Cert.DwOddIdeal.main_arg1))
      ∧ θ_run (Cert.DwOddRefIdeal.defs (F := Ideal)) (onTc (τ := Cert.DwOddRefIdeal.τ) (Cert.DwOddRefIdeal.main (F := Ideal))) ⟨m', fun _ => 0, g'⟩ (fun r => ∀ c : Dev Cert.DwOddRefIdeal.nD,
          r.2.mem ((c.tc : Thread Cert.DwOddRefIdeal.nD Cert.DwOddRefIdeal.τ).loc Cert.DwOddRefIdeal.main_v17) = v0 c
          ∧ r.2.mem ((c.tc : Thread Cert.DwOddRefIdeal.nD Cert.DwOddRefIdeal.τ).loc Cert.DwOddRefIdeal.main_arg0) = m' ((c.tc : Thread Cert.DwOddRefIdeal.nD Cert.DwOddRefIdeal.τ).loc Cert.DwOddRefIdeal.main_arg0)
          ∧ r.2.mem ((c.tc : Thread Cert.DwOddRefIdeal.nD Cert.DwOddRefIdeal.τ).loc Cert.DwOddRefIdeal.main_arg1) = m' ((c.tc : Thread Cert.DwOddRefIdeal.nD Cert.DwOddRefIdeal.τ).loc Cert.DwOddRefIdeal.main_arg1))

def preserves_DwEven_DwEvenIdeal : Prop :=
  True

def algebraic_DwEvenIdeal_DwEvenRefIdeal [hDwEvenIdeal : Cert.DwEvenIdeal.Facts] [hDwEvenRefIdeal : Cert.DwEvenRefIdeal.Facts] : Prop :=
  ∀ (m : (ℓ : Loc Cert.DwEvenIdeal.nD Cert.DwEvenIdeal.τ Cert.DwEvenIdeal.sig) → Buf (Elt Ideal) ℓ) (g : Dev Cert.DwEvenIdeal.nD → PrngReg)
    (m' : (ℓ : Loc Cert.DwEvenRefIdeal.nD Cert.DwEvenRefIdeal.τ Cert.DwEvenRefIdeal.sig) → Buf (Elt Ideal) ℓ) (g' : Dev Cert.DwEvenRefIdeal.nD → PrngReg), Pre_DwEvenIdeal m →
    (∀ c : Dev Cert.DwEvenIdeal.nD,
      m' ((c.tc : Thread Cert.DwEvenRefIdeal.nD Cert.DwEvenRefIdeal.τ).loc Cert.DwEvenRefIdeal.main_arg0) = m ((c.tc : Thread Cert.DwEvenIdeal.nD Cert.DwEvenIdeal.τ).loc Cert.DwEvenIdeal.main_arg0)
      ∧ m' ((c.tc : Thread Cert.DwEvenRefIdeal.nD Cert.DwEvenRefIdeal.τ).loc Cert.DwEvenRefIdeal.main_arg1) = m ((c.tc : Thread Cert.DwEvenIdeal.nD Cert.DwEvenIdeal.τ).loc Cert.DwEvenIdeal.main_arg1)) →
    ∃ (v0 : (c : Dev Cert.DwEvenIdeal.nD) → Buf (Elt Ideal) ((c.tc : Thread Cert.DwEvenIdeal.nD Cert.DwEvenIdeal.τ).loc Cert.DwEvenIdeal.main_v0)),
      θ_run (Cert.DwEvenIdeal.defs (F := Ideal)) (onTc (τ := Cert.DwEvenIdeal.τ) (Cert.DwEvenIdeal.main (F := Ideal))) ⟨m, fun _ => 0, g⟩ (fun r => ∀ c : Dev Cert.DwEvenIdeal.nD,
          r.2.mem ((c.tc : Thread Cert.DwEvenIdeal.nD Cert.DwEvenIdeal.τ).loc Cert.DwEvenIdeal.main_v0) = v0 c
          ∧ r.2.mem ((c.tc : Thread Cert.DwEvenIdeal.nD Cert.DwEvenIdeal.τ).loc Cert.DwEvenIdeal.main_arg0) = m ((c.tc : Thread Cert.DwEvenIdeal.nD Cert.DwEvenIdeal.τ).loc Cert.DwEvenIdeal.main_arg0)
          ∧ r.2.mem ((c.tc : Thread Cert.DwEvenIdeal.nD Cert.DwEvenIdeal.τ).loc Cert.DwEvenIdeal.main_arg1) = m ((c.tc : Thread Cert.DwEvenIdeal.nD Cert.DwEvenIdeal.τ).loc Cert.DwEvenIdeal.main_arg1))
      ∧ θ_run (Cert.DwEvenRefIdeal.defs (F := Ideal)) (onTc (τ := Cert.DwEvenRefIdeal.τ) (Cert.DwEvenRefIdeal.main (F := Ideal))) ⟨m', fun _ => 0, g'⟩ (fun r => ∀ c : Dev Cert.DwEvenRefIdeal.nD,
          r.2.mem ((c.tc : Thread Cert.DwEvenRefIdeal.nD Cert.DwEvenRefIdeal.τ).loc Cert.DwEvenRefIdeal.main_v8) = v0 c
          ∧ r.2.mem ((c.tc : Thread Cert.DwEvenRefIdeal.nD Cert.DwEvenRefIdeal.τ).loc Cert.DwEvenRefIdeal.main_arg0) = m' ((c.tc : Thread Cert.DwEvenRefIdeal.nD Cert.DwEvenRefIdeal.τ).loc Cert.DwEvenRefIdeal.main_arg0)
          ∧ r.2.mem ((c.tc : Thread Cert.DwEvenRefIdeal.nD Cert.DwEvenRefIdeal.τ).loc Cert.DwEvenRefIdeal.main_arg1) = m' ((c.tc : Thread Cert.DwEvenRefIdeal.nD Cert.DwEvenRefIdeal.τ).loc Cert.DwEvenRefIdeal.main_arg1))

def preserves_DxOdd_DxOddIdeal : Prop :=
  True

def algebraic_DxOddIdeal_DxOddRefIdeal [hDxOddIdeal : Cert.DxOddIdeal.Facts] [hDxOddRefIdeal : Cert.DxOddRefIdeal.Facts] : Prop :=
  ∀ (m : (ℓ : Loc Cert.DxOddIdeal.nD Cert.DxOddIdeal.τ Cert.DxOddIdeal.sig) → Buf (Elt Ideal) ℓ) (g : Dev Cert.DxOddIdeal.nD → PrngReg)
    (m' : (ℓ : Loc Cert.DxOddRefIdeal.nD Cert.DxOddRefIdeal.τ Cert.DxOddRefIdeal.sig) → Buf (Elt Ideal) ℓ) (g' : Dev Cert.DxOddRefIdeal.nD → PrngReg), Pre_DxOddIdeal m →
    (∀ c : Dev Cert.DxOddIdeal.nD,
      m' ((c.tc : Thread Cert.DxOddRefIdeal.nD Cert.DxOddRefIdeal.τ).loc Cert.DxOddRefIdeal.main_arg0) = m ((c.tc : Thread Cert.DxOddIdeal.nD Cert.DxOddIdeal.τ).loc Cert.DxOddIdeal.main_arg0)
      ∧ m' ((c.tc : Thread Cert.DxOddRefIdeal.nD Cert.DxOddRefIdeal.τ).loc Cert.DxOddRefIdeal.main_arg1) = m ((c.tc : Thread Cert.DxOddIdeal.nD Cert.DxOddIdeal.τ).loc Cert.DxOddIdeal.main_arg1)
      ∧ m' ((c.tc : Thread Cert.DxOddRefIdeal.nD Cert.DxOddRefIdeal.τ).loc Cert.DxOddRefIdeal.main_arg2) = m ((c.tc : Thread Cert.DxOddIdeal.nD Cert.DxOddIdeal.τ).loc Cert.DxOddIdeal.main_arg2)) →
    ∃ (v0 : (c : Dev Cert.DxOddIdeal.nD) → Buf (Elt Ideal) ((c.tc : Thread Cert.DxOddIdeal.nD Cert.DxOddIdeal.τ).loc Cert.DxOddIdeal.main_v2)),
      θ_run (Cert.DxOddIdeal.defs (F := Ideal)) (onTc (τ := Cert.DxOddIdeal.τ) (Cert.DxOddIdeal.main (F := Ideal))) ⟨m, fun _ => 0, g⟩ (fun r => ∀ c : Dev Cert.DxOddIdeal.nD,
          r.2.mem ((c.tc : Thread Cert.DxOddIdeal.nD Cert.DxOddIdeal.τ).loc Cert.DxOddIdeal.main_v2) = v0 c
          ∧ r.2.mem ((c.tc : Thread Cert.DxOddIdeal.nD Cert.DxOddIdeal.τ).loc Cert.DxOddIdeal.main_arg0) = m ((c.tc : Thread Cert.DxOddIdeal.nD Cert.DxOddIdeal.τ).loc Cert.DxOddIdeal.main_arg0)
          ∧ r.2.mem ((c.tc : Thread Cert.DxOddIdeal.nD Cert.DxOddIdeal.τ).loc Cert.DxOddIdeal.main_arg1) = m ((c.tc : Thread Cert.DxOddIdeal.nD Cert.DxOddIdeal.τ).loc Cert.DxOddIdeal.main_arg1)
          ∧ r.2.mem ((c.tc : Thread Cert.DxOddIdeal.nD Cert.DxOddIdeal.τ).loc Cert.DxOddIdeal.main_arg2) = m ((c.tc : Thread Cert.DxOddIdeal.nD Cert.DxOddIdeal.τ).loc Cert.DxOddIdeal.main_arg2))
      ∧ θ_run (Cert.DxOddRefIdeal.defs (F := Ideal)) (onTc (τ := Cert.DxOddRefIdeal.τ) (Cert.DxOddRefIdeal.main (F := Ideal))) ⟨m', fun _ => 0, g'⟩ (fun r => ∀ c : Dev Cert.DxOddRefIdeal.nD,
          r.2.mem ((c.tc : Thread Cert.DxOddRefIdeal.nD Cert.DxOddRefIdeal.τ).loc Cert.DxOddRefIdeal.main_v19) = v0 c
          ∧ r.2.mem ((c.tc : Thread Cert.DxOddRefIdeal.nD Cert.DxOddRefIdeal.τ).loc Cert.DxOddRefIdeal.main_arg0) = m' ((c.tc : Thread Cert.DxOddRefIdeal.nD Cert.DxOddRefIdeal.τ).loc Cert.DxOddRefIdeal.main_arg0)
          ∧ r.2.mem ((c.tc : Thread Cert.DxOddRefIdeal.nD Cert.DxOddRefIdeal.τ).loc Cert.DxOddRefIdeal.main_arg1) = m' ((c.tc : Thread Cert.DxOddRefIdeal.nD Cert.DxOddRefIdeal.τ).loc Cert.DxOddRefIdeal.main_arg1)
          ∧ r.2.mem ((c.tc : Thread Cert.DxOddRefIdeal.nD Cert.DxOddRefIdeal.τ).loc Cert.DxOddRefIdeal.main_arg2) = m' ((c.tc : Thread Cert.DxOddRefIdeal.nD Cert.DxOddRefIdeal.τ).loc Cert.DxOddRefIdeal.main_arg2))

def preserves_DxEven_DxEvenIdeal : Prop :=
  True

def algebraic_DxEvenIdeal_DxEvenRefIdeal [hDxEvenIdeal : Cert.DxEvenIdeal.Facts] [hDxEvenRefIdeal : Cert.DxEvenRefIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg)
    (m' : (ℓ : Loc Cert.DxEvenRefIdeal.nD Cert.DxEvenRefIdeal.τ Cert.DxEvenRefIdeal.sig) → Buf (Elt Ideal) ℓ) (g' : Dev Cert.DxEvenRefIdeal.nD → PrngReg), Pre_DxEvenIdeal m →
    (∀ c : Dev Cert.DxEvenIdeal.nD,
      m' ((c.tc : Thread Cert.DxEvenRefIdeal.nD Cert.DxEvenRefIdeal.τ).loc Cert.DxEvenRefIdeal.main_arg0) = m ((c.tc : Thread Cert.DxEvenIdeal.nD Cert.DxEvenIdeal.τ).loc Cert.DxEvenIdeal.main_arg0)
      ∧ m' ((c.tc : Thread Cert.DxEvenRefIdeal.nD Cert.DxEvenRefIdeal.τ).loc Cert.DxEvenRefIdeal.main_arg1) = m ((c.tc : Thread Cert.DxEvenIdeal.nD Cert.DxEvenIdeal.τ).loc Cert.DxEvenIdeal.main_arg1)
      ∧ m' ((c.tc : Thread Cert.DxEvenRefIdeal.nD Cert.DxEvenRefIdeal.τ).loc Cert.DxEvenRefIdeal.main_arg2) = m ((c.tc : Thread Cert.DxEvenIdeal.nD Cert.DxEvenIdeal.τ).loc Cert.DxEvenIdeal.main_arg2)) →
    ∃ (v0 : (c : Dev Cert.DxEvenIdeal.nD) → Buf (Elt Ideal) ((c.tc : Thread Cert.DxEvenIdeal.nD Cert.DxEvenIdeal.τ).loc Cert.DxEvenIdeal.main_v2)),
      θ_run (Cert.DxEvenIdeal.defs (F := Ideal)) (onTc (τ := Cert.DxEvenIdeal.τ) (Cert.DxEvenIdeal.main (F := Ideal))) ⟨m, fun _ => 0, g⟩ (fun r => ∀ c : Dev Cert.DxEvenIdeal.nD,
          r.2.mem ((c.tc : Thread Cert.DxEvenIdeal.nD Cert.DxEvenIdeal.τ).loc Cert.DxEvenIdeal.main_v2) = v0 c
          ∧ r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
          ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
          ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2))
      ∧ θ_run (Cert.DxEvenRefIdeal.defs (F := Ideal)) (onTc (τ := Cert.DxEvenRefIdeal.τ) (Cert.DxEvenRefIdeal.main (F := Ideal))) ⟨m', fun _ => 0, g'⟩ (fun r => ∀ c : Dev Cert.DxEvenRefIdeal.nD,
          r.2.mem ((c.tc : Thread Cert.DxEvenRefIdeal.nD Cert.DxEvenRefIdeal.τ).loc Cert.DxEvenRefIdeal.main_v10) = v0 c
          ∧ r.2.mem ((c.tc : Thread Cert.DxEvenRefIdeal.nD Cert.DxEvenRefIdeal.τ).loc Cert.DxEvenRefIdeal.main_arg0) = m' ((c.tc : Thread Cert.DxEvenRefIdeal.nD Cert.DxEvenRefIdeal.τ).loc Cert.DxEvenRefIdeal.main_arg0)
          ∧ r.2.mem ((c.tc : Thread Cert.DxEvenRefIdeal.nD Cert.DxEvenRefIdeal.τ).loc Cert.DxEvenRefIdeal.main_arg1) = m' ((c.tc : Thread Cert.DxEvenRefIdeal.nD Cert.DxEvenRefIdeal.τ).loc Cert.DxEvenRefIdeal.main_arg1)
          ∧ r.2.mem ((c.tc : Thread Cert.DxEvenRefIdeal.nD Cert.DxEvenRefIdeal.τ).loc Cert.DxEvenRefIdeal.main_arg2) = m' ((c.tc : Thread Cert.DxEvenRefIdeal.nD Cert.DxEvenRefIdeal.τ).loc Cert.DxEvenRefIdeal.main_arg2))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v3_0)) (v1 : (c : Dev Cert.OutLnIdeal.nD) → Buf (Elt Ideal) ((c.tc : Thread Cert.OutLnIdeal.nD Cert.OutLnIdeal.τ).loc Cert.OutLnIdeal.main_v3_1)) (v2 : (c : Dev Cert.OutLnIdeal.nD) → Buf (Elt Ideal) ((c.tc : Thread Cert.OutLnIdeal.nD Cert.OutLnIdeal.τ).loc Cert.OutLnIdeal.main_v3_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v3_0) = v0 c
          ∧ r.2.mem ((c.tc : Thread Cert.OutLnIdeal.nD Cert.OutLnIdeal.τ).loc Cert.OutLnIdeal.main_v3_1) = v1 c
          ∧ r.2.mem ((c.tc : Thread Cert.OutLnIdeal.nD Cert.OutLnIdeal.τ).loc Cert.OutLnIdeal.main_v3_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v10) = v0 c
          ∧ r.2.mem ((c.tc : Thread Cert.OutLnRefIdeal.nD Cert.OutLnRefIdeal.τ).loc Cert.OutLnRefIdeal.main_v32) = v1 c
          ∧ r.2.mem ((c.tc : Thread Cert.OutLnRefIdeal.nD Cert.OutLnRefIdeal.τ).loc Cert.OutLnRefIdeal.main_v33) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v57) = v0 c
          ∧ r.2.mem ((c.tc : Thread Cert.LnBwdRefIdeal.nD Cert.LnBwdRefIdeal.τ).loc Cert.LnBwdRefIdeal.main_v58) = v1 c
          ∧ r.2.mem ((c.tc : Thread Cert.LnBwdRefIdeal.nD Cert.LnBwdRefIdeal.τ).loc Cert.LnBwdRefIdeal.main_v59) = v2 c
          ∧ r.2.mem ((c.tc : Thread Cert.LnBwdRefIdeal.nD Cert.LnBwdRefIdeal.τ).loc Cert.LnBwdRefIdeal.main_v60) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2))

def preserves_LossLn_LossLnIdeal : Prop :=
  True

def algebraic_LossLnIdeal_LossLnRefIdeal_pre_finite_loss [hLossLnIdeal : Cert.LossLnIdeal.Facts] [hLossLnRefIdeal : Cert.LossLnRefIdeal.Facts] [hPre_finite_loss : Cert.Pre_finite_loss.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_finite_loss m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)) →
    ∃ (v0 : (c : Dev Cert.LossLnIdeal.nD) → Buf (Elt Ideal) ((c.tc : Thread Cert.LossLnIdeal.nD Cert.LossLnIdeal.τ).loc Cert.LossLnIdeal.main_v1_0)) (v1 : (c : Dev Cert.LossLnIdeal.nD) → Buf (Elt Ideal) ((c.tc : Thread Cert.LossLnIdeal.nD Cert.LossLnIdeal.τ).loc Cert.LossLnIdeal.main_v1_1)) (v2 : (c : Dev Cert.LossLnIdeal.nD) → Buf (Elt Ideal) ((c.tc : Thread Cert.LossLnIdeal.nD Cert.LossLnIdeal.τ).loc Cert.LossLnIdeal.main_v1_2)) (v3 : (c : Dev Cert.LossLnIdeal.nD) → Buf (Elt Ideal) ((c.tc : Thread Cert.LossLnIdeal.nD Cert.LossLnIdeal.τ).loc Cert.LossLnIdeal.main_v1_3)) (v4 : (c : Dev Cert.LossLnIdeal.nD) → Buf (Elt Ideal) ((c.tc : Thread Cert.LossLnIdeal.nD Cert.LossLnIdeal.τ).loc Cert.LossLnIdeal.main_v1_4)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v1_0) = v0 c
          ∧ r.2.mem ((c.tc : Thread Cert.LossLnIdeal.nD Cert.LossLnIdeal.τ).loc Cert.LossLnIdeal.main_v1_1) = v1 c
          ∧ r.2.mem ((c.tc : Thread Cert.LossLnIdeal.nD Cert.LossLnIdeal.τ).loc Cert.LossLnIdeal.main_v1_2) = v2 c
          ∧ r.2.mem ((c.tc : Thread Cert.LossLnIdeal.nD Cert.LossLnIdeal.τ).loc Cert.LossLnIdeal.main_v1_3) = v3 c
          ∧ r.2.mem ((c.tc : Thread Cert.LossLnIdeal.nD Cert.LossLnIdeal.τ).loc Cert.LossLnIdeal.main_v1_4) = v4 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v72) = v0 c
          ∧ r.2.mem ((c.tc : Thread Cert.LossLnRefIdeal.nD Cert.LossLnRefIdeal.τ).loc Cert.LossLnRefIdeal.main_v73) = v1 c
          ∧ r.2.mem ((c.tc : Thread Cert.LossLnRefIdeal.nD Cert.LossLnRefIdeal.τ).loc Cert.LossLnRefIdeal.main_v74) = v2 c
          ∧ r.2.mem ((c.tc : Thread Cert.LossLnRefIdeal.nD Cert.LossLnRefIdeal.τ).loc Cert.LossLnRefIdeal.main_v75) = v3 c
          ∧ r.2.mem ((c.tc : Thread Cert.LossLnRefIdeal.nD Cert.LossLnRefIdeal.τ).loc Cert.LossLnRefIdeal.main_v79) = v4 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3))

def preserves_PoolFwd_PoolFwdIdeal : Prop :=
  True

def algebraic_PoolFwdIdeal_PoolFwdRefIdeal_pre_finite_fwd [hPoolFwdIdeal : Cert.PoolFwdIdeal.Facts] [hPoolFwdRefIdeal : Cert.PoolFwdRefIdeal.Facts] [hPre_finite_fwd : Cert.Pre_finite_fwd.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_finite_fwd m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)
      ∧ m' ((c.tc : Thread Cert.PoolFwdRefIdeal.nD Cert.PoolFwdRefIdeal.τ).loc Cert.PoolFwdRefIdeal.main_arg3) = m ((c.tc : Thread Cert.PoolFwdIdeal.nD Cert.PoolFwdIdeal.τ).loc Cert.PoolFwdIdeal.main_arg3)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2)
          ∧ r.2.mem ((c.tc : Thread Cert.PoolFwdIdeal.nD Cert.PoolFwdIdeal.τ).loc Cert.PoolFwdIdeal.main_arg3) = m ((c.tc : Thread Cert.PoolFwdIdeal.nD Cert.PoolFwdIdeal.τ).loc Cert.PoolFwdIdeal.main_arg3))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v72) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
          ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v38) = v0 c
          ∧ r.2.mem ((c.tc : Thread Cert.AdamOutRefIdeal.nD Cert.AdamOutRefIdeal.τ).loc Cert.AdamOutRefIdeal.main_v19) = v1 c
          ∧ r.2.mem ((c.tc : Thread Cert.AdamOutRefIdeal.nD Cert.AdamOutRefIdeal.τ).loc Cert.AdamOutRefIdeal.main_v25) = v2 c
          ∧ r.2.mem ((c.tc : Thread Cert.AdamOutRefIdeal.nD Cert.AdamOutRefIdeal.τ).loc Cert.AdamOutRefIdeal.main_v14) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamEven_AdamEvenIdeal : Prop :=
  True

def algebraic_AdamEvenIdeal_AdamEvenRefIdeal [hAdamEvenIdeal : Cert.AdamEvenIdeal.Facts] [hAdamEvenRefIdeal : Cert.AdamEvenRefIdeal.Facts] : Prop :=
  ∀ (m : (ℓ : Loc Cert.AdamEvenIdeal.nD Cert.AdamEvenIdeal.τ Cert.AdamEvenIdeal.sig) → Buf (Elt Ideal) ℓ) (g : Dev Cert.AdamEvenIdeal.nD → PrngReg)
    (m' : (ℓ : Loc Cert.AdamEvenRefIdeal.nD Cert.AdamEvenRefIdeal.τ Cert.AdamEvenRefIdeal.sig) → Buf (Elt Ideal) ℓ) (g' : Dev Cert.AdamEvenRefIdeal.nD → PrngReg), Pre_AdamEvenIdeal m →
    (∀ c : Dev Cert.AdamEvenIdeal.nD,
      m' ((c.tc : Thread Cert.AdamEvenRefIdeal.nD Cert.AdamEvenRefIdeal.τ).loc Cert.AdamEvenRefIdeal.main_arg0) = m ((c.tc : Thread Cert.AdamEvenIdeal.nD Cert.AdamEvenIdeal.τ).loc Cert.AdamEvenIdeal.main_arg0)
      ∧ m' ((c.tc : Thread Cert.AdamEvenRefIdeal.nD Cert.AdamEvenRefIdeal.τ).loc Cert.AdamEvenRefIdeal.main_arg1) = m ((c.tc : Thread Cert.AdamEvenIdeal.nD Cert.AdamEvenIdeal.τ).loc Cert.AdamEvenIdeal.main_arg1)
      ∧ m' ((c.tc : Thread Cert.AdamEvenRefIdeal.nD Cert.AdamEvenRefIdeal.τ).loc Cert.AdamEvenRefIdeal.main_arg2) = m ((c.tc : Thread Cert.AdamEvenIdeal.nD Cert.AdamEvenIdeal.τ).loc Cert.AdamEvenIdeal.main_arg2)
      ∧ m' ((c.tc : Thread Cert.AdamEvenRefIdeal.nD Cert.AdamEvenRefIdeal.τ).loc Cert.AdamEvenRefIdeal.main_arg3) = m ((c.tc : Thread Cert.AdamEvenIdeal.nD Cert.AdamEvenIdeal.τ).loc Cert.AdamEvenIdeal.main_arg3)
      ∧ m' ((c.tc : Thread Cert.AdamEvenRefIdeal.nD Cert.AdamEvenRefIdeal.τ).loc Cert.AdamEvenRefIdeal.main_arg4) = m ((c.tc : Thread Cert.AdamEvenIdeal.nD Cert.AdamEvenIdeal.τ).loc Cert.AdamEvenIdeal.main_arg4)
      ∧ m' ((c.tc : Thread Cert.AdamEvenRefIdeal.nD Cert.AdamEvenRefIdeal.τ).loc Cert.AdamEvenRefIdeal.main_arg5) = m ((c.tc : Thread Cert.AdamEvenIdeal.nD Cert.AdamEvenIdeal.τ).loc Cert.AdamEvenIdeal.main_arg5)
      ∧ m' ((c.tc : Thread Cert.AdamEvenRefIdeal.nD Cert.AdamEvenRefIdeal.τ).loc Cert.AdamEvenRefIdeal.main_arg6) = m ((c.tc : Thread Cert.AdamEvenIdeal.nD Cert.AdamEvenIdeal.τ).loc Cert.AdamEvenIdeal.main_arg6)) →
    ∃ (v0 : (c : Dev Cert.AdamEvenIdeal.nD) → Buf (Elt Ideal) ((c.tc : Thread Cert.AdamEvenIdeal.nD Cert.AdamEvenIdeal.τ).loc Cert.AdamEvenIdeal.main_v3_0)) (v1 : (c : Dev Cert.AdamEvenIdeal.nD) → Buf (Elt Ideal) ((c.tc : Thread Cert.AdamEvenIdeal.nD Cert.AdamEvenIdeal.τ).loc Cert.AdamEvenIdeal.main_v3_1)) (v2 : (c : Dev Cert.AdamEvenIdeal.nD) → Buf (Elt Ideal) ((c.tc : Thread Cert.AdamEvenIdeal.nD Cert.AdamEvenIdeal.τ).loc Cert.AdamEvenIdeal.main_v3_2)) (v3 : (c : Dev Cert.AdamEvenIdeal.nD) → Buf (Elt Ideal) ((c.tc : Thread Cert.AdamEvenIdeal.nD Cert.AdamEvenIdeal.τ).loc Cert.AdamEvenIdeal.main_v3_3)),
      θ_run (Cert.AdamEvenIdeal.defs (F := Ideal)) (onTc (τ := Cert.AdamEvenIdeal.τ) (Cert.AdamEvenIdeal.main (F := Ideal))) ⟨m, fun _ => 0, g⟩ (fun r => ∀ c : Dev Cert.AdamEvenIdeal.nD,
          r.2.mem ((c.tc : Thread Cert.AdamEvenIdeal.nD Cert.AdamEvenIdeal.τ).loc Cert.AdamEvenIdeal.main_v3_0) = v0 c
          ∧ r.2.mem ((c.tc : Thread Cert.AdamEvenIdeal.nD Cert.AdamEvenIdeal.τ).loc Cert.AdamEvenIdeal.main_v3_1) = v1 c
          ∧ r.2.mem ((c.tc : Thread Cert.AdamEvenIdeal.nD Cert.AdamEvenIdeal.τ).loc Cert.AdamEvenIdeal.main_v3_2) = v2 c
          ∧ r.2.mem ((c.tc : Thread Cert.AdamEvenIdeal.nD Cert.AdamEvenIdeal.τ).loc Cert.AdamEvenIdeal.main_v3_3) = v3 c
          ∧ r.2.mem ((c.tc : Thread Cert.AdamEvenIdeal.nD Cert.AdamEvenIdeal.τ).loc Cert.AdamEvenIdeal.main_arg0) = m ((c.tc : Thread Cert.AdamEvenIdeal.nD Cert.AdamEvenIdeal.τ).loc Cert.AdamEvenIdeal.main_arg0)
          ∧ r.2.mem ((c.tc : Thread Cert.AdamEvenIdeal.nD Cert.AdamEvenIdeal.τ).loc Cert.AdamEvenIdeal.main_arg1) = m ((c.tc : Thread Cert.AdamEvenIdeal.nD Cert.AdamEvenIdeal.τ).loc Cert.AdamEvenIdeal.main_arg1)
          ∧ r.2.mem ((c.tc : Thread Cert.AdamEvenIdeal.nD Cert.AdamEvenIdeal.τ).loc Cert.AdamEvenIdeal.main_arg2) = m ((c.tc : Thread Cert.AdamEvenIdeal.nD Cert.AdamEvenIdeal.τ).loc Cert.AdamEvenIdeal.main_arg2)
          ∧ r.2.mem ((c.tc : Thread Cert.AdamEvenIdeal.nD Cert.AdamEvenIdeal.τ).loc Cert.AdamEvenIdeal.main_arg3) = m ((c.tc : Thread Cert.AdamEvenIdeal.nD Cert.AdamEvenIdeal.τ).loc Cert.AdamEvenIdeal.main_arg3)
          ∧ r.2.mem ((c.tc : Thread Cert.AdamEvenIdeal.nD Cert.AdamEvenIdeal.τ).loc Cert.AdamEvenIdeal.main_arg4) = m ((c.tc : Thread Cert.AdamEvenIdeal.nD Cert.AdamEvenIdeal.τ).loc Cert.AdamEvenIdeal.main_arg4)
          ∧ r.2.mem ((c.tc : Thread Cert.AdamEvenIdeal.nD Cert.AdamEvenIdeal.τ).loc Cert.AdamEvenIdeal.main_arg5) = m ((c.tc : Thread Cert.AdamEvenIdeal.nD Cert.AdamEvenIdeal.τ).loc Cert.AdamEvenIdeal.main_arg5)
          ∧ r.2.mem ((c.tc : Thread Cert.AdamEvenIdeal.nD Cert.AdamEvenIdeal.τ).loc Cert.AdamEvenIdeal.main_arg6) = m ((c.tc : Thread Cert.AdamEvenIdeal.nD Cert.AdamEvenIdeal.τ).loc Cert.AdamEvenIdeal.main_arg6))
      ∧ θ_run (Cert.AdamEvenRefIdeal.defs (F := Ideal)) (onTc (τ := Cert.AdamEvenRefIdeal.τ) (Cert.AdamEvenRefIdeal.main (F := Ideal))) ⟨m', fun _ => 0, g'⟩ (fun r => ∀ c : Dev Cert.AdamEvenRefIdeal.nD,
          r.2.mem ((c.tc : Thread Cert.AdamEvenRefIdeal.nD Cert.AdamEvenRefIdeal.τ).loc Cert.AdamEvenRefIdeal.main_v40) = v0 c
          ∧ r.2.mem ((c.tc : Thread Cert.AdamEvenRefIdeal.nD Cert.AdamEvenRefIdeal.τ).loc Cert.AdamEvenRefIdeal.main_v41) = v1 c
          ∧ r.2.mem ((c.tc : Thread Cert.AdamEvenRefIdeal.nD Cert.AdamEvenRefIdeal.τ).loc Cert.AdamEvenRefIdeal.main_v42) = v2 c
          ∧ r.2.mem ((c.tc : Thread Cert.AdamEvenRefIdeal.nD Cert.AdamEvenRefIdeal.τ).loc Cert.AdamEvenRefIdeal.main_v43) = v3 c
          ∧ r.2.mem ((c.tc : Thread Cert.AdamEvenRefIdeal.nD Cert.AdamEvenRefIdeal.τ).loc Cert.AdamEvenRefIdeal.main_arg0) = m' ((c.tc : Thread Cert.AdamEvenRefIdeal.nD Cert.AdamEvenRefIdeal.τ).loc Cert.AdamEvenRefIdeal.main_arg0)
          ∧ r.2.mem ((c.tc : Thread Cert.AdamEvenRefIdeal.nD Cert.AdamEvenRefIdeal.τ).loc Cert.AdamEvenRefIdeal.main_arg1) = m' ((c.tc : Thread Cert.AdamEvenRefIdeal.nD Cert.AdamEvenRefIdeal.τ).loc Cert.AdamEvenRefIdeal.main_arg1)
          ∧ r.2.mem ((c.tc : Thread Cert.AdamEvenRefIdeal.nD Cert.AdamEvenRefIdeal.τ).loc Cert.AdamEvenRefIdeal.main_arg2) = m' ((c.tc : Thread Cert.AdamEvenRefIdeal.nD Cert.AdamEvenRefIdeal.τ).loc Cert.AdamEvenRefIdeal.main_arg2)
          ∧ r.2.mem ((c.tc : Thread Cert.AdamEvenRefIdeal.nD Cert.AdamEvenRefIdeal.τ).loc Cert.AdamEvenRefIdeal.main_arg3) = m' ((c.tc : Thread Cert.AdamEvenRefIdeal.nD Cert.AdamEvenRefIdeal.τ).loc Cert.AdamEvenRefIdeal.main_arg3)
          ∧ r.2.mem ((c.tc : Thread Cert.AdamEvenRefIdeal.nD Cert.AdamEvenRefIdeal.τ).loc Cert.AdamEvenRefIdeal.main_arg4) = m' ((c.tc : Thread Cert.AdamEvenRefIdeal.nD Cert.AdamEvenRefIdeal.τ).loc Cert.AdamEvenRefIdeal.main_arg4)
          ∧ r.2.mem ((c.tc : Thread Cert.AdamEvenRefIdeal.nD Cert.AdamEvenRefIdeal.τ).loc Cert.AdamEvenRefIdeal.main_arg5) = m' ((c.tc : Thread Cert.AdamEvenRefIdeal.nD Cert.AdamEvenRefIdeal.τ).loc Cert.AdamEvenRefIdeal.main_arg5)
          ∧ r.2.mem ((c.tc : Thread Cert.AdamEvenRefIdeal.nD Cert.AdamEvenRefIdeal.τ).loc Cert.AdamEvenRefIdeal.main_arg6) = m' ((c.tc : Thread Cert.AdamEvenRefIdeal.nD Cert.AdamEvenRefIdeal.τ).loc Cert.AdamEvenRefIdeal.main_arg6))

def preserves_AdamOdd_AdamOddIdeal : Prop :=
  True

def algebraic_AdamOddIdeal_AdamOddRefIdeal [hAdamOddIdeal : Cert.AdamOddIdeal.Facts] [hAdamOddRefIdeal : Cert.AdamOddRefIdeal.Facts] : Prop :=
  ∀ (m : (ℓ : Loc Cert.AdamOddIdeal.nD Cert.AdamOddIdeal.τ Cert.AdamOddIdeal.sig) → Buf (Elt Ideal) ℓ) (g : Dev Cert.AdamOddIdeal.nD → PrngReg)
    (m' : (ℓ : Loc Cert.AdamOddRefIdeal.nD Cert.AdamOddRefIdeal.τ Cert.AdamOddRefIdeal.sig) → Buf (Elt Ideal) ℓ) (g' : Dev Cert.AdamOddRefIdeal.nD → PrngReg), Pre_AdamOddIdeal m →
    (∀ c : Dev Cert.AdamOddIdeal.nD,
      m' ((c.tc : Thread Cert.AdamOddRefIdeal.nD Cert.AdamOddRefIdeal.τ).loc Cert.AdamOddRefIdeal.main_arg0) = m ((c.tc : Thread Cert.AdamOddIdeal.nD Cert.AdamOddIdeal.τ).loc Cert.AdamOddIdeal.main_arg0)
      ∧ m' ((c.tc : Thread Cert.AdamOddRefIdeal.nD Cert.AdamOddRefIdeal.τ).loc Cert.AdamOddRefIdeal.main_arg1) = m ((c.tc : Thread Cert.AdamOddIdeal.nD Cert.AdamOddIdeal.τ).loc Cert.AdamOddIdeal.main_arg1)
      ∧ m' ((c.tc : Thread Cert.AdamOddRefIdeal.nD Cert.AdamOddRefIdeal.τ).loc Cert.AdamOddRefIdeal.main_arg2) = m ((c.tc : Thread Cert.AdamOddIdeal.nD Cert.AdamOddIdeal.τ).loc Cert.AdamOddIdeal.main_arg2)
      ∧ m' ((c.tc : Thread Cert.AdamOddRefIdeal.nD Cert.AdamOddRefIdeal.τ).loc Cert.AdamOddRefIdeal.main_arg3) = m ((c.tc : Thread Cert.AdamOddIdeal.nD Cert.AdamOddIdeal.τ).loc Cert.AdamOddIdeal.main_arg3)
      ∧ m' ((c.tc : Thread Cert.AdamOddRefIdeal.nD Cert.AdamOddRefIdeal.τ).loc Cert.AdamOddRefIdeal.main_arg4) = m ((c.tc : Thread Cert.AdamOddIdeal.nD Cert.AdamOddIdeal.τ).loc Cert.AdamOddIdeal.main_arg4)) →
    ∃ (v0 : (c : Dev Cert.AdamOddIdeal.nD) → Buf (Elt Ideal) ((c.tc : Thread Cert.AdamOddIdeal.nD Cert.AdamOddIdeal.τ).loc Cert.AdamOddIdeal.main_v2_0)) (v1 : (c : Dev Cert.AdamOddIdeal.nD) → Buf (Elt Ideal) ((c.tc : Thread Cert.AdamOddIdeal.nD Cert.AdamOddIdeal.τ).loc Cert.AdamOddIdeal.main_v2_1)) (v2 : (c : Dev Cert.AdamOddIdeal.nD) → Buf (Elt Ideal) ((c.tc : Thread Cert.AdamOddIdeal.nD Cert.AdamOddIdeal.τ).loc Cert.AdamOddIdeal.main_v2_2)) (v3 : (c : Dev Cert.AdamOddIdeal.nD) → Buf (Elt Ideal) ((c.tc : Thread Cert.AdamOddIdeal.nD Cert.AdamOddIdeal.τ).loc Cert.AdamOddIdeal.main_v2_3)),
      θ_run (Cert.AdamOddIdeal.defs (F := Ideal)) (onTc (τ := Cert.AdamOddIdeal.τ) (Cert.AdamOddIdeal.main (F := Ideal))) ⟨m, fun _ => 0, g⟩ (fun r => ∀ c : Dev Cert.AdamOddIdeal.nD,
          r.2.mem ((c.tc : Thread Cert.AdamOddIdeal.nD Cert.AdamOddIdeal.τ).loc Cert.AdamOddIdeal.main_v2_0) = v0 c
          ∧ r.2.mem ((c.tc : Thread Cert.AdamOddIdeal.nD Cert.AdamOddIdeal.τ).loc Cert.AdamOddIdeal.main_v2_1) = v1 c
          ∧ r.2.mem ((c.tc : Thread Cert.AdamOddIdeal.nD Cert.AdamOddIdeal.τ).loc Cert.AdamOddIdeal.main_v2_2) = v2 c
          ∧ r.2.mem ((c.tc : Thread Cert.AdamOddIdeal.nD Cert.AdamOddIdeal.τ).loc Cert.AdamOddIdeal.main_v2_3) = v3 c
          ∧ r.2.mem ((c.tc : Thread Cert.AdamOddIdeal.nD Cert.AdamOddIdeal.τ).loc Cert.AdamOddIdeal.main_arg0) = m ((c.tc : Thread Cert.AdamOddIdeal.nD Cert.AdamOddIdeal.τ).loc Cert.AdamOddIdeal.main_arg0)
          ∧ r.2.mem ((c.tc : Thread Cert.AdamOddIdeal.nD Cert.AdamOddIdeal.τ).loc Cert.AdamOddIdeal.main_arg1) = m ((c.tc : Thread Cert.AdamOddIdeal.nD Cert.AdamOddIdeal.τ).loc Cert.AdamOddIdeal.main_arg1)
          ∧ r.2.mem ((c.tc : Thread Cert.AdamOddIdeal.nD Cert.AdamOddIdeal.τ).loc Cert.AdamOddIdeal.main_arg2) = m ((c.tc : Thread Cert.AdamOddIdeal.nD Cert.AdamOddIdeal.τ).loc Cert.AdamOddIdeal.main_arg2)
          ∧ r.2.mem ((c.tc : Thread Cert.AdamOddIdeal.nD Cert.AdamOddIdeal.τ).loc Cert.AdamOddIdeal.main_arg3) = m ((c.tc : Thread Cert.AdamOddIdeal.nD Cert.AdamOddIdeal.τ).loc Cert.AdamOddIdeal.main_arg3)
          ∧ r.2.mem ((c.tc : Thread Cert.AdamOddIdeal.nD Cert.AdamOddIdeal.τ).loc Cert.AdamOddIdeal.main_arg4) = m ((c.tc : Thread Cert.AdamOddIdeal.nD Cert.AdamOddIdeal.τ).loc Cert.AdamOddIdeal.main_arg4))
      ∧ θ_run (Cert.AdamOddRefIdeal.defs (F := Ideal)) (onTc (τ := Cert.AdamOddRefIdeal.τ) (Cert.AdamOddRefIdeal.main (F := Ideal))) ⟨m', fun _ => 0, g'⟩ (fun r => ∀ c : Dev Cert.AdamOddRefIdeal.nD,
          r.2.mem ((c.tc : Thread Cert.AdamOddRefIdeal.nD Cert.AdamOddRefIdeal.τ).loc Cert.AdamOddRefIdeal.main_v28) = v0 c
          ∧ r.2.mem ((c.tc : Thread Cert.AdamOddRefIdeal.nD Cert.AdamOddRefIdeal.τ).loc Cert.AdamOddRefIdeal.main_v9) = v1 c
          ∧ r.2.mem ((c.tc : Thread Cert.AdamOddRefIdeal.nD Cert.AdamOddRefIdeal.τ).loc Cert.AdamOddRefIdeal.main_v15) = v2 c
          ∧ r.2.mem ((c.tc : Thread Cert.AdamOddRefIdeal.nD Cert.AdamOddRefIdeal.τ).loc Cert.AdamOddRefIdeal.main_v4) = v3 c
          ∧ r.2.mem ((c.tc : Thread Cert.AdamOddRefIdeal.nD Cert.AdamOddRefIdeal.τ).loc Cert.AdamOddRefIdeal.main_arg0) = m' ((c.tc : Thread Cert.AdamOddRefIdeal.nD Cert.AdamOddRefIdeal.τ).loc Cert.AdamOddRefIdeal.main_arg0)
          ∧ r.2.mem ((c.tc : Thread Cert.AdamOddRefIdeal.nD Cert.AdamOddRefIdeal.τ).loc Cert.AdamOddRefIdeal.main_arg1) = m' ((c.tc : Thread Cert.AdamOddRefIdeal.nD Cert.AdamOddRefIdeal.τ).loc Cert.AdamOddRefIdeal.main_arg1)
          ∧ r.2.mem ((c.tc : Thread Cert.AdamOddRefIdeal.nD Cert.AdamOddRefIdeal.τ).loc Cert.AdamOddRefIdeal.main_arg2) = m' ((c.tc : Thread Cert.AdamOddRefIdeal.nD Cert.AdamOddRefIdeal.τ).loc Cert.AdamOddRefIdeal.main_arg2)
          ∧ r.2.mem ((c.tc : Thread Cert.AdamOddRefIdeal.nD Cert.AdamOddRefIdeal.τ).loc Cert.AdamOddRefIdeal.main_arg3) = m' ((c.tc : Thread Cert.AdamOddRefIdeal.nD Cert.AdamOddRefIdeal.τ).loc Cert.AdamOddRefIdeal.main_arg3)
          ∧ r.2.mem ((c.tc : Thread Cert.AdamOddRefIdeal.nD Cert.AdamOddRefIdeal.τ).loc Cert.AdamOddRefIdeal.main_arg4) = m' ((c.tc : Thread Cert.AdamOddRefIdeal.nD Cert.AdamOddRefIdeal.τ).loc Cert.AdamOddRefIdeal.main_arg4))

def preserves_RsFinal_RsFinalIdeal : Prop :=
  True

def algebraic_RsFinalIdeal_RsFinalRefIdeal [hRsFinalIdeal : Cert.RsFinalIdeal.Facts] [hRsFinalRefIdeal : Cert.RsFinalRefIdeal.Facts] : Prop :=
  ∀ (m : (ℓ : Loc Cert.RsFinalIdeal.nD Cert.RsFinalIdeal.τ Cert.RsFinalIdeal.sig) → Buf (Elt Ideal) ℓ) (g : Dev Cert.RsFinalIdeal.nD → PrngReg)
    (m' : (ℓ : Loc Cert.RsFinalRefIdeal.nD Cert.RsFinalRefIdeal.τ Cert.RsFinalRefIdeal.sig) → Buf (Elt Ideal) ℓ) (g' : Dev Cert.RsFinalRefIdeal.nD → PrngReg), Pre_RsFinalIdeal m →
    (∀ c : Dev Cert.RsFinalIdeal.nD,
      m' ((c.tc : Thread Cert.RsFinalRefIdeal.nD Cert.RsFinalRefIdeal.τ).loc Cert.RsFinalRefIdeal.main_arg0) = m ((c.tc : Thread Cert.RsFinalIdeal.nD Cert.RsFinalIdeal.τ).loc Cert.RsFinalIdeal.main_arg0)
      ∧ m' ((c.tc : Thread Cert.RsFinalRefIdeal.nD Cert.RsFinalRefIdeal.τ).loc Cert.RsFinalRefIdeal.main_arg1) = m ((c.tc : Thread Cert.RsFinalIdeal.nD Cert.RsFinalIdeal.τ).loc Cert.RsFinalIdeal.main_arg1)) →
    ∃ (v0 : (c : Dev Cert.RsFinalIdeal.nD) → Buf (Elt Ideal) ((c.tc : Thread Cert.RsFinalIdeal.nD Cert.RsFinalIdeal.τ).loc Cert.RsFinalIdeal.main_v0)),
      θ_run (Cert.RsFinalIdeal.defs (F := Ideal)) (onTc (τ := Cert.RsFinalIdeal.τ) (Cert.RsFinalIdeal.main (F := Ideal))) ⟨m, fun _ => 0, g⟩ (fun r => ∀ c : Dev Cert.RsFinalIdeal.nD,
          r.2.mem ((c.tc : Thread Cert.RsFinalIdeal.nD Cert.RsFinalIdeal.τ).loc Cert.RsFinalIdeal.main_v0) = v0 c
          ∧ r.2.mem ((c.tc : Thread Cert.RsFinalIdeal.nD Cert.RsFinalIdeal.τ).loc Cert.RsFinalIdeal.main_arg0) = m ((c.tc : Thread Cert.RsFinalIdeal.nD Cert.RsFinalIdeal.τ).loc Cert.RsFinalIdeal.main_arg0)
          ∧ r.2.mem ((c.tc : Thread Cert.RsFinalIdeal.nD Cert.RsFinalIdeal.τ).loc Cert.RsFinalIdeal.main_arg1) = m ((c.tc : Thread Cert.RsFinalIdeal.nD Cert.RsFinalIdeal.τ).loc Cert.RsFinalIdeal.main_arg1))
      ∧ θ_run (Cert.RsFinalRefIdeal.defs (F := Ideal)) (onTc (τ := Cert.RsFinalRefIdeal.τ) (Cert.RsFinalRefIdeal.main (F := Ideal))) ⟨m', fun _ => 0, g'⟩ (fun r => ∀ c : Dev Cert.RsFinalRefIdeal.nD,
          r.2.mem ((c.tc : Thread Cert.RsFinalRefIdeal.nD Cert.RsFinalRefIdeal.τ).loc Cert.RsFinalRefIdeal.main_v5) = v0 c
          ∧ r.2.mem ((c.tc : Thread Cert.RsFinalRefIdeal.nD Cert.RsFinalRefIdeal.τ).loc Cert.RsFinalRefIdeal.main_arg0) = m' ((c.tc : Thread Cert.RsFinalRefIdeal.nD Cert.RsFinalRefIdeal.τ).loc Cert.RsFinalRefIdeal.main_arg0)
          ∧ r.2.mem ((c.tc : Thread Cert.RsFinalRefIdeal.nD Cert.RsFinalRefIdeal.τ).loc Cert.RsFinalRefIdeal.main_arg1) = m' ((c.tc : Thread Cert.RsFinalRefIdeal.nD Cert.RsFinalRefIdeal.τ).loc Cert.RsFinalRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_CastX_CastXIdeal : Prop :=
  True

def algebraic_CastXIdeal_CastXRefIdeal [hCastXIdeal : Cert.CastXIdeal.Facts] [hCastXRefIdeal : Cert.CastXRefIdeal.Facts] : Prop :=
  ∀ (m : (ℓ : Loc Cert.CastXIdeal.nD Cert.CastXIdeal.τ Cert.CastXIdeal.sig) → Buf (Elt Ideal) ℓ) (g : Dev Cert.CastXIdeal.nD → PrngReg)
    (m' : (ℓ : Loc Cert.CastXRefIdeal.nD Cert.CastXRefIdeal.τ Cert.CastXRefIdeal.sig) → Buf (Elt Ideal) ℓ) (g' : Dev Cert.CastXRefIdeal.nD → PrngReg), Pre_CastXIdeal m →
    (∀ c : Dev Cert.CastXIdeal.nD,
      m' ((c.tc : Thread Cert.CastXRefIdeal.nD Cert.CastXRefIdeal.τ).loc Cert.CastXRefIdeal.main_arg0) = m ((c.tc : Thread Cert.CastXIdeal.nD Cert.CastXIdeal.τ).loc Cert.CastXIdeal.main_arg0)) →
    ∃ (v0 : (c : Dev Cert.CastXIdeal.nD) → Buf (Elt Ideal) ((c.tc : Thread Cert.CastXIdeal.nD Cert.CastXIdeal.τ).loc Cert.CastXIdeal.main_v0)),
      θ_run (Cert.CastXIdeal.defs (F := Ideal)) (onTc (τ := Cert.CastXIdeal.τ) (Cert.CastXIdeal.main (F := Ideal))) ⟨m, fun _ => 0, g⟩ (fun r => ∀ c : Dev Cert.CastXIdeal.nD,
          r.2.mem ((c.tc : Thread Cert.CastXIdeal.nD Cert.CastXIdeal.τ).loc Cert.CastXIdeal.main_v0) = v0 c
          ∧ r.2.mem ((c.tc : Thread Cert.CastXIdeal.nD Cert.CastXIdeal.τ).loc Cert.CastXIdeal.main_arg0) = m ((c.tc : Thread Cert.CastXIdeal.nD Cert.CastXIdeal.τ).loc Cert.CastXIdeal.main_arg0))
      ∧ θ_run (Cert.CastXRefIdeal.defs (F := Ideal)) (onTc (τ := Cert.CastXRefIdeal.τ) (Cert.CastXRefIdeal.main (F := Ideal))) ⟨m', fun _ => 0, g'⟩ (fun r => ∀ c : Dev Cert.CastXRefIdeal.nD,
          r.2.mem ((c.tc : Thread Cert.CastXRefIdeal.nD Cert.CastXRefIdeal.τ).loc Cert.CastXRefIdeal.main_v0) = v0 c
          ∧ r.2.mem ((c.tc : Thread Cert.CastXRefIdeal.nD Cert.CastXRefIdeal.τ).loc Cert.CastXRefIdeal.main_arg0) = m' ((c.tc : Thread Cert.CastXRefIdeal.nD Cert.CastXRefIdeal.τ).loc Cert.CastXRefIdeal.main_arg0))

def preserves_AddOut_AddOutIdeal : Prop :=
  True

def algebraic_AddOutIdeal_AddOutRefIdeal [hAddOutIdeal : Cert.AddOutIdeal.Facts] [hAddOutRefIdeal : Cert.AddOutRefIdeal.Facts] : Prop :=
  ∀ (m : (ℓ : Loc Cert.AddOutIdeal.nD Cert.AddOutIdeal.τ Cert.AddOutIdeal.sig) → Buf (Elt Ideal) ℓ) (g : Dev Cert.AddOutIdeal.nD → PrngReg)
    (m' : (ℓ : Loc Cert.AddOutRefIdeal.nD Cert.AddOutRefIdeal.τ Cert.AddOutRefIdeal.sig) → Buf (Elt Ideal) ℓ) (g' : Dev Cert.AddOutRefIdeal.nD → PrngReg), Pre_AddOutIdeal m →
    (∀ c : Dev Cert.AddOutIdeal.nD,
      m' ((c.tc : Thread Cert.AddOutRefIdeal.nD Cert.AddOutRefIdeal.τ).loc Cert.AddOutRefIdeal.main_arg0) = m ((c.tc : Thread Cert.AddOutIdeal.nD Cert.AddOutIdeal.τ).loc Cert.AddOutIdeal.main_arg0)
      ∧ m' ((c.tc : Thread Cert.AddOutRefIdeal.nD Cert.AddOutRefIdeal.τ).loc Cert.AddOutRefIdeal.main_arg1) = m ((c.tc : Thread Cert.AddOutIdeal.nD Cert.AddOutIdeal.τ).loc Cert.AddOutIdeal.main_arg1)) →
    ∃ (v0 : (c : Dev Cert.AddOutIdeal.nD) → Buf (Elt Ideal) ((c.tc : Thread Cert.AddOutIdeal.nD Cert.AddOutIdeal.τ).loc Cert.AddOutIdeal.main_v6)),
      θ_run (Cert.AddOutIdeal.defs (F := Ideal)) (onTc (τ := Cert.AddOutIdeal.τ) (Cert.AddOutIdeal.main (F := Ideal))) ⟨m, fun _ => 0, g⟩ (fun r => ∀ c : Dev Cert.AddOutIdeal.nD,
          r.2.mem ((c.tc : Thread Cert.AddOutIdeal.nD Cert.AddOutIdeal.τ).loc Cert.AddOutIdeal.main_v6) = v0 c
          ∧ r.2.mem ((c.tc : Thread Cert.AddOutIdeal.nD Cert.AddOutIdeal.τ).loc Cert.AddOutIdeal.main_arg0) = m ((c.tc : Thread Cert.AddOutIdeal.nD Cert.AddOutIdeal.τ).loc Cert.AddOutIdeal.main_arg0)
          ∧ r.2.mem ((c.tc : Thread Cert.AddOutIdeal.nD Cert.AddOutIdeal.τ).loc Cert.AddOutIdeal.main_arg1) = m ((c.tc : Thread Cert.AddOutIdeal.nD Cert.AddOutIdeal.τ).loc Cert.AddOutIdeal.main_arg1))
      ∧ θ_run (Cert.AddOutRefIdeal.defs (F := Ideal)) (onTc (τ := Cert.AddOutRefIdeal.τ) (Cert.AddOutRefIdeal.main (F := Ideal))) ⟨m', fun _ => 0, g'⟩ (fun r => ∀ c : Dev Cert.AddOutRefIdeal.nD,
          r.2.mem ((c.tc : Thread Cert.AddOutRefIdeal.nD Cert.AddOutRefIdeal.τ).loc Cert.AddOutRefIdeal.main_v4) = v0 c
          ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
          ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1))

def preserves_AddEven_AddEvenIdeal : Prop :=
  True

def algebraic_AddEvenIdeal_AddEvenRefIdeal [hAddEvenIdeal : Cert.AddEvenIdeal.Facts] [hAddEvenRefIdeal : Cert.AddEvenRefIdeal.Facts] : Prop :=
  ∀ (m : (ℓ : Loc Cert.AddEvenIdeal.nD Cert.AddEvenIdeal.τ Cert.AddEvenIdeal.sig) → Buf (Elt Ideal) ℓ) (g : Dev Cert.AddEvenIdeal.nD → PrngReg)
    (m' : (ℓ : Loc Cert.AddEvenRefIdeal.nD Cert.AddEvenRefIdeal.τ Cert.AddEvenRefIdeal.sig) → Buf (Elt Ideal) ℓ) (g' : Dev Cert.AddEvenRefIdeal.nD → PrngReg), Pre_AddEvenIdeal m →
    (∀ c : Dev Cert.AddEvenIdeal.nD,
      m' ((c.tc : Thread Cert.AddEvenRefIdeal.nD Cert.AddEvenRefIdeal.τ).loc Cert.AddEvenRefIdeal.main_arg0) = m ((c.tc : Thread Cert.AddEvenIdeal.nD Cert.AddEvenIdeal.τ).loc Cert.AddEvenIdeal.main_arg0)
      ∧ m' ((c.tc : Thread Cert.AddEvenRefIdeal.nD Cert.AddEvenRefIdeal.τ).loc Cert.AddEvenRefIdeal.main_arg1) = m ((c.tc : Thread Cert.AddEvenIdeal.nD Cert.AddEvenIdeal.τ).loc Cert.AddEvenIdeal.main_arg1)) →
    ∃ (v0 : (c : Dev Cert.AddEvenIdeal.nD) → Buf (Elt Ideal) ((c.tc : Thread Cert.AddEvenIdeal.nD Cert.AddEvenIdeal.τ).loc Cert.AddEvenIdeal.main_v6)),
      θ_run (Cert.AddEvenIdeal.defs (F := Ideal)) (onTc (τ := Cert.AddEvenIdeal.τ) (Cert.AddEvenIdeal.main (F := Ideal))) ⟨m, fun _ => 0, g⟩ (fun r => ∀ c : Dev Cert.AddEvenIdeal.nD,
          r.2.mem ((c.tc : Thread Cert.AddEvenIdeal.nD Cert.AddEvenIdeal.τ).loc Cert.AddEvenIdeal.main_v6) = v0 c
          ∧ r.2.mem ((c.tc : Thread Cert.AddEvenIdeal.nD Cert.AddEvenIdeal.τ).loc Cert.AddEvenIdeal.main_arg0) = m ((c.tc : Thread Cert.AddEvenIdeal.nD Cert.AddEvenIdeal.τ).loc Cert.AddEvenIdeal.main_arg0)
          ∧ r.2.mem ((c.tc : Thread Cert.AddEvenIdeal.nD Cert.AddEvenIdeal.τ).loc Cert.AddEvenIdeal.main_arg1) = m ((c.tc : Thread Cert.AddEvenIdeal.nD Cert.AddEvenIdeal.τ).loc Cert.AddEvenIdeal.main_arg1))
      ∧ θ_run (Cert.AddEvenRefIdeal.defs (F := Ideal)) (onTc (τ := Cert.AddEvenRefIdeal.τ) (Cert.AddEvenRefIdeal.main (F := Ideal))) ⟨m', fun _ => 0, g'⟩ (fun r => ∀ c : Dev Cert.AddEvenRefIdeal.nD,
          r.2.mem ((c.tc : Thread Cert.AddEvenRefIdeal.nD Cert.AddEvenRefIdeal.τ).loc Cert.AddEvenRefIdeal.main_v4) = v0 c
          ∧ r.2.mem ((c.tc : Thread Cert.AddEvenRefIdeal.nD Cert.AddEvenRefIdeal.τ).loc Cert.AddEvenRefIdeal.main_arg0) = m' ((c.tc : Thread Cert.AddEvenRefIdeal.nD Cert.AddEvenRefIdeal.τ).loc Cert.AddEvenRefIdeal.main_arg0)
          ∧ r.2.mem ((c.tc : Thread Cert.AddEvenRefIdeal.nD Cert.AddEvenRefIdeal.τ).loc Cert.AddEvenRefIdeal.main_arg1) = m' ((c.tc : Thread Cert.AddEvenRefIdeal.nD Cert.AddEvenRefIdeal.τ).loc Cert.AddEvenRefIdeal.main_arg1))

def preserves_AddOdd_AddOddIdeal : Prop :=
  True

def algebraic_AddOddIdeal_AddOddRefIdeal [hAddOddIdeal : Cert.AddOddIdeal.Facts] [hAddOddRefIdeal : Cert.AddOddRefIdeal.Facts] : Prop :=
  ∀ (m : (ℓ : Loc Cert.AddOddIdeal.nD Cert.AddOddIdeal.τ Cert.AddOddIdeal.sig) → Buf (Elt Ideal) ℓ) (g : Dev Cert.AddOddIdeal.nD → PrngReg)
    (m' : (ℓ : Loc Cert.AddOddRefIdeal.nD Cert.AddOddRefIdeal.τ Cert.AddOddRefIdeal.sig) → Buf (Elt Ideal) ℓ) (g' : Dev Cert.AddOddRefIdeal.nD → PrngReg), Pre_AddOddIdeal m →
    (∀ c : Dev Cert.AddOddIdeal.nD,
      m' ((c.tc : Thread Cert.AddOddRefIdeal.nD Cert.AddOddRefIdeal.τ).loc Cert.AddOddRefIdeal.main_arg0) = m ((c.tc : Thread Cert.AddOddIdeal.nD Cert.AddOddIdeal.τ).loc Cert.AddOddIdeal.main_arg0)
      ∧ m' ((c.tc : Thread Cert.AddOddRefIdeal.nD Cert.AddOddRefIdeal.τ).loc Cert.AddOddRefIdeal.main_arg1) = m ((c.tc : Thread Cert.AddOddIdeal.nD Cert.AddOddIdeal.τ).loc Cert.AddOddIdeal.main_arg1)) →
    ∃ (v0 : (c : Dev Cert.AddOddIdeal.nD) → Buf (Elt Ideal) ((c.tc : Thread Cert.AddOddIdeal.nD Cert.AddOddIdeal.τ).loc Cert.AddOddIdeal.main_v6)),
      θ_run (Cert.AddOddIdeal.defs (F := Ideal)) (onTc (τ := Cert.AddOddIdeal.τ) (Cert.AddOddIdeal.main (F := Ideal))) ⟨m, fun _ => 0, g⟩ (fun r => ∀ c : Dev Cert.AddOddIdeal.nD,
          r.2.mem ((c.tc : Thread Cert.AddOddIdeal.nD Cert.AddOddIdeal.τ).loc Cert.AddOddIdeal.main_v6) = v0 c
          ∧ r.2.mem ((c.tc : Thread Cert.AddOddIdeal.nD Cert.AddOddIdeal.τ).loc Cert.AddOddIdeal.main_arg0) = m ((c.tc : Thread Cert.AddOddIdeal.nD Cert.AddOddIdeal.τ).loc Cert.AddOddIdeal.main_arg0)
          ∧ r.2.mem ((c.tc : Thread Cert.AddOddIdeal.nD Cert.AddOddIdeal.τ).loc Cert.AddOddIdeal.main_arg1) = m ((c.tc : Thread Cert.AddOddIdeal.nD Cert.AddOddIdeal.τ).loc Cert.AddOddIdeal.main_arg1))
      ∧ θ_run (Cert.AddOddRefIdeal.defs (F := Ideal)) (onTc (τ := Cert.AddOddRefIdeal.τ) (Cert.AddOddRefIdeal.main (F := Ideal))) ⟨m', fun _ => 0, g'⟩ (fun r => ∀ c : Dev Cert.AddOddRefIdeal.nD,
          r.2.mem ((c.tc : Thread Cert.AddOddRefIdeal.nD Cert.AddOddRefIdeal.τ).loc Cert.AddOddRefIdeal.main_v4) = v0 c
          ∧ r.2.mem ((c.tc : Thread Cert.AddOddRefIdeal.nD Cert.AddOddRefIdeal.τ).loc Cert.AddOddRefIdeal.main_arg0) = m' ((c.tc : Thread Cert.AddOddRefIdeal.nD Cert.AddOddRefIdeal.τ).loc Cert.AddOddRefIdeal.main_arg0)
          ∧ r.2.mem ((c.tc : Thread Cert.AddOddRefIdeal.nD Cert.AddOddRefIdeal.τ).loc Cert.AddOddRefIdeal.main_arg1) = m' ((c.tc : Thread Cert.AddOddRefIdeal.nD Cert.AddOddRefIdeal.τ).loc Cert.AddOddRefIdeal.main_arg1))

def Claim : Prop :=
  ∃ (hPool : Cert.Pool.Facts) (hPoolIdeal : Cert.PoolIdeal.Facts) (hPoolRefIdeal : Cert.PoolRefIdeal.Facts) (hInOdd : Cert.InOdd.Facts) (hInOddIdeal : Cert.InOddIdeal.Facts) (hInOddRefIdeal : Cert.InOddRefIdeal.Facts) (hInEven : Cert.InEven.Facts) (hInEvenIdeal : Cert.InEvenIdeal.Facts) (hInEvenRefIdeal : Cert.InEvenRefIdeal.Facts) (hDMix : Cert.DMix.Facts) (hDMixIdeal : Cert.DMixIdeal.Facts) (hDMixRefIdeal : Cert.DMixRefIdeal.Facts) (hDwOut : Cert.DwOut.Facts) (hDwOutIdeal : Cert.DwOutIdeal.Facts) (hDwOutRefIdeal : Cert.DwOutRefIdeal.Facts) (hDwOdd : Cert.DwOdd.Facts) (hDwOddIdeal : Cert.DwOddIdeal.Facts) (hDwOddRefIdeal : Cert.DwOddRefIdeal.Facts) (hDwEven : Cert.DwEven.Facts) (hDwEvenIdeal : Cert.DwEvenIdeal.Facts) (hDwEvenRefIdeal : Cert.DwEvenRefIdeal.Facts) (hDxOdd : Cert.DxOdd.Facts) (hDxOddIdeal : Cert.DxOddIdeal.Facts) (hDxOddRefIdeal : Cert.DxOddRefIdeal.Facts) (hDxEven : Cert.DxEven.Facts) (hDxEvenIdeal : Cert.DxEvenIdeal.Facts) (hDxEvenRefIdeal : Cert.DxEvenRefIdeal.Facts) (hOutLn : Cert.OutLn.Facts) (hOutLnIdeal : Cert.OutLnIdeal.Facts) (hOutLnRefIdeal : Cert.OutLnRefIdeal.Facts) (hLnBwd : Cert.LnBwd.Facts) (hLnBwdIdeal : Cert.LnBwdIdeal.Facts) (hLnBwdRefIdeal : Cert.LnBwdRefIdeal.Facts) (hLossLn : Cert.LossLn.Facts) (hLossLnIdeal : Cert.LossLnIdeal.Facts) (hLossLnRefIdeal : Cert.LossLnRefIdeal.Facts) (hPoolFwd : Cert.PoolFwd.Facts) (hPoolFwdIdeal : Cert.PoolFwdIdeal.Facts) (hPoolFwdRefIdeal : Cert.PoolFwdRefIdeal.Facts) (hAdamOut : Cert.AdamOut.Facts) (hAdamOutIdeal : Cert.AdamOutIdeal.Facts) (hAdamOutRefIdeal : Cert.AdamOutRefIdeal.Facts) (hAdamEven : Cert.AdamEven.Facts) (hAdamEvenIdeal : Cert.AdamEvenIdeal.Facts) (hAdamEvenRefIdeal : Cert.AdamEvenRefIdeal.Facts) (hAdamOdd : Cert.AdamOdd.Facts) (hAdamOddIdeal : Cert.AdamOddIdeal.Facts) (hAdamOddRefIdeal : Cert.AdamOddRefIdeal.Facts) (hRsFinal : Cert.RsFinal.Facts) (hRsFinalIdeal : Cert.RsFinalIdeal.Facts) (hRsFinalRefIdeal : Cert.RsFinalRefIdeal.Facts) (hSumSmall : Cert.SumSmall.Facts) (hSumSmallIdeal : Cert.SumSmallIdeal.Facts) (hSumSmallRefIdeal : Cert.SumSmallRefIdeal.Facts) (hCastX : Cert.CastX.Facts) (hCastXIdeal : Cert.CastXIdeal.Facts) (hCastXRefIdeal : Cert.CastXRefIdeal.Facts) (hAddOut : Cert.AddOut.Facts) (hAddOutIdeal : Cert.AddOutIdeal.Facts) (hAddOutRefIdeal : Cert.AddOutRefIdeal.Facts) (hAddEven : Cert.AddEven.Facts) (hAddEvenIdeal : Cert.AddEvenIdeal.Facts) (hAddEvenRefIdeal : Cert.AddEvenRefIdeal.Facts) (hAddOdd : Cert.AddOdd.Facts) (hAddOddIdeal : Cert.AddOddIdeal.Facts) (hAddOddRefIdeal : Cert.AddOddRefIdeal.Facts) (hPre_finite : Cert.Pre_finite.Facts) (hPre_finite_ln : Cert.Pre_finite_ln.Facts) (hPre_finite_loss : Cert.Pre_finite_loss.Facts) (hPre_finite_fwd : Cert.Pre_finite_fwd.Facts),
    quiescent_Pool (hPool := hPool)
    ∧ quiescent_PoolIdeal (hPoolIdeal := hPoolIdeal)
    ∧ quiescent_PoolIdeal_pre_finite (hPoolIdeal := hPoolIdeal) (hPre_finite := hPre_finite)
    ∧ quiescent_PoolRefIdeal (hPoolRefIdeal := hPoolRefIdeal)
    ∧ quiescent_PoolRefIdeal_pre_finite (hPoolRefIdeal := hPoolRefIdeal) (hPre_finite := hPre_finite)
    ∧ quiescent_InOdd (hInOdd := hInOdd)
    ∧ quiescent_InOddIdeal (hInOddIdeal := hInOddIdeal)
    ∧ quiescent_InOddRefIdeal (hInOddRefIdeal := hInOddRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_DMix (hDMix := hDMix)
    ∧ quiescent_DMixIdeal (hDMixIdeal := hDMixIdeal)
    ∧ quiescent_DMixRefIdeal (hDMixRefIdeal := hDMixRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwOdd (hDwOdd := hDwOdd)
    ∧ quiescent_DwOddIdeal (hDwOddIdeal := hDwOddIdeal)
    ∧ quiescent_DwOddRefIdeal (hDwOddRefIdeal := hDwOddRefIdeal)
    ∧ quiescent_DwEven (hDwEven := hDwEven)
    ∧ quiescent_DwEvenIdeal (hDwEvenIdeal := hDwEvenIdeal)
    ∧ quiescent_DwEvenRefIdeal (hDwEvenRefIdeal := hDwEvenRefIdeal)
    ∧ quiescent_DxOdd (hDxOdd := hDxOdd)
    ∧ quiescent_DxOddIdeal (hDxOddIdeal := hDxOddIdeal)
    ∧ quiescent_DxOddRefIdeal (hDxOddRefIdeal := hDxOddRefIdeal)
    ∧ quiescent_DxEven (hDxEven := hDxEven)
    ∧ quiescent_DxEvenIdeal (hDxEvenIdeal := hDxEvenIdeal)
    ∧ quiescent_DxEvenRefIdeal (hDxEvenRefIdeal := hDxEvenRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LossLn (hLossLn := hLossLn)
    ∧ quiescent_LossLnIdeal (hLossLnIdeal := hLossLnIdeal)
    ∧ quiescent_LossLnIdeal_pre_finite_loss (hLossLnIdeal := hLossLnIdeal) (hPre_finite_loss := hPre_finite_loss)
    ∧ quiescent_LossLnRefIdeal (hLossLnRefIdeal := hLossLnRefIdeal)
    ∧ quiescent_LossLnRefIdeal_pre_finite_loss (hLossLnRefIdeal := hLossLnRefIdeal) (hPre_finite_loss := hPre_finite_loss)
    ∧ quiescent_PoolFwd (hPoolFwd := hPoolFwd)
    ∧ quiescent_PoolFwdIdeal (hPoolFwdIdeal := hPoolFwdIdeal)
    ∧ quiescent_PoolFwdIdeal_pre_finite_fwd (hPoolFwdIdeal := hPoolFwdIdeal) (hPre_finite_fwd := hPre_finite_fwd)
    ∧ quiescent_PoolFwdRefIdeal (hPoolFwdRefIdeal := hPoolFwdRefIdeal)
    ∧ quiescent_PoolFwdRefIdeal_pre_finite_fwd (hPoolFwdRefIdeal := hPoolFwdRefIdeal) (hPre_finite_fwd := hPre_finite_fwd)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamEven (hAdamEven := hAdamEven)
    ∧ quiescent_AdamEvenIdeal (hAdamEvenIdeal := hAdamEvenIdeal)
    ∧ quiescent_AdamEvenRefIdeal (hAdamEvenRefIdeal := hAdamEvenRefIdeal)
    ∧ quiescent_AdamOdd (hAdamOdd := hAdamOdd)
    ∧ quiescent_AdamOddIdeal (hAdamOddIdeal := hAdamOddIdeal)
    ∧ quiescent_AdamOddRefIdeal (hAdamOddRefIdeal := hAdamOddRefIdeal)
    ∧ quiescent_RsFinal (hRsFinal := hRsFinal)
    ∧ quiescent_RsFinalIdeal (hRsFinalIdeal := hRsFinalIdeal)
    ∧ quiescent_RsFinalRefIdeal (hRsFinalRefIdeal := hRsFinalRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_CastX (hCastX := hCastX)
    ∧ quiescent_CastXIdeal (hCastXIdeal := hCastXIdeal)
    ∧ quiescent_CastXRefIdeal (hCastXRefIdeal := hCastXRefIdeal)
    ∧ quiescent_AddOut (hAddOut := hAddOut)
    ∧ quiescent_AddOutIdeal (hAddOutIdeal := hAddOutIdeal)
    ∧ quiescent_AddOutRefIdeal (hAddOutRefIdeal := hAddOutRefIdeal)
    ∧ quiescent_AddEven (hAddEven := hAddEven)
    ∧ quiescent_AddEvenIdeal (hAddEvenIdeal := hAddEvenIdeal)
    ∧ quiescent_AddEvenRefIdeal (hAddEvenRefIdeal := hAddEvenRefIdeal)
    ∧ quiescent_AddOdd (hAddOdd := hAddOdd)
    ∧ quiescent_AddOddIdeal (hAddOddIdeal := hAddOddIdeal)
    ∧ quiescent_AddOddRefIdeal (hAddOddRefIdeal := hAddOddRefIdeal)
    ∧ preserves_Pool_PoolIdeal
    ∧ algebraic_PoolIdeal_PoolRefIdeal_pre_finite (hPoolIdeal := hPoolIdeal) (hPoolRefIdeal := hPoolRefIdeal) (hPre_finite := hPre_finite)
    ∧ preserves_InOdd_InOddIdeal
    ∧ algebraic_InOddIdeal_InOddRefIdeal (hInOddIdeal := hInOddIdeal) (hInOddRefIdeal := hInOddRefIdeal)
    ∧ preserves_InEven_InEvenIdeal
    ∧ algebraic_InEvenIdeal_InEvenRefIdeal (hInEvenIdeal := hInEvenIdeal) (hInEvenRefIdeal := hInEvenRefIdeal)
    ∧ preserves_DMix_DMixIdeal
    ∧ algebraic_DMixIdeal_DMixRefIdeal (hDMixIdeal := hDMixIdeal) (hDMixRefIdeal := hDMixRefIdeal)
    ∧ preserves_DwOut_DwOutIdeal
    ∧ algebraic_DwOutIdeal_DwOutRefIdeal (hDwOutIdeal := hDwOutIdeal) (hDwOutRefIdeal := hDwOutRefIdeal)
    ∧ preserves_DwOdd_DwOddIdeal
    ∧ algebraic_DwOddIdeal_DwOddRefIdeal (hDwOddIdeal := hDwOddIdeal) (hDwOddRefIdeal := hDwOddRefIdeal)
    ∧ preserves_DwEven_DwEvenIdeal
    ∧ algebraic_DwEvenIdeal_DwEvenRefIdeal (hDwEvenIdeal := hDwEvenIdeal) (hDwEvenRefIdeal := hDwEvenRefIdeal)
    ∧ preserves_DxOdd_DxOddIdeal
    ∧ algebraic_DxOddIdeal_DxOddRefIdeal (hDxOddIdeal := hDxOddIdeal) (hDxOddRefIdeal := hDxOddRefIdeal)
    ∧ preserves_DxEven_DxEvenIdeal
    ∧ algebraic_DxEvenIdeal_DxEvenRefIdeal (hDxEvenIdeal := hDxEvenIdeal) (hDxEvenRefIdeal := hDxEvenRefIdeal)
    ∧ preserves_OutLn_OutLnIdeal
    ∧ algebraic_OutLnIdeal_OutLnRefIdeal (hOutLnIdeal := hOutLnIdeal) (hOutLnRefIdeal := hOutLnRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LossLn_LossLnIdeal
    ∧ algebraic_LossLnIdeal_LossLnRefIdeal_pre_finite_loss (hLossLnIdeal := hLossLnIdeal) (hLossLnRefIdeal := hLossLnRefIdeal) (hPre_finite_loss := hPre_finite_loss)
    ∧ preserves_PoolFwd_PoolFwdIdeal
    ∧ algebraic_PoolFwdIdeal_PoolFwdRefIdeal_pre_finite_fwd (hPoolFwdIdeal := hPoolFwdIdeal) (hPoolFwdRefIdeal := hPoolFwdRefIdeal) (hPre_finite_fwd := hPre_finite_fwd)
    ∧ preserves_AdamOut_AdamOutIdeal
    ∧ algebraic_AdamOutIdeal_AdamOutRefIdeal (hAdamOutIdeal := hAdamOutIdeal) (hAdamOutRefIdeal := hAdamOutRefIdeal)
    ∧ preserves_AdamEven_AdamEvenIdeal
    ∧ algebraic_AdamEvenIdeal_AdamEvenRefIdeal (hAdamEvenIdeal := hAdamEvenIdeal) (hAdamEvenRefIdeal := hAdamEvenRefIdeal)
    ∧ preserves_AdamOdd_AdamOddIdeal
    ∧ algebraic_AdamOddIdeal_AdamOddRefIdeal (hAdamOddIdeal := hAdamOddIdeal) (hAdamOddRefIdeal := hAdamOddRefIdeal)
    ∧ preserves_RsFinal_RsFinalIdeal
    ∧ algebraic_RsFinalIdeal_RsFinalRefIdeal (hRsFinalIdeal := hRsFinalIdeal) (hRsFinalRefIdeal := hRsFinalRefIdeal)
    ∧ preserves_SumSmall_SumSmallIdeal
    ∧ algebraic_SumSmallIdeal_SumSmallRefIdeal (hSumSmallIdeal := hSumSmallIdeal) (hSumSmallRefIdeal := hSumSmallRefIdeal)
    ∧ preserves_CastX_CastXIdeal
    ∧ algebraic_CastXIdeal_CastXRefIdeal (hCastXIdeal := hCastXIdeal) (hCastXRefIdeal := hCastXRefIdeal)
    ∧ preserves_AddOut_AddOutIdeal
    ∧ algebraic_AddOutIdeal_AddOutRefIdeal (hAddOutIdeal := hAddOutIdeal) (hAddOutRefIdeal := hAddOutRefIdeal)
    ∧ preserves_AddEven_AddEvenIdeal
    ∧ algebraic_AddEvenIdeal_AddEvenRefIdeal (hAddEvenIdeal := hAddEvenIdeal) (hAddEvenRefIdeal := hAddEvenRefIdeal)
    ∧ preserves_AddOdd_AddOddIdeal
    ∧ algebraic_AddOddIdeal_AddOddRefIdeal (hAddOddIdeal := hAddOddIdeal) (hAddOddRefIdeal := hAddOddRefIdeal)
-- ==== Pre_finite.lean ====
abbrev S2048x4096 : Shape := ⟨2, ![2048, 4096]⟩
abbrev S2x2048x1024 : Shape := ⟨3, ![2, 2048, 1024]⟩
abbrev S4x2048x1024 : Shape := ⟨3, ![4, 2048, 1024]⟩
abbrev S4x256x256 : Shape := ⟨3, ![4, 256, 256]⟩
abbrev S1024 : Shape := ⟨1, ![1024]⟩
abbrev S_ : Shape := ⟨0, ![]⟩

class Facts : Prop where
  bcast_S_S2048x4096 : S_.BroadcastsInDim S2048x4096 (![] : Fin 0 → Fin S2048x4096.rank)
  bcast_S_S2x2048x1024 : S_.BroadcastsInDim S2x2048x1024 (![] : Fin 0 → Fin S2x2048x1024.rank)
  bcast_S_S4x256x256 : S_.BroadcastsInDim S4x256x256 (![] : Fin 0 → Fin S4x256x256.rank)
  bcast_S_S1024 : S_.BroadcastsInDim S1024 (![] : Fin 0 → Fin S1024.rank)

variable [Facts]

def fn {F : FTy → Type} [FloatOps F] (main_arg0 : FVec F S2048x4096 .f32) (main_arg1 : FVec F S2x2048x1024 .f32) (main_arg2 : FVec F S4x2048x1024 .bf16) (main_arg3 : FVec F S4x256x256 .f32) (main_arg4 : FVec F S1024 .f32) : IVec S2048x4096 1 × IVec S2x2048x1024 1 × IVec S4x256x256 1 × IVec S1024 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S4x256x256 .f32 := Host.absf main_arg3
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_fwd.lean ====
abbrev S2048x4096 : Shape := ⟨2, ![2048, 4096]⟩
abbrev S2x2048x1024 : Shape := ⟨3, ![2, 2048, 1024]⟩
abbrev S4x256x256 : Shape := ⟨3, ![4, 256, 256]⟩
abbrev S1024 : Shape := ⟨1, ![1024]⟩
abbrev S2048x1024 : Shape := ⟨2, ![2048, 1024]⟩
abbrev S_ : Shape := ⟨0, ![]⟩

class Facts : Prop where
  slices_S2048x4096_S2048x1024_0_2048 : S2048x4096.Slices ![0, 2048] S2048x1024
  bcast_S_S2048x1024 : S_.BroadcastsInDim S2048x1024 (![] : Fin 0 → Fin S2048x1024.rank)

variable [Facts]

def fn {F : FTy → Type} [FloatOps F] (main_arg0 : FVec F S2048x4096 .f32) (main_arg1 : FVec F S2x2048x1024 .bf16) (main_arg2 : FVec F S4x256x256 .f32) (main_arg3 : FVec F S1024 .f32) : IVec S2048x1024 1 :=
  let main_v0 : FVec F S2048x1024 .f32 := (extractStridedSlice S2048x1024 ![0, 2048] · slices_S2048x4096_S2048x1024_0_2048) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  main_v3
-- ==== Pre_finite_ln.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048 .f32) : IVec S2048x2048 1 × IVec S2048x2048 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  (main_v2, main_v5, main_v8)
-- ==== Pre_finite_loss.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x2048 .f32) (main_arg2 : FVec F S2048x2048 .f32) (main_arg3 : FVec F S2048 .f32) : IVec S2048x2048 1 × IVec S2048x2048 1 × IVec S2048x2048 1 × IVec S2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  (main_v2, main_v5, main_v8, main_v11)
-- ==== Pool.lean ====
abbrev S2048x4096 : Shape := ⟨2, ![2048, 4096]⟩
abbrev S2x2048x1024 : Shape := ⟨3, ![2, 2048, 1024]⟩
abbrev S4x2048x1024 : Shape := ⟨3, ![4, 2048, 1024]⟩
abbrev S4x256x256 : Shape := ⟨3, ![4, 256, 256]⟩
abbrev S1024 : Shape := ⟨1, ![1024]⟩
abbrev S1x1024 : Shape := ⟨2, ![1, 1024]⟩
abbrev S2048x256 : Shape := ⟨2, ![2048, 256]⟩
abbrev S1x2048x256 : Shape := ⟨3, ![1, 2048, 256]⟩
abbrev S1x256x256 : Shape := ⟨3, ![1, 256, 256]⟩
abbrev S1x256 : Shape := ⟨2, ![1, 256]⟩
abbrev S2x2048x256 : Shape := ⟨3, ![2, 2048, 256]⟩
abbrev S256x256 : Shape := ⟨2, ![256, 256]⟩
abbrev S256 : Shape := ⟨1, ![256]⟩

abbrev nBuf : Space → Nat
  | .hbm => 11
  | .vmem => 18
  | .smem => 0
  | _ => 0

abbrev bufTy : (tb : Table) → Fin (tcTables nBuf tb) → BufTy
  | .hbm, ⟨0, _⟩ => ⟨S2048x4096, .f32⟩
  | .hbm, ⟨1, _⟩ => ⟨S2x2048x1024, .f32⟩
  | .hbm, ⟨2, _⟩ => ⟨S4x2048x1024, .bf16⟩
  | .hbm, ⟨3, _⟩ => ⟨S4x256x256, .f32⟩
  | .hbm, ⟨4, _⟩ => ⟨S1024, .f32⟩
  | .hbm, ⟨5, _⟩ => ⟨S4x256x256, .bf16⟩
  | .hbm, ⟨6, _⟩ => ⟨S4x256x256, .bf16⟩
  | .hbm, ⟨7, _⟩ => ⟨S1x1024, .f32⟩
  | .hbm, ⟨8, _⟩ => ⟨S4x2048x1024, .bf16⟩
  | .hbm, ⟨9, _⟩ => ⟨S4x256x256, .f32⟩
  | .hbm, ⟨10, _⟩ => ⟨S1x1024, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256, .f32⟩
  | .local _ .vmem, ⟨11, _⟩ => ⟨S1x256, .f32⟩
  | .local _ .vmem, ⟨12, _⟩ => ⟨S2x2048x256, .bf16⟩
  | .local _ .vmem, ⟨13, _⟩ => ⟨S2x2048x256, .bf16⟩
  | .local _ .vmem, ⟨14, _⟩ => ⟨S1x256x256, .f32⟩
  | .local _ .vmem, ⟨15, _⟩ => ⟨S1x256x256, .f32⟩
  | .local _ .vmem, ⟨16, _⟩ => ⟨S1x256, .f32⟩
  | .local _ .vmem, ⟨17, _⟩ => ⟨S1x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PoolRefIdeal.lean ====
abbrev S2048x4096 : Shape := ⟨2, ![2048, 4096]⟩
abbrev S2x2048x1024 : Shape := ⟨3, ![2, 2048, 1024]⟩
abbrev S4x2048x1024 : Shape := ⟨3, ![4, 2048, 1024]⟩
abbrev S4x256x256 : Shape := ⟨3, ![4, 256, 256]⟩
abbrev S1024 : Shape := ⟨1, ![1024]⟩
abbrev S2048x1024 : Shape := ⟨2, ![2048, 1024]⟩
abbrev S1x2048x1024 : Shape := ⟨3, ![1, 2048, 1024]⟩
abbrev S_ : Shape := ⟨0, ![]⟩
abbrev S2048 : Shape := ⟨1, ![2048]⟩
abbrev S1x2048x1 : Shape := ⟨3, ![1, 2048, 1]⟩
abbrev S1x2048x256 : Shape := ⟨3, ![1, 2048, 256]⟩
abbrev S1x2x256 : Shape := ⟨3, ![1, 2, 256]⟩
abbrev S1x2046x256 : Shape := ⟨3, ![1, 2046, 256]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S1x2048x1x256 : Shape := ⟨4, ![1, 2048, 1, 256]⟩
abbrev S1x2048x4x256 : Shape := ⟨4, ![1, 2048, 4, 256]⟩
abbrev S4x256x1x2048 : Shape := ⟨4, ![4, 256, 1, 2048]⟩
abbrev S1x1x1024 : Shape := ⟨3, ![1, 1, 1024]⟩
abbrev S1x1024 : Shape := ⟨2, ![1, 1024]⟩
abbrev S4x1x2048x256 : Shape := ⟨4, ![4, 1, 2048, 256]⟩

abbrev nBuf : Space → Nat
  | .hbm => 204
  | .vmem => 0
  | .smem => 0
  | _ => 0

abbrev hbmTy0_0 (i : Nat) : BufTy := match i % 128 with
  | 0 => ⟨S2048x4096, .f32⟩
  | 1 => ⟨S2x2048x1024, .f32⟩
  | 2 => ⟨S4x2048x1024, .bf16⟩
  | 3 => ⟨S4x256x256, .f32⟩
  | 4 => ⟨S1024, .f32⟩
  | 5 => ⟨S2048x1024, .f32⟩
  | 6 => ⟨S1x2048x1024, .f32⟩
  | 7 => ⟨S2048x1024, .f32⟩
  | 8 => ⟨S1x2048x1024, .f32⟩
  | 9 => ⟨S_, .f32⟩
  | 10 => ⟨S_, .f32⟩
  | 11 => ⟨S1x2048x1024, .f32⟩
  | 12 => ⟨S2048, .f32⟩
  | 13 => ⟨S1x2048x1, .f32⟩
  | 14 => ⟨S_, .f32⟩
  | 15 => ⟨S1x2048x1, .f32⟩
  | 16 => ⟨S1x2048x1, .f32⟩
  | 17 => ⟨S1x2048x256, .f32⟩
  | 18 => ⟨S_, .f32⟩
  | 19 => ⟨S1x2x256, .f32⟩
  | 20 => ⟨S1x2046x256, .f32⟩
  | 21 => ⟨S1x2048x256, .f32⟩
  | 22 => ⟨S_, .f32⟩
  | 23 => ⟨S1x2x256, .f32⟩
  | 24 => ⟨S1x2048x256, .f32⟩
  | 25 => ⟨S_, .f32⟩
  | 26 => ⟨S1x2048x1, .f32⟩
  | 27 => ⟨S1x2048x1, .f32⟩
  | 28 => ⟨S1x2048x256, .f32⟩
  | 29 => ⟨S1x2048x256, .f32⟩
  | 30 => ⟨S1x2048x256, .f32⟩
  | 31 => ⟨S1x2048x256, .f32⟩
  | 32 => ⟨S1x2048x256, .f32⟩
  | 33 => ⟨S_, .f32⟩
  | 34 => ⟨S1x4x256, .f32⟩
  | 35 => ⟨S1x2044x256, .f32⟩
  | 36 => ⟨S1x2048x256, .f32⟩
  | 37 => ⟨S_, .f32⟩
  | 38 => ⟨S1x4x256, .f32⟩
  | 39 => ⟨S1x2048x256, .f32⟩
  | 40 => ⟨S_, .f32⟩
  | 41 => ⟨S1x2048x1, .f32⟩
  | 42 => ⟨S1x2048x1, .f32⟩
  | 43 => ⟨S1x2048x256, .f32⟩
  | 44 => ⟨S1x2048x256, .f32⟩
  | 45 => ⟨S1x2048x256, .f32⟩
  | 46 => ⟨S1x2048x256, .f32⟩
  | 47 => ⟨S1x2048x256, .f32⟩
  | 48 => ⟨S_, .f32⟩
  | 49 => ⟨S1x8x256, .f32⟩
  | 50 => ⟨S1x2040x256, .f32⟩
  | 51 => ⟨S1x2048x256, .f32⟩
  | 52 => ⟨S_, .f32⟩
  | 53 => ⟨S1x8x256, .f32⟩
  | 54 => ⟨S1x2048x256, .f32⟩
  | 55 => ⟨S_, .f32⟩
  | 56 => ⟨S1x2048x1, .f32⟩
  | 57 => ⟨S1x2048x1, .f32⟩
  | 58 => ⟨S1x2048x256, .f32⟩
  | 59 => ⟨S1x2048x256, .f32⟩
  | 60 => ⟨S1x2048x256, .f32⟩
  | 61 => ⟨S1x2048x256, .f32⟩
  | 62 => ⟨S1x2048x256, .f32⟩
  | 63 => ⟨S_, .f32⟩
  | 64 => ⟨S1x16x256, .f32⟩
  | 65 => ⟨S1x2032x256, .f32⟩
  | 66 => ⟨S1x2048x256, .f32⟩
  | 67 => ⟨S_, .f32⟩
  | 68 => ⟨S1x16x256, .f32⟩
  | 69 => ⟨S1x2048x256, .f32⟩
  | 70 => ⟨S_, .f32⟩
  | 71 => ⟨S1x2048x1, .f32⟩
  | 72 => ⟨S1x2048x1, .f32⟩
  | 73 => ⟨S1x2048x256, .f32⟩
  | 74 => ⟨S1x2048x256, .f32⟩
  | 75 => ⟨S1x2048x256, .f32⟩
  | 76 => ⟨S1x2048x256, .f32⟩
  | 77 => ⟨S1x2048x1x256, .f32⟩
  | 78 => ⟨S1x2048x1x256, .f32⟩
  | 79 => ⟨S1x2048x1x256, .f32⟩
  | 80 => ⟨S1x2048x1x256, .f32⟩
  | 81 => ⟨S1x2048x4x256, .f32⟩
  | 82 => ⟨S4x256x1x2048, .f32⟩
  | 83 => ⟨S1x2048x4x256, .f32⟩
  | 84 => ⟨S1x2048x1024, .f32⟩
  | 85 => ⟨S1x1x1024, .f32⟩
  | 86 => ⟨S1x2048x1024, .f32⟩
  | 87 => ⟨S1x2048x1024, .f32⟩
  | 88 => ⟨S1x2048x1024, .f32⟩
  | 89 => ⟨S1x2048x1024, .f32⟩
  | 90 => ⟨S_, .f32⟩
  | 91 => ⟨S1x2048x1024, .f32⟩
  | 92 => ⟨S1x2048x1024, .f32⟩
  | 93 => ⟨S_, .f32⟩
  | 94 => ⟨S1x2048x1024, .f32⟩
  | 95 => ⟨S1x2048x1024, .f32⟩
  | 96 => ⟨S_, .f32⟩
  | 97 => ⟨S1x2048x1024, .f32⟩
  | 98 => ⟨S1x2048x1024, .f32⟩
  | 99 => ⟨S1x2048x1024, .f32⟩
  | 100 => ⟨S1x2048x1024, .f32⟩
  | 101 => ⟨S1x2048x1024, .f32⟩
  | 102 => ⟨S1x2048x1024, .f32⟩
  | 103 => ⟨S2048x1024, .f32⟩
  | 104 => ⟨S1x2048x1024, .f32⟩
  | 105 => ⟨S1x2048x1024, .f32⟩
  | 106 => ⟨S1x2048x1024, .f32⟩
  | 107 => ⟨S1x2048x1024, .f32⟩
  | 108 => ⟨S1x2048x1024, .f32⟩
  | 109 => ⟨S1x2048x1024, .f32⟩
  | 110 => ⟨S1x2048x1024, .f32⟩
  | 111 => ⟨S1x2048x1024, .f32⟩
  | 112 => ⟨S_, .f32⟩
  | 113 => ⟨S1x1024, .f32⟩
  | 114 => ⟨S1x1x1024, .f32⟩
  | 115 => ⟨S1x2048x1024, .f32⟩
  | 116 => ⟨S1x2048x1024, .f32⟩
  | 117 => ⟨S_, .f32⟩
  | 118 => ⟨S1024, .f32⟩
  | 119 => ⟨S1x2048x4x256, .f32⟩
  | 120 => ⟨S4x256x1x2048, .f32⟩
  | 121 => ⟨S4x1x2048x256, .f32⟩
  | 122 => ⟨S1x2048x4x256, .f32⟩
  | 123 => ⟨S4x256x256, .f32⟩
  | 124 => ⟨S4x256x256, .f32⟩
  | 125 => ⟨S1x2048x1x256, .f32⟩
  | 126 => ⟨S1x2048x256, .f32⟩
  | 127 => ⟨S1x2048x1x256, .f32⟩
  | _ => ⟨S2048x4096, .f32⟩

abbrev hbmTy0_1 (i : Nat) : BufTy := match i % 128 with
  | 0 => ⟨S1x2048x256, .f32⟩
  | 1 => ⟨S1x2048x1x256, .f32⟩
  | 2 => ⟨S1x2048x256, .f32⟩
  | 3 => ⟨S1x2048x1x256, .f32⟩
  | 4 => ⟨S1x2048x256, .f32⟩
  | 5 => ⟨S1x2048x256, .f32⟩
  | 6 => ⟨S_, .f32⟩
  | 7 => ⟨S1x2048x1024, .f32⟩
  | 8 => ⟨S1x2048x256, .f32⟩
  | 9 => ⟨S1x2048x256, .f32⟩
  | 10 => ⟨S1x2048x256, .f32⟩
  | 11 => ⟨S1x16x256, .f32⟩
  | 12 => ⟨S1x2032x256, .f32⟩
  | 13 => ⟨S_, .f32⟩
  | 14 => ⟨S1x2048x256, .f32⟩
  | 15 => ⟨S1x2048x256, .f32⟩
  | 16 => ⟨S_, .f32⟩
  | 17 => ⟨S1x2048x1024, .f32⟩
  | 18 => ⟨S1x2048x256, .f32⟩
  | 19 => ⟨S_, .f32⟩
  | 20 => ⟨S1x2048x1024, .f32⟩
  | 21 => ⟨S1x2048x1024, .f32⟩
  | 22 => ⟨S1x2048x256, .f32⟩
  | 23 => ⟨S1x2048x256, .f32⟩
  | 24 => ⟨S1x2048x256, .f32⟩
  | 25 => ⟨S1x8x256, .f32⟩
  | 26 => ⟨S1x2040x256, .f32⟩
  | 27 => ⟨S_, .f32⟩
  | 28 => ⟨S1x2048x256, .f32⟩
  | 29 => ⟨S1x2048x256, .f32⟩
  | 30 => ⟨S_, .f32⟩
  | 31 => ⟨S1x2048x1024, .f32⟩
  | 32 => ⟨S1x2048x1024, .f32⟩
  | 33 => ⟨S1x2048x256, .f32⟩
  | 34 => ⟨S_, .f32⟩
  | 35 => ⟨S1x2048x1024, .f32⟩
  | 36 => ⟨S1x2048x1024, .f32⟩
  | 37 => ⟨S1x2048x256, .f32⟩
  | 38 => ⟨S1x2048x256, .f32⟩
  | 39 => ⟨S1x2048x256, .f32⟩
  | 40 => ⟨S1x4x256, .f32⟩
  | 41 => ⟨S1x2044x256, .f32⟩
  | 42 => ⟨S_, .f32⟩
  | 43 => ⟨S1x2048x256, .f32⟩
  | 44 => ⟨S1x2048x256, .f32⟩
  | 45 => ⟨S_, .f32⟩
  | 46 => ⟨S1x2048x1024, .f32⟩
  | 47 => ⟨S1x2048x1024, .f32⟩
  | 48 => ⟨S1x2048x256, .f32⟩
  | 49 => ⟨S_, .f32⟩
  | 50 => ⟨S1x2048x1024, .f32⟩
  | 51 => ⟨S1x2048x1024, .f32⟩
  | 52 => ⟨S1x2048x256, .f32⟩
  | 53 => ⟨S1x2048x256, .f32⟩
  | 54 => ⟨S1x2048x256, .f32⟩
  | 55 => ⟨S1x2x256, .f32⟩
  | 56 => ⟨S1x2046x256, .f32⟩
  | 57 => ⟨S_, .f32⟩
  | 58 => ⟨S1x2048x256, .f32⟩
  | 59 => ⟨S1x2048x256, .f32⟩
  | 60 => ⟨S_, .f32⟩
  | 61 => ⟨S1x2048x1024, .f32⟩
  | 62 => ⟨S1x2048x1024, .f32⟩
  | 63 => ⟨S_, .f32⟩
  | 64 => ⟨S_, .f32⟩
  | 65 => ⟨S1x2048x1024, .f32⟩
  | 66 => ⟨S1x2048x1024, .f32⟩
  | 67 => ⟨S2048x1024, .f32⟩
  | 68 => ⟨S2048x1024, .f32⟩
  | 69 => ⟨S1x2048x1024, .f32⟩
  | 70 => ⟨S1x2048x1024, .f32⟩
  | 71 => ⟨S2x2048x1024, .f32⟩
  | 72 => ⟨S2x2048x1024, .bf16⟩
  | 73 => ⟨S2x2048x1024, .bf16⟩
  | 74 => ⟨S4x2048x1024, .bf16⟩
  | 75 => ⟨S1x1024, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call1_v0 : Ref sig .tc := ⟨.hbm, 88, rfl⟩
abbrev main_call1_v1 : Ref sig .tc := ⟨.hbm, 89, rfl⟩
abbrev main_call1_cst : Ref sig .tc := ⟨.hbm, 90, rfl⟩
abbrev main_call1_v2 : Ref sig .tc := ⟨.hbm, 91, rfl⟩
abbrev main_call1_v3 : Ref sig .tc := ⟨.hbm, 92, rfl⟩
abbrev main_call1_cst_0 : Ref sig .tc := ⟨.hbm, 93, rfl⟩
abbrev main_call1_v4 : Ref sig .tc := ⟨.hbm, 94, rfl⟩
abbrev main_v68_2 : Ref sig .tc := ⟨.hbm, 95, rfl⟩
abbrev main_call1_cst_1 : Ref sig .tc := ⟨.hbm, 96, rfl⟩
abbrev main_call1_v6 : Ref sig .tc := ⟨.hbm, 97, rfl⟩
abbrev main_call1_v7 : Ref sig .tc := ⟨.hbm, 98, rfl⟩
abbrev main_v68_1 : Ref sig .tc := ⟨.hbm, 99, rfl⟩
abbrev main_v68_0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v75 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_13 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_14 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_15 : Ref sig .tc := ⟨.hbm, 141, rfl⟩
abbrev main_v103 : Ref sig .tc := ⟨.hbm, 142, rfl⟩
abbrev main_v104 : Ref sig .tc := ⟨.hbm, 143, rfl⟩
abbrev main_cst_16 : Ref sig .tc := ⟨.hbm, 144, rfl⟩
abbrev main_v105 : Ref sig .tc := ⟨.hbm, 145, rfl⟩
abbrev main_v106 : Ref sig .tc := ⟨.hbm, 146, rfl⟩
abbrev main_cst_17 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_18 : Ref sig .tc := ⟨.hbm, 155, rfl⟩
abbrev main_v114 : Ref sig .tc := ⟨.hbm, 156, rfl⟩
abbrev main_v115 : Ref sig .tc := ⟨.hbm, 157, rfl⟩
abbrev main_cst_19 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_20 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_21 : Ref sig .tc := ⟨.hbm, 170, rfl⟩
abbrev main_v126 : Ref sig .tc := ⟨.hbm, 171, rfl⟩
abbrev main_v127 : Ref sig .tc := ⟨.hbm, 172, rfl⟩
abbrev main_cst_22 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_23 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_24 : Ref sig .tc := ⟨.hbm, 185, rfl⟩
abbrev main_v138 : Ref sig .tc := ⟨.hbm, 186, rfl⟩
abbrev main_v139 : Ref sig .tc := ⟨.hbm, 187, rfl⟩
abbrev main_cst_25 : Ref sig .tc := ⟨.hbm, 188, rfl⟩
abbrev main_v140 : Ref sig .tc := ⟨.hbm, 189, rfl⟩
abbrev main_v141 : Ref sig .tc := ⟨.hbm, 190, rfl⟩
abbrev main_call3_call0_cst : Ref sig .tc := ⟨.hbm, 191, rfl⟩
abbrev main_call3_call0_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]
-- ==== InOdd.lean ====
abbrev S2048x2048 : Shape := ⟨2, ![2048, 2048]⟩
abbrev S2048x4096 : Shape := ⟨2, ![2048, 4096]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S4096x2048, .f32⟩
  | .hbm, ⟨3, _⟩ => ⟨S4096x2048, .bf16⟩
  | .hbm, ⟨4, _⟩ => ⟨S2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InOddRefIdeal.lean ====
abbrev S2048x2048 : Shape := ⟨2, ![2048, 2048]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x2048, .f32⟩
  | .hbm, ⟨3, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InEven.lean ====
abbrev S2048x2048 : Shape := ⟨2, ![2048, 2048]⟩
abbrev S2048x5376 : Shape := ⟨2, ![2048, 5376]⟩
abbrev S5376x2048 : Shape := ⟨2, ![5376, 2048]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .f32⟩
  | .hbm, ⟨2, _⟩ => ⟨S5376x2048, .f32⟩
  | .hbm, ⟨3, _⟩ => ⟨S5376x2048, .bf16⟩
  | .hbm, ⟨4, _⟩ => ⟨S2048x5376, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InEvenRefIdeal.lean ====
abbrev S2048x2048 : Shape := ⟨2, ![2048, 2048]⟩
abbrev S2048x5376 : Shape := ⟨2, ![2048, 5376]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5376, .f32⟩
  | .hbm, ⟨2, _⟩ => ⟨S2048x2048, .f32⟩
  | .hbm, ⟨3, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DMix.lean ====
abbrev S2048x2048 : Shape := ⟨2, ![2048, 2048]⟩
abbrev S2x2048x1024 : Shape := ⟨3, ![2, 2048, 1024]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S2x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024x1024, .f32⟩
  | .local _ .vmem, ⟨5, _⟩ => ⟨S1x1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DMixRefIdeal.lean ====
abbrev S2048x2048 : Shape := ⟨2, ![2048, 2048]⟩
abbrev S_ : Shape := ⟨0, ![]⟩
abbrev S2048x1024 : Shape := ⟨2, ![2048, 1024]⟩
abbrev S1x2048x1024 : Shape := ⟨3, ![1, 2048, 1024]⟩
abbrev S2x2048x1024 : Shape := ⟨3, ![2, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S1x2048x1024, .f32⟩
  | .hbm, ⟨13, _⟩ => ⟨S1x2048x1024, .f32⟩
  | .hbm, ⟨14, _⟩ => ⟨S2x2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DwOut.lean ====
abbrev S2x2048x1024 : Shape := ⟨3, ![2, 2048, 1024]⟩
abbrev S2048x2048 : Shape := ⟨2, ![2048, 2048]⟩
abbrev S1x2048x512 : Shape := ⟨3, ![1, 2048, 512]⟩
abbrev S512x2048 : Shape := ⟨2, ![512, 2048]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOutRefIdeal.lean ====
abbrev S2x2048x1024 : Shape := ⟨3, ![2, 2048, 1024]⟩
abbrev S2048x2048 : Shape := ⟨2, ![2048, 2048]⟩
abbrev S1x2048x1024 : Shape := ⟨3, ![1, 2048, 1024]⟩
abbrev S2048x1024 : Shape := ⟨2, ![2048, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .bf16⟩
  | .hbm, ⟨2, _⟩ => ⟨S1x2048x1024, .bf16⟩
  | .hbm, ⟨3, _⟩ => ⟨S2048x1024, .bf16⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S2048x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== DwOdd.lean ====
abbrev S4x2048x1024 : Shape := ⟨3, ![4, 2048, 1024]⟩
abbrev S2048x2048 : Shape := ⟨2, ![2048, 2048]⟩
abbrev S4096x2048 : Shape := ⟨2, ![4096, 2048]⟩
abbrev S1x2048x1024 : Shape := ⟨3, ![1, 2048, 1024]⟩
abbrev S1024x2048 : Shape := ⟨2, ![1024, 2048]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x1024, .bf16⟩
  | .hbm, ⟨1, _⟩ => ⟨S2048x2048, .bf16⟩
  | .hbm, ⟨2, _⟩ => ⟨S4096x2048, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwOddRefIdeal.lean ====
abbrev S4x2048x1024 : Shape := ⟨3, ![4, 2048, 1024]⟩
abbrev S2048x2048 : Shape := ⟨2, ![2048, 2048]⟩
abbrev S1x2048x1024 : Shape := ⟨3, ![1, 2048, 1024]⟩
abbrev S2048x1024 : Shape := ⟨2, ![2048, 1024]⟩
abbrev S2048x4096 : Shape := ⟨2, ![2048, 4096]⟩
abbrev S_ : Shape := ⟨0, ![]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2048x2048, .bf16⟩
  | .hbm, ⟨2, _⟩ => ⟨S1x2048x1024, .bf16⟩
  | .hbm, ⟨3, _⟩ => ⟨S2048x1024, .bf16⟩
  | .hbm, ⟨4, _⟩ => ⟨S1x2048x1024, .bf16⟩
  | .hbm, ⟨5, _⟩ => ⟨S2048x1024, .bf16⟩
  | .hbm, ⟨6, _⟩ => ⟨S1x2048x1024, .bf16⟩
  | .hbm, ⟨7, _⟩ => ⟨S2048x1024, .bf16⟩
  | .hbm, ⟨8, _⟩ => ⟨S1x2048x1024, .bf16⟩
  | .hbm, ⟨9, _⟩ => ⟨S2048x1024, .bf16⟩
  | .hbm, ⟨10, _⟩ => ⟨S2048x4096, .bf16⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x2048, .f32⟩
  | .hbm, ⟨15, _⟩ => ⟨S2048x4096, .f32⟩
  | .hbm, ⟨16, _⟩ => ⟨S4096x2048, .f32⟩
  | .hbm, ⟨17, _⟩ => ⟨S2048x4096, .f32⟩
  | .hbm, ⟨18, _⟩ => ⟨S2048x2048, .f32⟩
  | .hbm, ⟨19, _⟩ => ⟨S4096x2048, .f32⟩
  | .hbm, ⟨20, _⟩ => ⟨S4096x2048, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== DwEven.lean ====
abbrev S2048x5376 : Shape := ⟨2, ![2048, 5376]⟩
abbrev S2048x2048 : Shape := ⟨2, ![2048, 2048]⟩
abbrev S5376x2048 : Shape := ⟨2, ![5376, 2048]⟩
abbrev S2048x384 : Shape := ⟨2, ![2048, 384]⟩
abbrev S384x2048 : Shape := ⟨2, ![384, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x5376, .bf16⟩
  | .hbm, ⟨1, _⟩ => ⟨S2048x2048, .bf16⟩
  | .hbm, ⟨2, _⟩ => ⟨S5376x2048, .bf16⟩
  | .local _ .vmem, ⟨0, _⟩ => ⟨S2048x384, .bf16⟩
  | .local _ .vmem, ⟨1, _⟩ => ⟨S2048x384, .bf16⟩
  | .local _ .vmem, ⟨2, _⟩ => ⟨S2048x2048, .bf16⟩
  | .local _ .vmem, ⟨3, _⟩ => ⟨S384x2048, .bf16⟩
  | .local _ .vmem, ⟨4, _⟩ => ⟨S384x2048, .bf16⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DwEvenRefIdeal.lean ====
abbrev S2048x5376 : Shape := ⟨2, ![2048, 5376]⟩
abbrev S2048x2048 : Shape := ⟨2, ![2048, 2048]⟩
abbrev S_ : Shape := ⟨0, ![]⟩
abbrev S5376x2048 : Shape := ⟨2, ![5376, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x2048, .bf16⟩
  | .hbm, ⟨2, _⟩ => ⟨S_, .f32⟩
  | .hbm, ⟨3, _⟩ => ⟨S2048x5376, .f32⟩
  | .hbm, ⟨4, _⟩ => ⟨S2048x2048, .f32⟩
  | .hbm, ⟨5, _⟩ => ⟨S2048x5376, .f32⟩
  | .hbm, ⟨6, _⟩ => ⟨S2048x5376, .f32⟩
  | .hbm, ⟨7, _⟩ => ⟨S5376x2048, .f32⟩
  | .hbm, ⟨8, _⟩ => ⟨S2048x5376, .f32⟩
  | .hbm, ⟨9, _⟩ => ⟨S2048x2048, .f32⟩
  | .hbm, ⟨10, _⟩ => ⟨S5376x2048, .f32⟩
  | .hbm, ⟨11, _⟩ => ⟨S5376x2048, .bf16⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DxOdd.lean ====
abbrev S4x2048x1024 : Shape := ⟨3, ![4, 2048, 1024]⟩
abbrev S2048x4096 : Shape := ⟨2, ![2048, 4096]⟩
abbrev S2048x2048 : Shape := ⟨2, ![2048, 2048]⟩
abbrev S4096x2048 : Shape := ⟨2, ![4096, 2048]⟩
abbrev S4x512x1024 : Shape := ⟨3, ![4, 512, 1024]⟩
abbrev S4096x1024 : Shape := ⟨2, ![4096, 1024]⟩
abbrev S512x1024 : Shape := ⟨2, ![512, 1024]⟩
abbrev S1x512x1024 : Shape := ⟨3, ![1, 512, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S2048x4096, .f32⟩
  | .hbm, ⟨2, _⟩ => ⟨S2048x2048, .f32⟩
  | .hbm, ⟨3, _⟩ => ⟨S4096x2048, .f32⟩
  | .hbm, ⟨4, _⟩ => ⟨S4096x2048, .bf16⟩
  | .hbm, ⟨5, _⟩ => ⟨S2048x2048, .f32⟩
  | .local _ .vmem, ⟨0, _⟩ => ⟨S4x512x1024, .bf16⟩
  | .local _ .vmem, ⟨1, _⟩ => ⟨S4x512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxOddRefIdeal.lean ====
abbrev S4x2048x1024 : Shape := ⟨3, ![4, 2048, 1024]⟩
abbrev S2048x4096 : Shape := ⟨2, ![2048, 4096]⟩
abbrev S2048x2048 : Shape := ⟨2, ![2048, 2048]⟩
abbrev S1x2048x1024 : Shape := ⟨3, ![1, 2048, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S2048x4096, .f32⟩
  | .hbm, ⟨2, _⟩ => ⟨S2048x2048, .f32⟩
  | .hbm, ⟨3, _⟩ => ⟨S1x2048x1024, .bf16⟩
  | .hbm, ⟨4, _⟩ => ⟨S2048x1024, .bf16⟩
  | .hbm, ⟨5, _⟩ => ⟨S1x2048x1024, .bf16⟩
  | .hbm, ⟨6, _⟩ => ⟨S2048x1024, .bf16⟩
  | .hbm, ⟨7, _⟩ => ⟨S1x2048x1024, .bf16⟩
  | .hbm, ⟨8, _⟩ => ⟨S2048x1024, .bf16⟩
  | .hbm, ⟨9, _⟩ => ⟨S1x2048x1024, .bf16⟩
  | .hbm, ⟨10, _⟩ => ⟨S2048x1024, .bf16⟩
  | .hbm, ⟨11, _⟩ => ⟨S2048x4096, .bf16⟩
  | .hbm, ⟨12, _⟩ => ⟨S2048x4096, .f32⟩
  | .hbm, ⟨13, _⟩ => ⟨S_, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x4096, .f32⟩
  | .hbm, ⟨19, _⟩ => ⟨S4096x2048, .f32⟩
  | .hbm, ⟨20, _⟩ => ⟨S2048x4096, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== DxEven.lean ====
abbrev S2048x5376 : Shape := ⟨2, ![2048, 5376]⟩
abbrev S2048x2048 : Shape := ⟨2, ![2048, 2048]⟩
abbrev S5376x2048 : Shape := ⟨2, ![5376, 2048]⟩
abbrev S512x5376 : Shape := ⟨2, ![512, 5376]⟩
abbrev S5376x1024 : Shape := ⟨2, ![5376, 1024]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S5376x2048, .f32⟩
  | .hbm, ⟨4, _⟩ => ⟨S5376x2048, .bf16⟩
  | .hbm, ⟨5, _⟩ => ⟨S2048x2048, .f32⟩
  | .local _ .vmem, ⟨0, _⟩ => ⟨S512x5376, .bf16⟩
  | .local _ .vmem, ⟨1, _⟩ => ⟨S512x5376, .bf16⟩
  | .local _ .vmem, ⟨2, _⟩ => ⟨S5376x1024, .bf16⟩
  | .local _ .vmem, ⟨3, _⟩ => ⟨S5376x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxEvenRefIdeal.lean ====
abbrev S2048x5376 : Shape := ⟨2, ![2048, 5376]⟩
abbrev S2048x2048 : Shape := ⟨2, ![2048, 2048]⟩
abbrev S_ : Shape := ⟨0, ![]⟩
abbrev S5376x2048 : Shape := ⟨2, ![5376, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S2048x5376, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x5376, .f32⟩
  | .hbm, ⟨9, _⟩ => ⟨S2048x5376, .f32⟩
  | .hbm, ⟨10, _⟩ => ⟨S5376x2048, .f32⟩
  | .hbm, ⟨11, _⟩ => ⟨S2048x5376, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== OutLn.lean ====
abbrev S2x2048x1024 : Shape := ⟨3, ![2, 2048, 1024]⟩
abbrev S2048x2048 : Shape := ⟨2, ![2048, 2048]⟩
abbrev S2048 : Shape := ⟨1, ![2048]⟩
abbrev S1x2048 : Shape := ⟨2, ![1, 2048]⟩
abbrev S2x512x1024 : Shape := ⟨3, ![2, 512, 1024]⟩
abbrev S512x2048 : Shape := ⟨2, ![512, 2048]⟩
abbrev S1x512x1024 : Shape := ⟨3, ![1, 512, 1024]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .local _ .vmem, ⟨0, _⟩ => ⟨S2x512x1024, .bf16⟩
  | .local _ .vmem, ⟨1, _⟩ => ⟨S2x512x1024, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnRefIdeal.lean ====
abbrev S2x2048x1024 : Shape := ⟨3, ![2, 2048, 1024]⟩
abbrev S2048x2048 : Shape := ⟨2, ![2048, 2048]⟩
abbrev S2048 : Shape := ⟨1, ![2048]⟩
abbrev S1x2048x1024 : Shape := ⟨3, ![1, 2048, 1024]⟩
abbrev S2048x1024 : Shape := ⟨2, ![2048, 1024]⟩
abbrev S_ : Shape := ⟨0, ![]⟩
abbrev S2048x1 : Shape := ⟨2, ![2048, 1]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S1x2048x1024, .bf16⟩
  | .hbm, ⟨9, _⟩ => ⟨S2048x1024, .bf16⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== LnBwd.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S1x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S2048x1, .f32⟩
  | .hbm, ⟨54, _⟩ => ⟨S2048x2048, .f32⟩
  | .hbm, ⟨55, _⟩ => ⟨S2048x2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x2048, .f32⟩
  | .hbm, ⟨77, _⟩ => ⟨S2048x2048, .f32⟩
  | .hbm, ⟨78, _⟩ => ⟨S2048x2048, .bf16⟩
  | .hbm, ⟨79, _⟩ => ⟨S1x2048, .f32⟩
  | .hbm, ⟨80, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_cst_14 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== LossLn.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | .local _ .vmem, ⟨13, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossLnRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x128 : Shape := ⟨2, ![8, 128]⟩

abbrev nBuf : Space → Nat
  | .hbm => 110
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S1x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S1x2048, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S1x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x2048, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S2048x2048, .f32⟩
  | .hbm, ⟨79, _⟩ => ⟨S2048x2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x2048, .f32⟩
  | .hbm, ⟨87, _⟩ => ⟨S2048x2048, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S_, .f32⟩
  | .hbm, ⟨93, _⟩ => ⟨S2048, .f32⟩
  | .hbm, ⟨94, _⟩ => ⟨S2048x1, .f32⟩
  | .hbm, ⟨95, _⟩ => ⟨S_, .f32⟩
  | .hbm, ⟨96, _⟩ => ⟨S2048x1, .f32⟩
  | .hbm, ⟨97, _⟩ => ⟨S2048x1, .f32⟩
  | .hbm, ⟨98, _⟩ => ⟨S_, .f32⟩
  | .hbm, ⟨99, _⟩ => ⟨S2048, .f32⟩
  | .hbm, ⟨100, _⟩ => ⟨S2048x2048, .f32⟩
  | .hbm, ⟨101, _⟩ => ⟨S2048x2048, .f32⟩
  | .hbm, ⟨102, _⟩ => ⟨S2048x2048, .bf16⟩
  | .hbm, ⟨103, _⟩ => ⟨S1x2048, .f32⟩
  | .hbm, ⟨104, _⟩ => ⟨S1x2048, .f32⟩
  | .hbm, ⟨105, _⟩ => ⟨S2048x2048, .f32⟩
  | .hbm, ⟨106, _⟩ => ⟨S2048x2048, .f32⟩
  | .hbm, ⟨107, _⟩ => ⟨S_, .f32⟩
  | .hbm, ⟨108, _⟩ => ⟨S_, .f32⟩
  | .hbm, ⟨109, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_cst_5 : Ref sig .tc := ⟨.hbm, 19, rfl⟩
abbrev main_v9 : Ref sig .tc := ⟨.hbm, 20, rfl⟩
abbrev main_v10 : Ref sig .tc := ⟨.hbm, 21, rfl⟩
abbrev main_cst_6 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_cst_8 : Ref sig .tc := ⟨.hbm, 29, rfl⟩
abbrev main_v16 : Ref sig .tc := ⟨.hbm, 30, rfl⟩
abbrev main_v17 : Ref sig .tc := ⟨.hbm, 31, rfl⟩
abbrev main_cst_9 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_10 : Ref sig .tc := ⟨.hbm, 38, rfl⟩
abbrev main_v23 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev main_v26 : Ref sig .tc := ⟨.hbm, 43, rfl⟩
abbrev main_cst_12 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_13 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_cst_16 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_17 : Ref sig .tc := ⟨.hbm, 72, rfl⟩
abbrev main_v50 : Ref sig .tc := ⟨.hbm, 73, rfl⟩
abbrev main_v51 : Ref sig .tc := ⟨.hbm, 74, rfl⟩
abbrev main_cst_18 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_cst_20 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_21 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_24 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== PoolFwd.lean ====
abbrev S2048x4096 : Shape := ⟨2, ![2048, 4096]⟩
abbrev S2x2048x1024 : Shape := ⟨3, ![2, 2048, 1024]⟩
abbrev S4x256x256 : Shape := ⟨3, ![4, 256, 256]⟩
abbrev S1024 : Shape := ⟨1, ![1024]⟩
abbrev S1x1024 : Shape := ⟨2, ![1, 1024]⟩
abbrev S2048x256 : Shape := ⟨2, ![2048, 256]⟩
abbrev S1x256x256 : Shape := ⟨3, ![1, 256, 256]⟩
abbrev S1x256 : Shape := ⟨2, ![1, 256]⟩
abbrev S1x2048x256 : Shape := ⟨3, ![1, 2048, 256]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S2x2048x1024, .bf16⟩
  | .hbm, ⟨2, _⟩ => ⟨S4x256x256, .f32⟩
  | .hbm, ⟨3, _⟩ => ⟨S1024, .f32⟩
  | .hbm, ⟨4, _⟩ => ⟨S4x256x256, .bf16⟩
  | .hbm, ⟨5, _⟩ => ⟨S1x1024, .f32⟩
  | .hbm, ⟨6, _⟩ => ⟨S2x2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S2048x4096 : Shape := ⟨2, ![2048, 4096]⟩
abbrev S2x2048x1024 : Shape := ⟨3, ![2, 2048, 1024]⟩
abbrev S4x256x256 : Shape := ⟨3, ![4, 256, 256]⟩
abbrev S1024 : Shape := ⟨1, ![1024]⟩
abbrev S2048x1024 : Shape := ⟨2, ![2048, 1024]⟩
abbrev S1x2048x1024 : Shape := ⟨3, ![1, 2048, 1024]⟩
abbrev S_ : Shape := ⟨0, ![]⟩
abbrev S2048 : Shape := ⟨1, ![2048]⟩
abbrev S1x2048x1 : Shape := ⟨3, ![1, 2048, 1]⟩
abbrev S1x2048x256 : Shape := ⟨3, ![1, 2048, 256]⟩
abbrev S1x2x256 : Shape := ⟨3, ![1, 2, 256]⟩
abbrev S1x2046x256 : Shape := ⟨3, ![1, 2046, 256]⟩
abbrev S1x4x256 : Shape := ⟨3, ![1, 4, 256]⟩
abbrev S1x2044x256 : Shape := ⟨3, ![1, 2044, 256]⟩
abbrev S1x8x256 : Shape := ⟨3, ![1, 8, 256]⟩
abbrev S1x2040x256 : Shape := ⟨3, ![1, 2040, 256]⟩
abbrev S1x16x256 : Shape := ⟨3, ![1, 16, 256]⟩
abbrev S1x2032x256 : Shape := ⟨3, ![1, 2032, 256]⟩
abbrev S1x2048x1x256 : Shape := ⟨4, ![1, 2048, 1, 256]⟩
abbrev S1x2048x4x256 : Shape := ⟨4, ![1, 2048, 4, 256]⟩
abbrev S4x256x1x2048 : Shape := ⟨4, ![4, 256, 1, 2048]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2x2048x1024, .bf16⟩
  | .hbm, ⟨2, _⟩ => ⟨S4x256x256, .f32⟩
  | .hbm, ⟨3, _⟩ => ⟨S1024, .f32⟩
  | .hbm, ⟨4, _⟩ => ⟨S2048x1024, .f32⟩
  | .hbm, ⟨5, _⟩ => ⟨S1x2048x1024, .f32⟩
  | .hbm, ⟨6, _⟩ => ⟨S2048x1024, .f32⟩
  | .hbm, ⟨7, _⟩ => ⟨S1x2048x1024, .f32⟩
  | .hbm, ⟨8, _⟩ => ⟨S_, .f32⟩
  | .hbm, ⟨9, _⟩ => ⟨S_, .f32⟩
  | .hbm, ⟨10, _⟩ => ⟨S1x2048x1024, .f32⟩
  | .hbm, ⟨11, _⟩ => ⟨S2048, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x256, .f32⟩
  | .hbm, ⟨17, _⟩ => ⟨S_, .f32⟩
  | .hbm, ⟨18, _⟩ => ⟨S1x2x256, .f32⟩
  | .hbm, ⟨19, _⟩ => ⟨S1x2046x256, .f32⟩
  | .hbm, ⟨20, _⟩ => ⟨S1x2048x256, .f32⟩
  | .hbm, ⟨21, _⟩ => ⟨S1x2048x256, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x256, .f32⟩
  | .hbm, ⟨26, _⟩ => ⟨S1x2048x256, .f32⟩
  | .hbm, ⟨27, _⟩ => ⟨S1x2048x256, .f32⟩
  | .hbm, ⟨28, _⟩ => ⟨S1x2048x256, .f32⟩
  | .hbm, ⟨29, _⟩ => ⟨S1x2048x256, .f32⟩
  | .hbm, ⟨30, _⟩ => ⟨S_, .f32⟩
  | .hbm, ⟨31, _⟩ => ⟨S1x4x256, .f32⟩
  | .hbm, ⟨32, _⟩ => ⟨S1x2044x256, .f32⟩
  | .hbm, ⟨33, _⟩ => ⟨S1x2048x256, .f32⟩
  | .hbm, ⟨34, _⟩ => ⟨S1x2048x256, .f32⟩
  | .hbm, ⟨35, _⟩ => ⟨S_, .f32⟩
  | .hbm, ⟨36, _⟩ => ⟨S1x2048x1, .f32⟩
  | .hbm, ⟨37, _⟩ => ⟨S1x2048x1, .f32⟩
  | .hbm, ⟨38, _⟩ => ⟨S1x2048x256, .f32⟩
  | .hbm, ⟨39, _⟩ => ⟨S1x2048x256, .f32⟩
  | .hbm, ⟨40, _⟩ => ⟨S1x2048x256, .f32⟩
  | .hbm, ⟨41, _⟩ => ⟨S1x2048x256, .f32⟩
  | .hbm, ⟨42, _⟩ => ⟨S1x2048x256, .f32⟩
  | .hbm, ⟨43, _⟩ => ⟨S_, .f32⟩
  | .hbm, ⟨44, _⟩ => ⟨S1x8x256, .f32⟩
  | .hbm, ⟨45, _⟩ => ⟨S1x2040x256, .f32⟩
  | .hbm, ⟨46, _⟩ => ⟨S1x2048x256, .f32⟩
  | .hbm, ⟨47, _⟩ => ⟨S1x2048x256, .f32⟩
  | .hbm, ⟨48, _⟩ => ⟨S_, .f32⟩
  | .hbm, ⟨49, _⟩ => ⟨S1x2048x1, .f32⟩
  | .hbm, ⟨50, _⟩ => ⟨S1x2048x1, .f32⟩
  | .hbm, ⟨51, _⟩ => ⟨S1x2048x256, .f32⟩
  | .hbm, ⟨52, _⟩ => ⟨S1x2048x256, .f32⟩
  | .hbm, ⟨53, _⟩ => ⟨S1x2048x256, .f32⟩
  | .hbm, ⟨54, _⟩ => ⟨S1x2048x256, .f32⟩
  | .hbm, ⟨55, _⟩ => ⟨S1x2048x256, .f32⟩
  | .hbm, ⟨56, _⟩ => ⟨S_, .f32⟩
  | .hbm, ⟨57, _⟩ => ⟨S1x16x256, .f32⟩
  | .hbm, ⟨58, _⟩ => ⟨S1x2032x256, .f32⟩
  | .hbm, ⟨59, _⟩ => ⟨S1x2048x256, .f32⟩
  | .hbm, ⟨60, _⟩ => ⟨S1x2048x256, .f32⟩
  | .hbm, ⟨61, _⟩ => ⟨S_, .f32⟩
  | .hbm, ⟨62, _⟩ => ⟨S1x2048x1, .f32⟩
  | .hbm, ⟨63, _⟩ => ⟨S1x2048x1, .f32⟩
  | .hbm, ⟨64, _⟩ => ⟨S1x2048x256, .f32⟩
  | .hbm, ⟨65, _⟩ => ⟨S1x2048x256, .f32⟩
  | .hbm, ⟨66, _⟩ => ⟨S1x2048x256, .f32⟩
  | .hbm, ⟨67, _⟩ => ⟨S1x2048x256, .f32⟩
  | .hbm, ⟨68, _⟩ => ⟨S1x2048x1x256, .f32⟩
  | .hbm, ⟨69, _⟩ => ⟨S1x2048x1x256, .f32⟩
  | .hbm, ⟨70, _⟩ => ⟨S1x2048x1x256, .f32⟩
  | .hbm, ⟨71, _⟩ => ⟨S1x2048x1x256, .f32⟩
  | .hbm, ⟨72, _⟩ => ⟨S1x2048x4x256, .f32⟩
  | .hbm, ⟨73, _⟩ => ⟨S4x256x1x2048, .f32⟩
  | .hbm, ⟨74, _⟩ => ⟨S1x2048x4x256, .f32⟩
  | .hbm, ⟨75, _⟩ => ⟨S1x2048x1024, .f32⟩
  | .hbm, ⟨76, _⟩ => ⟨S1x1x1024, .f32⟩
  | .hbm, ⟨77, _⟩ => ⟨S1x2048x1024, .f32⟩
  | .hbm, ⟨78, _⟩ => ⟨S1x2048x1024, .f32⟩
  | .hbm, ⟨79, _⟩ => ⟨S1x2048x1024, .f32⟩
  | .hbm, ⟨80, _⟩ => ⟨S1x2048x1024, .f32⟩
  | .hbm, ⟨81, _⟩ => ⟨S_, .f32⟩
  | .hbm, ⟨82, _⟩ => ⟨S1x2048x1024, .f32⟩
  | .hbm, ⟨83, _⟩ => ⟨S1x2048x1024, .f32⟩
  | .hbm, ⟨84, _⟩ => ⟨S_, .f32⟩
  | .hbm, ⟨85, _⟩ => ⟨S1x2048x1024, .f32⟩
  | .hbm, ⟨86, _⟩ => ⟨S1x2048x1024, .f32⟩
  | .hbm, ⟨87, _⟩ => ⟨S1x2048x1024, .f32⟩
  | .hbm, ⟨88, _⟩ => ⟨S1x2048x1024, .f32⟩
  | .hbm, ⟨89, _⟩ => ⟨S1x2048x1024, .bf16⟩
  | .hbm, ⟨90, _⟩ => ⟨S2048x1024, .bf16⟩
  | .hbm, ⟨91, _⟩ => ⟨S2048x1024, .f32⟩
  | .hbm, ⟨92, _⟩ => ⟨S2048x1024, .bf16⟩
  | .hbm, ⟨93, _⟩ => ⟨S1x2048x1024, .bf16⟩
  | .hbm, ⟨94, _⟩ => ⟨S1x2048x1024, .bf16⟩
  | .hbm, ⟨95, _⟩ => ⟨S2x2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== AdamOut.lean ====
abbrev S2x256x2048 : Shape := ⟨3, ![2, 256, 2048]⟩
abbrev S4x256x2048 : Shape := ⟨3, ![4, 256, 2048]⟩
abbrev S3x256x2048 : Shape := ⟨3, ![3, 256, 2048]⟩
abbrev S1x128x2048 : Shape := ⟨3, ![1, 128, 2048]⟩
abbrev S3x128x2048 : Shape := ⟨3, ![3, 128, 2048]⟩
abbrev S128x2048 : Shape := ⟨2, ![128, 2048]⟩

abbrev nBuf : Space → Nat
  | .hbm => 11
  | .vmem => 22
  | .smem => 0
  | _ => 0

abbrev bufTy : (tb : Table) → Fin (tcTables nBuf tb) → BufTy
  | .hbm, ⟨0, _⟩ => ⟨S2x256x2048, .f32⟩
  | .hbm, ⟨1, _⟩ => ⟨S4x256x2048, .bf16⟩
  | .hbm, ⟨2, _⟩ => ⟨S3x256x2048, .bf16⟩
  | .hbm, ⟨3, _⟩ => ⟨S4x256x2048, .bf16⟩
  | .hbm, ⟨4, _⟩ => ⟨S3x256x2048, .bf16⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .hbm, ⟨9, _⟩ => ⟨S2x256x2048, .f32⟩
  | .hbm, ⟨10, _⟩ => ⟨S2x256x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S3x128x2048, .bf16⟩
  | .local _ .vmem, ⟨5, _⟩ => ⟨S3x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S3x128x2048, .bf16⟩
  | .local _ .vmem, ⟨9, _⟩ => ⟨S3x128x2048, .bf16⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutRefIdeal.lean ====
abbrev S2x256x2048 : Shape := ⟨3, ![2, 256, 2048]⟩
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S4x256x2048, .bf16⟩
  | .hbm, ⟨2, _⟩ => ⟨S3x256x2048, .bf16⟩
  | .hbm, ⟨3, _⟩ => ⟨S4x256x2048, .bf16⟩
  | .hbm, ⟨4, _⟩ => ⟨S3x256x2048, .bf16⟩
  | .hbm, ⟨5, _⟩ => ⟨S2x256x2048, .f32⟩
  | .hbm, ⟨6, _⟩ => ⟨S2x256x2048, .f32⟩
  | .hbm, ⟨7, _⟩ => ⟨S1x256x2048, .bf16⟩
  | .hbm, ⟨8, _⟩ => ⟨S256x2048, .bf16⟩
  | .hbm, ⟨9, _⟩ => ⟨S256x2048, .f32⟩
  | .hbm, ⟨10, _⟩ => ⟨S3x256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S1x256x2048, .bf16⟩
  | .hbm, ⟨15, _⟩ => ⟨S256x2048, .bf16⟩
  | .hbm, ⟨16, _⟩ => ⟨S256x2048, .f32⟩
  | .hbm, ⟨17, _⟩ => ⟨S3x256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S1x256x2048, .f32⟩
  | .hbm, ⟨22, _⟩ => ⟨S1x256x2048, .f32⟩
  | .hbm, ⟨23, _⟩ => ⟨S2x256x2048, .f32⟩
  | .hbm, ⟨24, _⟩ => ⟨S_, .f32⟩
  | .hbm, ⟨25, _⟩ => ⟨S2x256x2048, .f32⟩
  | .hbm, ⟨26, _⟩ => ⟨S2x256x2048, .f32⟩
  | .hbm, ⟨27, _⟩ => ⟨S_, .f32⟩
  | .hbm, ⟨28, _⟩ => ⟨S2x256x2048, .f32⟩
  | .hbm, ⟨29, _⟩ => ⟨S2x256x2048, .f32⟩
  | .hbm, ⟨30, _⟩ => ⟨S2x256x2048, .f32⟩
  | .hbm, ⟨31, _⟩ => ⟨S_, .f32⟩
  | .hbm, ⟨32, _⟩ => ⟨S2x256x2048, .f32⟩
  | .hbm, ⟨33, _⟩ => ⟨S2x256x2048, .f32⟩
  | .hbm, ⟨34, _⟩ => ⟨S2x256x2048, .f32⟩
  | .hbm, ⟨35, _⟩ => ⟨S_, .f32⟩
  | .hbm, ⟨36, _⟩ => ⟨S2x256x2048, .f32⟩
  | .hbm, ⟨37, _⟩ => ⟨S2x256x2048, .f32⟩
  | .hbm, ⟨38, _⟩ => ⟨S2x256x2048, .f32⟩
  | .hbm, ⟨39, _⟩ => ⟨S_, .f32⟩
  | .hbm, ⟨40, _⟩ => ⟨S2x256x2048, .f32⟩
  | .hbm, ⟨41, _⟩ => ⟨S2x256x2048, .f32⟩
  | .hbm, ⟨42, _⟩ => ⟨S_, .f32⟩
  | .hbm, ⟨43, _⟩ => ⟨S2x256x2048, .f32⟩
  | .hbm, ⟨44, _⟩ => ⟨S2x256x2048, .f32⟩
  | .hbm, ⟨45, _⟩ => ⟨S2x256x2048, .f32⟩
  | .hbm, ⟨46, _⟩ => ⟨S_, .f32⟩
  | .hbm, ⟨47, _⟩ => ⟨S2x256x2048, .f32⟩
  | .hbm, ⟨48, _⟩ => ⟨S2x256x2048, .f32⟩
  | .hbm, ⟨49, _⟩ => ⟨S2x256x2048, .f32⟩
  | .hbm, ⟨50, _⟩ => ⟨S_, .f32⟩
  | .hbm, ⟨51, _⟩ => ⟨S2x256x2048, .f32⟩
  | .hbm, ⟨52, _⟩ => ⟨S2x256x2048, .f32⟩
  | .hbm, ⟨53, _⟩ => ⟨S2x256x2048, .f32⟩
  | .hbm, ⟨54, _⟩ => ⟨S_, .f32⟩
  | .hbm, ⟨55, _⟩ => ⟨S2x256x2048, .f32⟩
  | .hbm, ⟨56, _⟩ => ⟨S2x256x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== AdamEven.lean ====
abbrev S2x2048x672 : Shape := ⟨3, ![2, 2048, 672]⟩
abbrev S4x672x2048 : Shape := ⟨3, ![4, 672, 2048]⟩
abbrev S3x672x2048 : Shape := ⟨3, ![3, 672, 2048]⟩
abbrev S2x672x2048 : Shape := ⟨3, ![2, 672, 2048]⟩
abbrev S1x112x2048 : Shape := ⟨3, ![1, 112, 2048]⟩
abbrev S3x112x2048 : Shape := ⟨3, ![3, 112, 2048]⟩
abbrev S112x2048 : Shape := ⟨2, ![112, 2048]⟩

abbrev nBuf : Space → Nat
  | .hbm => 14
  | .vmem => 22
  | .smem => 0
  | _ => 0

abbrev bufTy : (tb : Table) → Fin (tcTables nBuf tb) → BufTy
  | .hbm, ⟨0, _⟩ => ⟨S2x2048x672, .f32⟩
  | .hbm, ⟨1, _⟩ => ⟨S4x672x2048, .bf16⟩
  | .hbm, ⟨2, _⟩ => ⟨S3x672x2048, .bf16⟩
  | .hbm, ⟨3, _⟩ => ⟨S4x672x2048, .bf16⟩
  | .hbm, ⟨4, _⟩ => ⟨S3x672x2048, .bf16⟩
  | .hbm, ⟨5, _⟩ => ⟨S2x2048x672, .f32⟩
  | .hbm, ⟨6, _⟩ => ⟨S2x2048x672, .f32⟩
  | .hbm, ⟨7, _⟩ => ⟨S2x672x2048, .f32⟩
  | .hbm, ⟨8, _⟩ => ⟨S2x672x2048, .f32⟩
  | .hbm, ⟨9, _⟩ => ⟨S2x672x2048, .f32⟩
  | .hbm, ⟨10, _⟩ => ⟨S2x672x2048, .f32⟩
  | .hbm, ⟨11, _⟩ => ⟨S2x672x2048, .f32⟩
  | .hbm, ⟨12, _⟩ => ⟨S2x672x2048, .f32⟩
  | .hbm, ⟨13, _⟩ => ⟨S2x672x2048, .f32⟩
  | .local _ .vmem, ⟨0, _⟩ => ⟨S1x112x2048, .f32⟩
  | .local _ .vmem, ⟨1, _⟩ => ⟨S1x112x2048, .f32⟩
  | .local _ .vmem, ⟨2, _⟩ => ⟨S1x112x2048, .bf16⟩
  | .local _ .vmem, ⟨3, _⟩ => ⟨S1x112x2048, .bf16⟩
  | .local _ .vmem, ⟨4, _⟩ => ⟨S3x112x2048, .bf16⟩
  | .local _ .vmem, ⟨5, _⟩ => ⟨S3x112x2048, .bf16⟩
  | .local _ .vmem, ⟨6, _⟩ => ⟨S1x112x2048, .bf16⟩
  | .local _ .vmem, ⟨7, _⟩ => ⟨S1x112x2048, .bf16⟩
  | .local _ .vmem, ⟨8, _⟩ => ⟨S3x112x2048, .bf16⟩
  | .local _ .vmem, ⟨9, _⟩ => ⟨S3x112x2048, .bf16⟩
  | .local _ .vmem, ⟨10, _⟩ => ⟨S1x112x2048, .f32⟩
  | .local _ .vmem, ⟨11, _⟩ => ⟨S1x112x2048, .f32⟩
  | .local _ .vmem, ⟨12, _⟩ => ⟨S1x112x2048, .f32⟩
  | .local _ .vmem, ⟨13, _⟩ => ⟨S1x112x2048, .f32⟩
  | .local _ .vmem, ⟨14, _⟩ => ⟨S1x112x2048, .f32⟩
  | .local _ .vmem, ⟨15, _⟩ => ⟨S1x112x2048, .f32⟩
  | .local _ .vmem, ⟨16, _⟩ => ⟨S1x112x2048, .f32⟩
  | .local _ .vmem, ⟨17, _⟩ => ⟨S1x112x2048, .f32⟩
  | .local _ .vmem, ⟨18, _⟩ => ⟨S1x112x2048, .f32⟩
  | .local _ .vmem, ⟨19, _⟩ => ⟨S1x112x2048, .f32⟩
  | .local _ .vmem, ⟨20, _⟩ => ⟨S1x112x2048, .f32⟩
  | .local _ .vmem, ⟨21, _⟩ => ⟨S1x112x2048, .f32⟩
  | _, _ => ⟨S2x2048x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x112x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x112x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x112x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x112x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x112x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x112x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x112x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x112x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x112x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x112x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x112x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamEvenRefIdeal.lean ====
abbrev S2x2048x672 : Shape := ⟨3, ![2, 2048, 672]⟩
abbrev S4x672x2048 : Shape := ⟨3, ![4, 672, 2048]⟩
abbrev S3x672x2048 : Shape := ⟨3, ![3, 672, 2048]⟩
abbrev S1x672x2048 : Shape := ⟨3, ![1, 672, 2048]⟩
abbrev S672x2048 : Shape := ⟨2, ![672, 2048]⟩
abbrev S_ : Shape := ⟨0, ![]⟩
abbrev S2x672x2048 : Shape := ⟨3, ![2, 672, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x672, .f32⟩
  | .hbm, ⟨1, _⟩ => ⟨S4x672x2048, .bf16⟩
  | .hbm, ⟨2, _⟩ => ⟨S3x672x2048, .bf16⟩
  | .hbm, ⟨3, _⟩ => ⟨S4x672x2048, .bf16⟩
  | .hbm, ⟨4, _⟩ => ⟨S3x672x2048, .bf16⟩
  | .hbm, ⟨5, _⟩ => ⟨S2x2048x672, .f32⟩
  | .hbm, ⟨6, _⟩ => ⟨S2x2048x672, .f32⟩
  | .hbm, ⟨7, _⟩ => ⟨S1x672x2048, .bf16⟩
  | .hbm, ⟨8, _⟩ => ⟨S672x2048, .bf16⟩
  | .hbm, ⟨9, _⟩ => ⟨S672x2048, .f32⟩
  | .hbm, ⟨10, _⟩ => ⟨S3x672x2048, .f32⟩
  | .hbm, ⟨11, _⟩ => ⟨S_, .f32⟩
  | .hbm, ⟨12, _⟩ => ⟨S672x2048, .f32⟩
  | .hbm, ⟨13, _⟩ => ⟨S672x2048, .f32⟩
  | .hbm, ⟨14, _⟩ => ⟨S1x672x2048, .bf16⟩
  | .hbm, ⟨15, _⟩ => ⟨S672x2048, .bf16⟩
  | .hbm, ⟨16, _⟩ => ⟨S672x2048, .f32⟩
  | .hbm, ⟨17, _⟩ => ⟨S3x672x2048, .f32⟩
  | .hbm, ⟨18, _⟩ => ⟨S_, .f32⟩
  | .hbm, ⟨19, _⟩ => ⟨S672x2048, .f32⟩
  | .hbm, ⟨20, _⟩ => ⟨S672x2048, .f32⟩
  | .hbm, ⟨21, _⟩ => ⟨S1x672x2048, .f32⟩
  | .hbm, ⟨22, _⟩ => ⟨S1x672x2048, .f32⟩
  | .hbm, ⟨23, _⟩ => ⟨S2x672x2048, .f32⟩
  | .hbm, ⟨24, _⟩ => ⟨S2x2048x672, .f32⟩
  | .hbm, ⟨25, _⟩ => ⟨S_, .f32⟩
  | .hbm, ⟨26, _⟩ => ⟨S2x2048x672, .f32⟩
  | .hbm, ⟨27, _⟩ => ⟨S2x2048x672, .f32⟩
  | .hbm, ⟨28, _⟩ => ⟨S_, .f32⟩
  | .hbm, ⟨29, _⟩ => ⟨S2x2048x672, .f32⟩
  | .hbm, ⟨30, _⟩ => ⟨S2x2048x672, .f32⟩
  | .hbm, ⟨31, _⟩ => ⟨S2x2048x672, .f32⟩
  | .hbm, ⟨32, _⟩ => ⟨S_, .f32⟩
  | .hbm, ⟨33, _⟩ => ⟨S2x2048x672, .f32⟩
  | .hbm, ⟨34, _⟩ => ⟨S2x2048x672, .f32⟩
  | .hbm, ⟨35, _⟩ => ⟨S2x2048x672, .f32⟩
  | .hbm, ⟨36, _⟩ => ⟨S_, .f32⟩
  | .hbm, ⟨37, _⟩ => ⟨S2x2048x672, .f32⟩
  | .hbm, ⟨38, _⟩ => ⟨S2x2048x672, .f32⟩
  | .hbm, ⟨39, _⟩ => ⟨S2x2048x672, .f32⟩
  | .hbm, ⟨40, _⟩ => ⟨S_, .f32⟩
  | .hbm, ⟨41, _⟩ => ⟨S2x2048x672, .f32⟩
  | .hbm, ⟨42, _⟩ => ⟨S2x2048x672, .f32⟩
  | .hbm, ⟨43, _⟩ => ⟨S_, .f32⟩
  | .hbm, ⟨44, _⟩ => ⟨S2x2048x672, .f32⟩
  | .hbm, ⟨45, _⟩ => ⟨S2x2048x672, .f32⟩
  | .hbm, ⟨46, _⟩ => ⟨S2x2048x672, .f32⟩
  | .hbm, ⟨47, _⟩ => ⟨S_, .f32⟩
  | .hbm, ⟨48, _⟩ => ⟨S2x2048x672, .f32⟩
  | .hbm, ⟨49, _⟩ => ⟨S2x2048x672, .f32⟩
  | .hbm, ⟨50, _⟩ => ⟨S2x2048x672, .f32⟩
  | .hbm, ⟨51, _⟩ => ⟨S_, .f32⟩
  | .hbm, ⟨52, _⟩ => ⟨S2x2048x672, .f32⟩
  | .hbm, ⟨53, _⟩ => ⟨S2x2048x672, .f32⟩
  | .hbm, ⟨54, _⟩ => ⟨S2x2048x672, .f32⟩
  | .hbm, ⟨55, _⟩ => ⟨S_, .f32⟩
  | .hbm, ⟨56, _⟩ => ⟨S2x2048x672, .f32⟩
  | .hbm, ⟨57, _⟩ => ⟨S2x2048x672, .f32⟩
  | .hbm, ⟨58, _⟩ => ⟨S2x672x2048, .f32⟩
  | .hbm, ⟨59, _⟩ => ⟨S2x672x2048, .f32⟩
  | .hbm, ⟨60, _⟩ => ⟨S2x672x2048, .f32⟩
  | .hbm, ⟨61, _⟩ => ⟨S2x672x2048, .f32⟩
  | _, _ => ⟨S2x2048x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== AdamOdd.lean ====
abbrev S2x2048x512 : Shape := ⟨3, ![2, 2048, 512]⟩
abbrev S512x2048 : Shape := ⟨2, ![512, 2048]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 11
  | .vmem => 18
  | .smem => 0
  | _ => 0

abbrev bufTy : (tb : Table) → Fin (tcTables nBuf tb) → BufTy
  | .hbm, ⟨0, _⟩ => ⟨S2x2048x512, .f32⟩
  | .hbm, ⟨1, _⟩ => ⟨S512x2048, .f32⟩
  | .hbm, ⟨2, _⟩ => ⟨S512x2048, .f32⟩
  | .hbm, ⟨3, _⟩ => ⟨S2x2048x512, .f32⟩
  | .hbm, ⟨4, _⟩ => ⟨S2x2048x512, .f32⟩
  | .hbm, ⟨5, _⟩ => ⟨S2048x512, .f32⟩
  | .hbm, ⟨6, _⟩ => ⟨S2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOddRefIdeal.lean ====
abbrev S2x2048x512 : Shape := ⟨3, ![2, 2048, 512]⟩
abbrev S512x2048 : Shape := ⟨2, ![512, 2048]⟩
abbrev S2048x512 : Shape := ⟨2, ![2048, 512]⟩
abbrev S1x2048x512 : Shape := ⟨3, ![1, 2048, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x2048, .f32⟩
  | .hbm, ⟨2, _⟩ => ⟨S512x2048, .f32⟩
  | .hbm, ⟨3, _⟩ => ⟨S2x2048x512, .f32⟩
  | .hbm, ⟨4, _⟩ => ⟨S2x2048x512, .f32⟩
  | .hbm, ⟨5, _⟩ => ⟨S2048x512, .f32⟩
  | .hbm, ⟨6, _⟩ => ⟨S2048x512, .f32⟩
  | .hbm, ⟨7, _⟩ => ⟨S1x2048x512, .f32⟩
  | .hbm, ⟨8, _⟩ => ⟨S1x2048x512, .f32⟩
  | .hbm, ⟨9, _⟩ => ⟨S2x2048x512, .f32⟩
  | .hbm, ⟨10, _⟩ => ⟨S_, .f32⟩
  | .hbm, ⟨11, _⟩ => ⟨S2x2048x512, .f32⟩
  | .hbm, ⟨12, _⟩ => ⟨S2x2048x512, .f32⟩
  | .hbm, ⟨13, _⟩ => ⟨S_, .f32⟩
  | .hbm, ⟨14, _⟩ => ⟨S2x2048x512, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S_, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== RsFinal.lean ====
abbrev S4x512x2048 : Shape := ⟨3, ![4, 512, 2048]⟩
abbrev S3x512x2048 : Shape := ⟨3, ![3, 512, 2048]⟩
abbrev S512x2048 : Shape := ⟨2, ![512, 2048]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x512x2048, .bf16⟩
  | .hbm, ⟨1, _⟩ => ⟨S3x512x2048, .bf16⟩
  | .hbm, ⟨2, _⟩ => ⟨S512x2048, .f32⟩
  | .local _ .vmem, ⟨0, _⟩ => ⟨S1x256x2048, .bf16⟩
  | .local _ .vmem, ⟨1, _⟩ => ⟨S1x256x2048, .bf16⟩
  | .local _ .vmem, ⟨2, _⟩ => ⟨S3x256x2048, .bf16⟩
  | .local _ .vmem, ⟨3, _⟩ => ⟨S3x256x2048, .bf16⟩
  | .local _ .vmem, ⟨4, _⟩ => ⟨S256x2048, .f32⟩
  | .local _ .vmem, ⟨5, _⟩ => ⟨S256x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RsFinalRefIdeal.lean ====
abbrev S4x512x2048 : Shape := ⟨3, ![4, 512, 2048]⟩
abbrev S3x512x2048 : Shape := ⟨3, ![3, 512, 2048]⟩
abbrev S1x512x2048 : Shape := ⟨3, ![1, 512, 2048]⟩
abbrev S512x2048 : Shape := ⟨2, ![512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S3x512x2048, .bf16⟩
  | .hbm, ⟨2, _⟩ => ⟨S1x512x2048, .bf16⟩
  | .hbm, ⟨3, _⟩ => ⟨S512x2048, .bf16⟩
  | .hbm, ⟨4, _⟩ => ⟨S512x2048, .f32⟩
  | .hbm, ⟨5, _⟩ => ⟨S3x512x2048, .f32⟩
  | .hbm, ⟨6, _⟩ => ⟨S_, .f32⟩
  | .hbm, ⟨7, _⟩ => ⟨S512x2048, .f32⟩
  | .hbm, ⟨8, _⟩ => ⟨S512x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumSmall.lean ====
abbrev S8x1328x128 : Shape := ⟨3, ![8, 1328, 128]⟩
abbrev S1328x128 : Shape := ⟨2, ![1328, 128]⟩
abbrev S1x1328x128 : Shape := ⟨3, ![1, 1328, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1328x128, .f32⟩
  | .hbm, ⟨1, _⟩ => ⟨S1328x128, .f32⟩
  | .local _ .vmem, ⟨0, _⟩ => ⟨S8x1328x128, .f32⟩
  | .local _ .vmem, ⟨1, _⟩ => ⟨S1328x128, .f32⟩
  | _, _ => ⟨S8x1328x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1328x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1328x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x1328x128 : Shape := ⟨3, ![8, 1328, 128]⟩
abbrev S_ : Shape := ⟨0, ![]⟩
abbrev S1328x128 : Shape := ⟨2, ![1328, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1328x128, .f32⟩
  | .hbm, ⟨1, _⟩ => ⟨S_, .f32⟩
  | .hbm, ⟨2, _⟩ => ⟨S1328x128, .f32⟩
  | _, _ => ⟨S8x1328x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CastX.lean ====
abbrev S2048x2048 : Shape := ⟨2, ![2048, 2048]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastXRefIdeal.lean ====
abbrev S2048x2048 : Shape := ⟨2, ![2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AddOut.lean ====
abbrev S8x256x2048 : Shape := ⟨3, ![8, 256, 2048]⟩
abbrev S4x256x2048 : Shape := ⟨3, ![4, 256, 2048]⟩
abbrev S_ : Shape := ⟨0, ![]⟩
abbrev S1 : Shape := ⟨1, ![1]⟩
abbrev S4 : Shape := ⟨1, ![4]⟩
abbrev S1x256x2048 : Shape := ⟨3, ![1, 256, 2048]⟩
abbrev S256x2048 : Shape := ⟨2, ![256, 2048]⟩

abbrev nBuf : Space → Nat
  | .hbm => 12
  | .vmem => 6
  | .smem => 1
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S4, .i32⟩
  | .hbm, ⟨11, _⟩ => ⟨S4x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .smem, ⟨0, _⟩ => ⟨S4, .i32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddOutRefIdeal.lean ====
abbrev S8x256x2048 : Shape := ⟨3, ![8, 256, 2048]⟩
abbrev S4x256x2048 : Shape := ⟨3, ![4, 256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S4x256x2048, .bf16⟩
  | .hbm, ⟨2, _⟩ => ⟨S4x256x2048, .bf16⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AddEven.lean ====
abbrev S8x672x2048 : Shape := ⟨3, ![8, 672, 2048]⟩
abbrev S4x672x2048 : Shape := ⟨3, ![4, 672, 2048]⟩
abbrev S_ : Shape := ⟨0, ![]⟩
abbrev S1 : Shape := ⟨1, ![1]⟩
abbrev S4 : Shape := ⟨1, ![4]⟩
abbrev S1x672x2048 : Shape := ⟨3, ![1, 672, 2048]⟩
abbrev S672x2048 : Shape := ⟨2, ![672, 2048]⟩

abbrev nBuf : Space → Nat
  | .hbm => 12
  | .vmem => 6
  | .smem => 1
  | _ => 0

abbrev bufTy : (tb : Table) → Fin (tcTables nBuf tb) → BufTy
  | .hbm, ⟨0, _⟩ => ⟨S8x672x2048, .bf16⟩
  | .hbm, ⟨1, _⟩ => ⟨S4x672x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S4, .i32⟩
  | .hbm, ⟨11, _⟩ => ⟨S4x672x2048, .bf16⟩
  | .local _ .vmem, ⟨0, _⟩ => ⟨S1x672x2048, .bf16⟩
  | .local _ .vmem, ⟨1, _⟩ => ⟨S1x672x2048, .bf16⟩
  | .local _ .vmem, ⟨2, _⟩ => ⟨S1x672x2048, .bf16⟩
  | .local _ .vmem, ⟨3, _⟩ => ⟨S1x672x2048, .bf16⟩
  | .local _ .vmem, ⟨4, _⟩ => ⟨S1x672x2048, .bf16⟩
  | .local _ .vmem, ⟨5, _⟩ => ⟨S1x672x2048, .bf16⟩
  | .local _ .smem, ⟨0, _⟩ => ⟨S4, .i32⟩
  | _, _ => ⟨S8x672x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x672x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x672x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x672x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddEvenRefIdeal.lean ====
abbrev S8x672x2048 : Shape := ⟨3, ![8, 672, 2048]⟩
abbrev S4x672x2048 : Shape := ⟨3, ![4, 672, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x672x2048, .bf16⟩
  | .hbm, ⟨1, _⟩ => ⟨S4x672x2048, .bf16⟩
  | .hbm, ⟨2, _⟩ => ⟨S4x672x2048, .bf16⟩
  | .hbm, ⟨3, _⟩ => ⟨S4x672x2048, .f32⟩
  | .hbm, ⟨4, _⟩ => ⟨S4x672x2048, .f32⟩
  | .hbm, ⟨5, _⟩ => ⟨S4x672x2048, .f32⟩
  | .hbm, ⟨6, _⟩ => ⟨S4x672x2048, .bf16⟩
  | _, _ => ⟨S8x672x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AddOdd.lean ====
abbrev S8x512x2048 : Shape := ⟨3, ![8, 512, 2048]⟩
abbrev S4x512x2048 : Shape := ⟨3, ![4, 512, 2048]⟩
abbrev S_ : Shape := ⟨0, ![]⟩
abbrev S1 : Shape := ⟨1, ![1]⟩
abbrev S4 : Shape := ⟨1, ![4]⟩
abbrev S1x512x2048 : Shape := ⟨3, ![1, 512, 2048]⟩
abbrev S512x2048 : Shape := ⟨2, ![512, 2048]⟩

abbrev nBuf : Space → Nat
  | .hbm => 12
  | .vmem => 6
  | .smem => 1
  | _ => 0

abbrev bufTy : (tb : Table) → Fin (tcTables nBuf tb) → BufTy
  | .hbm, ⟨0, _⟩ => ⟨S8x512x2048, .bf16⟩
  | .hbm, ⟨1, _⟩ => ⟨S4x512x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S4, .i32⟩
  | .hbm, ⟨11, _⟩ => ⟨S4x512x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .smem, ⟨0, _⟩ => ⟨S4, .i32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v6 : Ref sig .tc := ⟨.hbm, 11, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddOddRefIdeal.lean ====
abbrev S8x512x2048 : Shape := ⟨3, ![8, 512, 2048]⟩
abbrev S4x512x2048 : Shape := ⟨3, ![4, 512, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S4x512x2048, .bf16⟩
  | .hbm, ⟨2, _⟩ => ⟨S4x512x2048, .bf16⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .bf16⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Windows.lean ====
/- Sums over the rows of a trailing or a leading window, over the reals, and a host running sum read as a sum.
   Nothing here mentions a program. -/
module

public import Idealize.ShloMosaic.PureOps.Ideal.Laws
public import Idealize.ShloMosaic.Lib.ValueIdx
public import Idealize.ShloMosaic.Lib.IdealHost
public import Mathlib.Algebra.BigOperators.Fin
public import Mathlib.Tactic.Linarith
public import Mathlib.Tactic.Ring

@[expose] public section

set_option maxRecDepth 16384

noncomputable section

namespace Cert.Windows

open Idealize.ShloMosaic Idealize.ShloMosaic.ValueIdx
open scoped BigOperators

/-- The sum of the `w` rows ending at row `s`, rows before the first counted as zero. -/
def down (w : ℕ) (f : ℕ → ℝ) (s : ℕ) : ℝ := ∑ k ∈ Finset.range w, if k ≤ s then f (s - k) else 0

/-- The sum of the `w` rows starting at row `s`. -/
def up (w : ℕ) (f : ℕ → ℝ) (s : ℕ) : ℝ := ∑ k ∈ Finset.range w, f (s + k)

/-- The running sum up to and with row `t`. -/
def pre (f : ℕ → ℝ) (t : ℕ) : ℝ := ∑ i ∈ Finset.range (t + 1), f i

/-- A trailing sum of one row is the row. -/
theorem down_one (f : ℕ → ℝ) (s : ℕ) : down 1 f s = f s := by simp [down]

/-- A leading sum of one row is the row. -/
theorem up_one (f : ℕ → ℝ) (s : ℕ) : up 1 f s = f s := by simp [up]

/-- A trailing window of twice the length is the window plus the window moved back by its length. -/
theorem down_double (w : ℕ) (f : ℕ → ℝ) (s : ℕ) :
    down (w + w) f s = down w f s + if w ≤ s then down w f (s - w) else 0 := by
  unfold down
  rw [Finset.sum_range_add]
  congr 1
  by_cases h : w ≤ s
  · rw [if_pos h]
    refine Finset.sum_congr rfl fun x _ => ?_
    by_cases hx : x ≤ s - w
    · rw [if_pos (by omega), if_pos hx, Nat.sub_sub]
    · rw [if_neg (by omega), if_neg hx]
  · rw [if_neg h]
    exact Finset.sum_eq_zero fun x _ => if_neg (by omega)

/-- A leading window of twice the length is the window plus the window moved forward by its length. -/
theorem up_double (w : ℕ) (f : ℕ → ℝ) (s : ℕ) : up (w + w) f s = up w f s + up w f (s + w) := by
  unfold up
  rw [Finset.sum_range_add]
  congr 1
  exact Finset.sum_congr rfl fun x _ => by rw [Nat.add_assoc]

/-- A leading window past the last row is empty. -/
theorem up_out {N : ℕ} {f : ℕ → ℝ} (hf : ∀ n, N ≤ n → f n = 0) (w s : ℕ) (hs : N ≤ s) : up w f s = 0 :=
  Finset.sum_eq_zero fun k _ => hf _ (by omega)

/-- The difference of two running sums `w` rows apart is the trailing window. -/
theorem pre_sub (f : ℕ → ℝ) (t : ℕ) : ∀ w, pre f t - (if w ≤ t then pre f (t - w) else 0) = down w f t
  | 0 => by simp [down]
  | w + 1 => by
    have ih := pre_sub f t w
    have hd : down (w + 1) f t = down w f t + if w ≤ t then f (t - w) else 0 := by
      unfold down; rw [Finset.sum_range_succ]
    rw [hd, ← ih]
    by_cases h : w + 1 ≤ t
    · rw [if_pos h, if_pos (by omega), if_pos (by omega)]
      have : pre f (t - w) = pre f (t - (w + 1)) + f (t - w) := by
        unfold pre
        rw [show t - w + 1 = (t - (w + 1) + 1) + 1 by omega, Finset.sum_range_succ]
        congr 2; omega
      rw [this]; ring
    · rw [if_neg h]
      by_cases h' : w ≤ t
      · rw [if_pos h', if_pos h']
        have e : t - w = 0 := by omega
        rw [e]; unfold pre; simp
      · rw [if_neg h', if_neg h']; ring

/-- The sum to the last row of the difference of a sequence and the sequence moved `w` rows forward is the leading
    window, where the sequence vanishes past the last row. -/
theorem suf_sub {N : ℕ} {f : ℕ → ℝ} (hf : ∀ n, N ≤ n → f n = 0) (s : ℕ) :
    ∀ w, (∑ n ∈ Finset.range N, (f (s + n) - f (s + n + w))) = up w f s
  | 0 => by simp [up]
  | w + 1 => by
    have ih := suf_sub hf s w
    have hu : up (w + 1) f s = up w f s + f (s + w) := by unfold up; rw [Finset.sum_range_succ]
    rw [hu, ← ih]
    have e : (∑ n ∈ Finset.range N, (f (s + n) - f (s + n + (w + 1))))
        - ∑ n ∈ Finset.range N, (f (s + n) - f (s + n + w)) = f (s + w) := by
      rw [← Finset.sum_sub_distrib]
      have : ∀ n ∈ Finset.range N, (f (s + n) - f (s + n + (w + 1)) - (f (s + n) - f (s + n + w)))
          = (fun n => f (s + w + n)) n - (fun n => f (s + w + n)) (n + 1) := by
        intro n _
        simp only []
        rw [show s + n + (w + 1) = s + w + (n + 1) by omega, show s + n + w = s + w + n by omega]; ring
      rw [Finset.sum_congr rfl this, Finset.sum_range_sub']
      rw [hf (s + w + N) (by omega)]; simp
    linarith

/-- A sum of extended reals that are all real is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Adding the elements of a list one after another is adding their sum. -/
theorem foldl_add {α : Type*} (g : α → EReal) : ∀ (l : List α) (v : EReal), l.foldl (fun r k => r + g k) v = v + (l.map g).sum
  | [], v => by simp
  | a :: l, v => by rw [List.foldl_cons, foldl_add g l, List.map_cons, List.sum_cons, add_assoc]

/-- A host running sum along the middle axis of an array of 2048 rows, from zero, at an index: the sum over the window's
    2048 positions of the operand's row, positions outside the operand counted as zero. -/
theorem reduceWindow_apply (lo hi : ℕ)
    (h : (⟨3, ![1, 2048, 1024]⟩ : Shape).ReduceWindows ![1, 2048, 1] ![1, 1, 1] ![0, lo, 0] ![0, hi, 0] ⟨3, ![1, 2048, 1024]⟩)
    {u : Shape} (hu : 0 < u.numel) (x : FVec Ideal ⟨3, ![1, 2048, 1024]⟩ .f32) (init : FVec Ideal u .f32)
    (hi0 : init (Shape.Idx.first hu) = 0) (a : Fin 1) (t : Fin 2048) (c : Fin 1024) :
    Host.reduceWindowAdd ![1, 2048, 1] ![1, 1, 1] ![0, lo, 0] ![0, hi, 0] x init h hu (ix3 a t c)
      = ∑ n : Fin 2048, (if hin : lo ≤ t.val + n.val ∧ t.val + n.val - lo < 2048
          then x (ix3 a ⟨t.val + n.val - lo, hin.2⟩ c) else 0) := by
  show Ideal.hostReduceWindowAdd ![1, 2048, 1] ![1, 1, 1] ![0, lo, 0] ![0, hi, 0] h x (init (Shape.Idx.first hu)) _ = _
  rw [hi0]
  unfold Ideal.hostReduceWindowAdd Host.reduceWindow
  dsimp only
  rw [foldl_add, zero_add, ← Fin.sum_univ_def, Equiv.sum_comp
    (⟨3, ![1, 2048, 1]⟩ : Shape).rowMajor.symm (fun q => if hin : ∀ b : Fin 3, (![0, lo, 0] : Fin 3 → ℕ) b ≤
        ((ix3 a t c : (⟨3, ![1, 2048, 1024]⟩ : Shape).Idx) (b.cast h.1.symm)).val * (![1, 1, 1] : Fin 3 → ℕ) b + (q b).val ∧
        ((ix3 a t c : (⟨3, ![1, 2048, 1024]⟩ : Shape).Idx) (b.cast h.1.symm)).val * (![1, 1, 1] : Fin 3 → ℕ) b + (q b).val
          - (![0, lo, 0] : Fin 3 → ℕ) b < (![1, 2048, 1024] : Fin 3 → ℕ) b then
        x (fun b => ⟨((ix3 a t c : (⟨3, ![1, 2048, 1024]⟩ : Shape).Idx) (b.cast h.1.symm)).val * (![1, 1, 1] : Fin 3 → ℕ) b + (q b).val
          - (![0, lo, 0] : Fin 3 → ℕ) b, (hin b).2⟩) else (0 : EReal))]
  symm
  refine Fintype.sum_bijective (fun n : Fin 2048 => (ix3 (0 : Fin 1) n (0 : Fin 1) : (⟨3, ![1, 2048, 1]⟩ : Shape).Idx)) ?_ _ _ ?_
  · constructor
    · intro p q e; exact congrFun e 1
    · intro q
      refine ⟨q 1, ?_⟩
      funext b
      match b with
      | ⟨0, _⟩ => exact Fin.ext (by have := (q 0).isLt; change (q 0).val < 1 at this; show 0 = (q 0).val; omega)
      | ⟨1, _⟩ => rfl
      | ⟨2, _⟩ => exact Fin.ext (by have := (q 2).isLt; change (q 2).val < 1 at this; show 0 = (q 2).val; omega)
  · intro n
    by_cases hin : lo ≤ t.val + n.val ∧ t.val + n.val - lo < 2048
    · rw [dif_pos hin, dif_pos]
      · congr 1
        funext b
        match b with
        | ⟨0, _⟩ => exact Fin.ext (by show a.val = a.val * 1 + 0 - 0; omega)
        | ⟨1, _⟩ => exact Fin.ext (by show t.val + n.val - lo = t.val * 1 + n.val - lo; omega)
        | ⟨2, _⟩ => exact Fin.ext (by show c.val = c.val * 1 + 0 - 0; omega)
      · intro b
        match b with
        | ⟨0, _⟩ => show 0 ≤ a.val * 1 + 0 ∧ a.val * 1 + 0 - 0 < 1; omega
        | ⟨1, _⟩ => show lo ≤ t.val * 1 + n.val ∧ t.val * 1 + n.val - lo < 2048; omega
        | ⟨2, _⟩ => show 0 ≤ c.val * 1 + 0 ∧ c.val * 1 + 0 - 0 < 1024; omega
    · rw [dif_neg hin, dif_neg]
      intro hall
      have h1 := hall 1
      change lo ≤ t.val * 1 + n.val ∧ t.val * 1 + n.val - lo < 2048 at h1
      omega

end Cert.Windows

end
-- ==== Proof.PoolSpec.lean ====
/- The backward pass of one group of the pooling mixer and its gate, over the reals: what both the kernel and the
   reference are shown to compute. `X`, `Z`, `DD` are the group's columns (mixer input, gate input, incoming gradient),
   `Wt` its mixing matrix, `DS` its output scale. -/
module

public import proofs.«01_k».proof.Proof.Windows
public import Idealize.ShloMosaic.Lib.Pointwise

@[expose] public section

noncomputable section

namespace Cert.PoolSpec

open Cert.Windows
open scoped BigOperators

/-- The logistic function. -/
def sg (z : ℝ) : ℝ := 1 / (1 + Real.exp (-z))

/-- The number of rows in group `g`'s window. -/
def win (g : ℕ) : ℕ := 2 ^ (g + 1)

/-- The number of rows the trailing mean at row `s` runs over. -/
def cnt (g s : ℕ) : ℝ := ((min (s + 1) (win g) : ℕ) : ℝ)

/-- The count is not zero. -/
theorem cnt_ne (g s : ℕ) : cnt g s ≠ 0 := by
  unfold cnt win
  have : 0 < 2 ^ (g + 1) := Nat.pos_of_ne_zero (by positivity)
  exact_mod_cast (by omega : min (s + 1) (2 ^ (g + 1)) ≠ 0)

/-- The logistic's denominator is not zero. -/
theorem one_add_exp_ne (z : ℝ) : 1 + Real.exp (-z) ≠ 0 := by positivity

/-- The trailing mean of a column less the column. -/
def pooled (g : ℕ) (x : ℕ → ℝ) (s : ℕ) : ℝ := down (win g) x s / cnt g s - x s

variable (g : ℕ) (X Z DD : Fin 256 → ℕ → ℝ) (Wt : Fin 256 → Fin 256 → ℝ) (DS : Fin 256 → ℝ)

/-- The pooled columns mixed by the group's matrix. -/
def mixed (s : ℕ) (j : Fin 256) : ℝ := ∑ i, pooled g (X i) s * Wt i j

/-- The gradient of the mixed columns. -/
def dmixed (s : ℕ) (j : Fin 256) : ℝ := DD j s * DS j * (Z j s * sg (Z j s))

/-- The gradient of the pooled columns. -/
def dpooled (s : ℕ) (i : Fin 256) : ℝ := ∑ j, dmixed Z DD DS s j * Wt i j

/-- The gradient of the output scale. -/
def dds (j : Fin 256) : ℝ := ∑ s : Fin 2048, DD j s * mixed g X Wt s j * (Z j s * sg (Z j s))

/-- The gradient of the gate input. -/
def dgate (s : ℕ) (j : Fin 256) : ℝ :=
  DD j s * mixed g X Wt s j * DS j * (sg (Z j s) * (1 + Z j s * (1 - sg (Z j s))))

/-- The gradient of the mixing matrix. -/
def dwp (i j : Fin 256) : ℝ := ∑ s : Fin 2048, pooled g (X i) s * dmixed Z DD DS s j

/-- The gradient of the pooled columns over the row's count, zero past the last row. -/
def quot (i : Fin 256) (t : ℕ) : ℝ := if t < 2048 then dpooled Z DD Wt DS t i / cnt g t else 0

/-- The gradient of the mixer input. -/
def dx (s : ℕ) (i : Fin 256) : ℝ := up (win g) (quot g Z DD Wt DS i) s - dpooled Z DD Wt DS s i

/-- Division of reals as the ideal instance divides. -/
theorem div_real (x : ℝ) {y : ℝ} (h : y ≠ 0) : Idealize.ShloMosaic.Ideal.div (x : EReal) (y : EReal) = ((x / y : ℝ) : EReal) := by
  rw [Idealize.ShloMosaic.Ideal.div_coe h, ← EReal.coe_mul, mul_one_div]

/-- The ideal logistic of a real is the real logistic. -/
theorem logistic_real (z : ℝ) : Idealize.ShloMosaic.Ideal.logistic (z : EReal) = ((sg z : ℝ) : EReal) := by
  unfold Idealize.ShloMosaic.Ideal.logistic sg
  rw [← EReal.coe_neg, Idealize.ShloMosaic.Ideal.exp_coe, ← EReal.coe_one, ← EReal.coe_add, div_real _ (one_add_exp_ne z)]

/-! ## The arrays' columns as reals -/

open Idealize.ShloMosaic (ix1 ix2 ix3 ix4 Shape)

/-- A column of group `g` of the projected input, from column `o` on: row `t` of column `o + 256 g + j`, zero past the last row. -/
def hcol (h : (⟨2, ![2048, 4096]⟩ : Shape).Idx → EReal) (o : ℕ) (ho : o ≤ 3072) (g : Fin 4) (j : Fin 256) (t : ℕ) : ℝ :=
  if ht : t < 2048 then (h (ix2 ⟨t, ht⟩ ⟨o + 256 * g.val + j.val, by omega⟩)).toReal else 0

/-- The mixer's input columns of group `g`. -/
def colX (h : (⟨2, ![2048, 4096]⟩ : Shape).Idx → EReal) : Fin 4 → Fin 256 → ℕ → ℝ := hcol h 2048 (by omega)

/-- The gate's input columns of group `g`. -/
def colZ (h : (⟨2, ![2048, 4096]⟩ : Shape).Idx → EReal) : Fin 4 → Fin 256 → ℕ → ℝ := hcol h 3072 (by omega)

/-- The incoming gradient's columns of group `g`. -/
def colD (d : (⟨3, ![2, 2048, 1024]⟩ : Shape).Idx → EReal) (g : Fin 4) (j : Fin 256) (t : ℕ) : ℝ :=
  if ht : t < 2048 then (d (ix3 1 ⟨t, ht⟩ ⟨256 * g.val + j.val, by omega⟩)).toReal else 0

/-- Group `g`'s mixing matrix. -/
def matW (w : (⟨3, ![4, 256, 256]⟩ : Shape).Idx → EReal) (g : Fin 4) (i j : Fin 256) : ℝ := (w (ix3 g i j)).toReal

/-- Group `g`'s output scale. -/
def scl (s : (⟨1, ![1024]⟩ : Shape).Idx → EReal) (g : Fin 4) (j : Fin 256) : ℝ := (s (ix1 ⟨256 * g.val + j.val, by omega⟩)).toReal

/-- The group of a column. -/
def grp (q : Fin 1024) : Fin 4 := ⟨q.val / 256, by omega⟩

/-- A column's place in its group. -/
def lane (q : Fin 1024) : Fin 256 := ⟨q.val % 256, by omega⟩

section Results
variable (h : (⟨2, ![2048, 4096]⟩ : Shape).Idx → EReal) (d : (⟨3, ![2, 2048, 1024]⟩ : Shape).Idx → EReal)
  (p : (⟨3, ![4, 2048, 1024]⟩ : Shape).Idx → EReal)
  (w : (⟨3, ![4, 256, 256]⟩ : Shape).Idx → EReal) (s : (⟨1, ![1024]⟩ : Shape).Idx → EReal)

/-- The gradient of the projected input: the incoming half, then the mixer's, then the gate's. -/
def G0 (i : (⟨3, ![4, 2048, 1024]⟩ : Shape).Idx) : EReal :=
  if (i 0).val < 2 then p i
  else if (i 0).val = 2 then ((dx (grp (i 2)).val (colZ h (grp (i 2))) (colD d (grp (i 2))) (matW w (grp (i 2))) (scl s (grp (i 2))) (i 1).val (lane (i 2)) : ℝ) : EReal)
  else ((dgate (grp (i 2)).val (colX h (grp (i 2))) (colZ h (grp (i 2))) (colD d (grp (i 2))) (matW w (grp (i 2))) (scl s (grp (i 2))) (i 1).val (lane (i 2)) : ℝ) : EReal)

/-- The gradient of the mixing matrices. -/
def G1 (i : (⟨3, ![4, 256, 256]⟩ : Shape).Idx) : EReal :=
  ((dwp (i 0).val (colX h (i 0)) (colZ h (i 0)) (colD d (i 0)) (scl s (i 0)) (i 1) (i 2) : ℝ) : EReal)

/-- The gradient of the output scale. -/
def G2 (i : (⟨2, ![1, 1024]⟩ : Shape).Idx) : EReal :=
  ((dds (grp (i 1)).val (colX h (grp (i 1))) (colZ h (grp (i 1))) (colD d (grp (i 1))) (matW w (grp (i 1))) (lane (i 1)) : ℝ) : EReal)
end Results

/-- Neither infinite. -/
def Finite {ι : Type} (x : ι → EReal) : Prop := ∀ i, x i ≠ ⊤ ∧ x i ≠ ⊥

/-- The mixer's input columns hold real numbers. -/
def FiniteX (h : (⟨2, ![2048, 4096]⟩ : Shape).Idx → EReal) : Prop := ∀ (s : Fin 2048) (g : Fin 4) (j : Fin 256),
  h (ix2 s ⟨2048 + 256 * g.val + j.val, by omega⟩) ≠ ⊤ ∧ h (ix2 s ⟨2048 + 256 * g.val + j.val, by omega⟩) ≠ ⊥

end Cert.PoolSpec

end
-- ==== Proof.PoolFinite.lean ====
/- What the precondition says of the arrays at the ideal instance: every element is a real number. -/
module

public import proofs.«01_k».proof.Proof.PoolSpec
public import proofs.«01_k».proof.Defs

@[expose] public section

noncomputable section

namespace Cert.PoolFinite

open Idealize.ShloMosaic hiding addf_apply mulf_apply subf_apply divf_apply truncf_apply

/-- The word of infinity is the top. -/
theorem word_inf : Ideal.ofBits .f32 0x7F800000#32 = (⊤ : EReal) := by
  simp [Ideal.ofBits, Ideal.ieee]

/-- A value whose absolute value compares below infinity is a real number. -/
theorem real_of_cmp (a : EReal) (h : Ideal.cmp .olt (max a (-a)) (Ideal.ofBits .f32 0x7F800000#32) = 1#1) : a ≠ ⊤ ∧ a ≠ ⊥ := by
  rw [word_inf] at h
  have hlt : max a (-a) < ⊤ := by
    by_contra hn
    simp [Ideal.cmp, hn] at h
  obtain ⟨h1, h2⟩ := max_lt_iff.mp hlt
  refine ⟨ne_of_lt h1, fun e => ?_⟩
  rw [e] at h2
  simp at h2

/-- The side conditions of the printed precondition. -/
theorem facts : Cert.Pre_finite.Facts := ⟨by decide, by decide, by decide, by decide⟩

end Cert.PoolFinite

end
-- ==== Proof.PoolBlock.lean ====
/- What one grid point of the pooling mixer's backward call stores, read at an index, over real inputs. -/
module

public import proofs.«01_k».proof.Proof.PoolSpec
public import proofs.«01_k».proof.Proof.Gen.PoolIdeal.Skeleton
public import Idealize.ShloMosaic.Lib.Pointwise
public import Idealize.ShloMosaic.Lib.Pipeline.Value

@[expose] public section

set_option maxRecDepth 16384

noncomputable section

namespace Cert.PoolBlock

open Idealize.ShloMosaic hiding addf_apply mulf_apply subf_apply divf_apply truncf_apply
open Idealize.ShloMosaic.ValueIdx (addf_apply mulf_apply subf_apply divf_apply truncf_apply broadcast_apply select_apply select_one select_zero)
open Cert.Windows Cert.PoolSpec
open Cert.PoolIdeal Cert.PoolIdeal.Gen
open scoped BigOperators

/-- The rotated block at an index. -/
theorem rot_apply (n : BitVec 32) (k : ℕ) (hn : n.toNat = k) (v : FVec Ideal S2048x256 .f32)
    (h : S2048x256.Rotates 0 none) (s : Fin 2048) (j : Fin 256) :
    dynamicRotate 0 n none v h (ix2 s j) = v (ix2 ⟨(s.val + 2048 - k % 2048) % 2048, by omega⟩ j) := by
  rw [Pointwise.dynamicRotate_apply]
  congr 1
  funext b
  match b with
  | ⟨0, _⟩ => exact Fin.ext (by show (s.val + 2048 - (n.toNat + 0) % 2048) % 2048 = _; rw [hn]; rfl)
  | ⟨1, _⟩ => rfl

/-- The row numbers at an index. -/
theorem rows_apply (s : Fin 2048) (j : Fin 256) :
    iota .tc S2048x256 32 [0] iota_S2048x256_d0_w32 (ix2 s j) = BitVec.ofNat 32 s.val := by
  rw [iota_single_apply]; rfl

/-- The zero word as a real. -/
theorem zero_word : Scalar.ofBits (F := Ideal) .f32 0x00000000#32 = ((0 : ℝ) : EReal) := by
  show Ideal.ofBits .f32 0x00000000#32 = _
  rw [Ideal.ofBits_zero_f32]; rfl

/-- A block plus itself moved down `n` rows, nothing coming in at the top. -/
def addDown (n : BitVec 32) (v : FVec Ideal S2048x256 .f32) : FVec Ideal S2048x256 .f32 :=
  addf v (select (cmpi .sge (iota .tc S2048x256 32 [0] iota_S2048x256_d0_w32) (broadcast S2048x256 n))
    (dynamicRotate 0 n none v rotates_S2048x256_d0) (broadcast S2048x256 (Scalar.ofBits (F := Ideal) .f32 0x00000000#32)))

/-- A block plus itself moved up, by a rotation of `n` rows the other way, nothing coming in at the bottom. -/
def addUp (n : BitVec 32) (v : FVec Ideal S2048x256 .f32) : FVec Ideal S2048x256 .f32 :=
  addf v (select (cmpi .slt (iota .tc S2048x256 32 [0] iota_S2048x256_d0_w32) (broadcast S2048x256 n))
    (dynamicRotate 0 n none v rotates_S2048x256_d0) (broadcast S2048x256 (Scalar.ofBits (F := Ideal) .f32 0x00000000#32)))

/-- The body's choice among the four window lengths. -/
def pick (g : ℕ) (a b c d : FVec Ideal S2048x256 .f32) : FVec Ideal S2048x256 .f32 :=
  Scalar.select (Scalar.cmpi .eq (BitVec.ofNat 32 g) 0#32) a
    (Scalar.select (Scalar.cmpi .eq (BitVec.ofNat 32 g) 1#32) b
      (Scalar.select (Scalar.cmpi .eq (BitVec.ofNat 32 g) 2#32) c d))

/-- The choice read off: group `g` takes the block of windows `2 ^ (g + 1)`. -/
theorem pick_apply (g : ℕ) (hg : g < 4) (a b c d : FVec Ideal S2048x256 .f32) (f : ℕ → EReal) (y : S2048x256.Idx)
    (ha : a y = f 2) (hb : b y = f 4) (hc : c y = f 8) (hd : d y = f 16) : pick g a b c d y = f (win g) := by
  rcases (by omega : g = 0 ∨ g = 1 ∨ g = 2 ∨ g = 3) with e | e | e | e <;> subst e
  · exact ha
  · exact hb
  · exact hc
  · exact hd

/-- One doubling of the trailing windows. -/
theorem down_step (w : ℕ) (n : BitVec 32) (hn : n.toNat = w) (hw : w < 2048)
    (hc : ∀ s : Fin 2048, IntOp.cmpi .sge (BitVec.ofNat 32 s.val) n = if w ≤ s.val then 1#1 else 0#1)
    (v : FVec Ideal S2048x256 .f32) (x : Fin 256 → ℕ → ℝ)
    (hv : ∀ (s : Fin 2048) (j : Fin 256), v (ix2 s j) = ((down w (x j) s : ℝ) : EReal)) (s : Fin 2048) (j : Fin 256) :
    addDown n v (ix2 s j)
      = ((down (w + w) (x j) s : ℝ) : EReal) := by
  unfold addDown
  rw [addf_apply, select_apply, broadcast_apply, rot_apply n w hn, hv, hv, zero_word]
  have e : cmpi .sge (iota .tc S2048x256 32 [0] iota_S2048x256_d0_w32) (broadcast S2048x256 n) (ix2 s j)
      = if w ≤ s.val then 1#1 else 0#1 := by
    rw [← hc s, ← rows_apply s j]; rfl
  rw [e, down_double]
  by_cases h : w ≤ s.val
  · rw [if_pos h, if_pos h, select_one, ← EReal.coe_add]
    congr 4
    show (s.val + 2048 - w % 2048) % 2048 = s.val - w
    omega
  · rw [if_neg h, if_neg h, select_zero, ← EReal.coe_add]

/-- One doubling of the leading windows. -/
theorem up_step (w : ℕ) (n : BitVec 32) (hn : n.toNat = 2048 - w) (hw0 : 0 < w) (hw : w < 2048)
    (hc : ∀ s : Fin 2048, IntOp.cmpi .slt (BitVec.ofNat 32 s.val) n = if s.val < 2048 - w then 1#1 else 0#1)
    (v : FVec Ideal S2048x256 .f32) (y : Fin 256 → ℕ → ℝ) (hy : ∀ j t, 2048 ≤ t → y j t = 0)
    (hv : ∀ (s : Fin 2048) (j : Fin 256), v (ix2 s j) = ((up w (y j) s : ℝ) : EReal)) (s : Fin 2048) (j : Fin 256) :
    addUp n v (ix2 s j)
      = ((up (w + w) (y j) s : ℝ) : EReal) := by
  unfold addUp
  rw [addf_apply, select_apply, broadcast_apply, rot_apply n (2048 - w) hn, hv, hv, zero_word]
  have e : cmpi .slt (iota .tc S2048x256 32 [0] iota_S2048x256_d0_w32) (broadcast S2048x256 n) (ix2 s j)
      = if s.val < 2048 - w then 1#1 else 0#1 := by
    rw [← hc s, ← rows_apply s j]; rfl
  rw [e, up_double]
  by_cases h : s.val < 2048 - w
  · rw [if_pos h, select_one, ← EReal.coe_add]
    congr 3
    show (s.val + 2048 - (2048 - w) % 2048) % 2048 = s.val + w
    omega
  · rw [if_neg h, select_zero, ← EReal.coe_add, up_out (hy j) w (s.val + w) (by omega)]

/-- The row count the body divides by. -/
theorem pay2_apply (i : grid0.Coords) (s : Fin 2048) (j : Fin 256) :
    k0_pay2 (F := Ideal) i (ix2 s j) = ((cnt (i 0).val s.val : ℝ) : EReal) := by
  have hg : (i 0).val < 4 := (i 0).isLt
  have key : ∀ (g : Fin 4) (s : Fin 2048), (IntOp.minsi (IntOp.addi (BitVec.ofNat 32 s.val) 1#32)
      (Scalar.shli 2#32 (BitVec.ofNat 32 g.val))).toInt = ((min (s.val + 1) (2 ^ (g.val + 1)) : ℕ) : ℤ) := by
    decide +kernel
  show ((((IntOp.minsi (IntOp.addi (iota .tc S2048x256 32 [0] iota_S2048x256_d0_w32 (ix2 s j)) 1#32)
      (Scalar.shli 2#32 (BitVec.ofNat 32 (i 0).val))).toInt : ℤ) : ℝ) : EReal) = _
  rw [rows_apply, key ⟨(i 0).val, hg⟩ s]
  rfl

variable (i : grid0.Coords) (X Z DD : Fin 256 → ℕ → ℝ) (Wt : Fin 256 → Fin 256 → ℝ) (DS : Fin 256 → ℝ)

/-- The pooled columns of a block. -/
theorem pay3_apply (v1 : FVec Ideal S2048x256 .f32) (hx : ∀ (s : Fin 2048) (j : Fin 256), v1 (ix2 s j) = ((X j s : ℝ) : EReal))
    (s : Fin 2048) (j : Fin 256) : k0_pay3 (F := Ideal) i v1 (ix2 s j) = ((pooled (i 0).val (X j) s : ℝ) : EReal) := by
  have h1 := down_step 1 1#32 rfl (by omega) (by decide +kernel) v1 X (fun s j => by rw [hx, down_one])
  have h2 := down_step 2 2#32 rfl (by omega) (by decide +kernel) _ X h1
  have h4 := down_step 4 4#32 rfl (by omega) (by decide +kernel) _ X h2
  have h8 := down_step 8 8#32 rfl (by omega) (by decide +kernel) _ X h4
  have e : k0_pay3 (F := Ideal) i v1 = subf (divf (pick (i 0).val (addDown 1#32 v1) (addDown 2#32 (addDown 1#32 v1))
      (addDown 4#32 (addDown 2#32 (addDown 1#32 v1))) (addDown 8#32 (addDown 4#32 (addDown 2#32 (addDown 1#32 v1)))))
      (k0_pay2 i)) v1 := rfl
  rw [e, subf_apply, divf_apply, pay2_apply, hx,
    pick_apply (i 0).val (i 0).isLt _ _ _ _ (fun w => ((down w (X j) s : ℝ) : EReal)) _ (h1 s j) (h2 s j) (h4 s j) (h8 s j),
    div_real _ (cnt_ne _ _), ← EReal.coe_sub]
  rfl

/-- The block's mixed columns. -/
theorem pay5_apply (v39 : FVec Ideal S2048x256 .f32) (v41 : Vec Ideal S1x256x256 .bf16) (P : Fin 256 → ℕ → ℝ)
    (hp : ∀ (s : Fin 2048) (j : Fin 256), v39 (ix2 s j) = ((P j s : ℝ) : EReal))
    (hw : ∀ i j : Fin 256, v41 (ix3 0 i j) = ((Wt i j : ℝ) : EReal)) (s : Fin 2048) (j : Fin 256) :
    k0_pay5 (F := Ideal) v39 v41 (ix2 s j) = ((∑ i, P i s * Wt i j : ℝ) : EReal) := by
  unfold k0_pay5
  refine (Ideal.matmul_apply₁_of _ (a := 1) rfl (K := 256) rfl _ _ _ _ (fun k => ix2 s k) (fun k => ix2 k j)
    (fun k => by rw [Shape.Idx.norm2]; rfl) (fun k => by rw [Shape.Idx.norm2]; rfl)).trans ?_
  rw [show constant (F := Ideal) S2048x256 .f32 0x00000000#32 (ix2 s j) = 0 from Ideal.ofBits_zero_f32, zero_add, ← coe_sum]
  refine Finset.sum_congr rfl fun k _ => ?_
  rw [shapeCast_dropUnit_apply, EReal.coe_mul]
  exact congrArg₂ _ (hp s k) ((congrArg v41 (by funext b; match b with | ⟨0, _⟩ => rfl | ⟨1, _⟩ => rfl | ⟨2, _⟩ => rfl)).trans (hw k j))

/-- The gradient of the block's pooled columns. -/
theorem pay12_apply (v75 : FVec Ideal S2048x256 .bf16) (v76 : Vec Ideal S1x256x256 .bf16) (D : ℕ → Fin 256 → ℝ)
    (hd : ∀ (s : Fin 2048) (j : Fin 256), v75 (ix2 s j) = ((D s j : ℝ) : EReal))
    (hw : ∀ i j : Fin 256, v76 (ix3 0 i j) = ((Wt j i : ℝ) : EReal)) (s : Fin 2048) (i : Fin 256) :
    k0_pay12 (F := Ideal) v75 v76 (ix2 s i) = ((∑ j, D s j * Wt i j : ℝ) : EReal) := by
  unfold k0_pay12
  refine (Ideal.matmul_apply₁_of _ (a := 1) rfl (K := 256) rfl _ _ _ _ (fun k => ix2 s k) (fun k => ix2 k i)
    (fun k => by rw [Shape.Idx.norm2]; rfl) (fun k => by rw [Shape.Idx.norm2]; rfl)).trans ?_
  rw [show constant (F := Ideal) S2048x256 .f32 0x00000000#32 (ix2 s i) = 0 from Ideal.ofBits_zero_f32, zero_add, ← coe_sum]
  refine Finset.sum_congr rfl fun k _ => ?_
  rw [shapeCast_dropUnit_apply, EReal.coe_mul]
  exact congrArg₂ _ (hd s k) ((congrArg v76 (by funext b; match b with | ⟨0, _⟩ => rfl | ⟨1, _⟩ => rfl | ⟨2, _⟩ => rfl)).trans (hw k i))

/-- The block of the mixing matrix's gradient. -/
theorem pay13_apply (v40 v75 : FVec Ideal S2048x256 .bf16) (P : Fin 256 → ℕ → ℝ) (D : ℕ → Fin 256 → ℝ)
    (hp : ∀ (s : Fin 2048) (j : Fin 256), v40 (ix2 s j) = ((P j s : ℝ) : EReal))
    (hd : ∀ (s : Fin 2048) (j : Fin 256), v75 (ix2 s j) = ((D s j : ℝ) : EReal)) (i j : Fin 256) :
    k0_pay13 (F := Ideal) v40 v75 (ix3 0 i j) = ((∑ s : Fin 2048, P i s * D s j : ℝ) : EReal) := by
  unfold k0_pay13
  rw [shapeCast_addUnit_apply, show (fun a : Fin 2 => (ix3 (n0 := 1) (n1 := 256) (n2 := 256) 0 i j) a.succ) = ix2 (n0 := 256) (n1 := 256) i j by
    funext b; match b with | ⟨0, _⟩ => rfl | ⟨1, _⟩ => rfl]
  refine (Ideal.matmul_apply₁_of _ (a := 0) rfl (K := 2048) rfl _ _ _ _ (fun k => ix2 k i) (fun k => ix2 k j)
    (fun k => by rw [Shape.Idx.norm2]; rfl) (fun k => by rw [Shape.Idx.norm2]; rfl)).trans ?_
  rw [show constant (F := Ideal) S256x256 .f32 0x00000000#32 (ix2 i j) = 0 from Ideal.ofBits_zero_f32, zero_add, ← coe_sum]
  refine Finset.sum_congr rfl fun k _ => ?_
  rw [EReal.coe_mul]
  exact congrArg₂ _ (hp k i) (hd k j)

/-- The block's gradient of the mixed columns. -/
theorem pay11_apply (v44 : Vec Ideal S2048x256 .f32) (v53 : Vec Ideal S1x2048x256 .f32) (v55 : Vec Ideal S1x256 .f32)
    (hz : ∀ (s : Fin 2048) (j : Fin 256), v44 (ix2 s j) = ((Z j s : ℝ) : EReal))
    (hd : ∀ (s : Fin 2048) (j : Fin 256), v53 (ix3 0 s j) = ((DD j s : ℝ) : EReal))
    (hs : ∀ j : Fin 256, v55 (ix2 0 j) = ((DS j : ℝ) : EReal)) (s : Fin 2048) (j : Fin 256) :
    k0_pay11 (F := Ideal) v44 v53 v55 (ix2 s j) = ((dmixed Z DD DS s j : ℝ) : EReal) := by
  unfold k0_pay11
  rw [truncf_apply, mulf_apply, mulf_apply]
  have e1 : k0_pay8 (F := Ideal) v53 (ix2 s j) = ((DD j s : ℝ) : EReal) := by
    unfold k0_pay8
    rw [shapeCast_dropUnit_apply]
    exact (congrArg v53 (by funext b; match b with | ⟨0, _⟩ => rfl | ⟨1, _⟩ => rfl | ⟨2, _⟩ => rfl)).trans (hd s j)
  have e2 : broadcastTo S2048x256 (shapeCast S1x256 v55 shapeCasts_S1x256_S1x256) broadcasts_S1x256_S2048x256 (ix2 s j)
      = ((DS j : ℝ) : EReal) := by
    rw [shapeCast_self, broadcastTo_apply _ _ _ (ix2 0 j) (by intro a; match a with | ⟨0, _⟩ => rfl | ⟨1, _⟩ => rfl), hs]
  have e3 : k0_pay7 (F := Ideal) v44 (ix2 s j) = ((Z j s * sg (Z j s) : ℝ) : EReal) := by
    show v44 (ix2 s j) * Ideal.logistic (v44 (ix2 s j)) = _
    rw [hz, logistic_real, ← EReal.coe_mul]
  rw [e1, e2, e3, ← EReal.coe_mul, ← EReal.coe_mul]
  rfl

/-- The block of the output scale's gradient. -/
theorem pay9_apply (v39 : FVec Ideal S2048x256 .f32) (v41 : Vec Ideal S1x256x256 .bf16) (v44 : Vec Ideal S2048x256 .f32)
    (v53 : Vec Ideal S1x2048x256 .f32) (M : ℕ → Fin 256 → ℝ)
    (hm : ∀ (s : Fin 2048) (j : Fin 256), k0_pay5 (F := Ideal) v39 v41 (ix2 s j) = ((M s j : ℝ) : EReal))
    (hz : ∀ (s : Fin 2048) (j : Fin 256), v44 (ix2 s j) = ((Z j s : ℝ) : EReal))
    (hd : ∀ (s : Fin 2048) (j : Fin 256), v53 (ix3 0 s j) = ((DD j s : ℝ) : EReal)) (j : Fin 256) :
    k0_pay9 (F := Ideal) v39 v41 v44 v53 (ix2 0 j) = ((∑ s : Fin 2048, DD j s * M s j * (Z j s * sg (Z j s)) : ℝ) : EReal) := by
  unfold k0_pay9
  dsimp only
  rw [shapeCast_addUnit_apply]
  refine (Ideal.multiReduction_add_single _ _ reduces_S2048x256_S256 _ _ _).trans ?_
  rw [← coe_sum]
  show ∑ k : Fin 2048, _ = _
  refine Finset.sum_congr rfl fun (s : Fin 2048) _ => ?_
  have e : (reduces_S2048x256_S256.lift (fun a => (ix2 (n0 := 1) (n1 := 256) 0 j) a.succ) s) = ix2 (n0 := 2048) (n1 := 256) s j := by
    funext b; match b with | ⟨0, _⟩ => rfl | ⟨1, _⟩ => rfl
  rw [e, mulf_apply, mulf_apply, hm]
  have e1 : k0_pay8 (F := Ideal) v53 (ix2 s j) = ((DD j s : ℝ) : EReal) := by
    unfold k0_pay8
    rw [shapeCast_dropUnit_apply]
    exact (congrArg v53 (by funext b; match b with | ⟨0, _⟩ => rfl | ⟨1, _⟩ => rfl | ⟨2, _⟩ => rfl)).trans (hd s j)
  have e3 : k0_pay7 (F := Ideal) v44 (ix2 s j) = ((Z j s * sg (Z j s) : ℝ) : EReal) := by
    show v44 (ix2 s j) * Ideal.logistic (v44 (ix2 s j)) = _
    rw [hz, logistic_real, ← EReal.coe_mul]
  rw [e1, e3, ← EReal.coe_mul, ← EReal.coe_mul]

/-- The block of the gate input's gradient. -/
theorem pay10_apply (v39 : FVec Ideal S2048x256 .f32) (v41 : Vec Ideal S1x256x256 .bf16) (v44 : Vec Ideal S2048x256 .f32)
    (v53 : Vec Ideal S1x2048x256 .f32) (v66 : Vec Ideal S1x256 .f32) (M : ℕ → Fin 256 → ℝ)
    (hm : ∀ (s : Fin 2048) (j : Fin 256), k0_pay5 (F := Ideal) v39 v41 (ix2 s j) = ((M s j : ℝ) : EReal))
    (hz : ∀ (s : Fin 2048) (j : Fin 256), v44 (ix2 s j) = ((Z j s : ℝ) : EReal))
    (hd : ∀ (s : Fin 2048) (j : Fin 256), v53 (ix3 0 s j) = ((DD j s : ℝ) : EReal))
    (hs : ∀ j : Fin 256, v66 (ix2 0 j) = ((DS j : ℝ) : EReal)) (s : Fin 2048) (j : Fin 256) :
    k0_pay10 (F := Ideal) v39 v41 v44 v53 v66 (ix3 0 s j)
      = ((DD j s * M s j * DS j * (sg (Z j s) * (1 + Z j s * (1 - sg (Z j s)))) : ℝ) : EReal) := by
  unfold k0_pay10
  rw [shapeCast_addUnit_apply, show (fun a : Fin 2 => (ix3 (n0 := 1) (n1 := 2048) (n2 := 256) 0 s j) a.succ) = ix2 (n0 := 2048) (n1 := 256) s j by
    funext b; match b with | ⟨0, _⟩ => rfl | ⟨1, _⟩ => rfl]
  rw [truncf_apply, mulf_apply, mulf_apply, mulf_apply, mulf_apply, addf_apply, mulf_apply, subf_apply, broadcast_apply, hm, hz]
  have e1 : k0_pay8 (F := Ideal) v53 (ix2 s j) = ((DD j s : ℝ) : EReal) := by
    unfold k0_pay8
    rw [shapeCast_dropUnit_apply]
    exact (congrArg v53 (by funext b; match b with | ⟨0, _⟩ => rfl | ⟨1, _⟩ => rfl | ⟨2, _⟩ => rfl)).trans (hd s j)
  have e2 : broadcastTo S2048x256 (shapeCast S1x256 v66 shapeCasts_S1x256_S1x256) broadcasts_S1x256_S2048x256 (ix2 s j)
      = ((DS j : ℝ) : EReal) := by
    rw [shapeCast_self, broadcastTo_apply _ _ _ (ix2 0 j) (by intro a; match a with | ⟨0, _⟩ => rfl | ⟨1, _⟩ => rfl), hs]
  have e3 : k0_pay6 (F := Ideal) v44 (ix2 s j) = ((sg (Z j s) : ℝ) : EReal) := by
    show Ideal.logistic (v44 (ix2 s j)) = _
    rw [hz, logistic_real]
  have e4 : Scalar.ofBits (F := Ideal) .f32 0x3F800000#32 = ((1 : ℝ) : EReal) := by
    show Ideal.ofBits .f32 0x3F800000#32 = _
    rw [Ideal.ofBits_one_f32]; rfl
  rw [e1, e2, e3, e4, ← EReal.coe_sub]
  simp only [← EReal.coe_mul, ← EReal.coe_add]

/-- The block of the mixer input's gradient. -/
theorem pay1_apply (v75 : FVec Ideal S2048x256 .bf16) (v76 : Vec Ideal S1x256x256 .bf16) (q : Fin 256 → ℕ → ℝ)
    (hq : ∀ j t, 2048 ≤ t → q j t = 0) (D : ℕ → Fin 256 → ℝ)
    (hv : ∀ (s : Fin 2048) (j : Fin 256), k0_pay12 (F := Ideal) v75 v76 (ix2 s j) = ((D s j : ℝ) : EReal))
    (hD : ∀ (s : Fin 2048) (j : Fin 256), D s j / cnt (i 0).val s = q j s)
    (s : Fin 2048) (j : Fin 256) :
    k0_pay1 (F := Ideal) (k0_pay12 v75 v76)
      (k0_pay14 (iota .tc S2048x256 32 [0] iota_S2048x256_d0_w32) (k0_pay2 i) v75 v76)
      (Scalar.cmpi .eq (BitVec.ofNat 32 (i 0).val) 0#32)
      (k0_pay15 (BitVec.ofNat 32 (i 0).val) (iota .tc S2048x256 32 [0] iota_S2048x256_d0_w32) (k0_pay2 i) v75 v76) (ix3 0 s j)
      = ((up (win (i 0).val) (q j) s - D s j : ℝ) : EReal) := by
  have h0 : ∀ (s : Fin 2048) (j : Fin 256), divf (k0_pay12 (F := Ideal) v75 v76) (k0_pay2 i) (ix2 s j) = ((up 1 (q j) s : ℝ) : EReal) := by
    intro s j
    rw [divf_apply, pay2_apply, hv, up_one, ← hD]
    exact div_real _ (cnt_ne _ _)
  have h1 := up_step 1 2047#32 rfl (by omega) (by omega) (by decide +kernel) _ q hq h0
  have h2 := up_step 2 2046#32 rfl (by omega) (by omega) (by decide +kernel) _ q hq h1
  have h4 := up_step 4 2044#32 rfl (by omega) (by omega) (by decide +kernel) _ q hq h2
  have h8 := up_step 8 2040#32 rfl (by omega) (by omega) (by decide +kernel) _ q hq h4
  have e : k0_pay1 (F := Ideal) (k0_pay12 v75 v76)
      (k0_pay14 (iota .tc S2048x256 32 [0] iota_S2048x256_d0_w32) (k0_pay2 i) v75 v76)
      (Scalar.cmpi .eq (BitVec.ofNat 32 (i 0).val) 0#32)
      (k0_pay15 (BitVec.ofNat 32 (i 0).val) (iota .tc S2048x256 32 [0] iota_S2048x256_d0_w32) (k0_pay2 i) v75 v76)
      = shapeCast S1x2048x256 (truncf .bf16 (subf (pick (i 0).val
          (addUp 2047#32 (divf (k0_pay12 v75 v76) (k0_pay2 i)))
          (addUp 2046#32 (addUp 2047#32 (divf (k0_pay12 v75 v76) (k0_pay2 i))))
          (addUp 2044#32 (addUp 2046#32 (addUp 2047#32 (divf (k0_pay12 v75 v76) (k0_pay2 i)))))
          (addUp 2040#32 (addUp 2044#32 (addUp 2046#32 (addUp 2047#32 (divf (k0_pay12 v75 v76) (k0_pay2 i)))))))
          (k0_pay12 v75 v76)) bitsLt_bf16_f32) shapeCasts_S2048x256_S1x2048x256 := rfl
  rw [e, shapeCast_addUnit_apply, show (fun a : Fin 2 => (ix3 (n0 := 1) (n1 := 2048) (n2 := 256) 0 s j) a.succ) = ix2 (n0 := 2048) (n1 := 256) s j by
    funext b; match b with | ⟨0, _⟩ => rfl | ⟨1, _⟩ => rfl]
  rw [truncf_apply, subf_apply, hv,
    pick_apply (i 0).val (i 0).isLt _ _ _ _ (fun w => ((up w (q j) s : ℝ) : EReal)) _ (h1 s j) (h2 s j) (h4 s j) (h8 s j),
    ← EReal.coe_sub]

end Cert.PoolBlock

end
-- ==== Proof.PoolKernel.lean ====
/- What the pooling mixer's backward call leaves in its output arrays. -/
module

public import proofs.«01_k».proof.Proof.PoolBlock
public import proofs.«01_k».proof.Proof.Gen.PoolIdeal.Value
public import Idealize.ShloMosaic.Lib.Pipeline.ValueKit

@[expose] public section

set_option maxRecDepth 16384

noncomputable section

namespace Cert.PoolKernel

open Idealize.ShloMosaic hiding addf_apply mulf_apply subf_apply divf_apply truncf_apply
open Idealize.ShloMosaic.TcCoe
open Cert.Windows Cert.PoolSpec
open Cert.PoolIdeal Cert.PoolIdeal.Gen

variable (m : (ℓ : Loc nD τ sig) → Buf (Elt Ideal) ℓ) (c : Dev nD)

/-! ## The arrays the call reads -/

/-- The mixing matrices as the call takes them. -/
theorem V_main_v0 : V m c main_v0 = truncf (F := Ideal) .bf16 (m ((c : Thread nD τ).loc main_arg3)) bitsLt_bf16_f32 := rfl

/-- The transposed mixing matrices. -/
theorem V_main_v1 : V m c main_v1 = transpose S4x256x256 [0, 2, 1] (truncf (F := Ideal) .bf16 (m ((c : Thread nD τ).loc main_arg3)) bitsLt_bf16_f32)
    transposes_S4x256x256_S4x256x256_0_2_1 := rfl

/-- The output scale as one row. -/
theorem V_main_v2 : V m c main_v2 = shapeCast S1x1024 (m ((c : Thread nD τ).loc main_arg4)) shapeCasts_S1024_S1x1024 := rfl

/-- The incoming half of the gradient. -/
theorem V_main_v3 : V m c main_v3_0 = m ((c : Thread nD τ).loc main_arg2) := rfl

/-- The block of window 0 at a grid point. -/
theorem idx0 : ∀ t : Fin cfg0.N, win0_0.index t = ![0, 8 + t.val] := (by decide +kernel : ∀ t : Fin grid0.N, _)
/-- The block of window 1 at a grid point. -/
theorem idx1 : ∀ t : Fin cfg0.N, win0_1.index t = ![0, 12 + t.val] := (by decide +kernel : ∀ t : Fin grid0.N, _)
/-- The block of window 2 at a grid point. -/
theorem idx2 : ∀ t : Fin cfg0.N, win0_2.index t = ![1, 0, t.val] := (by decide +kernel : ∀ t : Fin grid0.N, _)
/-- The block of window 3 at a grid point. -/
theorem idx3 : ∀ t : Fin cfg0.N, win0_3.index t = ![t.val, 0, 0] := (by decide +kernel : ∀ t : Fin grid0.N, _)
/-- The block of window 4 at a grid point. -/
theorem idx4 : ∀ t : Fin cfg0.N, win0_4.index t = ![t.val, 0, 0] := (by decide +kernel : ∀ t : Fin grid0.N, _)
/-- The block of window 5 at a grid point. -/
theorem idx5 : ∀ t : Fin cfg0.N, win0_5.index t = ![0, t.val] := (by decide +kernel : ∀ t : Fin grid0.N, _)
/-- The block of window 6 at a grid point. -/
theorem idx6 : ∀ t : Fin cfg0.N, win0_6.index t = ![1, 0, t.val] := (by decide +kernel : ∀ t : Fin grid0.N, _)
/-- The block of window 7 at a grid point. -/
theorem idx7 : ∀ t : Fin cfg0.N, win0_7.index t = ![t.val, 0, 0] := (by decide +kernel : ∀ t : Fin grid0.N, _)
/-- The block of window 8 at a grid point. -/
theorem idx8 : ∀ t : Fin cfg0.N, win0_8.index t = ![0, t.val] := (by decide +kernel : ∀ t : Fin grid0.N, _)
/-- The grid coordinate of a point is its number. -/
theorem coord0 : ∀ t : Fin cfg0.N, (grid0.coords t 0).val = t.val := (by decide +kernel : ∀ t : Fin grid0.N, _)
/-- There are four grid points. -/
theorem t_lt (t : Fin cfg0.N) : t.val < 4 := by have := t.isLt; have h : cfg0.N = 4 := N_0; omega

/-- The group a grid point works on. -/
def gp (t : Fin cfg0.N) : Fin 4 := ⟨t.val, t_lt t⟩

variable (hh : Finite (m ((c : Thread nD τ).loc main_arg0) : S2048x4096.Idx → EReal))
  (hd : Finite (m ((c : Thread nD τ).loc main_arg1) : S2x2048x1024.Idx → EReal))
  (hw : Finite (m ((c : Thread nD τ).loc main_arg3) : S4x256x256.Idx → EReal))
  (hs : Finite (m ((c : Thread nD τ).loc main_arg4) : S1024.Idx → EReal))

include hh in
/-- The mixer's input block. -/
theorem iblk0 (t : Fin cfg0.N) (s : Fin 2048) (j : Fin 256) :
    (iblk m c 0 t : S2048x256.Idx → EReal) (ix2 s j) = ((colX (m ((c : Thread nD τ).loc main_arg0)) (gp t) j s : ℝ) : EReal) := by
  have hg : (gp t).val = t.val := rfl
  blk_simp [iblk]
  unfold colX hcol
  rw [dif_pos s.isLt, EReal.coe_toReal (hh _).1 (hh _).2]
  exact congrArg (m ((c : Thread nD τ).loc main_arg0)) (by blk_ext [idx0])

include hh in
/-- The gate's input block. -/
theorem iblk1 (t : Fin cfg0.N) (s : Fin 2048) (j : Fin 256) :
    (iblk m c 1 t : S2048x256.Idx → EReal) (ix2 s j) = ((colZ (m ((c : Thread nD τ).loc main_arg0)) (gp t) j s : ℝ) : EReal) := by
  have hg : (gp t).val = t.val := rfl
  blk_simp [iblk]
  unfold colZ hcol
  rw [dif_pos s.isLt, EReal.coe_toReal (hh _).1 (hh _).2]
  exact congrArg (m ((c : Thread nD τ).loc main_arg0)) (by blk_ext [idx1])

include hd in
/-- The incoming gradient's block. -/
theorem iblk2 (t : Fin cfg0.N) (s : Fin 2048) (j : Fin 256) :
    (iblk m c 2 t : S1x2048x256.Idx → EReal) (ix3 0 s j) = ((colD (m ((c : Thread nD τ).loc main_arg1)) (gp t) j s : ℝ) : EReal) := by
  have hg : (gp t).val = t.val := rfl
  blk_simp [iblk]
  unfold colD
  rw [dif_pos s.isLt, EReal.coe_toReal (hd _).1 (hd _).2]
  exact congrArg (m ((c : Thread nD τ).loc main_arg1)) (by blk_ext [idx2])

include hw in
/-- The mixing matrix's block. -/
theorem iblk3 (t : Fin cfg0.N) (i j : Fin 256) :
    (iblk m c 3 t : S1x256x256.Idx → EReal) (ix3 0 i j) = ((matW (m ((c : Thread nD τ).loc main_arg3)) (gp t) i j : ℝ) : EReal) := by
  have hg : (gp t).val = t.val := rfl
  blk_simp [iblk]
  unfold matW
  rw [EReal.coe_toReal (hw _).1 (hw _).2]
  show V m c main_v0 _ = _
  rw [V_main_v0]
  exact congrArg (m ((c : Thread nD τ).loc main_arg3)) (by blk_ext [idx3])

include hw in
/-- The transposed mixing matrix's block. -/
theorem iblk4 (t : Fin cfg0.N) (i j : Fin 256) :
    (iblk m c 4 t : S1x256x256.Idx → EReal) (ix3 0 i j) = ((matW (m ((c : Thread nD τ).loc main_arg3)) (gp t) j i : ℝ) : EReal) := by
  have hg : (gp t).val = t.val := rfl
  blk_simp [iblk]
  unfold matW
  rw [EReal.coe_toReal (hw _).1 (hw _).2]
  show V m c main_v1 _ = _
  rw [V_main_v1, transpose_apply _ _ _ _ (ix3 (gp t) j i) (by
    intro b
    match b with
    | ⟨0, _⟩ => show (gp t).val = ((win0_4.blk t).view.emb (ix3 0 i j) 0 : ℕ); blk_simp [idx4]; omega
    | ⟨1, _⟩ => show i.val = ((win0_4.blk t).view.emb (ix3 0 i j) 1 : ℕ); blk_simp [idx4]
    | ⟨2, _⟩ => show j.val = ((win0_4.blk t).view.emb (ix3 0 i j) 2 : ℕ); blk_simp [idx4])]
  rfl

include hs in
/-- The output scale's block. -/
theorem iblk5 (t : Fin cfg0.N) (j : Fin 256) :
    (iblk m c 5 t : S1x256.Idx → EReal) (ix2 0 j) = ((scl (m ((c : Thread nD τ).loc main_arg4)) (gp t) j : ℝ) : EReal) := by
  have hg : (gp t).val = t.val := rfl
  blk_simp [iblk]
  unfold scl
  rw [EReal.coe_toReal (hs _).1 (hs _).2]
  show V m c main_v2 _ = _
  rw [V_main_v2]
  have e : ∀ x : S1x1024.Idx, (x 1).val = 256 * (gp t).val + j.val →
      shapeCast S1x1024 (m ((c : Thread nD τ).loc main_arg4)) shapeCasts_S1024_S1x1024 x
        = m ((c : Thread nD τ).loc main_arg4) (ix1 ⟨256 * (gp t).val + j.val, by omega⟩) := by
    intro x hx
    refine (shapeCast_addUnit_apply _ _ _ _).trans (congrArg (m ((c : Thread nD τ).loc main_arg4)) ?_)
    funext b
    match b with
    | ⟨0, _⟩ => exact Fin.ext hx
  exact e _ (by blk_simp [idx5]; omega)

/-! ## What a grid point leaves -/

/-- The point's three results as payloads of its blocks. -/
theorem out6 (t : Fin cfg0.N) : (outsAt0 m c t).1 = View.canon
      [⟨Rect.unit ![0, 0, 0] ![1, 2048, 256] inb_S2x2048x256_S1x2048x256_0_0_0,
          k0_pay1 (k0_pay12 (k0_pay11 (iblk m c 1 t) (iblk m c 2 t) (iblk m c 5 t)) (iblk m c 4 t))
            (k0_pay14 (iota .tc S2048x256 32 [0] iota_S2048x256_d0_w32) (k0_pay2 (grid0.coords t))
              (k0_pay11 (iblk m c 1 t) (iblk m c 2 t) (iblk m c 5 t)) (iblk m c 4 t))
            (Scalar.cmpi CmpIPredicate.eq (BitVec.ofNat 32 ↑(grid0.coords t 0)) 0#32)
            (k0_pay15 (BitVec.ofNat 32 ↑(grid0.coords t 0)) (iota .tc S2048x256 32 [0] iota_S2048x256_d0_w32)
              (k0_pay2 (grid0.coords t)) (k0_pay11 (iblk m c 1 t) (iblk m c 2 t) (iblk m c 5 t)) (iblk m c 4 t))⟩,
        ⟨Rect.unit ![1, 0, 0] ![1, 2048, 256] inb_S2x2048x256_S1x2048x256_1_0_0,
          k0_pay10 (k0_pay3 (grid0.coords t) (iblk m c 0 t)) (iblk m c 3 t) (iblk m c 1 t) (iblk m c 2 t)
            (iblk m c 5 t)⟩] := by
  simp only [outsAt0]
  frame_out

/-- The point's block of the mixing matrix's gradient. -/
theorem out7 (t : Fin cfg0.N) : (outsAt0 m c t).2.1 = k0_pay13 (F := Ideal) (k0_pay4 (k0_pay3 (grid0.coords t) (iblk m c 0 t)))
    (k0_pay11 (iblk m c 1 t) (iblk m c 2 t) (iblk m c 5 t)) := by
  simp only [outsAt0]
  frame_out

/-- The point's block of the scale's gradient. -/
theorem out8 (t : Fin cfg0.N) : (outsAt0 m c t).2.2
    = k0_pay9 (F := Ideal) (k0_pay3 (grid0.coords t) (iblk m c 0 t)) (iblk m c 3 t) (iblk m c 1 t) (iblk m c 2 t) := by
  simp only [outsAt0]
  frame_out

include hh in
/-- The pooled columns at a point. -/
theorem pooled_at (t : Fin cfg0.N) (s : Fin 2048) (j : Fin 256) :
    k0_pay3 (F := Ideal) (grid0.coords t) (iblk m c 0 t) (ix2 s j)
      = ((pooled (gp t).val (colX (m ((c : Thread nD τ).loc main_arg0)) (gp t) j) s : ℝ) : EReal) := by
  rw [PoolBlock.pay3_apply (grid0.coords t) _ _ (iblk0 m c hh t)]
  rw [show (grid0.coords t 0).val = (gp t).val from coord0 t]

include hh hw in
/-- The mixed columns at a point. -/
theorem mixed_at (t : Fin cfg0.N) (s : Fin 2048) (j : Fin 256) :
    k0_pay5 (F := Ideal) (k0_pay3 (grid0.coords t) (iblk m c 0 t)) (iblk m c 3 t) (ix2 s j)
      = ((mixed (gp t).val (colX (m ((c : Thread nD τ).loc main_arg0)) (gp t)) (matW (m ((c : Thread nD τ).loc main_arg3)) (gp t)) s j : ℝ) : EReal) := by
  rw [PoolBlock.pay5_apply _ _ _ (fun j s => pooled (gp t).val (colX (m ((c : Thread nD τ).loc main_arg0)) (gp t) j) s)
    (pooled_at m c hh t) (iblk3 m c hw t)]
  rfl

include hh hd hs in
/-- The mixed columns' gradient at a point. -/
theorem dmixed_at (t : Fin cfg0.N) (s : Fin 2048) (j : Fin 256) :
    k0_pay11 (F := Ideal) (iblk m c 1 t) (iblk m c 2 t) (iblk m c 5 t) (ix2 s j)
      = ((dmixed (colZ (m ((c : Thread nD τ).loc main_arg0)) (gp t)) (colD (m ((c : Thread nD τ).loc main_arg1)) (gp t))
          (scl (m ((c : Thread nD τ).loc main_arg4)) (gp t)) s j : ℝ) : EReal) :=
  PoolBlock.pay11_apply _ _ _ _ _ _ (iblk1 m c hh t) (iblk2 m c hd t) (iblk5 m c hs t) s j

/-- The result arrays' contents, of the argument arrays. -/
abbrev R0 : S4x2048x1024.Idx → EReal := G0 (m ((c : Thread nD τ).loc main_arg0)) (m ((c : Thread nD τ).loc main_arg1))
  (m ((c : Thread nD τ).loc main_arg2)) (m ((c : Thread nD τ).loc main_arg3)) (m ((c : Thread nD τ).loc main_arg4))
/-- The expected gradient of the mixing matrices. -/
abbrev R1 : S4x256x256.Idx → EReal := G1 (m ((c : Thread nD τ).loc main_arg0)) (m ((c : Thread nD τ).loc main_arg1))
  (m ((c : Thread nD τ).loc main_arg4))
/-- The expected gradient of the output scale. -/
abbrev R2 : S1x1024.Idx → EReal := G2 (m ((c : Thread nD τ).loc main_arg0)) (m ((c : Thread nD τ).loc main_arg1))
  (m ((c : Thread nD τ).loc main_arg3))

/-- A column's group and lane from its number. -/
theorem grp_eq (g : Fin 4) (j : Fin 256) (q : Fin 1024) (h : q.val = 256 * g.val + j.val) : grp q = g ∧ lane q = j := by
  constructor
  · apply Fin.ext; show q.val / 256 = _; omega
  · apply Fin.ext; show q.val % 256 = _; omega

/-- The result of the projected input's gradient at the block of a group. -/
theorem R0_at (g : Fin 4) (a : Fin 2) (s : Fin 2048) (j : Fin 256) (ha : 2 + a.val < 4) (hj : 256 * g.val + j.val < 1024) :
    R0 m c (ix3 ⟨2 + a.val, ha⟩ s ⟨256 * g.val + j.val, hj⟩) = if a.val = 0
      then ((dx g.val (colZ (m ((c : Thread nD τ).loc main_arg0)) g) (colD (m ((c : Thread nD τ).loc main_arg1)) g)
        (matW (m ((c : Thread nD τ).loc main_arg3)) g) (scl (m ((c : Thread nD τ).loc main_arg4)) g) s j : ℝ) : EReal)
      else ((dgate g.val (colX (m ((c : Thread nD τ).loc main_arg0)) g) (colZ (m ((c : Thread nD τ).loc main_arg0)) g)
        (colD (m ((c : Thread nD τ).loc main_arg1)) g)
        (matW (m ((c : Thread nD τ).loc main_arg3)) g) (scl (m ((c : Thread nD τ).loc main_arg4)) g) s j : ℝ) : EReal) := by
  obtain ⟨h1, h2⟩ := grp_eq g j ⟨256 * g.val + j.val, hj⟩ rfl
  unfold R0 G0
  show (if 2 + a.val < 2 then _ else if 2 + a.val = 2 then
      ((dx (grp ⟨256 * g.val + j.val, hj⟩).val (colZ _ (grp ⟨256 * g.val + j.val, hj⟩)) (colD _ (grp ⟨256 * g.val + j.val, hj⟩))
        (matW _ (grp ⟨256 * g.val + j.val, hj⟩)) (scl _ (grp ⟨256 * g.val + j.val, hj⟩)) s.val (lane ⟨256 * g.val + j.val, hj⟩) : ℝ) : EReal)
      else ((dgate (grp ⟨256 * g.val + j.val, hj⟩).val (colX _ (grp ⟨256 * g.val + j.val, hj⟩)) (colZ _ (grp ⟨256 * g.val + j.val, hj⟩))
        (colD _ (grp ⟨256 * g.val + j.val, hj⟩))
        (matW _ (grp ⟨256 * g.val + j.val, hj⟩)) (scl _ (grp ⟨256 * g.val + j.val, hj⟩)) s.val (lane ⟨256 * g.val + j.val, hj⟩) : ℝ) : EReal)) = _
  rw [h1, h2, if_neg (show ¬ (2 + a.val < 2) by omega)]
  by_cases ha : a.val = 0
  · rw [if_pos ha, if_pos (by omega)]
  · rw [if_neg ha, if_neg (by omega)]

/-- The result of the scale's gradient at a group's column. -/
theorem R2_at (g : Fin 4) (j : Fin 256) (hj : 256 * g.val + j.val < 1024) :
    R2 m c (ix2 0 ⟨256 * g.val + j.val, hj⟩) = ((dds g.val (colX (m ((c : Thread nD τ).loc main_arg0)) g)
      (colZ (m ((c : Thread nD τ).loc main_arg0)) g) (colD (m ((c : Thread nD τ).loc main_arg1)) g)
      (matW (m ((c : Thread nD τ).loc main_arg3)) g) j : ℝ) : EReal) := by
  obtain ⟨h1, h2⟩ := grp_eq g j ⟨256 * g.val + j.val, hj⟩ rfl
  unfold R2 G2
  show ((dds (grp ⟨256 * g.val + j.val, hj⟩).val (colX _ (grp ⟨256 * g.val + j.val, hj⟩)) (colZ _ (grp ⟨256 * g.val + j.val, hj⟩))
        (colD _ (grp ⟨256 * g.val + j.val, hj⟩))
        (matW _ (grp ⟨256 * g.val + j.val, hj⟩)) (lane ⟨256 * g.val + j.val, hj⟩) : ℝ) : EReal) = _
  rw [h1, h2]

include hh hd hs in
/-- The mixing matrices' gradient after the run. -/
theorem final7 : (dats m 0 c).arrAt 7 cfg0.N = R1 m c := by
  refine (dats m 0 c).arrAt_eq_of_covers 7 _ (by decide +kernel) fun t hf y => ?_
  obtain ⟨i, j, rfl⟩ : ∃ (i j : Fin 256), y = ix3 (n0 := 1) 0 i j :=
    ⟨y 1, y 2, (eq_ix3 (n0 := 1) (n1 := 256) (n2 := 256) y).trans (by congr 1; exact Subsingleton.elim _ _)⟩
  have e0 : ((win0_7.blk t).view.emb (ix3 0 i j) : S4x256x256.Idx) = ix3 (gp t) i j := by
    have hg : (gp t).val = t.val := rfl
    blk_ext [idx7]
  blk_simp
  rw [after0_7, out7]
  refine (PoolBlock.pay13_apply _ _ (fun j s => pooled (gp t).val (colX (m ((c : Thread nD τ).loc main_arg0)) (gp t) j) s) _
    (pooled_at m c hh t) (dmixed_at m c hh hd hs t) i j).trans ?_
  exact (congrArg (R1 m c) e0).symm

include hh hd hw in
/-- The scale's gradient after the run. -/
theorem final8 : (dats m 0 c).arrAt 8 cfg0.N = R2 m c := by
  refine (dats m 0 c).arrAt_eq_of_covers 8 _ (by decide +kernel) fun t hf y => ?_
  obtain ⟨j, rfl⟩ : ∃ (j : Fin 256), y = ix2 (n0 := 1) 0 j :=
    ⟨y 1, (eq_ix2 (n0 := 1) (n1 := 256) y).trans (by congr 1; exact Subsingleton.elim _ _)⟩
  have e0 : ((win0_8.blk t).view.emb (ix2 0 j) : S1x1024.Idx) = ix2 0 ⟨256 * (gp t).val + j.val, by omega⟩ := by
    have hg : (gp t).val = t.val := rfl
    blk_ext [idx8]
  blk_simp
  rw [after0_8, out8]
  refine (PoolBlock.pay9_apply _ _ _ _ _ _ _ (mixed_at m c hh hw t) (iblk1 m c hh t) (iblk2 m c hd t) j).trans ?_
  exact ((congrArg (R2 m c) e0).trans (R2_at m c (gp t) j _)).symm

/-- A point's block of the projected input's gradient, read off the result. -/
def blk6 (t : Fin cfg0.N) (y : S2x2048x256.Idx) : EReal :=
  R0 m c (ix3 ⟨2 + (y 0).val, by have : (y 0).val < 2 := (y 0).isLt; omega⟩ (y 1)
    ⟨256 * (gp t).val + (y 2).val, by have : (y 2).val < 256 := (y 2).isLt; omega⟩)

include hh hd hw hs in
/-- A point's block of the projected input's gradient. -/
theorem out6_apply (t : Fin cfg0.N) (y : S2x2048x256.Idx) :
    (outsAt0 m c t).1 y = R0 m c (ix3 ⟨2 + (y 0).val, by have : (y 0).val < 2 := (y 0).isLt; omega⟩ (y 1)
      ⟨256 * (gp t).val + (y 2).val, by have : (y 2).val < 256 := (y 2).isLt; omega⟩) := by
  rw [out6]
  refine View.canon_apply_of_pieces (Val := Elt Ideal) (S := S2x2048x256) (e := .bf16) (blk6 m c t) _ ?_ _ ?_
  · intro p hp x
    simp only [List.mem_cons, List.not_mem_nil, or_false] at hp
    rcases hp with rfl | rfl
    · obtain ⟨s, j, rfl⟩ : ∃ (s : Fin 2048) (j : Fin 256), x = ix3 (n0 := 1) 0 s j :=
        ⟨x 1, x 2, (eq_ix3 (n0 := 1) (n1 := 2048) (n2 := 256) x).trans (by congr 1; exact Subsingleton.elim _ _)⟩
      have e0 : (Rect.unit (s := S2x2048x256) ![0, 0, 0] ![1, 2048, 256] inb_S2x2048x256_S1x2048x256_0_0_0).emb (ix3 0 s j)
          = ix3 (n0 := 2) (n1 := 2048) (n2 := 256) 0 s j := by
        funext b; match b with | ⟨0, _⟩ => exact Fin.ext rfl | ⟨1, _⟩ => exact Fin.ext (show 0 + 1 * s.val = s.val by omega) | ⟨2, _⟩ => exact Fin.ext (show 0 + 1 * j.val = j.val by omega)
      refine (PoolBlock.pay1_apply (grid0.coords t) _ _
        (quot (gp t).val (colZ (m ((c : Thread nD τ).loc main_arg0)) (gp t)) (colD (m ((c : Thread nD τ).loc main_arg1)) (gp t))
          (matW (m ((c : Thread nD τ).loc main_arg3)) (gp t)) (scl (m ((c : Thread nD τ).loc main_arg4)) (gp t)))
        (fun j t ht => if_neg (by omega))
        (dpooled (colZ (m ((c : Thread nD τ).loc main_arg0)) (gp t)) (colD (m ((c : Thread nD τ).loc main_arg1)) (gp t))
          (matW (m ((c : Thread nD τ).loc main_arg3)) (gp t)) (scl (m ((c : Thread nD τ).loc main_arg4)) (gp t)))
        (fun s j => PoolBlock.pay12_apply _ _ _ _ (dmixed_at m c hh hd hs t) (iblk4 m c hw t) s j)
        (fun s j => by
          rw [show (grid0.coords t 0).val = (gp t).val from coord0 t]
          exact (if_pos s.isLt).symm) s j).trans ?_
      rw [show (grid0.coords t 0).val = (gp t).val from coord0 t]
      refine Eq.trans ?_ (congrArg (blk6 m c t) e0).symm
      exact (R0_at m c (gp t) 0 s j _ _).symm
    · obtain ⟨s, j, rfl⟩ : ∃ (s : Fin 2048) (j : Fin 256), x = ix3 (n0 := 1) 0 s j :=
        ⟨x 1, x 2, (eq_ix3 (n0 := 1) (n1 := 2048) (n2 := 256) x).trans (by congr 1; exact Subsingleton.elim _ _)⟩
      have e0 : (Rect.unit (s := S2x2048x256) ![1, 0, 0] ![1, 2048, 256] inb_S2x2048x256_S1x2048x256_1_0_0).emb (ix3 0 s j)
          = ix3 (n0 := 2) (n1 := 2048) (n2 := 256) 1 s j := by
        funext b; match b with | ⟨0, _⟩ => exact Fin.ext rfl | ⟨1, _⟩ => exact Fin.ext (show 0 + 1 * s.val = s.val by omega) | ⟨2, _⟩ => exact Fin.ext (show 0 + 1 * j.val = j.val by omega)
      refine (PoolBlock.pay10_apply _ _ _ _ _ _ _ _ _ (mixed_at m c hh hw t) (iblk1 m c hh t) (iblk2 m c hd t) (iblk5 m c hs t) s j).trans ?_
      refine Eq.trans ?_ (congrArg (blk6 m c t) e0).symm
      exact (R0_at m c (gp t) 1 s j _ _).symm
  · have h0 : (y 0).val < 2 := (y 0).isLt
    have h1 : (y 1).val < 2048 := (y 1).isLt
    have h2 : (y 2).val < 256 := (y 2).isLt
    rcases (by omega : (y 0).val = 0 ∨ (y 0).val = 1) with h | h
    · refine ⟨_, List.mem_cons_self, ?_⟩
      rw [Rect.mem_set_unit]
      intro a
      match a with
      | ⟨0, _⟩ => show 0 ≤ (y 0).val ∧ (y 0).val < 0 + 1; omega
      | ⟨1, _⟩ => show 0 ≤ (y 1).val ∧ (y 1).val < 0 + 2048; omega
      | ⟨2, _⟩ => show 0 ≤ (y 2).val ∧ (y 2).val < 0 + 256; omega
    · refine ⟨_, List.mem_cons_of_mem _ List.mem_cons_self, ?_⟩
      rw [Rect.mem_set_unit]
      intro a
      match a with
      | ⟨0, _⟩ => show 1 ≤ (y 0).val ∧ (y 0).val < 1 + 1; omega
      | ⟨1, _⟩ => show 0 ≤ (y 1).val ∧ (y 1).val < 0 + 2048; omega
      | ⟨2, _⟩ => show 0 ≤ (y 2).val ∧ (y 2).val < 0 + 256; omega

include hh hd hw hs in
/-- The projected input's gradient after the run. -/
theorem final6 : (dats m 0 c).arrAt 6 cfg0.N = R0 m c := by
  refine (dats m 0 c).arrAt_eq_of_coversWhere_of_agree 6 _ (fun β => 1 ≤ β (0 : Fin 3)) (by decide +kernel) (fun t hf y => ?_) (fun j hj => ?_)
  · have e0 : ((win0_6.blk t).view.emb y : S4x2048x1024.Idx)
        = ix3 ⟨2 + (y 0).val, by have : (y 0).val < 2 := (y 0).isLt; omega⟩ (y 1) ⟨256 * (gp t).val + (y 2).val, by have : (y 2).val < 256 := (y 2).isLt; omega⟩ := by
      have hg : (gp t).val = t.val := rfl
      blk_ext [idx6]
    blk_simp
    rw [after0_6]
    exact (out6_apply m c hh hd hw hs t y).trans (congrArg (R0 m c) e0).symm
  · blk_simp [Pipeline.Window.cell_apply] at hj
    rw [A_eq]
    have e : V m c (Pipeline.arrRef spec0 6) = m ((c : Thread nD τ).loc main_arg2) := V_main_v3 m c
    rw [e]
    have h : (((cfg0.win 6).arr.view.emb j : S4x2048x1024.Idx) 0).val < 2 := by
      show (j 0).val < 2
      omega
    exact (if_pos h).symm

/-- Every argument array of real numbers. -/
def FiniteArgs : Prop := ∀ c : Dev nD, PoolSpec.Finite (m ((c : Thread nD τ).loc main_arg0)) ∧ PoolSpec.Finite (m ((c : Thread nD τ).loc main_arg1))
  ∧ PoolSpec.Finite (m ((c : Thread nD τ).loc main_arg3)) ∧ PoolSpec.Finite (m ((c : Thread nD τ).loc main_arg4))

end Cert.PoolKernel

end
-- ==== Proof.PoolHost.lean ====
/- The layout operations of the pooling mixer's reference, read at an index: joining and padding along the rows, padding
   along the columns, running sums down and up the rows. -/
module

public import proofs.«01_k».proof.Proof.PoolSpec
public import Idealize.ShloMosaic.Lib.Pipeline.Value
public import Idealize.ShloMosaic.Lib.KernelVsHost
public import Idealize.ShloMosaic.Lib.IdealHost
public import Idealize.ShloMosaic.Lib.ValueIdx

@[expose] public section

set_option maxRecDepth 16384

noncomputable section

namespace Cert.PoolHost

open Idealize.ShloMosaic hiding addf_apply mulf_apply subf_apply divf_apply truncf_apply
open Cert.Windows Cert.PoolSpec
open scoped BigOperators

/-- The column of group `g` and lane `j`. -/
def col (g : Fin 4) (j : Fin 256) : Fin 1024 := ⟨256 * g.val + j.val, by omega⟩

/-- A rank-3 index is known by its coordinates. -/
theorem ix3_ext {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  funext e
  match e with
  | ⟨0, _⟩ => exact Fin.ext h0
  | ⟨1, _⟩ => exact Fin.ext h1
  | ⟨2, _⟩ => exact Fin.ext h2

/-- A rank-4 index is known by its coordinates. -/
theorem ix4_ext {n0 n1 n2 n3 : ℕ} (x : (⟨4, ![n0, n1, n2, n3]⟩ : Shape).Idx) (a : Fin n0) (b : Fin n1) (c : Fin n2) (d : Fin n3)
    (h0 : (x 0).val = a.val) (h1 : (x 1).val = b.val) (h2 : (x 2).val = c.val) (h3 : (x 3).val = d.val) : x = ix4 a b c d := by
  funext e
  match e with
  | ⟨0, _⟩ => exact Fin.ext h0
  | ⟨1, _⟩ => exact Fin.ext h1
  | ⟨2, _⟩ => exact Fin.ext h2
  | ⟨3, _⟩ => exact Fin.ext h3

/-- `w` rows joined before `n` rows, at a row. -/
theorem cat_rows {w n : ℕ} (hwn : w + n = 2048) (z : (⟨3, ![1, w, 256]⟩ : Shape).Idx → EReal) (y : (⟨3, ![1, n, 256]⟩ : Shape).Idx → EReal)
    (h : Shape.Concatenates [(⟨3, ![1, w, 256]⟩ : Shape), ⟨3, ![1, n, 256]⟩] ⟨3, ![1, 2048, 256]⟩ 1) (s : Fin 2048) (j : Fin 256) :
    concatenate (⟨3, ![1, 2048, 256]⟩ : Shape) 1 [⟨(⟨3, ![1, w, 256]⟩ : Shape), z⟩, ⟨(⟨3, ![1, n, 256]⟩ : Shape), y⟩] h (ix3 0 s j)
      = if hs : s.val < w then z (ix3 0 ⟨s.val, hs⟩ j) else y (ix3 0 ⟨s.val - w, by omega⟩ j) := by
  by_cases hs : s.val < w
  · rw [dif_pos hs]
    refine concatenate_pair_apply_left 1 z y h _ rfl _ fun b => ?_
    match b with
    | ⟨0, _⟩ => rfl
    | ⟨1, _⟩ => rfl
    | ⟨2, _⟩ => rfl
  · rw [dif_neg hs]
    refine concatenate_pair_apply_right 1 z y h _ rfl rfl _ (fun b hb => ?_) ?_
    · match b with
      | ⟨0, _⟩ => rfl
      | ⟨1, _⟩ => exact absurd rfl hb
      | ⟨2, _⟩ => rfl
    · show s.val - w + w = s.val
      omega

/-- Four groups joined along the group axis, at an index. -/
theorem cat_four (y : Fin 4 → ((⟨4, ![1, 2048, 1, 256]⟩ : Shape).Idx → EReal))
    (h : Shape.Concatenates [(⟨4, ![1, 2048, 1, 256]⟩ : Shape), (⟨4, ![1, 2048, 1, 256]⟩ : Shape), (⟨4, ![1, 2048, 1, 256]⟩ : Shape), (⟨4, ![1, 2048, 1, 256]⟩ : Shape)] (⟨4, ![1, 2048, 4, 256]⟩ : Shape) 2) (s : Fin 2048) (g : Fin 4) (i : Fin 256) :
    concatenate (⟨4, ![1, 2048, 4, 256]⟩ : Shape) 2 [⟨(⟨4, ![1, 2048, 1, 256]⟩ : Shape), y 0⟩, ⟨(⟨4, ![1, 2048, 1, 256]⟩ : Shape), y 1⟩, ⟨(⟨4, ![1, 2048, 1, 256]⟩ : Shape), y 2⟩, ⟨(⟨4, ![1, 2048, 1, 256]⟩ : Shape), y 3⟩] h (ix4 0 s g i) = y g (ix4 0 s 0 i) := by
  have hb : ∀ (g : Fin 4) (b : Fin 4), b ≠ 2 → ((ix4 (n0 := 1) (n1 := 2048) (n2 := 1) (n3 := 256) 0 s 0 i) b).val
      = ((ix4 (n0 := 1) (n1 := 2048) (n2 := 4) (n3 := 256) 0 s g i) b).val := by
    intro g b hb
    match b with
    | ⟨0, _⟩ => rfl
    | ⟨1, _⟩ => rfl
    | ⟨2, _⟩ => exact absurd rfl hb
    | ⟨3, _⟩ => rfl
  match g with
  | ⟨0, _⟩ =>
    exact concatenate_apply_piece (t := (⟨4, ![1, 2048, 4, 256]⟩ : Shape)) 2 [⟨(⟨4, ![1, 2048, 1, 256]⟩ : Shape), y 0⟩, ⟨(⟨4, ![1, 2048, 1, 256]⟩ : Shape), y 1⟩, ⟨(⟨4, ![1, 2048, 1, 256]⟩ : Shape), y 2⟩, ⟨(⟨4, ![1, 2048, 1, 256]⟩ : Shape), y 3⟩] h (ix4 0 s 0 i) 0
          (show 0 < 4 by decide) (⟨4, ![1, 2048, 1, 256]⟩ : Shape) (y 0) rfl rfl 0 rfl (ix4 0 s 0 i) (hb 0) rfl
  | ⟨1, _⟩ =>
    exact concatenate_apply_piece (t := (⟨4, ![1, 2048, 4, 256]⟩ : Shape)) 2 [⟨(⟨4, ![1, 2048, 1, 256]⟩ : Shape), y 0⟩, ⟨(⟨4, ![1, 2048, 1, 256]⟩ : Shape), y 1⟩, ⟨(⟨4, ![1, 2048, 1, 256]⟩ : Shape), y 2⟩, ⟨(⟨4, ![1, 2048, 1, 256]⟩ : Shape), y 3⟩] h (ix4 0 s 1 i) 1
          (show 1 < 4 by decide) (⟨4, ![1, 2048, 1, 256]⟩ : Shape) (y 1) rfl rfl 1 rfl (ix4 0 s 0 i) (hb 1) rfl
  | ⟨2, _⟩ =>
    exact concatenate_apply_piece (t := (⟨4, ![1, 2048, 4, 256]⟩ : Shape)) 2 [⟨(⟨4, ![1, 2048, 1, 256]⟩ : Shape), y 0⟩, ⟨(⟨4, ![1, 2048, 1, 256]⟩ : Shape), y 1⟩, ⟨(⟨4, ![1, 2048, 1, 256]⟩ : Shape), y 2⟩, ⟨(⟨4, ![1, 2048, 1, 256]⟩ : Shape), y 3⟩] h (ix4 0 s 2 i) 2
          (show 2 < 4 by decide) (⟨4, ![1, 2048, 1, 256]⟩ : Shape) (y 2) rfl rfl 2 rfl (ix4 0 s 0 i) (hb 2) rfl
  | ⟨3, _⟩ =>
    exact concatenate_apply_piece (t := (⟨4, ![1, 2048, 4, 256]⟩ : Shape)) 2 [⟨(⟨4, ![1, 2048, 1, 256]⟩ : Shape), y 0⟩, ⟨(⟨4, ![1, 2048, 1, 256]⟩ : Shape), y 1⟩, ⟨(⟨4, ![1, 2048, 1, 256]⟩ : Shape), y 2⟩, ⟨(⟨4, ![1, 2048, 1, 256]⟩ : Shape), y 3⟩] h (ix4 0 s 3 i) 3
          (show 3 < 4 by decide) (⟨4, ![1, 2048, 1, 256]⟩ : Shape) (y 3) rfl rfl 3 rfl (ix4 0 s 0 i) (hb 3) rfl

/-- `n` rows padded at the end to 2048 rows, at a row. -/
theorem pad_rows {w n : ℕ} (x : (⟨3, ![1, n, 256]⟩ : Shape).Idx → EReal) {u : Shape} (v : u.Idx → EReal)
    (h : (⟨3, ![1, n, 256]⟩ : Shape).Pads ![0, 0, 0] ![0, w, 0] ![0, 0, 0] ⟨3, ![1, 2048, 256]⟩) (hu : 0 < u.numel) (s : Fin 2048) (j : Fin 256) :
    pad (⟨3, ![1, 2048, 256]⟩ : Shape) ![0, 0, 0] ![0, w, 0] ![0, 0, 0] x v h hu (ix3 0 s j)
      = if hs : s.val < n then x (ix3 0 ⟨s.val, hs⟩ j) else v (Shape.Idx.first hu) := by
  by_cases hs : s.val < n
  · rw [dif_pos hs]
    refine pad_apply_of_inside _ _ _ x v h hu _ _ fun a => ?_
    match a with
    | ⟨0, _⟩ => rfl
    | ⟨1, _⟩ => show s.val = 0 + s.val * (0 + 1); omega
    | ⟨2, _⟩ => show j.val = 0 + j.val * (0 + 1); omega
  · rw [dif_neg hs]
    refine pad_apply_of_not_inside _ _ _ x v h hu _ (1 : Fin 3) fun hin => hs ?_
    have := hin.2.2
    change (s.val - 0) / (0 + 1) < n at this
    rwa [Nat.sub_zero, Nat.zero_add, Nat.div_one] at this

/-- 256 columns padded to 1024 columns, at a column inside. -/
theorem pad_cols_in {hi : ℕ} (g : Fin 4) {o : ℕ} (ho : o = 256 * g.val) (x : (⟨3, ![1, 2048, 256]⟩ : Shape).Idx → EReal) {u : Shape} (v : u.Idx → EReal)
    (h : (⟨3, ![1, 2048, 256]⟩ : Shape).Pads ![0, 0, o] ![0, 0, hi] ![0, 0, 0] ⟨3, ![1, 2048, 1024]⟩) (hu : 0 < u.numel) (s : Fin 2048) (j : Fin 256) :
    pad (⟨3, ![1, 2048, 1024]⟩ : Shape) ![0, 0, o] ![0, 0, hi] ![0, 0, 0] x v h hu (ix3 0 s (col g j)) = x (ix3 0 s j) := by
  refine pad_apply_of_inside _ _ _ x v h hu _ _ fun a => ?_
  match a with
  | ⟨0, _⟩ => rfl
  | ⟨1, _⟩ => show s.val = 0 + s.val * (0 + 1); omega
  | ⟨2, _⟩ => show 256 * g.val + j.val = o + j.val * (0 + 1); omega

/-- 256 columns padded to 1024 columns, at a column outside. -/
theorem pad_cols_out {hi : ℕ} (g g' : Fin 4) (hg : g ≠ g') {o : ℕ} (ho : o = 256 * g'.val) (x : (⟨3, ![1, 2048, 256]⟩ : Shape).Idx → EReal) {u : Shape} (v : u.Idx → EReal)
    (h : (⟨3, ![1, 2048, 256]⟩ : Shape).Pads ![0, 0, o] ![0, 0, hi] ![0, 0, 0] ⟨3, ![1, 2048, 1024]⟩) (hu : 0 < u.numel) (s : Fin 2048) (j : Fin 256) :
    pad (⟨3, ![1, 2048, 1024]⟩ : Shape) ![0, 0, o] ![0, 0, hi] ![0, 0, 0] x v h hu (ix3 0 s (col g j)) = v (Shape.Idx.first hu) := by
  refine pad_apply_of_not_inside _ _ _ x v h hu _ (2 : Fin 3) fun hin => ?_
  have h1 := hin.1
  have h2 := hin.2.2
  change o ≤ 256 * g.val + j.val at h1
  change (256 * g.val + j.val - o) / (0 + 1) < 256 at h2
  rw [Nat.zero_add, Nat.div_one] at h2
  have : g.val ≠ g'.val := fun e => hg (Fin.ext e)
  omega

/-- A reversed running sum's terms are the running sum's. -/
theorem sum_back (f : ℕ → ℝ) (s : ℕ) (hs : s < 2048) :
    ∑ n ∈ Finset.range 2048, (if 2047 ≤ s + n then f (s + n - 2047) else 0) = pre f s := by
  rw [show (2048 : ℕ) = (2047 - s) + (s + 1) by omega, Finset.sum_range_add, Finset.sum_eq_zero, zero_add]
  · unfold pre
    refine Finset.sum_congr rfl fun i _ => ?_
    rw [if_pos (by omega)]
    congr 1
    omega
  · intro n hn
    rw [Finset.mem_range] at hn
    rw [if_neg (by omega)]

/-- A running sum down the rows, at an index. -/
theorem cumsum_apply (h : (⟨3, ![1, 2048, 1024]⟩ : Shape).ReduceWindows ![1, 2048, 1] ![1, 1, 1] ![0, 2047, 0] ![0, 0, 0] ⟨3, ![1, 2048, 1024]⟩)
    {u : Shape} (hu : 0 < u.numel) (x : FVec Ideal ⟨3, ![1, 2048, 1024]⟩ .f32) (init : FVec Ideal u .f32)
    (hi0 : init (Shape.Idx.first hu) = 0) (c : Fin 1024) (f : ℕ → ℝ)
    (hx : ∀ s : Fin 2048, x (ix3 0 s c) = ((f s : ℝ) : EReal)) (s : Fin 2048) :
    Host.reduceWindowAdd ![1, 2048, 1] ![1, 1, 1] ![0, 2047, 0] ![0, 0, 0] x init h hu (ix3 0 s c) = ((pre f s : ℝ) : EReal) := by
  refine (reduceWindow_apply 2047 0 h hu x init hi0 0 s c).trans ?_
  rw [← sum_back f s s.isLt, ← Fin.sum_univ_eq_sum_range (fun n => if 2047 ≤ s.val + n then f (s.val + n - 2047) else 0), ← coe_sum]
  refine Finset.sum_congr rfl fun n _ => ?_
  by_cases hn : 2047 ≤ s.val + n.val
  · rw [dif_pos ⟨hn, by omega⟩, if_pos hn]
    exact hx _
  · rw [dif_neg (fun q => hn q.1), if_neg hn]
    rfl

/-- A running sum up the rows of a column's differences, at an index: the leading window. -/
theorem revsum_apply (h : (⟨3, ![1, 2048, 1024]⟩ : Shape).ReduceWindows ![1, 2048, 1] ![1, 1, 1] ![0, 0, 0] ![0, 2047, 0] ⟨3, ![1, 2048, 1024]⟩)
    {u : Shape} (hu : 0 < u.numel) (x : FVec Ideal ⟨3, ![1, 2048, 1024]⟩ .f32) (init : FVec Ideal u .f32)
    (hi0 : init (Shape.Idx.first hu) = 0) (c : Fin 1024) (f : ℕ → ℝ) (w : ℕ) (hf : ∀ n, 2048 ≤ n → f n = 0)
    (hx : ∀ s : Fin 2048, x (ix3 0 s c) = ((f s - f (s + w) : ℝ) : EReal)) (s : Fin 2048) :
    Host.reduceWindowAdd ![1, 2048, 1] ![1, 1, 1] ![0, 0, 0] ![0, 2047, 0] x init h hu (ix3 0 s c) = ((up w f s : ℝ) : EReal) := by
  refine (reduceWindow_apply 0 2047 h hu x init hi0 0 s c).trans ?_
  rw [← suf_sub hf s.val w, ← Fin.sum_univ_eq_sum_range (fun n => f (s.val + n) - f (s.val + n + w)), ← coe_sum]
  refine Finset.sum_congr rfl fun n _ => ?_
  by_cases hn : s.val + n.val < 2048
  · rw [dif_pos ⟨Nat.zero_le _, by omega⟩]
    exact hx _
  · rw [dif_neg (fun q => hn (by omega)), hf _ (by omega), hf _ (by omega), sub_zero]
    rfl

/-- The word of two. -/
theorem word_two : Ideal.ofBits .f32 0x40000000#32 = ((2 : ℝ) : EReal) := by
  simp [Ideal.ofBits, Ideal.ieee, -EReal.coe_mul]; norm_num

/-- The word of four. -/
theorem word_four : Ideal.ofBits .f32 0x40800000#32 = ((4 : ℝ) : EReal) := by
  simp [Ideal.ofBits, Ideal.ieee, -EReal.coe_mul]; norm_num

/-- The word of eight. -/
theorem word_eight : Ideal.ofBits .f32 0x41000000#32 = ((8 : ℝ) : EReal) := by
  simp [Ideal.ofBits, Ideal.ieee, -EReal.coe_mul]; norm_num

/-- The word of sixteen. -/
theorem word_sixteen : Ideal.ofBits .f32 0x41800000#32 = ((16 : ℝ) : EReal) := by
  simp [Ideal.ofBits, Ideal.ieee, -EReal.coe_mul]; norm_num

/-- The lesser of a row's number and a window's length, as reals. -/
theorem min_real (n w : ℕ) : min (((n : ℝ) + 1 : ℝ) : EReal) (((w : ℝ) : ℝ) : EReal) = (((min (n + 1) w : ℕ) : ℝ) : EReal) := by
  rw [← EReal.coe_strictMono.monotone.map_min]
  push_cast
  rfl

end Cert.PoolHost

end
-- ==== Proof.PoolForward.lean ====
/- The pooling mixer's reference at an index, up to the pooled and mixed columns. -/
module

public import proofs.«01_k».proof.Proof.PoolHost
public import proofs.«01_k».proof.Proof.Gen.PoolRefIdeal.Read

@[expose] public section

set_option maxRecDepth 16384

noncomputable section

namespace Cert.PoolForward

open Idealize.ShloMosaic hiding addf_apply mulf_apply subf_apply divf_apply truncf_apply
open Cert.Windows Cert.PoolSpec Cert.PoolHost
open Cert.PoolRefIdeal Cert.PoolRefIdeal.Gen Cert.PoolRefIdeal.Read
open scoped BigOperators

variable (x0 : S2048x4096.Idx → EReal) (x1 : S2x2048x1024.Idx → EReal) (x3 : S4x256x256.Idx → EReal) (x4 : S1024.Idx → EReal)
  (hx : FiniteX x0) (h0 : PoolSpec.Finite x0) (h1 : PoolSpec.Finite x1) (h3 : PoolSpec.Finite x3) (h4 : PoolSpec.Finite x4)

include hx in
/-- The mixer's input. -/
theorem v1_at (g : Fin 4) (s : Fin 2048) (j : Fin 256) : val_main_v1 (F := Ideal) x0 (ix3 0 s (col g j)) = ((colX x0 g j s : ℝ) : EReal) := by
  rw [val_main_v1_apply, val_main_v0_apply]
  unfold colX hcol
  rw [dif_pos s.isLt, EReal.coe_toReal (hx s g j).1 (hx s g j).2]
  refine congrArg x0 ?_
  funext b
  match b with
  | ⟨0, _⟩ => rfl
  | ⟨1, _⟩ => exact Fin.ext (show 2048 + (256 * g.val + j.val) = 2048 + 256 * g.val + j.val by omega)

include h0 in
/-- The gate's input. -/
theorem v3_at (g : Fin 4) (s : Fin 2048) (j : Fin 256) : val_main_v3 (F := Ideal) x0 (ix3 0 s (col g j)) = ((colZ x0 g j s : ℝ) : EReal) := by
  rw [val_main_v3_apply, val_main_v2_apply]
  unfold colZ hcol
  rw [dif_pos s.isLt, EReal.coe_toReal (h0 _).1 (h0 _).2]
  refine congrArg x0 ?_
  funext b
  match b with
  | ⟨0, _⟩ => rfl
  | ⟨1, _⟩ => exact Fin.ext (show 3072 + (256 * g.val + j.val) = 3072 + 256 * g.val + j.val by omega)

include hx in
/-- The running sum of the mixer's input. -/
theorem v4_at (g : Fin 4) (s : Fin 2048) (j : Fin 256) : val_main_v4 (F := Ideal) x0 (ix3 0 s (col g j)) = ((pre (colX x0 g j) s : ℝ) : EReal) := by
  unfold val_main_v4
  exact cumsum_apply _ _ _ _ Ideal.ofBits_zero_f32 _ _ (fun s => v1_at x0 hx g s j) s

/-- The rows' numbers. -/
theorem v8_at (s : Fin 2048) : val_main_v8 (F := Ideal) (ix3 0 s 0) = (((s : ℕ) : ℝ) + 1 : ℝ) := by
  rw [val_main_v8_apply, val_main_v6_apply, val_main_v7_apply]
  have e : val_main_v5 (F := Ideal) (idx_main_v6 (ix3 0 s 0)) = (((s : ℕ) : ℝ) : EReal) := by
    show (((BitVec.ofNat 32 s.val).toInt : ℝ) : EReal) = _
    rw [BitVec.toInt_eq_toNat_of_lt (by rw [BitVec.toNat_ofNat]; omega), BitVec.toNat_ofNat, Nat.mod_eq_of_lt (by omega)]
    rfl
  rw [e, show val_main_cst (F := Ideal) (idx_main_v7 (ix3 0 s 0)) = ((1 : ℝ) : EReal) from Ideal.ofBits_one_f32.trans (by norm_cast)]
  exact (EReal.coe_add _ _).symm

/-- The window's count of group 0. -/
theorem cnt0_at (s : Fin 2048) : val_main_v16 (F := Ideal) (ix3 0 s 0) = ((cnt 0 s : ℝ) : EReal) := by
  rw [val_main_v16_apply, val_main_v15_apply, v8_at,
    show val_main_cst_2 (F := Ideal) (idx_main_v15 (ix3 0 s 0)) = ((((2 : ℕ) : ℝ) : ℝ) : EReal) from word_two.trans (by norm_num)]
  exact min_real s.val 2

include hx in
/-- The pooled columns of group 0. -/
theorem pool0_at (s : Fin 2048) (j : Fin 256) : val_main_v20 (F := Ideal) x0 (ix3 0 s j) = ((pooled 0 (colX x0 0 j) s : ℝ) : EReal) := by
  have ec : ∀ (s : Fin 2048), val_main_v9 (F := Ideal) x0 (ix3 0 s j) = ((pre (colX x0 0 j) s : ℝ) : EReal) := fun s =>
    (val_main_v9_apply (F := Ideal) x0 _).trans ((congrArg (val_main_v4 (F := Ideal) x0) (ix3_ext (n0 := 1) (n1 := 2048) (n2 := 1024) _ 0 s (col 0 j) rfl rfl
      (show j.val = 256 * 0 + j.val by omega))).trans (v4_at x0 hx 0 s j))
  have ex : val_main_v19 (F := Ideal) x0 (ix3 0 s j) = ((colX x0 0 j s : ℝ) : EReal) :=
    (val_main_v19_apply (F := Ideal) x0 _).trans ((congrArg (val_main_v1 (F := Ideal) x0) (ix3_ext (n0 := 1) (n1 := 2048) (n2 := 1024) _ 0 s (col 0 j) rfl rfl
      (show j.val = 256 * 0 + j.val by omega))).trans (v1_at x0 hx 0 s j))
  have en : val_main_v17 (F := Ideal) (ix3 0 s j) = ((cnt 0 s : ℝ) : EReal) :=
    (val_main_v17_apply (F := Ideal) _).trans ((congrArg (val_main_v16 (F := Ideal)) (ix3_ext (n0 := 1) (n1 := 2048) (n2 := 1) _ 0 s 0 rfl rfl rfl)).trans (cnt0_at s))
  have es : val_main_v12 (F := Ideal) x0 (ix3 0 s j) = ((if 2 ≤ s.val then pre (colX x0 0 j) (s.val - 2) else 0 : ℝ) : EReal) := by
    unfold val_main_v12
    refine Eq.trans (cat_rows (w := 2) (n := 2046) (by omega) _ _ _ s j) ?_
    by_cases hs : s.val < 2
    · rw [dif_pos hs, if_neg (by omega)]
      exact Ideal.ofBits_zero_f32
    · rw [dif_neg hs, if_pos (by omega)]
      exact (val_main_v11_apply (F := Ideal) x0 _).trans ((congrArg (val_main_v9 (F := Ideal) x0) (ix3_ext (n0 := 1) (n1 := 2048) (n2 := 256) _ 0 ⟨s.val - 2, by omega⟩ j rfl rfl rfl)).trans
        (ec ⟨s.val - 2, by omega⟩))
  rw [val_main_v20_apply, val_main_v18_apply, val_main_v14_apply, ec, es, ex, en]
  have e1 : FloatOps.subf (F := Ideal) (φ := .f32) ((pre (colX x0 0 j) s : ℝ) : EReal) ((if 2 ≤ s.val then pre (colX x0 0 j) (s.val - 2) else 0 : ℝ) : EReal)
      = ((down 2 (colX x0 0 j) s : ℝ) : EReal) := by
    rw [← pre_sub (colX x0 0 j) s.val 2]
    exact (EReal.coe_sub _ _).symm
  rw [e1]
  exact (congrArg (fun a => a - ((colX x0 0 j s : ℝ) : EReal)) (div_real _ (cnt_ne 0 s))).trans (EReal.coe_sub _ _).symm

/-- The window's count of group 1. -/
theorem cnt1_at (s : Fin 2048) : val_main_v28 (F := Ideal) (ix3 0 s 0) = ((cnt 1 s : ℝ) : EReal) := by
  rw [val_main_v28_apply, val_main_v27_apply, v8_at,
    show val_main_cst_5 (F := Ideal) (idx_main_v27 (ix3 0 s 0)) = ((((4 : ℕ) : ℝ) : ℝ) : EReal) from word_four.trans (by norm_num)]
  exact min_real s.val 4

include hx in
/-- The pooled columns of group 1. -/
theorem pool1_at (s : Fin 2048) (j : Fin 256) : val_main_v32 (F := Ideal) x0 (ix3 0 s j) = ((pooled 1 (colX x0 1 j) s : ℝ) : EReal) := by
  have ec : ∀ (s : Fin 2048), val_main_v21 (F := Ideal) x0 (ix3 0 s j) = ((pre (colX x0 1 j) s : ℝ) : EReal) := fun s =>
    (val_main_v21_apply (F := Ideal) x0 _).trans ((congrArg (val_main_v4 (F := Ideal) x0) (ix3_ext (n0 := 1) (n1 := 2048) (n2 := 1024) _ 0 s (col 1 j) rfl rfl
      (show 256 + j.val = 256 * 1 + j.val by omega))).trans (v4_at x0 hx 1 s j))
  have ex : val_main_v31 (F := Ideal) x0 (ix3 0 s j) = ((colX x0 1 j s : ℝ) : EReal) :=
    (val_main_v31_apply (F := Ideal) x0 _).trans ((congrArg (val_main_v1 (F := Ideal) x0) (ix3_ext (n0 := 1) (n1 := 2048) (n2 := 1024) _ 0 s (col 1 j) rfl rfl
      (show 256 + j.val = 256 * 1 + j.val by omega))).trans (v1_at x0 hx 1 s j))
  have en : val_main_v29 (F := Ideal) (ix3 0 s j) = ((cnt 1 s : ℝ) : EReal) :=
    (val_main_v29_apply (F := Ideal) _).trans ((congrArg (val_main_v28 (F := Ideal)) (ix3_ext (n0 := 1) (n1 := 2048) (n2 := 1) _ 0 s 0 rfl rfl rfl)).trans (cnt1_at s))
  have es : val_main_v24 (F := Ideal) x0 (ix3 0 s j) = ((if 4 ≤ s.val then pre (colX x0 1 j) (s.val - 4) else 0 : ℝ) : EReal) := by
    unfold val_main_v24
    refine Eq.trans (cat_rows (w := 4) (n := 2044) (by omega) _ _ _ s j) ?_
    by_cases hs : s.val < 4
    · rw [dif_pos hs, if_neg (by omega)]
      exact Ideal.ofBits_zero_f32
    · rw [dif_neg hs, if_pos (by omega)]
      exact (val_main_v23_apply (F := Ideal) x0 _).trans ((congrArg (val_main_v21 (F := Ideal) x0) (ix3_ext (n0 := 1) (n1 := 2048) (n2 := 256) _ 0 ⟨s.val - 4, by omega⟩ j rfl rfl rfl)).trans
        (ec ⟨s.val - 4, by omega⟩))
  rw [val_main_v32_apply, val_main_v30_apply, val_main_v26_apply, ec, es, ex, en]
  have e1 : FloatOps.subf (F := Ideal) (φ := .f32) ((pre (colX x0 1 j) s : ℝ) : EReal) ((if 4 ≤ s.val then pre (colX x0 1 j) (s.val - 4) else 0 : ℝ) : EReal)
      = ((down 4 (colX x0 1 j) s : ℝ) : EReal) := by
    rw [← pre_sub (colX x0 1 j) s.val 4]
    exact (EReal.coe_sub _ _).symm
  rw [e1]
  exact (congrArg (fun a => a - ((colX x0 1 j s : ℝ) : EReal)) (div_real _ (cnt_ne 1 s))).trans (EReal.coe_sub _ _).symm

/-- The window's count of group 2. -/
theorem cnt2_at (s : Fin 2048) : val_main_v40 (F := Ideal) (ix3 0 s 0) = ((cnt 2 s : ℝ) : EReal) := by
  rw [val_main_v40_apply, val_main_v39_apply, v8_at,
    show val_main_cst_8 (F := Ideal) (idx_main_v39 (ix3 0 s 0)) = ((((8 : ℕ) : ℝ) : ℝ) : EReal) from word_eight.trans (by norm_num)]
  exact min_real s.val 8

include hx in
/-- The pooled columns of group 2. -/
theorem pool2_at (s : Fin 2048) (j : Fin 256) : val_main_v44 (F := Ideal) x0 (ix3 0 s j) = ((pooled 2 (colX x0 2 j) s : ℝ) : EReal) := by
  have ec : ∀ (s : Fin 2048), val_main_v33 (F := Ideal) x0 (ix3 0 s j) = ((pre (colX x0 2 j) s : ℝ) : EReal) := fun s =>
    (val_main_v33_apply (F := Ideal) x0 _).trans ((congrArg (val_main_v4 (F := Ideal) x0) (ix3_ext (n0 := 1) (n1 := 2048) (n2 := 1024) _ 0 s (col 2 j) rfl rfl
      (show 512 + j.val = 256 * 2 + j.val by omega))).trans (v4_at x0 hx 2 s j))
  have ex : val_main_v43 (F := Ideal) x0 (ix3 0 s j) = ((colX x0 2 j s : ℝ) : EReal) :=
    (val_main_v43_apply (F := Ideal) x0 _).trans ((congrArg (val_main_v1 (F := Ideal) x0) (ix3_ext (n0 := 1) (n1 := 2048) (n2 := 1024) _ 0 s (col 2 j) rfl rfl
      (show 512 + j.val = 256 * 2 + j.val by omega))).trans (v1_at x0 hx 2 s j))
  have en : val_main_v41 (F := Ideal) (ix3 0 s j) = ((cnt 2 s : ℝ) : EReal) :=
    (val_main_v41_apply (F := Ideal) _).trans ((congrArg (val_main_v40 (F := Ideal)) (ix3_ext (n0 := 1) (n1 := 2048) (n2 := 1) _ 0 s 0 rfl rfl rfl)).trans (cnt2_at s))
  have es : val_main_v36 (F := Ideal) x0 (ix3 0 s j) = ((if 8 ≤ s.val then pre (colX x0 2 j) (s.val - 8) else 0 : ℝ) : EReal) := by
    unfold val_main_v36
    refine Eq.trans (cat_rows (w := 8) (n := 2040) (by omega) _ _ _ s j) ?_
    by_cases hs : s.val < 8
    · rw [dif_pos hs, if_neg (by omega)]
      exact Ideal.ofBits_zero_f32
    · rw [dif_neg hs, if_pos (by omega)]
      exact (val_main_v35_apply (F := Ideal) x0 _).trans ((congrArg (val_main_v33 (F := Ideal) x0) (ix3_ext (n0 := 1) (n1 := 2048) (n2 := 256) _ 0 ⟨s.val - 8, by omega⟩ j rfl rfl rfl)).trans
        (ec ⟨s.val - 8, by omega⟩))
  rw [val_main_v44_apply, val_main_v42_apply, val_main_v38_apply, ec, es, ex, en]
  have e1 : FloatOps.subf (F := Ideal) (φ := .f32) ((pre (colX x0 2 j) s : ℝ) : EReal) ((if 8 ≤ s.val then pre (colX x0 2 j) (s.val - 8) else 0 : ℝ) : EReal)
      = ((down 8 (colX x0 2 j) s : ℝ) : EReal) := by
    rw [← pre_sub (colX x0 2 j) s.val 8]
    exact (EReal.coe_sub _ _).symm
  rw [e1]
  exact (congrArg (fun a => a - ((colX x0 2 j s : ℝ) : EReal)) (div_real _ (cnt_ne 2 s))).trans (EReal.coe_sub _ _).symm

/-- The window's count of group 3. -/
theorem cnt3_at (s : Fin 2048) : val_main_v52 (F := Ideal) (ix3 0 s 0) = ((cnt 3 s : ℝ) : EReal) := by
  rw [val_main_v52_apply, val_main_v51_apply, v8_at,
    show val_main_cst_11 (F := Ideal) (idx_main_v51 (ix3 0 s 0)) = ((((16 : ℕ) : ℝ) : ℝ) : EReal) from word_sixteen.trans (by norm_num)]
  exact min_real s.val 16

include hx in
/-- The pooled columns of group 3. -/
theorem pool3_at (s : Fin 2048) (j : Fin 256) : val_main_v56 (F := Ideal) x0 (ix3 0 s j) = ((pooled 3 (colX x0 3 j) s : ℝ) : EReal) := by
  have ec : ∀ (s : Fin 2048), val_main_v45 (F := Ideal) x0 (ix3 0 s j) = ((pre (colX x0 3 j) s : ℝ) : EReal) := fun s =>
    (val_main_v45_apply (F := Ideal) x0 _).trans ((congrArg (val_main_v4 (F := Ideal) x0) (ix3_ext (n0 := 1) (n1 := 2048) (n2 := 1024) _ 0 s (col 3 j) rfl rfl
      (show 768 + j.val = 256 * 3 + j.val by omega))).trans (v4_at x0 hx 3 s j))
  have ex : val_main_v55 (F := Ideal) x0 (ix3 0 s j) = ((colX x0 3 j s : ℝ) : EReal) :=
    (val_main_v55_apply (F := Ideal) x0 _).trans ((congrArg (val_main_v1 (F := Ideal) x0) (ix3_ext (n0 := 1) (n1 := 2048) (n2 := 1024) _ 0 s (col 3 j) rfl rfl
      (show 768 + j.val = 256 * 3 + j.val by omega))).trans (v1_at x0 hx 3 s j))
  have en : val_main_v53 (F := Ideal) (ix3 0 s j) = ((cnt 3 s : ℝ) : EReal) :=
    (val_main_v53_apply (F := Ideal) _).trans ((congrArg (val_main_v52 (F := Ideal)) (ix3_ext (n0 := 1) (n1 := 2048) (n2 := 1) _ 0 s 0 rfl rfl rfl)).trans (cnt3_at s))
  have es : val_main_v48 (F := Ideal) x0 (ix3 0 s j) = ((if 16 ≤ s.val then pre (colX x0 3 j) (s.val - 16) else 0 : ℝ) : EReal) := by
    unfold val_main_v48
    refine Eq.trans (cat_rows (w := 16) (n := 2032) (by omega) _ _ _ s j) ?_
    by_cases hs : s.val < 16
    · rw [dif_pos hs, if_neg (by omega)]
      exact Ideal.ofBits_zero_f32
    · rw [dif_neg hs, if_pos (by omega)]
      exact (val_main_v47_apply (F := Ideal) x0 _).trans ((congrArg (val_main_v45 (F := Ideal) x0) (ix3_ext (n0 := 1) (n1 := 2048) (n2 := 256) _ 0 ⟨s.val - 16, by omega⟩ j rfl rfl rfl)).trans
        (ec ⟨s.val - 16, by omega⟩))
  rw [val_main_v56_apply, val_main_v54_apply, val_main_v50_apply, ec, es, ex, en]
  have e1 : FloatOps.subf (F := Ideal) (φ := .f32) ((pre (colX x0 3 j) s : ℝ) : EReal) ((if 16 ≤ s.val then pre (colX x0 3 j) (s.val - 16) else 0 : ℝ) : EReal)
      = ((down 16 (colX x0 3 j) s : ℝ) : EReal) := by
    rw [← pre_sub (colX x0 3 j) s.val 16]
    exact (EReal.coe_sub _ _).symm
  rw [e1]
  exact (congrArg (fun a => a - ((colX x0 3 j s : ℝ) : EReal)) (div_real _ (cnt_ne 3 s))).trans (EReal.coe_sub _ _).symm

include hx in
/-- The pooled columns, group by group. -/
theorem v61_at (s : Fin 2048) (g : Fin 4) (i : Fin 256) : val_main_v61 (F := Ideal) x0 (ix4 0 s g i) = ((pooled g.val (colX x0 g i) s : ℝ) : EReal) := by
  unfold val_main_v61
  refine (cat_four ![val_main_v57 (F := Ideal) x0, val_main_v58 (F := Ideal) x0, val_main_v59 (F := Ideal) x0, val_main_v60 (F := Ideal) x0] _ s g i).trans ?_
  match g with
  | ⟨0, _⟩ => exact (val_main_v57_apply (F := Ideal) x0 _).trans ((congrArg (val_main_v20 (F := Ideal) x0) (ix3_ext (n0 := 1) (n1 := 2048) (n2 := 256) _ 0 s i rfl rfl rfl)).trans (pool0_at x0 hx s i))
  | ⟨1, _⟩ => exact (val_main_v58_apply (F := Ideal) x0 _).trans ((congrArg (val_main_v32 (F := Ideal) x0) (ix3_ext (n0 := 1) (n1 := 2048) (n2 := 256) _ 0 s i rfl rfl rfl)).trans (pool1_at x0 hx s i))
  | ⟨2, _⟩ => exact (val_main_v59_apply (F := Ideal) x0 _).trans ((congrArg (val_main_v44 (F := Ideal) x0) (ix3_ext (n0 := 1) (n1 := 2048) (n2 := 256) _ 0 s i rfl rfl rfl)).trans (pool2_at x0 hx s i))
  | ⟨3, _⟩ => exact (val_main_v60_apply (F := Ideal) x0 _).trans ((congrArg (val_main_v56 (F := Ideal) x0) (ix3_ext (n0 := 1) (n1 := 2048) (n2 := 256) _ 0 s i rfl rfl rfl)).trans (pool3_at x0 hx s i))

include h0 h3 in
/-- The mixed columns. -/
theorem v64_at (g : Fin 4) (s : Fin 2048) (j : Fin 256) :
    val_main_v64 (F := Ideal) x0 x3 (ix3 0 s (col g j)) = ((mixed g.val (colX x0 g) (matW x3 g) s j : ℝ) : EReal) := by
  rw [val_main_v64_apply, ix4_ext (n0 := 1) (n1 := 2048) (n2 := 4) (n3 := 256) (idx_main_v64 (ix3 0 s (col g j))) 0 s g j rfl
      (show ((0 * 2048 + s.val) * 1024 + (256 * g.val + j.val)) / 1024 % 2048 = s.val by omega)
      (show ((0 * 2048 + s.val) * 1024 + (256 * g.val + j.val)) / 256 % 4 = g.val by omega)
      (show ((0 * 2048 + s.val) * 1024 + (256 * g.val + j.val)) % 256 = j.val by omega),
    val_main_v63_apply, val_main_v62_apply]
  unfold mixed
  rw [← coe_sum]
  refine Finset.sum_congr rfl fun i _ => ?_
  have e1 : x3 (lidx_main_v62 (idx_main_v63 (ix4 0 s g j)) i) = ((matW x3 g i j : ℝ) : EReal) := by
    unfold matW
    rw [EReal.coe_toReal (h3 _).1 (h3 _).2]
    exact congrArg x3 (ix3_ext (n0 := 4) (n1 := 256) (n2 := 256) _ g i j rfl rfl rfl)
  have e2 : val_main_v61 (F := Ideal) x0 (ridx_main_v62 (idx_main_v63 (ix4 0 s g j)) i) = ((pooled g.val (colX x0 g i) s : ℝ) : EReal) :=
    (congrArg (val_main_v61 (F := Ideal) x0) (ix4_ext (n0 := 1) (n1 := 2048) (n2 := 4) (n3 := 256) _ 0 s g i rfl rfl rfl rfl)).trans (v61_at x0 (fun _ _ _ => h0 _) s g i)
  rw [e1, e2, EReal.coe_mul, mul_comm]

end Cert.PoolForward

end
-- ==== Proof.PoolBackward.lean ====
/- The pooling mixer's reference at an index: its three gradients. -/
module

public import proofs.«01_k».proof.Proof.PoolForward

@[expose] public section

set_option maxRecDepth 16384

noncomputable section

namespace Cert.PoolBackward

open Idealize.ShloMosaic hiding addf_apply mulf_apply subf_apply divf_apply truncf_apply
open Cert.Windows Cert.PoolSpec Cert.PoolHost Cert.PoolForward
open Cert.PoolRefIdeal Cert.PoolRefIdeal.Gen Cert.PoolRefIdeal.Read
open scoped BigOperators

/-- The product of two reals. -/
theorem mul_real (a b : ℝ) : (a : EReal) * (b : EReal) = ((a * b : ℝ) : EReal) := (EReal.coe_mul a b).symm

/-- The sum of two reals. -/
theorem add_real (a b : ℝ) : (a : EReal) + (b : EReal) = ((a + b : ℝ) : EReal) := (EReal.coe_add a b).symm

/-- The difference of two reals. -/
theorem sub_real (a b : ℝ) : (a : EReal) - (b : EReal) = ((a - b : ℝ) : EReal) := (EReal.coe_sub a b).symm

/-- The negative of a real. -/
theorem neg_real (a : ℝ) : -(a : EReal) = ((-a : ℝ) : EReal) := (EReal.coe_neg a).symm

/-- Two arrays joined along the leading axis, at an index. -/
theorem cat_first {a b n : ℕ} (hn : a + b = n) (x : (⟨3, ![a, 2048, 1024]⟩ : Shape).Idx → EReal) (y : (⟨3, ![b, 2048, 1024]⟩ : Shape).Idx → EReal)
    (h : Shape.Concatenates [(⟨3, ![a, 2048, 1024]⟩ : Shape), ⟨3, ![b, 2048, 1024]⟩] ⟨3, ![n, 2048, 1024]⟩ 0) (k : Fin n) (s : Fin 2048) (q : Fin 1024) :
    concatenate (⟨3, ![n, 2048, 1024]⟩ : Shape) 0 [⟨(⟨3, ![a, 2048, 1024]⟩ : Shape), x⟩, ⟨(⟨3, ![b, 2048, 1024]⟩ : Shape), y⟩] h (ix3 k s q)
      = if hk : k.val < a then x (ix3 ⟨k.val, hk⟩ s q) else y (ix3 ⟨k.val - a, by omega⟩ s q) := by
  by_cases hk : k.val < a
  · rw [dif_pos hk]
    refine concatenate_pair_apply_left 0 x y h _ rfl _ fun b => ?_
    match b with
    | ⟨0, _⟩ => rfl
    | ⟨1, _⟩ => rfl
    | ⟨2, _⟩ => rfl
  · rw [dif_neg hk]
    refine concatenate_pair_apply_right 0 x y h _ rfl rfl _ (fun b hb => ?_) ?_
    · match b with
      | ⟨0, _⟩ => exact absurd rfl hb
      | ⟨1, _⟩ => rfl
      | ⟨2, _⟩ => rfl
    · show k.val - a + a = k.val
      omega

variable (x0 : S2048x4096.Idx → EReal) (x1 : S2x2048x1024.Idx → EReal) (x2 : S4x2048x1024.Idx → EReal) (x3 : S4x256x256.Idx → EReal) (x4 : S1024.Idx → EReal)
  (h0 : PoolSpec.Finite x0) (h1 : PoolSpec.Finite x1) (h3 : PoolSpec.Finite x3) (h4 : PoolSpec.Finite x4)

include h4 in
/-- The output scale, along the rows. -/
theorem v66_at (g : Fin 4) (s : Fin 2048) (j : Fin 256) : val_main_v66 (F := Ideal) x4 (ix3 0 s (col g j)) = ((scl x4 g j : ℝ) : EReal) := by
  rw [val_main_v66_apply, val_main_v65_apply]
  unfold scl
  rw [EReal.coe_toReal (h4 _).1 (h4 _).2]
  exact congrArg x4 (funext fun b => match b with | ⟨0, _⟩ => rfl)

include h4 in
/-- The output scale, along the rows, as the backward pass reads it. -/
theorem v79_at (g : Fin 4) (s : Fin 2048) (j : Fin 256) : val_main_v79 (F := Ideal) x4 (ix3 0 s (col g j)) = ((scl x4 g j : ℝ) : EReal) := by
  rw [val_main_v79_apply, val_main_v65_apply]
  unfold scl
  rw [EReal.coe_toReal (h4 _).1 (h4 _).2]
  exact congrArg x4 (funext fun b => match b with | ⟨0, _⟩ => rfl)

include h1 in
/-- The incoming gradient. -/
theorem v72_at (g : Fin 4) (s : Fin 2048) (j : Fin 256) : val_main_v72 (F := Ideal) x1 (ix3 0 s (col g j)) = ((colD x1 g j s : ℝ) : EReal) := by
  rw [val_main_v72_apply, val_main_v71_apply, val_main_v70_apply]
  unfold colD
  rw [dif_pos s.isLt, EReal.coe_toReal (h1 _).1 (h1 _).2]
  refine congrArg x1 (ix3_ext (n0 := 2) (n1 := 2048) (n2 := 1024) _ 1 s (col g j) rfl ?_ ?_)
  · show (s.val * 1024 + (256 * g.val + j.val)) / 1024 % 2048 = s.val
    omega
  · show (s.val * 1024 + (256 * g.val + j.val)) % 1024 = 256 * g.val + j.val
    omega

include h0 h3 h4 in
/-- The scaled mixed columns. -/
theorem v67_at (g : Fin 4) (s : Fin 2048) (j : Fin 256) : val_main_v67 (F := Ideal) x0 x3 x4 (ix3 0 s (col g j))
    = ((mixed g.val (colX x0 g) (matW x3 g) s j * scl x4 g j : ℝ) : EReal) := by
  rw [val_main_v67_apply, v64_at x0 x3 h0 h3 g s j, v66_at x4 h4 g s j]
  exact mul_real _ _

/-- The word of one. -/
theorem one_word : Ideal.ofBits .f32 0x3F800000#32 = ((1 : ℝ) : EReal) := Ideal.ofBits_one_f32.trans (by norm_cast)

include h0 in
/-- The gate's logistic. -/
theorem v68_2_at (g : Fin 4) (s : Fin 2048) (j : Fin 256) : val_main_v68_2 (F := Ideal) x0 (ix3 0 s (col g j)) = ((sg (colZ x0 g j s) : ℝ) : EReal) := by
  have e4 : val_main_call1_v4 (F := Ideal) (ix3 0 s (col g j)) = ((1 : ℝ) : EReal) := (val_main_call1_v4_apply (F := Ideal) _).trans one_word
  have e2 : val_main_call1_v2 (F := Ideal) (ix3 0 s (col g j)) = ((1 : ℝ) : EReal) := (val_main_call1_v2_apply (F := Ideal) _).trans one_word
  have e0 : val_main_call1_v0 (F := Ideal) x0 (ix3 0 s (col g j)) = ((-colZ x0 g j s : ℝ) : EReal) := by
    rw [val_main_call1_v0_apply, v3_at x0 h0 g s j]
    exact neg_real _
  have e1 : val_main_call1_v1 (F := Ideal) x0 (ix3 0 s (col g j)) = ((Real.exp (-colZ x0 g j s) : ℝ) : EReal) := by
    rw [val_main_call1_v1_apply, e0]
    exact Ideal.exp_coe _
  have e3 : val_main_call1_v3 (F := Ideal) x0 (ix3 0 s (col g j)) = ((1 + Real.exp (-colZ x0 g j s) : ℝ) : EReal) := by
    rw [val_main_call1_v3_apply, e2, e1]
    exact add_real _ _
  rw [val_main_v68_2_apply, e4, e3]
  exact div_real _ (one_add_exp_ne _)

include h0 in
/-- The logistic's derivative. -/
theorem v68_1_at (g : Fin 4) (s : Fin 2048) (j : Fin 256) : val_main_v68_1 (F := Ideal) x0 (ix3 0 s (col g j))
    = ((sg (colZ x0 g j s) * (1 - sg (colZ x0 g j s)) : ℝ) : EReal) := by
  have e6 : val_main_call1_v6 (F := Ideal) (ix3 0 s (col g j)) = ((1 : ℝ) : EReal) := (val_main_call1_v6_apply (F := Ideal) _).trans one_word
  have e7 : val_main_call1_v7 (F := Ideal) x0 (ix3 0 s (col g j)) = ((1 - sg (colZ x0 g j s) : ℝ) : EReal) := by
    rw [val_main_call1_v7_apply, e6, v68_2_at x0 h0 g s j]
    exact sub_real _ _
  rw [val_main_v68_1_apply, v68_2_at x0 h0 g s j, e7]
  exact mul_real _ _

include h0 in
/-- The gate. -/
theorem v68_0_at (g : Fin 4) (s : Fin 2048) (j : Fin 256) : val_main_v68_0 (F := Ideal) x0 (ix3 0 s (col g j))
    = ((colZ x0 g j s * sg (colZ x0 g j s) : ℝ) : EReal) := by
  rw [val_main_v68_0_apply, v68_2_at x0 h0 g s j, v3_at x0 h0 g s j]
  exact mul_real _ _

include h0 h1 in
/-- The gradient of the scaled mixed columns. -/
theorem v74_at (g : Fin 4) (s : Fin 2048) (j : Fin 256) : val_main_v74 (F := Ideal) x0 x1 (ix3 0 s (col g j))
    = ((colD x1 g j s * (colZ x0 g j s * sg (colZ x0 g j s)) : ℝ) : EReal) := by
  rw [val_main_v74_apply, v68_0_at x0 h0 g s j, v72_at x1 h1 g s j]
  exact mul_real _ _

include h0 h1 h3 h4 in
/-- The gradient of the gate's input. -/
theorem v75_at (g : Fin 4) (s : Fin 2048) (j : Fin 256) : val_main_v75 (F := Ideal) x0 x1 x3 x4 (ix3 0 s (col g j))
    = ((dgate g.val (colX x0 g) (colZ x0 g) (colD x1 g) (matW x3 g) (scl x4 g) s j : ℝ) : EReal) := by
  have e73 : val_main_v73 (F := Ideal) x0 x1 x3 x4 (ix3 0 s (col g j))
      = ((mixed g.val (colX x0 g) (matW x3 g) s j * scl x4 g j * colD x1 g j s : ℝ) : EReal) := by
    rw [val_main_v73_apply, v67_at x0 x3 x4 h0 h3 h4 g s j, v72_at x1 h1 g s j]
    exact mul_real _ _
  have c0 : val_main_call2_v0 (F := Ideal) x0 x1 x3 x4 (ix3 0 s (col g j))
      = ((colZ x0 g j s * (mixed g.val (colX x0 g) (matW x3 g) s j * scl x4 g j * colD x1 g j s) : ℝ) : EReal) := by
    rw [val_main_call2_v0_apply, e73, v3_at x0 h0 g s j]
    exact mul_real _ _
  have c1 : val_main_call2_v1 (F := Ideal) x0 x1 x3 x4 (ix3 0 s (col g j))
      = ((mixed g.val (colX x0 g) (matW x3 g) s j * scl x4 g j * colD x1 g j s * sg (colZ x0 g j s) : ℝ) : EReal) := by
    rw [val_main_call2_v1_apply, e73, v68_2_at x0 h0 g s j]
    exact mul_real _ _
  have c2 : val_main_call2_v2 (F := Ideal) x0 x1 x3 x4 (ix3 0 s (col g j))
      = ((colZ x0 g j s * (mixed g.val (colX x0 g) (matW x3 g) s j * scl x4 g j * colD x1 g j s) * (sg (colZ x0 g j s) * (1 - sg (colZ x0 g j s))) : ℝ) : EReal) := by
    rw [val_main_call2_v2_apply, c0, v68_1_at x0 h0 g s j]
    exact mul_real _ _
  rw [val_main_v75_apply, c1, c2]
  refine (add_real _ _).trans (congrArg (fun r : ℝ => (r : EReal)) ?_)
  unfold dgate
  ring

/-- The word of zero. -/
theorem zero_word : Ideal.ofBits .f32 0x00000000#32 = ((0 : ℝ) : EReal) := Ideal.ofBits_zero_f32.trans (by norm_cast)

include h0 h1 h3 in
/-- The gradient of the output scale, before it is laid out. -/
theorem v77_at (g : Fin 4) (j : Fin 256) : val_main_v77 (F := Ideal) x0 x1 x3 (ix2 0 (col g j))
    = ((dds g.val (colX x0 g) (colZ x0 g) (colD x1 g) (matW x3 g) j : ℝ) : EReal) := by
  have e76 : ∀ s : Fin 2048, val_main_v76 (F := Ideal) x0 x1 x3 (ix3 0 s (col g j))
      = ((mixed g.val (colX x0 g) (matW x3 g) s j * (colD x1 g j s * (colZ x0 g j s * sg (colZ x0 g j s))) : ℝ) : EReal) := by
    intro s
    rw [val_main_v76_apply, v64_at x0 x3 h0 h3 g s j, v74_at x0 x1 h0 h1 g s j]
    exact mul_real _ _
  rw [val_main_v77_apply]
  unfold dds
  rw [← coe_sum]
  refine (congrArg₂ (· + ·) Ideal.ofBits_zero_f32 (Finset.sum_congr rfl fun s _ => ?_)).trans (zero_add _)
  refine (congrArg (val_main_v76 (F := Ideal) x0 x1 x3) (ix3_ext (n0 := 1) (n1 := 2048) (n2 := 1024) _ 0 s (col g j) rfl rfl rfl)).trans ((e76 s).trans ?_)
  refine congrArg (fun r : ℝ => (r : EReal)) ?_
  ring

/-- A sum over two axes of extent one is the one element. -/
theorem reduce_unit (h : (⟨3, ![1, 1, 1024]⟩ : Shape).ReducesTo [0, 1] ⟨1, ![1024]⟩) (y : (⟨3, ![1, 1, 1024]⟩ : Shape).Idx → EReal) (a : EReal) (q : Fin 1024) :
    Ideal.hostReduceAdd h y a (ix1 q) = a + y (ix3 0 0 q) := by
  unfold Ideal.hostReduceAdd
  have hd : ∀ i : (⟨3, ![1, 1, 1024]⟩ : Shape).Idx, (h.drop i 0).val = (i 2).val := fun i =>
    Shape.ReducesTo.drop_apply_val_of_eq h i 0 2
  refine congrArg (a + ·) ((Finset.sum_eq_single (ix3 0 0 q) ?_ ?_))
  · intro i hi hne
    refine absurd ?_ hne
    have e := congrArg (fun x => (x 0).val) (Finset.mem_filter.mp hi).2
    have e' : (i 2).val = q.val := (hd i).symm.trans e
    have b0 : (i 0).val < 1 := (i 0).isLt
    have b1 : (i 1).val < 1 := (i 1).isLt
    exact ix3_ext i 0 0 q (show (i 0).val = 0 by omega) (show (i 1).val = 0 by omega) e'
  · intro hn
    refine absurd (Finset.mem_filter.mpr ⟨Finset.mem_univ _, ?_⟩) hn
    funext b
    match b with
    | ⟨0, _⟩ => exact Fin.ext (hd _)

include h0 h1 h3 in
/-- The gradient of the output scale. -/
theorem v152_at (g : Fin 4) (j : Fin 256) : val_main_v152 (F := Ideal) x0 x1 x3 (ix2 0 (col g j))
    = ((dds g.val (colX x0 g) (colZ x0 g) (colD x1 g) (matW x3 g) j : ℝ) : EReal) := by
  have e81 : ∀ q : Fin 1024, val_main_v81 (F := Ideal) x0 x1 x3 (ix1 q) = val_main_v78 (F := Ideal) x0 x1 x3 (ix3 0 0 q) := by
    intro q
    unfold val_main_v81
    generalize val_main_v78 (F := Ideal) x0 x1 x3 = y
    refine (reduce_unit _ y _ q).trans ?_
    exact (congrArg (· + y (ix3 0 0 q)) Ideal.ofBits_zero_f32).trans (zero_add _)
  rw [val_main_v152_apply]
  refine (congrArg (val_main_v81 (F := Ideal) x0 x1 x3) (funext fun b => match b with
    | ⟨0, _⟩ => Fin.ext (show 0 * 1024 + (256 * g.val + j.val) = 256 * g.val + j.val by omega) : _ = ix1 (col g j))).trans ((e81 (col g j)).trans ?_)
  rw [val_main_v78_apply]
  refine (congrArg (val_main_v77 (F := Ideal) x0 x1 x3) (funext fun b => match b with
    | ⟨0, _⟩ => Fin.ext rfl
    | ⟨1, _⟩ => Fin.ext (show ((0 * 1 + 0) * 1024 + (256 * g.val + j.val)) % 1024 = 256 * g.val + j.val by omega) : _ = ix2 0 (col g j))).trans ?_
  exact v77_at x0 x1 x3 h0 h1 h3 g j

include h0 h1 h4 in
/-- The gradient of the mixed columns. -/
theorem v80_at (g : Fin 4) (s : Fin 2048) (j : Fin 256) : val_main_v80 (F := Ideal) x0 x1 x4 (ix3 0 s (col g j))
    = ((dmixed (colZ x0 g) (colD x1 g) (scl x4 g) s j : ℝ) : EReal) := by
  rw [val_main_v80_apply, v74_at x0 x1 h0 h1 g s j, v79_at x4 h4 g s j]
  refine (mul_real _ _).trans (congrArg (fun r : ℝ => (r : EReal)) ?_)
  unfold dmixed
  ring

include h0 h1 h4 in
/-- The gradient of the mixed columns, group by group and column by column. -/
theorem v83_at (g : Fin 4) (s : Fin 2048) (j : Fin 256) : val_main_v83 (F := Ideal) x0 x1 x4 (ix4 g j 0 s)
    = ((dmixed (colZ x0 g) (colD x1 g) (scl x4 g) s j : ℝ) : EReal) := by
  rw [val_main_v83_apply, val_main_v82_apply]
  refine (congrArg (val_main_v80 (F := Ideal) x0 x1 x4) (ix3_ext (n0 := 1) (n1 := 2048) (n2 := 1024) _ 0 s (col g j) rfl ?_ ?_)).trans (v80_at x0 x1 x4 h0 h1 h4 g s j)
  · show (((0 * 2048 + s.val) * 4 + g.val) * 256 + j.val) / 1024 % 2048 = s.val
    omega
  · show (((0 * 2048 + s.val) * 4 + g.val) * 256 + j.val) % 1024 = 256 * g.val + j.val
    omega

include h0 h1 h3 h4 in
/-- The gradient of the pooled columns. -/
theorem v85_at (g : Fin 4) (s : Fin 2048) (i : Fin 256) : val_main_v85 (F := Ideal) x0 x1 x3 x4 (ix4 0 s g i)
    = ((dpooled (colZ x0 g) (colD x1 g) (matW x3 g) (scl x4 g) s i : ℝ) : EReal) := by
  rw [val_main_v85_apply, val_main_v84_apply]
  unfold dpooled
  rw [← coe_sum]
  refine Finset.sum_congr rfl fun k _ => ?_
  have e1 : x3 (ridx_main_v84 (idx_main_v85 (ix4 0 s g i)) k) = ((matW x3 g i k : ℝ) : EReal) := by
    unfold matW
    rw [EReal.coe_toReal (h3 _).1 (h3 _).2]
    exact congrArg x3 (ix3_ext (n0 := 4) (n1 := 256) (n2 := 256) _ g i k rfl rfl rfl)
  have e2 : val_main_v83 (F := Ideal) x0 x1 x4 (lidx_main_v84 (idx_main_v85 (ix4 0 s g i)) k) = ((dmixed (colZ x0 g) (colD x1 g) (scl x4 g) s k : ℝ) : EReal) :=
    (congrArg (val_main_v83 (F := Ideal) x0 x1 x4) (ix4_ext (n0 := 4) (n1 := 256) (n2 := 1) (n3 := 2048) _ g k 0 s rfl rfl rfl rfl)).trans (v83_at x0 x1 x4 h0 h1 h4 g s k)
  rw [e1, e2]
  exact mul_real _ _

include h0 h1 h4 in
/-- The gradient of the mixing matrices. -/
theorem v87_at (g : Fin 4) (i j : Fin 256) : val_main_v87 (F := Ideal) x0 x1 x4 (ix3 g i j)
    = ((dwp g.val (colX x0 g) (colZ x0 g) (colD x1 g) (scl x4 g) i j : ℝ) : EReal) := by
  rw [val_main_v87_apply]
  unfold val_main_v86
  simp only [Host.dotGeneral]
  rw [Ideal.dotGeneral_apply, DotDims.sum_contr₂ (a := (2 : Fin 4)) (b := (3 : Fin 4)) dot_S4x256x1x2048_S1x2048x4x256_S4x256x256_23_01_1_3_0_2 rfl (K₁ := 1) (K₂ := 2048) rfl rfl,
    Fin.sum_univ_one]
  unfold dwp
  rw [← coe_sum]
  refine Finset.sum_congr rfl fun s _ => ?_
  have e1 : val_main_v61 (F := Ideal) x0 (dot_S4x256x1x2048_S1x2048x4x256_S4x256x256_23_01_1_3_0_2.rhsIdx (idx_main_v87 (ix3 g i j))
      (DotDims.contrIdx₂ (a := (2 : Fin 4)) (b := (3 : Fin 4)) dot_S4x256x1x2048_S1x2048x4x256_S4x256x256_23_01_1_3_0_2 rfl (K₁ := 1) (K₂ := 2048) rfl rfl 0 s)) = ((pooled g.val (colX x0 g i) s : ℝ) : EReal) :=
    (congrArg (val_main_v61 (F := Ideal) x0) (ix4_ext (n0 := 1) (n1 := 2048) (n2 := 4) (n3 := 256) _ 0 s g i rfl rfl rfl rfl)).trans (v61_at x0 (fun _ _ _ => h0 _) s g i)
  have e2 : val_main_v83 (F := Ideal) x0 x1 x4 (dot_S4x256x1x2048_S1x2048x4x256_S4x256x256_23_01_1_3_0_2.lhsIdx (idx_main_v87 (ix3 g i j))
      (DotDims.contrIdx₂ (a := (2 : Fin 4)) (b := (3 : Fin 4)) dot_S4x256x1x2048_S1x2048x4x256_S4x256x256_23_01_1_3_0_2 rfl (K₁ := 1) (K₂ := 2048) rfl rfl 0 s)) = ((dmixed (colZ x0 g) (colD x1 g) (scl x4 g) s j : ℝ) : EReal) :=
    (congrArg (val_main_v83 (F := Ideal) x0 x1 x4) (ix4_ext (n0 := 4) (n1 := 256) (n2 := 1) (n3 := 2048) _ g j 0 s rfl rfl rfl rfl)).trans (v83_at x0 x1 x4 h0 h1 h4 g s j)
  rw [e1, e2, mul_comm]
  exact mul_real _ _

include h0 h1 h3 h4 in
/-- The gradient of group 0's pooled columns. -/
theorem v89_at (s : Fin 2048) (i : Fin 256) : val_main_v89 (F := Ideal) x0 x1 x3 x4 (ix3 0 s i)
    = ((dpooled (colZ x0 0) (colD x1 0) (matW x3 0) (scl x4 0) s i : ℝ) : EReal) := by
  rw [val_main_v89_apply, val_main_v88_apply]
  refine (congrArg (val_main_v85 (F := Ideal) x0 x1 x3 x4) (ix4_ext (n0 := 1) (n1 := 2048) (n2 := 4) (n3 := 256) _ 0 s 0 i rfl ?_ rfl ?_)).trans (v85_at x0 x1 x3 x4 h0 h1 h3 h4 0 s i)
  · show (((0 * 2048 + s.val) * 256 + i.val) / 256) % 2048 = s.val
    omega
  · show ((0 * 2048 + s.val) * 256 + i.val) % 256 = i.val
    omega

include h0 h1 h3 h4 in
/-- The negative of the gradient of group 0's pooled columns. -/
theorem v130_at (s : Fin 2048) (i : Fin 256) : val_main_v130 (F := Ideal) x0 x1 x3 x4 (ix3 0 s i)
    = ((-dpooled (colZ x0 0) (colD x1 0) (matW x3 0) (scl x4 0) s i : ℝ) : EReal) := by
  rw [val_main_v130_apply, v89_at x0 x1 x3 x4 h0 h1 h3 h4 s i]
  exact neg_real _

include h0 h1 h3 h4 in
/-- The gradient of group 0's pooled columns over the rows' counts. -/
theorem v134_at (s : Fin 2048) (i : Fin 256) : val_main_v134 (F := Ideal) x0 x1 x3 x4 (ix3 0 s i)
    = ((quot 0 (colZ x0 0) (colD x1 0) (matW x3 0) (scl x4 0) i s : ℝ) : EReal) := by
  have en : val_main_v133 (F := Ideal) (ix3 0 s i) = ((cnt 0 s : ℝ) : EReal) :=
    (val_main_v133_apply (F := Ideal) _).trans ((congrArg (val_main_v16 (F := Ideal)) (ix3_ext (n0 := 1) (n1 := 2048) (n2 := 1) _ 0 s 0 rfl rfl rfl)).trans (cnt0_at s))
  rw [val_main_v134_apply, v89_at x0 x1 x3 x4 h0 h1 h3 h4 s i, en]
  unfold quot
  rw [if_pos s.isLt]
  exact div_real _ (cnt_ne 0 s)

include h0 h1 h3 h4 in
/-- Group 0's quotients less those a window further on. -/
theorem v139_at (s : Fin 2048) (i : Fin 256) : val_main_v139 (F := Ideal) x0 x1 x3 x4 (ix3 0 s i)
    = ((quot 0 (colZ x0 0) (colD x1 0) (matW x3 0) (scl x4 0) i s - quot 0 (colZ x0 0) (colD x1 0) (matW x3 0) (scl x4 0) i (s.val + 2) : ℝ) : EReal) := by
  have ep : val_main_v138 (F := Ideal) x0 x1 x3 x4 (ix3 0 s i) = ((-quot 0 (colZ x0 0) (colD x1 0) (matW x3 0) (scl x4 0) i (s.val + 2) : ℝ) : EReal) := by
    unfold val_main_v138
    refine Eq.trans (pad_rows (w := 2) (n := 2046) _ _ _ _ s i) ?_
    by_cases hs : s.val < 2046
    · rw [dif_pos hs, val_main_v137_apply, val_main_v135_apply]
      rw [ix3_ext (n0 := 1) (n1 := 2048) (n2 := 256) (idx_main_v137 (ix3 0 ⟨s.val, hs⟩ i)) 0 ⟨s.val + 2, by omega⟩ i rfl
        (show 2 + s.val = s.val + 2 by omega) rfl, v134_at x0 x1 x3 x4 h0 h1 h3 h4 ⟨s.val + 2, by omega⟩ i]
      exact neg_real _
    · rw [dif_neg hs]
      unfold quot
      rw [if_neg (by omega), neg_zero]
      exact zero_word
  rw [val_main_v139_apply, v134_at x0 x1 x3 x4 h0 h1 h3 h4 s i, ep]
  exact (add_real _ _).trans (congrArg (fun r : ℝ => (r : EReal)) (sub_eq_add_neg _ _).symm)

include h0 h1 h3 h4 in
/-- The gradient of group 1's pooled columns. -/
theorem v91_at (s : Fin 2048) (i : Fin 256) : val_main_v91 (F := Ideal) x0 x1 x3 x4 (ix3 0 s i)
    = ((dpooled (colZ x0 1) (colD x1 1) (matW x3 1) (scl x4 1) s i : ℝ) : EReal) := by
  rw [val_main_v91_apply, val_main_v90_apply]
  refine (congrArg (val_main_v85 (F := Ideal) x0 x1 x3 x4) (ix4_ext (n0 := 1) (n1 := 2048) (n2 := 4) (n3 := 256) _ 0 s 1 i rfl ?_ rfl ?_)).trans (v85_at x0 x1 x3 x4 h0 h1 h3 h4 1 s i)
  · show (((0 * 2048 + s.val) * 256 + i.val) / 256) % 2048 = s.val
    omega
  · show ((0 * 2048 + s.val) * 256 + i.val) % 256 = i.val
    omega

include h0 h1 h3 h4 in
/-- The negative of the gradient of group 1's pooled columns. -/
theorem v118_at (s : Fin 2048) (i : Fin 256) : val_main_v118 (F := Ideal) x0 x1 x3 x4 (ix3 0 s i)
    = ((-dpooled (colZ x0 1) (colD x1 1) (matW x3 1) (scl x4 1) s i : ℝ) : EReal) := by
  rw [val_main_v118_apply, v91_at x0 x1 x3 x4 h0 h1 h3 h4 s i]
  exact neg_real _

include h0 h1 h3 h4 in
/-- The gradient of group 1's pooled columns over the rows' counts. -/
theorem v122_at (s : Fin 2048) (i : Fin 256) : val_main_v122 (F := Ideal) x0 x1 x3 x4 (ix3 0 s i)
    = ((quot 1 (colZ x0 1) (colD x1 1) (matW x3 1) (scl x4 1) i s : ℝ) : EReal) := by
  have en : val_main_v121 (F := Ideal) (ix3 0 s i) = ((cnt 1 s : ℝ) : EReal) :=
    (val_main_v121_apply (F := Ideal) _).trans ((congrArg (val_main_v28 (F := Ideal)) (ix3_ext (n0 := 1) (n1 := 2048) (n2 := 1) _ 0 s 0 rfl rfl rfl)).trans (cnt1_at s))
  rw [val_main_v122_apply, v91_at x0 x1 x3 x4 h0 h1 h3 h4 s i, en]
  unfold quot
  rw [if_pos s.isLt]
  exact div_real _ (cnt_ne 1 s)

include h0 h1 h3 h4 in
/-- Group 1's quotients less those a window further on. -/
theorem v127_at (s : Fin 2048) (i : Fin 256) : val_main_v127 (F := Ideal) x0 x1 x3 x4 (ix3 0 s i)
    = ((quot 1 (colZ x0 1) (colD x1 1) (matW x3 1) (scl x4 1) i s - quot 1 (colZ x0 1) (colD x1 1) (matW x3 1) (scl x4 1) i (s.val + 4) : ℝ) : EReal) := by
  have ep : val_main_v126 (F := Ideal) x0 x1 x3 x4 (ix3 0 s i) = ((-quot 1 (colZ x0 1) (colD x1 1) (matW x3 1) (scl x4 1) i (s.val + 4) : ℝ) : EReal) := by
    unfold val_main_v126
    refine Eq.trans (pad_rows (w := 4) (n := 2044) _ _ _ _ s i) ?_
    by_cases hs : s.val < 2044
    · rw [dif_pos hs, val_main_v125_apply, val_main_v123_apply]
      rw [ix3_ext (n0 := 1) (n1 := 2048) (n2 := 256) (idx_main_v125 (ix3 0 ⟨s.val, hs⟩ i)) 0 ⟨s.val + 4, by omega⟩ i rfl
        (show 4 + s.val = s.val + 4 by omega) rfl, v122_at x0 x1 x3 x4 h0 h1 h3 h4 ⟨s.val + 4, by omega⟩ i]
      exact neg_real _
    · rw [dif_neg hs]
      unfold quot
      rw [if_neg (by omega), neg_zero]
      exact zero_word
  rw [val_main_v127_apply, v122_at x0 x1 x3 x4 h0 h1 h3 h4 s i, ep]
  exact (add_real _ _).trans (congrArg (fun r : ℝ => (r : EReal)) (sub_eq_add_neg _ _).symm)

include h0 h1 h3 h4 in
/-- The gradient of group 2's pooled columns. -/
theorem v93_at (s : Fin 2048) (i : Fin 256) : val_main_v93 (F := Ideal) x0 x1 x3 x4 (ix3 0 s i)
    = ((dpooled (colZ x0 2) (colD x1 2) (matW x3 2) (scl x4 2) s i : ℝ) : EReal) := by
  rw [val_main_v93_apply, val_main_v92_apply]
  refine (congrArg (val_main_v85 (F := Ideal) x0 x1 x3 x4) (ix4_ext (n0 := 1) (n1 := 2048) (n2 := 4) (n3 := 256) _ 0 s 2 i rfl ?_ rfl ?_)).trans (v85_at x0 x1 x3 x4 h0 h1 h3 h4 2 s i)
  · show (((0 * 2048 + s.val) * 256 + i.val) / 256) % 2048 = s.val
    omega
  · show ((0 * 2048 + s.val) * 256 + i.val) % 256 = i.val
    omega

include h0 h1 h3 h4 in
/-- The negative of the gradient of group 2's pooled columns. -/
theorem v106_at (s : Fin 2048) (i : Fin 256) : val_main_v106 (F := Ideal) x0 x1 x3 x4 (ix3 0 s i)
    = ((-dpooled (colZ x0 2) (colD x1 2) (matW x3 2) (scl x4 2) s i : ℝ) : EReal) := by
  rw [val_main_v106_apply, v93_at x0 x1 x3 x4 h0 h1 h3 h4 s i]
  exact neg_real _

include h0 h1 h3 h4 in
/-- The gradient of group 2's pooled columns over the rows' counts. -/
theorem v110_at (s : Fin 2048) (i : Fin 256) : val_main_v110 (F := Ideal) x0 x1 x3 x4 (ix3 0 s i)
    = ((quot 2 (colZ x0 2) (colD x1 2) (matW x3 2) (scl x4 2) i s : ℝ) : EReal) := by
  have en : val_main_v109 (F := Ideal) (ix3 0 s i) = ((cnt 2 s : ℝ) : EReal) :=
    (val_main_v109_apply (F := Ideal) _).trans ((congrArg (val_main_v40 (F := Ideal)) (ix3_ext (n0 := 1) (n1 := 2048) (n2 := 1) _ 0 s 0 rfl rfl rfl)).trans (cnt2_at s))
  rw [val_main_v110_apply, v93_at x0 x1 x3 x4 h0 h1 h3 h4 s i, en]
  unfold quot
  rw [if_pos s.isLt]
  exact div_real _ (cnt_ne 2 s)

include h0 h1 h3 h4 in
/-- Group 2's quotients less those a window further on. -/
theorem v115_at (s : Fin 2048) (i : Fin 256) : val_main_v115 (F := Ideal) x0 x1 x3 x4 (ix3 0 s i)
    = ((quot 2 (colZ x0 2) (colD x1 2) (matW x3 2) (scl x4 2) i s - quot 2 (colZ x0 2) (colD x1 2) (matW x3 2) (scl x4 2) i (s.val + 8) : ℝ) : EReal) := by
  have ep : val_main_v114 (F := Ideal) x0 x1 x3 x4 (ix3 0 s i) = ((-quot 2 (colZ x0 2) (colD x1 2) (matW x3 2) (scl x4 2) i (s.val + 8) : ℝ) : EReal) := by
    unfold val_main_v114
    refine Eq.trans (pad_rows (w := 8) (n := 2040) _ _ _ _ s i) ?_
    by_cases hs : s.val < 2040
    · rw [dif_pos hs, val_main_v113_apply, val_main_v111_apply]
      rw [ix3_ext (n0 := 1) (n1 := 2048) (n2 := 256) (idx_main_v113 (ix3 0 ⟨s.val, hs⟩ i)) 0 ⟨s.val + 8, by omega⟩ i rfl
        (show 8 + s.val = s.val + 8 by omega) rfl, v110_at x0 x1 x3 x4 h0 h1 h3 h4 ⟨s.val + 8, by omega⟩ i]
      exact neg_real _
    · rw [dif_neg hs]
      unfold quot
      rw [if_neg (by omega), neg_zero]
      exact zero_word
  rw [val_main_v115_apply, v110_at x0 x1 x3 x4 h0 h1 h3 h4 s i, ep]
  exact (add_real _ _).trans (congrArg (fun r : ℝ => (r : EReal)) (sub_eq_add_neg _ _).symm)

include h0 h1 h3 h4 in
/-- The gradient of group 3's pooled columns. -/
theorem v95_at (s : Fin 2048) (i : Fin 256) : val_main_v95 (F := Ideal) x0 x1 x3 x4 (ix3 0 s i)
    = ((dpooled (colZ x0 3) (colD x1 3) (matW x3 3) (scl x4 3) s i : ℝ) : EReal) := by
  rw [val_main_v95_apply, val_main_v94_apply]
  refine (congrArg (val_main_v85 (F := Ideal) x0 x1 x3 x4) (ix4_ext (n0 := 1) (n1 := 2048) (n2 := 4) (n3 := 256) _ 0 s 3 i rfl ?_ rfl ?_)).trans (v85_at x0 x1 x3 x4 h0 h1 h3 h4 3 s i)
  · show (((0 * 2048 + s.val) * 256 + i.val) / 256) % 2048 = s.val
    omega
  · show ((0 * 2048 + s.val) * 256 + i.val) % 256 = i.val
    omega

include h0 h1 h3 h4 in
/-- The negative of the gradient of group 3's pooled columns. -/
theorem v96_at (s : Fin 2048) (i : Fin 256) : val_main_v96 (F := Ideal) x0 x1 x3 x4 (ix3 0 s i)
    = ((-dpooled (colZ x0 3) (colD x1 3) (matW x3 3) (scl x4 3) s i : ℝ) : EReal) := by
  rw [val_main_v96_apply, v95_at x0 x1 x3 x4 h0 h1 h3 h4 s i]
  exact neg_real _

include h0 h1 h3 h4 in
/-- The gradient of group 3's pooled columns over the rows' counts. -/
theorem v99_at (s : Fin 2048) (i : Fin 256) : val_main_v99 (F := Ideal) x0 x1 x3 x4 (ix3 0 s i)
    = ((quot 3 (colZ x0 3) (colD x1 3) (matW x3 3) (scl x4 3) i s : ℝ) : EReal) := by
  have en : val_main_v98 (F := Ideal) (ix3 0 s i) = ((cnt 3 s : ℝ) : EReal) :=
    (val_main_v98_apply (F := Ideal) _).trans ((congrArg (val_main_v52 (F := Ideal)) (ix3_ext (n0 := 1) (n1 := 2048) (n2 := 1) _ 0 s 0 rfl rfl rfl)).trans (cnt3_at s))
  rw [val_main_v99_apply, v95_at x0 x1 x3 x4 h0 h1 h3 h4 s i, en]
  unfold quot
  rw [if_pos s.isLt]
  exact div_real _ (cnt_ne 3 s)

include h0 h1 h3 h4 in
/-- Group 3's quotients less those a window further on. -/
theorem v104_at (s : Fin 2048) (i : Fin 256) : val_main_v104 (F := Ideal) x0 x1 x3 x4 (ix3 0 s i)
    = ((quot 3 (colZ x0 3) (colD x1 3) (matW x3 3) (scl x4 3) i s - quot 3 (colZ x0 3) (colD x1 3) (matW x3 3) (scl x4 3) i (s.val + 16) : ℝ) : EReal) := by
  have ep : val_main_v103 (F := Ideal) x0 x1 x3 x4 (ix3 0 s i) = ((-quot 3 (colZ x0 3) (colD x1 3) (matW x3 3) (scl x4 3) i (s.val + 16) : ℝ) : EReal) := by
    unfold val_main_v103
    refine Eq.trans (pad_rows (w := 16) (n := 2032) _ _ _ _ s i) ?_
    by_cases hs : s.val < 2032
    · rw [dif_pos hs, val_main_v102_apply, val_main_v100_apply]
      rw [ix3_ext (n0 := 1) (n1 := 2048) (n2 := 256) (idx_main_v102 (ix3 0 ⟨s.val, hs⟩ i)) 0 ⟨s.val + 16, by omega⟩ i rfl
        (show 16 + s.val = s.val + 16 by omega) rfl, v99_at x0 x1 x3 x4 h0 h1 h3 h4 ⟨s.val + 16, by omega⟩ i]
      exact neg_real _
    · rw [dif_neg hs]
      unfold quot
      rw [if_neg (by omega), neg_zero]
      exact zero_word
  rw [val_main_v104_apply, v99_at x0 x1 x3 x4 h0 h1 h3 h4 s i, ep]
  exact (add_real _ _).trans (congrArg (fun r : ℝ => (r : EReal)) (sub_eq_add_neg _ _).symm)

/-- Of four terms all but one are zero. -/
theorem four_sum (y : Fin 4 → EReal) (k : Fin 4) (h : ∀ l, k ≠ l → y l = 0) : y 3 + y 2 + y 1 + y 0 = y k := by
  match k, h with
  | 0, h => rw [h 1 (by decide), h 2 (by decide), h 3 (by decide), zero_add, zero_add, zero_add]
  | 1, h => rw [h 0 (by decide), h 2 (by decide), h 3 (by decide), zero_add, zero_add, add_zero]
  | 2, h => rw [h 0 (by decide), h 1 (by decide), h 3 (by decide), zero_add, add_zero, add_zero]
  | 3, h => rw [h 0 (by decide), h 1 (by decide), h 2 (by decide), add_zero, add_zero, add_zero]

include h0 h1 h3 h4 in
/-- The negative of the gradient of the pooled columns, all groups. -/
theorem v132_at (g : Fin 4) (s : Fin 2048) (i : Fin 256) : val_main_v132 (F := Ideal) x0 x1 x3 x4 (ix3 0 s (col g i))
    = ((-dpooled (colZ x0 g) (colD x1 g) (matW x3 g) (scl x4 g) s i : ℝ) : EReal) := by
  rw [val_main_v132_apply, val_main_v120_apply, val_main_v108_apply]
  refine Eq.trans (four_sum ![val_main_v131 (F := Ideal) x0 x1 x3 x4 (ix3 0 s (col g i)), val_main_v119 (F := Ideal) x0 x1 x3 x4 (ix3 0 s (col g i)), val_main_v107 (F := Ideal) x0 x1 x3 x4 (ix3 0 s (col g i)), val_main_v97 (F := Ideal) x0 x1 x3 x4 (ix3 0 s (col g i))] g fun l hl => ?_) ?_
  · match l, hl with
    | ⟨0, _⟩, hl =>
      exact (pad_cols_out (hi := 768) g 0 hl (o := 0) rfl (val_main_v130 (F := Ideal) x0 x1 x3 x4) (val_main_cst_23 (F := Ideal)) pads_S1x2048x256_S1x2048x1024_000_000_07680 h_S_ s i).trans Ideal.ofBits_zero_f32
    | ⟨1, _⟩, hl =>
      exact (pad_cols_out (hi := 512) g 1 hl (o := 256) rfl (val_main_v118 (F := Ideal) x0 x1 x3 x4) (val_main_cst_20 (F := Ideal)) pads_S1x2048x256_S1x2048x1024_000_000_2565120 h_S_ s i).trans Ideal.ofBits_zero_f32
    | ⟨2, _⟩, hl =>
      exact (pad_cols_out (hi := 256) g 2 hl (o := 512) rfl (val_main_v106 (F := Ideal) x0 x1 x3 x4) (val_main_cst_17 (F := Ideal)) pads_S1x2048x256_S1x2048x1024_000_000_5122560 h_S_ s i).trans Ideal.ofBits_zero_f32
    | ⟨3, _⟩, hl =>
      exact (pad_cols_out (hi := 0) g 3 hl (o := 768) rfl (val_main_v96 (F := Ideal) x0 x1 x3 x4) (val_main_cst_14 (F := Ideal)) pads_S1x2048x256_S1x2048x1024_000_000_76800 h_S_ s i).trans Ideal.ofBits_zero_f32
  · match g with
    | ⟨0, _⟩ =>
      exact (pad_cols_in (hi := 768) 0 (o := 0) rfl (val_main_v130 (F := Ideal) x0 x1 x3 x4) (val_main_cst_23 (F := Ideal)) pads_S1x2048x256_S1x2048x1024_000_000_07680 h_S_ s i).trans (v130_at x0 x1 x3 x4 h0 h1 h3 h4 s i)
    | ⟨1, _⟩ =>
      exact (pad_cols_in (hi := 512) 1 (o := 256) rfl (val_main_v118 (F := Ideal) x0 x1 x3 x4) (val_main_cst_20 (F := Ideal)) pads_S1x2048x256_S1x2048x1024_000_000_2565120 h_S_ s i).trans (v118_at x0 x1 x3 x4 h0 h1 h3 h4 s i)
    | ⟨2, _⟩ =>
      exact (pad_cols_in (hi := 256) 2 (o := 512) rfl (val_main_v106 (F := Ideal) x0 x1 x3 x4) (val_main_cst_17 (F := Ideal)) pads_S1x2048x256_S1x2048x1024_000_000_5122560 h_S_ s i).trans (v106_at x0 x1 x3 x4 h0 h1 h3 h4 s i)
    | ⟨3, _⟩ =>
      exact (pad_cols_in (hi := 0) 3 (o := 768) rfl (val_main_v96 (F := Ideal) x0 x1 x3 x4) (val_main_cst_14 (F := Ideal)) pads_S1x2048x256_S1x2048x1024_000_000_76800 h_S_ s i).trans (v96_at x0 x1 x3 x4 h0 h1 h3 h4 s i)

include h0 h1 h3 h4 in
/-- The quotients less those a window further on, all groups. -/
theorem v141_at (g : Fin 4) (s : Fin 2048) (i : Fin 256) : val_main_v141 (F := Ideal) x0 x1 x3 x4 (ix3 0 s (col g i))
    = ((quot g.val (colZ x0 g) (colD x1 g) (matW x3 g) (scl x4 g) i s - quot g.val (colZ x0 g) (colD x1 g) (matW x3 g) (scl x4 g) i (s.val + win g.val) : ℝ) : EReal) := by
  rw [val_main_v141_apply, val_main_v129_apply, val_main_v117_apply]
  refine Eq.trans (four_sum ![val_main_v140 (F := Ideal) x0 x1 x3 x4 (ix3 0 s (col g i)), val_main_v128 (F := Ideal) x0 x1 x3 x4 (ix3 0 s (col g i)), val_main_v116 (F := Ideal) x0 x1 x3 x4 (ix3 0 s (col g i)), val_main_v105 (F := Ideal) x0 x1 x3 x4 (ix3 0 s (col g i))] g fun l hl => ?_) ?_
  · match l, hl with
    | ⟨0, _⟩, hl =>
      exact (pad_cols_out (hi := 768) g 0 hl (o := 0) rfl (val_main_v139 (F := Ideal) x0 x1 x3 x4) (val_main_cst_25 (F := Ideal)) pads_S1x2048x256_S1x2048x1024_000_000_07680 h_S_ s i).trans Ideal.ofBits_zero_f32
    | ⟨1, _⟩, hl =>
      exact (pad_cols_out (hi := 512) g 1 hl (o := 256) rfl (val_main_v127 (F := Ideal) x0 x1 x3 x4) (val_main_cst_22 (F := Ideal)) pads_S1x2048x256_S1x2048x1024_000_000_2565120 h_S_ s i).trans Ideal.ofBits_zero_f32
    | ⟨2, _⟩, hl =>
      exact (pad_cols_out (hi := 256) g 2 hl (o := 512) rfl (val_main_v115 (F := Ideal) x0 x1 x3 x4) (val_main_cst_19 (F := Ideal)) pads_S1x2048x256_S1x2048x1024_000_000_5122560 h_S_ s i).trans Ideal.ofBits_zero_f32
    | ⟨3, _⟩, hl =>
      exact (pad_cols_out (hi := 0) g 3 hl (o := 768) rfl (val_main_v104 (F := Ideal) x0 x1 x3 x4) (val_main_cst_16 (F := Ideal)) pads_S1x2048x256_S1x2048x1024_000_000_76800 h_S_ s i).trans Ideal.ofBits_zero_f32
  · match g with
    | ⟨0, _⟩ =>
      exact (pad_cols_in (hi := 768) 0 (o := 0) rfl (val_main_v139 (F := Ideal) x0 x1 x3 x4) (val_main_cst_25 (F := Ideal)) pads_S1x2048x256_S1x2048x1024_000_000_07680 h_S_ s i).trans (v139_at x0 x1 x3 x4 h0 h1 h3 h4 s i)
    | ⟨1, _⟩ =>
      exact (pad_cols_in (hi := 512) 1 (o := 256) rfl (val_main_v127 (F := Ideal) x0 x1 x3 x4) (val_main_cst_22 (F := Ideal)) pads_S1x2048x256_S1x2048x1024_000_000_2565120 h_S_ s i).trans (v127_at x0 x1 x3 x4 h0 h1 h3 h4 s i)
    | ⟨2, _⟩ =>
      exact (pad_cols_in (hi := 256) 2 (o := 512) rfl (val_main_v115 (F := Ideal) x0 x1 x3 x4) (val_main_cst_19 (F := Ideal)) pads_S1x2048x256_S1x2048x1024_000_000_5122560 h_S_ s i).trans (v115_at x0 x1 x3 x4 h0 h1 h3 h4 s i)
    | ⟨3, _⟩ =>
      exact (pad_cols_in (hi := 0) 3 (o := 768) rfl (val_main_v104 (F := Ideal) x0 x1 x3 x4) (val_main_cst_16 (F := Ideal)) pads_S1x2048x256_S1x2048x1024_000_000_76800 h_S_ s i).trans (v104_at x0 x1 x3 x4 h0 h1 h3 h4 s i)

include h0 h1 h3 h4 in
/-- The gradient of the mixer's input. -/
theorem v143_at (g : Fin 4) (s : Fin 2048) (i : Fin 256) : val_main_v143 (F := Ideal) x0 x1 x3 x4 (ix3 0 s (col g i))
    = ((dx g.val (colZ x0 g) (colD x1 g) (matW x3 g) (scl x4 g) s i : ℝ) : EReal) := by
  have e : val_main_v142 (F := Ideal) x0 x1 x3 x4 (ix3 0 s (col g i)) = ((up (win g.val) (quot g.val (colZ x0 g) (colD x1 g) (matW x3 g) (scl x4 g) i) s : ℝ) : EReal) := by
    unfold val_main_v142
    exact revsum_apply _ _ _ _ Ideal.ofBits_zero_f32 _ (quot g.val (colZ x0 g) (colD x1 g) (matW x3 g) (scl x4 g) i) (win g.val)
      (fun n hn => by unfold quot; rw [if_neg (by omega)]) (fun s => v141_at x0 x1 x3 x4 h0 h1 h3 h4 g s i) s
  rw [val_main_v143_apply, v132_at x0 x1 x3 x4 h0 h1 h3 h4 g s i, e]
  refine (add_real _ _).trans (congrArg (fun r : ℝ => (r : EReal)) ?_)
  unfold dx
  ring

/-- A column is its group's column at its lane. -/
theorem col_grp (q : Fin 1024) : col (grp q) (lane q) = q := Fin.ext (show 256 * (q.val / 256) + q.val % 256 = q.val by omega)

include h0 h1 h3 h4 in
/-- The two gradients laid one after the other. -/
theorem v148_at (a : Fin 2) (s : Fin 2048) (q : Fin 1024) : val_main_v148 (F := Ideal) x0 x1 x3 x4 (ix3 a s q)
    = if a.val = 0 then ((dx (grp q).val (colZ x0 (grp q)) (colD x1 (grp q)) (matW x3 (grp q)) (scl x4 (grp q)) s (lane q) : ℝ) : EReal)
      else ((dgate (grp q).val (colX x0 (grp q)) (colZ x0 (grp q)) (colD x1 (grp q)) (matW x3 (grp q)) (scl x4 (grp q)) s (lane q) : ℝ) : EReal) := by
  have e6 : val_main_v146 (F := Ideal) x0 x1 x3 x4 (ix3 0 s q) = ((dx (grp q).val (colZ x0 (grp q)) (colD x1 (grp q)) (matW x3 (grp q)) (scl x4 (grp q)) s (lane q) : ℝ) : EReal) := by
    rw [val_main_v146_apply, val_main_v144_apply]
    refine (congrArg (val_main_v143 (F := Ideal) x0 x1 x3 x4) (ix3_ext (n0 := 1) (n1 := 2048) (n2 := 1024) _ 0 s (col (grp q) (lane q)) rfl ?_ ?_)).trans (v143_at x0 x1 x3 x4 h0 h1 h3 h4 (grp q) s (lane q))
    · show (s.val * 1024 + q.val) / 1024 % 2048 = s.val
      omega
    · show (s.val * 1024 + q.val) % 1024 = 256 * (q.val / 256) + q.val % 256
      omega
  have e7 : val_main_v147 (F := Ideal) x0 x1 x3 x4 (ix3 0 s q) = ((dgate (grp q).val (colX x0 (grp q)) (colZ x0 (grp q)) (colD x1 (grp q)) (matW x3 (grp q)) (scl x4 (grp q)) s (lane q) : ℝ) : EReal) := by
    rw [val_main_v147_apply, val_main_v145_apply]
    refine (congrArg (val_main_v75 (F := Ideal) x0 x1 x3 x4) (ix3_ext (n0 := 1) (n1 := 2048) (n2 := 1024) _ 0 s (col (grp q) (lane q)) rfl ?_ ?_)).trans (v75_at x0 x1 x3 x4 h0 h1 h3 h4 (grp q) s (lane q))
    · show (s.val * 1024 + q.val) / 1024 % 2048 = s.val
      omega
    · show (s.val * 1024 + q.val) % 1024 = 256 * (q.val / 256) + q.val % 256
      omega
  unfold val_main_v148
  refine Eq.trans (cat_first (a := 1) (b := 1) (n := 2) rfl _ _ _ a s q) ?_
  by_cases ha : a.val < 1
  · rw [dif_pos ha, if_pos (by omega)]
    exact (congrArg (fun k => val_main_v146 (F := Ideal) x0 x1 x3 x4 (ix3 k s q)) (Subsingleton.elim _ _)).trans e6
  · rw [dif_neg ha, if_neg (by omega)]
    exact (congrArg (fun k => val_main_v147 (F := Ideal) x0 x1 x3 x4 (ix3 k s q)) (Subsingleton.elim _ _)).trans e7

include h0 h1 h3 h4 in
/-- The reference's gradient of the projected input. -/
theorem v151_eq : val_main_v151 (F := Ideal) x0 x1 x2 x3 x4 = G0 x0 x1 x2 x3 x4 := by
  funext i
  obtain ⟨a, s, q, rfl⟩ : ∃ (a : Fin 4) (s : Fin 2048) (q : Fin 1024), i = ix3 a s q := ⟨i 0, i 1, i 2, ix3_ext i (i 0) (i 1) (i 2) rfl rfl rfl⟩
  unfold val_main_v151 G0
  refine Eq.trans (cat_first (a := 2) (b := 2) (n := 4) rfl _ _ _ a s q) ?_
  by_cases ha : a.val < 2
  · rw [dif_pos ha]
    refine Eq.trans ?_ (if_pos ha).symm
    rw [val_main_v150_apply]
    exact congrArg x2 (ix3_ext (n0 := 4) (n1 := 2048) (n2 := 1024) _ a s q rfl rfl rfl)
  · rw [dif_neg ha]
    refine Eq.trans ?_ (if_neg ha).symm
    rw [val_main_v149_apply]
    refine (v148_at x0 x1 x3 x4 h0 h1 h3 h4 ⟨a.val - 2, by omega⟩ s q).trans ?_
    by_cases h2 : a.val = 2
    · rw [if_pos (show a.val - 2 = 0 by omega)]
      exact (if_pos h2).symm
    · rw [if_neg (show ¬ a.val - 2 = 0 by omega)]
      exact (if_neg h2).symm

include h0 h1 h4 in
/-- The reference's gradient of the mixing matrices. -/
theorem v87_eq : val_main_v87 (F := Ideal) x0 x1 x4 = G1 x0 x1 x4 := by
  funext i
  obtain ⟨g, a, b, rfl⟩ : ∃ (a : Fin 4) (s : Fin 256) (q : Fin 256), i = ix3 a s q := ⟨i 0, i 1, i 2, ix3_ext i (i 0) (i 1) (i 2) rfl rfl rfl⟩
  exact v87_at x0 x1 x4 h0 h1 h4 g a b

include h0 h1 h3 in
/-- The reference's gradient of the output scale. -/
theorem v152_eq : val_main_v152 (F := Ideal) x0 x1 x3 = G2 x0 x1 x3 := by
  funext i
  obtain ⟨a, q, rfl⟩ : ∃ (a : Fin 1) (q : Fin 1024), i = ix2 a q := ⟨i 0, i 1, funext fun b => match b with | ⟨0, _⟩ => rfl | ⟨1, _⟩ => rfl⟩
  have ha : a = 0 := Fin.ext (by omega)
  subst ha
  refine (congrArg (fun r => val_main_v152 (F := Ideal) x0 x1 x3 (ix2 0 r)) (col_grp q).symm).trans ?_
  exact v152_at x0 x1 x3 h0 h1 h3 (grp q) (lane q)

end Cert.PoolBackward

end
-- ==== Proof.PoolClaim.lean ====
/- The backward pass of the pooling mixer: the kernel's program and the reference's end at the same arrays. -/
module

public import proofs.«01_k».proof.Proof.Gen.PoolIdeal.Value
public import proofs.«01_k».proof.Proof.Gen.PoolRefIdeal.Run
public import proofs.«01_k».proof.Proof.PoolFinite
public import proofs.«01_k».proof.Proof.PoolKernel
public import proofs.«01_k».proof.Proof.PoolBackward

@[expose] public section

set_option maxRecDepth 16384

noncomputable section

namespace Cert.PoolClaim

open Idealize.ShloMosaic hiding addf_apply mulf_apply subf_apply divf_apply truncf_apply
open Idealize.SL.Sem

/-- The precondition makes the four arrays it tests arrays of real numbers. -/
theorem finite_args [Cert.Pre_finite.Facts] (m : (ℓ : Loc Cert.PoolIdeal.nD Cert.PoolIdeal.τ Cert.PoolIdeal.sig) → Buf (Elt Ideal) ℓ)
    (h : Cert.Pre_PoolIdeal_finite m) : Cert.PoolKernel.FiniteArgs m := fun c =>
  ⟨fun i => PoolFinite.real_of_cmp _ (congrFun (h c).1 i), fun i => PoolFinite.real_of_cmp _ (congrFun (h c).2.1 i),
    fun i => PoolFinite.real_of_cmp _ (congrFun (h c).2.2.1 i), fun i => PoolFinite.real_of_cmp _ (congrFun (h c).2.2.2 i)⟩

/-- The kernel's program ends with the three gradients. -/
theorem kernel_run (m : (ℓ : Loc Cert.PoolIdeal.nD Cert.PoolIdeal.τ Cert.PoolIdeal.sig) → Buf (Elt Ideal) ℓ) (ρ : Dev Cert.PoolIdeal.nD → PrngReg)
    (hf : Cert.PoolKernel.FiniteArgs m) :
    θ_run (Cert.PoolIdeal.defs (F := Ideal)) (onTc (τ := Cert.PoolIdeal.τ) (Cert.PoolIdeal.main (F := Ideal))) ⟨m, fun _ => 0, ρ⟩ (fun r => ∀ c : Dev Cert.PoolIdeal.nD,
      r.2.mem ((c.tc : Thread Cert.PoolIdeal.nD Cert.PoolIdeal.τ).loc Cert.PoolIdeal.main_v3_0) = Cert.PoolKernel.R0 m c
      ∧ r.2.mem ((c.tc : Thread Cert.PoolIdeal.nD Cert.PoolIdeal.τ).loc Cert.PoolIdeal.main_v3_1) = Cert.PoolKernel.R1 m c
      ∧ r.2.mem ((c.tc : Thread Cert.PoolIdeal.nD Cert.PoolIdeal.τ).loc Cert.PoolIdeal.main_v3_2) = Cert.PoolKernel.R2 m c
      ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)) :=
  (θ_run _ _ _).mono (fun r h c => by
    obtain ⟨h6, h7, h8, hk⟩ := h c
    obtain ⟨f0, f1, f3, f4⟩ := hf c
    exact ⟨h6.trans (Cert.PoolKernel.final6 m c f0 f1 f3 f4), h7.trans (Cert.PoolKernel.final7 m c f0 f1 f4),
      h8.trans (Cert.PoolKernel.final8 m c f0 f1 f3), hk⟩)
    (Cert.PoolIdeal.Value.run_blocks m ρ)

/-- The two programs end at the same three arrays. -/
theorem algebraic [Cert.Pre_finite.Facts] : Cert.algebraic_PoolIdeal_PoolRefIdeal_pre_finite (hPoolIdeal := Cert.PoolIdeal.Gen.facts) (hPoolRefIdeal := Cert.PoolRefIdeal.Gen.facts) := by
  intro m ρ m' ρ' hpre hag
  have hf := finite_args m hpre
  refine ⟨fun c => Cert.PoolKernel.R0 m c, fun c => Cert.PoolKernel.R1 m c, fun c => Cert.PoolKernel.R2 m c, kernel_run m ρ hf, ?_⟩
  refine (θ_run _ _ _).mono (fun r h c => ?_) (Cert.PoolRefIdeal.Value.run (F := Ideal) m' ρ')
  obtain ⟨h151, h87, h152, hk⟩ := h c
  obtain ⟨e0, e1, e2, e3, e4⟩ := hag c
  obtain ⟨f0, f1, f3, f4⟩ := hf c
  have k151 := h151.trans (Cert.PoolRefIdeal.Read.val_main_v151_eq (F := Ideal) (StableHlo.launchContents m' c))
  have k87 := h87.trans (Cert.PoolRefIdeal.Read.val_main_v87_eq (F := Ideal) (StableHlo.launchContents m' c))
  have k152 := h152.trans (Cert.PoolRefIdeal.Read.val_main_v152_eq (F := Ideal) (StableHlo.launchContents m' c))
  clear h151 h87 h152
  rw [StableHlo.launchContents_devRef, StableHlo.launchContents_devRef, StableHlo.launchContents_devRef, StableHlo.launchContents_devRef,
    StableHlo.launchContents_devRef, e0, e1, e2, e3, e4, Cert.PoolBackward.v151_eq _ _ _ _ _ f0 f1 f3 f4] at k151
  rw [StableHlo.launchContents_devRef, StableHlo.launchContents_devRef, StableHlo.launchContents_devRef, e0, e1, e4,
    Cert.PoolBackward.v87_eq _ _ _ f0 f1 f4] at k87
  rw [StableHlo.launchContents_devRef, StableHlo.launchContents_devRef, StableHlo.launchContents_devRef, e0, e1, e3,
    Cert.PoolBackward.v152_eq _ _ _ f0 f1 f3] at k152
  exact ⟨k151, k87, k152, hk⟩

end Cert.PoolClaim

end
-- ==== Proof.Products.lean ====
/- Arrays put side by side, read at an index, and a sum over 4096 terms taken in four parts. Nothing here mentions a program. -/
module

public import Idealize.ShloMosaic.PureOps.Ideal.Laws
public import Idealize.ShloMosaic.Lib.ValueIdx
public import Idealize.ShloMosaic.Lib.IdealHost
public import Idealize.ShloMosaic.Lib.Pipeline.ValueKit
public import Mathlib.Algebra.BigOperators.Fin

@[expose] public section

set_option maxRecDepth 16384

noncomputable section

namespace Cert.Products

open Idealize.ShloMosaic
open scoped BigOperators

/-- Four arrays side by side, at an index. -/
theorem cat4 {φ : Type} (y : Fin 4 → ((⟨2, ![2048, 1024]⟩ : Shape).Idx → φ)) (x : (⟨3, ![4, 2048, 1024]⟩ : Shape).Idx → φ)
    (hx : ∀ (p : Fin 4) (s : Fin 2048) (q : Fin 1024), y p (ix2 s q) = x (ix3 p s q))
    (h : Shape.Concatenates [(⟨2, ![2048, 1024]⟩ : Shape), (⟨2, ![2048, 1024]⟩ : Shape), (⟨2, ![2048, 1024]⟩ : Shape), (⟨2, ![2048, 1024]⟩ : Shape)] (⟨2, ![2048, 4096]⟩ : Shape) 1)
    (s : Fin 2048) (j : Fin 4096) :
    concatenate (⟨2, ![2048, 4096]⟩ : Shape) 1 [⟨(⟨2, ![2048, 1024]⟩ : Shape), y 0⟩, ⟨(⟨2, ![2048, 1024]⟩ : Shape), y 1⟩, ⟨(⟨2, ![2048, 1024]⟩ : Shape), y 2⟩, ⟨(⟨2, ![2048, 1024]⟩ : Shape), y 3⟩] h (ix2 s j)
      = x (ix3 ⟨j.val / 1024, by omega⟩ s ⟨j.val % 1024, by omega⟩) := by
  have hb : ∀ (q : Fin 1024) (b : Fin 2), b ≠ 1 → ((ix2 (n0 := 2048) (n1 := 1024) s q) b).val = ((ix2 (n0 := 2048) (n1 := 4096) s j) b).val := by
    intro q b hb
    match b with
    | ⟨0, _⟩ => rfl
    | ⟨1, _⟩ => exact absurd rfl hb
  rcases (by omega : j.val / 1024 = 0 ∨ j.val / 1024 = 1 ∨ j.val / 1024 = 2 ∨ j.val / 1024 = 3) with e | e | e | e
  · refine (concatenate_apply_piece (t := (⟨2, ![2048, 4096]⟩ : Shape)) 1 [⟨(⟨2, ![2048, 1024]⟩ : Shape), y 0⟩, ⟨(⟨2, ![2048, 1024]⟩ : Shape), y 1⟩, ⟨(⟨2, ![2048, 1024]⟩ : Shape), y 2⟩, ⟨(⟨2, ![2048, 1024]⟩ : Shape), y 3⟩] h (ix2 s j) 0
          (show 0 < 4 by decide) (⟨2, ![2048, 1024]⟩ : Shape) (y 0) rfl rfl 0 rfl (ix2 s ⟨j.val % 1024, by omega⟩) (hb _) (show 0 + j.val % 1024 = j.val by omega)).trans ((hx _ _ _).trans ?_)
    exact congrArg x (congrArg (fun p => ix3 p s _) (Fin.ext e.symm))
  · refine (concatenate_apply_piece (t := (⟨2, ![2048, 4096]⟩ : Shape)) 1 [⟨(⟨2, ![2048, 1024]⟩ : Shape), y 0⟩, ⟨(⟨2, ![2048, 1024]⟩ : Shape), y 1⟩, ⟨(⟨2, ![2048, 1024]⟩ : Shape), y 2⟩, ⟨(⟨2, ![2048, 1024]⟩ : Shape), y 3⟩] h (ix2 s j) 1
          (show 1 < 4 by decide) (⟨2, ![2048, 1024]⟩ : Shape) (y 1) rfl rfl 1024 rfl (ix2 s ⟨j.val % 1024, by omega⟩) (hb _) (show 1024 + j.val % 1024 = j.val by omega)).trans ((hx _ _ _).trans ?_)
    exact congrArg x (congrArg (fun p => ix3 p s _) (Fin.ext e.symm))
  · refine (concatenate_apply_piece (t := (⟨2, ![2048, 4096]⟩ : Shape)) 1 [⟨(⟨2, ![2048, 1024]⟩ : Shape), y 0⟩, ⟨(⟨2, ![2048, 1024]⟩ : Shape), y 1⟩, ⟨(⟨2, ![2048, 1024]⟩ : Shape), y 2⟩, ⟨(⟨2, ![2048, 1024]⟩ : Shape), y 3⟩] h (ix2 s j) 2
          (show 2 < 4 by decide) (⟨2, ![2048, 1024]⟩ : Shape) (y 2) rfl rfl 2048 rfl (ix2 s ⟨j.val % 1024, by omega⟩) (hb _) (show 2048 + j.val % 1024 = j.val by omega)).trans ((hx _ _ _).trans ?_)
    exact congrArg x (congrArg (fun p => ix3 p s _) (Fin.ext e.symm))
  · refine (concatenate_apply_piece (t := (⟨2, ![2048, 4096]⟩ : Shape)) 1 [⟨(⟨2, ![2048, 1024]⟩ : Shape), y 0⟩, ⟨(⟨2, ![2048, 1024]⟩ : Shape), y 1⟩, ⟨(⟨2, ![2048, 1024]⟩ : Shape), y 2⟩, ⟨(⟨2, ![2048, 1024]⟩ : Shape), y 3⟩] h (ix2 s j) 3
          (show 3 < 4 by decide) (⟨2, ![2048, 1024]⟩ : Shape) (y 3) rfl rfl 3072 rfl (ix2 s ⟨j.val % 1024, by omega⟩) (hb _) (show 3072 + j.val % 1024 = j.val by omega)).trans ((hx _ _ _).trans ?_)
    exact congrArg x (congrArg (fun p => ix3 p s _) (Fin.ext e.symm))

/-- Two arrays side by side, at an index. -/
theorem cat2 {φ : Type} (y z : (⟨2, ![2048, 1024]⟩ : Shape).Idx → φ) (x : (⟨3, ![2, 2048, 1024]⟩ : Shape).Idx → φ)
    (hy : ∀ (s : Fin 2048) (q : Fin 1024), y (ix2 s q) = x (ix3 0 s q)) (hz : ∀ (s : Fin 2048) (q : Fin 1024), z (ix2 s q) = x (ix3 1 s q))
    (h : Shape.Concatenates [(⟨2, ![2048, 1024]⟩ : Shape), (⟨2, ![2048, 1024]⟩ : Shape)] (⟨2, ![2048, 2048]⟩ : Shape) 1)
    (s : Fin 2048) (j : Fin 2048) :
    concatenate (⟨2, ![2048, 2048]⟩ : Shape) 1 [⟨(⟨2, ![2048, 1024]⟩ : Shape), y⟩, ⟨(⟨2, ![2048, 1024]⟩ : Shape), z⟩] h (ix2 s j)
      = x (ix3 ⟨j.val / 1024, by omega⟩ s ⟨j.val % 1024, by omega⟩) := by
  have hb : ∀ (q : Fin 1024) (b : Fin 2), b ≠ 1 → ((ix2 (n0 := 2048) (n1 := 1024) s q) b).val = ((ix2 (n0 := 2048) (n1 := 2048) s j) b).val := by
    intro q b hb
    match b with
    | ⟨0, _⟩ => rfl
    | ⟨1, _⟩ => exact absurd rfl hb
  rcases (by omega : j.val / 1024 = 0 ∨ j.val / 1024 = 1) with e | e
  · refine (concatenate_apply_piece (t := (⟨2, ![2048, 2048]⟩ : Shape)) 1 [⟨(⟨2, ![2048, 1024]⟩ : Shape), y⟩, ⟨(⟨2, ![2048, 1024]⟩ : Shape), z⟩] h (ix2 s j) 0
          (show 0 < 2 by decide) (⟨2, ![2048, 1024]⟩ : Shape) y rfl rfl 0 rfl (ix2 s ⟨j.val % 1024, by omega⟩) (hb _) (show 0 + j.val % 1024 = j.val by omega)).trans ((hy _ _).trans ?_)
    exact congrArg x (congrArg (fun p => ix3 p s _) (Fin.ext e.symm))
  · refine (concatenate_apply_piece (t := (⟨2, ![2048, 2048]⟩ : Shape)) 1 [⟨(⟨2, ![2048, 1024]⟩ : Shape), y⟩, ⟨(⟨2, ![2048, 1024]⟩ : Shape), z⟩] h (ix2 s j) 1
          (show 1 < 2 by decide) (⟨2, ![2048, 1024]⟩ : Shape) z rfl rfl 1024 rfl (ix2 s ⟨j.val % 1024, by omega⟩) (hb _) (show 1024 + j.val % 1024 = j.val by omega)).trans ((hz _ _).trans ?_)
    exact congrArg x (congrArg (fun p => ix3 p s _) (Fin.ext e.symm))

/-- Two arrays stacked, at an index. -/
theorem stack2 {φ : Type} (y z : (⟨3, ![1, 2048, 1024]⟩ : Shape).Idx → φ)
    (h : Shape.Concatenates [(⟨3, ![1, 2048, 1024]⟩ : Shape), (⟨3, ![1, 2048, 1024]⟩ : Shape)] (⟨3, ![2, 2048, 1024]⟩ : Shape) 0)
    (p : Fin 2) (s : Fin 2048) (q : Fin 1024) :
    concatenate (⟨3, ![2, 2048, 1024]⟩ : Shape) 0 [⟨(⟨3, ![1, 2048, 1024]⟩ : Shape), y⟩, ⟨(⟨3, ![1, 2048, 1024]⟩ : Shape), z⟩] h (ix3 p s q)
      = if p.val = 0 then y (ix3 0 s q) else z (ix3 0 s q) := by
  match p with
  | ⟨0, _⟩ =>
    exact concatenate_apply_piece (t := (⟨3, ![2, 2048, 1024]⟩ : Shape)) 0 [⟨(⟨3, ![1, 2048, 1024]⟩ : Shape), y⟩, ⟨(⟨3, ![1, 2048, 1024]⟩ : Shape), z⟩] h (ix3 0 s q) 0
      (show 0 < 2 by decide) (⟨3, ![1, 2048, 1024]⟩ : Shape) y rfl rfl 0 rfl (ix3 0 s q) (fun b hb => by
        match b with
        | ⟨0, _⟩ => exact absurd rfl hb
        | ⟨1, _⟩ => rfl
        | ⟨2, _⟩ => rfl) rfl
  | ⟨1, _⟩ =>
    exact concatenate_apply_piece (t := (⟨3, ![2, 2048, 1024]⟩ : Shape)) 0 [⟨(⟨3, ![1, 2048, 1024]⟩ : Shape), y⟩, ⟨(⟨3, ![1, 2048, 1024]⟩ : Shape), z⟩] h (ix3 1 s q) 1
      (show 1 < 2 by decide) (⟨3, ![1, 2048, 1024]⟩ : Shape) z rfl rfl 1 rfl (ix3 0 s q) (fun b hb => by
        match b with
        | ⟨0, _⟩ => exact absurd rfl hb
        | ⟨1, _⟩ => rfl
        | ⟨2, _⟩ => rfl) rfl

/-- A sum of 4096 terms, taken in four parts of 1024. -/
theorem sum_four (f : Fin 4096 → EReal) :
    ∑ k, f k = ∑ q : Fin 1024, f ⟨q.val, by omega⟩ + ∑ q : Fin 1024, f ⟨1024 + q.val, by omega⟩
      + ∑ q : Fin 1024, f ⟨2048 + q.val, by omega⟩ + ∑ q : Fin 1024, f ⟨3072 + q.val, by omega⟩ := by
  rw [Fin.sum_univ_add (a := 3072) (b := 1024) f, Fin.sum_univ_add (a := 2048) (b := 1024), Fin.sum_univ_add (a := 1024) (b := 1024)]
  rfl

/-- A sum of 2048 terms, taken in two halves. -/
theorem sum_two (f : Fin 2048 → EReal) :
    ∑ k, f k = ∑ q : Fin 1024, f ⟨q.val, by omega⟩ + ∑ q : Fin 1024, f ⟨1024 + q.val, by omega⟩ := by
  rw [Fin.sum_univ_add (a := 1024) (b := 1024) f]
  rfl

end Cert.Products

end
-- ==== Proof.InOdd.lean ====
/- The odd layer's projection into the mixers: the kernel's program and the reference's end at the same product. -/
module

public import proofs.«01_k».proof.Proof.Gen.InOddIdeal.Value
public import proofs.«01_k».proof.Proof.Gen.InOddRefIdeal.Run
public import proofs.«01_k».proof.Proof.Gen.InOddRefIdeal.Read
public import proofs.«01_k».proof.Proof.Products
public import Idealize.ShloMosaic.Lib.Pointwise
public import Idealize.ShloMosaic.Lib.Pipeline.ValueKit

@[expose] public section

set_option maxRecDepth 16384

noncomputable section

namespace Cert.InOddClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.InOddIdeal Cert.InOddIdeal.Gen
open scoped BigOperators

/-- The product of the layer's input with the projection weight. -/
def R (x : S2048x2048.Idx → EReal) (w : S2048x4096.Idx → EReal) : S2048x4096.Idx → EReal :=
  fun i => ∑ k : Fin 2048, x (ix2 (i 0) k) * w (ix2 k (i 1))

/-- One block of the product. -/
theorem pay1_apply (v0 : Vec Ideal S1024x2048 .bf16) (v1 : Vec Ideal S512x2048 .bf16) (i : Fin 1024) (j : Fin 512) :
    k0_pay1 (F := Ideal) v0 v1 (ix2 i j) = ∑ k : Fin 2048, (v0 (ix2 i k) : EReal) * v1 (ix2 j k) := by
  unfold k0_pay1
  refine (Ideal.matmul_apply₁_of _ (a := 1) rfl (K := 2048) rfl _ _ _ _ (fun k => ix2 i k) (fun k => ix2 j k)
    (fun k => by rw [Shape.Idx.norm2]; rfl) (fun k => by rw [Shape.Idx.norm2]; rfl)).trans ?_
  rw [show constant (F := Ideal) S1024x512 .f32 0x00000000#32 (ix2 i j) = 0 from Ideal.ofBits_zero_f32, zero_add]
  refine Finset.sum_congr rfl fun k _ => ?_
  rw [shapeCast_self]

variable (m : (ℓ : Loc nD τ sig) → Buf (Elt Ideal) ℓ) (c : Dev nD)

/-- The weight as the call takes it: transposed. -/
theorem V_w : V m c main_v1 = truncf (F := Ideal) .bf16 (transpose S4096x2048 [1, 0] (m ((c : Thread nD τ).loc main_arg1))
    transposes_S2048x4096_S4096x2048_1_0) bitsLt_bf16_f32 := rfl

/-- The block of window 0 at a grid point. -/
theorem idx0 : ∀ t : Fin cfg0.N, win0_0.index t = ![t.val / 8, 0] := (by decide +kernel : ∀ t : Fin grid0.N, _)
/-- The block of window 1 at a grid point. -/
theorem idx1 : ∀ t : Fin cfg0.N, win0_1.index t = ![t.val % 8, 0] := (by decide +kernel : ∀ t : Fin grid0.N, _)
/-- The block of window 2 at a grid point. -/
theorem idx2 : ∀ t : Fin cfg0.N, win0_2.index t = ![t.val / 8, t.val % 8] := (by decide +kernel : ∀ t : Fin grid0.N, _)

/-- The number of grid points. -/
theorem t_lt (t : Fin cfg0.N) : t.val < 16 := by have := t.isLt; have h : cfg0.N = 16 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The rows of the input that a grid point multiplies. -/
theorem iblk0 (t : Fin cfg0.N) (i : Fin 1024) (k : Fin 2048) :
    (iblk m c 0 t : S1024x2048.Idx → EReal) (ix2 i k)
      = m ((c : Thread nD τ).loc main_arg0) (ix2 ⟨1024 * (t.val / 8) + i.val, by have := t_lt t; omega⟩ k) := by
  blk_simp [iblk]
  exact congrArg (m ((c : Thread nD τ).loc main_arg0)) (by blk_ext [idx0])

/-- The columns of the weight that a grid point multiplies. -/
theorem iblk1 (t : Fin cfg0.N) (j : Fin 512) (k : Fin 2048) :
    (iblk m c 1 t : S512x2048.Idx → EReal) (ix2 j k)
      = m ((c : Thread nD τ).loc main_arg1) (ix2 k ⟨512 * (t.val % 8) + j.val, by omega⟩) := by
  blk_simp [iblk]
  show V m c main_v1 _ = _
  rw [V_w]
  exact transpose_apply _ _ _ _ (ix2 k ⟨512 * (t.val % 8) + j.val, by omega⟩) (by
    intro b
    match b with
    | ⟨0, _⟩ => show 512 * (t.val % 8) + j.val = ((win0_1.blk t).view.emb (ix2 j k) 0 : ℕ); blk_simp [idx1]; omega
    | ⟨1, _⟩ => show k.val = ((win0_1.blk t).view.emb (ix2 j k) 1 : ℕ); blk_simp [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 1024) (j : Fin 512), y = ix2 i j := ⟨y 0, y 1, eq_ix2 y⟩
  have e0 : ((win0_2.blk t).view.emb (ix2 i j) : S2048x4096.Idx)
      = ix2 ⟨1024 * (t.val / 8) + i.val, by have := t_lt t; omega⟩ ⟨512 * (t.val % 8) + j.val, by omega⟩ := by
    blk_ext [idx2]
  blk_simp
  rw [after0_2, out2]
  refine (pay1_apply _ _ i j).trans (Eq.trans ?_ (congrArg (R _ _) e0).symm)
  exact Finset.sum_congr rfl fun k _ => congrArg₂ _ (iblk0 m c t i k) (iblk1 m c t j k)

/-- The reference's product. -/
theorem ref_eq (x : S2048x2048.Idx → EReal) (w : S2048x4096.Idx → EReal) :
    Cert.InOddRefIdeal.Read.val_main_v1 (F := Ideal) x w = R x w := by
  funext i
  rw [Cert.InOddRefIdeal.Read.val_main_v1_apply]
  exact Finset.sum_congr rfl fun k _ => congrArg₂ _ (congrArg x (by funext b; match b with | ⟨0, _⟩ => rfl | ⟨1, _⟩ => rfl)) (congrArg w (by funext b; match b with | ⟨0, _⟩ => rfl | ⟨1, _⟩ => rfl))

/-- The kernel's program ends with the product. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.InOddIdeal.Value.run_blocks m ρ)

/-- The reference's program ends with the product. -/
theorem ref_run (m' : (ℓ : Loc Cert.InOddRefIdeal.nD Cert.InOddRefIdeal.τ Cert.InOddRefIdeal.sig) → Buf (Elt Ideal) ℓ) (ρ : Dev Cert.InOddRefIdeal.nD → PrngReg) :
    θ_run (Cert.InOddRefIdeal.defs (F := Ideal)) (onTc (τ := Cert.InOddRefIdeal.τ) (Cert.InOddRefIdeal.main (F := Ideal))) ⟨m', fun _ => 0, ρ⟩ (fun r => ∀ c : Dev Cert.InOddRefIdeal.nD,
      r.2.mem ((c.tc : Thread Cert.InOddRefIdeal.nD Cert.InOddRefIdeal.τ).loc Cert.InOddRefIdeal.main_v1) = R (m' ((c.tc : Thread Cert.InOddRefIdeal.nD Cert.InOddRefIdeal.τ).loc Cert.InOddRefIdeal.main_arg0)) (m' ((c.tc : Thread Cert.InOddRefIdeal.nD Cert.InOddRefIdeal.τ).loc Cert.InOddRefIdeal.main_arg1))
      ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)) :=
  (θ_run _ _ _).mono (fun r h c => ⟨((h c).1.trans (Cert.InOddRefIdeal.Read.val_main_v1_eq _ _)).trans (ref_eq _ _), (h c).2⟩)
    (Cert.InOddRefIdeal.Value.run (F := Ideal) m' ρ)

end Cert.InOddClaim

end
-- ==== Proof.InEven.lean ====
/- The even layer's projection into the mixers: the kernel's program and the reference's end at the same product. -/
module

public import proofs.«01_k».proof.Proof.Gen.InEvenIdeal.Value
public import proofs.«01_k».proof.Proof.Gen.InEvenRefIdeal.Run
public import proofs.«01_k».proof.Proof.Gen.InEvenRefIdeal.Read
public import proofs.«01_k».proof.Proof.Products
public import Idealize.ShloMosaic.Lib.Pointwise
public import Idealize.ShloMosaic.Lib.Pipeline.ValueKit

@[expose] public section

set_option maxRecDepth 16384

noncomputable section

namespace Cert.InEvenClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.InEvenIdeal Cert.InEvenIdeal.Gen
open scoped BigOperators

/-- The product of the layer's input with the projection weight. -/
def R (x : S2048x2048.Idx → EReal) (w : S2048x5376.Idx → EReal) : S2048x5376.Idx → EReal :=
  fun i => ∑ k : Fin 2048, x (ix2 (i 0) k) * w (ix2 k (i 1))

/-- One block of the product. -/
theorem pay1_apply (v0 : Vec Ideal S1024x2048 .bf16) (v1 : Vec Ideal S768x2048 .bf16) (i : Fin 1024) (j : Fin 768) :
    k0_pay1 (F := Ideal) v0 v1 (ix2 i j) = ∑ k : Fin 2048, (v0 (ix2 i k) : EReal) * v1 (ix2 j k) := by
  unfold k0_pay1
  refine (Ideal.matmul_apply₁_of _ (a := 1) rfl (K := 2048) rfl _ _ _ _ (fun k => ix2 i k) (fun k => ix2 j k)
    (fun k => by rw [Shape.Idx.norm2]; rfl) (fun k => by rw [Shape.Idx.norm2]; rfl)).trans ?_
  rw [show constant (F := Ideal) S1024x768 .f32 0x00000000#32 (ix2 i j) = 0 from Ideal.ofBits_zero_f32, zero_add]
  refine Finset.sum_congr rfl fun k _ => ?_
  rw [shapeCast_self]

variable (m : (ℓ : Loc nD τ sig) → Buf (Elt Ideal) ℓ) (c : Dev nD)

/-- The weight as the call takes it: transposed. -/
theorem V_w : V m c main_v1 = truncf (F := Ideal) .bf16 (transpose S5376x2048 [1, 0] (m ((c : Thread nD τ).loc main_arg1))
    transposes_S2048x5376_S5376x2048_1_0) bitsLt_bf16_f32 := rfl

/-- The block of window 0 at a grid point. -/
theorem idx0 : ∀ t : Fin cfg0.N, win0_0.index t = ![t.val / 7, 0] := (by decide +kernel : ∀ t : Fin grid0.N, _)
/-- The block of window 1 at a grid point. -/
theorem idx1 : ∀ t : Fin cfg0.N, win0_1.index t = ![t.val % 7, 0] := (by decide +kernel : ∀ t : Fin grid0.N, _)
/-- The block of window 2 at a grid point. -/
theorem idx2 : ∀ t : Fin cfg0.N, win0_2.index t = ![t.val / 7, t.val % 7] := (by decide +kernel : ∀ t : Fin grid0.N, _)

/-- The number of grid points. -/
theorem t_lt (t : Fin cfg0.N) : t.val < 14 := by have := t.isLt; have h : cfg0.N = 14 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The rows of the input that a grid point multiplies. -/
theorem iblk0 (t : Fin cfg0.N) (i : Fin 1024) (k : Fin 2048) :
    (iblk m c 0 t : S1024x2048.Idx → EReal) (ix2 i k)
      = m ((c : Thread nD τ).loc main_arg0) (ix2 ⟨1024 * (t.val / 7) + i.val, by have := t_lt t; omega⟩ k) := by
  blk_simp [iblk]
  exact congrArg (m ((c : Thread nD τ).loc main_arg0)) (by blk_ext [idx0])

/-- The columns of the weight that a grid point multiplies. -/
theorem iblk1 (t : Fin cfg0.N) (j : Fin 768) (k : Fin 2048) :
    (iblk m c 1 t : S768x2048.Idx → EReal) (ix2 j k)
      = m ((c : Thread nD τ).loc main_arg1) (ix2 k ⟨768 * (t.val % 7) + j.val, by omega⟩) := by
  blk_simp [iblk]
  show V m c main_v1 _ = _
  rw [V_w]
  exact transpose_apply _ _ _ _ (ix2 k ⟨768 * (t.val % 7) + j.val, by omega⟩) (by
    intro b
    match b with
    | ⟨0, _⟩ => show 768 * (t.val % 7) + j.val = ((win0_1.blk t).view.emb (ix2 j k) 0 : ℕ); blk_simp [idx1]; omega
    | ⟨1, _⟩ => show k.val = ((win0_1.blk t).view.emb (ix2 j k) 1 : ℕ); blk_simp [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 1024) (j : Fin 768), y = ix2 i j := ⟨y 0, y 1, eq_ix2 y⟩
  have e0 : ((win0_2.blk t).view.emb (ix2 i j) : S2048x5376.Idx)
      = ix2 ⟨1024 * (t.val / 7) + i.val, by have := t_lt t; omega⟩ ⟨768 * (t.val % 7) + j.val, by omega⟩ := by
    blk_ext [idx2]
  blk_simp
  rw [after0_2, out2]
  refine (pay1_apply _ _ i j).trans (Eq.trans ?_ (congrArg (R _ _) e0).symm)
  exact Finset.sum_congr rfl fun k _ => congrArg₂ _ (iblk0 m c t i k) (iblk1 m c t j k)

/-- The reference's product. -/
theorem ref_eq (x : S2048x2048.Idx → EReal) (w : S2048x5376.Idx → EReal) :
    Cert.InEvenRefIdeal.Read.val_main_v1 (F := Ideal) x w = R x w := by
  funext i
  rw [Cert.InEvenRefIdeal.Read.val_main_v1_apply]
  exact Finset.sum_congr rfl fun k _ => congrArg₂ _ (congrArg x (by funext b; match b with | ⟨0, _⟩ => rfl | ⟨1, _⟩ => rfl)) (congrArg w (by funext b; match b with | ⟨0, _⟩ => rfl | ⟨1, _⟩ => rfl))

/-- The kernel's program ends with the product. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.InEvenIdeal.Value.run_blocks m ρ)

/-- The reference's program ends with the product. -/
theorem ref_run (m' : (ℓ : Loc Cert.InEvenRefIdeal.nD Cert.InEvenRefIdeal.τ Cert.InEvenRefIdeal.sig) → Buf (Elt Ideal) ℓ) (ρ : Dev Cert.InEvenRefIdeal.nD → PrngReg) :
    θ_run (Cert.InEvenRefIdeal.defs (F := Ideal)) (onTc (τ := Cert.InEvenRefIdeal.τ) (Cert.InEvenRefIdeal.main (F := Ideal))) ⟨m', fun _ => 0, ρ⟩ (fun r => ∀ c : Dev Cert.InEvenRefIdeal.nD,
      r.2.mem ((c.tc : Thread Cert.InEvenRefIdeal.nD Cert.InEvenRefIdeal.τ).loc Cert.InEvenRefIdeal.main_v1) = R (m' ((c.tc : Thread Cert.InEvenRefIdeal.nD Cert.InEvenRefIdeal.τ).loc Cert.InEvenRefIdeal.main_arg0)) (m' ((c.tc : Thread Cert.InEvenRefIdeal.nD Cert.InEvenRefIdeal.τ).loc Cert.InEvenRefIdeal.main_arg1))
      ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)) :=
  (θ_run _ _ _).mono (fun r h c => ⟨((h c).1.trans (Cert.InEvenRefIdeal.Read.val_main_v1_eq _ _)).trans (ref_eq _ _), (h c).2⟩)
    (Cert.InEvenRefIdeal.Value.run (F := Ideal) m' ρ)

end Cert.InEvenClaim

end
-- ==== Proof.DMix.lean ====
/- The gradient of the mixers' results through the projection out: the kernel's program and the reference's end at the same array. -/
module

public import proofs.«01_k».proof.Proof.Gen.DMixIdeal.Value
public import proofs.«01_k».proof.Proof.Gen.DMixRefIdeal.Run
public import proofs.«01_k».proof.Proof.Gen.DMixRefIdeal.Read
public import proofs.«01_k».proof.Proof.Products
public import Idealize.ShloMosaic.Lib.Pointwise
public import Idealize.ShloMosaic.Lib.Pipeline.ValueKit

@[expose] public section

set_option maxRecDepth 16384

noncomputable section

namespace Cert.DMixClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DMixIdeal Cert.DMixIdeal.Gen
open scoped BigOperators

/-- The gradients of the two mixers' results: the incoming gradient times the transposed weight, in two halves. -/
def R (d w : S2048x2048.Idx → EReal) : S2x2048x1024.Idx → EReal :=
  fun i => ∑ k : Fin 2048, d (ix2 (i 1) k) * w (ix2 (n0 := 2048) (n1 := 2048) ⟨1024 * (i 0).val + (i 2).val, by
    have h0 := (i 0).isLt; have h2 := (i 2).isLt; change (i 0).val < 2 at h0; change (i 2).val < 1024 at h2; omega⟩ k)

/-- One block of the product. -/
theorem pay1_apply (v0 v1 : Vec Ideal S1024x2048 .bf16) (i j : Fin 1024) :
    k0_pay1 (F := Ideal) v0 v1 (ix3 0 i j) = ∑ k : Fin 2048, (v0 (ix2 i k) : EReal) * v1 (ix2 j k) := by
  unfold k0_pay1
  rw [shapeCast_addUnit_apply, show (fun a : Fin 2 => (ix3 (n0 := 1) (n1 := 1024) (n2 := 1024) 0 i j) a.succ) = ix2 (n0 := 1024) (n1 := 1024) i j by
    funext b; match b with | ⟨0, _⟩ => rfl | ⟨1, _⟩ => rfl]
  refine (Ideal.matmul_apply₁_of _ (a := 1) rfl (K := 2048) rfl _ _ _ _ (fun k => ix2 i k) (fun k => ix2 j k)
    (fun k => by rw [Shape.Idx.norm2]; rfl) (fun k => by rw [Shape.Idx.norm2]; rfl)).trans ?_
  rw [show constant (F := Ideal) S1024x1024 .f32 0x00000000#32 (ix2 i j) = 0 from Ideal.ofBits_zero_f32, zero_add]
  refine Finset.sum_congr rfl fun k _ => ?_
  rw [shapeCast_self]

variable (m : (ℓ : Loc nD τ sig) → Buf (Elt Ideal) ℓ) (c : Dev nD)

/-- The weight as the call takes it. -/
theorem V_w : V m c main_v0 = truncf (F := Ideal) .bf16 (m ((c : Thread nD τ).loc main_arg1)) bitsLt_bf16_f32 := rfl

/-- The block of window 0 at a grid point. -/
theorem idx0 : ∀ t : Fin cfg0.N, win0_0.index t = ![t.val / 2, 0] := (by decide +kernel : ∀ t : Fin grid0.N, _)
/-- The block of window 1 at a grid point. -/
theorem idx1 : ∀ t : Fin cfg0.N, win0_1.index t = ![t.val % 2, 0] := (by decide +kernel : ∀ t : Fin grid0.N, _)
/-- The block of window 2 at a grid point. -/
theorem idx2 : ∀ t : Fin cfg0.N, win0_2.index t = ![t.val % 2, t.val / 2, 0] := (by decide +kernel : ∀ t : Fin grid0.N, _)

/-- The number of grid points. -/
theorem t_lt (t : Fin cfg0.N) : t.val < 4 := by have := t.isLt; have h : cfg0.N = 4 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The rows of the incoming gradient that a grid point multiplies. -/
theorem iblk0 (t : Fin cfg0.N) (i : Fin 1024) (k : Fin 2048) :
    (iblk m c 0 t : S1024x2048.Idx → EReal) (ix2 i k)
      = m ((c : Thread nD τ).loc main_arg0) (ix2 ⟨1024 * (t.val / 2) + i.val, by have := t_lt t; omega⟩ k) := by
  blk_simp [iblk]
  exact congrArg (m ((c : Thread nD τ).loc main_arg0)) (by blk_ext [idx0])

/-- The rows of the weight that a grid point multiplies. -/
theorem iblk1 (t : Fin cfg0.N) (j : Fin 1024) (k : Fin 2048) :
    (iblk m c 1 t : S1024x2048.Idx → EReal) (ix2 j k)
      = m ((c : Thread nD τ).loc main_arg1) (ix2 ⟨1024 * (t.val % 2) + j.val, by omega⟩ k) := by
  blk_simp [iblk]
  show V m c main_v0 _ = _
  rw [V_w]
  exact congrArg (m ((c : Thread nD τ).loc main_arg1)) (by blk_ext [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i j : Fin 1024), y = ix3 (n0 := 1) 0 i j :=
    ⟨y 1, y 2, (eq_ix3 (n0 := 1) (n1 := 1024) (n2 := 1024) y).trans (by congr 1; exact Subsingleton.elim _ _)⟩
  have e0 : ((win0_2.blk t).view.emb (ix3 0 i j) : S2x2048x1024.Idx)
      = ix3 ⟨t.val % 2, by omega⟩ ⟨1024 * (t.val / 2) + i.val, by have := t_lt t; omega⟩ j := by
    blk_ext [idx2]
  blk_simp
  rw [after0_2, out2]
  refine (pay1_apply _ _ i j).trans (Eq.trans ?_ (congrArg (R _ _) e0).symm)
  exact Finset.sum_congr rfl fun k _ => congrArg₂ _ (iblk0 m c t i k) (iblk1 m c t j k)

/-- The reference's gradients. -/
theorem ref_eq (d w : S2048x2048.Idx → EReal) : Cert.DMixRefIdeal.Read.val_main_v11 (F := Ideal) d w = R d w := by
  funext i
  rw [eq_ix3 (n0 := 2) (n1 := 2048) (n2 := 1024) i]
  generalize i 0 = p
  generalize i 1 = s
  generalize i 2 = q
  unfold Cert.DMixRefIdeal.Read.val_main_v11
  refine Eq.trans (stack2 (Cert.DMixRefIdeal.Read.val_main_v9 (F := Ideal) d w) (Cert.DMixRefIdeal.Read.val_main_v10 (F := Ideal) d w) _ p s q) ?_
  match p with
  | ⟨0, _⟩ =>
    rw [if_pos rfl, Cert.DMixRefIdeal.Read.val_main_v9_apply, Cert.DMixRefIdeal.Read.val_main_v7_apply, Cert.DMixRefIdeal.Read.val_main_v6_apply]
    refine Finset.sum_congr rfl fun k _ => congrArg₂ _ (congrArg d (by funext b; match b with | ⟨0, _⟩ => rfl | ⟨1, _⟩ => rfl)) (congrArg w (funext fun b => ?_))
    match b with
    | ⟨0, _⟩ => exact Fin.ext (by show q.val = 1024 * 0 + q.val; omega)
    | ⟨1, _⟩ => rfl
  | ⟨1, _⟩ =>
    rw [if_neg (show ¬ (1 : ℕ) = 0 by omega), Cert.DMixRefIdeal.Read.val_main_v10_apply, Cert.DMixRefIdeal.Read.val_main_v8_apply, Cert.DMixRefIdeal.Read.val_main_v6_apply]
    refine Finset.sum_congr rfl fun k _ => congrArg₂ _ (congrArg d (by funext b; match b with | ⟨0, _⟩ => rfl | ⟨1, _⟩ => rfl)) (congrArg w (funext fun b => ?_))
    match b with
    | ⟨0, _⟩ => exact Fin.ext (by show 1024 + q.val = 1024 * 1 + q.val; omega)
    | ⟨1, _⟩ => rfl

/-- The kernel's program ends with the gradients of the two mixers' results. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.DMixIdeal.Value.run_blocks m ρ)

/-- The reference's program ends with the gradients of the two mixers' results. -/
theorem ref_run (m' : (ℓ : Loc Cert.DMixRefIdeal.nD Cert.DMixRefIdeal.τ Cert.DMixRefIdeal.sig) → Buf (Elt Ideal) ℓ) (ρ : Dev Cert.DMixRefIdeal.nD → PrngReg) :
    θ_run (Cert.DMixRefIdeal.defs (F := Ideal)) (onTc (τ := Cert.DMixRefIdeal.τ) (Cert.DMixRefIdeal.main (F := Ideal))) ⟨m', fun _ => 0, ρ⟩ (fun r => ∀ c : Dev Cert.DMixRefIdeal.nD,
      r.2.mem ((c.tc : Thread Cert.DMixRefIdeal.nD Cert.DMixRefIdeal.τ).loc Cert.DMixRefIdeal.main_v11) = R (m' ((c.tc : Thread Cert.DMixRefIdeal.nD Cert.DMixRefIdeal.τ).loc Cert.DMixRefIdeal.main_arg0)) (m' ((c.tc : Thread Cert.DMixRefIdeal.nD Cert.DMixRefIdeal.τ).loc Cert.DMixRefIdeal.main_arg1))
      ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1)) :=
  (θ_run _ _ _).mono (fun r h c => ⟨((h c).1.trans (Cert.DMixRefIdeal.Read.val_main_v11_eq _ _)).trans (ref_eq _ _), (h c).2⟩)
    (Cert.DMixRefIdeal.Value.run (F := Ideal) m' ρ)

end Cert.DMixClaim

end
-- ==== Proof.DwOut.lean ====
/- The gradient of the weight of the projection out: the kernel's program and the reference's end at the same array. -/
module

public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Products
public import Idealize.ShloMosaic.Lib.Pointwise
public import Idealize.ShloMosaic.Lib.Pipeline.ValueKit

@[expose] public section

set_option maxRecDepth 16384

noncomputable section

namespace Cert.DwOutClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DwOutIdeal Cert.DwOutIdeal.Gen
open scoped BigOperators

/-- The transposed gradient of the weight: the two arrays multiplied over the sequence. -/
def R (x : S2x2048x1024.Idx → EReal) (y : S2048x2048.Idx → EReal) : S2048x2048.Idx → EReal :=
  fun i => ∑ k : Fin 2048, x (ix3 (n0 := 2) (n1 := 2048) (n2 := 1024) ⟨(i 0).val / 1024, by have := (i 0).isLt; change (i 0).val < 2048 at this; omega⟩ k ⟨(i 0).val % 1024, by omega⟩) * y (ix2 k (i 1))

/-- One block of the product. -/
theorem pay1_apply (v0 : Vec Ideal S1x2048x512 .bf16) (v1 : Vec Ideal S2048x2048 .bf16) (i : Fin 512) (j : Fin 2048) :
    k0_pay1 (F := Ideal) v0 v1 (ix2 i j) = ∑ k : Fin 2048, (v0 (ix3 0 k i) : EReal) * v1 (ix2 k j) := by
  unfold k0_pay1
  rw [truncf_apply]
  refine (Ideal.matmul_apply₁_of _ (a := 0) rfl (K := 2048) rfl _ _ _ _ (fun k => ix2 k i) (fun k => ix2 k j)
    (fun k => by rw [Shape.Idx.norm2]; rfl) (fun k => by rw [Shape.Idx.norm2]; rfl)).trans ?_
  rw [show constant (F := Ideal) S512x2048 .f32 0x00000000#32 (ix2 i j) = 0 from Ideal.ofBits_zero_f32, zero_add]
  refine Finset.sum_congr rfl fun k _ => congrArg (· * _) ?_
  rw [shapeCast_dropUnit_apply]
  exact congrArg v0 (by funext b; match b with | ⟨0, _⟩ => rfl | ⟨1, _⟩ => rfl | ⟨2, _⟩ => rfl)

variable (m : (ℓ : Loc nD τ sig) → Buf (Elt Ideal) ℓ) (c : Dev nD)

/-- The block of window 0 at a grid point. -/
theorem idx0 : ∀ t : Fin cfg0.N, win0_0.index t = ![t.val / 2, 0, t.val % 2] := (by decide +kernel : ∀ t : Fin grid0.N, _)
/-- The block of window 1 at a grid point. -/
theorem idx1 : ∀ t : Fin cfg0.N, win0_1.index t = ![0, 0] := (by decide +kernel : ∀ t : Fin grid0.N, _)
/-- The block of window 2 at a grid point. -/
theorem idx2 : ∀ t : Fin cfg0.N, win0_2.index t = ![t.val, 0] := (by decide +kernel : ∀ t : Fin grid0.N, _)

/-- The number of grid points. -/
theorem t_lt (t : Fin cfg0.N) : t.val < 4 := by have := t.isLt; have h : cfg0.N = 4 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The columns of the first array that a grid point multiplies. -/
theorem iblk0 (t : Fin cfg0.N) (k : Fin 2048) (i : Fin 512) :
    (iblk m c 0 t : S1x2048x512.Idx → EReal) (ix3 0 k i) = m ((c : Thread nD τ).loc main_arg0) (ix3 ⟨(512 * t.val + i.val) / 1024, by have := t_lt t; omega⟩ k ⟨(512 * t.val + i.val) % 1024, by omega⟩) := by
  have := t_lt t
  blk_simp [iblk]
  exact congrArg (m ((c : Thread nD τ).loc main_arg0)) (by blk_ext [idx0])

/-- The second array, which every grid point multiplies whole. -/
theorem iblk1 (t : Fin cfg0.N) (k j : Fin 2048) :
    (iblk m c 1 t : S2048x2048.Idx → EReal) (ix2 k j) = m ((c : Thread nD τ).loc main_arg1) (ix2 k j) := by
  blk_simp [iblk]
  exact congrArg (m ((c : Thread nD τ).loc main_arg1)) (by blk_ext [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 512) (j : Fin 2048), y = ix2 i j := ⟨y 0, y 1, eq_ix2 y⟩
  have e0 : ((win0_2.blk t).view.emb (ix2 i j) : S2048x2048.Idx) = ix2 ⟨512 * t.val + i.val, by have := t_lt t; omega⟩ j := by
    blk_ext [idx2]
  blk_simp
  rw [after0_2, out2]
  refine (pay1_apply _ _ i j).trans (Eq.trans ?_ (congrArg (R _ _) e0).symm)
  exact Finset.sum_congr rfl fun k _ => congrArg₂ _ (iblk0 m c t k i) (iblk1 m c t k j)

/-- Part 0 of the array. -/
theorem part0 (x : S2x2048x1024.Idx → EReal) (s : Fin 2048) (q : Fin 1024) : Cert.DwOutRefIdeal.Read.val_main_v1 (F := Ideal) x (ix2 s q) = x (ix3 0 s q) := by
  rw [Cert.DwOutRefIdeal.Read.val_main_v1_apply, Cert.DwOutRefIdeal.Read.val_main_v0_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 1 of the array. -/
theorem part1 (x : S2x2048x1024.Idx → EReal) (s : Fin 2048) (q : Fin 1024) : Cert.DwOutRefIdeal.Read.val_main_v4 (F := Ideal) x (ix2 s q) = x (ix3 1 s q) := by
  rw [Cert.DwOutRefIdeal.Read.val_main_v4_apply, Cert.DwOutRefIdeal.Read.val_main_v3_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- The two mixers' results side by side. -/
theorem parts_apply (x : S2x2048x1024.Idx → EReal) (s : Fin 2048) (j : Fin 2048) :
    Cert.DwOutRefIdeal.Read.val_main_v7 (F := Ideal) x (ix2 s j) = x (ix3 ⟨j.val / 1024, by omega⟩ s ⟨j.val % 1024, by omega⟩) := by
  unfold Cert.DwOutRefIdeal.Read.val_main_v7
  exact cat2 (Cert.DwOutRefIdeal.Read.val_main_v2 (F := Ideal) x) (Cert.DwOutRefIdeal.Read.val_main_v5 (F := Ideal) x) x (part0 x) (part1 x) _ s j

/-- The reference's gradient. -/
theorem ref_eq (x : S2x2048x1024.Idx → EReal) (y : S2048x2048.Idx → EReal) :
    Cert.DwOutRefIdeal.Read.val_main_v15 (F := Ideal) x y = R x y := by
  funext i
  rw [Cert.DwOutRefIdeal.Read.val_main_v15_apply]
  show Cert.DwOutRefIdeal.Read.val_main_v11 (F := Ideal) x y i = _
  rw [Cert.DwOutRefIdeal.Read.val_main_v11_apply, Cert.DwOutRefIdeal.Read.val_main_v10_apply]
  refine Finset.sum_congr rfl fun k _ => (mul_comm _ _).trans (congrArg₂ _ ?_ (congrArg y (by funext b; match b with | ⟨0, _⟩ => rfl | ⟨1, _⟩ => rfl)))
  exact (congrArg (Cert.DwOutRefIdeal.Read.val_main_v7 (F := Ideal) x) (by funext b; match b with | ⟨0, _⟩ => rfl | ⟨1, _⟩ => rfl)).trans (parts_apply x k (i 0))

/-- The kernel's program ends with the transposed gradient of the weight. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.DwOutIdeal.Value.run_blocks m ρ)

/-- The reference's program ends with the transposed gradient of the weight. -/
theorem ref_run (m' : (ℓ : Loc Cert.DwOutRefIdeal.nD Cert.DwOutRefIdeal.τ Cert.DwOutRefIdeal.sig) → Buf (Elt Ideal) ℓ) (ρ : Dev Cert.DwOutRefIdeal.nD → PrngReg) :
    θ_run (Cert.DwOutRefIdeal.defs (F := Ideal)) (onTc (τ := Cert.DwOutRefIdeal.τ) (Cert.DwOutRefIdeal.main (F := Ideal))) ⟨m', fun _ => 0, ρ⟩ (fun r => ∀ c : Dev Cert.DwOutRefIdeal.nD,
      r.2.mem ((c.tc : Thread Cert.DwOutRefIdeal.nD Cert.DwOutRefIdeal.τ).loc Cert.DwOutRefIdeal.main_v15) = R (m' ((c.tc : Thread Cert.DwOutRefIdeal.nD Cert.DwOutRefIdeal.τ).loc Cert.DwOutRefIdeal.main_arg0)) (m' ((c.tc : Thread Cert.DwOutRefIdeal.nD Cert.DwOutRefIdeal.τ).loc Cert.DwOutRefIdeal.main_arg1))
      ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)) :=
  (θ_run _ _ _).mono (fun r h c => ⟨((h c).1.trans (Cert.DwOutRefIdeal.Read.val_main_v15_eq _ _)).trans (ref_eq _ _), (h c).2⟩)
    (Cert.DwOutRefIdeal.Value.run (F := Ideal) m' ρ)

end Cert.DwOutClaim

end
-- ==== Proof.DwOdd.lean ====
/- The gradient of the odd layer's projection weight: the kernel's program and the reference's end at the same array. -/
module

public import proofs.«01_k».proof.Proof.Gen.DwOddIdeal.Value
public import proofs.«01_k».proof.Proof.Gen.DwOddRefIdeal.Run
public import proofs.«01_k».proof.Proof.Gen.DwOddRefIdeal.Read
public import proofs.«01_k».proof.Proof.Products
public import Idealize.ShloMosaic.Lib.Pointwise
public import Idealize.ShloMosaic.Lib.Pipeline.ValueKit

@[expose] public section

set_option maxRecDepth 16384

noncomputable section

namespace Cert.DwOddClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DwOddIdeal Cert.DwOddIdeal.Gen
open scoped BigOperators

/-- The transposed gradient of the weight: the two arrays multiplied over the sequence. -/
def R (x : S4x2048x1024.Idx → EReal) (y : S2048x2048.Idx → EReal) : S4096x2048.Idx → EReal :=
  fun i => ∑ k : Fin 2048, x (ix3 (n0 := 4) (n1 := 2048) (n2 := 1024) ⟨(i 0).val / 1024, by have := (i 0).isLt; change (i 0).val < 4096 at this; omega⟩ k ⟨(i 0).val % 1024, by omega⟩) * y (ix2 k (i 1))

/-- One block of the product. -/
theorem pay1_apply (v0 : Vec Ideal S1x2048x1024 .bf16) (v1 : Vec Ideal S2048x2048 .bf16) (i : Fin 1024) (j : Fin 2048) :
    k0_pay1 (F := Ideal) v0 v1 (ix2 i j) = ∑ k : Fin 2048, (v0 (ix3 0 k i) : EReal) * v1 (ix2 k j) := by
  unfold k0_pay1
  rw [truncf_apply]
  refine (Ideal.matmul_apply₁_of _ (a := 0) rfl (K := 2048) rfl _ _ _ _ (fun k => ix2 k i) (fun k => ix2 k j)
    (fun k => by rw [Shape.Idx.norm2]; rfl) (fun k => by rw [Shape.Idx.norm2]; rfl)).trans ?_
  rw [show constant (F := Ideal) S1024x2048 .f32 0x00000000#32 (ix2 i j) = 0 from Ideal.ofBits_zero_f32, zero_add]
  refine Finset.sum_congr rfl fun k _ => congrArg (· * _) ?_
  rw [shapeCast_dropUnit_apply]
  exact congrArg v0 (by funext b; match b with | ⟨0, _⟩ => rfl | ⟨1, _⟩ => rfl | ⟨2, _⟩ => rfl)

variable (m : (ℓ : Loc nD τ sig) → Buf (Elt Ideal) ℓ) (c : Dev nD)

/-- The block of window 0 at a grid point. -/
theorem idx0 : ∀ t : Fin cfg0.N, win0_0.index t = ![t.val, 0, 0] := (by decide +kernel : ∀ t : Fin grid0.N, _)
/-- The block of window 1 at a grid point. -/
theorem idx1 : ∀ t : Fin cfg0.N, win0_1.index t = ![0, 0] := (by decide +kernel : ∀ t : Fin grid0.N, _)
/-- The block of window 2 at a grid point. -/
theorem idx2 : ∀ t : Fin cfg0.N, win0_2.index t = ![t.val, 0] := (by decide +kernel : ∀ t : Fin grid0.N, _)

/-- The number of grid points. -/
theorem t_lt (t : Fin cfg0.N) : t.val < 4 := by have := t.isLt; have h : cfg0.N = 4 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The columns of the first array that a grid point multiplies. -/
theorem iblk0 (t : Fin cfg0.N) (k : Fin 2048) (i : Fin 1024) :
    (iblk m c 0 t : S1x2048x1024.Idx → EReal) (ix3 0 k i) = m ((c : Thread nD τ).loc main_arg0) (ix3 ⟨(1024 * t.val + i.val) / 1024, by have := t_lt t; omega⟩ k ⟨(1024 * t.val + i.val) % 1024, by omega⟩) := by
  have := t_lt t
  blk_simp [iblk]
  exact congrArg (m ((c : Thread nD τ).loc main_arg0)) (by blk_ext [idx0])

/-- The second array, which every grid point multiplies whole. -/
theorem iblk1 (t : Fin cfg0.N) (k j : Fin 2048) :
    (iblk m c 1 t : S2048x2048.Idx → EReal) (ix2 k j) = m ((c : Thread nD τ).loc main_arg1) (ix2 k j) := by
  blk_simp [iblk]
  exact congrArg (m ((c : Thread nD τ).loc main_arg1)) (by blk_ext [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 1024) (j : Fin 2048), y = ix2 i j := ⟨y 0, y 1, eq_ix2 y⟩
  have e0 : ((win0_2.blk t).view.emb (ix2 i j) : S4096x2048.Idx) = ix2 ⟨1024 * t.val + i.val, by have := t_lt t; omega⟩ j := by
    blk_ext [idx2]
  blk_simp
  rw [after0_2, out2]
  refine (pay1_apply _ _ i j).trans (Eq.trans ?_ (congrArg (R _ _) e0).symm)
  exact Finset.sum_congr rfl fun k _ => congrArg₂ _ (iblk0 m c t k i) (iblk1 m c t k j)

/-- Part 0 of the array. -/
theorem part0 (x : S4x2048x1024.Idx → EReal) (s : Fin 2048) (q : Fin 1024) : Cert.DwOddRefIdeal.Read.val_main_v1 (F := Ideal) x (ix2 s q) = x (ix3 0 s q) := by
  rw [Cert.DwOddRefIdeal.Read.val_main_v1_apply, Cert.DwOddRefIdeal.Read.val_main_v0_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 1 of the array. -/
theorem part1 (x : S4x2048x1024.Idx → EReal) (s : Fin 2048) (q : Fin 1024) : Cert.DwOddRefIdeal.Read.val_main_v3 (F := Ideal) x (ix2 s q) = x (ix3 1 s q) := by
  rw [Cert.DwOddRefIdeal.Read.val_main_v3_apply, Cert.DwOddRefIdeal.Read.val_main_v2_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 2 of the array. -/
theorem part2 (x : S4x2048x1024.Idx → EReal) (s : Fin 2048) (q : Fin 1024) : Cert.DwOddRefIdeal.Read.val_main_v5 (F := Ideal) x (ix2 s q) = x (ix3 2 s q) := by
  rw [Cert.DwOddRefIdeal.Read.val_main_v5_apply, Cert.DwOddRefIdeal.Read.val_main_v4_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 3 of the array. -/
theorem part3 (x : S4x2048x1024.Idx → EReal) (s : Fin 2048) (q : Fin 1024) : Cert.DwOddRefIdeal.Read.val_main_v7 (F := Ideal) x (ix2 s q) = x (ix3 3 s q) := by
  rw [Cert.DwOddRefIdeal.Read.val_main_v7_apply, Cert.DwOddRefIdeal.Read.val_main_v6_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- The four parts of the incoming gradient side by side. -/
theorem parts_apply (x : S4x2048x1024.Idx → EReal) (s : Fin 2048) (j : Fin 4096) :
    Cert.DwOddRefIdeal.Read.val_main_v8 (F := Ideal) x (ix2 s j) = x (ix3 ⟨j.val / 1024, by omega⟩ s ⟨j.val % 1024, by omega⟩) := by
  unfold Cert.DwOddRefIdeal.Read.val_main_v8
  exact cat4 ![Cert.DwOddRefIdeal.Read.val_main_v1 (F := Ideal) x, Cert.DwOddRefIdeal.Read.val_main_v3 (F := Ideal) x, Cert.DwOddRefIdeal.Read.val_main_v5 (F := Ideal) x, Cert.DwOddRefIdeal.Read.val_main_v7 (F := Ideal) x] x (by
    intro p s q
    match p with
    | ⟨0, _⟩ => exact part0 x s q
    | ⟨1, _⟩ => exact part1 x s q
    | ⟨2, _⟩ => exact part2 x s q
    | ⟨3, _⟩ => exact part3 x s q) _ s j

/-- The reference's gradient. -/
theorem ref_eq (x : S4x2048x1024.Idx → EReal) (y : S2048x2048.Idx → EReal) :
    Cert.DwOddRefIdeal.Read.val_main_v17 (F := Ideal) x y = R x y := by
  funext i
  rw [Cert.DwOddRefIdeal.Read.val_main_v17_apply]
  show Cert.DwOddRefIdeal.Read.val_main_v16 (F := Ideal) x y i = _
  rw [Cert.DwOddRefIdeal.Read.val_main_v16_apply, Cert.DwOddRefIdeal.Read.val_main_v14_apply, Cert.DwOddRefIdeal.Read.val_main_v13_apply]
  refine Finset.sum_congr rfl fun k _ => congrArg₂ _ ?_ (congrArg y (by funext b; match b with | ⟨0, _⟩ => rfl | ⟨1, _⟩ => rfl))
  exact (congrArg (Cert.DwOddRefIdeal.Read.val_main_v8 (F := Ideal) x) (by funext b; match b with | ⟨0, _⟩ => rfl | ⟨1, _⟩ => rfl)).trans (parts_apply x k (i 0))

/-- The kernel's program ends with the transposed gradient of the weight. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.DwOddIdeal.Value.run_blocks m ρ)

/-- The reference's program ends with the transposed gradient of the weight. -/
theorem ref_run (m' : (ℓ : Loc Cert.DwOddRefIdeal.nD Cert.DwOddRefIdeal.τ Cert.DwOddRefIdeal.sig) → Buf (Elt Ideal) ℓ) (ρ : Dev Cert.DwOddRefIdeal.nD → PrngReg) :
    θ_run (Cert.DwOddRefIdeal.defs (F := Ideal)) (onTc (τ := Cert.DwOddRefIdeal.τ) (Cert.DwOddRefIdeal.main (F := Ideal))) ⟨m', fun _ => 0, ρ⟩ (fun r => ∀ c : Dev Cert.DwOddRefIdeal.nD,
      r.2.mem ((c.tc : Thread Cert.DwOddRefIdeal.nD Cert.DwOddRefIdeal.τ).loc Cert.DwOddRefIdeal.main_v17) = R (m' ((c.tc : Thread Cert.DwOddRefIdeal.nD Cert.DwOddRefIdeal.τ).loc Cert.DwOddRefIdeal.main_arg0)) (m' ((c.tc : Thread Cert.DwOddRefIdeal.nD Cert.DwOddRefIdeal.τ).loc Cert.DwOddRefIdeal.main_arg1))
      ∧ r.2.mem ((c.tc : Thread Cert.DwOddRefIdeal.nD Cert.DwOddRefIdeal.τ).loc Cert.DwOddRefIdeal.main_arg0) = m' ((c.tc : Thread Cert.DwOddRefIdeal.nD Cert.DwOddRefIdeal.τ).loc Cert.DwOddRefIdeal.main_arg0)
      ∧ r.2.mem ((c.tc : Thread Cert.DwOddRefIdeal.nD Cert.DwOddRefIdeal.τ).loc Cert.DwOddRefIdeal.main_arg1) = m' ((c.tc : Thread Cert.DwOddRefIdeal.nD Cert.DwOddRefIdeal.τ).loc Cert.DwOddRefIdeal.main_arg1)) :=
  (θ_run _ _ _).mono (fun r h c => ⟨((h c).1.trans (Cert.DwOddRefIdeal.Read.val_main_v17_eq _ _)).trans (ref_eq _ _), (h c).2⟩)
    (Cert.DwOddRefIdeal.Value.run (F := Ideal) m' ρ)

end Cert.DwOddClaim

end
-- ==== Proof.DwEven.lean ====
/- The gradient of the even layer's projection weight: the kernel's program and the reference's end at the same array. -/
module

public import proofs.«01_k».proof.Proof.Gen.DwEvenIdeal.Value
public import proofs.«01_k».proof.Proof.Gen.DwEvenRefIdeal.Run
public import proofs.«01_k».proof.Proof.Gen.DwEvenRefIdeal.Read
public import proofs.«01_k».proof.Proof.Products
public import Idealize.ShloMosaic.Lib.Pointwise
public import Idealize.ShloMosaic.Lib.Pipeline.ValueKit

@[expose] public section

set_option maxRecDepth 16384

noncomputable section

namespace Cert.DwEvenClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DwEvenIdeal Cert.DwEvenIdeal.Gen
open scoped BigOperators

/-- The transposed gradient of the weight: the two arrays multiplied over the sequence. -/
def R (x : S2048x5376.Idx → EReal) (y : S2048x2048.Idx → EReal) : S5376x2048.Idx → EReal :=
  fun i => ∑ k : Fin 2048, x (ix2 k (i 0)) * y (ix2 k (i 1))

/-- One block of the product. -/
theorem pay1_apply (v0 : Vec Ideal S2048x384 .bf16) (v1 : Vec Ideal S2048x2048 .bf16) (i : Fin 384) (j : Fin 2048) :
    k0_pay1 (F := Ideal) v0 v1 (ix2 i j) = ∑ k : Fin 2048, (v0 (ix2 k i) : EReal) * v1 (ix2 k j) := by
  unfold k0_pay1
  rw [truncf_apply]
  refine (Ideal.matmul_apply₁_of _ (a := 0) rfl (K := 2048) rfl _ _ _ _ (fun k => ix2 k i) (fun k => ix2 k j)
    (fun k => by rw [Shape.Idx.norm2]; rfl) (fun k => by rw [Shape.Idx.norm2]; rfl)).trans ?_
  rw [show constant (F := Ideal) S384x2048 .f32 0x00000000#32 (ix2 i j) = 0 from Ideal.ofBits_zero_f32, zero_add]

variable (m : (ℓ : Loc nD τ sig) → Buf (Elt Ideal) ℓ) (c : Dev nD)

/-- The block of window 0 at a grid point. -/
theorem idx0 : ∀ t : Fin cfg0.N, win0_0.index t = ![0, t.val] := (by decide +kernel : ∀ t : Fin grid0.N, _)
/-- The block of window 1 at a grid point. -/
theorem idx1 : ∀ t : Fin cfg0.N, win0_1.index t = ![0, 0] := (by decide +kernel : ∀ t : Fin grid0.N, _)
/-- The block of window 2 at a grid point. -/
theorem idx2 : ∀ t : Fin cfg0.N, win0_2.index t = ![t.val, 0] := (by decide +kernel : ∀ t : Fin grid0.N, _)

/-- The number of grid points. -/
theorem t_lt (t : Fin cfg0.N) : t.val < 14 := by have := t.isLt; have h : cfg0.N = 14 := N_0; omega

/-- What a grid point leaves in the output window. -/
theorem out2 (t : Fin cfg0.N) : out0_2 (F := Ideal) (iblk m c 0 t) (iblk m c 1 t) = k0_pay1 (iblk m c 0 t) (iblk m c 1 t) := by
  frame_out

/-- The columns of the first array that a grid point multiplies. -/
theorem iblk0 (t : Fin cfg0.N) (k : Fin 2048) (i : Fin 384) :
    (iblk m c 0 t : S2048x384.Idx → EReal) (ix2 k i) = m ((c : Thread nD τ).loc main_arg0) (ix2 k ⟨384 * t.val + i.val, by have := t_lt t; omega⟩) := by
  have := t_lt t
  blk_simp [iblk]
  exact congrArg (m ((c : Thread nD τ).loc main_arg0)) (by blk_ext [idx0])

/-- The second array, which every grid point multiplies whole. -/
theorem iblk1 (t : Fin cfg0.N) (k j : Fin 2048) :
    (iblk m c 1 t : S2048x2048.Idx → EReal) (ix2 k j) = m ((c : Thread nD τ).loc main_arg1) (ix2 k j) := by
  blk_simp [iblk]
  exact congrArg (m ((c : Thread nD τ).loc main_arg1)) (by blk_ext [idx1])

/-- The output array after the call. -/
theorem final2 : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 384) (j : Fin 2048), y = ix2 i j := ⟨y 0, y 1, eq_ix2 y⟩
  have e0 : ((win0_2.blk t).view.emb (ix2 i j) : S5376x2048.Idx) = ix2 ⟨384 * t.val + i.val, by have := t_lt t; omega⟩ j := by
    blk_ext [idx2]
  blk_simp
  rw [after0_2, out2]
  refine (pay1_apply _ _ i j).trans (Eq.trans ?_ (congrArg (R _ _) e0).symm)
  exact Finset.sum_congr rfl fun k _ => congrArg₂ _ (iblk0 m c t k i) (iblk1 m c t k j)

/-- The reference's gradient. -/
theorem ref_eq (x : S2048x5376.Idx → EReal) (y : S2048x2048.Idx → EReal) :
    Cert.DwEvenRefIdeal.Read.val_main_v8 (F := Ideal) x y = R x y := by
  funext i
  rw [Cert.DwEvenRefIdeal.Read.val_main_v8_apply]
  show Cert.DwEvenRefIdeal.Read.val_main_v7 (F := Ideal) x y i = _
  rw [Cert.DwEvenRefIdeal.Read.val_main_v7_apply, Cert.DwEvenRefIdeal.Read.val_main_v5_apply, Cert.DwEvenRefIdeal.Read.val_main_v4_apply]
  exact Finset.sum_congr rfl fun k _ => congrArg₂ _ (congrArg x (by funext b; match b with | ⟨0, _⟩ => rfl | ⟨1, _⟩ => rfl)) (congrArg y (by funext b; match b with | ⟨0, _⟩ => rfl | ⟨1, _⟩ => rfl))

/-- The kernel's program ends with the transposed gradient of the weight. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (final2 m c), (h c).2⟩) (Cert.DwEvenIdeal.Value.run_blocks m ρ)

/-- The reference's program ends with the transposed gradient of the weight. -/
theorem ref_run (m' : (ℓ : Loc Cert.DwEvenRefIdeal.nD Cert.DwEvenRefIdeal.τ Cert.DwEvenRefIdeal.sig) → Buf (Elt Ideal) ℓ) (ρ : Dev Cert.DwEvenRefIdeal.nD → PrngReg) :
    θ_run (Cert.DwEvenRefIdeal.defs (F := Ideal)) (onTc (τ := Cert.DwEvenRefIdeal.τ) (Cert.DwEvenRefIdeal.main (F := Ideal))) ⟨m', fun _ => 0, ρ⟩ (fun r => ∀ c : Dev Cert.DwEvenRefIdeal.nD,
      r.2.mem ((c.tc : Thread Cert.DwEvenRefIdeal.nD Cert.DwEvenRefIdeal.τ).loc Cert.DwEvenRefIdeal.main_v8) = R (m' ((c.tc : Thread Cert.DwEvenRefIdeal.nD Cert.DwEvenRefIdeal.τ).loc Cert.DwEvenRefIdeal.main_arg0)) (m' ((c.tc : Thread Cert.DwEvenRefIdeal.nD Cert.DwEvenRefIdeal.τ).loc Cert.DwEvenRefIdeal.main_arg1))
      ∧ r.2.mem ((c.tc : Thread Cert.DwEvenRefIdeal.nD Cert.DwEvenRefIdeal.τ).loc Cert.DwEvenRefIdeal.main_arg0) = m' ((c.tc : Thread Cert.DwEvenRefIdeal.nD Cert.DwEvenRefIdeal.τ).loc Cert.DwEvenRefIdeal.main_arg0)
      ∧ r.2.mem ((c.tc : Thread Cert.DwEvenRefIdeal.nD Cert.DwEvenRefIdeal.τ).loc Cert.DwEvenRefIdeal.main_arg1) = m' ((c.tc : Thread Cert.DwEvenRefIdeal.nD Cert.DwEvenRefIdeal.τ).loc Cert.DwEvenRefIdeal.main_arg1)) :=
  (θ_run _ _ _).mono (fun r h c => ⟨((h c).1.trans (Cert.DwEvenRefIdeal.Read.val_main_v8_eq _ _)).trans (ref_eq _ _), (h c).2⟩)
    (Cert.DwEvenRefIdeal.Value.run (F := Ideal) m' ρ)

end Cert.DwEvenClaim

end
-- ==== Proof.DxOdd.lean ====
/- The gradient of the odd layer's input: the kernel's program and the reference's end at the same array. -/
module

public import proofs.«01_k».proof.Proof.Gen.DxOddIdeal.Value
public import proofs.«01_k».proof.Proof.Gen.DxOddRefIdeal.Run
public import proofs.«01_k».proof.Proof.Gen.DxOddRefIdeal.Read
public import proofs.«01_k».proof.Proof.Products
public import Idealize.ShloMosaic.Lib.Pointwise
public import Idealize.ShloMosaic.Lib.Pipeline.ValueKit

@[expose] public section

set_option maxRecDepth 16384

noncomputable section

namespace Cert.DxOddClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DxOddIdeal Cert.DxOddIdeal.Gen
open scoped BigOperators

/-- The scale of the residual path. -/
def scale : EReal := Ideal.ofBits .f32 0x3FD744FD#32

/-- The gradient of the layer's input: the scaled gradient of the residual sum, and the projection's gradient times the transposed weight. -/
def R (x : S4x2048x1024.Idx → EReal) (w : S2048x4096.Idx → EReal) (z : S2048x2048.Idx → EReal) : S2048x2048.Idx → EReal :=
  fun i => scale * z i + ∑ k : Fin 4096, x (ix3 (n0 := 4) (n1 := 2048) (n2 := 1024) ⟨k.val / 1024, by omega⟩ (i 0) ⟨k.val % 1024, by omega⟩) * w (ix2 (i 1) k)

/-- One part's product. -/
theorem part_apply (v0 : Vec Ideal S1x512x1024 .bf16) (v2 : Vec Ideal S1024x1024 .bf16) (i : Fin 512) (j : Fin 1024) :
    matmul (F := Ideal) (φ₁ := .bf16) (φ₂ := .bf16) dot_S512x1024_S1024x1024_S512x1024_1_0_0_1_n_n none (shapeCast S512x1024 v0 shapeCasts_S1x512x1024_S512x1024)
        (shapeCast S1024x1024 v2 shapeCasts_S1024x1024_S1024x1024) (constant S512x1024 .f32 0x00000000#32) (ix2 i j)
      = ∑ q : Fin 1024, (v0 (ix3 0 i q) : EReal) * v2 (ix2 q j) := by
  refine (Ideal.matmul_apply₁_of _ (a := 1) rfl (K := 1024) rfl _ _ _ _ (fun k => ix2 i k) (fun k => ix2 k j)
    (fun k => by rw [Shape.Idx.norm2]; rfl) (fun k => by rw [Shape.Idx.norm2]; rfl)).trans ?_
  rw [show constant (F := Ideal) S512x1024 .f32 0x00000000#32 (ix2 i j) = 0 from Ideal.ofBits_zero_f32, zero_add]
  refine Finset.sum_congr rfl fun k _ => ?_
  rw [shapeCast_self, shapeCast_dropUnit_apply]
  exact congrArg (· * _) (congrArg v0 (by funext b; match b with | ⟨0, _⟩ => rfl | ⟨1, _⟩ => rfl | ⟨2, _⟩ => rfl))

/-- One block of the gradient. -/
theorem pay1_apply (v0 : Vec Ideal S1x512x1024 .bf16) (v2 : Vec Ideal S1024x1024 .bf16) (v5 : Vec Ideal S1x512x1024 .bf16) (v7 : Vec Ideal S1024x1024 .bf16) (v11 : Vec Ideal S1x512x1024 .bf16) (v13 : Vec Ideal S1024x1024 .bf16) (v17 : Vec Ideal S1x512x1024 .bf16) (v19 : Vec Ideal S1024x1024 .bf16) (v23 : Vec Ideal S512x1024 .f32) (i : Fin 512) (j : Fin 1024) :
    k0_pay1 (F := Ideal) v0 v2 v5 v7 v11 v13 v17 v19 v23 (ix2 i j)
      = scale * (v23 (ix2 i j) : EReal) + (∑ q : Fin 1024, (v0 (ix3 0 i q) : EReal) * v2 (ix2 q j) + ∑ q : Fin 1024, (v5 (ix3 0 i q) : EReal) * v7 (ix2 q j)
        + ∑ q : Fin 1024, (v11 (ix3 0 i q) : EReal) * v13 (ix2 q j) + ∑ q : Fin 1024, (v17 (ix3 0 i q) : EReal) * v19 (ix2 q j)) := by
  unfold k0_pay1
  rw [addf_apply, addf_apply, addf_apply, addf_apply, mulf_apply]
  exact congrArg (scale * v23 (ix2 i j) + ·) (congrArg₂ _ (congrArg₂ _ (congrArg₂ _ (part_apply v0 v2 i j) (part_apply v5 v7 i j)) (part_apply v11 v13 i j))
    (part_apply v17 v19 i j))

variable (m : (ℓ : Loc nD τ sig) → Buf (Elt Ideal) ℓ) (c : Dev nD)

/-- The weight as the call takes it: transposed. -/
theorem V_w : V m c main_v1 = truncf (F := Ideal) .bf16 (transpose S4096x2048 [1, 0] (m ((c : Thread nD τ).loc main_arg1))
    transposes_S2048x4096_S4096x2048_1_0) bitsLt_bf16_f32 := rfl

/-- The block of window 0 at a grid point. -/
theorem idx0 : ∀ t : Fin cfg0.N, win0_0.index t = ![0, t.val % 4, 0] := (by decide +kernel : ∀ t : Fin grid0.N, _)
/-- The block of window 1 at a grid point. -/
theorem idx1 : ∀ t : Fin cfg0.N, win0_1.index t = ![0, t.val / 4] := (by decide +kernel : ∀ t : Fin grid0.N, _)
/-- The block of window 2 at a grid point. -/
theorem idx2 : ∀ t : Fin cfg0.N, win0_2.index t = ![t.val % 4, t.val / 4] := (by decide +kernel : ∀ t : Fin grid0.N, _)
/-- The block of window 3 at a grid point. -/
theorem idx3 : ∀ t : Fin cfg0.N, win0_3.index t = ![t.val % 4, t.val / 4] := (by decide +kernel : ∀ t : Fin grid0.N, _)

/-- The number of grid points. -/
theorem t_lt (t : Fin cfg0.N) : t.val < 8 := by have := t.isLt; have h : cfg0.N = 8 := N_0; omega

/-- The rows of the projection's gradient that a grid point multiplies. -/
theorem iblk0 (t : Fin cfg0.N) (p : Fin 4) (i : Fin 512) (q : Fin 1024) :
    (iblk m c 0 t : S4x512x1024.Idx → EReal) (ix3 p i q) = m ((c : Thread nD τ).loc main_arg0) (ix3 p ⟨512 * (t.val % 4) + i.val, by omega⟩ q) := by
  blk_simp [iblk]
  exact congrArg (m ((c : Thread nD τ).loc main_arg0)) (by blk_ext [idx0])

/-- What a grid point leaves in the output window. -/
theorem out3 (t : Fin cfg0.N) : out0_3 (F := Ideal) (iblk m c 0 t) (iblk m c 1 t) (iblk m c 2 t)
    = k0_pay1 (View.ld (iblk m c 0 t) r0_0) (View.ld (iblk m c 1 t) r0_1) (View.ld (iblk m c 0 t) r0_2) (View.ld (iblk m c 1 t) r0_3)
      (View.ld (iblk m c 0 t) r0_4) (View.ld (iblk m c 1 t) r0_5) (View.ld (iblk m c 0 t) r0_6) (View.ld (iblk m c 1 t) r0_7) (iblk m c 2 t) := by
  frame_out
  rfl

/-- The columns of the transposed weight that a grid point multiplies. -/
theorem iblk1 (t : Fin cfg0.N) (k : Fin 4096) (j : Fin 1024) :
    (iblk m c 1 t : S4096x1024.Idx → EReal) (ix2 k j) = m ((c : Thread nD τ).loc main_arg1) (ix2 ⟨1024 * (t.val / 4) + j.val, by have := t_lt t; omega⟩ k) := by
  blk_simp [iblk]
  show V m c main_v1 _ = _
  rw [V_w]
  exact transpose_apply _ _ _ _ (ix2 ⟨1024 * (t.val / 4) + j.val, by have := t_lt t; omega⟩ k) (by
    intro b
    match b with
    | ⟨0, _⟩ => show k.val = ((win0_1.blk t).view.emb (ix2 k j) 0 : ℕ); blk_simp [idx1]
    | ⟨1, _⟩ => show 1024 * (t.val / 4) + j.val = ((win0_1.blk t).view.emb (ix2 k j) 1 : ℕ); blk_simp [idx1]; omega)

/-- The block of the residual's gradient at a grid point. -/
theorem iblk2 (t : Fin cfg0.N) (i : Fin 512) (j : Fin 1024) :
    (iblk m c 2 t : S512x1024.Idx → EReal) (ix2 i j) = m ((c : Thread nD τ).loc main_arg2) (ix2 ⟨512 * (t.val % 4) + i.val, by omega⟩ ⟨1024 * (t.val / 4) + j.val, by have := t_lt t; omega⟩) := by
  blk_simp [iblk]
  exact congrArg (m ((c : Thread nD τ).loc main_arg2)) (by blk_ext [idx2])

/-- The output array after the call. -/
theorem final3 : (dats m 0 c).arrAt 3 cfg0.N
    = R (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i, j, rfl⟩ : ∃ (i : Fin 512) (j : Fin 1024), y = ix2 i j := ⟨y 0, y 1, eq_ix2 y⟩
  have e0 : ((win0_3.blk t).view.emb (ix2 i j) : S2048x2048.Idx) = ix2 ⟨512 * (t.val % 4) + i.val, by omega⟩ ⟨1024 * (t.val / 4) + j.val, by have := t_lt t; omega⟩ := by
    blk_ext [idx3]
  blk_simp
  rw [after0_3, out3]
  refine (pay1_apply _ _ _ _ _ _ _ _ _ i j).trans (Eq.trans ?_ (congrArg (R _ _ _) e0).symm)
  unfold R
  rw [sum_four]
  refine congrArg₂ _ (congrArg (scale * ·) (iblk2 m c t i j)) (congrArg₂ _ (congrArg₂ _ (congrArg₂ _ ?_ ?_) ?_) ?_)
  · refine Finset.sum_congr rfl fun q _ => congrArg₂ _ (Eq.trans ?_ ((iblk0 m c t 0 i q).trans ?_)) (Eq.trans ?_ (iblk1 m c t ⟨q.val, by omega⟩ j))
    · exact congrArg (iblk m c 0 t : S4x512x1024.Idx → EReal) (by
        funext b
        match b with
        | ⟨0, _⟩ => exact Fin.ext (by show 0 + 1 * 0 = 0; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 0 = (q.val) / 1024; omega)
        | ⟨1, _⟩ => rfl
        | ⟨2, _⟩ => exact Fin.ext (by show q.val = (q.val) % 1024; omega))
    · exact congrArg (iblk m c 1 t : S4096x1024.Idx → EReal) (by
        funext b
        match b with
        | ⟨0, _⟩ => exact Fin.ext (by show 0 + 1 * q.val = q.val; omega)
        | ⟨1, _⟩ => exact Fin.ext (by show 0 + 1 * j.val = j.val; omega))
  · refine Finset.sum_congr rfl fun q _ => congrArg₂ _ (Eq.trans ?_ ((iblk0 m c t 1 i q).trans ?_)) (Eq.trans ?_ (iblk1 m c t ⟨1024 + q.val, by omega⟩ j))
    · exact congrArg (iblk m c 0 t : S4x512x1024.Idx → EReal) (by
        funext b
        match b with
        | ⟨0, _⟩ => exact Fin.ext (by show 1 + 1 * 0 = 1; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 1 = (1024 + q.val) / 1024; omega)
        | ⟨1, _⟩ => rfl
        | ⟨2, _⟩ => exact Fin.ext (by show q.val = (1024 + q.val) % 1024; omega))
    · exact congrArg (iblk m c 1 t : S4096x1024.Idx → EReal) (by
        funext b
        match b with
        | ⟨0, _⟩ => exact Fin.ext (by show 1024 + 1 * q.val = 1024 + q.val; omega)
        | ⟨1, _⟩ => exact Fin.ext (by show 0 + 1 * j.val = j.val; omega))
  · refine Finset.sum_congr rfl fun q _ => congrArg₂ _ (Eq.trans ?_ ((iblk0 m c t 2 i q).trans ?_)) (Eq.trans ?_ (iblk1 m c t ⟨2048 + q.val, by omega⟩ j))
    · exact congrArg (iblk m c 0 t : S4x512x1024.Idx → EReal) (by
        funext b
        match b with
        | ⟨0, _⟩ => exact Fin.ext (by show 2 + 1 * 0 = 2; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 2 = (2048 + q.val) / 1024; omega)
        | ⟨1, _⟩ => rfl
        | ⟨2, _⟩ => exact Fin.ext (by show q.val = (2048 + q.val) % 1024; omega))
    · exact congrArg (iblk m c 1 t : S4096x1024.Idx → EReal) (by
        funext b
        match b with
        | ⟨0, _⟩ => exact Fin.ext (by show 2048 + 1 * q.val = 2048 + q.val; omega)
        | ⟨1, _⟩ => exact Fin.ext (by show 0 + 1 * j.val = j.val; omega))
  · refine Finset.sum_congr rfl fun q _ => congrArg₂ _ (Eq.trans ?_ ((iblk0 m c t 3 i q).trans ?_)) (Eq.trans ?_ (iblk1 m c t ⟨3072 + q.val, by omega⟩ j))
    · exact congrArg (iblk m c 0 t : S4x512x1024.Idx → EReal) (by
        funext b
        match b with
        | ⟨0, _⟩ => exact Fin.ext (by show 3 + 1 * 0 = 3; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 3 = (3072 + q.val) / 1024; omega)
        | ⟨1, _⟩ => rfl
        | ⟨2, _⟩ => exact Fin.ext (by show q.val = (3072 + q.val) % 1024; omega))
    · exact congrArg (iblk m c 1 t : S4096x1024.Idx → EReal) (by
        funext b
        match b with
        | ⟨0, _⟩ => exact Fin.ext (by show 3072 + 1 * q.val = 3072 + q.val; omega)
        | ⟨1, _⟩ => exact Fin.ext (by show 0 + 1 * j.val = j.val; omega))

/-- Part 0 of the array. -/
theorem part0 (x : S4x2048x1024.Idx → EReal) (s : Fin 2048) (q : Fin 1024) : Cert.DxOddRefIdeal.Read.val_main_v1 (F := Ideal) x (ix2 s q) = x (ix3 0 s q) := by
  rw [Cert.DxOddRefIdeal.Read.val_main_v1_apply, Cert.DxOddRefIdeal.Read.val_main_v0_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 1 of the array. -/
theorem part1 (x : S4x2048x1024.Idx → EReal) (s : Fin 2048) (q : Fin 1024) : Cert.DxOddRefIdeal.Read.val_main_v3 (F := Ideal) x (ix2 s q) = x (ix3 1 s q) := by
  rw [Cert.DxOddRefIdeal.Read.val_main_v3_apply, Cert.DxOddRefIdeal.Read.val_main_v2_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 2 of the array. -/
theorem part2 (x : S4x2048x1024.Idx → EReal) (s : Fin 2048) (q : Fin 1024) : Cert.DxOddRefIdeal.Read.val_main_v5 (F := Ideal) x (ix2 s q) = x (ix3 2 s q) := by
  rw [Cert.DxOddRefIdeal.Read.val_main_v5_apply, Cert.DxOddRefIdeal.Read.val_main_v4_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 3 of the array. -/
theorem part3 (x : S4x2048x1024.Idx → EReal) (s : Fin 2048) (q : Fin 1024) : Cert.DxOddRefIdeal.Read.val_main_v7 (F := Ideal) x (ix2 s q) = x (ix3 3 s q) := by
  rw [Cert.DxOddRefIdeal.Read.val_main_v7_apply, Cert.DxOddRefIdeal.Read.val_main_v6_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- The four parts of the incoming gradient side by side. -/
theorem parts_apply (x : S4x2048x1024.Idx → EReal) (s : Fin 2048) (j : Fin 4096) :
    Cert.DxOddRefIdeal.Read.val_main_v8 (F := Ideal) x (ix2 s j) = x (ix3 ⟨j.val / 1024, by omega⟩ s ⟨j.val % 1024, by omega⟩) := by
  unfold Cert.DxOddRefIdeal.Read.val_main_v8
  exact cat4 ![Cert.DxOddRefIdeal.Read.val_main_v1 (F := Ideal) x, Cert.DxOddRefIdeal.Read.val_main_v3 (F := Ideal) x, Cert.DxOddRefIdeal.Read.val_main_v5 (F := Ideal) x, Cert.DxOddRefIdeal.Read.val_main_v7 (F := Ideal) x] x (by
    intro p s q
    match p with
    | ⟨0, _⟩ => exact part0 x s q
    | ⟨1, _⟩ => exact part1 x s q
    | ⟨2, _⟩ => exact part2 x s q
    | ⟨3, _⟩ => exact part3 x s q) _ s j

/-- The reference's gradient. -/
theorem ref_eq (x : S4x2048x1024.Idx → EReal) (w : S2048x4096.Idx → EReal) (z : S2048x2048.Idx → EReal) :
    Cert.DxOddRefIdeal.Read.val_main_v19 (F := Ideal) x w z = R x w z := by
  funext i
  rw [Cert.DxOddRefIdeal.Read.val_main_v19_apply]
  refine (add_comm _ _).trans (congrArg₂ _ ?_ ?_)
  · rw [Cert.DxOddRefIdeal.Read.val_main_v18_apply, Cert.DxOddRefIdeal.Read.val_main_v17_apply]
    rfl
  · rw [Cert.DxOddRefIdeal.Read.val_main_v16_apply]
    exact Finset.sum_congr rfl fun k _ => congrArg₂ _ ((congrArg (Cert.DxOddRefIdeal.Read.val_main_v8 (F := Ideal) x) (by funext b; match b with | ⟨0, _⟩ => rfl | ⟨1, _⟩ => rfl)).trans (parts_apply x (i 0) k)) (congrArg w (by funext b; match b with | ⟨0, _⟩ => rfl | ⟨1, _⟩ => rfl))

/-- The kernel's program ends with the gradient of the layer's input. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = R (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans (final3 m c), (h c).2⟩) (Cert.DxOddIdeal.Value.run_blocks m ρ)

/-- The reference's program ends with the gradient of the layer's input. -/
theorem ref_run (m' : (ℓ : Loc Cert.DxOddRefIdeal.nD Cert.DxOddRefIdeal.τ Cert.DxOddRefIdeal.sig) → Buf (Elt Ideal) ℓ) (ρ : Dev Cert.DxOddRefIdeal.nD → PrngReg) :
    θ_run (Cert.DxOddRefIdeal.defs (F := Ideal)) (onTc (τ := Cert.DxOddRefIdeal.τ) (Cert.DxOddRefIdeal.main (F := Ideal))) ⟨m', fun _ => 0, ρ⟩ (fun r => ∀ c : Dev Cert.DxOddRefIdeal.nD,
      r.2.mem ((c.tc : Thread Cert.DxOddRefIdeal.nD Cert.DxOddRefIdeal.τ).loc Cert.DxOddRefIdeal.main_v19) = R (m' ((c.tc : Thread Cert.DxOddRefIdeal.nD Cert.DxOddRefIdeal.τ).loc Cert.DxOddRefIdeal.main_arg0)) (m' ((c.tc : Thread Cert.DxOddRefIdeal.nD Cert.DxOddRefIdeal.τ).loc Cert.DxOddRefIdeal.main_arg1)) (m' ((c.tc : Thread Cert.DxOddRefIdeal.nD Cert.DxOddRefIdeal.τ).loc Cert.DxOddRefIdeal.main_arg2))
      ∧ r.2.mem ((c.tc : Thread Cert.DxOddRefIdeal.nD Cert.DxOddRefIdeal.τ).loc Cert.DxOddRefIdeal.main_arg0) = m' ((c.tc : Thread Cert.DxOddRefIdeal.nD Cert.DxOddRefIdeal.τ).loc Cert.DxOddRefIdeal.main_arg0)
      ∧ r.2.mem ((c.tc : Thread Cert.DxOddRefIdeal.nD Cert.DxOddRefIdeal.τ).loc Cert.DxOddRefIdeal.main_arg1) = m' ((c.tc : Thread Cert.DxOddRefIdeal.nD Cert.DxOddRefIdeal.τ).loc Cert.DxOddRefIdeal.main_arg1)
      ∧ r.2.mem ((c.tc : Thread Cert.DxOddRefIdeal.nD Cert.DxOddRefIdeal.τ).loc Cert.DxOddRefIdeal.main_arg2) = m' ((c.tc : Thread Cert.DxOddRefIdeal.nD Cert.DxOddRefIdeal.τ).loc Cert.DxOddRefIdeal.main_arg2)) :=
  (θ_run _ _ _).mono (fun r h c => ⟨((h c).1.trans (Cert.DxOddRefIdeal.Read.val_main_v19_eq _ _ _)).trans (ref_eq _ _ _), (h c).2⟩)
    (Cert.DxOddRefIdeal.Value.run (F := Ideal) m' ρ)

end Cert.DxOddClaim

end
-- ==== Proof.DxEven.lean ====
/- The gradient of the even layer's input: the kernel's program and the reference's end at the same array. -/
module

public import proofs.«01_k».proof.Proof.Gen.DxEvenIdeal.Value
public import proofs.«01_k».proof.Proof.Gen.DxEvenRefIdeal.Run
public import proofs.«01_k».proof.Proof.Gen.DxEvenRefIdeal.Read
public import proofs.«01_k».proof.Proof.Products
public import Idealize.ShloMosaic.Lib.Pointwise
public import Idealize.ShloMosaic.Lib.Pipeline.ValueKit

@[expose] public section

set_option maxRecDepth 16384

noncomputable section

namespace Cert.DxEvenClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products
open Cert.DxEvenIdeal Cert.DxEvenIdeal.Gen
open scoped BigOperators

/-- The scale of the residual path. -/
def scale : EReal := Ideal.ofBits .f32 0x3FD744FD#32

/-- The gradient of the layer's input: the scaled gradient of the residual sum, and the projection's gradient times the transposed weight. -/
def R (x : S2048x5376.Idx → EReal) (w : S2048x5376.Idx → EReal) (z : S2048x2048.Idx → EReal) : S2048x2048.Idx → EReal :=
  fun i => scale * z i + ∑ k : Fin 5376, x (ix2 (i 0) k) * w (ix2 (i 1) k)

/-- One block of the gradient. -/
theorem pay1_apply (v0 : Vec Ideal S512x5376 .bf16) (v1 : Vec Ideal S5376x1024 .bf16) (v4 : Vec Ideal S512x1024 .f32) (i : Fin 512) (j : Fin 1024) :
    k0_pay1 (F := Ideal) v0 v1 v4 (ix2 i j) = scale * (v4 (ix2 i j) : EReal) + ∑ k : Fin 5376, (v0 (ix2 i k) : EReal) * v1 (ix2 k j) := by
  unfold k0_pay1
  rw [addf_apply, mulf_apply]
  refine congrArg (scale * v4 (ix2 i j) + ·) ?_
  refine (Ideal.matmul_apply₁_of _ (a := 1) rfl (K := 5376) rfl _ _ _ _ (fun k => ix2 i k) (fun k => ix2 k j)
    (fun k => by rw [Shape.Idx.norm2]; rfl) (fun k => by rw [Shape.Idx.norm2]; rfl)).trans ?_
  rw [show constant (F := Ideal) S512x1024 .f32 0x00000000#32 (ix2 i j) = 0 from Ideal.ofBits_zero_f32, zero_add]
  refine Finset.sum_congr rfl fun k _ => ?_
  rw [shapeCast_self]

variable (m : (ℓ : Loc nD τ sig) → Buf (Elt Ideal) ℓ) (c : Dev nD)

/-- The weight as the call takes it: transposed. -/
theorem V_w : V m c main_v1 = truncf (F := Ideal) .bf16 (transpose S5376x2048 [1, 0] (m ((c : Thread nD τ).loc main_arg1))
    transposes_S2048x5376_S5376x2048_1_0) bitsLt_bf16_f32 := rfl

/-- The block of window 0 at a grid point. -/
theorem idx0 : ∀ t : Fin cfg0.N, win0_0.index t = ![t.val % 4, 0] := (by decide +kernel : ∀ t : Fin grid0.N, _)
/-- The block of window 1 at a grid point. -/
theorem idx1 : ∀ t : Fin cfg0.N, win0_1.index t = ![0, t.val / 4] := (by decide +kernel : ∀ t : Fin grid0.N, _)
/-- The block of window 2 at a grid point. -/
theorem idx2 : ∀ t : Fin cfg0.N, win0_2.index t = ![t.val % 4, t.val / 4] := (by decide +kernel : ∀ t : Fin grid0.N, _)
/-- The block of window 3 at a grid point. -/
theorem idx3 : ∀ t : Fin cfg0.N, win0_3.index t = ![t.val % 4, t.val / 4] := (by decide +kernel : ∀ t : Fin grid0.N, _)

/-- The number of grid points. -/
theorem t_lt (t : Fin cfg0.N) : t.val < 8 := by have := t.isLt; have h : cfg0.N = 8 := N_0; omega

/-- The rows of the projection's gradient that a grid point multiplies. -/
theorem iblk0 (t : Fin cfg0.N) (i : Fin 512) (k : Fin 5376) :
    (iblk m c 0 t : S512x5376.Idx → EReal) (ix2 i k) = m ((c : Thread nD τ).loc main_arg0) (ix2 ⟨512 * (t.val % 4) + i.val, by omega⟩ k) := by
  blk_simp [iblk]
  exact congrArg (m ((c : Thread nD τ).loc main_arg0)) (by blk_ext [idx0])

/-- What a grid point leaves in the output window. -/
theorem out3 (t : Fin cfg0.N) : out0_3 (F := Ideal) (iblk m c 0 t) (iblk m c 1 t) (iblk m c 2 t)
    = k0_pay1 (iblk m c 0 t) (iblk m c 1 t) (iblk m c 2 t) := by
  frame_out

/-- The columns of the transposed weight that a grid point multiplies. -/
theorem iblk1 (t : Fin cfg0.N) (k : Fin 5376) (j : Fin 1024) :
    (iblk m c 1 t : S5376x1024.Idx → EReal) (ix2 k j) = m ((c : Thread nD τ).loc main_arg1) (ix2 ⟨1024 * (t.val / 4) + j.val, by have := t_lt t; omega⟩ k) := by
  blk_simp [iblk]
  show V m c main_v1 _ = _
  rw [V_w]
  exact transpose_apply _ _ _ _ (ix2 ⟨1024 * (t.val / 4) + j.val, by have := t_lt t; omega⟩ k) (by
    intro b
    match b with
    | ⟨0, _⟩ => show k.val = ((win0_1.blk t).view.emb (ix2 k j) 0 : ℕ); blk_simp [idx1]
    | ⟨1, _⟩ => show 1024 * (t.val / 4) + j.val = ((win0_1.blk t).view.emb (ix2 k j) 1 : ℕ); blk_simp [idx1]; omega)

/-- The block of the residual's gradient at a grid point. -/
theorem iblk2 (t : Fin cfg0.N) (i : Fin 512) (j : Fin 1024) :
    (iblk m c 2 t : S512x1024.Idx → EReal) (ix2 i j) = m ((c : Thread nD τ).loc main_arg2) (ix2 ⟨512 * (t.val % 4) + i.val, by omega⟩ ⟨1024 * (t.val / 4) + j.val, by have := t_lt t; omega⟩) := by
  blk_simp [iblk]
  exact congrArg (m ((c : Thread nD τ).loc main_arg2)) (by blk_ext [idx2])

/-- The output array after the call. -/
theorem final3 : (dats m 0 c).arrAt 3 cfg0.N
    = R (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i, j, rfl⟩ : ∃ (i : Fin 512) (j : Fin 1024), y = ix2 i j := ⟨y 0, y 1, eq_ix2 y⟩
  have e0 : ((win0_3.blk t).view.emb (ix2 i j) : S2048x2048.Idx) = ix2 ⟨512 * (t.val % 4) + i.val, by omega⟩ ⟨1024 * (t.val / 4) + j.val, by have := t_lt t; omega⟩ := by
    blk_ext [idx3]
  blk_simp
  rw [after0_3, out3]
  refine (pay1_apply _ _ _ i j).trans (Eq.trans ?_ (congrArg (R _ _ _) e0).symm)
  exact congrArg₂ _ (congrArg (scale * ·) (iblk2 m c t i j))
    (Finset.sum_congr rfl fun k _ => congrArg₂ _ (iblk0 m c t i k) (iblk1 m c t k j))

/-- The reference's gradient. -/
theorem ref_eq (x : S2048x5376.Idx → EReal) (w : S2048x5376.Idx → EReal) (z : S2048x2048.Idx → EReal) :
    Cert.DxEvenRefIdeal.Read.val_main_v10 (F := Ideal) x w z = R x w z := by
  funext i
  rw [Cert.DxEvenRefIdeal.Read.val_main_v10_apply]
  refine (add_comm _ _).trans (congrArg₂ _ ?_ ?_)
  · rw [Cert.DxEvenRefIdeal.Read.val_main_v9_apply, Cert.DxEvenRefIdeal.Read.val_main_v8_apply]
    rfl
  · rw [Cert.DxEvenRefIdeal.Read.val_main_v7_apply]
    exact Finset.sum_congr rfl fun k _ => congrArg₂ _ (congrArg x (by funext b; match b with | ⟨0, _⟩ => rfl | ⟨1, _⟩ => rfl)) (congrArg w (by funext b; match b with | ⟨0, _⟩ => rfl | ⟨1, _⟩ => rfl))

/-- The kernel's program ends with the gradient of the layer's input. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = R (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c).1.trans (final3 m c), (h c).2⟩) (Cert.DxEvenIdeal.Value.run_blocks m ρ)

/-- The reference's program ends with the gradient of the layer's input. -/
theorem ref_run (m' : (ℓ : Loc Cert.DxEvenRefIdeal.nD Cert.DxEvenRefIdeal.τ Cert.DxEvenRefIdeal.sig) → Buf (Elt Ideal) ℓ) (ρ : Dev Cert.DxEvenRefIdeal.nD → PrngReg) :
    θ_run (Cert.DxEvenRefIdeal.defs (F := Ideal)) (onTc (τ := Cert.DxEvenRefIdeal.τ) (Cert.DxEvenRefIdeal.main (F := Ideal))) ⟨m', fun _ => 0, ρ⟩ (fun r => ∀ c : Dev Cert.DxEvenRefIdeal.nD,
      r.2.mem ((c.tc : Thread Cert.DxEvenRefIdeal.nD Cert.DxEvenRefIdeal.τ).loc Cert.DxEvenRefIdeal.main_v10) = R (m' ((c.tc : Thread Cert.DxEvenRefIdeal.nD Cert.DxEvenRefIdeal.τ).loc Cert.DxEvenRefIdeal.main_arg0)) (m' ((c.tc : Thread Cert.DxEvenRefIdeal.nD Cert.DxEvenRefIdeal.τ).loc Cert.DxEvenRefIdeal.main_arg1)) (m' ((c.tc : Thread Cert.DxEvenRefIdeal.nD Cert.DxEvenRefIdeal.τ).loc Cert.DxEvenRefIdeal.main_arg2))
      ∧ r.2.mem ((c.tc : Thread Cert.DxEvenRefIdeal.nD Cert.DxEvenRefIdeal.τ).loc Cert.DxEvenRefIdeal.main_arg0) = m' ((c.tc : Thread Cert.DxEvenRefIdeal.nD Cert.DxEvenRefIdeal.τ).loc Cert.DxEvenRefIdeal.main_arg0)
      ∧ r.2.mem ((c.tc : Thread Cert.DxEvenRefIdeal.nD Cert.DxEvenRefIdeal.τ).loc Cert.DxEvenRefIdeal.main_arg1) = m' ((c.tc : Thread Cert.DxEvenRefIdeal.nD Cert.DxEvenRefIdeal.τ).loc Cert.DxEvenRefIdeal.main_arg1)
      ∧ r.2.mem ((c.tc : Thread Cert.DxEvenRefIdeal.nD Cert.DxEvenRefIdeal.τ).loc Cert.DxEvenRefIdeal.main_arg2) = m' ((c.tc : Thread Cert.DxEvenRefIdeal.nD Cert.DxEvenRefIdeal.τ).loc Cert.DxEvenRefIdeal.main_arg2)) :=
  (θ_run _ _ _).mono (fun r h c => ⟨((h c).1.trans (Cert.DxEvenRefIdeal.Read.val_main_v10_eq _ _ _)).trans (ref_eq _ _ _), (h c).2⟩)
    (Cert.DxEvenRefIdeal.Value.run (F := Ideal) m' ρ)

end Cert.DxEvenClaim

end
-- ==== Proof.Norm.lean ====
/- The layer norm of a row of 2048 numbers, and how a kernel's block operations read row by row. -/
module

public import Idealize.ShloMosaic.PureOps.Ideal.Laws
public import Idealize.ShloMosaic.Lib.Pointwise
public import Idealize.ShloMosaic.Lib.ValueIdx
public import Idealize.ShloMosaic.Lib.Pipeline.ValueKit

@[expose] public section

set_option maxRecDepth 16384

noncomputable section

namespace Cert.Norm

open Idealize.ShloMosaic hiding addf_apply mulf_apply subf_apply divf_apply truncf_apply
open Idealize.ShloMosaic.ValueIdx (addf_apply mulf_apply subf_apply divf_apply truncf_apply broadcast_apply)
open scoped BigOperators

/-- The number of columns, as the programs write it. -/
def nF : EReal := Ideal.ofBits .f32 0x45000000#32

/-- The constant added to the variance. -/
def eps : EReal := Ideal.ofBits .f32 0x3727C5AC#32

/-- The mean of a row. -/
def mean (z : Fin 2048 → EReal) : EReal := Ideal.div (∑ j, z j) nF

/-- The row less its mean. -/
def cen (z : Fin 2048 → EReal) (j : Fin 2048) : EReal := z j - mean z

/-- One over the standard deviation of a row. -/
def rstd (z : Fin 2048 → EReal) : EReal := Ideal.rsqrt (mean (fun j => cen z j * cen z j) + eps)

/-- The sum of each row of a block, kept as a column. -/
theorem col_apply {R : ℕ} (v : (⟨2, ![R, 2048]⟩ : Shape).Idx → EReal) (acc : BitVec 32)
    (h : (⟨2, ![R, 2048]⟩ : Shape).Reduces [1] (⟨1, ![R]⟩ : Shape)) (hφ : FKind.Formats .f32) (hacc : acc = FKind.add.neutral .f32 hφ)
    (hc : (⟨1, ![R]⟩ : Shape).ShapeCasts (⟨2, ![R, 1]⟩ : Shape)) (i : Fin R) :
    shapeCast (⟨2, ![R, 1]⟩ : Shape) (multiReduction (F := Ideal) (φ := .f32) .add [1] (⟨1, ![R]⟩ : Shape) v acc h hφ hacc) hc (ix2 i 0)
      = ∑ j : Fin 2048, v (ix2 i j) := by
  refine (shapeCast_apply _ hc (ix2 i 0) (ix1 i) ?_).trans ((Ideal.multiReduction_add_single v acc h hφ hacc _).trans
    (Finset.sum_congr rfl fun k _ => congrArg v ?_))
  · rw [Shape.rowMajor_val_one, Shape.rowMajor_val_two]
    show i.val = i.val * 1 + 0
    omega
  · funext b
    match b with
    | ⟨0, _⟩ => rfl
    | ⟨1, _⟩ => rfl

/-- A column spread over a block's columns. -/
theorem spread_apply {R : ℕ} (v : (⟨2, ![R, 1]⟩ : Shape).Idx → EReal) (h : (⟨2, ![R, 1]⟩ : Shape).Broadcasts (⟨2, ![R, 2048]⟩ : Shape))
    (i : Fin R) (j : Fin 2048) : broadcastTo (⟨2, ![R, 2048]⟩ : Shape) v h (ix2 i j) = v (ix2 i 0) :=
  broadcastTo_apply v h (ix2 i j) (ix2 i 0) (by
    intro a
    match a with
    | ⟨0, _⟩ =>
      show i.val = if R = 1 then 0 else i.val
      have := i.isLt
      split <;> omega
    | ⟨1, _⟩ => rfl)

/-- A row spread over a block's rows. -/
theorem row_apply {R : ℕ} (v : (⟨2, ![1, 2048]⟩ : Shape).Idx → EReal) (h : (⟨2, ![1, 2048]⟩ : Shape).Broadcasts (⟨2, ![R, 2048]⟩ : Shape))
    (hs : (⟨2, ![1, 2048]⟩ : Shape).ShapeCasts (⟨2, ![1, 2048]⟩ : Shape)) (i : Fin R) (j : Fin 2048) :
    broadcastTo (⟨2, ![R, 2048]⟩ : Shape) (shapeCast (⟨2, ![1, 2048]⟩ : Shape) v hs) h (ix2 i j) = v (ix2 0 j) := by
  rw [shapeCast_self]
  exact broadcastTo_apply v h (ix2 i j) (ix2 0 j) (by intro a; match a with | ⟨0, _⟩ => rfl | ⟨1, _⟩ => rfl)

/-- A vector seen as one row. -/
theorem asRow_apply (v : (⟨1, ![2048]⟩ : Shape).Idx → EReal) (h : (⟨1, ![2048]⟩ : Shape).ShapeCasts (⟨2, ![1, 2048]⟩ : Shape)) (j : Fin 2048) :
    shapeCast (⟨2, ![1, 2048]⟩ : Shape) v h (ix2 0 j) = v (ix1 j) :=
  (shapeCast_addUnit_apply (n := 1) ![2048] v h (ix2 0 j)).trans (congrArg v (by funext b; match b with | ⟨0, _⟩ => rfl))

/-- A block less the mean of each row, and the mean spread over the columns. -/
theorem cen_apply {R : ℕ} (z : FVec Ideal (⟨2, ![R, 2048]⟩ : Shape) .f32) (acc : BitVec 32)
    (h : (⟨2, ![R, 2048]⟩ : Shape).Reduces [1] (⟨1, ![R]⟩ : Shape)) (hφ : FKind.Formats .f32) (hacc : acc = FKind.add.neutral .f32 hφ)
    (hc : (⟨1, ![R]⟩ : Shape).ShapeCasts (⟨2, ![R, 1]⟩ : Shape)) (hb : (⟨2, ![R, 1]⟩ : Shape).Broadcasts (⟨2, ![R, 2048]⟩ : Shape)) (i : Fin R) (j : Fin 2048) :
    subf z (broadcastTo (⟨2, ![R, 2048]⟩ : Shape) (divf (shapeCast (⟨2, ![R, 1]⟩ : Shape) (multiReduction (F := Ideal) (φ := .f32) .add [1] (⟨1, ![R]⟩ : Shape) z acc h hφ hacc) hc)
        (broadcast (⟨2, ![R, 1]⟩ : Shape) (Scalar.ofBits .f32 0x45000000#32))) hb) (ix2 i j) = cen (fun j => z (ix2 i j)) j := by
  rw [subf_apply, spread_apply, divf_apply, col_apply]
  rfl

/-- The reciprocal of a block's standard deviations, from the centred block, as a column. -/
theorem rstd_apply {R : ℕ} (x : FVec Ideal (⟨2, ![R, 2048]⟩ : Shape) .f32) (z : Fin 2048 → EReal) (acc : BitVec 32)
    (h : (⟨2, ![R, 2048]⟩ : Shape).Reduces [1] (⟨1, ![R]⟩ : Shape)) (hφ : FKind.Formats .f32) (hacc : acc = FKind.add.neutral .f32 hφ)
    (hc : (⟨1, ![R]⟩ : Shape).ShapeCasts (⟨2, ![R, 1]⟩ : Shape)) (i : Fin R) (hx : ∀ j, x (ix2 i j) = cen z j) :
    rsqrt (addf (divf (shapeCast (⟨2, ![R, 1]⟩ : Shape) (multiReduction (F := Ideal) (φ := .f32) .add [1] (⟨1, ![R]⟩ : Shape) (mulf x x) acc h hφ hacc) hc)
        (broadcast (⟨2, ![R, 1]⟩ : Shape) (Scalar.ofBits .f32 0x45000000#32))) (broadcast (⟨2, ![R, 1]⟩ : Shape) (Scalar.ofBits .f32 0x3727C5AC#32))) (ix2 i 0) = rstd z := by
  rw [rsqrt_apply, addf_apply, divf_apply, col_apply]
  refine congrArg Ideal.rsqrt (congrArg (· + eps) (congrArg (Ideal.div · nF) (Finset.sum_congr rfl fun j _ => ?_)))
  rw [mulf_apply, hx]

end Cert.Norm

end
-- ==== Proof.OutLn.lean ====
/- The output projection with the residual sum and the layer norm: the kernel's program and the reference's end at the same arrays. -/
module

public import proofs.«01_k».proof.Proof.Gen.OutLnIdeal.Value
public import proofs.«01_k».proof.Proof.Gen.OutLnRefIdeal.Run
public import proofs.«01_k».proof.Proof.Gen.OutLnRefIdeal.Read
public import proofs.«01_k».proof.Proof.Products
public import proofs.«01_k».proof.Proof.Norm
public import Idealize.ShloMosaic.Lib.Pointwise
public import Idealize.ShloMosaic.Lib.Pipeline.ValueKit

@[expose] public section

set_option maxRecDepth 16384

noncomputable section

namespace Cert.OutLnClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products Cert.Norm
open Cert.OutLnIdeal Cert.OutLnIdeal.Gen
open scoped BigOperators

/-- The scale of the residual path. -/
def scale : EReal := Ideal.ofBits .f32 0x3FD744FD#32

/-- The residual sum: the scaled layer's input and the mixed parts times the weight. -/
def R0 (x : S2x2048x1024.Idx → EReal) (w : S2048x2048.Idx → EReal) (z : S2048x2048.Idx → EReal) : S2048x2048.Idx → EReal :=
  fun i => scale * z i + ∑ k : Fin 2048, x (ix3 (n0 := 2) (n1 := 2048) (n2 := 1024) ⟨k.val / 1024, by omega⟩ (i 0) ⟨k.val % 1024, by omega⟩) * w (ix2 k (i 1))

/-- The layer norm of the residual sum. -/
def R1 (x : S2x2048x1024.Idx → EReal) (w : S2048x2048.Idx → EReal) (z : S2048x2048.Idx → EReal) (g b : S2048.Idx → EReal) : S2048x2048.Idx → EReal :=
  fun i => cen (fun j => R0 x w z (ix2 (i 0) j)) (i 1) * rstd (fun j => R0 x w z (ix2 (i 0) j)) * g (ix1 (i 1)) + b (ix1 (i 1))

/-- The layer norm again, which the kernel also leaves in the narrower format. -/
def R2 (x : S2x2048x1024.Idx → EReal) (w : S2048x2048.Idx → EReal) (z : S2048x2048.Idx → EReal) (g b : S2048.Idx → EReal) : S2048x2048.Idx → EReal :=
  R1 x w z g b

/-- One part's product. -/
theorem part_apply (v0 : Vec Ideal S1x512x1024 .bf16) (v2 : Vec Ideal S1024x2048 .bf16) (i : Fin 512) (j : Fin 2048) :
    matmul (F := Ideal) (φ₁ := .bf16) (φ₂ := .bf16) dot_S512x1024_S1024x2048_S512x2048_1_0_0_1_n_n none (shapeCast S512x1024 v0 shapeCasts_S1x512x1024_S512x1024)
        (shapeCast S1024x2048 v2 shapeCasts_S1024x2048_S1024x2048) (constant S512x2048 .f32 0x00000000#32) (ix2 i j)
      = ∑ q : Fin 1024, (v0 (ix3 0 i q) : EReal) * v2 (ix2 q j) := by
  refine (Ideal.matmul_apply₁_of _ (a := 1) rfl (K := 1024) rfl _ _ _ _ (fun k => ix2 i k) (fun k => ix2 k j)
    (fun k => by rw [Shape.Idx.norm2]; rfl) (fun k => by rw [Shape.Idx.norm2]; rfl)).trans ?_
  rw [show constant (F := Ideal) S512x2048 .f32 0x00000000#32 (ix2 i j) = 0 from Ideal.ofBits_zero_f32, zero_add]
  refine Finset.sum_congr rfl fun k _ => ?_
  rw [shapeCast_self, shapeCast_dropUnit_apply]
  exact congrArg (· * _) (congrArg v0 (by funext b; match b with | ⟨0, _⟩ => rfl | ⟨1, _⟩ => rfl | ⟨2, _⟩ => rfl))

/-- One block of the residual sum. -/
theorem pay3_apply (v0 : Vec Ideal S1x512x1024 .bf16) (v2 : Vec Ideal S1024x2048 .bf16) (v5 : Vec Ideal S1x512x1024 .bf16) (v7 : Vec Ideal S1024x2048 .bf16) (v11 : Vec Ideal S512x2048 .f32) (i : Fin 512) (j : Fin 2048) :
    k0_pay3 (F := Ideal) v0 v2 v5 v7 v11 (ix2 i j)
      = scale * (v11 (ix2 i j) : EReal) + (∑ q : Fin 1024, (v0 (ix3 0 i q) : EReal) * v2 (ix2 q j) + ∑ q : Fin 1024, (v5 (ix3 0 i q) : EReal) * v7 (ix2 q j)) := by
  unfold k0_pay3
  rw [addf_apply, addf_apply, mulf_apply]
  exact congrArg (scale * v11 (ix2 i j) + ·) (congrArg₂ _ (part_apply v0 v2 i j) (part_apply v5 v7 i j))

/-- One block of the normalised residual sum, times the gain. -/
theorem pay4_apply (v0 : Vec Ideal S1x512x1024 .bf16) (v2 : Vec Ideal S1024x2048 .bf16) (v5 : Vec Ideal S1x512x1024 .bf16) (v7 : Vec Ideal S1024x2048 .bf16) (v11 : Vec Ideal S512x2048 .f32) (v31 : Vec Ideal S1x2048 .f32) (i : Fin 512) (j : Fin 2048) :
    k0_pay4 (F := Ideal) v0 v2 v5 v7 v11 v31 (ix2 i j)
      = cen (fun j => k0_pay3 (F := Ideal) v0 v2 v5 v7 v11 (ix2 i j)) j * rstd (fun j => k0_pay3 (F := Ideal) v0 v2 v5 v7 v11 (ix2 i j)) * (v31 (ix2 0 j) : EReal) := by
  unfold k0_pay4
  generalize k0_pay3 (F := Ideal) v0 v2 v5 v7 v11 = z
  rw [mulf_apply, mulf_apply]
  refine congrArg₂ _ (congrArg₂ _ (cen_apply z _ _ _ _ _ _ i j) ((spread_apply _ _ i j).trans (rstd_apply _ _ _ _ _ _ _ i fun j => cen_apply z _ _ _ _ _ _ i j))) (row_apply _ _ _ i j)

/-- One block of the layer norm. -/
theorem pay1_apply (v34 : FVec Ideal S512x2048 .f32) (v35 : Vec Ideal S1x2048 .f32) (i : Fin 512) (j : Fin 2048) :
    k0_pay1 (F := Ideal) v34 v35 (ix2 i j) = (v34 (ix2 i j) : EReal) + v35 (ix2 0 j) := by
  unfold k0_pay1
  rw [addf_apply]
  exact congrArg (v34 (ix2 i j) + ·) (row_apply _ _ _ i j)

variable (m : (ℓ : Loc nD τ sig) → Buf (Elt Ideal) ℓ) (c : Dev nD)

/-- The weight as the call takes it. -/
theorem V_w : V m c main_v0 = truncf (F := Ideal) .bf16 (m ((c : Thread nD τ).loc main_arg1)) bitsLt_bf16_f32 := rfl
/-- The gain as the call takes it. -/
theorem V_g : V m c main_v1 = shapeCast S1x2048 (m ((c : Thread nD τ).loc main_arg3)) shapeCasts_S2048_S1x2048 := rfl
/-- The shift as the call takes it. -/
theorem V_b : V m c main_v2 = shapeCast S1x2048 (m ((c : Thread nD τ).loc main_arg4)) shapeCasts_S2048_S1x2048 := rfl

/-- The block of window 0 at a grid point. -/
theorem idx0 : ∀ t : Fin cfg0.N, win0_0.index t = ![0, t.val, 0] := (by decide +kernel : ∀ t : Fin grid0.N, _)
/-- The block of window 1 at a grid point. -/
theorem idx1 : ∀ t : Fin cfg0.N, win0_1.index t = ![0, 0] := (by decide +kernel : ∀ t : Fin grid0.N, _)
/-- The block of window 2 at a grid point. -/
theorem idx2 : ∀ t : Fin cfg0.N, win0_2.index t = ![t.val, 0] := (by decide +kernel : ∀ t : Fin grid0.N, _)
/-- The block of window 3 at a grid point. -/
theorem idx3 : ∀ t : Fin cfg0.N, win0_3.index t = ![0, 0] := (by decide +kernel : ∀ t : Fin grid0.N, _)
/-- The block of window 4 at a grid point. -/
theorem idx4 : ∀ t : Fin cfg0.N, win0_4.index t = ![0, 0] := (by decide +kernel : ∀ t : Fin grid0.N, _)
/-- The block of window 5 at a grid point. -/
theorem idx5 : ∀ t : Fin cfg0.N, win0_5.index t = ![t.val, 0] := (by decide +kernel : ∀ t : Fin grid0.N, _)
/-- The block of window 6 at a grid point. -/
theorem idx6 : ∀ t : Fin cfg0.N, win0_6.index t = ![t.val, 0] := (by decide +kernel : ∀ t : Fin grid0.N, _)
/-- The block of window 7 at a grid point. -/
theorem idx7 : ∀ t : Fin cfg0.N, win0_7.index t = ![t.val, 0] := (by decide +kernel : ∀ t : Fin grid0.N, _)

/-- The number of grid points. -/
theorem t_lt (t : Fin cfg0.N) : t.val < 4 := by have := t.isLt; have h : cfg0.N = 4 := N_0; omega

/-- The rows of the mixed parts that a grid point multiplies. -/
theorem iblk0 (t : Fin cfg0.N) (p : Fin 2) (i : Fin 512) (q : Fin 1024) :
    (iblk m c 0 t : S2x512x1024.Idx → EReal) (ix3 p i q) = m ((c : Thread nD τ).loc main_arg0) (ix3 p ⟨512 * t.val + i.val, by have := t_lt t; omega⟩ q) := by
  blk_simp [iblk]
  exact congrArg (m ((c : Thread nD τ).loc main_arg0)) (by blk_ext [idx0])

/-- The weight. -/
theorem iblk1 (t : Fin cfg0.N) (k : Fin 2048) (j : Fin 2048) :
    (iblk m c 1 t : S2048x2048.Idx → EReal) (ix2 k j) = m ((c : Thread nD τ).loc main_arg1) (ix2 k j) := by
  blk_simp [iblk]
  show V m c main_v0 _ = _
  rw [V_w, truncf_apply]
  exact congrArg (m ((c : Thread nD τ).loc main_arg1)) (by blk_ext [idx1])

/-- The block of the layer's input. -/
theorem iblk2 (t : Fin cfg0.N) (i : Fin 512) (j : Fin 2048) :
    (iblk m c 2 t : S512x2048.Idx → EReal) (ix2 i j) = m ((c : Thread nD τ).loc main_arg2) (ix2 ⟨512 * t.val + i.val, by have := t_lt t; omega⟩ j) := by
  blk_simp [iblk]
  exact congrArg (m ((c : Thread nD τ).loc main_arg2)) (by blk_ext [idx2])

/-- The gain. -/
theorem iblk3 (t : Fin cfg0.N) (j : Fin 2048) : (iblk m c 3 t : S1x2048.Idx → EReal) (ix2 0 j) = m ((c : Thread nD τ).loc main_arg3) (ix1 j) := by
  blk_simp [iblk]
  show V m c main_v1 _ = _
  rw [V_g]
  exact (congrArg (shapeCast S1x2048 (m ((c : Thread nD τ).loc main_arg3)) shapeCasts_S2048_S1x2048) (by blk_ext [idx3] : _ = (ix2 0 j : S1x2048.Idx))).trans (asRow_apply _ _ j)

/-- The shift. -/
theorem iblk4 (t : Fin cfg0.N) (j : Fin 2048) : (iblk m c 4 t : S1x2048.Idx → EReal) (ix2 0 j) = m ((c : Thread nD τ).loc main_arg4) (ix1 j) := by
  blk_simp [iblk]
  show V m c main_v2 _ = _
  rw [V_b]
  exact (congrArg (shapeCast S1x2048 (m ((c : Thread nD τ).loc main_arg4)) shapeCasts_S2048_S1x2048) (by blk_ext [idx4] : _ = (ix2 0 j : S1x2048.Idx))).trans (asRow_apply _ _ j)

/-- The block of the residual sum at a grid point. -/
def blkZ (t : Fin cfg0.N) : FVec Ideal S512x2048 .f32 :=
  k0_pay3 (View.ld (iblk m c 0 t) r0_0) (View.ld (iblk m c 1 t) r0_1) (View.ld (iblk m c 0 t) r0_2) (View.ld (iblk m c 1 t) r0_3) (iblk m c 2 t)

/-- The normalised block, times the gain, at a grid point. -/
def blkN (t : Fin cfg0.N) : FVec Ideal S512x2048 .f32 :=
  k0_pay4 (View.ld (iblk m c 0 t) r0_0) (View.ld (iblk m c 1 t) r0_1) (View.ld (iblk m c 0 t) r0_2) (View.ld (iblk m c 1 t) r0_3) (iblk m c 2 t) (iblk m c 3 t)

/-- The kernel's own spelling of that block. -/
theorem blkN_eq (t : Fin cfg0.N) : k0_pay5 (F := Ideal) (iblk m c 0 t) (iblk m c 1 t) (iblk m c 2 t) (iblk m c 3 t) (iblk m c 4 t) = blkN m c t := by
  unfold k0_pay5 blkN
  exact congrArg₂ (k0_pay4 _ _ _ _) (View.ld_unit_lit _ _ (by decide)) (View.ld_unit_lit _ _ (by decide))

/-- What a grid point leaves in the window of the residual sum. -/
theorem out5 (t : Fin cfg0.N) : out0_5 (F := Ideal) (iblk m c 0 t) (iblk m c 1 t) (iblk m c 2 t) (iblk m c 3 t) (iblk m c 4 t) = blkZ m c t := by
  unfold out0_5 blkZ
  exact (View.canon_cons_unit_lit _ _ _ (by decide)).trans (congrArg (k0_pay3 _ _ _ _) (View.ld_unit_lit _ _ (by decide)))

/-- What a grid point leaves in the window of the layer norm. -/
theorem out6 (t : Fin cfg0.N) : out0_6 (F := Ideal) (iblk m c 0 t) (iblk m c 1 t) (iblk m c 2 t) (iblk m c 3 t) (iblk m c 4 t) = k0_pay1 (blkN m c t) (iblk m c 4 t) := by
  unfold out0_6
  exact (View.canon_cons_unit_lit _ _ _ (by decide)).trans (congrArg₂ k0_pay1 (blkN_eq m c t) (View.ld_unit_lit _ _ (by decide)))

/-- What a grid point leaves in the window of the narrower layer norm. -/
theorem out7 (t : Fin cfg0.N) : out0_7 (F := Ideal) (iblk m c 0 t) (iblk m c 1 t) (iblk m c 2 t) (iblk m c 3 t) (iblk m c 4 t) = k0_pay2 (blkN m c t) (iblk m c 4 t) := by
  unfold out0_7
  exact (View.canon_cons_unit_lit _ _ _ (by decide)).trans (congrArg₂ k0_pay2 (blkN_eq m c t) (View.ld_unit_lit _ _ (by decide)))

/-- The block of the residual sum is that part of the whole residual sum. -/
theorem blkZ_apply (t : Fin cfg0.N) (i : Fin 512) (j : Fin 2048) :
    blkZ m c t (ix2 i j) = R0 (m ((c : Thread nD τ).loc main_arg0)) (m ((c : Thread nD τ).loc main_arg1)) (m ((c : Thread nD τ).loc main_arg2)) (ix2 ⟨512 * t.val + i.val, by have := t_lt t; omega⟩ j) := by
  unfold blkZ
  rw [pay3_apply]
  unfold R0
  rw [sum_two]
  refine congrArg₂ _ (congrArg (scale * ·) (iblk2 m c t i j)) (congrArg₂ _ ?_ ?_)
  · refine Finset.sum_congr rfl fun q _ => congrArg₂ _ (Eq.trans ?_ ((iblk0 m c t 0 i q).trans ?_)) (Eq.trans ?_ (iblk1 m c t ⟨q.val, by omega⟩ j))
    · exact congrArg (iblk m c 0 t : S2x512x1024.Idx → EReal) (by
        funext b
        match b with
        | ⟨0, _⟩ => exact Fin.ext (by show 0 + 1 * 0 = 0; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 0 = (q.val) / 1024; omega)
        | ⟨1, _⟩ => rfl
        | ⟨2, _⟩ => exact Fin.ext (by show q.val = (q.val) % 1024; omega))
    · exact congrArg (iblk m c 1 t : S2048x2048.Idx → EReal) (by
        funext b
        match b with
        | ⟨0, _⟩ => exact Fin.ext (by show 0 + 1 * q.val = q.val; omega)
        | ⟨1, _⟩ => exact Fin.ext (by show 0 + 1 * j.val = j.val; omega))
  · refine Finset.sum_congr rfl fun q _ => congrArg₂ _ (Eq.trans ?_ ((iblk0 m c t 1 i q).trans ?_)) (Eq.trans ?_ (iblk1 m c t ⟨1024 + q.val, by omega⟩ j))
    · exact congrArg (iblk m c 0 t : S2x512x1024.Idx → EReal) (by
        funext b
        match b with
        | ⟨0, _⟩ => exact Fin.ext (by show 1 + 1 * 0 = 1; rfl)
        | ⟨1, _⟩ => exact Fin.ext (by show 0 + 1 * i.val = i.val; omega)
        | ⟨2, _⟩ => exact Fin.ext (by show 0 + 1 * q.val = q.val; omega))
    · exact congrArg (m ((c : Thread nD τ).loc main_arg0)) (by
        funext b
        match b with
        | ⟨0, _⟩ => exact Fin.ext (by show 1 = (1024 + q.val) / 1024; omega)
        | ⟨1, _⟩ => rfl
        | ⟨2, _⟩ => exact Fin.ext (by show q.val = (1024 + q.val) % 1024; omega))
    · exact congrArg (iblk m c 1 t : S2048x2048.Idx → EReal) (by
        funext b
        match b with
        | ⟨0, _⟩ => exact Fin.ext (by show 1024 + 1 * q.val = 1024 + q.val; omega)
        | ⟨1, _⟩ => exact Fin.ext (by show 0 + 1 * j.val = j.val; omega))

/-- The block of the layer norm is that part of the whole layer norm. -/
theorem blkN_apply (t : Fin cfg0.N) (i : Fin 512) (j : Fin 2048) :
    k0_pay1 (F := Ideal) (blkN m c t) (iblk m c 4 t) (ix2 i j)
      = R1 (m ((c : Thread nD τ).loc main_arg0)) (m ((c : Thread nD τ).loc main_arg1)) (m ((c : Thread nD τ).loc main_arg2)) (m ((c : Thread nD τ).loc main_arg3)) (m ((c : Thread nD τ).loc main_arg4)) (ix2 ⟨512 * t.val + i.val, by have := t_lt t; omega⟩ j) := by
  rw [pay1_apply]
  unfold R1
  refine congrArg₂ _ ?_ (iblk4 m c t j)
  unfold blkN
  rw [pay4_apply]
  have e : (fun j => k0_pay3 (F := Ideal) (View.ld (iblk m c 0 t) r0_0) (View.ld (iblk m c 1 t) r0_1) (View.ld (iblk m c 0 t) r0_2) (View.ld (iblk m c 1 t) r0_3) (iblk m c 2 t) (ix2 i j))
      = fun j => R0 (m ((c : Thread nD τ).loc main_arg0)) (m ((c : Thread nD τ).loc main_arg1)) (m ((c : Thread nD τ).loc main_arg2)) (ix2 ⟨512 * t.val + i.val, by have := t_lt t; omega⟩ j) := funext fun j => blkZ_apply m c t i j
  rw [e]
  exact congrArg₂ _ rfl (iblk3 m c t j)

/-- The array of the residual sum after the call. -/
theorem final5 : (dats m 0 c).arrAt 5 cfg0.N = R0 (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨i, j, rfl⟩ : ∃ (i : Fin 512) (j : Fin 2048), y = ix2 i j := ⟨y 0, y 1, eq_ix2 y⟩
  have e0 : ((win0_5.blk t).view.emb (ix2 i j) : S2048x2048.Idx) = ix2 ⟨512 * t.val + i.val, by have := t_lt t; omega⟩ j := by
    blk_ext [idx5]
  blk_simp
  rw [after0_5, out5]
  exact (blkZ_apply m c t i j).trans (congrArg (R0 _ _ _) e0).symm

/-- The array of the layer norm after the call. -/
theorem final6 : (dats m 0 c).arrAt 6 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨i, j, rfl⟩ : ∃ (i : Fin 512) (j : Fin 2048), y = ix2 i j := ⟨y 0, y 1, eq_ix2 y⟩
  have e0 : ((win0_6.blk t).view.emb (ix2 i j) : S2048x2048.Idx) = ix2 ⟨512 * t.val + i.val, by have := t_lt t; omega⟩ j := by
    blk_ext [idx6]
  blk_simp
  rw [after0_6, out6]
  exact (blkN_apply m c t i j).trans (congrArg (R1 _ _ _ _ _) e0).symm

/-- The array of the narrower layer norm after the call. -/
theorem final7 : (dats m 0 c).arrAt 7 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨i, j, rfl⟩ : ∃ (i : Fin 512) (j : Fin 2048), y = ix2 i j := ⟨y 0, y 1, eq_ix2 y⟩
  have e0 : ((win0_7.blk t).view.emb (ix2 i j) : S2048x2048.Idx) = ix2 ⟨512 * t.val + i.val, by have := t_lt t; omega⟩ j := by
    blk_ext [idx7]
  blk_simp
  rw [after0_7, out7]
  exact (blkN_apply m c t i j).trans (congrArg (R2 _ _ _ _ _) e0).symm

/-- Part 0 of the mixed array. -/
theorem part0 (x : S2x2048x1024.Idx → EReal) (s : Fin 2048) (q : Fin 1024) : Cert.OutLnRefIdeal.Read.val_main_v2 (F := Ideal) x (ix2 s q) = x (ix3 0 s q) := by
  rw [Cert.OutLnRefIdeal.Read.val_main_v2_apply]
  show Cert.OutLnRefIdeal.Read.val_main_v1 (F := Ideal) x (ix2 s q) = _
  rw [Cert.OutLnRefIdeal.Read.val_main_v1_apply, Cert.OutLnRefIdeal.Read.val_main_v0_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- Part 1 of the mixed array. -/
theorem part1 (x : S2x2048x1024.Idx → EReal) (s : Fin 2048) (q : Fin 1024) : Cert.OutLnRefIdeal.Read.val_main_v5 (F := Ideal) x (ix2 s q) = x (ix3 1 s q) := by
  rw [Cert.OutLnRefIdeal.Read.val_main_v5_apply]
  show Cert.OutLnRefIdeal.Read.val_main_v4 (F := Ideal) x (ix2 s q) = _
  rw [Cert.OutLnRefIdeal.Read.val_main_v4_apply, Cert.OutLnRefIdeal.Read.val_main_v3_apply]
  refine congrArg x (funext fun b => ?_)
  match b with
  | ⟨0, _⟩ => rfl
  | ⟨1, _⟩ => exact Fin.ext (by show (s.val * 1024 + q.val) / 1024 % 2048 = s.val; omega)
  | ⟨2, _⟩ => exact Fin.ext (by show (s.val * 1024 + q.val) % 1024 = q.val; omega)

/-- The two parts side by side. -/
theorem parts_apply (x : S2x2048x1024.Idx → EReal) (s : Fin 2048) (j : Fin 2048) :
    Cert.OutLnRefIdeal.Read.val_main_v6 (F := Ideal) x (ix2 s j) = x (ix3 ⟨j.val / 1024, by omega⟩ s ⟨j.val % 1024, by omega⟩) := by
  unfold Cert.OutLnRefIdeal.Read.val_main_v6
  exact cat2 _ _ x (part0 x) (part1 x) _ s j

/-- The reference's residual sum. -/
theorem ref_eq0 (x : S2x2048x1024.Idx → EReal) (w : S2048x2048.Idx → EReal) (z : S2048x2048.Idx → EReal) :
    Cert.OutLnRefIdeal.Read.val_main_v10 (F := Ideal) x w z = R0 x w z := by
  funext i
  rw [Cert.OutLnRefIdeal.Read.val_main_v10_apply]
  refine congrArg₂ _ ?_ ?_
  · rw [Cert.OutLnRefIdeal.Read.val_main_v9_apply, Cert.OutLnRefIdeal.Read.val_main_v8_apply]
    rfl
  · rw [Cert.OutLnRefIdeal.Read.val_main_v7_apply]
    exact Finset.sum_congr rfl fun k _ => congrArg₂ _ ((congrArg (Cert.OutLnRefIdeal.Read.val_main_v6 (F := Ideal) x) (by funext b; match b with | ⟨0, _⟩ => rfl | ⟨1, _⟩ => rfl)).trans (parts_apply x (i 0) k)) (congrArg w (by funext b; match b with | ⟨0, _⟩ => rfl | ⟨1, _⟩ => rfl))

/-- The reference's mean of a row. -/
theorem ref_mean (x : S2x2048x1024.Idx → EReal) (w : S2048x2048.Idx → EReal) (z : S2048x2048.Idx → EReal) (i : Cert.OutLnRefIdeal.S2048x1.Idx) :
    Cert.OutLnRefIdeal.Read.val_main_v14 (F := Ideal) x w z i = mean (fun j => R0 x w z (ix2 (i 0) j)) := by
  rw [Cert.OutLnRefIdeal.Read.val_main_v14_apply, Cert.OutLnRefIdeal.Read.val_main_v12_apply, Cert.OutLnRefIdeal.Read.val_main_v11_apply, ref_eq0, Cert.OutLnRefIdeal.Read.val_main_v13_apply]
  refine congrArg (Ideal.div · nF) ?_
  rw [show Cert.OutLnRefIdeal.Read.val_main_cst_0 (F := Ideal) (Shape.Idx.first Cert.OutLnRefIdeal.Gen.h_S_) = 0 from Ideal.ofBits_zero_f32, zero_add]
  exact Finset.sum_congr rfl fun k _ => congrArg (R0 x w z) (by funext b; match b with | ⟨0, _⟩ => rfl | ⟨1, _⟩ => rfl)

/-- The reference's centred residual sum. -/
theorem ref_cen (x : S2x2048x1024.Idx → EReal) (w : S2048x2048.Idx → EReal) (z : S2048x2048.Idx → EReal) (i : S2048x2048.Idx) :
    Cert.OutLnRefIdeal.Read.val_main_v16 (F := Ideal) x w z i = cen (fun j => R0 x w z (ix2 (i 0) j)) (i 1) := by
  rw [Cert.OutLnRefIdeal.Read.val_main_v16_apply, Cert.OutLnRefIdeal.Read.val_main_v15_apply, ref_mean, ref_eq0]
  exact congrArg (· - mean (fun j => R0 x w z (ix2 (i 0) j))) (congrArg (R0 x w z) (eq_ix2 i))

/-- The reference's reciprocal standard deviation of a row. -/
theorem ref_rstd (x : S2x2048x1024.Idx → EReal) (w : S2048x2048.Idx → EReal) (z : S2048x2048.Idx → EReal) (i : Cert.OutLnRefIdeal.S2048x1.Idx) :
    Cert.OutLnRefIdeal.Read.val_main_v24 (F := Ideal) x w z i = rstd (fun j => R0 x w z (ix2 (i 0) j)) := by
  rw [Cert.OutLnRefIdeal.Read.val_main_v24_apply, Cert.OutLnRefIdeal.Read.val_main_v23_apply, Cert.OutLnRefIdeal.Read.val_main_v22_apply, Cert.OutLnRefIdeal.Read.val_main_v21_apply, Cert.OutLnRefIdeal.Read.val_main_v20_apply, Cert.OutLnRefIdeal.Read.val_main_v19_apply, Cert.OutLnRefIdeal.Read.val_main_v18_apply]
  refine congrArg Ideal.rsqrt (congrArg (· + eps) (congrArg (Ideal.div · nF) ?_))
  rw [show Cert.OutLnRefIdeal.Read.val_main_cst_2 (F := Ideal) (Shape.Idx.first Cert.OutLnRefIdeal.Gen.h_S_) = 0 from Ideal.ofBits_zero_f32, zero_add]
  refine Finset.sum_congr rfl fun k _ => ?_
  rw [Cert.OutLnRefIdeal.Read.val_main_v17_apply, ref_cen]
  rfl

/-- The reference's layer norm. -/
theorem ref_eq1 (x : S2x2048x1024.Idx → EReal) (w : S2048x2048.Idx → EReal) (z : S2048x2048.Idx → EReal) (g b : S2048.Idx → EReal) :
    Cert.OutLnRefIdeal.Read.val_main_v32 (F := Ideal) x w z g b = R1 x w z g b := by
  funext i
  rw [Cert.OutLnRefIdeal.Read.val_main_v32_apply, Cert.OutLnRefIdeal.Read.val_main_v31_apply, Cert.OutLnRefIdeal.Read.val_main_v30_apply, Cert.OutLnRefIdeal.Read.val_main_v29_apply, Cert.OutLnRefIdeal.Read.val_main_v28_apply, Cert.OutLnRefIdeal.Read.val_main_v27_apply,
    Cert.OutLnRefIdeal.Read.val_main_v26_apply, Cert.OutLnRefIdeal.Read.val_main_v25_apply, ref_rstd, ref_cen]
  exact congrArg₂ _ (congrArg₂ _ rfl (congrArg g (by funext b; match b with | ⟨0, _⟩ => rfl))) (congrArg b (by funext b; match b with | ⟨0, _⟩ => rfl))

/-- The reference's narrower layer norm. -/
theorem ref_eq2 (x : S2x2048x1024.Idx → EReal) (w : S2048x2048.Idx → EReal) (z : S2048x2048.Idx → EReal) (g b : S2048.Idx → EReal) :
    Cert.OutLnRefIdeal.Read.val_main_v33 (F := Ideal) x w z g b = R2 x w z g b :=
  (funext fun i => Cert.OutLnRefIdeal.Read.val_main_v33_apply _ _ _ _ _ i).trans (ref_eq1 x w z g b)

/-- The kernel's program ends with the residual sum and its layer norm. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = R0 (m ((c.tc : Thread nD τ).loc main_arg0)) (m ((c.tc : Thread nD τ).loc main_arg1)) (m ((c.tc : Thread nD τ).loc main_arg2))
      ∧ r.2.mem ((c.tc : Thread nD τ).loc main_v3_1) = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3_2) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h c).1).trans (final5 m c), ((h c).2.1).trans (final6 m c), ((h c).2.2.1).trans (final7 m c), (h c).2.2.2⟩) (Cert.OutLnIdeal.Value.run_blocks m ρ)

/-- The reference's program ends with the residual sum and its layer norm. -/
theorem ref_run (m' : (ℓ : Loc Cert.OutLnRefIdeal.nD Cert.OutLnRefIdeal.τ Cert.OutLnRefIdeal.sig) → Buf (Elt Ideal) ℓ) (ρ : Dev Cert.OutLnRefIdeal.nD → PrngReg) :
    θ_run (Cert.OutLnRefIdeal.defs (F := Ideal)) (onTc (τ := Cert.OutLnRefIdeal.τ) (Cert.OutLnRefIdeal.main (F := Ideal))) ⟨m', fun _ => 0, ρ⟩ (fun r => ∀ c : Dev Cert.OutLnRefIdeal.nD,
      r.2.mem ((c.tc : Thread Cert.OutLnRefIdeal.nD Cert.OutLnRefIdeal.τ).loc Cert.OutLnRefIdeal.main_v10) = R0 (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1)) (m' ((c.tc : Thread Cert.OutLnRefIdeal.nD Cert.OutLnRefIdeal.τ).loc Cert.OutLnRefIdeal.main_arg2))
      ∧ r.2.mem ((c.tc : Thread Cert.OutLnRefIdeal.nD Cert.OutLnRefIdeal.τ).loc Cert.OutLnRefIdeal.main_v32) = R1 (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1)) (m' ((c.tc : Thread Cert.OutLnRefIdeal.nD Cert.OutLnRefIdeal.τ).loc Cert.OutLnRefIdeal.main_arg2)) (m' ((c.tc : Thread Cert.OutLnRefIdeal.nD Cert.OutLnRefIdeal.τ).loc Cert.OutLnRefIdeal.main_arg3)) (m' ((c.tc : Thread Cert.OutLnRefIdeal.nD Cert.OutLnRefIdeal.τ).loc Cert.OutLnRefIdeal.main_arg4))
      ∧ r.2.mem ((c.tc : Thread Cert.OutLnRefIdeal.nD Cert.OutLnRefIdeal.τ).loc Cert.OutLnRefIdeal.main_v33) = R2 (m' ((c.tc : Thread Cert.OutLnRefIdeal.nD Cert.OutLnRefIdeal.τ).loc Cert.OutLnRefIdeal.main_arg0)) (m' ((c.tc : Thread Cert.OutLnRefIdeal.nD Cert.OutLnRefIdeal.τ).loc Cert.OutLnRefIdeal.main_arg1)) (m' ((c.tc : Thread Cert.OutLnRefIdeal.nD Cert.OutLnRefIdeal.τ).loc Cert.OutLnRefIdeal.main_arg2)) (m' ((c.tc : Thread Cert.OutLnRefIdeal.nD Cert.OutLnRefIdeal.τ).loc Cert.OutLnRefIdeal.main_arg3)) (m' ((c.tc : Thread Cert.OutLnRefIdeal.nD Cert.OutLnRefIdeal.τ).loc Cert.OutLnRefIdeal.main_arg4))
      ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)) :=
  (θ_run _ _ _).mono (fun r h c => ⟨(((h c).1).trans (Cert.OutLnRefIdeal.Read.val_main_v10_eq _ _ _)).trans (ref_eq0 _ _ _), (((h c).2.1).trans (Cert.OutLnRefIdeal.Read.val_main_v32_eq m' c)).trans (ref_eq1 _ _ _ _ _), (((h c).2.2.1).trans (Cert.OutLnRefIdeal.Read.val_main_v33_eq m' c)).trans (ref_eq2 _ _ _ _ _), (h c).2.2.2⟩)
    (Cert.OutLnRefIdeal.Value.run (F := Ideal) m' ρ)

end Cert.OutLnClaim

end
-- ==== Proof.NormGrad.lean ====
/- The gradient of the layer norm of a row: the short form and the form that automatic differentiation gives agree on real numbers. -/
module

public import proofs.«01_k».proof.Proof.Norm

@[expose] public section

set_option maxRecDepth 16384

noncomputable section

namespace Cert.Norm

open Idealize.ShloMosaic hiding addf_apply mulf_apply subf_apply divf_apply truncf_apply
open Idealize.ShloMosaic.ValueIdx (addf_apply mulf_apply subf_apply divf_apply truncf_apply broadcast_apply)
open scoped BigOperators

/-- Minus one half, as the programs write it. -/
def negHalf : EReal := Ideal.ofBits .f32 0xBF000000#32

/-- The number of columns is 2048. -/
theorem nF_eq : nF = ((2048 : ℝ) : EReal) := by
  unfold nF
  simp [Ideal.ofBits, Ideal.ieee, -EReal.coe_mul]
  norm_num

/-- Minus one half is the real number. -/
theorem negHalf_eq : negHalf = ((-(1 / 2) : ℝ) : EReal) := by
  unfold negHalf
  simp [Ideal.ofBits, Ideal.ieee, -EReal.coe_mul]
  norm_num

/-- The constant added to the variance is a positive real number. -/
theorem eps_eq : eps = ((10995116 / 1099511627776 : ℝ) : EReal) := by
  unfold eps
  simp [Ideal.ofBits, Ideal.ieee, -EReal.coe_mul]
  norm_num

/-- The sum of real numbers is real. -/
theorem sum_real (f : Fin 2048 → ℝ) : ∑ j, ((f j : ℝ) : EReal) = ((∑ j, f j : ℝ) : EReal) := by
  refine (map_sum (⟨⟨fun x : ℝ => (x : EReal), rfl⟩, fun a b => EReal.coe_add a b⟩ : ℝ →+ EReal) f Finset.univ).symm

/-- A quotient by the number of columns. -/
theorem div_nF (x : ℝ) : Ideal.div (x : EReal) nF = ((x / 2048 : ℝ) : EReal) := by
  rw [nF_eq, Ideal.div_coe (by norm_num), ← EReal.coe_mul]
  congr 1
  ring

/-- The mean of real numbers. -/
theorem mean_real (f : Fin 2048 → ℝ) : mean (fun j => ((f j : ℝ) : EReal)) = (((∑ j, f j) / 2048 : ℝ) : EReal) := by
  unfold mean
  rw [sum_real, div_nF]

/-- The centred row of real numbers. -/
theorem cen_real (z : Fin 2048 → ℝ) (j : Fin 2048) : cen (fun j => ((z j : ℝ) : EReal)) j = ((z j - (∑ j, z j) / 2048 : ℝ) : EReal) := by
  unfold cen
  rw [mean_real, ← EReal.coe_sub]

/-- The variance of a row, and the constant added to it. -/
def var (z : Fin 2048 → EReal) : EReal := mean (fun j => cen z j * cen z j) + eps

/-- The gradient of the layer norm of the row `z` along `y`, in its short form. -/
def kerGrad (z y : Fin 2048 → EReal) (j : Fin 2048) : EReal :=
  rstd z * (y j - mean y - cen z j * rstd z * mean (fun j => y j * (cen z j * rstd z)))

/-- The gradient through the variance, of each centred number. -/
def varGrad (z y : Fin 2048 → EReal) : EReal :=
  Ideal.div ((∑ j, cen z j * y j) * (negHalf * Ideal.div (rstd z) (var z))) nF

/-- The gradient before the mean is taken off. -/
def preGrad (z y : Fin 2048 → EReal) (j : Fin 2048) : EReal := y j * rstd z + cen z j * varGrad z y + varGrad z y * cen z j

/-- The gradient of the layer norm as differentiation gives it: through each number, the variance and the mean. -/
def refGrad (z y : Fin 2048 → EReal) (j : Fin 2048) : EReal := preGrad z y j + Ideal.div (∑ j, -preGrad z y j) nF

/-- On real numbers the two forms are equal. -/
theorem grad_real (z y : Fin 2048 → ℝ) (j : Fin 2048) :
    kerGrad (fun j => ((z j : ℝ) : EReal)) (fun j => ((y j : ℝ) : EReal)) j = refGrad (fun j => ((z j : ℝ) : EReal)) (fun j => ((y j : ℝ) : EReal)) j := by
  obtain ⟨c, hc⟩ : ∃ c : Fin 2048 → ℝ, c = fun j => z j - (∑ j, z j) / 2048 := ⟨_, rfl⟩
  have hcen : ∀ j, cen (fun j => ((z j : ℝ) : EReal)) j = ((c j : ℝ) : EReal) := fun j => by rw [cen_real, hc]
  have hsum : ∑ j, c j = 0 := by
    rw [hc, Finset.sum_sub_distrib, Finset.sum_const, Finset.card_univ, Fintype.card_fin, nsmul_eq_mul]
    push_cast
    ring
  obtain ⟨s, hs⟩ : ∃ s : ℝ, s = (∑ j, c j * c j) / 2048 + 10995116 / 1099511627776 := ⟨_, rfl⟩
  have hpos : 0 < s := by
    have : 0 ≤ ∑ j, c j * c j := Finset.sum_nonneg fun j _ => mul_self_nonneg (c j)
    rw [hs]
    positivity
  have hvar : var (fun j => ((z j : ℝ) : EReal)) = ((s : ℝ) : EReal) := by
    unfold var
    simp only [hcen, ← EReal.coe_mul]
    rw [mean_real, eps_eq, ← EReal.coe_add, hs]
  obtain ⟨r, hr⟩ : ∃ r : ℝ, r = (Real.sqrt s)⁻¹ := ⟨_, rfl⟩
  have hrs : r * r * s = 1 := by
    have h := Real.mul_self_sqrt hpos.le
    have h0 : Real.sqrt s ≠ 0 := (Real.sqrt_pos.mpr hpos).ne'
    rw [hr]
    nth_rewrite 3 [← h]
    field_simp
  have hrstd : rstd (fun j => ((z j : ℝ) : EReal)) = ((r : ℝ) : EReal) := by
    show Ideal.rsqrt (var _) = _
    rw [hvar, Ideal.rsqrt_coe, if_neg (not_lt.mpr hpos.le), if_neg hpos.ne', hr]
  have hdiv : Ideal.div ((r : ℝ) : EReal) ((s : ℝ) : EReal) = ((r * r * r : ℝ) : EReal) := by
    rw [Ideal.div_coe hpos.ne', ← EReal.coe_mul]
    congr 1
    rw [mul_one_div, div_eq_iff hpos.ne']
    linear_combination (-r) * hrs
  obtain ⟨q, hq⟩ : ∃ q : ℝ, q = ∑ j, c j * y j := ⟨_, rfl⟩
  have hvg : varGrad (fun j => ((z j : ℝ) : EReal)) (fun j => ((y j : ℝ) : EReal)) = ((q * (-(1 / 2) * (r * r * r)) / 2048 : ℝ) : EReal) := by
    unfold varGrad
    rw [hrstd, hvar, hdiv, negHalf_eq]
    simp only [hcen, ← EReal.coe_mul]
    rw [sum_real, ← hq, ← EReal.coe_mul, div_nF]
  have hpre : ∀ j, preGrad (fun j => ((z j : ℝ) : EReal)) (fun j => ((y j : ℝ) : EReal)) j
      = ((y j * r - c j * (q * (r * r * r) / 2048) : ℝ) : EReal) := fun j => by
    unfold preGrad
    rw [hvg, hrstd, hcen]
    simp only [← EReal.coe_mul, ← EReal.coe_add]
    congr 1
    ring
  have hsp : ∑ j, -(y j * r - c j * (q * (r * r * r) / 2048)) = -((∑ j, y j) * r) := by
    rw [Finset.sum_neg_distrib, Finset.sum_sub_distrib, ← Finset.sum_mul, ← Finset.sum_mul, hsum]
    ring
  have hq' : ∑ j, y j * (c j * r) = q * r := by
    rw [hq, Finset.sum_mul]
    exact Finset.sum_congr rfl fun j _ => by ring
  unfold kerGrad refGrad
  simp only [hpre, hrstd, hcen, mean_real, ← EReal.coe_mul, ← EReal.coe_sub, ← EReal.coe_neg]
  rw [sum_real, div_nF, hsp, hq', ← EReal.coe_add]
  congr 1
  ring

/-- On finite numbers the two forms are equal. -/
theorem grad_eq (z y : Fin 2048 → EReal) (hz : ∀ j, z j ≠ ⊤ ∧ z j ≠ ⊥) (hy : ∀ j, y j ≠ ⊤ ∧ y j ≠ ⊥) (j : Fin 2048) : kerGrad z y j = refGrad z y j := by
  rw [show z = fun j => (((z j).toReal : ℝ) : EReal) from funext fun j => (EReal.coe_toReal (hz j).1 (hz j).2).symm,
    show y = fun j => (((y j).toReal : ℝ) : EReal) from funext fun j => (EReal.coe_toReal (hy j).1 (hy j).2).symm]
  exact grad_real _ _ j

/-- The sum of each column of a block, kept as a row. -/
theorem down_apply {R : ℕ} (v : (⟨2, ![R, 2048]⟩ : Shape).Idx → EReal) (acc : BitVec 32)
    (h : (⟨2, ![R, 2048]⟩ : Shape).Reduces [0] (⟨1, ![2048]⟩ : Shape)) (hφ : FKind.Formats .f32) (hacc : acc = FKind.add.neutral .f32 hφ)
    (hc : (⟨1, ![2048]⟩ : Shape).ShapeCasts (⟨2, ![1, 2048]⟩ : Shape)) (j : Fin 2048) :
    shapeCast (⟨2, ![1, 2048]⟩ : Shape) (multiReduction (F := Ideal) (φ := .f32) .add [0] (⟨1, ![2048]⟩ : Shape) v acc h hφ hacc) hc (ix2 0 j)
      = ∑ i : Fin R, v (ix2 i j) := by
  refine (asRow_apply _ hc j).trans ((Ideal.multiReduction_add_single v acc h hφ hacc _).trans (Finset.sum_congr rfl fun k _ => congrArg v ?_))
  funext b
  match b with
  | ⟨0, _⟩ => rfl
  | ⟨1, _⟩ => rfl

/-- A sum over 2048 rows as a sum over eight blocks of 256. -/
theorem sum_blocks {N : ℕ} (hN : N = 8) (f : Fin 2048 → EReal) :
    ∑ s, f s = ∑ p : Fin N, ∑ i : Fin 256, f ⟨256 * p.val + i.val, by have := p.isLt; omega⟩ := by
  subst hN
  rw [← Fintype.sum_prod_type' (f := fun (p : Fin 8) (i : Fin 256) => f ⟨256 * p.val + i.val, by omega⟩)]
  exact (Fintype.sum_equiv (finProdFinEquiv (m := 8) (n := 256)) _ _ fun x => congrArg f (Fin.ext (by show 256 * x.1.val + x.2.val = x.2.val + 256 * x.1.val; omega))).symm

/-- The short form over a block: from the normalised block, the reciprocal deviations and the scaled gradient. -/
theorem ker_apply {R : ℕ} (x y : FVec Ideal (⟨2, ![R, 2048]⟩ : Shape) .f32) (r : FVec Ideal (⟨2, ![R, 1]⟩ : Shape) .f32) (z : Fin 2048 → EReal) (acc acc' : BitVec 32)
    (h : (⟨2, ![R, 2048]⟩ : Shape).Reduces [1] (⟨1, ![R]⟩ : Shape)) (hφ : FKind.Formats .f32) (hacc : acc = FKind.add.neutral .f32 hφ)
    (hacc' : acc' = FKind.add.neutral .f32 hφ)
    (hc : (⟨1, ![R]⟩ : Shape).ShapeCasts (⟨2, ![R, 1]⟩ : Shape)) (hb : (⟨2, ![R, 1]⟩ : Shape).Broadcasts (⟨2, ![R, 2048]⟩ : Shape)) (i : Fin R) (j : Fin 2048)
    (hx : ∀ j, x (ix2 i j) = cen z j * rstd z) (hr : r (ix2 i 0) = rstd z) :
    mulf (broadcastTo (⟨2, ![R, 2048]⟩ : Shape) r hb) (subf
        (subf y (broadcastTo (⟨2, ![R, 2048]⟩ : Shape) (divf (shapeCast (⟨2, ![R, 1]⟩ : Shape) (multiReduction (F := Ideal) (φ := .f32) .add [1] (⟨1, ![R]⟩ : Shape) y acc h hφ hacc) hc)
          (broadcast (⟨2, ![R, 1]⟩ : Shape) (Scalar.ofBits .f32 0x45000000#32))) hb))
        (mulf x (broadcastTo (⟨2, ![R, 2048]⟩ : Shape) (divf (shapeCast (⟨2, ![R, 1]⟩ : Shape) (multiReduction (F := Ideal) (φ := .f32) .add [1] (⟨1, ![R]⟩ : Shape) (mulf y x) acc' h hφ hacc') hc)
          (broadcast (⟨2, ![R, 1]⟩ : Shape) (Scalar.ofBits .f32 0x45000000#32))) hb))) (ix2 i j)
      = kerGrad z (fun j => y (ix2 i j)) j := by
  rw [mulf_apply, subf_apply, subf_apply, mulf_apply, spread_apply, spread_apply, spread_apply, divf_apply, divf_apply, col_apply, col_apply, hr, hx]
  unfold kerGrad
  refine congrArg (rstd z * ·) (congrArg₂ _ rfl (congrArg (cen z j * rstd z * ·) (congrArg (Ideal.div · nF) (Finset.sum_congr rfl fun k _ => ?_))))
  rw [mulf_apply, hx]

/-- The product of real numbers is a real number. -/
theorem mul_finite {a b : EReal} (ha : a ≠ ⊤ ∧ a ≠ ⊥) (hb : b ≠ ⊤ ∧ b ≠ ⊥) : a * b ≠ ⊤ ∧ a * b ≠ ⊥ := by
  rw [← EReal.coe_toReal ha.1 ha.2, ← EReal.coe_toReal hb.1 hb.2, ← EReal.coe_mul]
  exact ⟨EReal.coe_ne_top _, EReal.coe_ne_bot _⟩

/-- A sum from zero. -/
theorem from_zero {a b : EReal} (h : a = 0) : a + b = b := by rw [h, zero_add]

/-- A square array's row. -/
def row (z : (⟨2, ![2048, 2048]⟩ : Shape).Idx → EReal) (s : Fin 2048) : Fin 2048 → EReal := fun j => z (ix2 s j)

/-- The gradient of the layer norm's input. -/
def dzSpec (d z : (⟨2, ![2048, 2048]⟩ : Shape).Idx → EReal) (g : (⟨1, ![2048]⟩ : Shape).Idx → EReal) : (⟨2, ![2048, 2048]⟩ : Shape).Idx → EReal :=
  fun i => kerGrad (row z (i 0)) (fun j => d (ix2 (i 0) j) * g (ix1 j)) (i 1)

/-- The gradient of the gain, as one row. -/
def dgSpec (d z : (⟨2, ![2048, 2048]⟩ : Shape).Idx → EReal) : (⟨2, ![1, 2048]⟩ : Shape).Idx → EReal :=
  fun i => ∑ s : Fin 2048, d (ix2 s (i 1)) * (cen (row z s) (i 1) * rstd (row z s))

/-- The gradient of the shift, as one row. -/
def dbSpec (d : (⟨2, ![2048, 2048]⟩ : Shape).Idx → EReal) : (⟨2, ![1, 2048]⟩ : Shape).Idx → EReal :=
  fun i => ∑ s : Fin 2048, d (ix2 s (i 1))

/-- One block's part of the gain's gradient. -/
def dgStep (d z : (⟨2, ![2048, 2048]⟩ : Shape).Idx → EReal) {N : ℕ} (hN : N = 8) (p : Fin N) (j : Fin 2048) : EReal :=
  ∑ i : Fin 256, d (ix2 ⟨256 * p.val + i.val, by have := p.isLt; omega⟩ j)
    * (cen (row z ⟨256 * p.val + i.val, by have := p.isLt; omega⟩) j * rstd (row z ⟨256 * p.val + i.val, by have := p.isLt; omega⟩))

/-- One block's part of the shift's gradient. -/
def dbStep (d : (⟨2, ![2048, 2048]⟩ : Shape).Idx → EReal) {N : ℕ} (hN : N = 8) (p : Fin N) (j : Fin 2048) : EReal :=
  ∑ i : Fin 256, d (ix2 ⟨256 * p.val + i.val, by have := p.isLt; omega⟩ j)

/-- The blocks' parts add up to the gain's gradient. -/
theorem dg_steps (d z : (⟨2, ![2048, 2048]⟩ : Shape).Idx → EReal) {N : ℕ} (hN : N = 8) (j : Fin 2048) :
    ∑ p, dgStep d z hN p j = dgSpec d z (ix2 0 j) :=
  (sum_blocks hN fun s => d (ix2 s j) * (cen (row z s) j * rstd (row z s))).symm

/-- The blocks' parts add up to the shift's gradient. -/
theorem db_steps (d : (⟨2, ![2048, 2048]⟩ : Shape).Idx → EReal) {N : ℕ} (hN : N = 8) (j : Fin 2048) :
    ∑ p, dbStep d hN p j = dbSpec d (ix2 0 j) :=
  (sum_blocks hN fun s => d (ix2 s j)).symm

end Cert.Norm

end
-- ==== Proof.LnBwd.lean ====
/- The gradient of the layer norm: the kernel's program and the reference's end at the same arrays. -/
module

public import proofs.«01_k».proof.Proof.Gen.LnBwdIdeal.Value
public import proofs.«01_k».proof.Proof.Gen.LnBwdRefIdeal.Run
public import proofs.«01_k».proof.Proof.Gen.LnBwdRefIdeal.Read
public import proofs.«01_k».proof.Proof.Products
public import proofs.«01_k».proof.Proof.NormGrad
public import Idealize.ShloMosaic.Lib.Pointwise
public import Idealize.ShloMosaic.Lib.Pipeline.ValueKit

@[expose] public section

set_option maxRecDepth 16384

noncomputable section

namespace Cert.LnBwdClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products Cert.Norm
open Cert.LnBwdIdeal Cert.LnBwdIdeal.Gen
open scoped BigOperators

/-- Three arrays of real numbers. -/
def Finite (d z : S2048x2048.Idx → EReal) (g : S2048.Idx → EReal) : Prop :=
  (∀ i, d i ≠ ⊤ ∧ d i ≠ ⊥) ∧ (∀ i, z i ≠ ⊤ ∧ z i ≠ ⊥) ∧ ∀ i, g i ≠ ⊤ ∧ g i ≠ ⊥

/-- The gradient of the layer norm's input. -/
def R0 (d z : S2048x2048.Idx → EReal) (g : S2048.Idx → EReal) : S2048x2048.Idx → EReal := dzSpec d z g

/-- The same gradient, which the kernel also leaves in the narrower format. -/
def R1 (d z : S2048x2048.Idx → EReal) (g : S2048.Idx → EReal) : S2048x2048.Idx → EReal := dzSpec d z g

/-- The gradient of the gain. -/
def R2 (d z : S2048x2048.Idx → EReal) : S1x2048.Idx → EReal := dgSpec d z

/-- The gradient of the shift. -/
def R3 (d : S2048x2048.Idx → EReal) : S1x2048.Idx → EReal := dbSpec d

/-- One block less its rows' means. -/
theorem pay5_apply (z : Vec Ideal S256x2048 .f32) (i : Fin 256) (j : Fin 2048) : k0_pay5 (F := Ideal) z (ix2 i j) = cen (fun j => z (ix2 i j)) j := by
  unfold k0_pay5
  exact cen_apply z _ _ _ _ _ _ i j

/-- One block's reciprocal standard deviations. -/
theorem pay6_apply (z : Vec Ideal S256x2048 .f32) (i : Fin 256) : k0_pay6 (F := Ideal) z (ix2 i 0) = rstd (fun j => z (ix2 i j)) := by
  unfold k0_pay6
  exact rstd_apply _ _ _ _ _ _ _ i fun j => pay5_apply z i j

/-- One block, normalised. -/
theorem pay7_apply (z : Vec Ideal S256x2048 .f32) (i : Fin 256) (j : Fin 2048) :
    k0_pay7 (F := Ideal) z (ix2 i j) = cen (fun j => z (ix2 i j)) j * rstd (fun j => z (ix2 i j)) := by
  unfold k0_pay7
  rw [mulf_apply]
  exact congrArg₂ _ (pay5_apply z i j) ((spread_apply _ _ i j).trans (pay6_apply z i))

/-- One block of the gradient. -/
theorem pay8_apply (z d : Vec Ideal S256x2048 .f32) (g : Vec Ideal S1x2048 .f32) (i : Fin 256) (j : Fin 2048) :
    k0_pay8 (F := Ideal) z d g (ix2 i j) = kerGrad (fun j => z (ix2 i j)) (fun j => (d (ix2 i j) : EReal) * g (ix2 0 j)) j := by
  unfold k0_pay8
  refine (ker_apply _ _ _ _ _ _ _ _ _ _ _ _ i j (fun j => pay7_apply z i j) (pay6_apply z i)).trans ?_
  refine congrArg (fun y => kerGrad _ y j) (funext fun j => ?_)
  rw [mulf_apply]
  exact congrArg ((d (ix2 i j) : EReal) * ·) (row_apply _ _ _ i j)

/-- The narrower block of the gradient. -/
theorem pay9_apply (z d : Vec Ideal S256x2048 .f32) (g : Vec Ideal S1x2048 .f32) (i : Fin 256) (j : Fin 2048) :
    k0_pay9 (F := Ideal) z d g (ix2 i j) = kerGrad (fun j => z (ix2 i j)) (fun j => (d (ix2 i j) : EReal) * g (ix2 0 j)) j := by
  unfold k0_pay9
  rw [truncf_apply]
  exact pay8_apply z d g i j

/-- One step of the gain's gradient. -/
theorem pay3_apply (x d : Vec Ideal S256x2048 .f32) (a : Vec Ideal S1x2048 .f32) (j : Fin 2048) :
    k0_pay3 (F := Ideal) x d a (ix2 0 j) = (a (ix2 0 j) : EReal) + ∑ i : Fin 256, (d (ix2 i j) : EReal) * x (ix2 i j) := by
  unfold k0_pay3
  rw [addf_apply, shapeCast_self]
  exact congrArg ((a (ix2 0 j) : EReal) + ·) ((down_apply _ _ _ _ _ _ j).trans (Finset.sum_congr rfl fun i _ => mulf_apply _ _ _))

/-- One step of the shift's gradient. -/
theorem pay4_apply (d : Vec Ideal S256x2048 .f32) (a : Vec Ideal S1x2048 .f32) (j : Fin 2048) :
    k0_pay4 (F := Ideal) d a (ix2 0 j) = (a (ix2 0 j) : EReal) + ∑ i : Fin 256, (d (ix2 i j) : EReal) := by
  unfold k0_pay4
  rw [addf_apply, shapeCast_self]
  exact congrArg ((a (ix2 0 j) : EReal) + ·) (down_apply _ _ _ _ _ _ j)

/-- The gain's gradient starts from zero. -/
theorem pay1_apply (j : Fin 2048) : k0_pay1 (F := Ideal) (ix2 0 j) = 0 := Ideal.ofBits_zero_f32

/-- The shift's gradient starts from zero. -/
theorem pay2_apply (j : Fin 2048) : k0_pay2 (F := Ideal) (ix2 0 j) = 0 := Ideal.ofBits_zero_f32

variable (m : (ℓ : Loc nD τ sig) → Buf (Elt Ideal) ℓ) (c : Dev nD)

/-- The gain as the call takes it. -/
theorem V_g : V m c main_v0 = shapeCast S1x2048 (m ((c : Thread nD τ).loc main_arg2)) shapeCasts_S2048_S1x2048 := rfl

/-- The block of window 0 at a grid point. -/
theorem idx0 : ∀ t : Fin cfg0.N, win0_0.index t = ![t.val, 0] := (by decide +kernel : ∀ t : Fin grid0.N, _)
/-- The block of window 1 at a grid point. -/
theorem idx1 : ∀ t : Fin cfg0.N, win0_1.index t = ![t.val, 0] := (by decide +kernel : ∀ t : Fin grid0.N, _)
/-- The block of window 2 at a grid point. -/
theorem idx2 : ∀ t : Fin cfg0.N, win0_2.index t = ![0, 0] := (by decide +kernel : ∀ t : Fin grid0.N, _)
/-- The block of window 3 at a grid point. -/
theorem idx3 : ∀ t : Fin cfg0.N, win0_3.index t = ![t.val, 0] := (by decide +kernel : ∀ t : Fin grid0.N, _)
/-- The block of window 4 at a grid point. -/
theorem idx4 : ∀ t : Fin cfg0.N, win0_4.index t = ![t.val, 0] := (by decide +kernel : ∀ t : Fin grid0.N, _)
/-- The block of window 5 at a grid point. -/
theorem idx5 : ∀ t : Fin cfg0.N, win0_5.index t = ![0, 0] := (by decide +kernel : ∀ t : Fin grid0.N, _)
/-- The block of window 6 at a grid point. -/
theorem idx6 : ∀ t : Fin cfg0.N, win0_6.index t = ![0, 0] := (by decide +kernel : ∀ t : Fin grid0.N, _)

/-- The number of grid points. -/
theorem t_lt (t : Fin cfg0.N) : t.val < 8 := by have := t.isLt; have h : cfg0.N = 8 := N_0; omega

/-- The block of the incoming gradient. -/
theorem iblk0 (t : Fin cfg0.N) (i : Fin 256) (j : Fin 2048) :
    (iblk m c 0 t : S256x2048.Idx → EReal) (ix2 i j) = m ((c : Thread nD τ).loc main_arg0) (ix2 ⟨256 * t.val + i.val, by have := t_lt t; omega⟩ j) := by
  blk_simp [iblk]
  exact congrArg (m ((c : Thread nD τ).loc main_arg0)) (by blk_ext [idx0])

/-- The block of the layer norm's input. -/
theorem iblk1 (t : Fin cfg0.N) (i : Fin 256) (j : Fin 2048) :
    (iblk m c 1 t : S256x2048.Idx → EReal) (ix2 i j) = m ((c : Thread nD τ).loc main_arg1) (ix2 ⟨256 * t.val + i.val, by have := t_lt t; omega⟩ j) := by
  blk_simp [iblk]
  exact congrArg (m ((c : Thread nD τ).loc main_arg1)) (by blk_ext [idx1])

/-- The gain. -/
theorem iblk2 (t : Fin cfg0.N) (j : Fin 2048) : (iblk m c 2 t : S1x2048.Idx → EReal) (ix2 0 j) = m ((c : Thread nD τ).loc main_arg2) (ix1 j) := by
  blk_simp [iblk]
  show V m c main_v0 _ = _
  rw [V_g]
  exact (congrArg (shapeCast S1x2048 (m ((c : Thread nD τ).loc main_arg2)) shapeCasts_S2048_S1x2048) (by blk_ext [idx2] : _ = (ix2 0 j : S1x2048.Idx))).trans (asRow_apply _ _ j)

/-- What a grid point leaves in window 3. -/
theorem out3 (t : Fin cfg0.N) : (outsAt0 m c t.val t.isLt).1 = k0_pay8 (F := Ideal) (iblk m c 1 t) (iblk m c 0 t) (iblk m c 2 t) := by
  by_cases h : t.val % 8 = 0
  · rw [outsAt0_A m c t h]
    frame_out
  · rw [outsAt0_B m c t h]
    frame_out

/-- What a grid point leaves in window 4. -/
theorem out4 (t : Fin cfg0.N) : (outsAt0 m c t.val t.isLt).2.1 = k0_pay9 (F := Ideal) (iblk m c 1 t) (iblk m c 0 t) (iblk m c 2 t) := by
  by_cases h : t.val % 8 = 0
  · rw [outsAt0_A m c t h]
    frame_out
  · rw [outsAt0_B m c t h]
    frame_out

/-- The block of the gradient is that part of the whole gradient. -/
theorem blk_apply (t : Fin cfg0.N) (i : Fin 256) (j : Fin 2048) :
    kerGrad (fun j => (iblk m c 1 t : S256x2048.Idx → EReal) (ix2 i j)) (fun j => (fun a b : EReal => a * b) ((iblk m c 0 t : S256x2048.Idx → EReal) (ix2 i j)) ((iblk m c 2 t : S1x2048.Idx → EReal) (ix2 0 j))) j
      = dzSpec (m ((c : Thread nD τ).loc main_arg0)) (m ((c : Thread nD τ).loc main_arg1)) (m ((c : Thread nD τ).loc main_arg2)) (ix2 ⟨256 * t.val + i.val, by have := t_lt t; omega⟩ j) := by
  unfold dzSpec row
  refine congrArg₂ (fun z y => kerGrad z y j) (funext fun j => iblk1 m c t i j) (funext fun j => ?_)
  exact congrArg₂ (fun a b : EReal => a * b) (iblk0 m c t i j) (iblk2 m c t j)

/-- The array of window 3 after the call. -/
theorem final3 : (dats m 0 c).arrAt 3 cfg0.N = R0 (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i, j, rfl⟩ : ∃ (i : Fin 256) (j : Fin 2048), y = ix2 i j := ⟨y 0, y 1, eq_ix2 y⟩
  have e0 : ((win0_3.blk t).view.emb (ix2 i j) : S2048x2048.Idx) = ix2 ⟨256 * t.val + i.val, by have := t_lt t; omega⟩ j := by
    blk_ext [idx3]
  blk_simp
  rw [after0_3, out3]
  exact ((pay8_apply _ _ _ i j).trans (blk_apply m c t i j)).trans (congrArg (R0 _ _ _) e0).symm

/-- The array of window 4 after the call. -/
theorem final4 : (dats m 0 c).arrAt 4 cfg0.N = R1 (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨i, j, rfl⟩ : ∃ (i : Fin 256) (j : Fin 2048), y = ix2 i j := ⟨y 0, y 1, eq_ix2 y⟩
  have e0 : ((win0_4.blk t).view.emb (ix2 i j) : S2048x2048.Idx) = ix2 ⟨256 * t.val + i.val, by have := t_lt t; omega⟩ j := by
    blk_ext [idx4]
  blk_simp
  rw [after0_4, out4]
  exact ((pay9_apply _ _ _ i j).trans (blk_apply m c t i j)).trans (congrArg (R1 _ _ _) e0).symm

/-- One grid point adds its part to the gain's gradient. -/
theorem add5 (t : Fin cfg0.N) (a : Vec Ideal S1x2048 .f32) (j : Fin 2048) :
    k0_pay3 (F := Ideal) (k0_pay7 (F := Ideal) (iblk m c 1 t)) (iblk m c 0 t) a (ix2 0 j) = (a (ix2 0 j) : EReal) + dgStep (m ((c : Thread nD τ).loc main_arg0)) (m ((c : Thread nD τ).loc main_arg1)) N_0 t j := by
  rw [pay3_apply]
  refine congrArg ((a (ix2 0 j) : EReal) + ·) (Finset.sum_congr rfl fun i _ => ?_)
  rw [pay7_apply]
  exact congrArg₂ (fun a b : EReal => a * b) (iblk0 m c t i j) (congrArg₂ (fun z z' => cen z j * rstd z') (funext fun j => iblk1 m c t i j) (funext fun j => iblk1 m c t i j))

/-- What the last grid point leaves in window 5: the sum over the grid points. -/
theorem sum5 (t : Fin cfg0.N) (ht : t.val + 1 = cfg0.N) (j : Fin 2048) :
    (outsAt0 m c t.val t.isLt).2.2.1 (ix2 0 j) = ∑ p : Fin cfg0.N, dgStep (m ((c : Thread nD τ).loc main_arg0)) (m ((c : Thread nD τ).loc main_arg1)) N_0 p j := by
  have h := Pipeline.eq_sum_fin_of_reset_step_apply_last (ι := Fin 2048) (M := EReal) (fun n h j => (outsAt0 m c n h).2.2.1 (ix2 0 j)) 8 (fun _ => 0)
    (dgStep (m ((c : Thread nD τ).loc main_arg0)) (m ((c : Thread nD τ).loc main_arg1)) N_0)
    (fun t h j => by
      rw [outsAt0_A m c t h]
      frame_out
      exact (add5 m c t _ j).trans (congrArg (· + _) (pay1_apply j)))
    (fun t h j => by
      rw [outsAt0_B m c t h]
      frame_out
      exact add5 m c t _ j)
    (le_of_eq N_0) t ht j
  rw [zero_add] at h
  exact h

/-- The array of window 5 after the call. -/
theorem final5 : (dats m 0 c).arrAt 5 cfg0.N = R2 (m ((c : Thread nD τ).loc main_arg0)) (m ((c : Thread nD τ).loc main_arg1)) := by
  refine (dats m 0 c).arrAt_eq_of_covers 5 _ (by decide +kernel) fun t hf y => ?_
  obtain ⟨j, rfl⟩ : ∃ j : Fin 2048, y = ix2 0 j := ⟨y 1, by funext b; match b with | ⟨0, _⟩ => exact Subsingleton.elim (α := Fin 1) _ _ | ⟨1, _⟩ => rfl⟩
  have e0 : ((win0_5.blk t).view.emb (ix2 0 j) : S1x2048.Idx) = ix2 0 j := by
    blk_ext [idx5]
  have h7 := (flush0_5 t).mp hf
  have hN : cfg0.N = 8 := N_0
  have ht := t_lt t
  blk_simp
  rw [after0_5, sum5 m c t (by omega)]
  refine Eq.trans ?_ (congrArg (R2 _ _) e0).symm
  exact dg_steps _ _ N_0 j

/-- One grid point adds its part to the shift's gradient. -/
theorem add6 (t : Fin cfg0.N) (a : Vec Ideal S1x2048 .f32) (j : Fin 2048) :
    k0_pay4 (F := Ideal) (iblk m c 0 t) a (ix2 0 j) = (a (ix2 0 j) : EReal) + dbStep (m ((c : Thread nD τ).loc main_arg0)) N_0 t j := by
  rw [pay4_apply]
  refine congrArg ((a (ix2 0 j) : EReal) + ·) (Finset.sum_congr rfl fun i _ => ?_)
  exact iblk0 m c t i j

/-- What the last grid point leaves in window 6: the sum over the grid points. -/
theorem sum6 (t : Fin cfg0.N) (ht : t.val + 1 = cfg0.N) (j : Fin 2048) :
    (outsAt0 m c t.val t.isLt).2.2.2 (ix2 0 j) = ∑ p : Fin cfg0.N, dbStep (m ((c : Thread nD τ).loc main_arg0)) N_0 p j := by
  have h := Pipeline.eq_sum_fin_of_reset_step_apply_last (ι := Fin 2048) (M := EReal) (fun n h j => (outsAt0 m c n h).2.2.2 (ix2 0 j)) 8 (fun _ => 0)
    (dbStep (m ((c : Thread nD τ).loc main_arg0)) N_0)
    (fun t h j => by
      rw [outsAt0_A m c t h]
      frame_out
      exact (add6 m c t _ j).trans (congrArg (· + _) (pay2_apply j)))
    (fun t h j => by
      rw [outsAt0_B m c t h]
      frame_out
      exact add6 m c t _ j)
    (le_of_eq N_0) t ht j
  rw [zero_add] at h
  exact h

/-- The array of window 6 after the call. -/
theorem final6 : (dats m 0 c).arrAt 6 cfg0.N = R3 (m ((c : Thread nD τ).loc main_arg0)) := by
  refine (dats m 0 c).arrAt_eq_of_covers 6 _ (by decide +kernel) fun t hf y => ?_
  obtain ⟨j, rfl⟩ : ∃ j : Fin 2048, y = ix2 0 j := ⟨y 1, by funext b; match b with | ⟨0, _⟩ => exact Subsingleton.elim (α := Fin 1) _ _ | ⟨1, _⟩ => rfl⟩
  have e0 : ((win0_6.blk t).view.emb (ix2 0 j) : S1x2048.Idx) = ix2 0 j := by
    blk_ext [idx6]
  have h7 := (flush0_6 t).mp hf
  have hN : cfg0.N = 8 := N_0
  have ht := t_lt t
  blk_simp
  rw [after0_6, sum6 m c t (by omega)]
  refine Eq.trans ?_ (congrArg (R3 _) e0).symm
  exact db_steps _ N_0 j

/-- The reference's mean of a row. -/
theorem ref_mean (z : S2048x2048.Idx → EReal) (i : Cert.LnBwdRefIdeal.S2048x1.Idx) : Cert.LnBwdRefIdeal.Read.val_main_v4 (F := Ideal) z i = mean (row z (i 0)) := by
  rw [Cert.LnBwdRefIdeal.Read.val_main_v4_apply, Cert.LnBwdRefIdeal.Read.val_main_v2_apply, Cert.LnBwdRefIdeal.Read.val_main_v1_apply, Cert.LnBwdRefIdeal.Read.val_main_v3_apply]
  refine congrArg (Ideal.div · nF) ((from_zero Ideal.ofBits_zero_f32).trans ?_)
  exact Finset.sum_congr rfl fun k _ => congrArg z (by funext b; match b with | ⟨0, _⟩ => rfl | ⟨1, _⟩ => rfl)

/-- The reference's centred rows. -/
theorem ref_cen (z : S2048x2048.Idx → EReal) (i : S2048x2048.Idx) : Cert.LnBwdRefIdeal.Read.val_main_v6 (F := Ideal) z i = cen (row z (i 0)) (i 1) := by
  rw [Cert.LnBwdRefIdeal.Read.val_main_v6_apply, Cert.LnBwdRefIdeal.Read.val_main_v5_apply, ref_mean]
  exact congrArg (· - mean (row z (i 0))) (congrArg z (eq_ix2 i))

/-- The reference's variances. -/
theorem ref_var (z : S2048x2048.Idx → EReal) (i : Cert.LnBwdRefIdeal.S2048x1.Idx) : Cert.LnBwdRefIdeal.Read.val_main_v13 (F := Ideal) z i = var (row z (i 0)) := by
  rw [Cert.LnBwdRefIdeal.Read.val_main_v13_apply, Cert.LnBwdRefIdeal.Read.val_main_v12_apply, Cert.LnBwdRefIdeal.Read.val_main_v11_apply, Cert.LnBwdRefIdeal.Read.val_main_v10_apply, Cert.LnBwdRefIdeal.Read.val_main_v9_apply, Cert.LnBwdRefIdeal.Read.val_main_v8_apply]
  refine congrArg (· + eps) (congrArg (Ideal.div · nF) ((from_zero Ideal.ofBits_zero_f32).trans ?_))
  refine Finset.sum_congr rfl fun k _ => ?_
  rw [Cert.LnBwdRefIdeal.Read.val_main_v7_apply, ref_cen]
  rfl

/-- The reference's reciprocal standard deviations. -/
theorem ref_rstd (z : S2048x2048.Idx → EReal) (i : Cert.LnBwdRefIdeal.S2048x1.Idx) : Cert.LnBwdRefIdeal.Read.val_main_v14 (F := Ideal) z i = rstd (row z (i 0)) := by
  rw [Cert.LnBwdRefIdeal.Read.val_main_v14_apply, ref_var]
  rfl

/-- The incoming gradient in its rows. -/
theorem ref_d (d : S2048x2048.Idx → EReal) (i : S2048x2048.Idx) : Cert.LnBwdRefIdeal.Read.val_main_v26 (F := Ideal) d i = d i := by
  rw [Cert.LnBwdRefIdeal.Read.val_main_v26_apply]
  refine congrArg (d) (funext fun b => ?_)
  have h0 : (i 0).val < 2048 := (i 0).isLt
  have h1 : (i 1).val < 2048 := (i 1).isLt
  match b with
  | ⟨0, _⟩ => exact Fin.ext (by show ((i 0).val * 2048 + (i 1).val) / 2048 = (i 0).val; omega)
  | ⟨1, _⟩ => exact Fin.ext (by show ((i 0).val * 2048 + (i 1).val) % 2048 = (i 1).val; omega)

/-- The incoming gradient times the gain. -/
theorem ref_y (d : S2048x2048.Idx → EReal) (g : S2048.Idx → EReal) (i : S2048x2048.Idx) : Cert.LnBwdRefIdeal.Read.val_main_v34 (F := Ideal) d g i = d (ix2 (i 0) (i 1)) * g (ix1 (i 1)) := by
  rw [Cert.LnBwdRefIdeal.Read.val_main_v34_apply, ref_d, Cert.LnBwdRefIdeal.Read.val_main_v33_apply, Cert.LnBwdRefIdeal.Read.val_main_v20_apply]
  exact congrArg₂ _ (congrArg (d) (eq_ix2 i)) (congrArg g (by funext b; match b with | ⟨0, _⟩ => rfl))

/-- The reference's gradient through the variance. -/
theorem ref_varGrad (d : S2048x2048.Idx → EReal) (z : S2048x2048.Idx → EReal) (g : S2048.Idx → EReal) (i : Cert.LnBwdRefIdeal.S2048x1.Idx) : Cert.LnBwdRefIdeal.Read.val_main_v43 (F := Ideal) d z g i = varGrad (row z (i 0)) (fun j => d (ix2 (i 0) j) * g (ix1 j)) := by
  rw [Cert.LnBwdRefIdeal.Read.val_main_v43_apply, Cert.LnBwdRefIdeal.Read.val_main_v42_apply, Cert.LnBwdRefIdeal.Read.val_main_v41_apply, Cert.LnBwdRefIdeal.Read.val_main_v17_apply, Cert.LnBwdRefIdeal.Read.val_main_v16_apply, Cert.LnBwdRefIdeal.Read.val_main_v15_apply, ref_rstd, ref_var, Cert.LnBwdRefIdeal.Read.val_main_v38_apply, Cert.LnBwdRefIdeal.Read.val_main_v37_apply]
  refine congrArg (Ideal.div · nF) (congrArg (· * (negHalf * Ideal.div (rstd (row z (i 0))) (var (row z (i 0))))) ((from_zero Ideal.ofBits_zero_f32).trans ?_))
  refine Finset.sum_congr rfl fun k _ => ?_
  have e : (Cert.LnBwdRefIdeal.Read.idx_main_v38 i 0 : Fin 2048) = i 0 := by
    have h1 : (i 1).val < 1 := (i 1).isLt
    exact Fin.ext (by show (i 0).val * 1 + (i 1).val = (i 0).val; omega)
  rw [Cert.LnBwdRefIdeal.Read.val_main_v36_apply, ref_cen, ref_y]
  exact congrArg (fun a : Fin 2048 => cen (row z a) k * (d (ix2 a k) * g (ix1 k))) e

/-- The same, spread over the rows. -/
theorem ref_spread (d : S2048x2048.Idx → EReal) (z : S2048x2048.Idx → EReal) (g : S2048.Idx → EReal) (i : S2048x2048.Idx) : Cert.LnBwdRefIdeal.Read.val_main_v45 (F := Ideal) d z g i = varGrad (row z (i 0)) (fun j => d (ix2 (i 0) j) * g (ix1 j)) := by
  rw [Cert.LnBwdRefIdeal.Read.val_main_v45_apply, Cert.LnBwdRefIdeal.Read.val_main_v44_apply]
  refine (from_zero Ideal.ofBits_zero_f32).trans ?_
  rw [Fin.sum_univ_one, ref_varGrad]
  rfl

/-- The reference's gradient before the mean is taken off. -/
theorem ref_pre (d : S2048x2048.Idx → EReal) (z : S2048x2048.Idx → EReal) (g : S2048.Idx → EReal) (i : S2048x2048.Idx) : Cert.LnBwdRefIdeal.Read.val_main_v49 (F := Ideal) d z g i = preGrad (row z (i 0)) (fun j => d (ix2 (i 0) j) * g (ix1 j)) (i 1) := by
  rw [Cert.LnBwdRefIdeal.Read.val_main_v49_apply, Cert.LnBwdRefIdeal.Read.val_main_v48_apply, Cert.LnBwdRefIdeal.Read.val_main_v47_apply, Cert.LnBwdRefIdeal.Read.val_main_v46_apply, Cert.LnBwdRefIdeal.Read.val_main_v40_apply, Cert.LnBwdRefIdeal.Read.val_main_v39_apply, ref_spread, ref_rstd, ref_cen, ref_y]
  rfl

/-- The reference's gradient of the layer norm's input. -/
theorem ref_grad (d : S2048x2048.Idx → EReal) (z : S2048x2048.Idx → EReal) (g : S2048.Idx → EReal) (i : S2048x2048.Idx) : Cert.LnBwdRefIdeal.Read.val_main_v57 (F := Ideal) d z g i = refGrad (row z (i 0)) (fun j => d (ix2 (i 0) j) * g (ix1 j)) (i 1) := by
  rw [Cert.LnBwdRefIdeal.Read.val_main_v57_apply, Cert.LnBwdRefIdeal.Read.val_main_v56_apply, Cert.LnBwdRefIdeal.Read.val_main_v55_apply, ref_pre]
  refine congrArg (preGrad (row z (i 0)) (fun j => d (ix2 (i 0) j) * g (ix1 j)) (i 1) + ·) ((from_zero Ideal.ofBits_zero_f32).trans ?_)
  rw [Fin.sum_univ_one, Cert.LnBwdRefIdeal.Read.val_main_v54_apply, Cert.LnBwdRefIdeal.Read.val_main_v53_apply, Cert.LnBwdRefIdeal.Read.val_main_v52_apply, Cert.LnBwdRefIdeal.Read.val_main_v51_apply]
  refine congrArg (Ideal.div · nF) ((from_zero Ideal.ofBits_zero_f32).trans ?_)
  refine Finset.sum_congr rfl fun k _ => ?_
  have e : (Cert.LnBwdRefIdeal.Read.idx_main_v52 (Cert.LnBwdRefIdeal.Read.idx_main_v55 (Cert.LnBwdRefIdeal.Read.idx_main_v56 i) 0) 0 : Fin 2048) = i 0 :=
    Fin.ext (by show (i 0).val * 1 + 0 = (i 0).val; omega)
  rw [Cert.LnBwdRefIdeal.Read.val_main_v50_apply, ref_pre]
  exact congrArg (fun a : Fin 2048 => -preGrad (row z a) (fun j => d (ix2 a j) * g (ix1 j)) k) e

/-- The reference's gradient of the gain. -/
theorem ref_dg (d : S2048x2048.Idx → EReal) (z : S2048x2048.Idx → EReal) : Cert.LnBwdRefIdeal.Read.val_main_v59 (F := Ideal) d z = dgSpec (d) z := by
  funext i
  have h0 : (i 0).val < 1 := (i 0).isLt
  have h1 : (i 1).val < 2048 := (i 1).isLt
  rw [Cert.LnBwdRefIdeal.Read.val_main_v59_apply, Cert.LnBwdRefIdeal.Read.val_main_v35_apply]
  refine (from_zero Ideal.ofBits_zero_f32).trans ?_
  rw [Fin.sum_univ_one, Cert.LnBwdRefIdeal.Read.val_main_v32_apply, Cert.LnBwdRefIdeal.Read.val_main_v31_apply]
  refine (from_zero Ideal.ofBits_zero_f32).trans (Finset.sum_congr rfl fun k _ => ?_)
  rw [Cert.LnBwdRefIdeal.Read.val_main_v30_apply, Cert.LnBwdRefIdeal.Read.val_main_v19_apply, Cert.LnBwdRefIdeal.Read.val_main_v18_apply, ref_d, ref_cen, ref_rstd]
  refine (mul_comm _ _).trans (congrArg₂ _ (congrArg (d) (by
    funext b
    match b with
    | ⟨0, _⟩ => rfl
    | ⟨1, _⟩ => exact Fin.ext (by show 0 * 2048 + ((i 0).val * 2048 + (i 1).val) = (i 1).val; omega))) (congrArg₂ _ (congrArg₂ cen rfl (Fin.ext (by show 0 * 2048 + ((i 0).val * 2048 + (i 1).val) = (i 1).val; omega))) rfl))

/-- The reference's gradient of the shift. -/
theorem ref_db (d : S2048x2048.Idx → EReal) : Cert.LnBwdRefIdeal.Read.val_main_v60 (F := Ideal) d = dbSpec (d) := by
  funext i
  have h0 : (i 0).val < 1 := (i 0).isLt
  have h1 : (i 1).val < 2048 := (i 1).isLt
  rw [Cert.LnBwdRefIdeal.Read.val_main_v60_apply, Cert.LnBwdRefIdeal.Read.val_main_v29_apply]
  refine (from_zero Ideal.ofBits_zero_f32).trans ?_
  rw [Fin.sum_univ_one, Cert.LnBwdRefIdeal.Read.val_main_v28_apply, Cert.LnBwdRefIdeal.Read.val_main_v27_apply]
  exact (from_zero Ideal.ofBits_zero_f32).trans (Finset.sum_congr rfl fun k _ => congrArg (d) (by
    funext b
    match b with
    | ⟨0, _⟩ => rfl
    | ⟨1, _⟩ => exact Fin.ext (by show 0 * 2048 + ((i 0).val * 2048 + (i 1).val) = (i 1).val; omega)))

/-- The reference's gradient of the input is the short form, on real numbers. -/
theorem ref_dz (d : S2048x2048.Idx → EReal) (z : S2048x2048.Idx → EReal) (g : S2048.Idx → EReal) (hd : ∀ i, d i ≠ ⊤ ∧ d i ≠ ⊥) (hz : ∀ i, z i ≠ ⊤ ∧ z i ≠ ⊥) (hg : ∀ i, g i ≠ ⊤ ∧ g i ≠ ⊥) :
    Cert.LnBwdRefIdeal.Read.val_main_v57 (F := Ideal) d z g = dzSpec (d) z g :=
  funext fun i => (ref_grad d z g i).trans (grad_eq _ _ (fun _ => hz _) (fun j => mul_finite (hd _) (hg _)) _).symm

/-- The kernel's program ends with the gradients of the layer norm. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1_0) = R0 (m ((c.tc : Thread nD τ).loc main_arg0)) (m ((c.tc : Thread nD τ).loc main_arg1)) (m ((c.tc : Thread nD τ).loc main_arg2))
      ∧ r.2.mem ((c.tc : Thread nD τ).loc main_v1_1) = R1 (m ((c.tc : Thread nD τ).loc main_arg0)) (m ((c.tc : Thread nD τ).loc main_arg1)) (m ((c.tc : Thread nD τ).loc main_arg2))
      ∧ r.2.mem ((c.tc : Thread nD τ).loc main_v1_2) = R2 (m ((c.tc : Thread nD τ).loc main_arg0)) (m ((c.tc : Thread nD τ).loc main_arg1))
      ∧ r.2.mem ((c.tc : Thread nD τ).loc main_v1_3) = R3 (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨((h c).1).trans (final3 m c), ((h c).2.1).trans (final4 m c), ((h c).2.2.1).trans (final5 m c), ((h c).2.2.2.1).trans (final6 m c), (h c).2.2.2.2⟩) (Cert.LnBwdIdeal.Value.run_blocks m ρ)

/-- The reference's program ends with the gradients of the layer norm. -/
theorem ref_run (m' : (ℓ : Loc Cert.LnBwdRefIdeal.nD Cert.LnBwdRefIdeal.τ Cert.LnBwdRefIdeal.sig) → Buf (Elt Ideal) ℓ) (ρ : Dev Cert.LnBwdRefIdeal.nD → PrngReg)
    (hf : ∀ c : Dev Cert.LnBwdRefIdeal.nD, Finite (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2))) :
    θ_run (Cert.LnBwdRefIdeal.defs (F := Ideal)) (onTc (τ := Cert.LnBwdRefIdeal.τ) (Cert.LnBwdRefIdeal.main (F := Ideal))) ⟨m', fun _ => 0, ρ⟩ (fun r => ∀ c : Dev Cert.LnBwdRefIdeal.nD,
      r.2.mem ((c.tc : Thread Cert.LnBwdRefIdeal.nD Cert.LnBwdRefIdeal.τ).loc Cert.LnBwdRefIdeal.main_v57) = R0 (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2))
      ∧ r.2.mem ((c.tc : Thread Cert.LnBwdRefIdeal.nD Cert.LnBwdRefIdeal.τ).loc Cert.LnBwdRefIdeal.main_v58) = R1 (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1)) (m' ((c.tc : Thread Cert.LnBwdRefIdeal.nD Cert.LnBwdRefIdeal.τ).loc Cert.LnBwdRefIdeal.main_arg2))
      ∧ r.2.mem ((c.tc : Thread Cert.LnBwdRefIdeal.nD Cert.LnBwdRefIdeal.τ).loc Cert.LnBwdRefIdeal.main_v59) = R2 (m' ((c.tc : Thread Cert.LnBwdRefIdeal.nD Cert.LnBwdRefIdeal.τ).loc Cert.LnBwdRefIdeal.main_arg0)) (m' ((c.tc : Thread Cert.LnBwdRefIdeal.nD Cert.LnBwdRefIdeal.τ).loc Cert.LnBwdRefIdeal.main_arg1))
      ∧ r.2.mem ((c.tc : Thread Cert.LnBwdRefIdeal.nD Cert.LnBwdRefIdeal.τ).loc Cert.LnBwdRefIdeal.main_v60) = R3 (m' ((c.tc : Thread Cert.LnBwdRefIdeal.nD Cert.LnBwdRefIdeal.τ).loc Cert.LnBwdRefIdeal.main_arg0))
      ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)) :=
  (θ_run _ _ _).mono (fun r h c => ⟨(((h c).1).trans (Cert.LnBwdRefIdeal.Read.val_main_v57_eq m' c)).trans (ref_dz _ _ _ (hf c).1 (hf c).2.1 (hf c).2.2), (((h c).2.1).trans (Cert.LnBwdRefIdeal.Read.val_main_v58_eq m' c)).trans ((funext fun i => Cert.LnBwdRefIdeal.Read.val_main_v58_apply _ _ _ i).trans (ref_dz _ _ _ (hf c).1 (hf c).2.1 (hf c).2.2)), (((h c).2.2.1).trans (Cert.LnBwdRefIdeal.Read.val_main_v59_eq _ _)).trans (ref_dg _ _), (((h c).2.2.2.1).trans (Cert.LnBwdRefIdeal.Read.val_main_v60_eq _)).trans (ref_db _), (h c).2.2.2.2⟩)
    (Cert.LnBwdRefIdeal.Value.run (F := Ideal) m' ρ)

end Cert.LnBwdClaim

end
-- ==== Proof.LossLn.lean ====
/- The gradient of the last layer norm under the loss, and the sum of the squared errors: the kernel's program and the reference's end at the same arrays. -/
module

public import proofs.«01_k».proof.Proof.Gen.LossLnIdeal.Value
public import proofs.«01_k».proof.Proof.Gen.LossLnRefIdeal.Run
public import proofs.«01_k».proof.Proof.Gen.LossLnRefIdeal.Read
public import proofs.«01_k».proof.Proof.Products
public import proofs.«01_k».proof.Proof.NormGrad
public import Idealize.ShloMosaic.Lib.Pointwise
public import Idealize.ShloMosaic.Lib.Pipeline.ValueKit

@[expose] public section

set_option maxRecDepth 16384

noncomputable section

namespace Cert.LossLnClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Products Cert.Norm
open Cert.LossLnIdeal Cert.LossLnIdeal.Gen
open scoped BigOperators

/-- Four arrays of real numbers. -/
def Finite (y u z : S2048x2048.Idx → EReal) (g : S2048.Idx → EReal) : Prop :=
  (∀ i, y i ≠ ⊤ ∧ y i ≠ ⊥) ∧ (∀ i, u i ≠ ⊤ ∧ u i ≠ ⊥) ∧ (∀ i, z i ≠ ⊤ ∧ z i ≠ ⊥) ∧ ∀ i, g i ≠ ⊤ ∧ g i ≠ ⊥

/-- One over the width, as the kernel writes it. -/
def sc : EReal := Ideal.ofBits .f32 0x3A000000#32

/-- The gradient of the loss in the output: the error over the width. -/
def D (y u : S2048x2048.Idx → EReal) : S2048x2048.Idx → EReal := fun i => (y i - u i) * sc

/-- The squared error at one place. -/
def sq (y u : S2048x2048.Idx → EReal) (i : S2048x2048.Idx) : EReal := (y i - u i) * (y i - u i)

/-- The gradient of the layer norm's input. -/
def R0 (y u z : S2048x2048.Idx → EReal) (g : S2048.Idx → EReal) : S2048x2048.Idx → EReal := dzSpec (D y u) z g

/-- The same gradient, which the kernel also leaves in the narrower format. -/
def R1 (y u z : S2048x2048.Idx → EReal) (g : S2048.Idx → EReal) : S2048x2048.Idx → EReal := dzSpec (D y u) z g

/-- The gradient of the gain. -/
def R2 (y u z : S2048x2048.Idx → EReal) : S1x2048.Idx → EReal := dgSpec (D y u) z

/-- The gradient of the shift. -/
def R3 (y u : S2048x2048.Idx → EReal) : S1x2048.Idx → EReal := dbSpec (D y u)

/-- The sum of the squared errors, in every place of a small array. -/
def R4 (y u : S2048x2048.Idx → EReal) : S8x128.Idx → EReal := fun _ => ∑ s : Fin 2048, ∑ j : Fin 2048, sq y u (ix2 s j)

/-- One over the width is the real number. -/
theorem sc_eq : sc = ((1 / 2048 : ℝ) : EReal) := by
  unfold sc
  simp [Ideal.ofBits, Ideal.ieee, -EReal.coe_mul]
  norm_num

/-- One half times one, over the width, times two, is one over the width. -/
theorem consts : Ideal.div (Ideal.ofBits .f32 0x3F000000#32 * Ideal.ofBits .f32 0x3F800000#32) nF * Ideal.ofBits .f32 0x40000000#32 = sc := by
  have h1 : Ideal.ofBits .f32 0x3F000000#32 = ((1 / 2 : ℝ) : EReal) := by
    simp [Ideal.ofBits, Ideal.ieee, -EReal.coe_mul]
    norm_num
  have h2 : Ideal.ofBits .f32 0x3F800000#32 = ((1 : ℝ) : EReal) := by
    simp [Ideal.ofBits, Ideal.ieee, -EReal.coe_mul]
    norm_num
  have h3 : Ideal.ofBits .f32 0x40000000#32 = ((2 : ℝ) : EReal) := by
    simp [Ideal.ofBits, Ideal.ieee, -EReal.coe_mul]
    norm_num
  rw [h1, h2, h3, sc_eq, ← EReal.coe_mul, div_nF, ← EReal.coe_mul]
  congr 1
  norm_num

/-- The gradient of the loss is real where the output and the target are. -/
theorem D_finite {y u : S2048x2048.Idx → EReal} {i : S2048x2048.Idx} (hy : y i ≠ ⊤ ∧ y i ≠ ⊥) (hu : u i ≠ ⊤ ∧ u i ≠ ⊥) : D y u i ≠ ⊤ ∧ D y u i ≠ ⊥ := by
  refine mul_finite ?_ ?_
  · rw [← EReal.coe_toReal hy.1 hy.2, ← EReal.coe_toReal hu.1 hu.2, ← EReal.coe_sub]
    exact ⟨EReal.coe_ne_top _, EReal.coe_ne_bot _⟩
  · rw [sc_eq]
    exact ⟨EReal.coe_ne_top _, EReal.coe_ne_bot _⟩

/-- One block less its rows' means. -/
theorem pay1_apply (z : Vec Ideal S256x2048 .f32) (i : Fin 256) (j : Fin 2048) : k0_pay1 (F := Ideal) z (ix2 i j) = cen (fun j => z (ix2 i j)) j := by
  unfold k0_pay1
  exact cen_apply z _ _ _ _ _ _ i j

/-- One block's reciprocal standard deviations. -/
theorem pay2_apply (z : Vec Ideal S256x2048 .f32) (i : Fin 256) : k0_pay2 (F := Ideal) z (ix2 i 0) = rstd (fun j => z (ix2 i j)) := by
  unfold k0_pay2
  exact rstd_apply _ _ _ _ _ _ _ i fun j => pay1_apply z i j

/-- One block, normalised. -/
theorem pay3_apply (z : Vec Ideal S256x2048 .f32) (i : Fin 256) (j : Fin 2048) :
    k0_pay3 (F := Ideal) z (ix2 i j) = cen (fun j => z (ix2 i j)) j * rstd (fun j => z (ix2 i j)) := by
  unfold k0_pay3
  rw [mulf_apply]
  exact congrArg₂ _ (pay1_apply z i j) ((spread_apply _ _ i j).trans (pay2_apply z i))

/-- One block of the error. -/
theorem pay4_apply (y u : Vec Ideal S256x2048 .f32) (i : S256x2048.Idx) : k0_pay4 (F := Ideal) y u i = (y i : EReal) - u i := by
  unfold k0_pay4
  rw [subf_apply]

/-- One block of the gradient of the loss. -/
theorem pay5_apply (y u : Vec Ideal S256x2048 .f32) (i : S256x2048.Idx) : k0_pay5 (F := Ideal) y u i = ((y i : EReal) - u i) * sc := by
  unfold k0_pay5
  rw [mulf_apply, pay4_apply]
  rfl

/-- One block of the gradient. -/
theorem pay8_apply (z y u : Vec Ideal S256x2048 .f32) (g : Vec Ideal S1x2048 .f32) (i : Fin 256) (j : Fin 2048) :
    k0_pay8 (F := Ideal) (k0_pay2 z) (k0_pay3 z) (k0_pay5 y u) g (ix2 i j) = kerGrad (fun j => z (ix2 i j)) (fun j => (((y (ix2 i j) : EReal) - u (ix2 i j)) * sc) * g (ix2 0 j)) j := by
  unfold k0_pay8
  refine (ker_apply _ _ _ _ _ _ _ _ _ _ _ _ i j (fun j => pay3_apply z i j) (pay2_apply z i)).trans ?_
  refine congrArg (fun y => kerGrad _ y j) (funext fun j => ?_)
  rw [mulf_apply]
  exact congrArg₂ (fun a b : EReal => a * b) (pay5_apply y u _) (row_apply _ _ _ i j)

/-- The narrower block of the gradient. -/
theorem pay9_apply (z y u : Vec Ideal S256x2048 .f32) (g : Vec Ideal S1x2048 .f32) (i : Fin 256) (j : Fin 2048) :
    k0_pay9 (F := Ideal) (k0_pay2 z) (k0_pay3 z) (k0_pay5 y u) g (ix2 i j) = kerGrad (fun j => z (ix2 i j)) (fun j => (((y (ix2 i j) : EReal) - u (ix2 i j)) * sc) * g (ix2 0 j)) j := by
  unfold k0_pay9
  rw [truncf_apply]
  exact pay8_apply z y u g i j

/-- One step of the gain's gradient. -/
theorem pay12_apply (x d : Vec Ideal S256x2048 .f32) (a : Vec Ideal S1x2048 .f32) (j : Fin 2048) :
    k0_pay12 (F := Ideal) x d a (ix2 0 j) = (a (ix2 0 j) : EReal) + ∑ i : Fin 256, (d (ix2 i j) : EReal) * x (ix2 i j) := by
  unfold k0_pay12
  rw [addf_apply, shapeCast_self]
  exact congrArg ((a (ix2 0 j) : EReal) + ·) ((down_apply _ _ _ _ _ _ j).trans (Finset.sum_congr rfl fun i _ => mulf_apply _ _ _))

/-- One step of the shift's gradient. -/
theorem pay13_apply (d : Vec Ideal S256x2048 .f32) (a : Vec Ideal S1x2048 .f32) (j : Fin 2048) :
    k0_pay13 (F := Ideal) d a (ix2 0 j) = (a (ix2 0 j) : EReal) + ∑ i : Fin 256, (d (ix2 i j) : EReal) := by
  unfold k0_pay13
  rw [addf_apply, shapeCast_self]
  exact congrArg ((a (ix2 0 j) : EReal) + ·) (down_apply _ _ _ _ _ _ j)

/-- A column's sum, spread over a small array. -/
theorem total_apply (w : S256x1.Idx → EReal) (acc : BitVec 32) (h : S256x1.Reduces [0] S1) (hφ : FKind.Formats .f32) (hacc : acc = FKind.add.neutral .f32 hφ)
    (hc : S1.ShapeCasts S1x1) (hb : S1x1.Broadcasts S8x128) (a : Fin 8) (b : Fin 128) :
    broadcastTo S8x128 (shapeCast S1x1 (multiReduction (F := Ideal) (φ := .f32) .add [0] S1 w acc h hφ hacc) hc) hb (ix2 a b) = ∑ i : Fin 256, w (ix2 i 0) := by
  refine (broadcastTo_apply _ hb (ix2 a b) (ix2 0 0) (by intro a; match a with | ⟨0, _⟩ => rfl | ⟨1, _⟩ => rfl)).trans ?_
  refine (shapeCast_apply _ hc (ix2 0 0) (ix1 0) (by rw [Shape.rowMajor_val_one, Shape.rowMajor_val_two]; rfl)).trans ?_
  refine (Ideal.multiReduction_add_single w acc h hφ hacc _).trans (Finset.sum_congr rfl fun k _ => congrArg w ?_)
  funext b
  match b with
  | ⟨0, _⟩ => rfl
  | ⟨1, _⟩ => exact Subsingleton.elim (α := Fin 1) _ _

/-- One step of the sum of the squared errors. -/
theorem pay7_apply (y u : Vec Ideal S256x2048 .f32) (v : Vec Ideal S8x128 .f32) (a : Fin 8) (b : Fin 128) :
    k0_pay7 (F := Ideal) y u v (ix2 a b) = (v (ix2 a b) : EReal) + ∑ i : Fin 256, ∑ j : Fin 2048, ((y (ix2 i j) : EReal) - u (ix2 i j)) * ((y (ix2 i j) : EReal) - u (ix2 i j)) := by
  unfold k0_pay7
  rw [addf_apply, shapeCast_self]
  refine congrArg ((v (ix2 a b) : EReal) + ·) ((total_apply _ _ _ _ _ _ _ a b).trans (Finset.sum_congr rfl fun i _ => ?_))
  refine (col_apply _ _ _ _ _ _ i).trans (Finset.sum_congr rfl fun j _ => ?_)
  rw [mulf_apply, pay4_apply]

/-- The gain's gradient starts from zero. -/
theorem pay10_apply (j : Fin 2048) : k0_pay10 (F := Ideal) (ix2 0 j) = 0 := Ideal.ofBits_zero_f32

/-- The shift's gradient starts from zero. -/
theorem pay11_apply (j : Fin 2048) : k0_pay11 (F := Ideal) (ix2 0 j) = 0 := Ideal.ofBits_zero_f32

/-- The sum of the squared errors starts from zero. -/
theorem pay6_apply (i : S8x128.Idx) : k0_pay6 (F := Ideal) i = 0 := Ideal.ofBits_zero_f32

variable (m : (ℓ : Loc nD τ sig) → Buf (Elt Ideal) ℓ) (c : Dev nD)

/-- The gain as the call takes it. -/
theorem V_g : V m c main_v0 = shapeCast S1x2048 (m ((c : Thread nD τ).loc main_arg3)) shapeCasts_S2048_S1x2048 := rfl

/-- The block of window 0 at a grid point. -/
theorem idx0 : ∀ t : Fin cfg0.N, win0_0.index t = ![t.val, 0] := (by decide +kernel : ∀ t : Fin grid0.N, _)
/-- The block of window 1 at a grid point. -/
theorem idx1 : ∀ t : Fin cfg0.N, win0_1.index t = ![t.val, 0] := (by decide +kernel : ∀ t : Fin grid0.N, _)
/-- The block of window 2 at a grid point. -/
theorem idx2 : ∀ t : Fin cfg0.N, win0_2.index t = ![t.val, 0] := (by decide +kernel : ∀ t : Fin grid0.N, _)
/-- The block of window 3 at a grid point. -/
theorem idx3 : ∀ t : Fin cfg0.N, win0_3.index t = ![0, 0] := (by decide +kernel : ∀ t : Fin grid0.N, _)
/-- The block of window 4 at a grid point. -/
theorem idx4 : ∀ t : Fin cfg0.N, win0_4.index t = ![t.val, 0] := (by decide +kernel : ∀ t : Fin grid0.N, _)
/-- The block of window 5 at a grid point. -/
theorem idx5 : ∀ t : Fin cfg0.N, win0_5.index t = ![t.val, 0] := (by decide +kernel : ∀ t : Fin grid0.N, _)
/-- The block of window 6 at a grid point. -/
theorem idx6 : ∀ t : Fin cfg0.N, win0_6.index t = ![0, 0] := (by decide +kernel : ∀ t : Fin grid0.N, _)
/-- The block of window 7 at a grid point. -/
theorem idx7 : ∀ t : Fin cfg0.N, win0_7.index t = ![0, 0] := (by decide +kernel : ∀ t : Fin grid0.N, _)
/-- The block of window 8 at a grid point. -/
theorem idx8 : ∀ t : Fin cfg0.N, win0_8.index t = ![0, 0] := (by decide +kernel : ∀ t : Fin grid0.N, _)

/-- The number of grid points. -/
theorem t_lt (t : Fin cfg0.N) : t.val < 8 := by have := t.isLt; have h : cfg0.N = 8 := N_0; omega

/-- The block of the output. -/
theorem iblk0 (t : Fin cfg0.N) (i : Fin 256) (j : Fin 2048) :
    (iblk m c 0 t : S256x2048.Idx → EReal) (ix2 i j) = m ((c : Thread nD τ).loc main_arg0) (ix2 ⟨256 * t.val + i.val, by have := t_lt t; omega⟩ j) := by
  blk_simp [iblk]
  exact congrArg (m ((c : Thread nD τ).loc main_arg0)) (by blk_ext [idx0])

/-- The block of the target. -/
theorem iblk1 (t : Fin cfg0.N) (i : Fin 256) (j : Fin 2048) :
    (iblk m c 1 t : S256x2048.Idx → EReal) (ix2 i j) = m ((c : Thread nD τ).loc main_arg1) (ix2 ⟨256 * t.val + i.val, by have := t_lt t; omega⟩ j) := by
  blk_simp [iblk]
  exact congrArg (m ((c : Thread nD τ).loc main_arg1)) (by blk_ext [idx1])

/-- The block of the layer norm's input. -/
theorem iblk2 (t : Fin cfg0.N) (i : Fin 256) (j : Fin 2048) :
    (iblk m c 2 t : S256x2048.Idx → EReal) (ix2 i j) = m ((c : Thread nD τ).loc main_arg2) (ix2 ⟨256 * t.val + i.val, by have := t_lt t; omega⟩ j) := by
  blk_simp [iblk]
  exact congrArg (m ((c : Thread nD τ).loc main_arg2)) (by blk_ext [idx2])

/-- The gain. -/
theorem iblk3 (t : Fin cfg0.N) (j : Fin 2048) : (iblk m c 3 t : S1x2048.Idx → EReal) (ix2 0 j) = m ((c : Thread nD τ).loc main_arg3) (ix1 j) := by
  blk_simp [iblk]
  show V m c main_v0 _ = _
  rw [V_g]
  exact (congrArg (shapeCast S1x2048 (m ((c : Thread nD τ).loc main_arg3)) shapeCasts_S2048_S1x2048) (by blk_ext [idx3] : _ = (ix2 0 j : S1x2048.Idx))).trans (asRow_apply _ _ j)

/-- One block of the gradient of the loss is that part of the whole. -/
theorem blkD (t : Fin cfg0.N) (i : Fin 256) (j : Fin 2048) :
    (fun a b : EReal => (a - b) * sc) ((iblk m c 0 t : S256x2048.Idx → EReal) (ix2 i j)) ((iblk m c 1 t : S256x2048.Idx → EReal) (ix2 i j)) = D (m ((c : Thread nD τ).loc main_arg0)) (m ((c : Thread nD τ).loc main_arg1)) (ix2 ⟨256 * t.val + i.val, by have := t_lt t; omega⟩ j) :=
  congrArg₂ (fun a b : EReal => (a - b) * sc) (iblk0 m c t i j) (iblk1 m c t i j)

/-- What a grid point leaves in window 4. -/
theorem out4 (t : Fin cfg0.N) : (outsAt0 m c t.val t.isLt).1 = k0_pay8 (F := Ideal) (k0_pay2 (F := Ideal) (iblk m c 2 t)) (k0_pay3 (F := Ideal) (iblk m c 2 t)) (k0_pay5 (F := Ideal) (iblk m c 0 t) (iblk m c 1 t)) (iblk m c 3 t) := by
  by_cases h : t.val % 8 = 0
  · rw [outsAt0_A m c t h h]
    frame_out
  · rw [outsAt0_B m c t h h]
    frame_out

/-- What a grid point leaves in window 5. -/
theorem out5 (t : Fin cfg0.N) : (outsAt0 m c t.val t.isLt).2.1 = k0_pay9 (F := Ideal) (k0_pay2 (F := Ideal) (iblk m c 2 t)) (k0_pay3 (F := Ideal) (iblk m c 2 t)) (k0_pay5 (F := Ideal) (iblk m c 0 t) (iblk m c 1 t)) (iblk m c 3 t) := by
  by_cases h : t.val % 8 = 0
  · rw [outsAt0_A m c t h h]
    frame_out
  · rw [outsAt0_B m c t h h]
    frame_out

/-- The block of the gradient is that part of the whole gradient. -/
theorem blk_apply (t : Fin cfg0.N) (i : Fin 256) (j : Fin 2048) :
    kerGrad (fun j => (iblk m c 2 t : S256x2048.Idx → EReal) (ix2 i j)) (fun j => (fun a b : EReal => a * b) ((fun a b : EReal => (a - b) * sc) ((iblk m c 0 t : S256x2048.Idx → EReal) (ix2 i j)) ((iblk m c 1 t : S256x2048.Idx → EReal) (ix2 i j))) ((iblk m c 3 t : S1x2048.Idx → EReal) (ix2 0 j))) j
      = dzSpec (D (m ((c : Thread nD τ).loc main_arg0)) (m ((c : Thread nD τ).loc main_arg1))) (m ((c : Thread nD τ).loc main_arg2)) (m ((c : Thread nD τ).loc main_arg3)) (ix2 ⟨256 * t.val + i.val, by have := t_lt t; omega⟩ j) := by
  unfold dzSpec row
  refine congrArg₂ (fun z y => kerGrad z y j) (funext fun j => iblk2 m c t i j) (funext fun j => ?_)
  exact congrArg₂ (fun a b : EReal => a * b) (blkD m c t i j) (iblk3 m c t j)

/-- The array of window 4 after the call. -/
theorem final4 : (dats m 0 c).arrAt 4 cfg0.N = R0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨i, j, rfl⟩ : ∃ (i : Fin 256) (j : Fin 2048), y = ix2 i j := ⟨y 0, y 1, eq_ix2 y⟩
  have e0 : ((win0_4.blk t).view.emb (ix2 i j) : S2048x2048.Idx) = ix2 ⟨256 * t.val + i.val, by have := t_lt t; omega⟩ j := by
    blk_ext [idx4]
  blk_simp
  rw [after0_4, out4]
  exact ((pay8_apply _ _ _ _ i j).trans (blk_apply m c t i j)).trans (congrArg (R0 _ _ _ _) e0).symm

/-- The array of window 5 after the call. -/
theorem final5 : (dats m 0 c).arrAt 5 cfg0.N = R1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i, j, rfl⟩ : ∃ (i : Fin 256) (j : Fin 2048), y = ix2 i j := ⟨y 0, y 1, eq_ix2 y⟩
  have e0 : ((win0_5.blk t).view.emb (ix2 i j) : S2048x2048.Idx) = ix2 ⟨256 * t.val + i.val, by have := t_lt t; omega⟩ j := by
    blk_ext [idx5]
  blk_simp
  rw [after0_5, out5]
  exact ((pay9_apply _ _ _ _ i j).trans (blk_apply m c t i j)).trans (congrArg (R1 _ _ _ _) e0).symm

/-- One grid point adds its part to the gain's gradient. -/
theorem add6 (t : Fin cfg0.N) (a : Vec Ideal S1x2048 .f32) (j : Fin 2048) :
    k0_pay12 (F := Ideal) (k0_pay3 (F := Ideal) (iblk m c 2 t)) (k0_pay5 (F := Ideal) (iblk m c 0 t) (iblk m c 1 t)) a (ix2 0 j) = (a (ix2 0 j) : EReal) + dgStep (D (m ((c : Thread nD τ).loc main_arg0)) (m ((c : Thread nD τ).loc main_arg1))) (m ((c : Thread nD τ).loc main_arg2)) N_0 t j := by
  rw [pay12_apply]
  refine congrArg ((a (ix2 0 j) : EReal) + ·) (Finset.sum_congr rfl fun i _ => ?_)
  rw [pay3_apply, pay5_apply]
  exact congrArg₂ (fun a b : EReal => a * b) (blkD m c t i j) (congrArg₂ (fun z z' => cen z j * rstd z') (funext fun j => iblk2 m c t i j) (funext fun j => iblk2 m c t i j))

/-- What the last grid point leaves in window 6: the sum over the grid points. -/
theorem sum6 (t : Fin cfg0.N) (ht : t.val + 1 = cfg0.N) (j : Fin 2048) :
    (outsAt0 m c t.val t.isLt).2.2.1 (ix2 0 j) = ∑ p : Fin cfg0.N, dgStep (D (m ((c : Thread nD τ).loc main_arg0)) (m ((c : Thread nD τ).loc main_arg1))) (m ((c : Thread nD τ).loc main_arg2)) N_0 p j := by
  have h := Pipeline.eq_sum_fin_of_reset_step_apply_last (ι := Fin 2048) (M := EReal) (fun n h j => (outsAt0 m c n h).2.2.1 (ix2 0 j)) 8 (fun _ => 0)
    (dgStep (D (m ((c : Thread nD τ).loc main_arg0)) (m ((c : Thread nD τ).loc main_arg1))) (m ((c : Thread nD τ).loc main_arg2)) N_0)
    (fun t h j => by
      rw [outsAt0_A m c t h h]
      frame_out
      exact (add6 m c t _ j).trans (congrArg (· + _) (pay10_apply j)))
    (fun t h j => by
      rw [outsAt0_B m c t h h]
      frame_out
      exact add6 m c t _ j)
    (le_of_eq N_0) t ht j
  rw [zero_add] at h
  exact h

/-- The array of window 6 after the call. -/
theorem final6 : (dats m 0 c).arrAt 6 cfg0.N = R2 (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨j, rfl⟩ : ∃ j : Fin 2048, y = ix2 0 j := ⟨y 1, by funext b; match b with | ⟨0, _⟩ => exact Subsingleton.elim (α := Fin 1) _ _ | ⟨1, _⟩ => rfl⟩
  have e0 : ((win0_6.blk t).view.emb (ix2 0 j) : S1x2048.Idx) = ix2 0 j := by
    blk_ext [idx6]
  have h7 := (flush0_6 t).mp hf
  have hN : cfg0.N = 8 := N_0
  have ht := t_lt t
  blk_simp
  rw [after0_6, sum6 m c t (by omega)]
  refine Eq.trans ?_ (congrArg (R2 _ _ _) e0).symm
  exact dg_steps _ _ N_0 j

/-- One grid point adds its part to the shift's gradient. -/
theorem add7 (t : Fin cfg0.N) (a : Vec Ideal S1x2048 .f32) (j : Fin 2048) :
    k0_pay13 (F := Ideal) (k0_pay5 (F := Ideal) (iblk m c 0 t) (iblk m c 1 t)) a (ix2 0 j) = (a (ix2 0 j) : EReal) + dbStep (D (m ((c : Thread nD τ).loc main_arg0)) (m ((c : Thread nD τ).loc main_arg1))) N_0 t j := by
  rw [pay13_apply]
  refine congrArg ((a (ix2 0 j) : EReal) + ·) (Finset.sum_congr rfl fun i _ => ?_)
  rw [pay5_apply]
  exact blkD m c t i j

/-- What the last grid point leaves in window 7: the sum over the grid points. -/
theorem sum7 (t : Fin cfg0.N) (ht : t.val + 1 = cfg0.N) (j : Fin 2048) :
    (outsAt0 m c t.val t.isLt).2.2.2.1 (ix2 0 j) = ∑ p : Fin cfg0.N, dbStep (D (m ((c : Thread nD τ).loc main_arg0)) (m ((c : Thread nD τ).loc main_arg1))) N_0 p j := by
  have h := Pipeline.eq_sum_fin_of_reset_step_apply_last (ι := Fin 2048) (M := EReal) (fun n h j => (outsAt0 m c n h).2.2.2.1 (ix2 0 j)) 8 (fun _ => 0)
    (dbStep (D (m ((c : Thread nD τ).loc main_arg0)) (m ((c : Thread nD τ).loc main_arg1))) N_0)
    (fun t h j => by
      rw [outsAt0_A m c t h h]
      frame_out
      exact (add7 m c t _ j).trans (congrArg (· + _) (pay11_apply j)))
    (fun t h j => by
      rw [outsAt0_B m c t h h]
      frame_out
      exact add7 m c t _ j)
    (le_of_eq N_0) t ht j
  rw [zero_add] at h
  exact h

/-- The array of window 7 after the call. -/
theorem final7 : (dats m 0 c).arrAt 7 cfg0.N = R3 (m ((c : Thread nD τ).loc main_arg0)) (m ((c : Thread nD τ).loc main_arg1)) := by
  refine (dats m 0 c).arrAt_eq_of_covers 7 _ (by decide +kernel) fun t hf y => ?_
  obtain ⟨j, rfl⟩ : ∃ j : Fin 2048, y = ix2 0 j := ⟨y 1, by funext b; match b with | ⟨0, _⟩ => exact Subsingleton.elim (α := Fin 1) _ _ | ⟨1, _⟩ => rfl⟩
  have e0 : ((win0_7.blk t).view.emb (ix2 0 j) : S1x2048.Idx) = ix2 0 j := by
    blk_ext [idx7]
  have h7 := (flush0_7 t).mp hf
  have hN : cfg0.N = 8 := N_0
  have ht := t_lt t
  blk_simp
  rw [after0_7, sum7 m c t (by omega)]
  refine Eq.trans ?_ (congrArg (R3 _ _) e0).symm
  exact db_steps _ N_0 j

/-- One grid point adds its part to the sum of the squared errors. -/
theorem add8 (t : Fin cfg0.N) (v : Vec Ideal S8x128 .f32) (x : Fin 8 × Fin 128) :
    k0_pay7 (F := Ideal) (iblk m c 0 t) (iblk m c 1 t) v (ix2 x.1 x.2) = (v (ix2 x.1 x.2) : EReal) + (fun (p : Fin cfg0.N) (_ : Fin 8 × Fin 128) => ∑ i : Fin 256, ∑ j : Fin 2048, sq (m ((c : Thread nD τ).loc main_arg0)) (m ((c : Thread nD τ).loc main_arg1)) (ix2 ⟨256 * p.val + i.val, by have := t_lt p; omega⟩ j)) t x := by
  rw [pay7_apply]
  refine congrArg ((v (ix2 x.1 x.2) : EReal) + ·) (Finset.sum_congr rfl fun i _ => Finset.sum_congr rfl fun j _ => ?_)
  exact congrArg₂ (fun a b : EReal => (a - b) * (a - b)) (iblk0 m c t i j) (iblk1 m c t i j)

/-- What the last grid point leaves in window 8: the sum over the grid points. -/
theorem sum8 (t : Fin cfg0.N) (ht : t.val + 1 = cfg0.N) (x : Fin 8 × Fin 128) :
    (outsAt0 m c t.val t.isLt).2.2.2.2 (ix2 x.1 x.2) = ∑ p : Fin cfg0.N, (fun (p : Fin cfg0.N) (_ : Fin 8 × Fin 128) => ∑ i : Fin 256, ∑ j : Fin 2048, sq (m ((c : Thread nD τ).loc main_arg0)) (m ((c : Thread nD τ).loc main_arg1)) (ix2 ⟨256 * p.val + i.val, by have := t_lt p; omega⟩ j)) p x := by
  have h := Pipeline.eq_sum_fin_of_reset_step_apply_last (ι := Fin 8 × Fin 128) (M := EReal) (fun n h x => (outsAt0 m c n h).2.2.2.2 (ix2 x.1 x.2)) 8 (fun _ => 0)
    (fun (p : Fin cfg0.N) (_ : Fin 8 × Fin 128) => ∑ i : Fin 256, ∑ j : Fin 2048, sq (m ((c : Thread nD τ).loc main_arg0)) (m ((c : Thread nD τ).loc main_arg1)) (ix2 ⟨256 * p.val + i.val, by have := t_lt p; omega⟩ j))
    (fun t h x => by
      rw [outsAt0_A m c t h h]
      frame_out
      exact (add8 m c t _ x).trans (congrArg (· + _) (pay6_apply _)))
    (fun t h x => by
      rw [outsAt0_B m c t h h]
      frame_out
      exact add8 m c t _ x)
    (le_of_eq N_0) t ht x
  rw [zero_add] at h
  exact h

/-- The array of window 8 after the call. -/
theorem final8 : (dats m 0 c).arrAt 8 cfg0.N = R4 (m ((c : Thread nD τ).loc main_arg0)) (m ((c : Thread nD τ).loc main_arg1)) := by
  refine (dats m 0 c).arrAt_eq_of_covers 8 _ (by decide +kernel) fun t hf y => ?_
  obtain ⟨a, b, rfl⟩ : ∃ (a : Fin 8) (b : Fin 128), y = ix2 a b := ⟨y 0, y 1, eq_ix2 y⟩
  have h7 := (flush0_8 t).mp hf
  have hN : cfg0.N = 8 := N_0
  have ht := t_lt t
  blk_simp
  rw [after0_8, sum8 m c t (by omega) (a, b)]
  exact (sum_blocks N_0 fun s => ∑ j : Fin 2048, sq (m ((c : Thread nD τ).loc main_arg0)) (m ((c : Thread nD τ).loc main_arg1)) (ix2 s j)).symm

/-- The reference's gradient of the loss: twice the error, times one half over the width. -/
theorem ref_D (y u : S2048x2048.Idx → EReal) : Cert.LossLnRefIdeal.Read.val_main_v14 (F := Ideal) y u = D y u := by
  funext i
  rw [Cert.LossLnRefIdeal.Read.val_main_v14_apply, Cert.LossLnRefIdeal.Read.val_main_v13_apply, Cert.LossLnRefIdeal.Read.val_main_v12_apply, Cert.LossLnRefIdeal.Read.val_main_v11_apply, Cert.LossLnRefIdeal.Read.val_main_v10_apply, Cert.LossLnRefIdeal.Read.val_main_v9_apply,
    Cert.LossLnRefIdeal.Read.val_main_v3_apply, Cert.LossLnRefIdeal.Read.val_main_v2_apply, Cert.LossLnRefIdeal.Read.val_main_v0_apply]
  exact (mul_assoc _ _ _).symm.trans ((congrArg (· * (y i - u i)) consts).trans (mul_comm _ _))

/-- The reference's sum of the squared errors. -/
theorem ref_sq (y u : S2048x2048.Idx → EReal) : Cert.LossLnRefIdeal.Read.val_main_v79 (F := Ideal) y u = R4 y u := by
  funext i
  rw [Cert.LossLnRefIdeal.Read.val_main_v79_apply, Cert.LossLnRefIdeal.Read.val_main_v78_apply]
  refine (from_zero Ideal.ofBits_zero_f32).trans ?_
  exact ValueIdx.sum_idx2 _

/-- The reference's mean of a row. -/
theorem ref_mean (z : S2048x2048.Idx → EReal) (i : Cert.LossLnRefIdeal.S2048x1.Idx) : Cert.LossLnRefIdeal.Read.val_main_v19 (F := Ideal) z i = mean (row z (i 0)) := by
  rw [Cert.LossLnRefIdeal.Read.val_main_v19_apply, Cert.LossLnRefIdeal.Read.val_main_v17_apply, Cert.LossLnRefIdeal.Read.val_main_v16_apply, Cert.LossLnRefIdeal.Read.val_main_v18_apply]
  refine congrArg (Ideal.div · nF) ((from_zero Ideal.ofBits_zero_f32).trans ?_)
  exact Finset.sum_congr rfl fun k _ => congrArg z (by funext b; match b with | ⟨0, _⟩ => rfl | ⟨1, _⟩ => rfl)

/-- The reference's centred rows. -/
theorem ref_cen (z : S2048x2048.Idx → EReal) (i : S2048x2048.Idx) : Cert.LossLnRefIdeal.Read.val_main_v21 (F := Ideal) z i = cen (row z (i 0)) (i 1) := by
  rw [Cert.LossLnRefIdeal.Read.val_main_v21_apply, Cert.LossLnRefIdeal.Read.val_main_v20_apply, ref_mean]
  exact congrArg (· - mean (row z (i 0))) (congrArg z (eq_ix2 i))

/-- The reference's variances. -/
theorem ref_var (z : S2048x2048.Idx → EReal) (i : Cert.LossLnRefIdeal.S2048x1.Idx) : Cert.LossLnRefIdeal.Read.val_main_v28 (F := Ideal) z i = var (row z (i 0)) := by
  rw [Cert.LossLnRefIdeal.Read.val_main_v28_apply, Cert.LossLnRefIdeal.Read.val_main_v27_apply, Cert.LossLnRefIdeal.Read.val_main_v26_apply, Cert.LossLnRefIdeal.Read.val_main_v25_apply, Cert.LossLnRefIdeal.Read.val_main_v24_apply, Cert.LossLnRefIdeal.Read.val_main_v23_apply]
  refine congrArg (· + eps) (congrArg (Ideal.div · nF) ((from_zero Ideal.ofBits_zero_f32).trans ?_))
  refine Finset.sum_congr rfl fun k _ => ?_
  rw [Cert.LossLnRefIdeal.Read.val_main_v22_apply, ref_cen]
  rfl

/-- The reference's reciprocal standard deviations. -/
theorem ref_rstd (z : S2048x2048.Idx → EReal) (i : Cert.LossLnRefIdeal.S2048x1.Idx) : Cert.LossLnRefIdeal.Read.val_main_v29 (F := Ideal) z i = rstd (row z (i 0)) := by
  rw [Cert.LossLnRefIdeal.Read.val_main_v29_apply, ref_var]
  rfl

/-- The incoming gradient in its rows. -/
theorem ref_d (y u : S2048x2048.Idx → EReal) (i : S2048x2048.Idx) : Cert.LossLnRefIdeal.Read.val_main_v41 (F := Ideal) y u i = (Cert.LossLnRefIdeal.Read.val_main_v14 (F := Ideal) y u) i := by
  rw [Cert.LossLnRefIdeal.Read.val_main_v41_apply]
  refine congrArg ((Cert.LossLnRefIdeal.Read.val_main_v14 (F := Ideal) y u)) (funext fun b => ?_)
  have h0 : (i 0).val < 2048 := (i 0).isLt
  have h1 : (i 1).val < 2048 := (i 1).isLt
  match b with
  | ⟨0, _⟩ => exact Fin.ext (by show ((i 0).val * 2048 + (i 1).val) / 2048 = (i 0).val; omega)
  | ⟨1, _⟩ => exact Fin.ext (by show ((i 0).val * 2048 + (i 1).val) % 2048 = (i 1).val; omega)

/-- The incoming gradient times the gain. -/
theorem ref_y (y u : S2048x2048.Idx → EReal) (g : S2048.Idx → EReal) (i : S2048x2048.Idx) : Cert.LossLnRefIdeal.Read.val_main_v49 (F := Ideal) y u g i = (Cert.LossLnRefIdeal.Read.val_main_v14 (F := Ideal) y u) (ix2 (i 0) (i 1)) * g (ix1 (i 1)) := by
  rw [Cert.LossLnRefIdeal.Read.val_main_v49_apply, ref_d, Cert.LossLnRefIdeal.Read.val_main_v48_apply, Cert.LossLnRefIdeal.Read.val_main_v35_apply]
  exact congrArg₂ _ (congrArg ((Cert.LossLnRefIdeal.Read.val_main_v14 (F := Ideal) y u)) (eq_ix2 i)) (congrArg g (by funext b; match b with | ⟨0, _⟩ => rfl))

/-- The reference's gradient through the variance. -/
theorem ref_varGrad (y u : S2048x2048.Idx → EReal) (z : S2048x2048.Idx → EReal) (g : S2048.Idx → EReal) (i : Cert.LossLnRefIdeal.S2048x1.Idx) : Cert.LossLnRefIdeal.Read.val_main_v58 (F := Ideal) y u z g i = varGrad (row z (i 0)) (fun j => (Cert.LossLnRefIdeal.Read.val_main_v14 (F := Ideal) y u) (ix2 (i 0) j) * g (ix1 j)) := by
  rw [Cert.LossLnRefIdeal.Read.val_main_v58_apply, Cert.LossLnRefIdeal.Read.val_main_v57_apply, Cert.LossLnRefIdeal.Read.val_main_v56_apply, Cert.LossLnRefIdeal.Read.val_main_v32_apply, Cert.LossLnRefIdeal.Read.val_main_v31_apply, Cert.LossLnRefIdeal.Read.val_main_v30_apply, ref_rstd, ref_var, Cert.LossLnRefIdeal.Read.val_main_v53_apply, Cert.LossLnRefIdeal.Read.val_main_v52_apply]
  refine congrArg (Ideal.div · nF) (congrArg (· * (negHalf * Ideal.div (rstd (row z (i 0))) (var (row z (i 0))))) ((from_zero Ideal.ofBits_zero_f32).trans ?_))
  refine Finset.sum_congr rfl fun k _ => ?_
  have e : (Cert.LossLnRefIdeal.Read.idx_main_v53 i 0 : Fin 2048) = i 0 := by
    have h1 : (i 1).val < 1 := (i 1).isLt
    exact Fin.ext (by show (i 0).val * 1 + (i 1).val = (i 0).val; omega)
  rw [Cert.LossLnRefIdeal.Read.val_main_v51_apply, ref_cen, ref_y]
  exact congrArg (fun a : Fin 2048 => cen (row z a) k * ((Cert.LossLnRefIdeal.Read.val_main_v14 (F := Ideal) y u) (ix2 a k) * g (ix1 k))) e

/-- The same, spread over the rows. -/
theorem ref_spread (y u : S2048x2048.Idx → EReal) (z : S2048x2048.Idx → EReal) (g : S2048.Idx → EReal) (i : S2048x2048.Idx) : Cert.LossLnRefIdeal.Read.val_main_v60 (F := Ideal) y u z g i = varGrad (row z (i 0)) (fun j => (Cert.LossLnRefIdeal.Read.val_main_v14 (F := Ideal) y u) (ix2 (i 0) j) * g (ix1 j)) := by
  rw [Cert.LossLnRefIdeal.Read.val_main_v60_apply, Cert.LossLnRefIdeal.Read.val_main_v59_apply]
  refine (from_zero Ideal.ofBits_zero_f32).trans ?_
  rw [Fin.sum_univ_one, ref_varGrad]
  rfl

/-- The reference's gradient before the mean is taken off. -/
theorem ref_pre (y u : S2048x2048.Idx → EReal) (z : S2048x2048.Idx → EReal) (g : S2048.Idx → EReal) (i : S2048x2048.Idx) : Cert.LossLnRefIdeal.Read.val_main_v64 (F := Ideal) y u z g i = preGrad (row z (i 0)) (fun j => (Cert.LossLnRefIdeal.Read.val_main_v14 (F := Ideal) y u) (ix2 (i 0) j) * g (ix1 j)) (i 1) := by
  rw [Cert.LossLnRefIdeal.Read.val_main_v64_apply, Cert.LossLnRefIdeal.Read.val_main_v63_apply, Cert.LossLnRefIdeal.Read.val_main_v62_apply, Cert.LossLnRefIdeal.Read.val_main_v61_apply, Cert.LossLnRefIdeal.Read.val_main_v55_apply, Cert.LossLnRefIdeal.Read.val_main_v54_apply, ref_spread, ref_rstd, ref_cen, ref_y]
  rfl

/-- The reference's gradient of the layer norm's input. -/
theorem ref_grad (y u : S2048x2048.Idx → EReal) (z : S2048x2048.Idx → EReal) (g : S2048.Idx → EReal) (i : S2048x2048.Idx) : Cert.LossLnRefIdeal.Read.val_main_v72 (F := Ideal) y u z g i = refGrad (row z (i 0)) (fun j => (Cert.LossLnRefIdeal.Read.val_main_v14 (F := Ideal) y u) (ix2 (i 0) j) * g (ix1 j)) (i 1) := by
  rw [Cert.LossLnRefIdeal.Read.val_main_v72_apply, Cert.LossLnRefIdeal.Read.val_main_v71_apply, Cert.LossLnRefIdeal.Read.val_main_v70_apply, ref_pre]
  refine congrArg (preGrad (row z (i 0)) (fun j => (Cert.LossLnRefIdeal.Read.val_main_v14 (F := Ideal) y u) (ix2 (i 0) j) * g (ix1 j)) (i 1) + ·) ((from_zero Ideal.ofBits_zero_f32).trans ?_)
  rw [Fin.sum_univ_one, Cert.LossLnRefIdeal.Read.val_main_v69_apply, Cert.LossLnRefIdeal.Read.val_main_v68_apply, Cert.LossLnRefIdeal.Read.val_main_v67_apply, Cert.LossLnRefIdeal.Read.val_main_v66_apply]
  refine congrArg (Ideal.div · nF) ((from_zero Ideal.ofBits_zero_f32).trans ?_)
  refine Finset.sum_congr rfl fun k _ => ?_
  have e : (Cert.LossLnRefIdeal.Read.idx_main_v67 (Cert.LossLnRefIdeal.Read.idx_main_v70 (Cert.LossLnRefIdeal.Read.idx_main_v71 i) 0) 0 : Fin 2048) = i 0 :=
    Fin.ext (by show (i 0).val * 1 + 0 = (i 0).val; omega)
  rw [Cert.LossLnRefIdeal.Read.val_main_v65_apply, ref_pre]
  exact congrArg (fun a : Fin 2048 => -preGrad (row z a) (fun j => (Cert.LossLnRefIdeal.Read.val_main_v14 (F := Ideal) y u) (ix2 a j) * g (ix1 j)) k) e

/-- The reference's gradient of the gain. -/
theorem ref_dg (y u : S2048x2048.Idx → EReal) (z : S2048x2048.Idx → EReal) : Cert.LossLnRefIdeal.Read.val_main_v74 (F := Ideal) y u z = dgSpec ((Cert.LossLnRefIdeal.Read.val_main_v14 (F := Ideal) y u)) z := by
  funext i
  have h0 : (i 0).val < 1 := (i 0).isLt
  have h1 : (i 1).val < 2048 := (i 1).isLt
  rw [Cert.LossLnRefIdeal.Read.val_main_v74_apply, Cert.LossLnRefIdeal.Read.val_main_v50_apply]
  refine (from_zero Ideal.ofBits_zero_f32).trans ?_
  rw [Fin.sum_univ_one, Cert.LossLnRefIdeal.Read.val_main_v47_apply, Cert.LossLnRefIdeal.Read.val_main_v46_apply]
  refine (from_zero Ideal.ofBits_zero_f32).trans (Finset.sum_congr rfl fun k _ => ?_)
  rw [Cert.LossLnRefIdeal.Read.val_main_v45_apply, Cert.LossLnRefIdeal.Read.val_main_v34_apply, Cert.LossLnRefIdeal.Read.val_main_v33_apply, ref_d, ref_cen, ref_rstd]
  refine (mul_comm _ _).trans (congrArg₂ _ (congrArg ((Cert.LossLnRefIdeal.Read.val_main_v14 (F := Ideal) y u)) (by
    funext b
    match b with
    | ⟨0, _⟩ => rfl
    | ⟨1, _⟩ => exact Fin.ext (by show 0 * 2048 + ((i 0).val * 2048 + (i 1).val) = (i 1).val; omega))) (congrArg₂ _ (congrArg₂ cen rfl (Fin.ext (by show 0 * 2048 + ((i 0).val * 2048 + (i 1).val) = (i 1).val; omega))) rfl))

/-- The reference's gradient of the shift. -/
theorem ref_db (y u : S2048x2048.Idx → EReal) : Cert.LossLnRefIdeal.Read.val_main_v75 (F := Ideal) y u = dbSpec ((Cert.LossLnRefIdeal.Read.val_main_v14 (F := Ideal) y u)) := by
  funext i
  have h0 : (i 0).val < 1 := (i 0).isLt
  have h1 : (i 1).val < 2048 := (i 1).isLt
  rw [Cert.LossLnRefIdeal.Read.val_main_v75_apply, Cert.LossLnRefIdeal.Read.val_main_v44_apply]
  refine (from_zero Ideal.ofBits_zero_f32).trans ?_
  rw [Fin.sum_univ_one, Cert.LossLnRefIdeal.Read.val_main_v43_apply, Cert.LossLnRefIdeal.Read.val_main_v42_apply]
  exact (from_zero Ideal.ofBits_zero_f32).trans (Finset.sum_congr rfl fun k _ => congrArg ((Cert.LossLnRefIdeal.Read.val_main_v14 (F := Ideal) y u)) (by
    funext b
    match b with
    | ⟨0, _⟩ => rfl
    | ⟨1, _⟩ => exact Fin.ext (by show 0 * 2048 + ((i 0).val * 2048 + (i 1).val) = (i 1).val; omega)))

/-- The reference's gradient of the input is the short form, on real numbers. -/
theorem ref_dz (y u : S2048x2048.Idx → EReal) (z : S2048x2048.Idx → EReal) (g : S2048.Idx → EReal) (hd : ∀ i, (Cert.LossLnRefIdeal.Read.val_main_v14 (F := Ideal) y u) i ≠ ⊤ ∧ (Cert.LossLnRefIdeal.Read.val_main_v14 (F := Ideal) y u) i ≠ ⊥) (hz : ∀ i, z i ≠ ⊤ ∧ z i ≠ ⊥) (hg : ∀ i, g i ≠ ⊤ ∧ g i ≠ ⊥) :
    Cert.LossLnRefIdeal.Read.val_main_v72 (F := Ideal) y u z g = dzSpec ((Cert.LossLnRefIdeal.Read.val_main_v14 (F := Ideal) y u)) z g :=
  funext fun i => (ref_grad y u z g i).trans (grad_eq _ _ (fun _ => hz _) (fun j => mul_finite (hd _) (hg _)) _).symm

/-- The reference's gradient of the layer norm's input. -/
theorem ref0 (y u z : S2048x2048.Idx → EReal) (g : S2048.Idx → EReal) (h : Finite y u z g) : Cert.LossLnRefIdeal.Read.val_main_v72 (F := Ideal) y u z g = R0 y u z g := by
  refine (ref_dz y u z g (fun i => ?_) h.2.2.1 h.2.2.2).trans (congrArg (fun d => dzSpec d z g) (ref_D y u))
  rw [ref_D]
  exact D_finite (h.1 i) (h.2.1 i)

/-- The reference's gradient of the gain. -/
theorem ref2 (y u z : S2048x2048.Idx → EReal) : Cert.LossLnRefIdeal.Read.val_main_v74 (F := Ideal) y u z = R2 y u z :=
  (ref_dg y u z).trans (congrArg (fun d => dgSpec d z) (ref_D y u))

/-- The reference's gradient of the shift. -/
theorem ref3 (y u : S2048x2048.Idx → EReal) : Cert.LossLnRefIdeal.Read.val_main_v75 (F := Ideal) y u = R3 y u :=
  (ref_db y u).trans (congrArg dbSpec (ref_D y u))

/-- The kernel's program ends with the gradients of the layer norm and the sum of the squared errors. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1_0) = R0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = R1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_2) = R2 (m ((c.tc : Thread nD τ).loc main_arg0)) (m ((c.tc : Thread nD τ).loc main_arg1)) (m ((c.tc : Thread nD τ).loc main_arg2))
      ∧ r.2.mem ((c.tc : Thread nD τ).loc main_v1_3) = R3 (m ((c.tc : Thread nD τ).loc main_arg0)) (m ((c.tc : Thread nD τ).loc main_arg1))
      ∧ r.2.mem ((c.tc : Thread nD τ).loc main_v1_4) = R4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h c).1).trans (final4 m c), ((h c).2.1).trans (final5 m c), ((h c).2.2.1).trans (final6 m c), ((h c).2.2.2.1).trans (final7 m c), ((h c).2.2.2.2.1).trans (final8 m c), (h c).2.2.2.2.2⟩) (Cert.LossLnIdeal.Value.run_blocks m ρ)

/-- The reference's program ends with the gradients of the layer norm and the sum of the squared errors. -/
theorem ref_run (m' : (ℓ : Loc Cert.LossLnRefIdeal.nD Cert.LossLnRefIdeal.τ Cert.LossLnRefIdeal.sig) → Buf (Elt Ideal) ℓ) (ρ : Dev Cert.LossLnRefIdeal.nD → PrngReg)
    (hf : ∀ c : Dev Cert.LossLnRefIdeal.nD, Finite (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3))) :
    θ_run (Cert.LossLnRefIdeal.defs (F := Ideal)) (onTc (τ := Cert.LossLnRefIdeal.τ) (Cert.LossLnRefIdeal.main (F := Ideal))) ⟨m', fun _ => 0, ρ⟩ (fun r => ∀ c : Dev Cert.LossLnRefIdeal.nD,
      r.2.mem ((c.tc : Thread Cert.LossLnRefIdeal.nD Cert.LossLnRefIdeal.τ).loc Cert.LossLnRefIdeal.main_v72) = R0 (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3))
      ∧ r.2.mem ((c.tc : Thread Cert.LossLnRefIdeal.nD Cert.LossLnRefIdeal.τ).loc Cert.LossLnRefIdeal.main_v73) = R1 (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2)) (m' ((c.tc : Thread Cert.LossLnRefIdeal.nD Cert.LossLnRefIdeal.τ).loc Cert.LossLnRefIdeal.main_arg3))
      ∧ r.2.mem ((c.tc : Thread Cert.LossLnRefIdeal.nD Cert.LossLnRefIdeal.τ).loc Cert.LossLnRefIdeal.main_v74) = R2 (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1)) (m' ((c.tc : Thread Cert.LossLnRefIdeal.nD Cert.LossLnRefIdeal.τ).loc Cert.LossLnRefIdeal.main_arg2))
      ∧ r.2.mem ((c.tc : Thread Cert.LossLnRefIdeal.nD Cert.LossLnRefIdeal.τ).loc Cert.LossLnRefIdeal.main_v75) = R3 (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1))
      ∧ r.2.mem ((c.tc : Thread Cert.LossLnRefIdeal.nD Cert.LossLnRefIdeal.τ).loc Cert.LossLnRefIdeal.main_v79) = R4 (m' ((c.tc : Thread Cert.LossLnRefIdeal.nD Cert.LossLnRefIdeal.τ).loc Cert.LossLnRefIdeal.main_arg0)) (m' ((c.tc : Thread Cert.LossLnRefIdeal.nD Cert.LossLnRefIdeal.τ).loc Cert.LossLnRefIdeal.main_arg1))
      ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)) :=
  (θ_run _ _ _).mono (fun r h c => ⟨(((h c).1).trans (Cert.LossLnRefIdeal.Read.val_main_v72_eq m' c)).trans (ref0 _ _ _ _ (hf c)), (((h c).2.1).trans (Cert.LossLnRefIdeal.Read.val_main_v73_eq m' c)).trans ((funext fun i => Cert.LossLnRefIdeal.Read.val_main_v73_apply _ _ _ _ i).trans (ref0 _ _ _ _ (hf c))), (((h c).2.2.1).trans (Cert.LossLnRefIdeal.Read.val_main_v74_eq _ _ _)).trans (ref2 _ _ _), (((h c).2.2.2.1).trans (Cert.LossLnRefIdeal.Read.val_main_v75_eq _ _)).trans (ref3 _ _), (((h c).2.2.2.2.1).trans (Cert.LossLnRefIdeal.Read.val_main_v79_eq _ _)).trans (ref_sq _ _), (h c).2.2.2.2.2⟩)
    (Cert.LossLnRefIdeal.Value.run (F := Ideal) m' ρ)

end Cert.LossLnClaim

end
-- ==== Proof.PoolFwd.lean ====
/- The forward call of the pooling mixer and its gate: what the kernel leaves and what the reference computes. -/
module

public import proofs.«01_k».proof.Proof.PoolBlock
public import proofs.«01_k».proof.Proof.PoolBackward
public import proofs.«01_k».proof.Proof.Gen.PoolFwdIdeal.Value
public import proofs.«01_k».proof.Proof.Gen.PoolFwdRefIdeal.Read
public import Idealize.ShloMosaic.Lib.Pipeline.ValueKit

@[expose] public section

set_option maxRecDepth 16384

noncomputable section

namespace Cert.PoolFwdClaim

open Idealize.ShloMosaic hiding addf_apply mulf_apply subf_apply divf_apply truncf_apply
open Idealize.ShloMosaic.ValueIdx (addf_apply mulf_apply subf_apply divf_apply truncf_apply broadcast_apply select_apply)
open Idealize.ShloMosaic.TcCoe
open Cert.Windows Cert.PoolSpec Cert.PoolHost
open Cert.PoolFwdIdeal Cert.PoolFwdIdeal.Gen
open scoped BigOperators

/-! ## What both compute -/

/-- The gate's input at a row and a column of a group. -/
def gate (x0 : S2048x4096.Idx → EReal) (g : Fin 4) (s : Fin 2048) (j : Fin 256) : EReal :=
  x0 (ix2 s ⟨3072 + 256 * g.val + j.val, by omega⟩)

/-- The mixed and gated columns: the pooled columns times the group's matrix, the scale, and the gate's own product with its logistic. -/
def part (x0 : S2048x4096.Idx → EReal) (x2 : S4x256x256.Idx → EReal) (x3 : S1024.Idx → EReal) (g : Fin 4) (s : Fin 2048) (j : Fin 256) : EReal :=
  (∑ k : Fin 256, ((pooled g.val (colX x0 g k) s : ℝ) : EReal) * x2 (ix3 g k j)) * x3 (ix1 (col g j))
    * (gate x0 g s j * Ideal.logistic (gate x0 g s j))

/-- The result: the incoming first half, then the mixed and gated columns. -/
def R (x0 : S2048x4096.Idx → EReal) (x1 : S2x2048x1024.Idx → EReal) (x2 : S4x256x256.Idx → EReal) (x3 : S1024.Idx → EReal)
    (i : S2x2048x1024.Idx) : EReal :=
  if (i 0).val = 0 then x1 i else part x0 x2 x3 (grp (i 2)) (i 1) (lane (i 2))

/-- A column's group and lane from its number. -/
theorem grp_col (g : Fin 4) (j : Fin 256) : grp (col g j) = g ∧ lane (col g j) = j := by
  constructor
  · apply Fin.ext; show (256 * g.val + j.val) / 256 = _; omega
  · apply Fin.ext; show (256 * g.val + j.val) % 256 = _; omega

/-- The result's second half at a column of a group. -/
theorem R_at (x0 : S2048x4096.Idx → EReal) (x1 : S2x2048x1024.Idx → EReal) (x2 : S4x256x256.Idx → EReal) (x3 : S1024.Idx → EReal)
    (g : Fin 4) (s : Fin 2048) (j : Fin 256) : R x0 x1 x2 x3 (ix3 1 s (col g j)) = part x0 x2 x3 g s j := by
  obtain ⟨h1, h2⟩ := grp_col g j
  unfold R
  rw [if_neg (show ¬ ((ix3 (n0 := 2) (n1 := 2048) (n2 := 1024) 1 s (col g j)) 0).val = 0 from Nat.one_ne_zero)]
  show part x0 x2 x3 (grp (col g j)) s (lane (col g j)) = _
  rw [h1, h2]

/-- Columns cut out of the projected input that are real numbers are the mixer's input. -/
theorem cols (x : S2048x4096.Idx → EReal) (hs : S2048x4096.Slices ![0, 2048] (⟨2, ![2048, 1024]⟩ : Shape))
    (h : ∀ i, extractStridedSlice (⟨2, ![2048, 1024]⟩ : Shape) ![0, 2048] x hs i ≠ ⊤ ∧ extractStridedSlice (⟨2, ![2048, 1024]⟩ : Shape) ![0, 2048] x hs i ≠ ⊥) :
    FiniteX x := fun s g j => by
  have e := extractStridedSlice_apply ![0, 2048] x hs (ix2 s (col g j)) (ix2 s ⟨2048 + 256 * g.val + j.val, by omega⟩) (fun a => match a with
    | ⟨0, _⟩ => (Nat.zero_add _).symm
    | ⟨1, _⟩ => show 2048 + 256 * g.val + j.val = 2048 + (256 * g.val + j.val) by omega)
  have := h (ix2 s (col g j))
  rw [e] at this
  exact this

/-! ## The kernel -/

/-- The pooled columns of a block. -/
theorem pay2_apply (i : grid0.Coords) (X : Fin 256 → ℕ → ℝ) (v1 : FVec Ideal S2048x256 .f32) (hx : ∀ (s : Fin 2048) (j : Fin 256), v1 (ix2 s j) = ((X j s : ℝ) : EReal))
    (s : Fin 2048) (j : Fin 256) : k0_pay2 (F := Ideal) i v1 (ix2 s j) = ((pooled (i 0).val (X j) s : ℝ) : EReal) :=
  Cert.PoolBlock.pay3_apply i X v1 hx s j

/-- The block stored, of the pooled columns, the matrix, the gate's input and the scale. -/
theorem pay1_apply (v39 : FVec Ideal S2048x256 .f32) (v41 : Vec Ideal S1x256x256 .bf16) (v44 : Vec Ideal S2048x256 .f32)
    (v45 : Vec Ideal S1x256 .f32) (P W : Fin 256 → EReal) (Z D : EReal) (s : Fin 2048) (j : Fin 256)
    (hp : ∀ k : Fin 256, v39 (ix2 s k) = P k) (hw : ∀ k : Fin 256, v41 (ix3 0 k j) = W k) (hz : v44 (ix2 s j) = Z) (hd : v45 (ix2 0 j) = D) :
    k0_pay1 (F := Ideal) v39 v41 v44 v45 (ix3 0 s j) = (∑ k, P k * W k) * D * (Z * Ideal.logistic Z) := by
  unfold k0_pay1
  rw [shapeCast_addUnit_apply, show (fun a : Fin 2 => (ix3 (n0 := 1) (n1 := 2048) (n2 := 256) 0 s j) a.succ) = ix2 (n0 := 2048) (n1 := 256) s j by
    funext b; match b with | ⟨0, _⟩ => rfl | ⟨1, _⟩ => rfl]
  rw [truncf_apply, mulf_apply, mulf_apply, mulf_apply]
  have e1 : matmul (φ₂ := .bf16) dot_S2048x256_S256x256_S2048x256_1_0_0_1_n_n none (truncf (F := Ideal) .bf16 v39 bitsLt_bf16_f32)
      (shapeCast S256x256 v41 shapeCasts_S1x256x256_S256x256) (constant (F := Ideal) S2048x256 .f32 0x00000000#32) (ix2 s j) = ∑ k, P k * W k := by
    refine (Ideal.matmul_apply₁_of _ (a := 1) rfl (K := 256) rfl _ _ _ _ (fun k => ix2 s k) (fun k => ix2 k j)
      (fun k => by rw [Shape.Idx.norm2]; rfl) (fun k => by rw [Shape.Idx.norm2]; rfl)).trans ?_
    rw [show constant (F := Ideal) S2048x256 .f32 0x00000000#32 (ix2 s j) = 0 from Ideal.ofBits_zero_f32, zero_add]
    refine Finset.sum_congr rfl fun k _ => ?_
    rw [shapeCast_dropUnit_apply]
    exact congrArg₂ _ (hp k) ((congrArg v41 (by funext b; match b with | ⟨0, _⟩ => rfl | ⟨1, _⟩ => rfl | ⟨2, _⟩ => rfl)).trans (hw k))
  have e2 : broadcastTo S2048x256 (shapeCast S1x256 v45 shapeCasts_S1x256_S1x256) broadcasts_S1x256_S2048x256 (ix2 s j) = D := by
    rw [shapeCast_self, broadcastTo_apply _ _ _ (ix2 0 j) (by intro a; match a with | ⟨0, _⟩ => rfl | ⟨1, _⟩ => rfl), hd]
  have e3 : logistic (F := Ideal) (φ := .f32) v44 (ix2 s j) = Ideal.logistic Z := by
    show Ideal.logistic (v44 (ix2 s j)) = _
    rw [hz]
  rw [e1, e2, e3, hz]

variable (m : (ℓ : Loc nD τ sig) → Buf (Elt Ideal) ℓ) (c : Dev nD)

/-- The mixing matrices as the call takes them. -/
theorem V_main_v0 : V m c main_v0 = truncf (F := Ideal) .bf16 (m ((c : Thread nD τ).loc main_arg2)) bitsLt_bf16_f32 := rfl
/-- The output scale as one row. -/
theorem V_main_v1 : V m c main_v1 = shapeCast S1x1024 (m ((c : Thread nD τ).loc main_arg3)) shapeCasts_S1024_S1x1024 := rfl
/-- The incoming array. -/
theorem V_main_v2 : V m c main_v2 = m ((c : Thread nD τ).loc main_arg1) := rfl

/-- The block of window 0 at a grid point. -/
theorem idx0 : ∀ t : Fin cfg0.N, win0_0.index t = ![0, 8 + t.val] := (by decide +kernel : ∀ t : Fin grid0.N, _)
/-- The block of window 1 at a grid point. -/
theorem idx1 : ∀ t : Fin cfg0.N, win0_1.index t = ![0, 12 + t.val] := (by decide +kernel : ∀ t : Fin grid0.N, _)
/-- The block of window 2 at a grid point. -/
theorem idx2 : ∀ t : Fin cfg0.N, win0_2.index t = ![t.val, 0, 0] := (by decide +kernel : ∀ t : Fin grid0.N, _)
/-- The block of window 3 at a grid point. -/
theorem idx3 : ∀ t : Fin cfg0.N, win0_3.index t = ![0, t.val] := (by decide +kernel : ∀ t : Fin grid0.N, _)
/-- The block of window 4 at a grid point. -/
theorem idx4 : ∀ t : Fin cfg0.N, win0_4.index t = ![1, 0, t.val] := (by decide +kernel : ∀ t : Fin grid0.N, _)
/-- The grid coordinate of a point is its number. -/
theorem coord0 : ∀ t : Fin cfg0.N, (grid0.coords t 0).val = t.val := (by decide +kernel : ∀ t : Fin grid0.N, _)
/-- There are four grid points. -/
theorem t_lt (t : Fin cfg0.N) : t.val < 4 := by have := t.isLt; have h : cfg0.N = 4 := N_0; omega

/-- The group a grid point works on. -/
def gp (t : Fin cfg0.N) : Fin 4 := ⟨t.val, t_lt t⟩

variable (hh : FiniteX (m ((c : Thread nD τ).loc main_arg0) : S2048x4096.Idx → EReal))

include hh in
/-- The mixer's input block. -/
theorem iblk0 (t : Fin cfg0.N) (s : Fin 2048) (j : Fin 256) :
    (iblk m c 0 t : S2048x256.Idx → EReal) (ix2 s j) = ((colX (m ((c : Thread nD τ).loc main_arg0)) (gp t) j s : ℝ) : EReal) := by
  have hg : (gp t).val = t.val := rfl
  blk_simp [iblk]
  unfold colX hcol
  rw [dif_pos s.isLt, EReal.coe_toReal (hh s (gp t) j).1 (hh s (gp t) j).2]
  exact congrArg (m ((c : Thread nD τ).loc main_arg0)) (by blk_ext [idx0])

/-- The gate's input block. -/
theorem iblk1 (t : Fin cfg0.N) (s : Fin 2048) (j : Fin 256) :
    (iblk m c 1 t : S2048x256.Idx → EReal) (ix2 s j) = gate (m ((c : Thread nD τ).loc main_arg0)) (gp t) s j := by
  have hg : (gp t).val = t.val := rfl
  blk_simp [iblk]
  unfold gate
  exact congrArg (m ((c : Thread nD τ).loc main_arg0)) (by blk_ext [idx1])

/-- The mixing matrix's block. -/
theorem iblk2 (t : Fin cfg0.N) (i j : Fin 256) :
    (iblk m c 2 t : S1x256x256.Idx → EReal) (ix3 0 i j) = (m ((c : Thread nD τ).loc main_arg2) : S4x256x256.Idx → EReal) (ix3 (gp t) i j) := by
  have hg : (gp t).val = t.val := rfl
  blk_simp [iblk]
  show V m c main_v0 _ = _
  rw [V_main_v0]
  exact congrArg (m ((c : Thread nD τ).loc main_arg2)) (by blk_ext [idx2])

/-- The output scale's block. -/
theorem iblk3 (t : Fin cfg0.N) (j : Fin 256) :
    (iblk m c 3 t : S1x256.Idx → EReal) (ix2 0 j) = (m ((c : Thread nD τ).loc main_arg3) : S1024.Idx → EReal) (ix1 (col (gp t) j)) := by
  have hg : (gp t).val = t.val := rfl
  blk_simp [iblk]
  show V m c main_v1 _ = _
  rw [V_main_v1]
  have e : ∀ x : S1x1024.Idx, (x 1).val = 256 * (gp t).val + j.val →
      shapeCast S1x1024 (m ((c : Thread nD τ).loc main_arg3)) shapeCasts_S1024_S1x1024 x
        = m ((c : Thread nD τ).loc main_arg3) (ix1 (col (gp t) j)) := by
    intro x hx
    refine (shapeCast_addUnit_apply _ _ _ _).trans (congrArg (m ((c : Thread nD τ).loc main_arg3)) ?_)
    funext b
    match b with
    | ⟨0, _⟩ => exact Fin.ext hx
  exact e _ (by blk_simp [idx3]; omega)

/-- A point's result as a payload of its blocks. -/
theorem out4 (t : Fin cfg0.N) : outsAt0 m c t = k0_pay1 (F := Ideal) (k0_pay2 (grid0.coords t) (iblk m c 0 t)) (iblk m c 2 t) (iblk m c 1 t) (iblk m c 3 t) := by
  simp only [outsAt0]
  frame_out

include hh in
/-- A point's result at an index. -/
theorem out4_apply (t : Fin cfg0.N) (s : Fin 2048) (j : Fin 256) :
    (outsAt0 m c t : S1x2048x256.Idx → EReal) (ix3 0 s j) = part (m ((c : Thread nD τ).loc main_arg0)) (m ((c : Thread nD τ).loc main_arg2))
      (m ((c : Thread nD τ).loc main_arg3)) (gp t) s j := by
  rw [out4]
  refine pay1_apply _ _ _ _ _ _ _ _ s j (fun k => ?_) (fun k => iblk2 m c t k j) (iblk1 m c t s j) (iblk3 m c t j)
  rw [pay2_apply (grid0.coords t) _ _ (iblk0 m c hh t)]
  rw [show (grid0.coords t 0).val = (gp t).val from coord0 t]

include hh in
/-- The output array after the run. -/
theorem final4 : (dats m 0 c).arrAt 4 cfg0.N = R (m ((c : Thread nD τ).loc main_arg0)) (m ((c : Thread nD τ).loc main_arg1))
    (m ((c : Thread nD τ).loc main_arg2)) (m ((c : Thread nD τ).loc main_arg3)) := by
  refine (dats m 0 c).arrAt_eq_of_coversWhere_of_agree 4 _ (fun β => 1 ≤ β (0 : Fin 3)) (by decide +kernel) (fun t hf y => ?_) (fun j hj => ?_)
  · obtain ⟨s, j, rfl⟩ : ∃ (s : Fin 2048) (j : Fin 256), y = ix3 (n0 := 1) 0 s j :=
      ⟨y 1, y 2, (eq_ix3 (n0 := 1) (n1 := 2048) (n2 := 256) y).trans (by congr 1; exact Subsingleton.elim _ _)⟩
    have e0 : ((win0_4.blk t).view.emb (ix3 0 s j) : S2x2048x1024.Idx) = ix3 1 s (col (gp t) j) := by
      have hg : (gp t).val = t.val := rfl
      unfold col
      blk_ext [idx4]
    blk_simp
    rw [after0_4]
    exact (out4_apply m c hh t s j).trans ((congrArg (R (m ((c : Thread nD τ).loc main_arg0)) (m ((c : Thread nD τ).loc main_arg1))
      (m ((c : Thread nD τ).loc main_arg2)) (m ((c : Thread nD τ).loc main_arg3))) e0).trans (R_at _ _ _ _ _ _ _)).symm
  · blk_simp [Pipeline.Window.cell_apply] at hj
    rw [A_eq]
    have e : V m c (Pipeline.arrRef spec0 4) = m ((c : Thread nD τ).loc main_arg1) := V_main_v2 m c
    rw [e]
    have h : (((cfg0.win 4).arr.view.emb j : S2x2048x1024.Idx) 0).val = 0 := by
      show (j 0).val = 0
      omega
    exact (if_pos h).symm

/-- The kernel's program ends with the incoming first half and the mixed and gated columns. -/
theorem kernel_run (ρ : Dev nD → PrngReg) (hf : ∀ c : Dev nD, FiniteX (m ((c.tc : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v2) = R (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h c).1).trans (final4 m c (hf c)), (h c).2⟩) (Cert.PoolFwdIdeal.Value.run_blocks m ρ)

/-! ## The reference -/

section Reference
open Cert.PoolFwdRefIdeal.Read
variable (x0 : S2048x4096.Idx → EReal) (x1 : S2x2048x1024.Idx → EReal) (x2 : S4x256x256.Idx → EReal) (x3 : S1024.Idx → EReal) (hx : FiniteX x0)

/-- The pooled columns are computed here by the same lines as under the backward pass. -/
theorem ref_same : val_main_v57 (F := Ideal) x0 = Cert.PoolRefIdeal.Read.val_main_v61 (F := Ideal) x0 := rfl

include hx in
/-- The reference's mixed columns. -/
theorem ref_mixed (g : Fin 4) (s : Fin 2048) (j : Fin 256) :
    val_main_v60 (F := Ideal) x0 x2 (ix3 0 s (col g j)) = ∑ k : Fin 256, ((pooled g.val (colX x0 g k) s : ℝ) : EReal) * x2 (ix3 g k j) := by
  rw [val_main_v60_apply, ix4_ext (n0 := 1) (n1 := 2048) (n2 := 4) (n3 := 256) (idx_main_v60 (ix3 0 s (col g j))) 0 s g j rfl
      (show ((0 * 2048 + s.val) * 1024 + (256 * g.val + j.val)) / 1024 % 2048 = s.val by omega)
      (show ((0 * 2048 + s.val) * 1024 + (256 * g.val + j.val)) / 256 % 4 = g.val by omega)
      (show ((0 * 2048 + s.val) * 1024 + (256 * g.val + j.val)) % 256 = j.val by omega),
    val_main_v59_apply, val_main_v58_apply, ref_same]
  refine Finset.sum_congr rfl fun k _ => (mul_comm _ _).trans ?_
  exact congrArg₂ _ ((congrArg (Cert.PoolRefIdeal.Read.val_main_v61 (F := Ideal) x0)
      (ix4_ext (n0 := 1) (n1 := 2048) (n2 := 4) (n3 := 256) _ 0 s g k rfl rfl rfl rfl)).trans (Cert.PoolForward.v61_at x0 hx s g k))
    (congrArg x2 (ix3_ext (n0 := 4) (n1 := 256) (n2 := 256) _ g k j rfl rfl rfl))

/-- The reference's gate. -/
theorem ref_gate (g : Fin 4) (s : Fin 2048) (j : Fin 256) :
    val_main_v64 (F := Ideal) x0 (ix3 0 s (col g j)) = gate x0 g s j * Ideal.logistic (gate x0 g s j) := by
  have e : val_main_v3 (F := Ideal) x0 (ix3 0 s (col g j)) = gate x0 g s j := by
    rw [val_main_v3_apply, val_main_v2_apply]
    unfold gate
    refine congrArg x0 ?_
    funext b
    match b with
    | ⟨0, _⟩ => rfl
    | ⟨1, _⟩ => exact Fin.ext (show 3072 + (256 * g.val + j.val) = 3072 + 256 * g.val + j.val by omega)
  rw [val_main_v64_apply, val_main_call1_v5_apply, val_main_call1_v4_apply, val_main_call1_v3_apply, val_main_call1_v2_apply,
    val_main_call1_v1_apply, val_main_call1_v0_apply, e]
  have one : ∀ i, val_main_call1_cst (F := Ideal) i = 1 := fun _ => Ideal.ofBits_one_f32
  have one' : ∀ i, val_main_call1_cst_0 (F := Ideal) i = 1 := fun _ => Ideal.ofBits_one_f32
  rw [one, one']
  rfl

include hx in
/-- The reference's mixed and gated columns. -/
theorem ref_part (g : Fin 4) (s : Fin 2048) (j : Fin 256) : val_main_v65 (F := Ideal) x0 x2 x3 (ix3 0 s (col g j)) = part x0 x2 x3 g s j := by
  rw [val_main_v65_apply, val_main_v63_apply, ref_mixed x0 x2 hx, ref_gate, val_main_v62_apply, val_main_v61_apply]
  refine congrArg (· * _) (congrArg (_ * ·) (congrArg x3 ?_))
  funext b
  match b with
  | ⟨0, _⟩ => rfl

include hx in
/-- The reference's result. -/
theorem ref_R : val_main_v72 (F := Ideal) x0 x1 x2 x3 = R x0 x1 x2 x3 := by
  funext i
  obtain ⟨k, s, q, rfl⟩ : ∃ (k : Fin 2) (s : Fin 2048) (q : Fin 1024), i = ix3 (n0 := 2) (n1 := 2048) (n2 := 1024) k s q :=
    ⟨i 0, i 1, i 2, eq_ix3 (n0 := 2) (n1 := 2048) (n2 := 1024) i⟩
  unfold val_main_v72
  refine (Cert.PoolBackward.cat_first (a := 1) (b := 1) (n := 2) rfl (val_main_v70 (F := Ideal) x1) (val_main_v71 (F := Ideal) x0 x2 x3) _ k s q).trans ?_
  by_cases h : k.val < 1
  · rw [dif_pos h, val_main_v70_apply, val_main_v67_apply, val_main_v66_apply]
    have hk : k.val = 0 := by omega
    unfold R
    rw [if_pos (show ((ix3 (n0 := 2) (n1 := 2048) (n2 := 1024) k s q) 0).val = 0 from hk)]
    exact congrArg x1 (ix3_ext (n0 := 2) (n1 := 2048) (n2 := 1024) _ k s q (show 0 = k.val from hk.symm)
      (show (s.val * 1024 + q.val) / 1024 % 2048 = s.val by omega) (show (s.val * 1024 + q.val) % 1024 = q.val by omega))
  · rw [dif_neg h]
    obtain rfl : k = 1 := Fin.ext (show k.val = 1 by omega)
    obtain ⟨g, j, rfl⟩ : ∃ (g : Fin 4) (j : Fin 256), q = col g j :=
      ⟨grp q, lane q, Fin.ext (show q.val = 256 * (q.val / 256) + q.val % 256 by omega)⟩
    rw [R_at, val_main_v71_apply]
    refine Eq.trans ?_ (ref_part x0 x2 x3 hx g s j)
    rw [val_main_v69_apply, val_main_v68_apply]
    exact congrArg (val_main_v65 (F := Ideal) x0 x2 x3) (ix3_ext (n0 := 1) (n1 := 2048) (n2 := 1024) _ 0 s (col g j) rfl
      (show (s.val * 1024 + (256 * g.val + j.val)) / 1024 % 2048 = s.val by omega)
      (show (s.val * 1024 + (256 * g.val + j.val)) % 1024 = 256 * g.val + j.val by omega))

end Reference

/-- The reference's program ends with the same array. -/
theorem ref_run (m' : (ℓ : Loc Cert.PoolFwdRefIdeal.nD Cert.PoolFwdRefIdeal.τ Cert.PoolFwdRefIdeal.sig) → Buf (Elt Ideal) ℓ) (ρ : Dev Cert.PoolFwdRefIdeal.nD → PrngReg)
    (hf : ∀ c : Dev Cert.PoolFwdRefIdeal.nD, FiniteX (m' ((c.tc : Thread Cert.PoolFwdRefIdeal.nD Cert.PoolFwdRefIdeal.τ).loc Cert.PoolFwdRefIdeal.main_arg0))) :
    θ_run (Cert.PoolFwdRefIdeal.defs (F := Ideal)) (onTc (τ := Cert.PoolFwdRefIdeal.τ) (Cert.PoolFwdRefIdeal.main (F := Ideal))) ⟨m', fun _ => 0, ρ⟩ (fun r => ∀ c : Dev Cert.PoolFwdRefIdeal.nD,
      r.2.mem ((c.tc : Thread Cert.PoolFwdRefIdeal.nD Cert.PoolFwdRefIdeal.τ).loc Cert.PoolFwdRefIdeal.main_v72) = R (m' ((c.tc : Thread Cert.PoolFwdRefIdeal.nD Cert.PoolFwdRefIdeal.τ).loc Cert.PoolFwdRefIdeal.main_arg0)) (m' ((c.tc : Thread Cert.PoolFwdRefIdeal.nD Cert.PoolFwdRefIdeal.τ).loc Cert.PoolFwdRefIdeal.main_arg1)) (m' ((c.tc : Thread Cert.PoolFwdRefIdeal.nD Cert.PoolFwdRefIdeal.τ).loc Cert.PoolFwdRefIdeal.main_arg2)) (m' ((c.tc : Thread Cert.PoolFwdRefIdeal.nD Cert.PoolFwdRefIdeal.τ).loc Cert.PoolFwdRefIdeal.main_arg3))
      ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2)
      ∧ r.2.mem ((c.tc : Thread Cert.PoolFwdRefIdeal.nD Cert.PoolFwdRefIdeal.τ).loc Cert.PoolFwdRefIdeal.main_arg3) = m' ((c.tc : Thread Cert.PoolFwdRefIdeal.nD Cert.PoolFwdRefIdeal.τ).loc Cert.PoolFwdRefIdeal.main_arg3)) :=
  (θ_run _ _ _).mono (fun r h c => ⟨((h c).1.trans (Cert.PoolFwdRefIdeal.Read.val_main_v72_eq m' c)).trans (ref_R _ _ _ _ (hf c)), (h c).2⟩)
    (Cert.PoolFwdRefIdeal.Value.run (F := Ideal) m' ρ)

end Cert.PoolFwdClaim

end
-- ==== Proof.Adam.lean ====
/- One update of the optimiser at an element, and the layouts its calls read through. -/
module

public import Idealize.ShloMosaic.Lib.Pointwise
public import Idealize.ShloMosaic.Lib.Pipeline.ValueKit
public import Idealize.ShloMosaic.PureOps.Ideal.Laws

@[expose] public section

noncomputable section

namespace Cert.Adam

open Idealize.ShloMosaic
open scoped BigOperators

/-- The new first moment. -/
def mom (g m : EReal) : EReal := Ideal.ofBits .f32 0x3F666666#32 * m + Ideal.ofBits .f32 0x3DCCCCCD#32 * g

/-- The new second moment. -/
def sec (g v : EReal) : EReal := Ideal.ofBits .f32 0x3F7FBE77#32 * v + Ideal.ofBits .f32 0x3A83126F#32 * (g * g)

/-- The step of a weight. -/
def delta (w g m v : EReal) : EReal :=
  Ideal.ofBits .f32 0xBA83126F#32 * (Ideal.div (Ideal.div (mom g m) (Ideal.ofBits .f32 0x3F26BD02#32)) (Ideal.sqrt (Ideal.div (sec g v) (Ideal.ofBits .f32 0x3C231ACC#32)) + Ideal.ofBits .f32 0x322BCC77#32) + Ideal.ofBits .f32 0x3C23D70A#32 * w)

/-- A device's own part of a gradient and the three parts it received, added in that order. -/
def grad (s r0 r1 r2 : EReal) : EReal := s + r0 + r1 + r2

/-- The same gradient with the received parts added first, from zero. -/
theorem grad_eq (s : EReal) (r : Fin 3 → EReal) : s + (Ideal.ofBits .f32 0x00000000#32 + ∑ k : Fin 3, r k) = grad s (r 0) (r 1) (r 2) := by
  unfold grad
  rw [Ideal.ofBits_zero_f32, zero_add, Fin.sum_univ_three, add_assoc, add_assoc, add_assoc]

/-- Dropping a leading axis of one. -/
theorem drop_apply {φ : Type} {A B : ℕ} (v : (⟨3, ![1, A, B]⟩ : Shape).Idx → φ) (h : (⟨3, ![1, A, B]⟩ : Shape).ShapeCasts (⟨2, ![A, B]⟩ : Shape)) (i : Fin A) (j : Fin B) :
    shapeCast (⟨2, ![A, B]⟩ : Shape) v h (ix2 i j) = v (ix3 0 i j) := by
  rw [shapeCast_dropUnit_apply]
  exact congrArg v (by funext b; match b with | ⟨0, _⟩ => rfl | ⟨1, _⟩ => rfl | ⟨2, _⟩ => rfl)

/-- Adding a leading axis of one. -/
theorem add_apply {φ : Type} {A B : ℕ} (v : (⟨2, ![A, B]⟩ : Shape).Idx → φ) (h : (⟨2, ![A, B]⟩ : Shape).ShapeCasts (⟨3, ![1, A, B]⟩ : Shape)) (i : Fin A) (j : Fin B) :
    shapeCast (⟨3, ![1, A, B]⟩ : Shape) v h (ix3 0 i j) = v (ix2 i j) := by
  rw [shapeCast_addUnit_apply]
  exact congrArg v (by funext b; match b with | ⟨0, _⟩ => rfl | ⟨1, _⟩ => rfl)

/-- Two layers stacked, at an index. -/
theorem stack_apply {φ : Type} {A B : ℕ} (y z : (⟨3, ![1, A, B]⟩ : Shape).Idx → φ)
    (h : Shape.Concatenates [(⟨3, ![1, A, B]⟩ : Shape), (⟨3, ![1, A, B]⟩ : Shape)] (⟨3, ![2, A, B]⟩ : Shape) 0)
    (p : Fin 2) (i : Fin A) (j : Fin B) :
    concatenate (⟨3, ![2, A, B]⟩ : Shape) 0 [⟨(⟨3, ![1, A, B]⟩ : Shape), y⟩, ⟨(⟨3, ![1, A, B]⟩ : Shape), z⟩] h (ix3 p i j)
      = if p.val = 0 then y (ix3 0 i j) else z (ix3 0 i j) := by
  have hb : ∀ (q : Fin 2) (b : Fin 3), b ≠ 0 → ((ix3 (n0 := 1) 0 i j : (⟨3, ![1, A, B]⟩ : Shape).Idx) b).val = ((ix3 q i j : (⟨3, ![2, A, B]⟩ : Shape).Idx) b).val := fun q b hb => by
    match b with
    | ⟨0, _⟩ => exact absurd rfl hb
    | ⟨1, _⟩ => rfl
    | ⟨2, _⟩ => rfl
  match p with
  | ⟨0, _⟩ =>
    exact concatenate_apply_piece (t := (⟨3, ![2, A, B]⟩ : Shape)) 0 [⟨(⟨3, ![1, A, B]⟩ : Shape), y⟩, ⟨(⟨3, ![1, A, B]⟩ : Shape), z⟩] h (ix3 0 i j) 0
      (show 0 < 2 by decide) (⟨3, ![1, A, B]⟩ : Shape) y rfl rfl 0 rfl (ix3 0 i j) (hb 0) rfl
  | ⟨1, _⟩ =>
    exact concatenate_apply_piece (t := (⟨3, ![2, A, B]⟩ : Shape)) 0 [⟨(⟨3, ![1, A, B]⟩ : Shape), y⟩, ⟨(⟨3, ![1, A, B]⟩ : Shape), z⟩] h (ix3 1 i j) 1
      (show 1 < 2 by decide) (⟨3, ![1, A, B]⟩ : Shape) z rfl rfl 1 rfl (ix3 0 i j) (hb 1) rfl

end Cert.Adam

end
-- ==== Proof.AdamOut.lean ====
/- The optimiser on the output projections: the kernel's program and the reference's end at the same arrays. -/
module

public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Adam
public import Idealize.ShloMosaic.Lib.Pointwise
public import Idealize.ShloMosaic.Lib.Pipeline.ValueKit

@[expose] public section

set_option maxRecDepth 16384

noncomputable section

namespace Cert.AdamOutClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam
open Cert.AdamOutIdeal Cert.AdamOutIdeal.Gen
open scoped BigOperators

/-- The gradient of both layers: each layer's own part and its three received parts. -/
def R3 (s0 : S4x256x2048.Idx → EReal) (r0 : S3x256x2048.Idx → EReal) (s1 : S4x256x2048.Idx → EReal) (r1 : S3x256x2048.Idx → EReal) : S2x256x2048.Idx → EReal :=
  fun i => if (i 0).val = 0 then grad (s0 (ix3 0 (i 1) (i 2))) (r0 (ix3 0 (i 1) (i 2))) (r0 (ix3 1 (i 1) (i 2))) (r0 (ix3 2 (i 1) (i 2)))
    else grad (s1 (ix3 0 (i 1) (i 2))) (r1 (ix3 0 (i 1) (i 2))) (r1 (ix3 1 (i 1) (i 2))) (r1 (ix3 2 (i 1) (i 2)))

/-- The gradient at an index. -/
theorem R3_apply (s0 : S4x256x2048.Idx → EReal) (r0 : S3x256x2048.Idx → EReal) (s1 : S4x256x2048.Idx → EReal) (r1 : S3x256x2048.Idx → EReal) (p : Fin 2) (a : Fin 256) (b : Fin 2048) :
    R3 s0 r0 s1 r1 (ix3 p a b) = if p.val = 0 then grad (s0 (ix3 0 a b)) (r0 (ix3 0 a b)) (r0 (ix3 1 a b)) (r0 (ix3 2 a b))
      else grad (s1 (ix3 0 a b)) (r1 (ix3 0 a b)) (r1 (ix3 1 a b)) (r1 (ix3 2 a b)) := rfl

/-- The weights' steps. -/
def R0 (w : S2x256x2048.Idx → EReal) (s0 : S4x256x2048.Idx → EReal) (r0 : S3x256x2048.Idx → EReal) (s1 : S4x256x2048.Idx → EReal) (r1 : S3x256x2048.Idx → EReal) (m v : S2x256x2048.Idx → EReal) : S2x256x2048.Idx → EReal :=
  fun i => delta (w i) (R3 s0 r0 s1 r1 i) (m i) (v i)

/-- The first moments. -/
def R1 (_w : S2x256x2048.Idx → EReal) (s0 : S4x256x2048.Idx → EReal) (r0 : S3x256x2048.Idx → EReal) (s1 : S4x256x2048.Idx → EReal) (r1 : S3x256x2048.Idx → EReal) (m _v : S2x256x2048.Idx → EReal) : S2x256x2048.Idx → EReal :=
  fun i => mom (R3 s0 r0 s1 r1 i) (m i)

/-- The second moments. -/
def R2 (_w : S2x256x2048.Idx → EReal) (s0 : S4x256x2048.Idx → EReal) (r0 : S3x256x2048.Idx → EReal) (s1 : S4x256x2048.Idx → EReal) (r1 : S3x256x2048.Idx → EReal) (_m v : S2x256x2048.Idx → EReal) : S2x256x2048.Idx → EReal :=
  fun i => sec (R3 s0 r0 s1 r1 i) (v i)

/-- One block's first moments. -/
theorem pay4_apply (g : FVec Ideal S128x2048 .f32) (m : Vec Ideal S1x128x2048 .f32) (i : Fin 128) (j : Fin 2048) :
    k0_pay4 (F := Ideal) g m (ix2 i j) = mom (g (ix2 i j)) (m (ix3 0 i j)) := by
  unfold k0_pay4 mom
  exact congrArg (fun a : EReal => Ideal.ofBits .f32 0x3F666666#32 * a + Ideal.ofBits .f32 0x3DCCCCCD#32 * g (ix2 i j)) (drop_apply m _ i j)

/-- One block's second moments. -/
theorem pay5_apply (g : FVec Ideal S128x2048 .f32) (v : Vec Ideal S1x128x2048 .f32) (i : Fin 128) (j : Fin 2048) :
    k0_pay5 (F := Ideal) g v (ix2 i j) = sec (g (ix2 i j)) (v (ix3 0 i j)) := by
  unfold k0_pay5 sec
  exact congrArg (fun a : EReal => Ideal.ofBits .f32 0x3F7FBE77#32 * a + Ideal.ofBits .f32 0x3A83126F#32 * ((g (ix2 i j) : EReal) * g (ix2 i j))) (drop_apply v _ i j)

/-- One block's steps. -/
theorem pay6_apply (g : FVec Ideal S128x2048 .f32) (w m v : Vec Ideal S1x128x2048 .f32) (i : Fin 128) (j : Fin 2048) :
    k0_pay6 (F := Ideal) g w m v (ix3 0 i j) = delta (w (ix3 0 i j)) (g (ix2 i j)) (m (ix3 0 i j)) (v (ix3 0 i j)) := by
  unfold k0_pay6
  refine (add_apply _ _ i j).trans ?_
  unfold delta
  rw [← pay4_apply g m i j, ← pay5_apply g v i j]
  exact congrArg (fun a : EReal => Ideal.ofBits .f32 0xBA83126F#32 * (Ideal.div (Ideal.div (k0_pay4 (F := Ideal) g m (ix2 i j)) (Ideal.ofBits .f32 0x3F26BD02#32)) (Ideal.sqrt (Ideal.div (k0_pay5 (F := Ideal) g v (ix2 i j)) (Ideal.ofBits .f32 0x3C231ACC#32)) + Ideal.ofBits .f32 0x322BCC77#32) + Ideal.ofBits .f32 0x3C23D70A#32 * a)) (drop_apply w _ i j)

/-- One block's gradient, before the layer is chosen. -/
theorem parts_apply (a b c d : Vec Ideal S1x128x2048 .bf16) (i : Fin 128) (j : Fin 2048) :
    addf (addf (addf (extf (F := Ideal) .f32 (shapeCast S128x2048 a shapeCasts_S1x128x2048_S128x2048) bitsLt_bf16_f32) (extf .f32 (shapeCast S128x2048 b shapeCasts_S1x128x2048_S128x2048) bitsLt_bf16_f32)) (extf .f32 (shapeCast S128x2048 c shapeCasts_S1x128x2048_S128x2048) bitsLt_bf16_f32)) (extf .f32 (shapeCast S128x2048 d shapeCasts_S1x128x2048_S128x2048) bitsLt_bf16_f32) (ix2 i j)
      = grad (a (ix3 0 i j)) (b (ix3 0 i j)) (c (ix3 0 i j)) (d (ix3 0 i j)) := by
  unfold grad
  exact congrArg₂ (fun a b : EReal => a + b) (congrArg₂ (fun a b : EReal => a + b) (congrArg₂ (fun a b : EReal => a + b) (drop_apply a _ i j) (drop_apply b _ i j)) (drop_apply c _ i j)) (drop_apply d _ i j)

/-- A choice between two arrays, at an index. -/
theorem select_fn (b : BitVec 1) (f g : FVec Ideal S128x2048 .f32) (i : S128x2048.Idx) : (Scalar.select b f g : FVec Ideal S128x2048 .f32) i = Scalar.select b (f i) (g i) := by
  unfold Scalar.select
  split <;> rfl

/-- One block's gradient: the first four parts in the first layer, the others in the second. -/
theorem pay3_apply (t : grid0.Coords) (a b c d a' b' c' d' : Vec Ideal S1x128x2048 .bf16) (i : Fin 128) (j : Fin 2048) :
    k0_pay3 (F := Ideal) t a b c d a' b' c' d' (ix2 i j)
      = Scalar.select (Scalar.cmpi .eq (BitVec.ofNat 32 (t 0).val) 0#32) (grad (a (ix3 0 i j)) (b (ix3 0 i j)) (c (ix3 0 i j)) (d (ix3 0 i j))) (grad (a' (ix3 0 i j)) (b' (ix3 0 i j)) (c' (ix3 0 i j)) (d' (ix3 0 i j))) := by
  rw [← parts_apply a b c d i j, ← parts_apply a' b' c' d' i j]
  exact select_fn _ _ _ _

variable (m : (ℓ : Loc nD τ sig) → Buf (Elt Ideal) ℓ) (c : Dev nD)

/-- The number of grid points. -/
theorem t_lt (t : Fin cfg0.N) : t.val < 4 := by have := t.isLt; have h : cfg0.N = 4 := N_0; omega

/-- The layer of a grid point, as the program tests it. -/
theorem layer : ∀ t : Fin cfg0.N, Scalar.cmpi .eq (BitVec.ofNat 32 (grid0.coords t 0).val) 0#32 = (if t.val < 2 then 1#1 else 0#1) := (by decide +kernel : ∀ t : Fin grid0.N, _)

/-- The block of window 0 at a grid point. -/
theorem idx0 : ∀ t : Fin cfg0.N, win0_0.index t = ![t.val / 2, t.val % 2, 0] := (by decide +kernel : ∀ t : Fin grid0.N, _)

/-- The block of window 5 at a grid point. -/
theorem idx5 : ∀ t : Fin cfg0.N, win0_5.index t = ![t.val / 2, t.val % 2, 0] := (by decide +kernel : ∀ t : Fin grid0.N, _)

/-- The block of window 6 at a grid point. -/
theorem idx6 : ∀ t : Fin cfg0.N, win0_6.index t = ![t.val / 2, t.val % 2, 0] := (by decide +kernel : ∀ t : Fin grid0.N, _)

/-- The block of window 7 at a grid point. -/
theorem idx7 : ∀ t : Fin cfg0.N, win0_7.index t = ![t.val / 2, t.val % 2, 0] := (by decide +kernel : ∀ t : Fin grid0.N, _)

/-- The block of window 8 at a grid point. -/
theorem idx8 : ∀ t : Fin cfg0.N, win0_8.index t = ![t.val / 2, t.val % 2, 0] := (by decide +kernel : ∀ t : Fin grid0.N, _)

/-- The block of window 9 at a grid point. -/
theorem idx9 : ∀ t : Fin cfg0.N, win0_9.index t = ![t.val / 2, t.val % 2, 0] := (by decide +kernel : ∀ t : Fin grid0.N, _)

/-- The block of window 10 at a grid point. -/
theorem idx10 : ∀ t : Fin cfg0.N, win0_10.index t = ![t.val / 2, t.val % 2, 0] := (by decide +kernel : ∀ t : Fin grid0.N, _)

/-- The block of window 1 at a grid point of the first layer. -/
theorem idx1 : ∀ t : Fin cfg0.N, t.val < 2 → win0_1.index t = ![0, t.val % 2, 0] := (by decide +kernel : ∀ t : Fin grid0.N, _)

/-- The block of window 2 at a grid point of the first layer. -/
theorem idx2 : ∀ t : Fin cfg0.N, t.val < 2 → win0_2.index t = ![0, t.val % 2, 0] := (by decide +kernel : ∀ t : Fin grid0.N, _)

/-- The block of window 3 at a grid point of the second layer. -/
theorem idx3 : ∀ t : Fin cfg0.N, ¬ t.val < 2 → win0_3.index t = ![0, t.val % 2, 0] := (by decide +kernel : ∀ t : Fin grid0.N, _)

/-- The block of window 4 at a grid point of the second layer. -/
theorem idx4 : ∀ t : Fin cfg0.N, ¬ t.val < 2 → win0_4.index t = ![0, t.val % 2, 0] := (by decide +kernel : ∀ t : Fin grid0.N, _)

/-- The block of the weights. -/
theorem iblk0 (t : Fin cfg0.N) (i : Fin 128) (j : Fin 2048) :
    (iblk m c 0 t : S1x128x2048.Idx → EReal) (ix3 0 i j) = m ((c : Thread nD τ).loc main_arg0) (ix3 ⟨t.val / 2, by have := t_lt t; omega⟩ ⟨128 * (t.val % 2) + i.val, by have := t_lt t; omega⟩ j) := by
  blk_simp [iblk]
  exact congrArg (m ((c : Thread nD τ).loc main_arg0)) (by blk_ext [idx0])

/-- The block of the first moments. -/
theorem iblk5 (t : Fin cfg0.N) (i : Fin 128) (j : Fin 2048) :
    (iblk m c 5 t : S1x128x2048.Idx → EReal) (ix3 0 i j) = m ((c : Thread nD τ).loc main_arg5) (ix3 ⟨t.val / 2, by have := t_lt t; omega⟩ ⟨128 * (t.val % 2) + i.val, by have := t_lt t; omega⟩ j) := by
  blk_simp [iblk]
  exact congrArg (m ((c : Thread nD τ).loc main_arg5)) (by blk_ext [idx5])

/-- The block of the second moments. -/
theorem iblk6 (t : Fin cfg0.N) (i : Fin 128) (j : Fin 2048) :
    (iblk m c 6 t : S1x128x2048.Idx → EReal) (ix3 0 i j) = m ((c : Thread nD τ).loc main_arg6) (ix3 ⟨t.val / 2, by have := t_lt t; omega⟩ ⟨128 * (t.val % 2) + i.val, by have := t_lt t; omega⟩ j) := by
  blk_simp [iblk]
  exact congrArg (m ((c : Thread nD τ).loc main_arg6)) (by blk_ext [idx6])

/-- The block of a layer's own part. -/
theorem iblk1 (t : Fin cfg0.N) (ht : t.val < 2) (i : Fin 128) (j : Fin 2048) :
    (iblk m c 1 t : S1x128x2048.Idx → EReal) (ix3 0 i j) = m ((c : Thread nD τ).loc main_arg1) (ix3 0 ⟨128 * (t.val % 2) + i.val, by have := t_lt t; omega⟩ j) := by
  blk_simp [iblk]
  exact congrArg (m ((c : Thread nD τ).loc main_arg1)) (by blk_ext [idx1 t ht])

/-- The block of a layer's received parts. -/
theorem iblk2 (t : Fin cfg0.N) (ht : t.val < 2) (p : Fin 3) (i : Fin 128) (j : Fin 2048) :
    (iblk m c 2 t : S3x128x2048.Idx → EReal) (ix3 p i j) = m ((c : Thread nD τ).loc main_arg2) (ix3 p ⟨128 * (t.val % 2) + i.val, by have := t_lt t; omega⟩ j) := by
  blk_simp [iblk]
  exact congrArg (m ((c : Thread nD τ).loc main_arg2)) (by blk_ext [idx2 t ht])

/-- The block of a layer's own part. -/
theorem iblk3 (t : Fin cfg0.N) (ht : ¬ t.val < 2) (i : Fin 128) (j : Fin 2048) :
    (iblk m c 3 t : S1x128x2048.Idx → EReal) (ix3 0 i j) = m ((c : Thread nD τ).loc main_arg3) (ix3 0 ⟨128 * (t.val % 2) + i.val, by have := t_lt t; omega⟩ j) := by
  blk_simp [iblk]
  exact congrArg (m ((c : Thread nD τ).loc main_arg3)) (by blk_ext [idx3 t ht])

/-- The block of a layer's received parts. -/
theorem iblk4 (t : Fin cfg0.N) (ht : ¬ t.val < 2) (p : Fin 3) (i : Fin 128) (j : Fin 2048) :
    (iblk m c 4 t : S3x128x2048.Idx → EReal) (ix3 p i j) = m ((c : Thread nD τ).loc main_arg4) (ix3 p ⟨128 * (t.val % 2) + i.val, by have := t_lt t; omega⟩ j) := by
  blk_simp [iblk]
  exact congrArg (m ((c : Thread nD τ).loc main_arg4)) (by blk_ext [idx4 t ht])

/-- A grid point's block of the gradient is that part of the whole gradient. -/
theorem blkG_apply (t : Fin cfg0.N) (i : Fin 128) (j : Fin 2048) :
    (k0_pay8 (F := Ideal) (grid0.coords t) (iblk m c 0 t) (iblk m c 1 t) (iblk m c 2 t) (iblk m c 3 t) (iblk m c 4 t) (iblk m c 5 t) (iblk m c 6 t)) (ix2 i j) = R3 (m ((c : Thread nD τ).loc main_arg1)) (m ((c : Thread nD τ).loc main_arg2)) (m ((c : Thread nD τ).loc main_arg3)) (m ((c : Thread nD τ).loc main_arg4)) (ix3 ⟨t.val / 2, by have := t_lt t; omega⟩ ⟨128 * (t.val % 2) + i.val, by have := t_lt t; omega⟩ j) := by
  unfold k0_pay8
  rw [pay3_apply, layer, R3_apply]
  by_cases ht : t.val < 2
  · rw [if_pos ht, if_pos (show t.val / 2 = 0 by omega)]
    show grad _ _ _ _ = grad _ _ _ _
    exact congr (congr (congr (congrArg grad ((congrFun (View.ld_unit_lit (S := S1x128x2048) _ (iblk m c 1 t) (by decide)) (ix3 0 i j)).trans (iblk1 m c t ht i j)))
      ((congrArg (iblk m c 2 t : S3x128x2048.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 2 t : S3x128x2048.Idx → EReal) (ix3 0 i j)).trans (iblk2 m c t ht 0 i j)))
      ((congrArg (iblk m c 2 t : S3x128x2048.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 2 t : S3x128x2048.Idx → EReal) (ix3 1 i j)).trans (iblk2 m c t ht 1 i j)))
      ((congrArg (iblk m c 2 t : S3x128x2048.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 2 t : S3x128x2048.Idx → EReal) (ix3 2 i j)).trans (iblk2 m c t ht 2 i j))
  · rw [if_neg ht, if_neg (show ¬ t.val / 2 = 0 by omega)]
    show grad _ _ _ _ = grad _ _ _ _
    exact congr (congr (congr (congrArg grad ((congrFun (View.ld_unit_lit (S := S1x128x2048) _ (iblk m c 3 t) (by decide)) (ix3 0 i j)).trans (iblk3 m c t ht i j)))
      ((congrArg (iblk m c 4 t : S3x128x2048.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 4 t : S3x128x2048.Idx → EReal) (ix3 0 i j)).trans (iblk4 m c t ht 0 i j)))
      ((congrArg (iblk m c 4 t : S3x128x2048.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 4 t : S3x128x2048.Idx → EReal) (ix3 1 i j)).trans (iblk4 m c t ht 1 i j)))
      ((congrArg (iblk m c 4 t : S3x128x2048.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 4 t : S3x128x2048.Idx → EReal) (ix3 2 i j)).trans (iblk4 m c t ht 2 i j))

/-- What a grid point leaves in the window of the steps. -/
theorem out7 (t : Fin cfg0.N) : out0_7 (F := Ideal) (grid0.coords t) (iblk m c 0 t) (iblk m c 1 t) (iblk m c 2 t) (iblk m c 3 t) (iblk m c 4 t) (iblk m c 5 t) (iblk m c 6 t) = k0_pay6 (k0_pay8 (F := Ideal) (grid0.coords t) (iblk m c 0 t) (iblk m c 1 t) (iblk m c 2 t) (iblk m c 3 t) (iblk m c 4 t) (iblk m c 5 t) (iblk m c 6 t)) (iblk m c 0 t) (iblk m c 5 t) (iblk m c 6 t) := by
  unfold out0_7
  exact (View.canon_cons_unit_lit _ _ _ (by decide)).trans (congr (congrArg₂ (k0_pay6 _) (View.ld_unit_lit _ _ (by decide)) (View.ld_unit_lit _ _ (by decide))) (View.ld_unit_lit _ _ (by decide)))

/-- What a grid point leaves in the window of the first moments. -/
theorem out8 (t : Fin cfg0.N) : out0_8 (F := Ideal) (grid0.coords t) (iblk m c 0 t) (iblk m c 1 t) (iblk m c 2 t) (iblk m c 3 t) (iblk m c 4 t) (iblk m c 5 t) (iblk m c 6 t) = k0_pay7 (k0_pay8 (F := Ideal) (grid0.coords t) (iblk m c 0 t) (iblk m c 1 t) (iblk m c 2 t) (iblk m c 3 t) (iblk m c 4 t) (iblk m c 5 t) (iblk m c 6 t)) (iblk m c 5 t) := by
  unfold out0_8
  exact (View.canon_cons_unit_lit _ _ _ (by decide)).trans (congrArg (k0_pay7 _) (View.ld_unit_lit _ _ (by decide)))

/-- What a grid point leaves in the window of the second moments. -/
theorem out9 (t : Fin cfg0.N) : out0_9 (F := Ideal) (grid0.coords t) (iblk m c 0 t) (iblk m c 1 t) (iblk m c 2 t) (iblk m c 3 t) (iblk m c 4 t) (iblk m c 5 t) (iblk m c 6 t) = k0_pay1 (k0_pay5 (k0_pay8 (F := Ideal) (grid0.coords t) (iblk m c 0 t) (iblk m c 1 t) (iblk m c 2 t) (iblk m c 3 t) (iblk m c 4 t) (iblk m c 5 t) (iblk m c 6 t)) (iblk m c 6 t)) := by
  unfold out0_9
  exact (View.canon_cons_unit_lit _ _ _ (by decide)).trans (congrArg (fun v => k0_pay1 (k0_pay5 _ v)) (View.ld_unit_lit _ _ (by decide)))

/-- What a grid point leaves in the window of the gradient. -/
theorem out10 (t : Fin cfg0.N) : out0_10 (F := Ideal) (grid0.coords t) (iblk m c 0 t) (iblk m c 1 t) (iblk m c 2 t) (iblk m c 3 t) (iblk m c 4 t) (iblk m c 5 t) (iblk m c 6 t) = k0_pay2 (k0_pay8 (F := Ideal) (grid0.coords t) (iblk m c 0 t) (iblk m c 1 t) (iblk m c 2 t) (iblk m c 3 t) (iblk m c 4 t) (iblk m c 5 t) (iblk m c 6 t)) := by
  unfold out0_10
  exact View.canon_cons_unit_lit _ _ _ (by decide)

/-- The array of the steps after the call. -/
theorem final7 : (dats m 0 c).arrAt 7 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨p, i, j, rfl⟩ : ∃ (p : Fin 1) (i : Fin 128) (j : Fin 2048), y = ix3 p i j := ⟨y 0, y 1, y 2, eq_ix3 y⟩
  obtain rfl : p = 0 := Subsingleton.elim _ _
  have e0 : ((win0_7.blk t).view.emb (ix3 0 i j) : S2x256x2048.Idx) = ix3 ⟨t.val / 2, by have := t_lt t; omega⟩ ⟨128 * (t.val % 2) + i.val, by have := t_lt t; omega⟩ j := by
    blk_ext [idx7]
  blk_simp
  rw [after0_7, out7]
  refine Eq.trans ?_ (congrArg (R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  exact (pay6_apply _ _ _ _ i j).trans (congr (congr (congr (congrArg delta (iblk0 m c t i j)) (blkG_apply m c t i j)) (iblk5 m c t i j)) (iblk6 m c t i j))

/-- The array of the first moments after the call. -/
theorem final8 : (dats m 0 c).arrAt 8 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨p, i, j, rfl⟩ : ∃ (p : Fin 1) (i : Fin 128) (j : Fin 2048), y = ix3 p i j := ⟨y 0, y 1, y 2, eq_ix3 y⟩
  obtain rfl : p = 0 := Subsingleton.elim _ _
  have e0 : ((win0_8.blk t).view.emb (ix3 0 i j) : S2x256x2048.Idx) = ix3 ⟨t.val / 2, by have := t_lt t; omega⟩ ⟨128 * (t.val % 2) + i.val, by have := t_lt t; omega⟩ j := by
    blk_ext [idx8]
  blk_simp
  rw [after0_8, out8]
  refine Eq.trans ?_ (congrArg (R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  unfold k0_pay7
  exact (add_apply _ _ i j).trans ((pay4_apply _ _ i j).trans (congrArg₂ mom (blkG_apply m c t i j) (iblk5 m c t i j)))

/-- The array of the second moments after the call. -/
theorem final9 : (dats m 0 c).arrAt 9 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨p, i, j, rfl⟩ : ∃ (p : Fin 1) (i : Fin 128) (j : Fin 2048), y = ix3 p i j := ⟨y 0, y 1, y 2, eq_ix3 y⟩
  obtain rfl : p = 0 := Subsingleton.elim _ _
  have e0 : ((win0_9.blk t).view.emb (ix3 0 i j) : S2x256x2048.Idx) = ix3 ⟨t.val / 2, by have := t_lt t; omega⟩ ⟨128 * (t.val % 2) + i.val, by have := t_lt t; omega⟩ j := by
    blk_ext [idx9]
  blk_simp
  rw [after0_9, out9]
  refine Eq.trans ?_ (congrArg (R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  unfold k0_pay1
  exact (add_apply _ _ i j).trans ((pay5_apply _ _ i j).trans (congrArg₂ sec (blkG_apply m c t i j) (iblk6 m c t i j)))

/-- The array of the gradient after the call. -/
theorem final10 : (dats m 0 c).arrAt 10 cfg0.N = R3 (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  obtain ⟨p, i, j, rfl⟩ : ∃ (p : Fin 1) (i : Fin 128) (j : Fin 2048), y = ix3 p i j := ⟨y 0, y 1, y 2, eq_ix3 y⟩
  obtain rfl : p = 0 := Subsingleton.elim _ _
  have e0 : ((win0_10.blk t).view.emb (ix3 0 i j) : S2x256x2048.Idx) = ix3 ⟨t.val / 2, by have := t_lt t; omega⟩ ⟨128 * (t.val % 2) + i.val, by have := t_lt t; omega⟩ j := by
    blk_ext [idx10]
  blk_simp
  rw [after0_10, out10]
  refine Eq.trans ?_ (congrArg (R3 (m ((c : Thread nD τ).loc main_arg1)) (m ((c : Thread nD τ).loc main_arg2)) (m ((c : Thread nD τ).loc main_arg3)) (m ((c : Thread nD τ).loc main_arg4))) e0).symm
  unfold k0_pay2
  exact (add_apply _ _ i j).trans (blkG_apply m c t i j)

/-- The reference's gradient of the first layer. -/
theorem ref_sum0 (x1 : S4x256x2048.Idx → EReal) (x2 : S3x256x2048.Idx → EReal) (i : Fin 256) (j : Fin 2048) :
    Cert.AdamOutRefIdeal.Read.val_main_v5 (F := Ideal) x1 x2 (ix2 i j) = grad (x1 (ix3 0 i j)) (x2 (ix3 0 i j)) (x2 (ix3 1 i j)) (x2 (ix3 2 i j)) := by
  rw [Cert.AdamOutRefIdeal.Read.val_main_v5_apply, Cert.AdamOutRefIdeal.Read.val_main_v4_apply, Cert.AdamOutRefIdeal.Read.val_main_v2_apply, Cert.AdamOutRefIdeal.Read.val_main_v1_apply, Cert.AdamOutRefIdeal.Read.val_main_v0_apply]
  refine Eq.trans ?_ (grad_eq (x1 (ix3 0 i j)) (fun k => x2 (ix3 k i j)))
  refine congrArg₂ (fun a b : EReal => a + b) (congrArg x1 ?_) (congrArg (fun a : EReal => Ideal.ofBits .f32 0x00000000#32 + a) (Finset.sum_congr rfl fun k _ => congrArg x2 ?_))
  · funext b
    match b with
    | ⟨0, _⟩ => rfl
    | ⟨1, _⟩ => exact Fin.ext (by show (i.val * 2048 + j.val) / 2048 % 256 = i.val; omega)
    | ⟨2, _⟩ => exact Fin.ext (by show (i.val * 2048 + j.val) % 2048 = j.val; omega)
  · funext b; match b with | ⟨0, _⟩ => rfl | ⟨1, _⟩ => rfl | ⟨2, _⟩ => rfl

/-- The reference's gradient of the second layer. -/
theorem ref_sum1 (x3 : S4x256x2048.Idx → EReal) (x4 : S3x256x2048.Idx → EReal) (i : Fin 256) (j : Fin 2048) :
    Cert.AdamOutRefIdeal.Read.val_main_v11 (F := Ideal) x3 x4 (ix2 i j) = grad (x3 (ix3 0 i j)) (x4 (ix3 0 i j)) (x4 (ix3 1 i j)) (x4 (ix3 2 i j)) := by
  rw [Cert.AdamOutRefIdeal.Read.val_main_v11_apply, Cert.AdamOutRefIdeal.Read.val_main_v10_apply, Cert.AdamOutRefIdeal.Read.val_main_v8_apply, Cert.AdamOutRefIdeal.Read.val_main_v7_apply, Cert.AdamOutRefIdeal.Read.val_main_v6_apply]
  refine Eq.trans ?_ (grad_eq (x3 (ix3 0 i j)) (fun k => x4 (ix3 k i j)))
  refine congrArg₂ (fun a b : EReal => a + b) (congrArg x3 ?_) (congrArg (fun a : EReal => Ideal.ofBits .f32 0x00000000#32 + a) (Finset.sum_congr rfl fun k _ => congrArg x4 ?_))
  · funext b
    match b with
    | ⟨0, _⟩ => rfl
    | ⟨1, _⟩ => exact Fin.ext (by show (i.val * 2048 + j.val) / 2048 % 256 = i.val; omega)
    | ⟨2, _⟩ => exact Fin.ext (by show (i.val * 2048 + j.val) % 2048 = j.val; omega)
  · funext b; match b with | ⟨0, _⟩ => rfl | ⟨1, _⟩ => rfl | ⟨2, _⟩ => rfl

/-- The reference's gradient of both layers. -/
theorem ref_grad (x1 : S4x256x2048.Idx → EReal) (x2 : S3x256x2048.Idx → EReal) (x3 : S4x256x2048.Idx → EReal) (x4 : S3x256x2048.Idx → EReal) : Cert.AdamOutRefIdeal.Read.val_main_v14 (F := Ideal) x1 x2 x3 x4 = R3 x1 x2 x3 x4 := by
  funext i
  obtain ⟨p, a, b, rfl⟩ : ∃ (p : Fin 2) (a : Fin 256) (b : Fin 2048), i = ix3 p a b := ⟨i 0, i 1, i 2, eq_ix3 i⟩
  unfold Cert.AdamOutRefIdeal.Read.val_main_v14
  refine (stack_apply _ _ _ p a b).trans ?_
  rw [Cert.AdamOutRefIdeal.Read.val_main_v12_apply, Cert.AdamOutRefIdeal.Read.val_main_v13_apply]
  rw [R3_apply]
  have e : ∀ q : Fin 1, (Cert.AdamOutRefIdeal.Read.idx_main_v12 (ix3 q a b) : Cert.AdamOutRefIdeal.S256x2048.Idx) = ix2 a b := fun q => by
    funext k; match k with | ⟨0, _⟩ => rfl | ⟨1, _⟩ => rfl
  have e' : ∀ q : Fin 1, (Cert.AdamOutRefIdeal.Read.idx_main_v13 (ix3 q a b) : Cert.AdamOutRefIdeal.S256x2048.Idx) = ix2 a b := fun q => by
    funext k; match k with | ⟨0, _⟩ => rfl | ⟨1, _⟩ => rfl
  rw [show Cert.AdamOutRefIdeal.Read.val_main_v5 (F := Ideal) x1 x2 (Cert.AdamOutRefIdeal.Read.idx_main_v12 (ix3 0 a b)) = _ from (congrArg (Cert.AdamOutRefIdeal.Read.val_main_v5 (F := Ideal) x1 x2) (e 0)).trans (ref_sum0 x1 x2 a b),
    show Cert.AdamOutRefIdeal.Read.val_main_v11 (F := Ideal) x3 x4 (Cert.AdamOutRefIdeal.Read.idx_main_v13 (ix3 0 a b)) = _ from (congrArg (Cert.AdamOutRefIdeal.Read.val_main_v11 (F := Ideal) x3 x4) (e' 0)).trans (ref_sum1 x3 x4 a b)]

/-- The reference's steps. -/
theorem ref_eq0 (x0 : S2x256x2048.Idx → EReal) (x1 : S4x256x2048.Idx → EReal) (x2 : S3x256x2048.Idx → EReal) (x3 : S4x256x2048.Idx → EReal) (x4 : S3x256x2048.Idx → EReal) (x5 x6 : S2x256x2048.Idx → EReal) : Cert.AdamOutRefIdeal.Read.val_main_v38 (F := Ideal) x0 x1 x2 x3 x4 x5 x6 = R0 x0 x1 x2 x3 x4 x5 x6 := by
  funext i
  unfold R0
  rw [← ref_grad]
  rfl

/-- The reference's first moments. -/
theorem ref_eq1 (x1 : S4x256x2048.Idx → EReal) (x2 : S3x256x2048.Idx → EReal) (x3 : S4x256x2048.Idx → EReal) (x4 : S3x256x2048.Idx → EReal) (x0 x5 x6 : S2x256x2048.Idx → EReal) : Cert.AdamOutRefIdeal.Read.val_main_v19 (F := Ideal) x1 x2 x3 x4 x5 = R1 x0 x1 x2 x3 x4 x5 x6 := by
  funext i
  unfold R1
  rw [← ref_grad]
  rfl

/-- The reference's second moments. -/
theorem ref_eq2 (x1 : S4x256x2048.Idx → EReal) (x2 : S3x256x2048.Idx → EReal) (x3 : S4x256x2048.Idx → EReal) (x4 : S3x256x2048.Idx → EReal) (x0 x5 x6 : S2x256x2048.Idx → EReal) : Cert.AdamOutRefIdeal.Read.val_main_v25 (F := Ideal) x1 x2 x3 x4 x6 = R2 x0 x1 x2 x3 x4 x5 x6 := by
  funext i
  unfold R2
  rw [← ref_grad]
  rfl

/-- The kernel's program ends with the steps, the moments and the gradient. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_2) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_3) = R3 (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨((h c).1).trans (final7 m c), ((h c).2.1).trans (final8 m c), ((h c).2.2.1).trans (final9 m c), ((h c).2.2.2.1).trans (final10 m c), (h c).2.2.2.2⟩) (Cert.AdamOutIdeal.Value.run_blocks m ρ)

/-- The reference's program ends with the steps, the moments and the gradient. -/
theorem ref_run (m' : (ℓ : Loc Cert.AdamOutRefIdeal.nD Cert.AdamOutRefIdeal.τ Cert.AdamOutRefIdeal.sig) → Buf (Elt Ideal) ℓ) (ρ : Dev Cert.AdamOutRefIdeal.nD → PrngReg) :
    θ_run (Cert.AdamOutRefIdeal.defs (F := Ideal)) (onTc (τ := Cert.AdamOutRefIdeal.τ) (Cert.AdamOutRefIdeal.main (F := Ideal))) ⟨m', fun _ => 0, ρ⟩ (fun r => ∀ c : Dev Cert.AdamOutRefIdeal.nD,
      r.2.mem ((c.tc : Thread Cert.AdamOutRefIdeal.nD Cert.AdamOutRefIdeal.τ).loc Cert.AdamOutRefIdeal.main_v38) = R0 (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg1)) (m' ((c.tc : Thread Cert.AdamOutRefIdeal.nD Cert.AdamOutRefIdeal.τ).loc Cert.AdamOutRefIdeal.main_arg2)) (m' ((c.tc : Thread Cert.AdamOutRefIdeal.nD Cert.AdamOutRefIdeal.τ).loc Cert.AdamOutRefIdeal.main_arg3)) (m' ((c.tc : Thread Cert.AdamOutRefIdeal.nD Cert.AdamOutRefIdeal.τ).loc Cert.AdamOutRefIdeal.main_arg4)) (m' ((c.tc : Thread Cert.AdamOutRefIdeal.nD Cert.AdamOutRefIdeal.τ).loc Cert.AdamOutRefIdeal.main_arg5)) (m' ((c.tc : Thread Cert.AdamOutRefIdeal.nD Cert.AdamOutRefIdeal.τ).loc Cert.AdamOutRefIdeal.main_arg6))
      ∧ r.2.mem ((c.tc : Thread Cert.AdamOutRefIdeal.nD Cert.AdamOutRefIdeal.τ).loc Cert.AdamOutRefIdeal.main_v19) = R1 (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg1)) (m' ((c.tc : Thread Cert.AdamOutRefIdeal.nD Cert.AdamOutRefIdeal.τ).loc Cert.AdamOutRefIdeal.main_arg2)) (m' ((c.tc : Thread Cert.AdamOutRefIdeal.nD Cert.AdamOutRefIdeal.τ).loc Cert.AdamOutRefIdeal.main_arg3)) (m' ((c.tc : Thread Cert.AdamOutRefIdeal.nD Cert.AdamOutRefIdeal.τ).loc Cert.AdamOutRefIdeal.main_arg4)) (m' ((c.tc : Thread Cert.AdamOutRefIdeal.nD Cert.AdamOutRefIdeal.τ).loc Cert.AdamOutRefIdeal.main_arg5)) (m' ((c.tc : Thread Cert.AdamOutRefIdeal.nD Cert.AdamOutRefIdeal.τ).loc Cert.AdamOutRefIdeal.main_arg6))
      ∧ r.2.mem ((c.tc : Thread Cert.AdamOutRefIdeal.nD Cert.AdamOutRefIdeal.τ).loc Cert.AdamOutRefIdeal.main_v25) = R2 (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg1)) (m' ((c.tc : Thread Cert.AdamOutRefIdeal.nD Cert.AdamOutRefIdeal.τ).loc Cert.AdamOutRefIdeal.main_arg2)) (m' ((c.tc : Thread Cert.AdamOutRefIdeal.nD Cert.AdamOutRefIdeal.τ).loc Cert.AdamOutRefIdeal.main_arg3)) (m' ((c.tc : Thread Cert.AdamOutRefIdeal.nD Cert.AdamOutRefIdeal.τ).loc Cert.AdamOutRefIdeal.main_arg4)) (m' ((c.tc : Thread Cert.AdamOutRefIdeal.nD Cert.AdamOutRefIdeal.τ).loc Cert.AdamOutRefIdeal.main_arg5)) (m' ((c.tc : Thread Cert.AdamOutRefIdeal.nD Cert.AdamOutRefIdeal.τ).loc Cert.AdamOutRefIdeal.main_arg6))
      ∧ r.2.mem ((c.tc : Thread Cert.AdamOutRefIdeal.nD Cert.AdamOutRefIdeal.τ).loc Cert.AdamOutRefIdeal.main_v14) = R3 (m' ((c.tc : Thread Cert.AdamOutRefIdeal.nD Cert.AdamOutRefIdeal.τ).loc Cert.AdamOutRefIdeal.main_arg1)) (m' ((c.tc : Thread Cert.AdamOutRefIdeal.nD Cert.AdamOutRefIdeal.τ).loc Cert.AdamOutRefIdeal.main_arg2)) (m' ((c.tc : Thread Cert.AdamOutRefIdeal.nD Cert.AdamOutRefIdeal.τ).loc Cert.AdamOutRefIdeal.main_arg3)) (m' ((c.tc : Thread Cert.AdamOutRefIdeal.nD Cert.AdamOutRefIdeal.τ).loc Cert.AdamOutRefIdeal.main_arg4))
      ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)) :=
  (θ_run _ _ _).mono (fun r h c => ⟨(((h c).1).trans (Cert.AdamOutRefIdeal.Read.val_main_v38_eq _ _ _ _ _ _ _)).trans (ref_eq0 _ _ _ _ _ _ _), (((h c).2.1).trans (Cert.AdamOutRefIdeal.Read.val_main_v19_eq _ _ _ _ _)).trans (ref_eq1 _ _ _ _ _ _ _), (((h c).2.2.1).trans (Cert.AdamOutRefIdeal.Read.val_main_v25_eq _ _ _ _ _)).trans (ref_eq2 _ _ _ _ _ _ _), (((h c).2.2.2.1).trans (Cert.AdamOutRefIdeal.Read.val_main_v14_eq _ _ _ _)).trans (ref_grad _ _ _ _), (h c).2.2.2.2⟩)
    (Cert.AdamOutRefIdeal.Value.run (F := Ideal) m' ρ)

end Cert.AdamOutClaim

end
-- ==== Proof.AdamEven.lean ====
/- The optimiser on the even layers' input projections: the kernel's program and the reference's end at the same arrays. -/
module

public import proofs.«01_k».proof.Proof.Gen.AdamEvenIdeal.Value
public import proofs.«01_k».proof.Proof.Gen.AdamEvenRefIdeal.Run
public import proofs.«01_k».proof.Proof.Gen.AdamEvenRefIdeal.Read
public import proofs.«01_k».proof.Proof.Adam
public import Idealize.ShloMosaic.Lib.Pointwise
public import Idealize.ShloMosaic.Lib.Pipeline.ValueKit

@[expose] public section

set_option maxRecDepth 16384

noncomputable section

namespace Cert.AdamEvenClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam
open Cert.AdamEvenIdeal Cert.AdamEvenIdeal.Gen
open scoped BigOperators

/-- The index of a weight's element in the order the weight is kept in. -/
def at3 (i : S2x672x2048.Idx) : S2x2048x672.Idx := ix3 (i 0) (i 2) (i 1)

/-- The gradient of both layers: each layer's own part and its three received parts. -/
def R3 (s0 : S4x672x2048.Idx → EReal) (r0 : S3x672x2048.Idx → EReal) (s1 : S4x672x2048.Idx → EReal) (r1 : S3x672x2048.Idx → EReal) : S2x672x2048.Idx → EReal :=
  fun i => if (i 0).val = 0 then grad (s0 (ix3 0 (i 1) (i 2))) (r0 (ix3 0 (i 1) (i 2))) (r0 (ix3 1 (i 1) (i 2))) (r0 (ix3 2 (i 1) (i 2)))
    else grad (s1 (ix3 0 (i 1) (i 2))) (r1 (ix3 0 (i 1) (i 2))) (r1 (ix3 1 (i 1) (i 2))) (r1 (ix3 2 (i 1) (i 2)))

/-- The gradient at an index. -/
theorem R3_apply (s0 : S4x672x2048.Idx → EReal) (r0 : S3x672x2048.Idx → EReal) (s1 : S4x672x2048.Idx → EReal) (r1 : S3x672x2048.Idx → EReal) (p : Fin 2) (a : Fin 672) (b : Fin 2048) :
    R3 s0 r0 s1 r1 (ix3 p a b) = if p.val = 0 then grad (s0 (ix3 0 a b)) (r0 (ix3 0 a b)) (r0 (ix3 1 a b)) (r0 (ix3 2 a b))
      else grad (s1 (ix3 0 a b)) (r1 (ix3 0 a b)) (r1 (ix3 1 a b)) (r1 (ix3 2 a b)) := rfl

/-- The weights' steps. -/
def R0 (w : S2x2048x672.Idx → EReal) (s0 : S4x672x2048.Idx → EReal) (r0 : S3x672x2048.Idx → EReal) (s1 : S4x672x2048.Idx → EReal) (r1 : S3x672x2048.Idx → EReal) (m v : S2x2048x672.Idx → EReal) : S2x672x2048.Idx → EReal :=
  fun i => delta (w (at3 i)) (R3 s0 r0 s1 r1 i) (m (at3 i)) (v (at3 i))

/-- The first moments. -/
def R1 (_w : S2x2048x672.Idx → EReal) (s0 : S4x672x2048.Idx → EReal) (r0 : S3x672x2048.Idx → EReal) (s1 : S4x672x2048.Idx → EReal) (r1 : S3x672x2048.Idx → EReal) (m _v : S2x2048x672.Idx → EReal) : S2x672x2048.Idx → EReal :=
  fun i => mom (R3 s0 r0 s1 r1 i) (m (at3 i))

/-- The second moments. -/
def R2 (_w : S2x2048x672.Idx → EReal) (s0 : S4x672x2048.Idx → EReal) (r0 : S3x672x2048.Idx → EReal) (s1 : S4x672x2048.Idx → EReal) (r1 : S3x672x2048.Idx → EReal) (_m v : S2x2048x672.Idx → EReal) : S2x672x2048.Idx → EReal :=
  fun i => sec (R3 s0 r0 s1 r1 i) (v (at3 i))

/-- One block's first moments. -/
theorem pay4_apply (g : FVec Ideal S112x2048 .f32) (m : Vec Ideal S1x112x2048 .f32) (i : Fin 112) (j : Fin 2048) :
    k0_pay4 (F := Ideal) g m (ix2 i j) = mom (g (ix2 i j)) (m (ix3 0 i j)) := by
  unfold k0_pay4 mom
  exact congrArg (fun a : EReal => Ideal.ofBits .f32 0x3F666666#32 * a + Ideal.ofBits .f32 0x3DCCCCCD#32 * g (ix2 i j)) (drop_apply m _ i j)

/-- One block's second moments. -/
theorem pay5_apply (g : FVec Ideal S112x2048 .f32) (v : Vec Ideal S1x112x2048 .f32) (i : Fin 112) (j : Fin 2048) :
    k0_pay5 (F := Ideal) g v (ix2 i j) = sec (g (ix2 i j)) (v (ix3 0 i j)) := by
  unfold k0_pay5 sec
  exact congrArg (fun a : EReal => Ideal.ofBits .f32 0x3F7FBE77#32 * a + Ideal.ofBits .f32 0x3A83126F#32 * ((g (ix2 i j) : EReal) * g (ix2 i j))) (drop_apply v _ i j)

/-- One block's steps. -/
theorem pay6_apply (g : FVec Ideal S112x2048 .f32) (w m v : Vec Ideal S1x112x2048 .f32) (i : Fin 112) (j : Fin 2048) :
    k0_pay6 (F := Ideal) g w m v (ix3 0 i j) = delta (w (ix3 0 i j)) (g (ix2 i j)) (m (ix3 0 i j)) (v (ix3 0 i j)) := by
  unfold k0_pay6
  refine (add_apply _ _ i j).trans ?_
  unfold delta
  rw [← pay4_apply g m i j, ← pay5_apply g v i j]
  exact congrArg (fun a : EReal => Ideal.ofBits .f32 0xBA83126F#32 * (Ideal.div (Ideal.div (k0_pay4 (F := Ideal) g m (ix2 i j)) (Ideal.ofBits .f32 0x3F26BD02#32)) (Ideal.sqrt (Ideal.div (k0_pay5 (F := Ideal) g v (ix2 i j)) (Ideal.ofBits .f32 0x3C231ACC#32)) + Ideal.ofBits .f32 0x322BCC77#32) + Ideal.ofBits .f32 0x3C23D70A#32 * a)) (drop_apply w _ i j)

/-- One block's gradient, before the layer is chosen. -/
theorem parts_apply (a b c d : Vec Ideal S1x112x2048 .bf16) (i : Fin 112) (j : Fin 2048) :
    addf (addf (addf (extf (F := Ideal) .f32 (shapeCast S112x2048 a shapeCasts_S1x112x2048_S112x2048) bitsLt_bf16_f32) (extf .f32 (shapeCast S112x2048 b shapeCasts_S1x112x2048_S112x2048) bitsLt_bf16_f32)) (extf .f32 (shapeCast S112x2048 c shapeCasts_S1x112x2048_S112x2048) bitsLt_bf16_f32)) (extf .f32 (shapeCast S112x2048 d shapeCasts_S1x112x2048_S112x2048) bitsLt_bf16_f32) (ix2 i j)
      = grad (a (ix3 0 i j)) (b (ix3 0 i j)) (c (ix3 0 i j)) (d (ix3 0 i j)) := by
  unfold grad
  exact congrArg₂ (fun a b : EReal => a + b) (congrArg₂ (fun a b : EReal => a + b) (congrArg₂ (fun a b : EReal => a + b) (drop_apply a _ i j) (drop_apply b _ i j)) (drop_apply c _ i j)) (drop_apply d _ i j)

/-- A choice between two arrays, at an index. -/
theorem select_fn (b : BitVec 1) (f g : FVec Ideal S112x2048 .f32) (i : S112x2048.Idx) : (Scalar.select b f g : FVec Ideal S112x2048 .f32) i = Scalar.select b (f i) (g i) := by
  unfold Scalar.select
  split <;> rfl

/-- One block's gradient: the first four parts in the first layer, the others in the second. -/
theorem pay3_apply (t : grid0.Coords) (a b c d a' b' c' d' : Vec Ideal S1x112x2048 .bf16) (i : Fin 112) (j : Fin 2048) :
    k0_pay3 (F := Ideal) t a b c d a' b' c' d' (ix2 i j)
      = Scalar.select (Scalar.cmpi .eq (BitVec.ofNat 32 (t 0).val) 0#32) (grad (a (ix3 0 i j)) (b (ix3 0 i j)) (c (ix3 0 i j)) (d (ix3 0 i j))) (grad (a' (ix3 0 i j)) (b' (ix3 0 i j)) (c' (ix3 0 i j)) (d' (ix3 0 i j))) := by
  rw [← parts_apply a b c d i j, ← parts_apply a' b' c' d' i j]
  exact select_fn _ _ _ _

variable (m : (ℓ : Loc nD τ sig) → Buf (Elt Ideal) ℓ) (c : Dev nD)

/-- The number of grid points. -/
theorem t_lt (t : Fin cfg0.N) : t.val < 12 := by have := t.isLt; have h : cfg0.N = 12 := N_0; omega

/-- The layer of a grid point, as the program tests it. -/
theorem layer : ∀ t : Fin cfg0.N, Scalar.cmpi .eq (BitVec.ofNat 32 (grid0.coords t 0).val) 0#32 = (if t.val < 6 then 1#1 else 0#1) := (by decide +kernel : ∀ t : Fin grid0.N, _)

/-- The block of window 0 at a grid point. -/
theorem idx0 : ∀ t : Fin cfg0.N, win0_0.index t = ![t.val / 6, t.val % 6, 0] := (by decide +kernel : ∀ t : Fin grid0.N, _)

/-- The block of window 5 at a grid point. -/
theorem idx5 : ∀ t : Fin cfg0.N, win0_5.index t = ![t.val / 6, t.val % 6, 0] := (by decide +kernel : ∀ t : Fin grid0.N, _)

/-- The block of window 6 at a grid point. -/
theorem idx6 : ∀ t : Fin cfg0.N, win0_6.index t = ![t.val / 6, t.val % 6, 0] := (by decide +kernel : ∀ t : Fin grid0.N, _)

/-- The block of window 7 at a grid point. -/
theorem idx7 : ∀ t : Fin cfg0.N, win0_7.index t = ![t.val / 6, t.val % 6, 0] := (by decide +kernel : ∀ t : Fin grid0.N, _)

/-- The block of window 8 at a grid point. -/
theorem idx8 : ∀ t : Fin cfg0.N, win0_8.index t = ![t.val / 6, t.val % 6, 0] := (by decide +kernel : ∀ t : Fin grid0.N, _)

/-- The block of window 9 at a grid point. -/
theorem idx9 : ∀ t : Fin cfg0.N, win0_9.index t = ![t.val / 6, t.val % 6, 0] := (by decide +kernel : ∀ t : Fin grid0.N, _)

/-- The block of window 10 at a grid point. -/
theorem idx10 : ∀ t : Fin cfg0.N, win0_10.index t = ![t.val / 6, t.val % 6, 0] := (by decide +kernel : ∀ t : Fin grid0.N, _)

/-- The block of window 1 at a grid point of the first layer. -/
theorem idx1 : ∀ t : Fin cfg0.N, t.val < 6 → win0_1.index t = ![0, t.val % 6, 0] := (by decide +kernel : ∀ t : Fin grid0.N, _)

/-- The block of window 2 at a grid point of the first layer. -/
theorem idx2 : ∀ t : Fin cfg0.N, t.val < 6 → win0_2.index t = ![0, t.val % 6, 0] := (by decide +kernel : ∀ t : Fin grid0.N, _)

/-- The block of window 3 at a grid point of the second layer. -/
theorem idx3 : ∀ t : Fin cfg0.N, ¬ t.val < 6 → win0_3.index t = ![0, t.val % 6, 0] := (by decide +kernel : ∀ t : Fin grid0.N, _)

/-- The block of window 4 at a grid point of the second layer. -/
theorem idx4 : ∀ t : Fin cfg0.N, ¬ t.val < 6 → win0_4.index t = ![0, t.val % 6, 0] := (by decide +kernel : ∀ t : Fin grid0.N, _)

/-- The array of window 0 as the call takes it. -/
theorem V_0 : V m c main_v0 = transpose S2x672x2048 [0, 2, 1] (m ((c : Thread nD τ).loc main_arg0)) transposes_S2x2048x672_S2x672x2048_0_2_1 := rfl

/-- The array of window 5 as the call takes it. -/
theorem V_5 : V m c main_v1 = transpose S2x672x2048 [0, 2, 1] (m ((c : Thread nD τ).loc main_arg5)) transposes_S2x2048x672_S2x672x2048_0_2_1 := rfl

/-- The array of window 6 as the call takes it. -/
theorem V_6 : V m c main_v2 = transpose S2x672x2048 [0, 2, 1] (m ((c : Thread nD τ).loc main_arg6)) transposes_S2x2048x672_S2x672x2048_0_2_1 := rfl

/-- The block of the weights. -/
theorem iblk0 (t : Fin cfg0.N) (i : Fin 112) (j : Fin 2048) :
    (iblk m c 0 t : S1x112x2048.Idx → EReal) (ix3 0 i j) = m ((c : Thread nD τ).loc main_arg0) (ix3 ⟨t.val / 6, by have := t_lt t; omega⟩ j ⟨112 * (t.val % 6) + i.val, by have := t_lt t; omega⟩) := by
  blk_simp [iblk]
  show V m c main_v0 _ = _
  rw [V_0]
  refine (congrArg (transpose S2x672x2048 [0, 2, 1] (m ((c : Thread nD τ).loc main_arg0)) transposes_S2x2048x672_S2x672x2048_0_2_1) (by blk_ext [idx0] : _ = (ix3 ⟨t.val / 6, by have := t_lt t; omega⟩ ⟨112 * (t.val % 6) + i.val, by have := t_lt t; omega⟩ j : S2x672x2048.Idx))).trans ?_
  exact transpose_apply [0, 2, 1] _ _ _ _ fun b => by match b with | ⟨0, _⟩ => rfl | ⟨1, _⟩ => rfl | ⟨2, _⟩ => rfl

/-- The block of the first moments. -/
theorem iblk5 (t : Fin cfg0.N) (i : Fin 112) (j : Fin 2048) :
    (iblk m c 5 t : S1x112x2048.Idx → EReal) (ix3 0 i j) = m ((c : Thread nD τ).loc main_arg5) (ix3 ⟨t.val / 6, by have := t_lt t; omega⟩ j ⟨112 * (t.val % 6) + i.val, by have := t_lt t; omega⟩) := by
  blk_simp [iblk]
  show V m c main_v1 _ = _
  rw [V_5]
  refine (congrArg (transpose S2x672x2048 [0, 2, 1] (m ((c : Thread nD τ).loc main_arg5)) transposes_S2x2048x672_S2x672x2048_0_2_1) (by blk_ext [idx5] : _ = (ix3 ⟨t.val / 6, by have := t_lt t; omega⟩ ⟨112 * (t.val % 6) + i.val, by have := t_lt t; omega⟩ j : S2x672x2048.Idx))).trans ?_
  exact transpose_apply [0, 2, 1] _ _ _ _ fun b => by match b with | ⟨0, _⟩ => rfl | ⟨1, _⟩ => rfl | ⟨2, _⟩ => rfl

/-- The block of the second moments. -/
theorem iblk6 (t : Fin cfg0.N) (i : Fin 112) (j : Fin 2048) :
    (iblk m c 6 t : S1x112x2048.Idx → EReal) (ix3 0 i j) = m ((c : Thread nD τ).loc main_arg6) (ix3 ⟨t.val / 6, by have := t_lt t; omega⟩ j ⟨112 * (t.val % 6) + i.val, by have := t_lt t; omega⟩) := by
  blk_simp [iblk]
  show V m c main_v2 _ = _
  rw [V_6]
  refine (congrArg (transpose S2x672x2048 [0, 2, 1] (m ((c : Thread nD τ).loc main_arg6)) transposes_S2x2048x672_S2x672x2048_0_2_1) (by blk_ext [idx6] : _ = (ix3 ⟨t.val / 6, by have := t_lt t; omega⟩ ⟨112 * (t.val % 6) + i.val, by have := t_lt t; omega⟩ j : S2x672x2048.Idx))).trans ?_
  exact transpose_apply [0, 2, 1] _ _ _ _ fun b => by match b with | ⟨0, _⟩ => rfl | ⟨1, _⟩ => rfl | ⟨2, _⟩ => rfl

/-- The block of a layer's own part. -/
theorem iblk1 (t : Fin cfg0.N) (ht : t.val < 6) (i : Fin 112) (j : Fin 2048) :
    (iblk m c 1 t : S1x112x2048.Idx → EReal) (ix3 0 i j) = m ((c : Thread nD τ).loc main_arg1) (ix3 0 ⟨112 * (t.val % 6) + i.val, by have := t_lt t; omega⟩ j) := by
  blk_simp [iblk]
  exact congrArg (m ((c : Thread nD τ).loc main_arg1)) (by blk_ext [idx1 t ht])

/-- The block of a layer's received parts. -/
theorem iblk2 (t : Fin cfg0.N) (ht : t.val < 6) (p : Fin 3) (i : Fin 112) (j : Fin 2048) :
    (iblk m c 2 t : S3x112x2048.Idx → EReal) (ix3 p i j) = m ((c : Thread nD τ).loc main_arg2) (ix3 p ⟨112 * (t.val % 6) + i.val, by have := t_lt t; omega⟩ j) := by
  blk_simp [iblk]
  exact congrArg (m ((c : Thread nD τ).loc main_arg2)) (by blk_ext [idx2 t ht])

/-- The block of a layer's own part. -/
theorem iblk3 (t : Fin cfg0.N) (ht : ¬ t.val < 6) (i : Fin 112) (j : Fin 2048) :
    (iblk m c 3 t : S1x112x2048.Idx → EReal) (ix3 0 i j) = m ((c : Thread nD τ).loc main_arg3) (ix3 0 ⟨112 * (t.val % 6) + i.val, by have := t_lt t; omega⟩ j) := by
  blk_simp [iblk]
  exact congrArg (m ((c : Thread nD τ).loc main_arg3)) (by blk_ext [idx3 t ht])

/-- The block of a layer's received parts. -/
theorem iblk4 (t : Fin cfg0.N) (ht : ¬ t.val < 6) (p : Fin 3) (i : Fin 112) (j : Fin 2048) :
    (iblk m c 4 t : S3x112x2048.Idx → EReal) (ix3 p i j) = m ((c : Thread nD τ).loc main_arg4) (ix3 p ⟨112 * (t.val % 6) + i.val, by have := t_lt t; omega⟩ j) := by
  blk_simp [iblk]
  exact congrArg (m ((c : Thread nD τ).loc main_arg4)) (by blk_ext [idx4 t ht])

/-- A grid point's block of the gradient is that part of the whole gradient. -/
theorem blkG_apply (t : Fin cfg0.N) (i : Fin 112) (j : Fin 2048) :
    (k0_pay8 (F := Ideal) (grid0.coords t) (iblk m c 0 t) (iblk m c 1 t) (iblk m c 2 t) (iblk m c 3 t) (iblk m c 4 t) (iblk m c 5 t) (iblk m c 6 t)) (ix2 i j) = R3 (m ((c : Thread nD τ).loc main_arg1)) (m ((c : Thread nD τ).loc main_arg2)) (m ((c : Thread nD τ).loc main_arg3)) (m ((c : Thread nD τ).loc main_arg4)) (ix3 ⟨t.val / 6, by have := t_lt t; omega⟩ ⟨112 * (t.val % 6) + i.val, by have := t_lt t; omega⟩ j) := by
  unfold k0_pay8
  rw [pay3_apply, layer, R3_apply]
  by_cases ht : t.val < 6
  · rw [if_pos ht, if_pos (show t.val / 6 = 0 by omega)]
    show grad _ _ _ _ = grad _ _ _ _
    exact congr (congr (congr (congrArg grad ((congrFun (View.ld_unit_lit (S := S1x112x2048) _ (iblk m c 1 t) (by decide)) (ix3 0 i j)).trans (iblk1 m c t ht i j)))
      ((congrArg (iblk m c 2 t : S3x112x2048.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 2 t : S3x112x2048.Idx → EReal) (ix3 0 i j)).trans (iblk2 m c t ht 0 i j)))
      ((congrArg (iblk m c 2 t : S3x112x2048.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 2 t : S3x112x2048.Idx → EReal) (ix3 1 i j)).trans (iblk2 m c t ht 1 i j)))
      ((congrArg (iblk m c 2 t : S3x112x2048.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 2 t : S3x112x2048.Idx → EReal) (ix3 2 i j)).trans (iblk2 m c t ht 2 i j))
  · rw [if_neg ht, if_neg (show ¬ t.val / 6 = 0 by omega)]
    show grad _ _ _ _ = grad _ _ _ _
    exact congr (congr (congr (congrArg grad ((congrFun (View.ld_unit_lit (S := S1x112x2048) _ (iblk m c 3 t) (by decide)) (ix3 0 i j)).trans (iblk3 m c t ht i j)))
      ((congrArg (iblk m c 4 t : S3x112x2048.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 4 t : S3x112x2048.Idx → EReal) (ix3 0 i j)).trans (iblk4 m c t ht 0 i j)))
      ((congrArg (iblk m c 4 t : S3x112x2048.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 4 t : S3x112x2048.Idx → EReal) (ix3 1 i j)).trans (iblk4 m c t ht 1 i j)))
      ((congrArg (iblk m c 4 t : S3x112x2048.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 4 t : S3x112x2048.Idx → EReal) (ix3 2 i j)).trans (iblk4 m c t ht 2 i j))

/-- What a grid point leaves in the window of the steps. -/
theorem out7 (t : Fin cfg0.N) : out0_7 (F := Ideal) (grid0.coords t) (iblk m c 0 t) (iblk m c 1 t) (iblk m c 2 t) (iblk m c 3 t) (iblk m c 4 t) (iblk m c 5 t) (iblk m c 6 t) = k0_pay6 (k0_pay8 (F := Ideal) (grid0.coords t) (iblk m c 0 t) (iblk m c 1 t) (iblk m c 2 t) (iblk m c 3 t) (iblk m c 4 t) (iblk m c 5 t) (iblk m c 6 t)) (iblk m c 0 t) (iblk m c 5 t) (iblk m c 6 t) := by
  unfold out0_7
  exact (View.canon_cons_unit_lit _ _ _ (by decide)).trans (congr (congrArg₂ (k0_pay6 _) (View.ld_unit_lit _ _ (by decide)) (View.ld_unit_lit _ _ (by decide))) (View.ld_unit_lit _ _ (by decide)))

/-- What a grid point leaves in the window of the first moments. -/
theorem out8 (t : Fin cfg0.N) : out0_8 (F := Ideal) (grid0.coords t) (iblk m c 0 t) (iblk m c 1 t) (iblk m c 2 t) (iblk m c 3 t) (iblk m c 4 t) (iblk m c 5 t) (iblk m c 6 t) = k0_pay7 (k0_pay8 (F := Ideal) (grid0.coords t) (iblk m c 0 t) (iblk m c 1 t) (iblk m c 2 t) (iblk m c 3 t) (iblk m c 4 t) (iblk m c 5 t) (iblk m c 6 t)) (iblk m c 5 t) := by
  unfold out0_8
  exact (View.canon_cons_unit_lit _ _ _ (by decide)).trans (congrArg (k0_pay7 _) (View.ld_unit_lit _ _ (by decide)))

/-- What a grid point leaves in the window of the second moments. -/
theorem out9 (t : Fin cfg0.N) : out0_9 (F := Ideal) (grid0.coords t) (iblk m c 0 t) (iblk m c 1 t) (iblk m c 2 t) (iblk m c 3 t) (iblk m c 4 t) (iblk m c 5 t) (iblk m c 6 t) = k0_pay1 (k0_pay5 (k0_pay8 (F := Ideal) (grid0.coords t) (iblk m c 0 t) (iblk m c 1 t) (iblk m c 2 t) (iblk m c 3 t) (iblk m c 4 t) (iblk m c 5 t) (iblk m c 6 t)) (iblk m c 6 t)) := by
  unfold out0_9
  exact (View.canon_cons_unit_lit _ _ _ (by decide)).trans (congrArg (fun v => k0_pay1 (k0_pay5 _ v)) (View.ld_unit_lit _ _ (by decide)))

/-- What a grid point leaves in the window of the gradient. -/
theorem out10 (t : Fin cfg0.N) : out0_10 (F := Ideal) (grid0.coords t) (iblk m c 0 t) (iblk m c 1 t) (iblk m c 2 t) (iblk m c 3 t) (iblk m c 4 t) (iblk m c 5 t) (iblk m c 6 t) = k0_pay2 (k0_pay8 (F := Ideal) (grid0.coords t) (iblk m c 0 t) (iblk m c 1 t) (iblk m c 2 t) (iblk m c 3 t) (iblk m c 4 t) (iblk m c 5 t) (iblk m c 6 t)) := by
  unfold out0_10
  exact View.canon_cons_unit_lit _ _ _ (by decide)

/-- The array of the steps after the call. -/
theorem final7 : (dats m 0 c).arrAt 7 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨p, i, j, rfl⟩ : ∃ (p : Fin 1) (i : Fin 112) (j : Fin 2048), y = ix3 p i j := ⟨y 0, y 1, y 2, eq_ix3 y⟩
  obtain rfl : p = 0 := Subsingleton.elim _ _
  have e0 : ((win0_7.blk t).view.emb (ix3 0 i j) : S2x672x2048.Idx) = ix3 ⟨t.val / 6, by have := t_lt t; omega⟩ ⟨112 * (t.val % 6) + i.val, by have := t_lt t; omega⟩ j := by
    blk_ext [idx7]
  blk_simp
  rw [after0_7, out7]
  refine Eq.trans ?_ (congrArg (R0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  exact (pay6_apply _ _ _ _ i j).trans (congr (congr (congr (congrArg delta (iblk0 m c t i j)) (blkG_apply m c t i j)) (iblk5 m c t i j)) (iblk6 m c t i j))

/-- The array of the first moments after the call. -/
theorem final8 : (dats m 0 c).arrAt 8 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  obtain ⟨p, i, j, rfl⟩ : ∃ (p : Fin 1) (i : Fin 112) (j : Fin 2048), y = ix3 p i j := ⟨y 0, y 1, y 2, eq_ix3 y⟩
  obtain rfl : p = 0 := Subsingleton.elim _ _
  have e0 : ((win0_8.blk t).view.emb (ix3 0 i j) : S2x672x2048.Idx) = ix3 ⟨t.val / 6, by have := t_lt t; omega⟩ ⟨112 * (t.val % 6) + i.val, by have := t_lt t; omega⟩ j := by
    blk_ext [idx8]
  blk_simp
  rw [after0_8, out8]
  refine Eq.trans ?_ (congrArg (R1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  unfold k0_pay7
  exact (add_apply _ _ i j).trans ((pay4_apply _ _ i j).trans (congrArg₂ mom (blkG_apply m c t i j) (iblk5 m c t i j)))

/-- The array of the second moments after the call. -/
theorem final9 : (dats m 0 c).arrAt 9 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  obtain ⟨p, i, j, rfl⟩ : ∃ (p : Fin 1) (i : Fin 112) (j : Fin 2048), y = ix3 p i j := ⟨y 0, y 1, y 2, eq_ix3 y⟩
  obtain rfl : p = 0 := Subsingleton.elim _ _
  have e0 : ((win0_9.blk t).view.emb (ix3 0 i j) : S2x672x2048.Idx) = ix3 ⟨t.val / 6, by have := t_lt t; omega⟩ ⟨112 * (t.val % 6) + i.val, by have := t_lt t; omega⟩ j := by
    blk_ext [idx9]
  blk_simp
  rw [after0_9, out9]
  refine Eq.trans ?_ (congrArg (R2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e0).symm
  unfold k0_pay1
  exact (add_apply _ _ i j).trans ((pay5_apply _ _ i j).trans (congrArg₂ sec (blkG_apply m c t i j) (iblk6 m c t i j)))

/-- The array of the gradient after the call. -/
theorem final10 : (dats m 0 c).arrAt 10 cfg0.N = R3 (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  obtain ⟨p, i, j, rfl⟩ : ∃ (p : Fin 1) (i : Fin 112) (j : Fin 2048), y = ix3 p i j := ⟨y 0, y 1, y 2, eq_ix3 y⟩
  obtain rfl : p = 0 := Subsingleton.elim _ _
  have e0 : ((win0_10.blk t).view.emb (ix3 0 i j) : S2x672x2048.Idx) = ix3 ⟨t.val / 6, by have := t_lt t; omega⟩ ⟨112 * (t.val % 6) + i.val, by have := t_lt t; omega⟩ j := by
    blk_ext [idx10]
  blk_simp
  rw [after0_10, out10]
  refine Eq.trans ?_ (congrArg (R3 (m ((c : Thread nD τ).loc main_arg1)) (m ((c : Thread nD τ).loc main_arg2)) (m ((c : Thread nD τ).loc main_arg3)) (m ((c : Thread nD τ).loc main_arg4))) e0).symm
  unfold k0_pay2
  exact (add_apply _ _ i j).trans (blkG_apply m c t i j)

/-- The reference's gradient of the first layer. -/
theorem ref_sum0 (x1 : S4x672x2048.Idx → EReal) (x2 : S3x672x2048.Idx → EReal) (i : Fin 672) (j : Fin 2048) :
    Cert.AdamEvenRefIdeal.Read.val_main_v5 (F := Ideal) x1 x2 (ix2 i j) = grad (x1 (ix3 0 i j)) (x2 (ix3 0 i j)) (x2 (ix3 1 i j)) (x2 (ix3 2 i j)) := by
  rw [Cert.AdamEvenRefIdeal.Read.val_main_v5_apply, Cert.AdamEvenRefIdeal.Read.val_main_v4_apply, Cert.AdamEvenRefIdeal.Read.val_main_v2_apply, Cert.AdamEvenRefIdeal.Read.val_main_v1_apply, Cert.AdamEvenRefIdeal.Read.val_main_v0_apply]
  refine Eq.trans ?_ (grad_eq (x1 (ix3 0 i j)) (fun k => x2 (ix3 k i j)))
  refine congrArg₂ (fun a b : EReal => a + b) (congrArg x1 ?_) (congrArg (fun a : EReal => Ideal.ofBits .f32 0x00000000#32 + a) (Finset.sum_congr rfl fun k _ => congrArg x2 ?_))
  · funext b
    match b with
    | ⟨0, _⟩ => rfl
    | ⟨1, _⟩ => exact Fin.ext (by show (i.val * 2048 + j.val) / 2048 % 672 = i.val; omega)
    | ⟨2, _⟩ => exact Fin.ext (by show (i.val * 2048 + j.val) % 2048 = j.val; omega)
  · funext b; match b with | ⟨0, _⟩ => rfl | ⟨1, _⟩ => rfl | ⟨2, _⟩ => rfl

/-- The reference's gradient of the second layer. -/
theorem ref_sum1 (x3 : S4x672x2048.Idx → EReal) (x4 : S3x672x2048.Idx → EReal) (i : Fin 672) (j : Fin 2048) :
    Cert.AdamEvenRefIdeal.Read.val_main_v11 (F := Ideal) x3 x4 (ix2 i j) = grad (x3 (ix3 0 i j)) (x4 (ix3 0 i j)) (x4 (ix3 1 i j)) (x4 (ix3 2 i j)) := by
  rw [Cert.AdamEvenRefIdeal.Read.val_main_v11_apply, Cert.AdamEvenRefIdeal.Read.val_main_v10_apply, Cert.AdamEvenRefIdeal.Read.val_main_v8_apply, Cert.AdamEvenRefIdeal.Read.val_main_v7_apply, Cert.AdamEvenRefIdeal.Read.val_main_v6_apply]
  refine Eq.trans ?_ (grad_eq (x3 (ix3 0 i j)) (fun k => x4 (ix3 k i j)))
  refine congrArg₂ (fun a b : EReal => a + b) (congrArg x3 ?_) (congrArg (fun a : EReal => Ideal.ofBits .f32 0x00000000#32 + a) (Finset.sum_congr rfl fun k _ => congrArg x4 ?_))
  · funext b
    match b with
    | ⟨0, _⟩ => rfl
    | ⟨1, _⟩ => exact Fin.ext (by show (i.val * 2048 + j.val) / 2048 % 672 = i.val; omega)
    | ⟨2, _⟩ => exact Fin.ext (by show (i.val * 2048 + j.val) % 2048 = j.val; omega)
  · funext b; match b with | ⟨0, _⟩ => rfl | ⟨1, _⟩ => rfl | ⟨2, _⟩ => rfl

/-- The reference's gradient of both layers. -/
theorem ref_grad (x1 : S4x672x2048.Idx → EReal) (x2 : S3x672x2048.Idx → EReal) (x3 : S4x672x2048.Idx → EReal) (x4 : S3x672x2048.Idx → EReal) : Cert.AdamEvenRefIdeal.Read.val_main_v14 (F := Ideal) x1 x2 x3 x4 = R3 x1 x2 x3 x4 := by
  funext i
  obtain ⟨p, a, b, rfl⟩ : ∃ (p : Fin 2) (a : Fin 672) (b : Fin 2048), i = ix3 p a b := ⟨i 0, i 1, i 2, eq_ix3 i⟩
  unfold Cert.AdamEvenRefIdeal.Read.val_main_v14
  refine (stack_apply _ _ _ p a b).trans ?_
  rw [Cert.AdamEvenRefIdeal.Read.val_main_v12_apply, Cert.AdamEvenRefIdeal.Read.val_main_v13_apply]
  rw [R3_apply]
  have e : ∀ q : Fin 1, (Cert.AdamEvenRefIdeal.Read.idx_main_v12 (ix3 q a b) : Cert.AdamEvenRefIdeal.S672x2048.Idx) = ix2 a b := fun q => by
    funext k; match k with | ⟨0, _⟩ => rfl | ⟨1, _⟩ => rfl
  have e' : ∀ q : Fin 1, (Cert.AdamEvenRefIdeal.Read.idx_main_v13 (ix3 q a b) : Cert.AdamEvenRefIdeal.S672x2048.Idx) = ix2 a b := fun q => by
    funext k; match k with | ⟨0, _⟩ => rfl | ⟨1, _⟩ => rfl
  rw [show Cert.AdamEvenRefIdeal.Read.val_main_v5 (F := Ideal) x1 x2 (Cert.AdamEvenRefIdeal.Read.idx_main_v12 (ix3 0 a b)) = _ from (congrArg (Cert.AdamEvenRefIdeal.Read.val_main_v5 (F := Ideal) x1 x2) (e 0)).trans (ref_sum0 x1 x2 a b),
    show Cert.AdamEvenRefIdeal.Read.val_main_v11 (F := Ideal) x3 x4 (Cert.AdamEvenRefIdeal.Read.idx_main_v13 (ix3 0 a b)) = _ from (congrArg (Cert.AdamEvenRefIdeal.Read.val_main_v11 (F := Ideal) x3 x4) (e' 0)).trans (ref_sum1 x3 x4 a b)]

/-- The reference's gradient at the order the weights are kept in. -/
theorem ref_gradT (x1 : S4x672x2048.Idx → EReal) (x2 : S3x672x2048.Idx → EReal) (x3 : S4x672x2048.Idx → EReal) (x4 : S3x672x2048.Idx → EReal) (i : S2x672x2048.Idx) : Cert.AdamEvenRefIdeal.Read.val_main_v15 (F := Ideal) x1 x2 x3 x4 (at3 i) = R3 x1 x2 x3 x4 i := by
  rw [Cert.AdamEvenRefIdeal.Read.val_main_v15_apply, ref_grad]
  exact congrArg (R3 x1 x2 x3 x4) (by funext b; match b with | ⟨0, _⟩ => rfl | ⟨1, _⟩ => rfl | ⟨2, _⟩ => rfl)

/-- The reference's steps. -/
theorem ref_eq0 (x0 : S2x2048x672.Idx → EReal) (x1 : S4x672x2048.Idx → EReal) (x2 : S3x672x2048.Idx → EReal) (x3 : S4x672x2048.Idx → EReal) (x4 : S3x672x2048.Idx → EReal) (x5 x6 : S2x2048x672.Idx → EReal) : Cert.AdamEvenRefIdeal.Read.val_main_v40 (F := Ideal) x0 x1 x2 x3 x4 x5 x6 = R0 x0 x1 x2 x3 x4 x5 x6 := by
  funext i
  rw [Cert.AdamEvenRefIdeal.Read.val_main_v40_apply, show (Cert.AdamEvenRefIdeal.Read.idx_main_v40 i : S2x2048x672.Idx) = at3 i by funext b; match b with | ⟨0, _⟩ => rfl | ⟨1, _⟩ => rfl | ⟨2, _⟩ => rfl]
  unfold R0
  rw [← ref_gradT]
  rfl

/-- The reference's first moments. -/
theorem ref_eq1 (x1 : S4x672x2048.Idx → EReal) (x2 : S3x672x2048.Idx → EReal) (x3 : S4x672x2048.Idx → EReal) (x4 : S3x672x2048.Idx → EReal) (x0 x5 x6 : S2x2048x672.Idx → EReal) : Cert.AdamEvenRefIdeal.Read.val_main_v41 (F := Ideal) x1 x2 x3 x4 x5 = R1 x0 x1 x2 x3 x4 x5 x6 := by
  funext i
  rw [Cert.AdamEvenRefIdeal.Read.val_main_v41_apply, show (Cert.AdamEvenRefIdeal.Read.idx_main_v41 i : S2x2048x672.Idx) = at3 i by funext b; match b with | ⟨0, _⟩ => rfl | ⟨1, _⟩ => rfl | ⟨2, _⟩ => rfl]
  unfold R1
  rw [← ref_gradT]
  rfl

/-- The reference's second moments. -/
theorem ref_eq2 (x1 : S4x672x2048.Idx → EReal) (x2 : S3x672x2048.Idx → EReal) (x3 : S4x672x2048.Idx → EReal) (x4 : S3x672x2048.Idx → EReal) (x0 x5 x6 : S2x2048x672.Idx → EReal) : Cert.AdamEvenRefIdeal.Read.val_main_v42 (F := Ideal) x1 x2 x3 x4 x6 = R2 x0 x1 x2 x3 x4 x5 x6 := by
  funext i
  rw [Cert.AdamEvenRefIdeal.Read.val_main_v42_apply, show (Cert.AdamEvenRefIdeal.Read.idx_main_v42 i : S2x2048x672.Idx) = at3 i by funext b; match b with | ⟨0, _⟩ => rfl | ⟨1, _⟩ => rfl | ⟨2, _⟩ => rfl]
  unfold R2
  rw [← ref_gradT]
  rfl

/-- The reference's gradient as the call lays it out. -/
theorem ref_eq3 (x1 : S4x672x2048.Idx → EReal) (x2 : S3x672x2048.Idx → EReal) (x3 : S4x672x2048.Idx → EReal) (x4 : S3x672x2048.Idx → EReal) : Cert.AdamEvenRefIdeal.Read.val_main_v43 (F := Ideal) x1 x2 x3 x4 = R3 x1 x2 x3 x4 := by
  funext i
  rw [Cert.AdamEvenRefIdeal.Read.val_main_v43_apply, show (Cert.AdamEvenRefIdeal.Read.idx_main_v43 i : S2x2048x672.Idx) = at3 i by funext b; match b with | ⟨0, _⟩ => rfl | ⟨1, _⟩ => rfl | ⟨2, _⟩ => rfl]
  exact ref_gradT x1 x2 x3 x4 i

/-- The kernel's program ends with the steps, the moments and the gradient. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v3_1) = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v3_2) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v3_3) = R3 (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨((h c).1).trans (final7 m c), ((h c).2.1).trans (final8 m c), ((h c).2.2.1).trans (final9 m c), ((h c).2.2.2.1).trans (final10 m c), (h c).2.2.2.2⟩) (Cert.AdamEvenIdeal.Value.run_blocks m ρ)

/-- The reference's program ends with the steps, the moments and the gradient. -/
theorem ref_run (m' : (ℓ : Loc Cert.AdamEvenRefIdeal.nD Cert.AdamEvenRefIdeal.τ Cert.AdamEvenRefIdeal.sig) → Buf (Elt Ideal) ℓ) (ρ : Dev Cert.AdamEvenRefIdeal.nD → PrngReg) :
    θ_run (Cert.AdamEvenRefIdeal.defs (F := Ideal)) (onTc (τ := Cert.AdamEvenRefIdeal.τ) (Cert.AdamEvenRefIdeal.main (F := Ideal))) ⟨m', fun _ => 0, ρ⟩ (fun r => ∀ c : Dev Cert.AdamEvenRefIdeal.nD,
      r.2.mem ((c.tc : Thread Cert.AdamEvenRefIdeal.nD Cert.AdamEvenRefIdeal.τ).loc Cert.AdamEvenRefIdeal.main_v40) = R0 (m' ((c.tc : Thread Cert.AdamEvenRefIdeal.nD Cert.AdamEvenRefIdeal.τ).loc Cert.AdamEvenRefIdeal.main_arg0)) (m' ((c.tc : Thread Cert.AdamEvenRefIdeal.nD Cert.AdamEvenRefIdeal.τ).loc Cert.AdamEvenRefIdeal.main_arg1)) (m' ((c.tc : Thread Cert.AdamEvenRefIdeal.nD Cert.AdamEvenRefIdeal.τ).loc Cert.AdamEvenRefIdeal.main_arg2)) (m' ((c.tc : Thread Cert.AdamEvenRefIdeal.nD Cert.AdamEvenRefIdeal.τ).loc Cert.AdamEvenRefIdeal.main_arg3)) (m' ((c.tc : Thread Cert.AdamEvenRefIdeal.nD Cert.AdamEvenRefIdeal.τ).loc Cert.AdamEvenRefIdeal.main_arg4)) (m' ((c.tc : Thread Cert.AdamEvenRefIdeal.nD Cert.AdamEvenRefIdeal.τ).loc Cert.AdamEvenRefIdeal.main_arg5)) (m' ((c.tc : Thread Cert.AdamEvenRefIdeal.nD Cert.AdamEvenRefIdeal.τ).loc Cert.AdamEvenRefIdeal.main_arg6))
      ∧ r.2.mem ((c.tc : Thread Cert.AdamEvenRefIdeal.nD Cert.AdamEvenRefIdeal.τ).loc Cert.AdamEvenRefIdeal.main_v41) = R1 (m' ((c.tc : Thread Cert.AdamEvenRefIdeal.nD Cert.AdamEvenRefIdeal.τ).loc Cert.AdamEvenRefIdeal.main_arg0)) (m' ((c.tc : Thread Cert.AdamEvenRefIdeal.nD Cert.AdamEvenRefIdeal.τ).loc Cert.AdamEvenRefIdeal.main_arg1)) (m' ((c.tc : Thread Cert.AdamEvenRefIdeal.nD Cert.AdamEvenRefIdeal.τ).loc Cert.AdamEvenRefIdeal.main_arg2)) (m' ((c.tc : Thread Cert.AdamEvenRefIdeal.nD Cert.AdamEvenRefIdeal.τ).loc Cert.AdamEvenRefIdeal.main_arg3)) (m' ((c.tc : Thread Cert.AdamEvenRefIdeal.nD Cert.AdamEvenRefIdeal.τ).loc Cert.AdamEvenRefIdeal.main_arg4)) (m' ((c.tc : Thread Cert.AdamEvenRefIdeal.nD Cert.AdamEvenRefIdeal.τ).loc Cert.AdamEvenRefIdeal.main_arg5)) (m' ((c.tc : Thread Cert.AdamEvenRefIdeal.nD Cert.AdamEvenRefIdeal.τ).loc Cert.AdamEvenRefIdeal.main_arg6))
      ∧ r.2.mem ((c.tc : Thread Cert.AdamEvenRefIdeal.nD Cert.AdamEvenRefIdeal.τ).loc Cert.AdamEvenRefIdeal.main_v42) = R2 (m' ((c.tc : Thread Cert.AdamEvenRefIdeal.nD Cert.AdamEvenRefIdeal.τ).loc Cert.AdamEvenRefIdeal.main_arg0)) (m' ((c.tc : Thread Cert.AdamEvenRefIdeal.nD Cert.AdamEvenRefIdeal.τ).loc Cert.AdamEvenRefIdeal.main_arg1)) (m' ((c.tc : Thread Cert.AdamEvenRefIdeal.nD Cert.AdamEvenRefIdeal.τ).loc Cert.AdamEvenRefIdeal.main_arg2)) (m' ((c.tc : Thread Cert.AdamEvenRefIdeal.nD Cert.AdamEvenRefIdeal.τ).loc Cert.AdamEvenRefIdeal.main_arg3)) (m' ((c.tc : Thread Cert.AdamEvenRefIdeal.nD Cert.AdamEvenRefIdeal.τ).loc Cert.AdamEvenRefIdeal.main_arg4)) (m' ((c.tc : Thread Cert.AdamEvenRefIdeal.nD Cert.AdamEvenRefIdeal.τ).loc Cert.AdamEvenRefIdeal.main_arg5)) (m' ((c.tc : Thread Cert.AdamEvenRefIdeal.nD Cert.AdamEvenRefIdeal.τ).loc Cert.AdamEvenRefIdeal.main_arg6))
      ∧ r.2.mem ((c.tc : Thread Cert.AdamEvenRefIdeal.nD Cert.AdamEvenRefIdeal.τ).loc Cert.AdamEvenRefIdeal.main_v43) = R3 (m' ((c.tc : Thread Cert.AdamEvenRefIdeal.nD Cert.AdamEvenRefIdeal.τ).loc Cert.AdamEvenRefIdeal.main_arg1)) (m' ((c.tc : Thread Cert.AdamEvenRefIdeal.nD Cert.AdamEvenRefIdeal.τ).loc Cert.AdamEvenRefIdeal.main_arg2)) (m' ((c.tc : Thread Cert.AdamEvenRefIdeal.nD Cert.AdamEvenRefIdeal.τ).loc Cert.AdamEvenRefIdeal.main_arg3)) (m' ((c.tc : Thread Cert.AdamEvenRefIdeal.nD Cert.AdamEvenRefIdeal.τ).loc Cert.AdamEvenRefIdeal.main_arg4))
      ∧ r.2.mem ((c.tc : Thread Cert.AdamEvenRefIdeal.nD Cert.AdamEvenRefIdeal.τ).loc Cert.AdamEvenRefIdeal.main_arg0) = m' ((c.tc : Thread Cert.AdamEvenRefIdeal.nD Cert.AdamEvenRefIdeal.τ).loc Cert.AdamEvenRefIdeal.main_arg0)
      ∧ r.2.mem ((c.tc : Thread Cert.AdamEvenRefIdeal.nD Cert.AdamEvenRefIdeal.τ).loc Cert.AdamEvenRefIdeal.main_arg1) = m' ((c.tc : Thread Cert.AdamEvenRefIdeal.nD Cert.AdamEvenRefIdeal.τ).loc Cert.AdamEvenRefIdeal.main_arg1)
      ∧ r.2.mem ((c.tc : Thread Cert.AdamEvenRefIdeal.nD Cert.AdamEvenRefIdeal.τ).loc Cert.AdamEvenRefIdeal.main_arg2) = m' ((c.tc : Thread Cert.AdamEvenRefIdeal.nD Cert.AdamEvenRefIdeal.τ).loc Cert.AdamEvenRefIdeal.main_arg2)
      ∧ r.2.mem ((c.tc : Thread Cert.AdamEvenRefIdeal.nD Cert.AdamEvenRefIdeal.τ).loc Cert.AdamEvenRefIdeal.main_arg3) = m' ((c.tc : Thread Cert.AdamEvenRefIdeal.nD Cert.AdamEvenRefIdeal.τ).loc Cert.AdamEvenRefIdeal.main_arg3)
      ∧ r.2.mem ((c.tc : Thread Cert.AdamEvenRefIdeal.nD Cert.AdamEvenRefIdeal.τ).loc Cert.AdamEvenRefIdeal.main_arg4) = m' ((c.tc : Thread Cert.AdamEvenRefIdeal.nD Cert.AdamEvenRefIdeal.τ).loc Cert.AdamEvenRefIdeal.main_arg4)
      ∧ r.2.mem ((c.tc : Thread Cert.AdamEvenRefIdeal.nD Cert.AdamEvenRefIdeal.τ).loc Cert.AdamEvenRefIdeal.main_arg5) = m' ((c.tc : Thread Cert.AdamEvenRefIdeal.nD Cert.AdamEvenRefIdeal.τ).loc Cert.AdamEvenRefIdeal.main_arg5)
      ∧ r.2.mem ((c.tc : Thread Cert.AdamEvenRefIdeal.nD Cert.AdamEvenRefIdeal.τ).loc Cert.AdamEvenRefIdeal.main_arg6) = m' ((c.tc : Thread Cert.AdamEvenRefIdeal.nD Cert.AdamEvenRefIdeal.τ).loc Cert.AdamEvenRefIdeal.main_arg6)) :=
  (θ_run _ _ _).mono (fun r h c => ⟨(((h c).1).trans (Cert.AdamEvenRefIdeal.Read.val_main_v40_eq m' c)).trans (ref_eq0 _ _ _ _ _ _ _), (((h c).2.1).trans (Cert.AdamEvenRefIdeal.Read.val_main_v41_eq _ _ _ _ _)).trans (ref_eq1 _ _ _ _ _ _ _), (((h c).2.2.1).trans (Cert.AdamEvenRefIdeal.Read.val_main_v42_eq _ _ _ _ _)).trans (ref_eq2 _ _ _ _ _ _ _), (((h c).2.2.2.1).trans (Cert.AdamEvenRefIdeal.Read.val_main_v43_eq _ _ _ _)).trans (ref_eq3 _ _ _ _), (h c).2.2.2.2⟩)
    (Cert.AdamEvenRefIdeal.Value.run (F := Ideal) m' ρ)

end Cert.AdamEvenClaim

end
-- ==== Proof.AdamOdd.lean ====
/- The optimiser on the odd layers' input projections: the kernel's program and the reference's end at the same arrays. -/
module

public import proofs.«01_k».proof.Proof.Gen.AdamOddIdeal.Value
public import proofs.«01_k».proof.Proof.Gen.AdamOddRefIdeal.Run
public import proofs.«01_k».proof.Proof.Gen.AdamOddRefIdeal.Read
public import proofs.«01_k».proof.Proof.Adam
public import Idealize.ShloMosaic.Lib.Pointwise
public import Idealize.ShloMosaic.Lib.Pipeline.ValueKit

@[expose] public section

set_option maxRecDepth 16384

noncomputable section

namespace Cert.AdamOddClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam
open Cert.AdamOddIdeal Cert.AdamOddIdeal.Gen
open scoped BigOperators

/-- The gradient of both layers, in the order the weight is kept in. -/
def R3 (g0 g1 : S512x2048.Idx → EReal) : S2x2048x512.Idx → EReal := fun i => if (i 0).val = 0 then g0 (ix2 (i 2) (i 1)) else g1 (ix2 (i 2) (i 1))

/-- The gradient at an index. -/
theorem R3_apply (g0 g1 : S512x2048.Idx → EReal) (p : Fin 2) (a : Fin 2048) (b : Fin 512) : R3 g0 g1 (ix3 p a b) = if p.val = 0 then g0 (ix2 b a) else g1 (ix2 b a) := rfl

/-- The weights' steps. -/
def R0 (w : S2x2048x512.Idx → EReal) (g0 g1 : S512x2048.Idx → EReal) (m v : S2x2048x512.Idx → EReal) : S2x2048x512.Idx → EReal := fun i => delta (w i) (R3 g0 g1 i) (m i) (v i)

/-- The first moments. -/
def R1 (_w : S2x2048x512.Idx → EReal) (g0 g1 : S512x2048.Idx → EReal) (m _v : S2x2048x512.Idx → EReal) : S2x2048x512.Idx → EReal := fun i => mom (R3 g0 g1 i) (m i)

/-- The second moments. -/
def R2 (_w : S2x2048x512.Idx → EReal) (g0 g1 : S512x2048.Idx → EReal) (_m v : S2x2048x512.Idx → EReal) : S2x2048x512.Idx → EReal := fun i => sec (R3 g0 g1 i) (v i)

/-- A choice between two arrays, at an index. -/
theorem select_fn (b : BitVec 1) (f g : FVec Ideal S512x512 .f32) (i : S512x512.Idx) : (Scalar.select b f g : FVec Ideal S512x512 .f32) i = Scalar.select b (f i) (g i) := by
  unfold Scalar.select
  split <;> rfl

/-- One block's gradient: the first array in the first layer, the other in the second. -/
theorem pay5_apply (t : grid0.Coords) (a b : Vec Ideal S512x512 .f32) (i j : Fin 512) :
    k0_pay5 (F := Ideal) t a b (ix2 i j) = Scalar.select (Scalar.cmpi .eq (BitVec.ofNat 32 (t 0).val) 0#32) (a (ix2 i j)) (b (ix2 i j)) := by
  unfold k0_pay5
  rw [shapeCast_self, shapeCast_self]
  exact select_fn _ _ _ _

/-- One block's first moments. -/
theorem pay6_apply (t : grid0.Coords) (a b : Vec Ideal S512x512 .f32) (m : Vec Ideal S1x512x512 .f32) (i j : Fin 512) :
    k0_pay6 (F := Ideal) t a b m (ix2 i j) = mom (k0_pay5 (F := Ideal) t a b (ix2 i j)) (m (ix3 0 i j)) := by
  unfold k0_pay6
  generalize k0_pay5 (F := Ideal) t a b = g
  unfold mom
  exact congrArg (fun a : EReal => Ideal.ofBits .f32 0x3F666666#32 * a + Ideal.ofBits .f32 0x3DCCCCCD#32 * g (ix2 i j)) (drop_apply m _ i j)

/-- One block's second moments. -/
theorem pay7_apply (t : grid0.Coords) (a b : Vec Ideal S512x512 .f32) (v : Vec Ideal S1x512x512 .f32) (i j : Fin 512) :
    k0_pay7 (F := Ideal) t a b v (ix2 i j) = sec (k0_pay5 (F := Ideal) t a b (ix2 i j)) (v (ix3 0 i j)) := by
  unfold k0_pay7
  generalize k0_pay5 (F := Ideal) t a b = g
  unfold sec
  exact congrArg (fun a : EReal => Ideal.ofBits .f32 0x3F7FBE77#32 * a + Ideal.ofBits .f32 0x3A83126F#32 * ((g (ix2 i j) : EReal) * g (ix2 i j))) (drop_apply v _ i j)

/-- One block's steps. -/
theorem pay1_apply (t : grid0.Coords) (a b : Vec Ideal S512x512 .f32) (w m v : Vec Ideal S1x512x512 .f32) (i j : Fin 512) :
    k0_pay1 (F := Ideal) (k0_pay8 t a b w m v) k0_pay9 (ix3 0 i j) = delta (w (ix3 0 i j)) (k0_pay5 (F := Ideal) t a b (ix2 i j)) (m (ix3 0 i j)) (v (ix3 0 i j)) := by
  unfold k0_pay1
  refine (add_apply _ _ i j).trans ?_
  unfold delta
  rw [← pay6_apply t a b m i j, ← pay7_apply t a b v i j]
  unfold k0_pay8 k0_pay9
  generalize k0_pay6 (F := Ideal) t a b m = M
  generalize k0_pay7 (F := Ideal) t a b v = V
  exact congrArg (fun a : EReal => Ideal.ofBits .f32 0xBA83126F#32 * (Ideal.div (Ideal.div (M (ix2 i j)) (Ideal.ofBits .f32 0x3F26BD02#32)) (Ideal.sqrt (Ideal.div (V (ix2 i j)) (Ideal.ofBits .f32 0x3C231ACC#32)) + Ideal.ofBits .f32 0x322BCC77#32) + Ideal.ofBits .f32 0x3C23D70A#32 * a)) (drop_apply w _ i j)

variable (m : (ℓ : Loc nD τ sig) → Buf (Elt Ideal) ℓ) (c : Dev nD)

/-- The number of grid points. -/
theorem t_lt (t : Fin cfg0.N) : t.val < 8 := by have := t.isLt; have h : cfg0.N = 8 := N_0; omega

/-- The layer of a grid point, as the program tests it. -/
theorem layer : ∀ t : Fin cfg0.N, Scalar.cmpi .eq (BitVec.ofNat 32 (grid0.coords t 0).val) 0#32 = (if t.val < 4 then 1#1 else 0#1) := (by decide +kernel : ∀ t : Fin grid0.N, _)

/-- The block of window 0 at a grid point. -/
theorem idx0 : ∀ t : Fin cfg0.N, win0_0.index t = ![t.val / 4, t.val % 4, 0] := (by decide +kernel : ∀ t : Fin grid0.N, _)

/-- The block of window 3 at a grid point. -/
theorem idx3 : ∀ t : Fin cfg0.N, win0_3.index t = ![t.val / 4, t.val % 4, 0] := (by decide +kernel : ∀ t : Fin grid0.N, _)

/-- The block of window 4 at a grid point. -/
theorem idx4 : ∀ t : Fin cfg0.N, win0_4.index t = ![t.val / 4, t.val % 4, 0] := (by decide +kernel : ∀ t : Fin grid0.N, _)

/-- The block of window 5 at a grid point. -/
theorem idx5 : ∀ t : Fin cfg0.N, win0_5.index t = ![t.val / 4, t.val % 4, 0] := (by decide +kernel : ∀ t : Fin grid0.N, _)

/-- The block of window 6 at a grid point. -/
theorem idx6 : ∀ t : Fin cfg0.N, win0_6.index t = ![t.val / 4, t.val % 4, 0] := (by decide +kernel : ∀ t : Fin grid0.N, _)

/-- The block of window 7 at a grid point. -/
theorem idx7 : ∀ t : Fin cfg0.N, win0_7.index t = ![t.val / 4, t.val % 4, 0] := (by decide +kernel : ∀ t : Fin grid0.N, _)

/-- The block of window 8 at a grid point. -/
theorem idx8 : ∀ t : Fin cfg0.N, win0_8.index t = ![t.val / 4, t.val % 4, 0] := (by decide +kernel : ∀ t : Fin grid0.N, _)

/-- The block of window 1 at a grid point of the first layer. -/
theorem idx1 : ∀ t : Fin cfg0.N, t.val < 4 → win0_1.index t = ![t.val % 4, 0] := (by decide +kernel : ∀ t : Fin grid0.N, _)

/-- The array of window 1 as the call takes it. -/
theorem V_1 : V m c main_v0 = transpose S2048x512 [1, 0] (m ((c : Thread nD τ).loc main_arg1)) transposes_S512x2048_S2048x512_1_0 := rfl

/-- The block of a layer's gradient. -/
theorem iblk1 (t : Fin cfg0.N) (ht : t.val < 4) (i j : Fin 512) :
    (iblk m c 1 t : S512x512.Idx → EReal) (ix2 i j) = m ((c : Thread nD τ).loc main_arg1) (ix2 j ⟨512 * (t.val % 4) + i.val, by have := t_lt t; omega⟩) := by
  blk_simp [iblk]
  show V m c main_v0 _ = _
  rw [V_1]
  refine (congrArg (transpose S2048x512 [1, 0] (m ((c : Thread nD τ).loc main_arg1)) transposes_S512x2048_S2048x512_1_0) (by blk_ext [idx1 t ht] : _ = (ix2 ⟨512 * (t.val % 4) + i.val, by have := t_lt t; omega⟩ j : S2048x512.Idx))).trans ?_
  exact transpose_apply [1, 0] _ _ _ _ fun b => by match b with | ⟨0, _⟩ => rfl | ⟨1, _⟩ => rfl

/-- The block of window 2 at a grid point of the second layer. -/
theorem idx2 : ∀ t : Fin cfg0.N, ¬ t.val < 4 → win0_2.index t = ![t.val % 4, 0] := (by decide +kernel : ∀ t : Fin grid0.N, _)

/-- The array of window 2 as the call takes it. -/
theorem V_2 : V m c main_v1 = transpose S2048x512 [1, 0] (m ((c : Thread nD τ).loc main_arg2)) transposes_S512x2048_S2048x512_1_0 := rfl

/-- The block of a layer's gradient. -/
theorem iblk2 (t : Fin cfg0.N) (ht : ¬ t.val < 4) (i j : Fin 512) :
    (iblk m c 2 t : S512x512.Idx → EReal) (ix2 i j) = m ((c : Thread nD τ).loc main_arg2) (ix2 j ⟨512 * (t.val % 4) + i.val, by have := t_lt t; omega⟩) := by
  blk_simp [iblk]
  show V m c main_v1 _ = _
  rw [V_2]
  refine (congrArg (transpose S2048x512 [1, 0] (m ((c : Thread nD τ).loc main_arg2)) transposes_S512x2048_S2048x512_1_0) (by blk_ext [idx2 t ht] : _ = (ix2 ⟨512 * (t.val % 4) + i.val, by have := t_lt t; omega⟩ j : S2048x512.Idx))).trans ?_
  exact transpose_apply [1, 0] _ _ _ _ fun b => by match b with | ⟨0, _⟩ => rfl | ⟨1, _⟩ => rfl

/-- The block of the weights. -/
theorem iblk0 (t : Fin cfg0.N) (i j : Fin 512) :
    (iblk m c 0 t : S1x512x512.Idx → EReal) (ix3 0 i j) = m ((c : Thread nD τ).loc main_arg0) (ix3 ⟨t.val / 4, by have := t_lt t; omega⟩ ⟨512 * (t.val % 4) + i.val, by have := t_lt t; omega⟩ j) := by
  blk_simp [iblk]
  exact congrArg (m ((c : Thread nD τ).loc main_arg0)) (by blk_ext [idx0])

/-- The block of the first moments. -/
theorem iblk3 (t : Fin cfg0.N) (i j : Fin 512) :
    (iblk m c 3 t : S1x512x512.Idx → EReal) (ix3 0 i j) = m ((c : Thread nD τ).loc main_arg3) (ix3 ⟨t.val / 4, by have := t_lt t; omega⟩ ⟨512 * (t.val % 4) + i.val, by have := t_lt t; omega⟩ j) := by
  blk_simp [iblk]
  exact congrArg (m ((c : Thread nD τ).loc main_arg3)) (by blk_ext [idx3])

/-- The block of the second moments. -/
theorem iblk4 (t : Fin cfg0.N) (i j : Fin 512) :
    (iblk m c 4 t : S1x512x512.Idx → EReal) (ix3 0 i j) = m ((c : Thread nD τ).loc main_arg4) (ix3 ⟨t.val / 4, by have := t_lt t; omega⟩ ⟨512 * (t.val % 4) + i.val, by have := t_lt t; omega⟩ j) := by
  blk_simp [iblk]
  exact congrArg (m ((c : Thread nD τ).loc main_arg4)) (by blk_ext [idx4])

/-- A grid point's block of the gradient is that part of the whole gradient. -/
theorem blkG_apply (t : Fin cfg0.N) (i j : Fin 512) :
    k0_pay5 (F := Ideal) (grid0.coords t) (iblk m c 1 t) (iblk m c 2 t) (ix2 i j) = R3 (m ((c : Thread nD τ).loc main_arg1)) (m ((c : Thread nD τ).loc main_arg2)) (ix3 ⟨t.val / 4, by have := t_lt t; omega⟩ ⟨512 * (t.val % 4) + i.val, by have := t_lt t; omega⟩ j) := by
  rw [pay5_apply, layer, R3_apply]
  by_cases ht : t.val < 4
  · rw [if_pos ht, if_pos (show t.val / 4 = 0 by omega)]
    exact iblk1 m c t ht i j
  · rw [if_neg ht, if_neg (show ¬ t.val / 4 = 0 by omega)]
    exact iblk2 m c t ht i j

/-- What a grid point leaves in the window of the steps. -/
theorem out5 (t : Fin cfg0.N) : out0_5 (F := Ideal) (grid0.coords t) (iblk m c 0 t) (iblk m c 1 t) (iblk m c 2 t) (iblk m c 3 t) (iblk m c 4 t) = k0_pay1 (k0_pay8 (grid0.coords t) (iblk m c 1 t) (iblk m c 2 t) (iblk m c 0 t) (iblk m c 3 t) (iblk m c 4 t)) k0_pay9 := by
  unfold out0_5
  exact (View.canon_cons_unit_lit _ _ _ (by decide)).trans (congrArg (fun x => k0_pay1 x (k0_pay9 (F := Ideal))) (congr (congr (congr (congrArg₂ (k0_pay8 _) (View.ld_unit_lit _ _ (by decide)) (View.ld_unit_lit _ _ (by decide))) (View.ld_unit_lit _ _ (by decide))) (View.ld_unit_lit _ _ (by decide))) (View.ld_unit_lit _ _ (by decide))))

/-- What a grid point leaves in the window of the first moments. -/
theorem out6 (t : Fin cfg0.N) : out0_6 (F := Ideal) (grid0.coords t) (iblk m c 0 t) (iblk m c 1 t) (iblk m c 2 t) (iblk m c 3 t) (iblk m c 4 t) = k0_pay2 (k0_pay6 (grid0.coords t) (iblk m c 1 t) (iblk m c 2 t) (iblk m c 3 t)) := by
  unfold out0_6
  exact (View.canon_cons_unit_lit _ _ _ (by decide)).trans (congrArg k0_pay2 (congr (congrArg₂ (k0_pay6 _) (View.ld_unit_lit _ _ (by decide)) (View.ld_unit_lit _ _ (by decide))) (View.ld_unit_lit _ _ (by decide))))

/-- What a grid point leaves in the window of the second moments. -/
theorem out7 (t : Fin cfg0.N) : out0_7 (F := Ideal) (grid0.coords t) (iblk m c 0 t) (iblk m c 1 t) (iblk m c 2 t) (iblk m c 3 t) (iblk m c 4 t) = k0_pay3 (k0_pay7 (grid0.coords t) (iblk m c 1 t) (iblk m c 2 t) (iblk m c 4 t)) := by
  unfold out0_7
  exact (View.canon_cons_unit_lit _ _ _ (by decide)).trans (congrArg k0_pay3 (congr (congrArg₂ (k0_pay7 _) (View.ld_unit_lit _ _ (by decide)) (View.ld_unit_lit _ _ (by decide))) (View.ld_unit_lit _ _ (by decide))))

/-- What a grid point leaves in the window of the gradient. -/
theorem out8 (t : Fin cfg0.N) : out0_8 (F := Ideal) (grid0.coords t) (iblk m c 0 t) (iblk m c 1 t) (iblk m c 2 t) (iblk m c 3 t) (iblk m c 4 t) = k0_pay4 (k0_pay5 (grid0.coords t) (iblk m c 1 t) (iblk m c 2 t)) := by
  unfold out0_8
  exact (View.canon_cons_unit_lit _ _ _ (by decide)).trans (congrArg k0_pay4 (congrArg₂ (k0_pay5 _) (View.ld_unit_lit _ _ (by decide)) (View.ld_unit_lit _ _ (by decide))))

/-- The array of the steps after the call. -/
theorem final5 : (dats m 0 c).arrAt 5 cfg0.N = R0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨p, i, j, rfl⟩ : ∃ (p : Fin 1) (i j : Fin 512), y = ix3 p i j := ⟨y 0, y 1, y 2, eq_ix3 y⟩
  obtain rfl : p = 0 := Subsingleton.elim _ _
  have e0 : ((win0_5.blk t).view.emb (ix3 0 i j) : S2x2048x512.Idx) = ix3 ⟨t.val / 4, by have := t_lt t; omega⟩ ⟨512 * (t.val % 4) + i.val, by have := t_lt t; omega⟩ j := by
    blk_ext [idx5]
  blk_simp
  rw [after0_5, out5]
  refine Eq.trans ?_ (congrArg (R0 (m ((c : Thread nD τ).loc main_arg0)) (m ((c : Thread nD τ).loc main_arg1)) (m ((c : Thread nD τ).loc main_arg2)) (m ((c : Thread nD τ).loc main_arg3)) (m ((c : Thread nD τ).loc main_arg4))) e0).symm
  exact (pay1_apply _ _ _ _ _ _ i j).trans (congr (congr (congr (congrArg delta (iblk0 m c t i j)) (blkG_apply m c t i j)) (iblk3 m c t i j)) (iblk4 m c t i j))

/-- The array of the first moments after the call. -/
theorem final6 : (dats m 0 c).arrAt 6 cfg0.N = R1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  obtain ⟨p, i, j, rfl⟩ : ∃ (p : Fin 1) (i j : Fin 512), y = ix3 p i j := ⟨y 0, y 1, y 2, eq_ix3 y⟩
  obtain rfl : p = 0 := Subsingleton.elim _ _
  have e0 : ((win0_6.blk t).view.emb (ix3 0 i j) : S2x2048x512.Idx) = ix3 ⟨t.val / 4, by have := t_lt t; omega⟩ ⟨512 * (t.val % 4) + i.val, by have := t_lt t; omega⟩ j := by
    blk_ext [idx6]
  blk_simp
  rw [after0_6, out6]
  refine Eq.trans ?_ (congrArg (R1 (m ((c : Thread nD τ).loc main_arg0)) (m ((c : Thread nD τ).loc main_arg1)) (m ((c : Thread nD τ).loc main_arg2)) (m ((c : Thread nD τ).loc main_arg3)) (m ((c : Thread nD τ).loc main_arg4))) e0).symm
  unfold k0_pay2
  exact (add_apply _ _ i j).trans ((pay6_apply _ _ _ _ i j).trans (congrArg₂ mom (blkG_apply m c t i j) (iblk3 m c t i j)))

/-- The array of the second moments after the call. -/
theorem final7 : (dats m 0 c).arrAt 7 cfg0.N = R2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  obtain ⟨p, i, j, rfl⟩ : ∃ (p : Fin 1) (i j : Fin 512), y = ix3 p i j := ⟨y 0, y 1, y 2, eq_ix3 y⟩
  obtain rfl : p = 0 := Subsingleton.elim _ _
  have e0 : ((win0_7.blk t).view.emb (ix3 0 i j) : S2x2048x512.Idx) = ix3 ⟨t.val / 4, by have := t_lt t; omega⟩ ⟨512 * (t.val % 4) + i.val, by have := t_lt t; omega⟩ j := by
    blk_ext [idx7]
  blk_simp
  rw [after0_7, out7]
  refine Eq.trans ?_ (congrArg (R2 (m ((c : Thread nD τ).loc main_arg0)) (m ((c : Thread nD τ).loc main_arg1)) (m ((c : Thread nD τ).loc main_arg2)) (m ((c : Thread nD τ).loc main_arg3)) (m ((c : Thread nD τ).loc main_arg4))) e0).symm
  unfold k0_pay3
  exact (add_apply _ _ i j).trans ((pay7_apply _ _ _ _ i j).trans (congrArg₂ sec (blkG_apply m c t i j) (iblk4 m c t i j)))

/-- The array of the gradient after the call. -/
theorem final8 : (dats m 0 c).arrAt 8 cfg0.N = R3 (m ((c : Thread nD τ).loc main_arg1)) (m ((c : Thread nD τ).loc main_arg2)) := by
  refine (dats m 0 c).arrAt_eq_of_covers 8 _ (by decide +kernel) fun t hf y => ?_
  obtain ⟨p, i, j, rfl⟩ : ∃ (p : Fin 1) (i j : Fin 512), y = ix3 p i j := ⟨y 0, y 1, y 2, eq_ix3 y⟩
  obtain rfl : p = 0 := Subsingleton.elim _ _
  have e0 : ((win0_8.blk t).view.emb (ix3 0 i j) : S2x2048x512.Idx) = ix3 ⟨t.val / 4, by have := t_lt t; omega⟩ ⟨512 * (t.val % 4) + i.val, by have := t_lt t; omega⟩ j := by
    blk_ext [idx8]
  blk_simp
  rw [after0_8, out8]
  refine Eq.trans ?_ (congrArg (R3 (m ((c : Thread nD τ).loc main_arg1)) (m ((c : Thread nD τ).loc main_arg2))) e0).symm
  unfold k0_pay4
  exact (add_apply _ _ i j).trans (blkG_apply m c t i j)

/-- The reference's gradient of both layers. -/
theorem ref_grad (x1 x2 : S512x2048.Idx → EReal) : Cert.AdamOddRefIdeal.Read.val_main_v4 (F := Ideal) x1 x2 = R3 x1 x2 := by
  funext i
  obtain ⟨p, a, b, rfl⟩ : ∃ (p : Fin 2) (a : Fin 2048) (b : Fin 512), i = ix3 p a b := ⟨i 0, i 1, i 2, eq_ix3 i⟩
  unfold Cert.AdamOddRefIdeal.Read.val_main_v4
  refine (stack_apply _ _ _ p a b).trans ?_
  rw [Cert.AdamOddRefIdeal.Read.val_main_v2_apply, Cert.AdamOddRefIdeal.Read.val_main_v3_apply, Cert.AdamOddRefIdeal.Read.val_main_v0_apply, Cert.AdamOddRefIdeal.Read.val_main_v1_apply, R3_apply]
  have e : (Cert.AdamOddRefIdeal.Read.idx_main_v0 (Cert.AdamOddRefIdeal.Read.idx_main_v2 (ix3 0 a b)) : S512x2048.Idx) = ix2 b a := by
    funext k; match k with | ⟨0, _⟩ => rfl | ⟨1, _⟩ => rfl
  have e' : (Cert.AdamOddRefIdeal.Read.idx_main_v1 (Cert.AdamOddRefIdeal.Read.idx_main_v3 (ix3 0 a b)) : S512x2048.Idx) = ix2 b a := by
    funext k; match k with | ⟨0, _⟩ => rfl | ⟨1, _⟩ => rfl
  rw [e, e']

/-- The reference's steps. -/
theorem ref_eq0 (x0 : S2x2048x512.Idx → EReal) (x1 x2 : S512x2048.Idx → EReal) (x3 x4 : S2x2048x512.Idx → EReal) : Cert.AdamOddRefIdeal.Read.val_main_v28 (F := Ideal) x0 x1 x2 x3 x4 = R0 x0 x1 x2 x3 x4 := by
  funext i
  unfold R0
  rw [← ref_grad]
  rfl

/-- The reference's first moments. -/
theorem ref_eq1 (x0 : S2x2048x512.Idx → EReal) (x1 x2 : S512x2048.Idx → EReal) (x3 x4 : S2x2048x512.Idx → EReal) : Cert.AdamOddRefIdeal.Read.val_main_v9 (F := Ideal) x1 x2 x3 = R1 x0 x1 x2 x3 x4 := by
  funext i
  unfold R1
  rw [← ref_grad]
  rfl

/-- The reference's second moments. -/
theorem ref_eq2 (x0 : S2x2048x512.Idx → EReal) (x1 x2 : S512x2048.Idx → EReal) (x3 x4 : S2x2048x512.Idx → EReal) : Cert.AdamOddRefIdeal.Read.val_main_v15 (F := Ideal) x1 x2 x4 = R2 x0 x1 x2 x3 x4 := by
  funext i
  unfold R2
  rw [← ref_grad]
  rfl

/-- The kernel's program ends with the steps, the moments and the gradient. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = R0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_1) = R1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_2) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v2_3) = R3 (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨((h c).1).trans (final5 m c), ((h c).2.1).trans (final6 m c), ((h c).2.2.1).trans (final7 m c), ((h c).2.2.2.1).trans (final8 m c), (h c).2.2.2.2⟩) (Cert.AdamOddIdeal.Value.run_blocks m ρ)

/-- The reference's program ends with the steps, the moments and the gradient. -/
theorem ref_run (m' : (ℓ : Loc Cert.AdamOddRefIdeal.nD Cert.AdamOddRefIdeal.τ Cert.AdamOddRefIdeal.sig) → Buf (Elt Ideal) ℓ) (ρ : Dev Cert.AdamOddRefIdeal.nD → PrngReg) :
    θ_run (Cert.AdamOddRefIdeal.defs (F := Ideal)) (onTc (τ := Cert.AdamOddRefIdeal.τ) (Cert.AdamOddRefIdeal.main (F := Ideal))) ⟨m', fun _ => 0, ρ⟩ (fun r => ∀ c : Dev Cert.AdamOddRefIdeal.nD,
      r.2.mem ((c.tc : Thread Cert.AdamOddRefIdeal.nD Cert.AdamOddRefIdeal.τ).loc Cert.AdamOddRefIdeal.main_v28) = R0 (m' ((c.tc : Thread Cert.AdamOddRefIdeal.nD Cert.AdamOddRefIdeal.τ).loc Cert.AdamOddRefIdeal.main_arg0)) (m' ((c.tc : Thread Cert.AdamOddRefIdeal.nD Cert.AdamOddRefIdeal.τ).loc Cert.AdamOddRefIdeal.main_arg1)) (m' ((c.tc : Thread Cert.AdamOddRefIdeal.nD Cert.AdamOddRefIdeal.τ).loc Cert.AdamOddRefIdeal.main_arg2)) (m' ((c.tc : Thread Cert.AdamOddRefIdeal.nD Cert.AdamOddRefIdeal.τ).loc Cert.AdamOddRefIdeal.main_arg3)) (m' ((c.tc : Thread Cert.AdamOddRefIdeal.nD Cert.AdamOddRefIdeal.τ).loc Cert.AdamOddRefIdeal.main_arg4))
      ∧ r.2.mem ((c.tc : Thread Cert.AdamOddRefIdeal.nD Cert.AdamOddRefIdeal.τ).loc Cert.AdamOddRefIdeal.main_v9) = R1 (m' ((c.tc : Thread Cert.AdamOddRefIdeal.nD Cert.AdamOddRefIdeal.τ).loc Cert.AdamOddRefIdeal.main_arg0)) (m' ((c.tc : Thread Cert.AdamOddRefIdeal.nD Cert.AdamOddRefIdeal.τ).loc Cert.AdamOddRefIdeal.main_arg1)) (m' ((c.tc : Thread Cert.AdamOddRefIdeal.nD Cert.AdamOddRefIdeal.τ).loc Cert.AdamOddRefIdeal.main_arg2)) (m' ((c.tc : Thread Cert.AdamOddRefIdeal.nD Cert.AdamOddRefIdeal.τ).loc Cert.AdamOddRefIdeal.main_arg3)) (m' ((c.tc : Thread Cert.AdamOddRefIdeal.nD Cert.AdamOddRefIdeal.τ).loc Cert.AdamOddRefIdeal.main_arg4))
      ∧ r.2.mem ((c.tc : Thread Cert.AdamOddRefIdeal.nD Cert.AdamOddRefIdeal.τ).loc Cert.AdamOddRefIdeal.main_v15) = R2 (m' ((c.tc : Thread Cert.AdamOddRefIdeal.nD Cert.AdamOddRefIdeal.τ).loc Cert.AdamOddRefIdeal.main_arg0)) (m' ((c.tc : Thread Cert.AdamOddRefIdeal.nD Cert.AdamOddRefIdeal.τ).loc Cert.AdamOddRefIdeal.main_arg1)) (m' ((c.tc : Thread Cert.AdamOddRefIdeal.nD Cert.AdamOddRefIdeal.τ).loc Cert.AdamOddRefIdeal.main_arg2)) (m' ((c.tc : Thread Cert.AdamOddRefIdeal.nD Cert.AdamOddRefIdeal.τ).loc Cert.AdamOddRefIdeal.main_arg3)) (m' ((c.tc : Thread Cert.AdamOddRefIdeal.nD Cert.AdamOddRefIdeal.τ).loc Cert.AdamOddRefIdeal.main_arg4))
      ∧ r.2.mem ((c.tc : Thread Cert.AdamOddRefIdeal.nD Cert.AdamOddRefIdeal.τ).loc Cert.AdamOddRefIdeal.main_v4) = R3 (m' ((c.tc : Thread Cert.AdamOddRefIdeal.nD Cert.AdamOddRefIdeal.τ).loc Cert.AdamOddRefIdeal.main_arg1)) (m' ((c.tc : Thread Cert.AdamOddRefIdeal.nD Cert.AdamOddRefIdeal.τ).loc Cert.AdamOddRefIdeal.main_arg2))
      ∧ r.2.mem ((c.tc : Thread Cert.AdamOddRefIdeal.nD Cert.AdamOddRefIdeal.τ).loc Cert.AdamOddRefIdeal.main_arg0) = m' ((c.tc : Thread Cert.AdamOddRefIdeal.nD Cert.AdamOddRefIdeal.τ).loc Cert.AdamOddRefIdeal.main_arg0)
      ∧ r.2.mem ((c.tc : Thread Cert.AdamOddRefIdeal.nD Cert.AdamOddRefIdeal.τ).loc Cert.AdamOddRefIdeal.main_arg1) = m' ((c.tc : Thread Cert.AdamOddRefIdeal.nD Cert.AdamOddRefIdeal.τ).loc Cert.AdamOddRefIdeal.main_arg1)
      ∧ r.2.mem ((c.tc : Thread Cert.AdamOddRefIdeal.nD Cert.AdamOddRefIdeal.τ).loc Cert.AdamOddRefIdeal.main_arg2) = m' ((c.tc : Thread Cert.AdamOddRefIdeal.nD Cert.AdamOddRefIdeal.τ).loc Cert.AdamOddRefIdeal.main_arg2)
      ∧ r.2.mem ((c.tc : Thread Cert.AdamOddRefIdeal.nD Cert.AdamOddRefIdeal.τ).loc Cert.AdamOddRefIdeal.main_arg3) = m' ((c.tc : Thread Cert.AdamOddRefIdeal.nD Cert.AdamOddRefIdeal.τ).loc Cert.AdamOddRefIdeal.main_arg3)
      ∧ r.2.mem ((c.tc : Thread Cert.AdamOddRefIdeal.nD Cert.AdamOddRefIdeal.τ).loc Cert.AdamOddRefIdeal.main_arg4) = m' ((c.tc : Thread Cert.AdamOddRefIdeal.nD Cert.AdamOddRefIdeal.τ).loc Cert.AdamOddRefIdeal.main_arg4)) :=
  (θ_run _ _ _).mono (fun r h c => ⟨(((h c).1).trans (Cert.AdamOddRefIdeal.Read.val_main_v28_eq _ _ _ _ _)).trans (ref_eq0 _ _ _ _ _), (((h c).2.1).trans (Cert.AdamOddRefIdeal.Read.val_main_v9_eq _ _ _)).trans (ref_eq1 _ _ _ _ _), (((h c).2.2.1).trans (Cert.AdamOddRefIdeal.Read.val_main_v15_eq _ _ _)).trans (ref_eq2 _ _ _ _ _), (((h c).2.2.2.1).trans (Cert.AdamOddRefIdeal.Read.val_main_v4_eq _ _)).trans (ref_grad _ _), (h c).2.2.2.2⟩)
    (Cert.AdamOddRefIdeal.Value.run (F := Ideal) m' ρ)

end Cert.AdamOddClaim

end
-- ==== Proof.RsFinal.lean ====
/- The last sum of an exchange, an own part and three received ones: the kernel's program and the reference's end at the same array. -/
module

public import proofs.«01_k».proof.Proof.Gen.RsFinalIdeal.Value
public import proofs.«01_k».proof.Proof.Gen.RsFinalRefIdeal.Run
public import proofs.«01_k».proof.Proof.Gen.RsFinalRefIdeal.Read
public import proofs.«01_k».proof.Proof.Adam
public import Idealize.ShloMosaic.Lib.Pointwise
public import Idealize.ShloMosaic.Lib.Pipeline.ValueKit

@[expose] public section

set_option maxRecDepth 16384

noncomputable section

namespace Cert.RsFinalClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam
open Cert.RsFinalIdeal Cert.RsFinalIdeal.Gen
open scoped BigOperators

/-- The sum of the own part and the three received ones. -/
def R (s : S4x512x2048.Idx → EReal) (r : S3x512x2048.Idx → EReal) : S512x2048.Idx → EReal := fun i => grad (s (ix3 0 (i 0) (i 1))) (r (ix3 0 (i 0) (i 1))) (r (ix3 1 (i 0) (i 1))) (r (ix3 2 (i 0) (i 1)))

/-- One block of the sum. -/
theorem pay_apply (a b c d : Vec Ideal S1x256x2048 .bf16) (i : Fin 256) (j : Fin 2048) :
    k0_pay1 (F := Ideal) a b c d (ix2 i j) = grad (a (ix3 0 i j)) (b (ix3 0 i j)) (c (ix3 0 i j)) (d (ix3 0 i j)) := by
  unfold k0_pay1 grad
  exact congrArg₂ (fun a b : EReal => a + b) (congrArg₂ (fun a b : EReal => a + b) (congrArg₂ (fun a b : EReal => a + b) (drop_apply a _ i j) (drop_apply b _ i j)) (drop_apply c _ i j)) (drop_apply d _ i j)

variable (m : (ℓ : Loc nD τ sig) → Buf (Elt Ideal) ℓ) (c : Dev nD)

/-- The number of grid points. -/
theorem t_lt (t : Fin cfg0.N) : t.val < 2 := by have := t.isLt; have h : cfg0.N = 2 := N_0; omega

/-- The block of the own part at a grid point. -/
theorem idx0 : ∀ t : Fin cfg0.N, win0_0.index t = ![0, t.val, 0] := (by decide +kernel : ∀ t : Fin grid0.N, _)

/-- The block of the received parts at a grid point. -/
theorem idx1 : ∀ t : Fin cfg0.N, win0_1.index t = ![0, t.val, 0] := (by decide +kernel : ∀ t : Fin grid0.N, _)

/-- The block of the sum at a grid point. -/
theorem idx2 : ∀ t : Fin cfg0.N, win0_2.index t = ![t.val, 0] := (by decide +kernel : ∀ t : Fin grid0.N, _)

/-- A grid point's rows of the own part. -/
theorem iblk0 (t : Fin cfg0.N) (i : Fin 256) (j : Fin 2048) :
    (iblk m c 0 t : S1x256x2048.Idx → EReal) (ix3 0 i j) = m ((c : Thread nD τ).loc main_arg0) (ix3 0 ⟨256 * t.val + i.val, by have := t_lt t; omega⟩ j) := by
  blk_simp [iblk]
  exact congrArg (m ((c : Thread nD τ).loc main_arg0)) (by blk_ext [idx0])

/-- A grid point's rows of the received parts. -/
theorem iblk1 (t : Fin cfg0.N) (p : Fin 3) (i : Fin 256) (j : Fin 2048) :
    (iblk m c 1 t : S3x256x2048.Idx → EReal) (ix3 p i j) = m ((c : Thread nD τ).loc main_arg1) (ix3 p ⟨256 * t.val + i.val, by have := t_lt t; omega⟩ j) := by
  blk_simp [iblk]
  exact congrArg (m ((c : Thread nD τ).loc main_arg1)) (by blk_ext [idx1])

/-- What a grid point leaves in the window of the sum. -/
theorem out_apply (t : Fin cfg0.N) (i : Fin 256) (j : Fin 2048) :
    out0_2 (F := Ideal) (iblk m c 0 t) (iblk m c 1 t) (ix2 i j) = R (m ((c : Thread nD τ).loc main_arg0)) (m ((c : Thread nD τ).loc main_arg1)) (ix2 ⟨256 * t.val + i.val, by have := t_lt t; omega⟩ j) := by
  unfold out0_2
  refine (congrFun (View.canon_cons_unit_lit _ _ _ (by decide)) (ix2 i j)).trans ((pay_apply _ _ _ _ i j).trans ?_)
  show grad _ _ _ _ = grad _ _ _ _
  exact congr (congr (congr (congrArg grad ((congrFun (View.ld_unit_lit (S := S1x256x2048) _ (iblk m c 0 t) (by decide)) (ix3 0 i j)).trans (iblk0 m c t i j)))
    ((congrArg (iblk m c 1 t : S3x256x2048.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 1 t : S3x256x2048.Idx → EReal) (ix3 0 i j)).trans (iblk1 m c t 0 i j)))
    ((congrArg (iblk m c 1 t : S3x256x2048.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 1 t : S3x256x2048.Idx → EReal) (ix3 1 i j)).trans (iblk1 m c t 1 i j)))
    ((congrArg (iblk m c 1 t : S3x256x2048.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 1 t : S3x256x2048.Idx → EReal) (ix3 2 i j)).trans (iblk1 m c t 2 i j))

/-- The array of the sum after the call. -/
theorem final : (dats m 0 c).arrAt 2 cfg0.N = R (m ((c : Thread nD τ).loc main_arg0)) (m ((c : Thread nD τ).loc main_arg1)) := by
  refine (dats m 0 c).arrAt_eq_of_covers 2 _ (by decide +kernel) fun t hf y => ?_
  obtain ⟨i, j, rfl⟩ : ∃ (i : Fin 256) (j : Fin 2048), y = ix2 i j := ⟨y 0, y 1, eq_ix2 y⟩
  have e0 : ((win0_2.blk t).view.emb (ix2 i j) : S512x2048.Idx) = ix2 ⟨256 * t.val + i.val, by have := t_lt t; omega⟩ j := by
    blk_ext [idx2]
  blk_simp
  rw [after0_2]
  exact (out_apply m c t i j).trans (congrArg (R (m ((c : Thread nD τ).loc main_arg0)) (m ((c : Thread nD τ).loc main_arg1))) e0).symm

/-- The reference's sum. -/
theorem ref_eq (x0 : S4x512x2048.Idx → EReal) (x1 : S3x512x2048.Idx → EReal) : Cert.RsFinalRefIdeal.Read.val_main_v5 (F := Ideal) x0 x1 = R x0 x1 := by
  funext q
  obtain ⟨i, j, rfl⟩ : ∃ (i : Fin 512) (j : Fin 2048), q = ix2 i j := ⟨q 0, q 1, eq_ix2 q⟩
  rw [Cert.RsFinalRefIdeal.Read.val_main_v5_apply, Cert.RsFinalRefIdeal.Read.val_main_v4_apply, Cert.RsFinalRefIdeal.Read.val_main_v2_apply, Cert.RsFinalRefIdeal.Read.val_main_v1_apply, Cert.RsFinalRefIdeal.Read.val_main_v0_apply]
  refine Eq.trans ?_ (grad_eq (x0 (ix3 0 i j)) (fun k => x1 (ix3 k i j)))
  refine congrArg₂ (fun a b : EReal => a + b) (congrArg x0 ?_) (congrArg (fun a : EReal => Ideal.ofBits .f32 0x00000000#32 + a) (Finset.sum_congr rfl fun k _ => congrArg x1 ?_))
  · funext b
    match b with
    | ⟨0, _⟩ => rfl
    | ⟨1, _⟩ => exact Fin.ext (by show (i.val * 2048 + j.val) / 2048 % 512 = i.val; omega)
    | ⟨2, _⟩ => exact Fin.ext (by show (i.val * 2048 + j.val) % 2048 = j.val; omega)
  · funext b; match b with | ⟨0, _⟩ => rfl | ⟨1, _⟩ => rfl | ⟨2, _⟩ => rfl

/-- The kernel's program ends with the sum. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h c).1).trans (final m c), (h c).2⟩) (Cert.RsFinalIdeal.Value.run_blocks m ρ)

/-- The reference's program ends with the sum. -/
theorem ref_run (m' : (ℓ : Loc Cert.RsFinalRefIdeal.nD Cert.RsFinalRefIdeal.τ Cert.RsFinalRefIdeal.sig) → Buf (Elt Ideal) ℓ) (ρ : Dev Cert.RsFinalRefIdeal.nD → PrngReg) :
    θ_run (Cert.RsFinalRefIdeal.defs (F := Ideal)) (onTc (τ := Cert.RsFinalRefIdeal.τ) (Cert.RsFinalRefIdeal.main (F := Ideal))) ⟨m', fun _ => 0, ρ⟩ (fun r => ∀ c : Dev Cert.RsFinalRefIdeal.nD,
      r.2.mem ((c.tc : Thread Cert.RsFinalRefIdeal.nD Cert.RsFinalRefIdeal.τ).loc Cert.RsFinalRefIdeal.main_v5) = R (m' ((c.tc : Thread Cert.RsFinalRefIdeal.nD Cert.RsFinalRefIdeal.τ).loc Cert.RsFinalRefIdeal.main_arg0)) (m' ((c.tc : Thread Cert.RsFinalRefIdeal.nD Cert.RsFinalRefIdeal.τ).loc Cert.RsFinalRefIdeal.main_arg1))
      ∧ r.2.mem ((c.tc : Thread Cert.RsFinalRefIdeal.nD Cert.RsFinalRefIdeal.τ).loc Cert.RsFinalRefIdeal.main_arg0) = m' ((c.tc : Thread Cert.RsFinalRefIdeal.nD Cert.RsFinalRefIdeal.τ).loc Cert.RsFinalRefIdeal.main_arg0)
      ∧ r.2.mem ((c.tc : Thread Cert.RsFinalRefIdeal.nD Cert.RsFinalRefIdeal.τ).loc Cert.RsFinalRefIdeal.main_arg1) = m' ((c.tc : Thread Cert.RsFinalRefIdeal.nD Cert.RsFinalRefIdeal.τ).loc Cert.RsFinalRefIdeal.main_arg1)) :=
  (θ_run _ _ _).mono (fun r h c => ⟨(((h c).1).trans (Cert.RsFinalRefIdeal.Read.val_main_v5_eq _ _ )).trans (ref_eq _ _ ), (h c).2⟩)
    (Cert.RsFinalRefIdeal.Value.run (F := Ideal) m' ρ)

end Cert.RsFinalClaim

end
-- ==== Proof.SumSmall.lean ====
/- The sum of the small weights' packed gradients over the devices: the kernel's program and the reference's end at the same array. -/
module

public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Adam
public import Idealize.ShloMosaic.Lib.Pointwise
public import Idealize.ShloMosaic.Lib.Pipeline.ValueKit

@[expose] public section

set_option maxRecDepth 16384

noncomputable section

namespace Cert.SumSmallClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam
open Cert.SumSmallIdeal Cert.SumSmallIdeal.Gen
open scoped BigOperators

/-- The sum over the eight devices' parts. -/
def R (x : S8x1328x128.Idx → EReal) : S1328x128.Idx → EReal := fun i => ∑ k : Fin 8, x (ix3 k (i 0) (i 1))

/-- The sum as the call adds it, part after part. -/
theorem R_apply (x : S8x1328x128.Idx → EReal) (i : Fin 1328) (j : Fin 128) :
    R x (ix2 i j) = x (ix3 0 i j) + x (ix3 1 i j) + x (ix3 2 i j) + x (ix3 3 i j) + x (ix3 4 i j) + x (ix3 5 i j) + x (ix3 6 i j) + x (ix3 7 i j) := by
  show (∑ k : Fin 8, x (ix3 k i j) : EReal) = _
  rw [Fin.sum_univ_eight]

/-- The body's sum of eight parts. -/
theorem pay_apply (x0 x1 x2 x3 x4 x5 x6 x7 : Vec Ideal S1x1328x128 .f32) (i : Fin 1328) (j : Fin 128) :
    k0_pay1 (F := Ideal) x0 x1 x2 x3 x4 x5 x6 x7 (ix2 i j) = (x0 (ix3 0 i j) + x1 (ix3 0 i j) + x2 (ix3 0 i j) + x3 (ix3 0 i j) + x4 (ix3 0 i j) + x5 (ix3 0 i j) + x6 (ix3 0 i j) + x7 (ix3 0 i j) : EReal) := by
  unfold k0_pay1
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (drop_apply x0 _ i j) (drop_apply x1 _ i j)) (drop_apply x2 _ i j)) (drop_apply x3 _ i j)) (drop_apply x4 _ i j)) (drop_apply x5 _ i j)) (drop_apply x6 _ i j)) (drop_apply x7 _ i j)

variable (m : (ℓ : Loc nD τ sig) → Buf (Elt Ideal) ℓ) (c : Dev nD)

/-- The block of the parts is the whole array. -/
theorem idx0 : ∀ t : Fin cfg0.N, win0_0.index t = ![0, 0, 0] := (by decide +kernel : ∀ t : Fin grid0.N, _)

/-- The block of the sum is the whole array. -/
theorem idx1 : ∀ t : Fin cfg0.N, win0_1.index t = ![0, 0] := (by decide +kernel : ∀ t : Fin grid0.N, _)

/-- The parts as the body sees them. -/
theorem iblk0 (t : Fin cfg0.N) (p : Fin 8) (i : Fin 1328) (j : Fin 128) :
    (iblk m c 0 t : S8x1328x128.Idx → EReal) (ix3 p i j) = m ((c : Thread nD τ).loc main_arg0) (ix3 p i j) := by
  blk_simp [iblk]
  exact congrArg (m ((c : Thread nD τ).loc main_arg0)) (by blk_ext [idx0])

/-- What the body leaves in the window of the sum. -/
theorem out_apply (t : Fin cfg0.N) (i : Fin 1328) (j : Fin 128) :
    out0_1 (F := Ideal) (iblk m c 0 t) (ix2 i j) = R (m ((c : Thread nD τ).loc main_arg0)) (ix2 i j) := by
  unfold out0_1
  refine (congrFun (View.canon_cons_unit_lit _ _ _ (by decide)) (ix2 i j)).trans ((pay_apply _ _ _ _ _ _ _ _ i j).trans ?_)
  rw [R_apply]
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((congrArg (iblk m c 0 t : S8x1328x128.Idx → EReal) (by
      funext b
      match b with
      | ⟨0, _⟩ => exact Fin.ext (by show 0 + 1 * 0 = 0; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 0 i j)).trans (iblk0 m c t 0 i j))
    ((congrArg (iblk m c 0 t : S8x1328x128.Idx → EReal) (by
      funext b
      match b with
      | ⟨0, _⟩ => exact Fin.ext (by show 1 + 1 * 0 = 1; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 1 i j)).trans (iblk0 m c t 1 i j)))
    ((congrArg (iblk m c 0 t : S8x1328x128.Idx → EReal) (by
      funext b
      match b with
      | ⟨0, _⟩ => exact Fin.ext (by show 2 + 1 * 0 = 2; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 2 i j)).trans (iblk0 m c t 2 i j)))
    ((congrArg (iblk m c 0 t : S8x1328x128.Idx → EReal) (by
      funext b
      match b with
      | ⟨0, _⟩ => exact Fin.ext (by show 3 + 1 * 0 = 3; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 3 i j)).trans (iblk0 m c t 3 i j)))
    ((congrArg (iblk m c 0 t : S8x1328x128.Idx → EReal) (by
      funext b
      match b with
      | ⟨0, _⟩ => exact Fin.ext (by show 4 + 1 * 0 = 4; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 4 i j)).trans (iblk0 m c t 4 i j)))
    ((congrArg (iblk m c 0 t : S8x1328x128.Idx → EReal) (by
      funext b
      match b with
      | ⟨0, _⟩ => exact Fin.ext (by show 5 + 1 * 0 = 5; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 5 i j)).trans (iblk0 m c t 5 i j)))
    ((congrArg (iblk m c 0 t : S8x1328x128.Idx → EReal) (by
      funext b
      match b with
      | ⟨0, _⟩ => exact Fin.ext (by show 6 + 1 * 0 = 6; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 6 i j)).trans (iblk0 m c t 6 i j)))
    ((congrArg (iblk m c 0 t : S8x1328x128.Idx → EReal) (by
      funext b
      match b with
      | ⟨0, _⟩ => exact Fin.ext (by show 7 + 1 * 0 = 7; rfl)
      | ⟨1, _⟩ => exact Fin.ext (by show 0 + 1 * i.val = i.val; omega)
      | ⟨2, _⟩ => exact Fin.ext (by show 0 + 1 * j.val = j.val; omega)) : _ = (iblk m c 0 t : S8x1328x128.Idx → EReal) (ix3 7 i j)).trans (iblk0 m c t 7 i j))

/-- The array of the sum after the call. -/
theorem final : (dats m 0 c).arrAt 1 cfg0.N = R (m ((c : Thread nD τ).loc main_arg0)) := by
  refine (dats m 0 c).arrAt_eq_of_covers 1 _ (by decide +kernel) fun t hf y => ?_
  obtain ⟨i, j, rfl⟩ : ∃ (i : Fin 1328) (j : Fin 128), y = ix2 i j := ⟨y 0, y 1, eq_ix2 y⟩
  have e0 : ((win0_1.blk t).view.emb (ix2 i j) : S1328x128.Idx) = ix2 i j := by
    blk_ext [idx1]
  blk_simp
  rw [after0_1]
  exact (out_apply m c t i j).trans (congrArg (R (m ((c : Thread nD τ).loc main_arg0))) e0).symm

/-- The reference's sum. -/
theorem ref_eq (x0 : S8x1328x128.Idx → EReal) : Cert.SumSmallRefIdeal.Read.val_main_v0 (F := Ideal) x0 = R x0 := by
  funext q
  obtain ⟨i, j, rfl⟩ : ∃ (i : Fin 1328) (j : Fin 128), q = ix2 i j := ⟨q 0, q 1, eq_ix2 q⟩
  rw [Cert.SumSmallRefIdeal.Read.val_main_v0_apply]
  show Ideal.ofBits .f32 0x00000000#32 + (∑ k : Fin 8, x0 (Cert.SumSmallRefIdeal.Read.idx_main_v0 (ix2 i j) k) : EReal) = ∑ k : Fin 8, x0 (ix3 k i j)
  rw [Ideal.ofBits_zero_f32, zero_add]
  refine Finset.sum_congr rfl fun k _ => congrArg x0 ?_
  funext b; match b with | ⟨0, _⟩ => rfl | ⟨1, _⟩ => rfl | ⟨2, _⟩ => rfl

/-- The kernel's program ends with the sum. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0))
      ∧ r.2.mem ((c.tc : Thread nD τ).loc main_arg0) = m ((c.tc : Thread nD τ).loc main_arg0)) :=
  (θ_run _ _ _).mono (fun r h c => ⟨((h c).1).trans (final m c), (h c).2⟩) (Cert.SumSmallIdeal.Value.run_blocks m ρ)

/-- The reference's program ends with the sum. -/
theorem ref_run (m' : (ℓ : Loc Cert.SumSmallRefIdeal.nD Cert.SumSmallRefIdeal.τ Cert.SumSmallRefIdeal.sig) → Buf (Elt Ideal) ℓ) (ρ : Dev Cert.SumSmallRefIdeal.nD → PrngReg) :
    θ_run (Cert.SumSmallRefIdeal.defs (F := Ideal)) (onTc (τ := Cert.SumSmallRefIdeal.τ) (Cert.SumSmallRefIdeal.main (F := Ideal))) ⟨m', fun _ => 0, ρ⟩ (fun r => ∀ c : Dev Cert.SumSmallRefIdeal.nD,
      r.2.mem ((c.tc : Thread Cert.SumSmallRefIdeal.nD Cert.SumSmallRefIdeal.τ).loc Cert.SumSmallRefIdeal.main_v0) = R (m' ((c.tc : Thread Cert.SumSmallRefIdeal.nD Cert.SumSmallRefIdeal.τ).loc Cert.SumSmallRefIdeal.main_arg0))
      ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)) :=
  (θ_run _ _ _).mono (fun r h c => ⟨(((h c).1).trans (Cert.SumSmallRefIdeal.Read.val_main_v0_eq _ )).trans (ref_eq _ ), (h c).2⟩)
    (Cert.SumSmallRefIdeal.Value.run (F := Ideal) m' ρ)

end Cert.SumSmallClaim

end
-- ==== Proof.CastX.lean ====
/- The cast of the step's input to bfloat16: the kernel's program and the reference's end at the same array. -/
module

public import proofs.«01_k».proof.Proof.Gen.CastXIdeal.Value
public import proofs.«01_k».proof.Proof.Gen.CastXRefIdeal.Run
public import proofs.«01_k».proof.Proof.Gen.CastXRefIdeal.Read
public import proofs.«01_k».proof.Proof.Adam

@[expose] public section

noncomputable section

namespace Cert.CastXClaim

open Idealize.ShloMosaic
open Idealize.ShloMosaic.TcCoe
open Idealize.SL.Sem
open Cert.CastXIdeal Cert.CastXIdeal.Gen

/-- The input itself: over the reals a cast is the identity. -/
def R (x : S2048x2048.Idx → EReal) : S2048x2048.Idx → EReal := x

variable (m : (ℓ : Loc nD τ sig) → Buf (Elt Ideal) ℓ)

/-- The kernel's program ends with the input, cast. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = R (m ((c.tc : Thread nD τ).loc main_arg0))
      ∧ r.2.mem ((c.tc : Thread nD τ).loc main_arg0) = m ((c.tc : Thread nD τ).loc main_arg0)) :=
  Cert.CastXIdeal.Value.run m ρ

/-- The reference's program ends with the input, cast. -/
theorem ref_run (m' : (ℓ : Loc Cert.CastXRefIdeal.nD Cert.CastXRefIdeal.τ Cert.CastXRefIdeal.sig) → Buf (Elt Ideal) ℓ) (ρ : Dev Cert.CastXRefIdeal.nD → PrngReg) :
    θ_run (Cert.CastXRefIdeal.defs (F := Ideal)) (onTc (τ := Cert.CastXRefIdeal.τ) (Cert.CastXRefIdeal.main (F := Ideal))) ⟨m', fun _ => 0, ρ⟩ (fun r => ∀ c : Dev Cert.CastXRefIdeal.nD,
      r.2.mem ((c.tc : Thread Cert.CastXRefIdeal.nD Cert.CastXRefIdeal.τ).loc Cert.CastXRefIdeal.main_v0) = R (m' ((c.tc : Thread Cert.CastXRefIdeal.nD Cert.CastXRefIdeal.τ).loc Cert.CastXRefIdeal.main_arg0))
      ∧ r.2.mem ((c.tc : Thread Cert.CastXRefIdeal.nD Cert.CastXRefIdeal.τ).loc Cert.CastXRefIdeal.main_arg0) = m' ((c.tc : Thread Cert.CastXRefIdeal.nD Cert.CastXRefIdeal.τ).loc Cert.CastXRefIdeal.main_arg0)) :=
  Cert.CastXRefIdeal.Value.run (F := Ideal) m' ρ

end Cert.CastXClaim

end
-- ==== Proof.AddOut.lean ====
/- The sum of a device's part of the gradient of the projection out and its pair's, for each chip: the kernel's program and the reference's end at the same array. -/
module

public import proofs.«01_k».proof.Proof.Gen.AddOut.Frame
public import proofs.«01_k».proof.Proof.Gen.AddOutIdeal.Frame
public import proofs.«01_k».proof.Proof.Gen.AddOutRefIdeal.Run
public import proofs.«01_k».proof.Proof.Gen.AddOutRefIdeal.Read
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

namespace Cert.AddOutClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam

section
open Cert.AddOut Cert.AddOut.Gen
variable {F : FTy → Type} [FloatOps F]

/-- The first index map, at the words of the table that it reads, each chip's even device: twice the grid coordinate. -/
theorem okmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array. -/
theorem ok (m : (ℓ : Loc nD τ sig) → Buf (Elt F) ℓ) : Ok m := by
  intro i
  have hi : (i 0).val < 4 := (i 0).isLt
  refine ⟨fun a => ?_, Or.inr ?_⟩
  · rw [okmap0]
    match a with
    | ⟨0, _⟩ => show (2 * (i 0).val + 1) * 1 ≤ 8; omega
    | ⟨1, _⟩ => show (0 + 1) * 256 ≤ 256; omega
    | ⟨2, _⟩ => show (0 + 1) * 2048 ≤ 2048; omega
  · exact Affine.block_words_dvd (of_decide_eq_true rfl) (by decide)

end

section
open Cert.AddOutIdeal Cert.AddOutIdeal.Gen
variable {F : FTy → Type} [FloatOps F]

/-- The first index map, idealized, at the words of the table that it reads, each chip's even device: twice the grid coordinate. -/
theorem ok_idealmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array, idealized. -/
theorem ok_ideal (m : (ℓ : Loc nD τ sig) → Buf (Elt F) ℓ) : Ok m := by
  intro i
  have hi : (i 0).val < 4 := (i 0).isLt
  refine ⟨fun a => ?_, Or.inr ?_⟩
  · rw [ok_idealmap0]
    match a with
    | ⟨0, _⟩ => show (2 * (i 0).val + 1) * 1 ≤ 8; omega
    | ⟨1, _⟩ => show (0 + 1) * 256 ≤ 256; omega
    | ⟨2, _⟩ => show (0 + 1) * 2048 ≤ 2048; omega
  · exact Affine.block_words_dvd (of_decide_eq_true rfl) (by decide)

end

open Cert.AddOutIdeal Cert.AddOutIdeal.Gen
open scoped BigOperators

/-- For each chip, this device's part of the gradient and the received one. -/
def R (g : S8x256x2048.Idx → EReal) (b : S4x256x2048.Idx → EReal) : S4x256x2048.Idx → EReal := fun i =>
  g (ix3 ⟨2 * (i 0).val, by have : (i 0).val < 4 := (i 0).isLt; omega⟩ (i 1) (i 2)) + b i

/-- The body's sum of two blocks. -/
theorem pay_apply (a b : Vec Ideal S1x256x2048 .bf16) (i : Fin 256) (j : Fin 2048) :
    k0_pay1 (F := Ideal) a b (ix3 0 i j) = (a (ix3 0 i j) + b (ix3 0 i j) : EReal) := by
  unfold k0_pay1
  exact (add_apply _ _ i j).trans (congrArg₂ (fun a b : EReal => a + b) (drop_apply a _ i j) (drop_apply b _ i j))

variable (m : (ℓ : Loc nD τ sig) → Buf (Elt Ideal) ℓ) (c : Dev nD)

/-- The grid has one axis. -/
theorem coord0 : ∀ t : Fin grid0.N, (grid0.coords t 0).val = t.val := by decide +kernel

/-- The place of the second window's block. -/
theorem index1 : ∀ t : Fin grid0.N, cc0_transform_1 (grid0.coords t) = ![t.val, 0, 0] := by decide +kernel

/-- The place of the result's block. -/
theorem index2 : ∀ t : Fin grid0.N, cc0_transform_2 (grid0.coords t) = ![t.val, 0, 0] := by decide +kernel

/-- A grid point's own part of the gradient. -/
theorem iblk0 (hO : Ok m) (t : Fin (cfgM m hO).N) (i : Fin 256) (j : Fin 2048) :
    (iblk m hO c 0 t : S1x256x2048.Idx → EReal) (ix3 0 i j) = m ((c : Thread nD τ).loc main_arg0) (ix3 ⟨2 * t.val, by have : t.val < 4 := t.isLt; omega⟩ i j) := by
  refine (congrArg (V m c main_arg0 : S8x256x2048.Idx → EReal) ?_).trans (congrFun (V_main_arg0 m c) _)
  have e : ∀ a, cc0_transform_0 k0_off1_inb numel1_S1 (tbl m) (grid0.coords t) a = (![2 * t.val, 0, 0] : Fin 3 → ℕ) a := fun a =>
    (congrFun (ok_idealmap0 m _) a).trans (by rw [coord0])
  funext a
  match a with
  | ⟨0, _⟩ => exact Fin.ext (by show cc0_transform_0 k0_off1_inb numel1_S1 (tbl m) (grid0.coords t) 0 * 1 + 1 * 0 = 2 * t.val; rw [e 0]; show 2 * t.val * 1 + 1 * 0 = 2 * t.val; omega)
  | ⟨1, _⟩ => exact Fin.ext (by show cc0_transform_0 k0_off1_inb numel1_S1 (tbl m) (grid0.coords t) 1 * 256 + 1 * i.val = i.val; rw [e 1]; show 0 * 256 + 1 * i.val = i.val; omega)
  | ⟨2, _⟩ => exact Fin.ext (by show cc0_transform_0 k0_off1_inb numel1_S1 (tbl m) (grid0.coords t) 2 * 2048 + 1 * j.val = j.val; rw [e 2]; show 0 * 2048 + 1 * j.val = j.val; omega)

/-- A grid point's received part. -/
theorem iblk1 (hO : Ok m) (t : Fin (cfgM m hO).N) (i : Fin 256) (j : Fin 2048) :
    (iblk m hO c 1 t : S1x256x2048.Idx → EReal) (ix3 0 i j) = m ((c : Thread nD τ).loc main_arg1) (ix3 ⟨t.val, t.isLt⟩ i j) := by
  refine (congrArg (V m c main_arg1 : S4x256x2048.Idx → EReal) ?_).trans (congrFun (V_main_arg1 m c) _)
  funext a
  match a with
  | ⟨0, _⟩ => exact Fin.ext (by show cc0_transform_1 (grid0.coords t) 0 * 1 + 1 * 0 = t.val; rw [index1 t]; show t.val * 1 + 1 * 0 = t.val; omega)
  | ⟨1, _⟩ => exact Fin.ext (by show cc0_transform_1 (grid0.coords t) 1 * 256 + 1 * i.val = i.val; rw [index1 t]; show 0 * 256 + 1 * i.val = i.val; omega)
  | ⟨2, _⟩ => exact Fin.ext (by show cc0_transform_1 (grid0.coords t) 2 * 2048 + 1 * j.val = j.val; rw [index1 t]; show 0 * 2048 + 1 * j.val = j.val; omega)

/-- What a grid point leaves in the window of the sum. -/
theorem out_apply (hO : Ok m) (t : Fin (cfgM m hO).N) (i : Fin 256) (j : Fin 2048) :
    (outsAt0 m hO c t : S1x256x2048.Idx → EReal) (ix3 0 i j) = R (m ((c : Thread nD τ).loc main_arg0)) (m ((c : Thread nD τ).loc main_arg1)) (ix3 ⟨t.val, t.isLt⟩ i j) := by
  refine Eq.trans ?_ (congrArg₂ (fun a b : EReal => a + b) (iblk0 m c hO t i j) (iblk1 m c hO t i j))
  refine Eq.trans ?_ (pay_apply (iblk m hO c 0 t) (iblk m hO c 1 t) i j)
  unfold outsAt0
  frame_out
  exact congrArg₂ (fun a b : Vec Ideal S1x256x2048 .bf16 => k0_pay1 a b (ix3 0 i j)) ((hs0_0 m hO t).read_unread _) ((hs0_1 m hO t).read_unread _)

/-- The array of the sum after the call. -/
theorem final (hO : Ok m) : (dats m hO 0 c).arrAt 2 (cfgM m hO).N = R (m ((c : Thread nD τ).loc main_arg0)) (m ((c : Thread nD τ).loc main_arg1)) := by
  have e0 : ∀ (t : Fin (cfgM m hO).N) (i : Fin 256) (j : Fin 2048),
      ((((cfgM m hO).win 2).blk t).view.emb (ix3 (0 : Fin 1) i j : S1x256x2048.Idx) : S4x256x2048.Idx) = ix3 ⟨t.val, t.isLt⟩ i j := by
    intro t i j
    funext a
    match a with
    | ⟨0, _⟩ => exact Fin.ext (by show cc0_transform_2 (grid0.coords t) 0 * 1 + 1 * 0 = t.val; rw [index2 t]; show t.val * 1 + 1 * 0 = t.val; omega)
    | ⟨1, _⟩ => exact Fin.ext (by show cc0_transform_2 (grid0.coords t) 1 * 256 + 1 * i.val = i.val; rw [index2 t]; show 0 * 256 + 1 * i.val = i.val; omega)
    | ⟨2, _⟩ => exact Fin.ext (by show cc0_transform_2 (grid0.coords t) 2 * 2048 + 1 * j.val = j.val; rw [index2 t]; show 0 * 2048 + 1 * j.val = j.val; omega)
  refine (dats m hO 0 c).arrAt_eq_of_emb 2 _ (fun t hf y => ?_) fun x => ?_
  · change S1x256x2048.Idx at y
    obtain ⟨i, j, rfl⟩ : ∃ (i : Fin 256) (j : Fin 2048), y = (ix3 (0 : Fin 1) i j : S1x256x2048.Idx) :=
      ⟨y 1, y 2, funext fun a => by match a with | ⟨0, _⟩ => exact Subsingleton.elim (α := Fin 1) _ _ | ⟨1, _⟩ => rfl | ⟨2, _⟩ => rfl⟩
    refine (congrFun (after0_2 m hO c t) (ix3 0 i j)).trans ?_
    exact (out_apply m c hO t i j).trans (congrArg (R (m ((c : Thread nD τ).loc main_arg0)) (m ((c : Thread nD τ).loc main_arg1))) (e0 t i j)).symm
  · change S4x256x2048.Idx at x
    obtain ⟨k, i, j, rfl⟩ : ∃ (k : Fin 4) (i : Fin 256) (j : Fin 2048), x = (ix3 k i j : S4x256x2048.Idx) := ⟨x 0, x 1, x 2, eq_ix3 x⟩
    exact ⟨k, flush0_2 _ _, (e0 k i j) ▸ View.emb_mem_set _ _⟩

/-- The reference's sum. -/
theorem ref_eq (x0 : S8x256x2048.Idx → EReal) (x1 : S4x256x2048.Idx → EReal) : Cert.AddOutRefIdeal.Read.val_main_v4 (F := Ideal) x0 x1 = R x0 x1 := by
  funext q
  obtain ⟨k, i, j, rfl⟩ : ∃ (k : Fin 4) (i : Fin 256) (j : Fin 2048), q = ix3 k i j := ⟨q 0, q 1, q 2, eq_ix3 q⟩
  refine congrArg (fun a : EReal => a + x1 (ix3 k i j)) ?_
  show x0 _ = x0 _
  refine congrArg x0 ?_
  funext b
  match b with
  | ⟨0, _⟩ => exact Fin.ext (by show 0 + 2 * k.val = 2 * k.val; omega)
  | ⟨1, _⟩ => exact Fin.ext (by show 0 + 1 * i.val = i.val; omega)
  | ⟨2, _⟩ => exact Fin.ext (by show 0 + 1 * j.val = j.val; omega)

/-- The kernel's program ends with the sum. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans (final m c (ok_ideal m)), h.2 c⟩)
    (θ_run_and (run_main m ρ (ok_ideal m)) (unchanged m ρ (ok_ideal m)))

/-- The reference's program ends with the sum. -/
theorem ref_run (m' : (ℓ : Loc Cert.AddOutRefIdeal.nD Cert.AddOutRefIdeal.τ Cert.AddOutRefIdeal.sig) → Buf (Elt Ideal) ℓ) (ρ : Dev Cert.AddOutRefIdeal.nD → PrngReg) :
    θ_run (Cert.AddOutRefIdeal.defs (F := Ideal)) (onTc (τ := Cert.AddOutRefIdeal.τ) (Cert.AddOutRefIdeal.main (F := Ideal))) ⟨m', fun _ => 0, ρ⟩ (fun r => ∀ c : Dev Cert.AddOutRefIdeal.nD,
      r.2.mem ((c.tc : Thread Cert.AddOutRefIdeal.nD Cert.AddOutRefIdeal.τ).loc Cert.AddOutRefIdeal.main_v4) = R (m' ((c.tc : Thread Cert.AddOutRefIdeal.nD Cert.AddOutRefIdeal.τ).loc Cert.AddOutRefIdeal.main_arg0)) (m' ((c.tc : Thread Cert.AddOutRefIdeal.nD Cert.AddOutRefIdeal.τ).loc Cert.AddOutRefIdeal.main_arg1))
      ∧ r.2.mem ((c.tc : Thread Cert.AddOutRefIdeal.nD Cert.AddOutRefIdeal.τ).loc Cert.AddOutRefIdeal.main_arg0) = m' ((c.tc : Thread Cert.AddOutRefIdeal.nD Cert.AddOutRefIdeal.τ).loc Cert.AddOutRefIdeal.main_arg0)
      ∧ r.2.mem ((c.tc : Thread Cert.AddOutRefIdeal.nD Cert.AddOutRefIdeal.τ).loc Cert.AddOutRefIdeal.main_arg1) = m' ((c.tc : Thread Cert.AddOutRefIdeal.nD Cert.AddOutRefIdeal.τ).loc Cert.AddOutRefIdeal.main_arg1)) :=
  (θ_run _ _ _).mono (fun r h c => ⟨(((h c).1).trans (Cert.AddOutRefIdeal.Read.val_main_v4_eq _ _)).trans (ref_eq _ _), (h c).2⟩)
    (Cert.AddOutRefIdeal.Value.run (F := Ideal) m' ρ)

end Cert.AddOutClaim

end
-- ==== Proof.AddEven.lean ====
/- The sum of a device's part of the gradient of the even layers' projection in and its pair's, for each chip: the kernel's program and the reference's end at the same array. -/
module

public import proofs.«01_k».proof.Proof.Gen.AddEven.Frame
public import proofs.«01_k».proof.Proof.Gen.AddEvenIdeal.Frame
public import proofs.«01_k».proof.Proof.Gen.AddEvenRefIdeal.Run
public import proofs.«01_k».proof.Proof.Gen.AddEvenRefIdeal.Read
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

namespace Cert.AddEvenClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam

section
open Cert.AddEven Cert.AddEven.Gen
variable {F : FTy → Type} [FloatOps F]

/-- The first index map, at the words of the table that it reads, each chip's even device: twice the grid coordinate. -/
theorem okmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array. -/
theorem ok (m : (ℓ : Loc nD τ sig) → Buf (Elt F) ℓ) : Ok m := by
  intro i
  have hi : (i 0).val < 4 := (i 0).isLt
  refine ⟨fun a => ?_, Or.inr ?_⟩
  · rw [okmap0]
    match a with
    | ⟨0, _⟩ => show (2 * (i 0).val + 1) * 1 ≤ 8; omega
    | ⟨1, _⟩ => show (0 + 1) * 672 ≤ 672; omega
    | ⟨2, _⟩ => show (0 + 1) * 2048 ≤ 2048; omega
  · exact Affine.block_words_dvd (of_decide_eq_true rfl) (by decide)

end

section
open Cert.AddEvenIdeal Cert.AddEvenIdeal.Gen
variable {F : FTy → Type} [FloatOps F]

/-- The first index map, idealized, at the words of the table that it reads, each chip's even device: twice the grid coordinate. -/
theorem ok_idealmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array, idealized. -/
theorem ok_ideal (m : (ℓ : Loc nD τ sig) → Buf (Elt F) ℓ) : Ok m := by
  intro i
  have hi : (i 0).val < 4 := (i 0).isLt
  refine ⟨fun a => ?_, Or.inr ?_⟩
  · rw [ok_idealmap0]
    match a with
    | ⟨0, _⟩ => show (2 * (i 0).val + 1) * 1 ≤ 8; omega
    | ⟨1, _⟩ => show (0 + 1) * 672 ≤ 672; omega
    | ⟨2, _⟩ => show (0 + 1) * 2048 ≤ 2048; omega
  · exact Affine.block_words_dvd (of_decide_eq_true rfl) (by decide)

end

open Cert.AddEvenIdeal Cert.AddEvenIdeal.Gen
open scoped BigOperators

/-- For each chip, this device's part of the gradient and the received one. -/
def R (g : S8x672x2048.Idx → EReal) (b : S4x672x2048.Idx → EReal) : S4x672x2048.Idx → EReal := fun i =>
  g (ix3 ⟨2 * (i 0).val, by have : (i 0).val < 4 := (i 0).isLt; omega⟩ (i 1) (i 2)) + b i

/-- The body's sum of two blocks. -/
theorem pay_apply (a b : Vec Ideal S1x672x2048 .bf16) (i : Fin 672) (j : Fin 2048) :
    k0_pay1 (F := Ideal) a b (ix3 0 i j) = (a (ix3 0 i j) + b (ix3 0 i j) : EReal) := by
  unfold k0_pay1
  exact (add_apply _ _ i j).trans (congrArg₂ (fun a b : EReal => a + b) (drop_apply a _ i j) (drop_apply b _ i j))

variable (m : (ℓ : Loc nD τ sig) → Buf (Elt Ideal) ℓ) (c : Dev nD)

/-- The grid has one axis. -/
theorem coord0 : ∀ t : Fin grid0.N, (grid0.coords t 0).val = t.val := by decide +kernel

/-- The place of the second window's block. -/
theorem index1 : ∀ t : Fin grid0.N, cc0_transform_1 (grid0.coords t) = ![t.val, 0, 0] := by decide +kernel

/-- The place of the result's block. -/
theorem index2 : ∀ t : Fin grid0.N, cc0_transform_2 (grid0.coords t) = ![t.val, 0, 0] := by decide +kernel

/-- A grid point's own part of the gradient. -/
theorem iblk0 (hO : Ok m) (t : Fin (cfgM m hO).N) (i : Fin 672) (j : Fin 2048) :
    (iblk m hO c 0 t : S1x672x2048.Idx → EReal) (ix3 0 i j) = m ((c : Thread nD τ).loc main_arg0) (ix3 ⟨2 * t.val, by have : t.val < 4 := t.isLt; omega⟩ i j) := by
  refine (congrArg (V m c main_arg0 : S8x672x2048.Idx → EReal) ?_).trans (congrFun (V_main_arg0 m c) _)
  have e : ∀ a, cc0_transform_0 k0_off1_inb numel1_S1 (tbl m) (grid0.coords t) a = (![2 * t.val, 0, 0] : Fin 3 → ℕ) a := fun a =>
    (congrFun (ok_idealmap0 m _) a).trans (by rw [coord0])
  funext a
  match a with
  | ⟨0, _⟩ => exact Fin.ext (by show cc0_transform_0 k0_off1_inb numel1_S1 (tbl m) (grid0.coords t) 0 * 1 + 1 * 0 = 2 * t.val; rw [e 0]; show 2 * t.val * 1 + 1 * 0 = 2 * t.val; omega)
  | ⟨1, _⟩ => exact Fin.ext (by show cc0_transform_0 k0_off1_inb numel1_S1 (tbl m) (grid0.coords t) 1 * 672 + 1 * i.val = i.val; rw [e 1]; show 0 * 672 + 1 * i.val = i.val; omega)
  | ⟨2, _⟩ => exact Fin.ext (by show cc0_transform_0 k0_off1_inb numel1_S1 (tbl m) (grid0.coords t) 2 * 2048 + 1 * j.val = j.val; rw [e 2]; show 0 * 2048 + 1 * j.val = j.val; omega)

/-- A grid point's received part. -/
theorem iblk1 (hO : Ok m) (t : Fin (cfgM m hO).N) (i : Fin 672) (j : Fin 2048) :
    (iblk m hO c 1 t : S1x672x2048.Idx → EReal) (ix3 0 i j) = m ((c : Thread nD τ).loc main_arg1) (ix3 ⟨t.val, t.isLt⟩ i j) := by
  refine (congrArg (V m c main_arg1 : S4x672x2048.Idx → EReal) ?_).trans (congrFun (V_main_arg1 m c) _)
  funext a
  match a with
  | ⟨0, _⟩ => exact Fin.ext (by show cc0_transform_1 (grid0.coords t) 0 * 1 + 1 * 0 = t.val; rw [index1 t]; show t.val * 1 + 1 * 0 = t.val; omega)
  | ⟨1, _⟩ => exact Fin.ext (by show cc0_transform_1 (grid0.coords t) 1 * 672 + 1 * i.val = i.val; rw [index1 t]; show 0 * 672 + 1 * i.val = i.val; omega)
  | ⟨2, _⟩ => exact Fin.ext (by show cc0_transform_1 (grid0.coords t) 2 * 2048 + 1 * j.val = j.val; rw [index1 t]; show 0 * 2048 + 1 * j.val = j.val; omega)

/-- What a grid point leaves in the window of the sum. -/
theorem out_apply (hO : Ok m) (t : Fin (cfgM m hO).N) (i : Fin 672) (j : Fin 2048) :
    (outsAt0 m hO c t : S1x672x2048.Idx → EReal) (ix3 0 i j) = R (m ((c : Thread nD τ).loc main_arg0)) (m ((c : Thread nD τ).loc main_arg1)) (ix3 ⟨t.val, t.isLt⟩ i j) := by
  refine Eq.trans ?_ (congrArg₂ (fun a b : EReal => a + b) (iblk0 m c hO t i j) (iblk1 m c hO t i j))
  refine Eq.trans ?_ (pay_apply (iblk m hO c 0 t) (iblk m hO c 1 t) i j)
  unfold outsAt0
  frame_out
  exact congrArg₂ (fun a b : Vec Ideal S1x672x2048 .bf16 => k0_pay1 a b (ix3 0 i j)) ((hs0_0 m hO t).read_unread _) ((hs0_1 m hO t).read_unread _)

/-- The array of the sum after the call. -/
theorem final (hO : Ok m) : (dats m hO 0 c).arrAt 2 (cfgM m hO).N = R (m ((c : Thread nD τ).loc main_arg0)) (m ((c : Thread nD τ).loc main_arg1)) := by
  have e0 : ∀ (t : Fin (cfgM m hO).N) (i : Fin 672) (j : Fin 2048),
      ((((cfgM m hO).win 2).blk t).view.emb (ix3 (0 : Fin 1) i j : S1x672x2048.Idx) : S4x672x2048.Idx) = ix3 ⟨t.val, t.isLt⟩ i j := by
    intro t i j
    funext a
    match a with
    | ⟨0, _⟩ => exact Fin.ext (by show cc0_transform_2 (grid0.coords t) 0 * 1 + 1 * 0 = t.val; rw [index2 t]; show t.val * 1 + 1 * 0 = t.val; omega)
    | ⟨1, _⟩ => exact Fin.ext (by show cc0_transform_2 (grid0.coords t) 1 * 672 + 1 * i.val = i.val; rw [index2 t]; show 0 * 672 + 1 * i.val = i.val; omega)
    | ⟨2, _⟩ => exact Fin.ext (by show cc0_transform_2 (grid0.coords t) 2 * 2048 + 1 * j.val = j.val; rw [index2 t]; show 0 * 2048 + 1 * j.val = j.val; omega)
  refine (dats m hO 0 c).arrAt_eq_of_emb 2 _ (fun t hf y => ?_) fun x => ?_
  · change S1x672x2048.Idx at y
    obtain ⟨i, j, rfl⟩ : ∃ (i : Fin 672) (j : Fin 2048), y = (ix3 (0 : Fin 1) i j : S1x672x2048.Idx) :=
      ⟨y 1, y 2, funext fun a => by match a with | ⟨0, _⟩ => exact Subsingleton.elim (α := Fin 1) _ _ | ⟨1, _⟩ => rfl | ⟨2, _⟩ => rfl⟩
    refine (congrFun (after0_2 m hO c t) (ix3 0 i j)).trans ?_
    exact (out_apply m c hO t i j).trans (congrArg (R (m ((c : Thread nD τ).loc main_arg0)) (m ((c : Thread nD τ).loc main_arg1))) (e0 t i j)).symm
  · change S4x672x2048.Idx at x
    obtain ⟨k, i, j, rfl⟩ : ∃ (k : Fin 4) (i : Fin 672) (j : Fin 2048), x = (ix3 k i j : S4x672x2048.Idx) := ⟨x 0, x 1, x 2, eq_ix3 x⟩
    exact ⟨k, flush0_2 _ _, (e0 k i j) ▸ View.emb_mem_set _ _⟩

/-- The reference's sum. -/
theorem ref_eq (x0 : S8x672x2048.Idx → EReal) (x1 : S4x672x2048.Idx → EReal) : Cert.AddEvenRefIdeal.Read.val_main_v4 (F := Ideal) x0 x1 = R x0 x1 := by
  funext q
  obtain ⟨k, i, j, rfl⟩ : ∃ (k : Fin 4) (i : Fin 672) (j : Fin 2048), q = ix3 k i j := ⟨q 0, q 1, q 2, eq_ix3 q⟩
  refine congrArg (fun a : EReal => a + x1 (ix3 k i j)) ?_
  show x0 _ = x0 _
  refine congrArg x0 ?_
  funext b
  match b with
  | ⟨0, _⟩ => exact Fin.ext (by show 0 + 2 * k.val = 2 * k.val; omega)
  | ⟨1, _⟩ => exact Fin.ext (by show 0 + 1 * i.val = i.val; omega)
  | ⟨2, _⟩ => exact Fin.ext (by show 0 + 1 * j.val = j.val; omega)

/-- The kernel's program ends with the sum. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans (final m c (ok_ideal m)), h.2 c⟩)
    (θ_run_and (run_main m ρ (ok_ideal m)) (unchanged m ρ (ok_ideal m)))

/-- The reference's program ends with the sum. -/
theorem ref_run (m' : (ℓ : Loc Cert.AddEvenRefIdeal.nD Cert.AddEvenRefIdeal.τ Cert.AddEvenRefIdeal.sig) → Buf (Elt Ideal) ℓ) (ρ : Dev Cert.AddEvenRefIdeal.nD → PrngReg) :
    θ_run (Cert.AddEvenRefIdeal.defs (F := Ideal)) (onTc (τ := Cert.AddEvenRefIdeal.τ) (Cert.AddEvenRefIdeal.main (F := Ideal))) ⟨m', fun _ => 0, ρ⟩ (fun r => ∀ c : Dev Cert.AddEvenRefIdeal.nD,
      r.2.mem ((c.tc : Thread Cert.AddEvenRefIdeal.nD Cert.AddEvenRefIdeal.τ).loc Cert.AddEvenRefIdeal.main_v4) = R (m' ((c.tc : Thread Cert.AddEvenRefIdeal.nD Cert.AddEvenRefIdeal.τ).loc Cert.AddEvenRefIdeal.main_arg0)) (m' ((c.tc : Thread Cert.AddEvenRefIdeal.nD Cert.AddEvenRefIdeal.τ).loc Cert.AddEvenRefIdeal.main_arg1))
      ∧ r.2.mem ((c.tc : Thread Cert.AddEvenRefIdeal.nD Cert.AddEvenRefIdeal.τ).loc Cert.AddEvenRefIdeal.main_arg0) = m' ((c.tc : Thread Cert.AddEvenRefIdeal.nD Cert.AddEvenRefIdeal.τ).loc Cert.AddEvenRefIdeal.main_arg0)
      ∧ r.2.mem ((c.tc : Thread Cert.AddEvenRefIdeal.nD Cert.AddEvenRefIdeal.τ).loc Cert.AddEvenRefIdeal.main_arg1) = m' ((c.tc : Thread Cert.AddEvenRefIdeal.nD Cert.AddEvenRefIdeal.τ).loc Cert.AddEvenRefIdeal.main_arg1)) :=
  (θ_run _ _ _).mono (fun r h c => ⟨(((h c).1).trans (Cert.AddEvenRefIdeal.Read.val_main_v4_eq _ _)).trans (ref_eq _ _), (h c).2⟩)
    (Cert.AddEvenRefIdeal.Value.run (F := Ideal) m' ρ)

end Cert.AddEvenClaim

end
-- ==== Proof.AddOdd.lean ====
/- The sum of a device's part of the gradient of the odd layers' projection in and its pair's, for each chip: the kernel's program and the reference's end at the same array. -/
module

public import proofs.«01_k».proof.Proof.Gen.AddOdd.Frame
public import proofs.«01_k».proof.Proof.Gen.AddOddIdeal.Frame
public import proofs.«01_k».proof.Proof.Gen.AddOddRefIdeal.Run
public import proofs.«01_k».proof.Proof.Gen.AddOddRefIdeal.Read
public import proofs.«01_k».proof.Proof.Adam
public import Idealize.ShloMosaic.Lib.Pointwise
public import Idealize.ShloMosaic.Lib.Pipeline.ValueKit
public import Idealize.ShloMosaic.Lib.Pipeline.Value

@[expose] public section

set_option maxRecDepth 16384

noncomputable section

namespace Cert.AddOddClaim

open Idealize.ShloMosaic hiding addf_apply mulf_apply subf_apply divf_apply truncf_apply
open Idealize.ShloMosaic.ValueIdx (addf_apply mulf_apply subf_apply divf_apply truncf_apply broadcast_apply)
open Idealize.ShloMosaic.TcCoe
open Idealize.SL.Sem
open Cert.Adam

section
open Cert.AddOdd Cert.AddOdd.Gen
variable {F : FTy → Type} [FloatOps F]

/-- The first index map, at the words of the table that it reads, each chip's even device: twice the grid coordinate. -/
theorem okmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array. -/
theorem ok (m : (ℓ : Loc nD τ sig) → Buf (Elt F) ℓ) : Ok m := by
  intro i
  have hi : (i 0).val < 4 := (i 0).isLt
  refine ⟨fun a => ?_, Or.inr ?_⟩
  · rw [okmap0]
    match a with
    | ⟨0, _⟩ => show (2 * (i 0).val + 1) * 1 ≤ 8; omega
    | ⟨1, _⟩ => show (0 + 1) * 512 ≤ 512; omega
    | ⟨2, _⟩ => show (0 + 1) * 2048 ≤ 2048; omega
  · exact Affine.block_words_dvd (of_decide_eq_true rfl) (by decide)

end

section
open Cert.AddOddIdeal Cert.AddOddIdeal.Gen
variable {F : FTy → Type} [FloatOps F]

/-- The first index map, idealized, at the words of the table that it reads, each chip's even device: twice the grid coordinate. -/
theorem ok_idealmap0 (m : (ℓ : Loc nD τ sig) → Buf (Elt F) ℓ) (i : grid0.Coords) : cc0_transform_0 k0_off1_inb numel1_S1 (tbl m) i = ![2 * (i 0).val, 0, 0] := by
  obtain ⟨k, rfl⟩ : ∃ k : Fin 4, i = (fun a => match a with | ⟨0, _⟩ => k) := ⟨i 0, funext fun a => by match a with | ⟨0, _⟩ => rfl⟩
  match k with
  | ⟨0, _⟩ => rfl
  | ⟨1, _⟩ => rfl
  | ⟨2, _⟩ => rfl
  | ⟨3, _⟩ => rfl

/-- The blocks that the table names lie inside the array, idealized. -/
theorem ok_ideal (m : (ℓ : Loc nD τ sig) → Buf (Elt F) ℓ) : Ok m := by
  intro i
  have hi : (i 0).val < 4 := (i 0).isLt
  refine ⟨fun a => ?_, Or.inr ?_⟩
  · rw [ok_idealmap0]
    match a with
    | ⟨0, _⟩ => show (2 * (i 0).val + 1) * 1 ≤ 8; omega
    | ⟨1, _⟩ => show (0 + 1) * 512 ≤ 512; omega
    | ⟨2, _⟩ => show (0 + 1) * 2048 ≤ 2048; omega
  · exact Affine.block_words_dvd (of_decide_eq_true rfl) (by decide)

end

open Cert.AddOddIdeal Cert.AddOddIdeal.Gen
open scoped BigOperators

/-- For each chip, this device's part of the gradient and the received one. -/
def R (g : S8x512x2048.Idx → EReal) (b : S4x512x2048.Idx → EReal) : S4x512x2048.Idx → EReal := fun i =>
  g (ix3 ⟨2 * (i 0).val, by have : (i 0).val < 4 := (i 0).isLt; omega⟩ (i 1) (i 2)) + b i

/-- The body's sum of two blocks. -/
theorem pay_apply (a b : Vec Ideal S1x512x2048 .bf16) (i : Fin 512) (j : Fin 2048) :
    k0_pay1 (F := Ideal) a b (ix3 0 i j) = (a (ix3 0 i j) + b (ix3 0 i j) : EReal) := by
  unfold k0_pay1
  exact (add_apply _ _ i j).trans (congrArg₂ (fun a b : EReal => a + b) (drop_apply a _ i j) (drop_apply b _ i j))

variable (m : (ℓ : Loc nD τ sig) → Buf (Elt Ideal) ℓ) (c : Dev nD)

/-- The grid has one axis. -/
theorem coord0 : ∀ t : Fin grid0.N, (grid0.coords t 0).val = t.val := by decide +kernel

/-- The place of the second window's block. -/
theorem index1 : ∀ t : Fin grid0.N, cc0_transform_1 (grid0.coords t) = ![t.val, 0, 0] := by decide +kernel

/-- The place of the result's block. -/
theorem index2 : ∀ t : Fin grid0.N, cc0_transform_2 (grid0.coords t) = ![t.val, 0, 0] := by decide +kernel

/-- A grid point's own part of the gradient. -/
theorem iblk0 (hO : Ok m) (t : Fin (cfgM m hO).N) (i : Fin 512) (j : Fin 2048) :
    (iblk m hO c 0 t : S1x512x2048.Idx → EReal) (ix3 0 i j) = m ((c : Thread nD τ).loc main_arg0) (ix3 ⟨2 * t.val, by have : t.val < 4 := t.isLt; omega⟩ i j) := by
  refine (congrArg (V m c main_arg0 : S8x512x2048.Idx → EReal) ?_).trans (congrFun (V_main_arg0 m c) _)
  have e : ∀ a, cc0_transform_0 k0_off1_inb numel1_S1 (tbl m) (grid0.coords t) a = (![2 * t.val, 0, 0] : Fin 3 → ℕ) a := fun a =>
    (congrFun (ok_idealmap0 m _) a).trans (by rw [coord0])
  funext a
  match a with
  | ⟨0, _⟩ => exact Fin.ext (by show cc0_transform_0 k0_off1_inb numel1_S1 (tbl m) (grid0.coords t) 0 * 1 + 1 * 0 = 2 * t.val; rw [e 0]; show 2 * t.val * 1 + 1 * 0 = 2 * t.val; omega)
  | ⟨1, _⟩ => exact Fin.ext (by show cc0_transform_0 k0_off1_inb numel1_S1 (tbl m) (grid0.coords t) 1 * 512 + 1 * i.val = i.val; rw [e 1]; show 0 * 512 + 1 * i.val = i.val; omega)
  | ⟨2, _⟩ => exact Fin.ext (by show cc0_transform_0 k0_off1_inb numel1_S1 (tbl m) (grid0.coords t) 2 * 2048 + 1 * j.val = j.val; rw [e 2]; show 0 * 2048 + 1 * j.val = j.val; omega)

/-- A grid point's received part. -/
theorem iblk1 (hO : Ok m) (t : Fin (cfgM m hO).N) (i : Fin 512) (j : Fin 2048) :
    (iblk m hO c 1 t : S1x512x2048.Idx → EReal) (ix3 0 i j) = m ((c : Thread nD τ).loc main_arg1) (ix3 ⟨t.val, t.isLt⟩ i j) := by
  refine (congrArg (V m c main_arg1 : S4x512x2048.Idx → EReal) ?_).trans (congrFun (V_main_arg1 m c) _)
  funext a
  match a with
  | ⟨0, _⟩ => exact Fin.ext (by show cc0_transform_1 (grid0.coords t) 0 * 1 + 1 * 0 = t.val; rw [index1 t]; show t.val * 1 + 1 * 0 = t.val; omega)
  | ⟨1, _⟩ => exact Fin.ext (by show cc0_transform_1 (grid0.coords t) 1 * 512 + 1 * i.val = i.val; rw [index1 t]; show 0 * 512 + 1 * i.val = i.val; omega)
  | ⟨2, _⟩ => exact Fin.ext (by show cc0_transform_1 (grid0.coords t) 2 * 2048 + 1 * j.val = j.val; rw [index1 t]; show 0 * 2048 + 1 * j.val = j.val; omega)

/-- What a grid point leaves in the window of the sum. -/
theorem out_apply (hO : Ok m) (t : Fin (cfgM m hO).N) (i : Fin 512) (j : Fin 2048) :
    (outsAt0 m hO c t : S1x512x2048.Idx → EReal) (ix3 0 i j) = R (m ((c : Thread nD τ).loc main_arg0)) (m ((c : Thread nD τ).loc main_arg1)) (ix3 ⟨t.val, t.isLt⟩ i j) := by
  refine Eq.trans ?_ (congrArg₂ (fun a b : EReal => a + b) (iblk0 m c hO t i j) (iblk1 m c hO t i j))
  refine Eq.trans ?_ (pay_apply (iblk m hO c 0 t) (iblk m hO c 1 t) i j)
  unfold outsAt0
  frame_out
  exact congrArg₂ (fun a b : Vec Ideal S1x512x2048 .bf16 => k0_pay1 a b (ix3 0 i j)) ((hs0_0 m hO t).read_unread _) ((hs0_1 m hO t).read_unread _)

/-- The array of the sum after the call. -/
theorem final (hO : Ok m) : (dats m hO 0 c).arrAt 2 (cfgM m hO).N = R (m ((c : Thread nD τ).loc main_arg0)) (m ((c : Thread nD τ).loc main_arg1)) := by
  have e0 : ∀ (t : Fin (cfgM m hO).N) (i : Fin 512) (j : Fin 2048),
      ((((cfgM m hO).win 2).blk t).view.emb (ix3 (0 : Fin 1) i j : S1x512x2048.Idx) : S4x512x2048.Idx) = ix3 ⟨t.val, t.isLt⟩ i j := by
    intro t i j
    funext a
    match a with
    | ⟨0, _⟩ => exact Fin.ext (by show cc0_transform_2 (grid0.coords t) 0 * 1 + 1 * 0 = t.val; rw [index2 t]; show t.val * 1 + 1 * 0 = t.val; omega)
    | ⟨1, _⟩ => exact Fin.ext (by show cc0_transform_2 (grid0.coords t) 1 * 512 + 1 * i.val = i.val; rw [index2 t]; show 0 * 512 + 1 * i.val = i.val; omega)
    | ⟨2, _⟩ => exact Fin.ext (by show cc0_transform_2 (grid0.coords t) 2 * 2048 + 1 * j.val = j.val; rw [index2 t]; show 0 * 2048 + 1 * j.val = j.val; omega)
  refine (dats m hO 0 c).arrAt_eq_of_emb 2 _ (fun t hf y => ?_) fun x => ?_
  · change S1x512x2048.Idx at y
    obtain ⟨i, j, rfl⟩ : ∃ (i : Fin 512) (j : Fin 2048), y = (ix3 (0 : Fin 1) i j : S1x512x2048.Idx) :=
      ⟨y 1, y 2, funext fun a => by match a with | ⟨0, _⟩ => exact Subsingleton.elim (α := Fin 1) _ _ | ⟨1, _⟩ => rfl | ⟨2, _⟩ => rfl⟩
    refine (congrFun (after0_2 m hO c t) (ix3 0 i j)).trans ?_
    exact (out_apply m c hO t i j).trans (congrArg (R (m ((c : Thread nD τ).loc main_arg0)) (m ((c : Thread nD τ).loc main_arg1))) (e0 t i j)).symm
  · change S4x512x2048.Idx at x
    obtain ⟨k, i, j, rfl⟩ : ∃ (k : Fin 4) (i : Fin 512) (j : Fin 2048), x = (ix3 k i j : S4x512x2048.Idx) := ⟨x 0, x 1, x 2, eq_ix3 x⟩
    exact ⟨k, flush0_2 _ _, (e0 k i j) ▸ View.emb_mem_set _ _⟩

/-- The reference's sum. -/
theorem ref_eq (x0 : S8x512x2048.Idx → EReal) (x1 : S4x512x2048.Idx → EReal) : Cert.AddOddRefIdeal.Read.val_main_v4 (F := Ideal) x0 x1 = R x0 x1 := by
  funext q
  obtain ⟨k, i, j, rfl⟩ : ∃ (k : Fin 4) (i : Fin 512) (j : Fin 2048), q = ix3 k i j := ⟨q 0, q 1, q 2, eq_ix3 q⟩
  refine congrArg (fun a : EReal => a + x1 (ix3 k i j)) ?_
  show x0 _ = x0 _
  refine congrArg x0 ?_
  funext b
  match b with
  | ⟨0, _⟩ => exact Fin.ext (by show 0 + 2 * k.val = 2 * k.val; omega)
  | ⟨1, _⟩ => exact Fin.ext (by show 0 + 1 * i.val = i.val; omega)
  | ⟨2, _⟩ => exact Fin.ext (by show 0 + 1 * j.val = j.val; omega)

/-- The kernel's program ends with the sum. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = R (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨((h.1 c).1 2).trans (final m c (ok_ideal m)), h.2 c⟩)
    (θ_run_and (run_main m ρ (ok_ideal m)) (unchanged m ρ (ok_ideal m)))

/-- The reference's program ends with the sum. -/
theorem ref_run (m' : (ℓ : Loc Cert.AddOddRefIdeal.nD Cert.AddOddRefIdeal.τ Cert.AddOddRefIdeal.sig) → Buf (Elt Ideal) ℓ) (ρ : Dev Cert.AddOddRefIdeal.nD → PrngReg) :
    θ_run (Cert.AddOddRefIdeal.defs (F := Ideal)) (onTc (τ := Cert.AddOddRefIdeal.τ) (Cert.AddOddRefIdeal.main (F := Ideal))) ⟨m', fun _ => 0, ρ⟩ (fun r => ∀ c : Dev Cert.AddOddRefIdeal.nD,
      r.2.mem ((c.tc : Thread Cert.AddOddRefIdeal.nD Cert.AddOddRefIdeal.τ).loc Cert.AddOddRefIdeal.main_v4) = R (m' ((c.tc : Thread Cert.AddOddRefIdeal.nD Cert.AddOddRefIdeal.τ).loc Cert.AddOddRefIdeal.main_arg0)) (m' ((c.tc : Thread Cert.AddOddRefIdeal.nD Cert.AddOddRefIdeal.τ).loc Cert.AddOddRefIdeal.main_arg1))
      ∧ r.2.mem ((c.tc : Thread Cert.AddOddRefIdeal.nD Cert.AddOddRefIdeal.τ).loc Cert.AddOddRefIdeal.main_arg0) = m' ((c.tc : Thread Cert.AddOddRefIdeal.nD Cert.AddOddRefIdeal.τ).loc Cert.AddOddRefIdeal.main_arg0)
      ∧ r.2.mem ((c.tc : Thread Cert.AddOddRefIdeal.nD Cert.AddOddRefIdeal.τ).loc Cert.AddOddRefIdeal.main_arg1) = m' ((c.tc : Thread Cert.AddOddRefIdeal.nD Cert.AddOddRefIdeal.τ).loc Cert.AddOddRefIdeal.main_arg1)) :=
  (θ_run _ _ _).mono (fun r h c => ⟨(((h c).1).trans (Cert.AddOddRefIdeal.Read.val_main_v4_eq _ _)).trans (ref_eq _ _), (h c).2⟩)
    (Cert.AddOddRefIdeal.Value.run (F := Ideal) m' ρ)

end Cert.AddOddClaim

end
-- ==== Proof.lean ====
module

public import proofs.«01_k».proof.Defs
public import Idealize.ShloMosaic.Lib.Quiescent
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.PoolClaim
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddIdeal.Value
public import proofs.«01_k».proof.Proof.Gen.InOddRefIdeal
public import proofs.«01_k».proof.Proof.Gen.InOddRefIdeal.Run
public import proofs.«01_k».proof.Proof.Gen.InOddRefIdeal.Read
public import proofs.«01_k».proof.Proof.InOdd
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenIdeal.Value
public import proofs.«01_k».proof.Proof.Gen.InEvenRefIdeal
public import proofs.«01_k».proof.Proof.Gen.InEvenRefIdeal.Run
public import proofs.«01_k».proof.Proof.Gen.InEvenRefIdeal.Read
public import proofs.«01_k».proof.Proof.InEven
public import proofs.«01_k».proof.Proof.Gen.DMix
public import proofs.«01_k».proof.Proof.Gen.DMix.Skeleton
public import proofs.«01_k».proof.Proof.Gen.DMix.Launch
public import proofs.«01_k».proof.Proof.Gen.DMix.Points
public import proofs.«01_k».proof.Proof.Gen.DMix.Frame
public import proofs.«01_k».proof.Proof.Gen.DMixIdeal
public import proofs.«01_k».proof.Proof.Gen.DMixIdeal.Skeleton
public import proofs.«01_k».proof.Proof.Gen.DMixIdeal.Launch
public import proofs.«01_k».proof.Proof.Gen.DMixIdeal.Points
public import proofs.«01_k».proof.Proof.Gen.DMixIdeal.Frame
public import proofs.«01_k».proof.Proof.Gen.DMixIdeal.Value
public import proofs.«01_k».proof.Proof.Gen.DMixRefIdeal
public import proofs.«01_k».proof.Proof.Gen.DMixRefIdeal.Run
public import proofs.«01_k».proof.Proof.Gen.DMixRefIdeal.Read
public import proofs.«01_k».proof.Proof.DMix
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.DwOut
public import proofs.«01_k».proof.Proof.Gen.DwOdd
public import proofs.«01_k».proof.Proof.Gen.DwOdd.Skeleton
public import proofs.«01_k».proof.Proof.Gen.DwOdd.Launch
public import proofs.«01_k».proof.Proof.Gen.DwOdd.Points
public import proofs.«01_k».proof.Proof.Gen.DwOdd.Frame
public import proofs.«01_k».proof.Proof.Gen.DwOddIdeal
public import proofs.«01_k».proof.Proof.Gen.DwOddIdeal.Skeleton
public import proofs.«01_k».proof.Proof.Gen.DwOddIdeal.Launch
public import proofs.«01_k».proof.Proof.Gen.DwOddIdeal.Points
public import proofs.«01_k».proof.Proof.Gen.DwOddIdeal.Frame
public import proofs.«01_k».proof.Proof.Gen.DwOddIdeal.Value
public import proofs.«01_k».proof.Proof.Gen.DwOddRefIdeal
public import proofs.«01_k».proof.Proof.Gen.DwOddRefIdeal.Run
public import proofs.«01_k».proof.Proof.Gen.DwOddRefIdeal.Read
public import proofs.«01_k».proof.Proof.DwOdd
public import proofs.«01_k».proof.Proof.Gen.DwEven
public import proofs.«01_k».proof.Proof.Gen.DwEven.Skeleton
public import proofs.«01_k».proof.Proof.Gen.DwEven.Launch
public import proofs.«01_k».proof.Proof.Gen.DwEven.Points
public import proofs.«01_k».proof.Proof.Gen.DwEven.Frame
public import proofs.«01_k».proof.Proof.Gen.DwEvenIdeal
public import proofs.«01_k».proof.Proof.Gen.DwEvenIdeal.Skeleton
public import proofs.«01_k».proof.Proof.Gen.DwEvenIdeal.Launch
public import proofs.«01_k».proof.Proof.Gen.DwEvenIdeal.Points
public import proofs.«01_k».proof.Proof.Gen.DwEvenIdeal.Frame
public import proofs.«01_k».proof.Proof.Gen.DwEvenIdeal.Value
public import proofs.«01_k».proof.Proof.Gen.DwEvenRefIdeal
public import proofs.«01_k».proof.Proof.Gen.DwEvenRefIdeal.Run
public import proofs.«01_k».proof.Proof.Gen.DwEvenRefIdeal.Read
public import proofs.«01_k».proof.Proof.DwEven
public import proofs.«01_k».proof.Proof.Gen.DxOdd
public import proofs.«01_k».proof.Proof.Gen.DxOdd.Skeleton
public import proofs.«01_k».proof.Proof.Gen.DxOdd.Launch
public import proofs.«01_k».proof.Proof.Gen.DxOdd.Points
public import proofs.«01_k».proof.Proof.Gen.DxOdd.Frame
public import proofs.«01_k».proof.Proof.Gen.DxOddIdeal
public import proofs.«01_k».proof.Proof.Gen.DxOddIdeal.Skeleton
public import proofs.«01_k».proof.Proof.Gen.DxOddIdeal.Launch
public import proofs.«01_k».proof.Proof.Gen.DxOddIdeal.Points
public import proofs.«01_k».proof.Proof.Gen.DxOddIdeal.Frame
public import proofs.«01_k».proof.Proof.Gen.DxOddIdeal.Value
public import proofs.«01_k».proof.Proof.Gen.DxOddRefIdeal
public import proofs.«01_k».proof.Proof.Gen.DxOddRefIdeal.Run
public import proofs.«01_k».proof.Proof.Gen.DxOddRefIdeal.Read
public import proofs.«01_k».proof.Proof.DxOdd
public import proofs.«01_k».proof.Proof.Gen.DxEven
public import proofs.«01_k».proof.Proof.Gen.DxEven.Skeleton
public import proofs.«01_k».proof.Proof.Gen.DxEven.Launch
public import proofs.«01_k».proof.Proof.Gen.DxEven.Points
public import proofs.«01_k».proof.Proof.Gen.DxEven.Frame
public import proofs.«01_k».proof.Proof.Gen.DxEvenIdeal
public import proofs.«01_k».proof.Proof.Gen.DxEvenIdeal.Skeleton
public import proofs.«01_k».proof.Proof.Gen.DxEvenIdeal.Launch
public import proofs.«01_k».proof.Proof.Gen.DxEvenIdeal.Points
public import proofs.«01_k».proof.Proof.Gen.DxEvenIdeal.Frame
public import proofs.«01_k».proof.Proof.Gen.DxEvenIdeal.Value
public import proofs.«01_k».proof.Proof.Gen.DxEvenRefIdeal
public import proofs.«01_k».proof.Proof.Gen.DxEvenRefIdeal.Run
public import proofs.«01_k».proof.Proof.Gen.DxEvenRefIdeal.Read
public import proofs.«01_k».proof.Proof.DxEven
public import proofs.«01_k».proof.Proof.Gen.OutLn
public import proofs.«01_k».proof.Proof.Gen.OutLn.Skeleton
public import proofs.«01_k».proof.Proof.Gen.OutLn.Launch
public import proofs.«01_k».proof.Proof.Gen.OutLn.Points
public import proofs.«01_k».proof.Proof.Gen.OutLn.Frame
public import proofs.«01_k».proof.Proof.Gen.OutLnIdeal
public import proofs.«01_k».proof.Proof.Gen.OutLnIdeal.Skeleton
public import proofs.«01_k».proof.Proof.Gen.OutLnIdeal.Launch
public import proofs.«01_k».proof.Proof.Gen.OutLnIdeal.Points
public import proofs.«01_k».proof.Proof.Gen.OutLnIdeal.Frame
public import proofs.«01_k».proof.Proof.Gen.OutLnIdeal.Value
public import proofs.«01_k».proof.Proof.Gen.OutLnRefIdeal
public import proofs.«01_k».proof.Proof.Gen.OutLnRefIdeal.Run
public import proofs.«01_k».proof.Proof.Gen.OutLnRefIdeal.Read
public import proofs.«01_k».proof.Proof.OutLn
public import proofs.«01_k».proof.Proof.Gen.LnBwd
public import proofs.«01_k».proof.Proof.Gen.LnBwd.Skeleton
public import proofs.«01_k».proof.Proof.Gen.LnBwd.Launch
public import proofs.«01_k».proof.Proof.Gen.LnBwd.Points
public import proofs.«01_k».proof.Proof.Gen.LnBwd.Frame
public import proofs.«01_k».proof.Proof.Gen.LnBwdIdeal
public import proofs.«01_k».proof.Proof.Gen.LnBwdIdeal.Skeleton
public import proofs.«01_k».proof.Proof.Gen.LnBwdIdeal.Launch
public import proofs.«01_k».proof.Proof.Gen.LnBwdIdeal.Points
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.LnBwd
public import proofs.«01_k».proof.Proof.Gen.LossLn
public import proofs.«01_k».proof.Proof.Gen.LossLn.Skeleton
public import proofs.«01_k».proof.Proof.Gen.LossLn.Launch
public import proofs.«01_k».proof.Proof.Gen.LossLn.Points
public import proofs.«01_k».proof.Proof.Gen.LossLn.Frame
public import proofs.«01_k».proof.Proof.Gen.LossLnIdeal
public import proofs.«01_k».proof.Proof.Gen.LossLnIdeal.Skeleton
public import proofs.«01_k».proof.Proof.Gen.LossLnIdeal.Launch
public import proofs.«01_k».proof.Proof.Gen.LossLnIdeal.Points
public import proofs.«01_k».proof.Proof.Gen.LossLnIdeal.Frame
public import proofs.«01_k».proof.Proof.Gen.LossLnIdeal.Value
public import proofs.«01_k».proof.Proof.Gen.LossLnRefIdeal
public import proofs.«01_k».proof.Proof.Gen.LossLnRefIdeal.Run
public import proofs.«01_k».proof.Proof.Gen.LossLnRefIdeal.Read
public import proofs.«01_k».proof.Proof.LossLn
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.PoolFwd
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOut
public import proofs.«01_k».proof.Proof.Gen.AdamEven
public import proofs.«01_k».proof.Proof.Gen.AdamEven.Skeleton
public import proofs.«01_k».proof.Proof.Gen.AdamEven.Launch
public import proofs.«01_k».proof.Proof.Gen.AdamEven.Points
public import proofs.«01_k».proof.Proof.Gen.AdamEven.Frame
public import proofs.«01_k».proof.Proof.Gen.AdamEvenIdeal
public import proofs.«01_k».proof.Proof.Gen.AdamEvenIdeal.Skeleton
public import proofs.«01_k».proof.Proof.Gen.AdamEvenIdeal.Launch
public import proofs.«01_k».proof.Proof.Gen.AdamEvenIdeal.Points
public import proofs.«01_k».proof.Proof.Gen.AdamEvenIdeal.Frame
public import proofs.«01_k».proof.Proof.Gen.AdamEvenIdeal.Value
public import proofs.«01_k».proof.Proof.Gen.AdamEvenRefIdeal
public import proofs.«01_k».proof.Proof.Gen.AdamEvenRefIdeal.Run
public import proofs.«01_k».proof.Proof.Gen.AdamEvenRefIdeal.Read
public import proofs.«01_k».proof.Proof.AdamEven
public import proofs.«01_k».proof.Proof.Gen.AdamOdd
public import proofs.«01_k».proof.Proof.Gen.AdamOdd.Skeleton
public import proofs.«01_k».proof.Proof.Gen.AdamOdd.Launch
public import proofs.«01_k».proof.Proof.Gen.AdamOdd.Points
public import proofs.«01_k».proof.Proof.Gen.AdamOdd.Frame
public import proofs.«01_k».proof.Proof.Gen.AdamOddIdeal
public import proofs.«01_k».proof.Proof.Gen.AdamOddIdeal.Skeleton
public import proofs.«01_k».proof.Proof.Gen.AdamOddIdeal.Launch
public import proofs.«01_k».proof.Proof.Gen.AdamOddIdeal.Points
public import proofs.«01_k».proof.Proof.Gen.AdamOddIdeal.Frame
public import proofs.«01_k».proof.Proof.Gen.AdamOddIdeal.Value
public import proofs.«01_k».proof.Proof.Gen.AdamOddRefIdeal
public import proofs.«01_k».proof.Proof.Gen.AdamOddRefIdeal.Run
public import proofs.«01_k».proof.Proof.Gen.AdamOddRefIdeal.Read
public import proofs.«01_k».proof.Proof.AdamOdd
public import proofs.«01_k».proof.Proof.Gen.RsFinal
public import proofs.«01_k».proof.Proof.Gen.RsFinal.Skeleton
public import proofs.«01_k».proof.Proof.Gen.RsFinal.Launch
public import proofs.«01_k».proof.Proof.Gen.RsFinal.Points
public import proofs.«01_k».proof.Proof.Gen.RsFinal.Frame
public import proofs.«01_k».proof.Proof.Gen.RsFinalIdeal
public import proofs.«01_k».proof.Proof.Gen.RsFinalIdeal.Skeleton
public import proofs.«01_k».proof.Proof.Gen.RsFinalIdeal.Launch
public import proofs.«01_k».proof.Proof.Gen.RsFinalIdeal.Points
public import proofs.«01_k».proof.Proof.Gen.RsFinalIdeal.Frame
public import proofs.«01_k».proof.Proof.Gen.RsFinalIdeal.Value
public import proofs.«01_k».proof.Proof.Gen.RsFinalRefIdeal
public import proofs.«01_k».proof.Proof.Gen.RsFinalRefIdeal.Run
public import proofs.«01_k».proof.Proof.Gen.RsFinalRefIdeal.Read
public import proofs.«01_k».proof.Proof.RsFinal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.SumSmall
public import proofs.«01_k».proof.Proof.Gen.CastX
public import proofs.«01_k».proof.Proof.Gen.CastX.Skeleton
public import proofs.«01_k».proof.Proof.Gen.CastX.Launch
public import proofs.«01_k».proof.Proof.Gen.CastX.Points
public import proofs.«01_k».proof.Proof.Gen.CastX.Frame
public import proofs.«01_k».proof.Proof.Gen.CastXIdeal
public import proofs.«01_k».proof.Proof.Gen.CastXIdeal.Skeleton
public import proofs.«01_k».proof.Proof.Gen.CastXIdeal.Launch
public import proofs.«01_k».proof.Proof.Gen.CastXIdeal.Points
public import proofs.«01_k».proof.Proof.Gen.CastXIdeal.Frame
public import proofs.«01_k».proof.Proof.Gen.CastXIdeal.Value
public import proofs.«01_k».proof.Proof.Gen.CastXRefIdeal
public import proofs.«01_k».proof.Proof.Gen.CastXRefIdeal.Run
public import proofs.«01_k».proof.Proof.Gen.CastXRefIdeal.Read
public import proofs.«01_k».proof.Proof.CastX
public import proofs.«01_k».proof.Proof.Gen.AddOut
public import proofs.«01_k».proof.Proof.Gen.AddOut.Skeleton
public import proofs.«01_k».proof.Proof.Gen.AddOut.Launch
public import proofs.«01_k».proof.Proof.Gen.AddOut.Points
public import proofs.«01_k».proof.Proof.Gen.AddOut.Frame
public import proofs.«01_k».proof.Proof.Gen.AddOutIdeal
public import proofs.«01_k».proof.Proof.Gen.AddOutIdeal.Skeleton
public import proofs.«01_k».proof.Proof.Gen.AddOutIdeal.Launch
public import proofs.«01_k».proof.Proof.Gen.AddOutIdeal.Points
public import proofs.«01_k».proof.Proof.Gen.AddOutIdeal.Frame
public import proofs.«01_k».proof.Proof.Gen.AddOutRefIdeal
public import proofs.«01_k».proof.Proof.Gen.AddOutRefIdeal.Run
public import proofs.«01_k».proof.Proof.Gen.AddOutRefIdeal.Read
public import proofs.«01_k».proof.Proof.AddOut
public import proofs.«01_k».proof.Proof.Gen.AddEven
public import proofs.«01_k».proof.Proof.Gen.AddEven.Skeleton
public import proofs.«01_k».proof.Proof.Gen.AddEven.Launch
public import proofs.«01_k».proof.Proof.Gen.AddEven.Points
public import proofs.«01_k».proof.Proof.Gen.AddEven.Frame
public import proofs.«01_k».proof.Proof.Gen.AddEvenIdeal
public import proofs.«01_k».proof.Proof.Gen.AddEvenIdeal.Skeleton
public import proofs.«01_k».proof.Proof.Gen.AddEvenIdeal.Launch
public import proofs.«01_k».proof.Proof.Gen.AddEvenIdeal.Points
public import proofs.«01_k».proof.Proof.Gen.AddEvenIdeal.Frame
public import proofs.«01_k».proof.Proof.Gen.AddEvenRefIdeal
public import proofs.«01_k».proof.Proof.Gen.AddEvenRefIdeal.Run
public import proofs.«01_k».proof.Proof.Gen.AddEvenRefIdeal.Read
public import proofs.«01_k».proof.Proof.AddEven
public import proofs.«01_k».proof.Proof.Gen.AddOdd
public import proofs.«01_k».proof.Proof.Gen.AddOdd.Skeleton
public import proofs.«01_k».proof.Proof.Gen.AddOdd.Launch
public import proofs.«01_k».proof.Proof.Gen.AddOdd.Points
public import proofs.«01_k».proof.Proof.Gen.AddOdd.Frame
public import proofs.«01_k».proof.Proof.Gen.AddOddIdeal
public import proofs.«01_k».proof.Proof.Gen.AddOddIdeal.Skeleton
public import proofs.«01_k».proof.Proof.Gen.AddOddIdeal.Launch
public import proofs.«01_k».proof.Proof.Gen.AddOddIdeal.Points
public import proofs.«01_k».proof.Proof.Gen.AddOddIdeal.Frame
public import proofs.«01_k».proof.Proof.Gen.AddOddRefIdeal
public import proofs.«01_k».proof.Proof.Gen.AddOddRefIdeal.Run
public import proofs.«01_k».proof.Proof.Gen.AddOddRefIdeal.Read
public import proofs.«01_k».proof.Proof.AddOdd
public import Idealize.ShloMosaic.Adequacy
public import Idealize.ShloMosaic.Init

@[expose] public section

noncomputable section

namespace Cert.Proof

open Idealize.ShloMosaic Idealize.SL.Sem Cert.Pool

/-- The reference's program declares no semaphore, and its run keeps its arguments. -/
theorem pool_ref_frame (m : (ℓ : Loc Cert.PoolRefIdeal.nD Cert.PoolRefIdeal.τ Cert.PoolRefIdeal.sig) → Buf (Elt Ideal) ℓ) (ρ : Dev Cert.PoolRefIdeal.nD → PrngReg) :
    θ_run (Cert.PoolRefIdeal.defs (F := Ideal)) (onTc (τ := Cert.PoolRefIdeal.τ) (Cert.PoolRefIdeal.main (F := Ideal))) ⟨m, fun _ => 0, ρ⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0) :=
  (θ_run _ _ _).mono (fun r h => ⟨fun c => (h c).2.2.2, sem_eq_zero_of_no_sems (by decide) r.2⟩) (Cert.PoolRefIdeal.Value.run (F := Ideal) m ρ)

/-- The reference's program of `InOdd` declares no semaphore, and its run keeps its arguments. -/
theorem InOdd_ref_frame : Cert.quiescent_InOddRefIdeal (hInOddRefIdeal := Cert.InOddRefIdeal.Gen.facts) := fun m ρ _ =>
  (θ_run _ _ _).mono (fun r h => ⟨fun c => (h c).2, sem_eq_zero_of_no_sems (by decide) r.2⟩) (Cert.InOddRefIdeal.Value.run (F := Ideal) m ρ)

/-- The two programs of `InOdd` end at the same result on the extended reals. -/
theorem InOdd_algebraic : Cert.algebraic_InOddIdeal_InOddRefIdeal (hInOddIdeal := Cert.InOddIdeal.Gen.facts) (hInOddRefIdeal := Cert.InOddRefIdeal.Gen.facts) := fun m ρ m' ρ' _ hag =>
  ⟨fun c => Cert.InOddClaim.R (m ((c.tc : Thread Cert.InOddIdeal.nD Cert.InOddIdeal.τ).loc Cert.InOddIdeal.main_arg0)) (m ((c.tc : Thread Cert.InOddIdeal.nD Cert.InOddIdeal.τ).loc Cert.InOddIdeal.main_arg1)),
    Cert.InOddClaim.kernel_run m ρ, (θ_run _ _ _).mono (fun r h c => ⟨(h c).1.trans (congr (congrArg Cert.InOddClaim.R (hag c).1) (hag c).2), (h c).2⟩) (Cert.InOddClaim.ref_run m' ρ')⟩

/-- The reference's program of `InEven` declares no semaphore, and its run keeps its arguments. -/
theorem InEven_ref_frame : Cert.quiescent_InEvenRefIdeal (hInEvenRefIdeal := Cert.InEvenRefIdeal.Gen.facts) := fun m ρ _ =>
  (θ_run _ _ _).mono (fun r h => ⟨fun c => (h c).2, sem_eq_zero_of_no_sems (by decide) r.2⟩) (Cert.InEvenRefIdeal.Value.run (F := Ideal) m ρ)

/-- The two programs of `InEven` end at the same result on the extended reals. -/
theorem InEven_algebraic : Cert.algebraic_InEvenIdeal_InEvenRefIdeal (hInEvenIdeal := Cert.InEvenIdeal.Gen.facts) (hInEvenRefIdeal := Cert.InEvenRefIdeal.Gen.facts) := fun m ρ m' ρ' _ hag =>
  ⟨fun c => Cert.InEvenClaim.R (m ((c.tc : Thread Cert.InEvenIdeal.nD Cert.InEvenIdeal.τ).loc Cert.InEvenIdeal.main_arg0)) (m ((c.tc : Thread Cert.InEvenIdeal.nD Cert.InEvenIdeal.τ).loc Cert.InEvenIdeal.main_arg1)),
    Cert.InEvenClaim.kernel_run m ρ, (θ_run _ _ _).mono (fun r h c => ⟨(h c).1.trans (congr (congrArg Cert.InEvenClaim.R (hag c).1) (hag c).2), (h c).2⟩) (Cert.InEvenClaim.ref_run m' ρ')⟩

/-- The reference's program of `DMix` declares no semaphore, and its run keeps its arguments. -/
theorem DMix_ref_frame : Cert.quiescent_DMixRefIdeal (hDMixRefIdeal := Cert.DMixRefIdeal.Gen.facts) := fun m ρ _ =>
  (θ_run _ _ _).mono (fun r h => ⟨fun c => (h c).2, sem_eq_zero_of_no_sems (by decide) r.2⟩) (Cert.DMixRefIdeal.Value.run (F := Ideal) m ρ)

/-- The two programs of `DMix` end at the same result on the extended reals. -/
theorem DMix_algebraic : Cert.algebraic_DMixIdeal_DMixRefIdeal (hDMixIdeal := Cert.DMixIdeal.Gen.facts) (hDMixRefIdeal := Cert.DMixRefIdeal.Gen.facts) := fun m ρ m' ρ' _ hag =>
  ⟨fun c => Cert.DMixClaim.R (m ((c.tc : Thread Cert.DMixIdeal.nD Cert.DMixIdeal.τ).loc Cert.DMixIdeal.main_arg0)) (m ((c.tc : Thread Cert.DMixIdeal.nD Cert.DMixIdeal.τ).loc Cert.DMixIdeal.main_arg1)),
    Cert.DMixClaim.kernel_run m ρ, (θ_run _ _ _).mono (fun r h c => ⟨(h c).1.trans (congr (congrArg Cert.DMixClaim.R (hag c).1) (hag c).2), (h c).2⟩) (Cert.DMixClaim.ref_run m' ρ')⟩

/-- The reference's program of `DwOut` declares no semaphore, and its run keeps its arguments. -/
theorem DwOut_ref_frame : Cert.quiescent_DwOutRefIdeal (hDwOutRefIdeal := Cert.DwOutRefIdeal.Gen.facts) := fun m ρ _ =>
  (θ_run _ _ _).mono (fun r h => ⟨fun c => (h c).2, sem_eq_zero_of_no_sems (by decide) r.2⟩) (Cert.DwOutRefIdeal.Value.run (F := Ideal) m ρ)

/-- The two programs of `DwOut` end at the same result on the extended reals. -/
theorem DwOut_algebraic : Cert.algebraic_DwOutIdeal_DwOutRefIdeal (hDwOutIdeal := Cert.DwOutIdeal.Gen.facts) (hDwOutRefIdeal := Cert.DwOutRefIdeal.Gen.facts) := fun m ρ m' ρ' _ hag =>
  ⟨fun c => Cert.DwOutClaim.R (m ((c.tc : Thread Cert.DwOutIdeal.nD Cert.DwOutIdeal.τ).loc Cert.DwOutIdeal.main_arg0)) (m ((c.tc : Thread Cert.DwOutIdeal.nD Cert.DwOutIdeal.τ).loc Cert.DwOutIdeal.main_arg1)),
    Cert.DwOutClaim.kernel_run m ρ, (θ_run _ _ _).mono (fun r h c => ⟨(h c).1.trans (congr (congrArg Cert.DwOutClaim.R (hag c).1) (hag c).2), (h c).2⟩) (Cert.DwOutClaim.ref_run m' ρ')⟩

/-- The reference's program of `DwOdd` declares no semaphore, and its run keeps its arguments. -/
theorem DwOdd_ref_frame : Cert.quiescent_DwOddRefIdeal (hDwOddRefIdeal := Cert.DwOddRefIdeal.Gen.facts) := fun m ρ _ =>
  (θ_run _ _ _).mono (fun r h => ⟨fun c => (h c).2, sem_eq_zero_of_no_sems (by decide) r.2⟩) (Cert.DwOddRefIdeal.Value.run (F := Ideal) m ρ)

/-- The two programs of `DwOdd` end at the same result on the extended reals. -/
theorem DwOdd_algebraic : Cert.algebraic_DwOddIdeal_DwOddRefIdeal (hDwOddIdeal := Cert.DwOddIdeal.Gen.facts) (hDwOddRefIdeal := Cert.DwOddRefIdeal.Gen.facts) := fun m ρ m' ρ' _ hag =>
  ⟨fun c => Cert.DwOddClaim.R (m ((c.tc : Thread Cert.DwOddIdeal.nD Cert.DwOddIdeal.τ).loc Cert.DwOddIdeal.main_arg0)) (m ((c.tc : Thread Cert.DwOddIdeal.nD Cert.DwOddIdeal.τ).loc Cert.DwOddIdeal.main_arg1)),
    Cert.DwOddClaim.kernel_run m ρ, (θ_run _ _ _).mono (fun r h c => ⟨(h c).1.trans (congr (congrArg Cert.DwOddClaim.R (hag c).1) (hag c).2), (h c).2⟩) (Cert.DwOddClaim.ref_run m' ρ')⟩

/-- The reference's program of `DwEven` declares no semaphore, and its run keeps its arguments. -/
theorem DwEven_ref_frame : Cert.quiescent_DwEvenRefIdeal (hDwEvenRefIdeal := Cert.DwEvenRefIdeal.Gen.facts) := fun m ρ _ =>
  (θ_run _ _ _).mono (fun r h => ⟨fun c => (h c).2, sem_eq_zero_of_no_sems (by decide) r.2⟩) (Cert.DwEvenRefIdeal.Value.run (F := Ideal) m ρ)

/-- The two programs of `DwEven` end at the same result on the extended reals. -/
theorem DwEven_algebraic : Cert.algebraic_DwEvenIdeal_DwEvenRefIdeal (hDwEvenIdeal := Cert.DwEvenIdeal.Gen.facts) (hDwEvenRefIdeal := Cert.DwEvenRefIdeal.Gen.facts) := fun m ρ m' ρ' _ hag =>
  ⟨fun c => Cert.DwEvenClaim.R (m ((c.tc : Thread Cert.DwEvenIdeal.nD Cert.DwEvenIdeal.τ).loc Cert.DwEvenIdeal.main_arg0)) (m ((c.tc : Thread Cert.DwEvenIdeal.nD Cert.DwEvenIdeal.τ).loc Cert.DwEvenIdeal.main_arg1)),
    Cert.DwEvenClaim.kernel_run m ρ, (θ_run _ _ _).mono (fun r h c => ⟨(h c).1.trans (congr (congrArg Cert.DwEvenClaim.R (hag c).1) (hag c).2), (h c).2⟩) (Cert.DwEvenClaim.ref_run m' ρ')⟩

/-- The reference's program of `DxOdd` declares no semaphore, and its run keeps its arguments. -/
theorem DxOdd_ref_frame : Cert.quiescent_DxOddRefIdeal (hDxOddRefIdeal := Cert.DxOddRefIdeal.Gen.facts) := fun m ρ _ =>
  (θ_run _ _ _).mono (fun r h => ⟨fun c => (h c).2, sem_eq_zero_of_no_sems (by decide) r.2⟩) (Cert.DxOddRefIdeal.Value.run (F := Ideal) m ρ)

/-- The two programs of `DxOdd` end at the same result on the extended reals. -/
theorem DxOdd_algebraic : Cert.algebraic_DxOddIdeal_DxOddRefIdeal (hDxOddIdeal := Cert.DxOddIdeal.Gen.facts) (hDxOddRefIdeal := Cert.DxOddRefIdeal.Gen.facts) := fun m ρ m' ρ' _ hag =>
  ⟨fun c => Cert.DxOddClaim.R (m ((c.tc : Thread Cert.DxOddIdeal.nD Cert.DxOddIdeal.τ).loc Cert.DxOddIdeal.main_arg0)) (m ((c.tc : Thread Cert.DxOddIdeal.nD Cert.DxOddIdeal.τ).loc Cert.DxOddIdeal.main_arg1)) (m ((c.tc : Thread Cert.DxOddIdeal.nD Cert.DxOddIdeal.τ).loc Cert.DxOddIdeal.main_arg2)),
    Cert.DxOddClaim.kernel_run m ρ, (θ_run _ _ _).mono (fun r h c => ⟨(h c).1.trans (congr (congr (congrArg Cert.DxOddClaim.R (hag c).1) (hag c).2.1) (hag c).2.2), (h c).2⟩) (Cert.DxOddClaim.ref_run m' ρ')⟩

/-- The reference's program of `DxEven` declares no semaphore, and its run keeps its arguments. -/
theorem DxEven_ref_frame : Cert.quiescent_DxEvenRefIdeal (hDxEvenRefIdeal := Cert.DxEvenRefIdeal.Gen.facts) := fun m ρ _ =>
  (θ_run _ _ _).mono (fun r h => ⟨fun c => (h c).2, sem_eq_zero_of_no_sems (by decide) r.2⟩) (Cert.DxEvenRefIdeal.Value.run (F := Ideal) m ρ)

/-- The two programs of `DxEven` end at the same result on the extended reals. -/
theorem DxEven_algebraic : Cert.algebraic_DxEvenIdeal_DxEvenRefIdeal (hDxEvenIdeal := Cert.DxEvenIdeal.Gen.facts) (hDxEvenRefIdeal := Cert.DxEvenRefIdeal.Gen.facts) := fun m ρ m' ρ' _ hag =>
  ⟨fun c => Cert.DxEvenClaim.R (m ((c.tc : Thread Cert.DxEvenIdeal.nD Cert.DxEvenIdeal.τ).loc Cert.DxEvenIdeal.main_arg0)) (m ((c.tc : Thread Cert.DxEvenIdeal.nD Cert.DxEvenIdeal.τ).loc Cert.DxEvenIdeal.main_arg1)) (m ((c.tc : Thread Cert.DxEvenIdeal.nD Cert.DxEvenIdeal.τ).loc Cert.DxEvenIdeal.main_arg2)),
    Cert.DxEvenClaim.kernel_run m ρ, (θ_run _ _ _).mono (fun r h c => ⟨(h c).1.trans (congr (congr (congrArg Cert.DxEvenClaim.R (hag c).1) (hag c).2.1) (hag c).2.2), (h c).2⟩) (Cert.DxEvenClaim.ref_run m' ρ')⟩

/-- The reference's program of `OutLn` declares no semaphore, and its run keeps its arguments. -/
theorem OutLn_ref_frame : Cert.quiescent_OutLnRefIdeal (hOutLnRefIdeal := Cert.OutLnRefIdeal.Gen.facts) := fun m ρ _ =>
  (θ_run _ _ _).mono (fun r h => ⟨fun c => (h c).2.2.2, sem_eq_zero_of_no_sems (by decide) r.2⟩) (Cert.OutLnRefIdeal.Value.run (F := Ideal) m ρ)

/-- The two programs of `OutLn` end at the same result on the extended reals. -/
theorem OutLn_algebraic : Cert.algebraic_OutLnIdeal_OutLnRefIdeal (hOutLnIdeal := Cert.OutLnIdeal.Gen.facts) (hOutLnRefIdeal := Cert.OutLnRefIdeal.Gen.facts) := fun m ρ m' ρ' _ hag =>
  ⟨fun c => Cert.OutLnClaim.R0 (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)), fun c => Cert.OutLnClaim.R1 (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)), fun c => Cert.OutLnClaim.R2 (m ((c.tc : Thread Cert.OutLnIdeal.nD Cert.OutLnIdeal.τ).loc Cert.OutLnIdeal.main_arg0)) (m ((c.tc : Thread Cert.OutLnIdeal.nD Cert.OutLnIdeal.τ).loc Cert.OutLnIdeal.main_arg1)) (m ((c.tc : Thread Cert.OutLnIdeal.nD Cert.OutLnIdeal.τ).loc Cert.OutLnIdeal.main_arg2)) (m ((c.tc : Thread Cert.OutLnIdeal.nD Cert.OutLnIdeal.τ).loc Cert.OutLnIdeal.main_arg3)) (m ((c.tc : Thread Cert.OutLnIdeal.nD Cert.OutLnIdeal.τ).loc Cert.OutLnIdeal.main_arg4)),
    Cert.OutLnClaim.kernel_run m ρ, (θ_run _ _ _).mono (fun r h c => ⟨(h c).1.trans (congr (congr (congrArg Cert.OutLnClaim.R0 (hag c).1) (hag c).2.1) (hag c).2.2.1), (h c).2.1.trans (congr (congr (congr (congr (congrArg Cert.OutLnClaim.R1 (hag c).1) (hag c).2.1) (hag c).2.2.1) (hag c).2.2.2.1) (hag c).2.2.2.2), (h c).2.2.1.trans (congr (congr (congr (congr (congrArg Cert.OutLnClaim.R2 (hag c).1) (hag c).2.1) (hag c).2.2.1) (hag c).2.2.2.1) (hag c).2.2.2.2), (h c).2.2.2⟩) (Cert.OutLnClaim.ref_run m' ρ')⟩

/-- The reference's program of `LnBwd` declares no semaphore, and its run keeps its arguments. -/
theorem LnBwd_ref_frame : Cert.quiescent_LnBwdRefIdeal (hLnBwdRefIdeal := Cert.LnBwdRefIdeal.Gen.facts) := fun m ρ _ =>
  (θ_run _ _ _).mono (fun r h => ⟨fun c => (h c).2.2.2.2, sem_eq_zero_of_no_sems (by decide) r.2⟩) (Cert.LnBwdRefIdeal.Value.run (F := Ideal) m ρ)

/-- The two programs of `LnBwd` end at the same result on the extended reals. -/
theorem LnBwd_algebraic : Cert.algebraic_LnBwdIdeal_LnBwdRefIdeal_pre_finite_ln (hLnBwdIdeal := Cert.LnBwdIdeal.Gen.facts) (hLnBwdRefIdeal := Cert.LnBwdRefIdeal.Gen.facts) (hPre_finite_ln := ⟨by decide, by decide⟩) := fun m ρ m' ρ' hpre hag =>
  ⟨fun c => Cert.LnBwdClaim.R0 (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)), fun c => Cert.LnBwdClaim.R1 (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)), fun c => Cert.LnBwdClaim.R2 (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)), fun c => Cert.LnBwdClaim.R3 (m ((c.tc : Thread Cert.LnBwdIdeal.nD Cert.LnBwdIdeal.τ).loc Cert.LnBwdIdeal.main_arg0)),
    Cert.LnBwdClaim.kernel_run m ρ, (θ_run _ _ _).mono (fun r h c => ⟨(h c).1.trans (congr (congr (congrArg Cert.LnBwdClaim.R0 (hag c).1) (hag c).2.1) (hag c).2.2), (h c).2.1.trans (congr (congr (congrArg Cert.LnBwdClaim.R1 (hag c).1) (hag c).2.1) (hag c).2.2), (h c).2.2.1.trans (congr (congrArg Cert.LnBwdClaim.R2 (hag c).1) (hag c).2.1), (h c).2.2.2.1.trans (congrArg Cert.LnBwdClaim.R3 (hag c).1), (h c).2.2.2.2⟩) (Cert.LnBwdClaim.ref_run m' ρ' (fun c => by
        rw [(hag c).1, (hag c).2.1, (hag c).2.2]
        exact ⟨fun i => Cert.PoolFinite.real_of_cmp _ (congrFun (hpre c).1 i), fun i => Cert.PoolFinite.real_of_cmp _ (congrFun (hpre c).2.1 i), fun i => Cert.PoolFinite.real_of_cmp _ (congrFun (hpre c).2.2 i)⟩))⟩

/-- The reference's program of `LossLn` declares no semaphore, and its run keeps its arguments. -/
theorem LossLn_ref_frame : Cert.quiescent_LossLnRefIdeal (hLossLnRefIdeal := Cert.LossLnRefIdeal.Gen.facts) := fun m ρ _ =>
  (θ_run _ _ _).mono (fun r h => ⟨fun c => (h c).2.2.2.2.2, sem_eq_zero_of_no_sems (by decide) r.2⟩) (Cert.LossLnRefIdeal.Value.run (F := Ideal) m ρ)

/-- The two programs of `LossLn` end at the same result on the extended reals. -/
theorem LossLn_algebraic : Cert.algebraic_LossLnIdeal_LossLnRefIdeal_pre_finite_loss (hLossLnIdeal := Cert.LossLnIdeal.Gen.facts) (hLossLnRefIdeal := Cert.LossLnRefIdeal.Gen.facts) (hPre_finite_loss := ⟨by decide, by decide⟩) := fun m ρ m' ρ' hpre hag =>
  ⟨fun c => Cert.LossLnClaim.R0 (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)), fun c => Cert.LossLnClaim.R1 (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)), fun c => Cert.LossLnClaim.R2 (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)), fun c => Cert.LossLnClaim.R3 (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)), fun c => Cert.LossLnClaim.R4 (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)),
    Cert.LossLnClaim.kernel_run m ρ, (θ_run _ _ _).mono (fun r h c => ⟨(h c).1.trans (congr (congr (congr (congrArg Cert.LossLnClaim.R0 (hag c).1) (hag c).2.1) (hag c).2.2.1) (hag c).2.2.2), (h c).2.1.trans (congr (congr (congr (congrArg Cert.LossLnClaim.R1 (hag c).1) (hag c).2.1) (hag c).2.2.1) (hag c).2.2.2), (h c).2.2.1.trans (congr (congr (congrArg Cert.LossLnClaim.R2 (hag c).1) (hag c).2.1) (hag c).2.2.1), (h c).2.2.2.1.trans (congr (congrArg Cert.LossLnClaim.R3 (hag c).1) (hag c).2.1), (h c).2.2.2.2.1.trans (congr (congrArg Cert.LossLnClaim.R4 (hag c).1) (hag c).2.1), (h c).2.2.2.2.2⟩) (Cert.LossLnClaim.ref_run m' ρ' (fun c => by
        rw [(hag c).1, (hag c).2.1, (hag c).2.2.1, (hag c).2.2.2]
        exact ⟨fun i => Cert.PoolFinite.real_of_cmp _ (congrFun (hpre c).1 i), fun i => Cert.PoolFinite.real_of_cmp _ (congrFun (hpre c).2.1 i), fun i => Cert.PoolFinite.real_of_cmp _ (congrFun (hpre c).2.2.1 i), fun i => Cert.PoolFinite.real_of_cmp _ (congrFun (hpre c).2.2.2 i)⟩))⟩

/-- The reference's program of `PoolFwd` declares no semaphore, and its run keeps its arguments. -/
theorem PoolFwd_ref_frame : Cert.quiescent_PoolFwdRefIdeal (hPoolFwdRefIdeal := Cert.PoolFwdRefIdeal.Gen.facts) := fun m ρ _ =>
  (θ_run _ _ _).mono (fun r h => ⟨fun c => (h c).2, sem_eq_zero_of_no_sems (by decide) r.2⟩) (Cert.PoolFwdRefIdeal.Value.run (F := Ideal) m ρ)

/-- The two programs of `PoolFwd` end at the same result on the extended reals. -/
theorem PoolFwd_algebraic : Cert.algebraic_PoolFwdIdeal_PoolFwdRefIdeal_pre_finite_fwd (hPoolFwdIdeal := Cert.PoolFwdIdeal.Gen.facts) (hPoolFwdRefIdeal := Cert.PoolFwdRefIdeal.Gen.facts) (hPre_finite_fwd := ⟨by decide, by decide⟩) := fun m ρ m' ρ' hpre hag =>
  ⟨fun c => Cert.PoolFwdClaim.R (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2)) (m ((c.tc : Thread Cert.PoolFwdIdeal.nD Cert.PoolFwdIdeal.τ).loc Cert.PoolFwdIdeal.main_arg3)),
    Cert.PoolFwdClaim.kernel_run m ρ (fun c => Cert.PoolFwdClaim.cols _ _ fun i => Cert.PoolFinite.real_of_cmp _ (congrFun (hpre c) i)), (θ_run _ _ _).mono (fun r h c => ⟨(h c).1.trans (congr (congr (congr (congrArg Cert.PoolFwdClaim.R (hag c).1) (hag c).2.1) (hag c).2.2.1) (hag c).2.2.2), (h c).2⟩) (Cert.PoolFwdClaim.ref_run m' ρ' (fun c => by
        rw [(hag c).1]
        exact Cert.PoolFwdClaim.cols _ _ fun i => Cert.PoolFinite.real_of_cmp _ (congrFun (hpre c) i)))⟩

/-- The reference's program of `AdamOut` declares no semaphore, and its run keeps its arguments. -/
theorem AdamOut_ref_frame : Cert.quiescent_AdamOutRefIdeal (hAdamOutRefIdeal := Cert.AdamOutRefIdeal.Gen.facts) := fun m ρ _ =>
  (θ_run _ _ _).mono (fun r h => ⟨fun c => (h c).2.2.2.2, sem_eq_zero_of_no_sems (by decide) r.2⟩) (Cert.AdamOutRefIdeal.Value.run (F := Ideal) m ρ)

/-- The two programs of `AdamOut` end at the same result on the extended reals. -/
theorem AdamOut_algebraic : Cert.algebraic_AdamOutIdeal_AdamOutRefIdeal (hAdamOutIdeal := Cert.AdamOutIdeal.Gen.facts) (hAdamOutRefIdeal := Cert.AdamOutRefIdeal.Gen.facts) := fun m ρ m' ρ' _ hag =>
  ⟨fun c => Cert.AdamOutClaim.R0 (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5)) (m ((c.tc : Thread Cert.AdamOutIdeal.nD Cert.AdamOutIdeal.τ).loc Cert.AdamOutIdeal.main_arg6)), fun c => Cert.AdamOutClaim.R1 (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5)) (m ((c.tc : Thread Cert.AdamOutIdeal.nD Cert.AdamOutIdeal.τ).loc Cert.AdamOutIdeal.main_arg6)), fun c => Cert.AdamOutClaim.R2 (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5)) (m ((c.tc : Thread Cert.AdamOutIdeal.nD Cert.AdamOutIdeal.τ).loc Cert.AdamOutIdeal.main_arg6)), fun c => Cert.AdamOutClaim.R3 (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)),
    Cert.AdamOutClaim.kernel_run m ρ, (θ_run _ _ _).mono (fun r h c => ⟨(h c).1.trans (congr (congr (congr (congr (congr (congr (congrArg Cert.AdamOutClaim.R0 (hag c).1) (hag c).2.1) (hag c).2.2.1) (hag c).2.2.2.1) (hag c).2.2.2.2.1) (hag c).2.2.2.2.2.1) (hag c).2.2.2.2.2.2), (h c).2.1.trans (congr (congr (congr (congr (congr (congr (congrArg Cert.AdamOutClaim.R1 (hag c).1) (hag c).2.1) (hag c).2.2.1) (hag c).2.2.2.1) (hag c).2.2.2.2.1) (hag c).2.2.2.2.2.1) (hag c).2.2.2.2.2.2), (h c).2.2.1.trans (congr (congr (congr (congr (congr (congr (congrArg Cert.AdamOutClaim.R2 (hag c).1) (hag c).2.1) (hag c).2.2.1) (hag c).2.2.2.1) (hag c).2.2.2.2.1) (hag c).2.2.2.2.2.1) (hag c).2.2.2.2.2.2), (h c).2.2.2.1.trans (congr (congr (congr (congrArg Cert.AdamOutClaim.R3 (hag c).2.1) (hag c).2.2.1) (hag c).2.2.2.1) (hag c).2.2.2.2.1), (h c).2.2.2.2⟩) (Cert.AdamOutClaim.ref_run m' ρ')⟩

/-- The reference's program of `AdamEven` declares no semaphore, and its run keeps its arguments. -/
theorem AdamEven_ref_frame : Cert.quiescent_AdamEvenRefIdeal (hAdamEvenRefIdeal := Cert.AdamEvenRefIdeal.Gen.facts) := fun m ρ _ =>
  (θ_run _ _ _).mono (fun r h => ⟨fun c => (h c).2.2.2.2, sem_eq_zero_of_no_sems (by decide) r.2⟩) (Cert.AdamEvenRefIdeal.Value.run (F := Ideal) m ρ)

/-- The two programs of `AdamEven` end at the same result on the extended reals. -/
theorem AdamEven_algebraic : Cert.algebraic_AdamEvenIdeal_AdamEvenRefIdeal (hAdamEvenIdeal := Cert.AdamEvenIdeal.Gen.facts) (hAdamEvenRefIdeal := Cert.AdamEvenRefIdeal.Gen.facts) := fun m ρ m' ρ' _ hag =>
  ⟨fun c => Cert.AdamEvenClaim.R0 (m ((c.tc : Thread Cert.AdamEvenIdeal.nD Cert.AdamEvenIdeal.τ).loc Cert.AdamEvenIdeal.main_arg0)) (m ((c.tc : Thread Cert.AdamEvenIdeal.nD Cert.AdamEvenIdeal.τ).loc Cert.AdamEvenIdeal.main_arg1)) (m ((c.tc : Thread Cert.AdamEvenIdeal.nD Cert.AdamEvenIdeal.τ).loc Cert.AdamEvenIdeal.main_arg2)) (m ((c.tc : Thread Cert.AdamEvenIdeal.nD Cert.AdamEvenIdeal.τ).loc Cert.AdamEvenIdeal.main_arg3)) (m ((c.tc : Thread Cert.AdamEvenIdeal.nD Cert.AdamEvenIdeal.τ).loc Cert.AdamEvenIdeal.main_arg4)) (m ((c.tc : Thread Cert.AdamEvenIdeal.nD Cert.AdamEvenIdeal.τ).loc Cert.AdamEvenIdeal.main_arg5)) (m ((c.tc : Thread Cert.AdamEvenIdeal.nD Cert.AdamEvenIdeal.τ).loc Cert.AdamEvenIdeal.main_arg6)), fun c => Cert.AdamEvenClaim.R1 (m ((c.tc : Thread Cert.AdamEvenIdeal.nD Cert.AdamEvenIdeal.τ).loc Cert.AdamEvenIdeal.main_arg0)) (m ((c.tc : Thread Cert.AdamEvenIdeal.nD Cert.AdamEvenIdeal.τ).loc Cert.AdamEvenIdeal.main_arg1)) (m ((c.tc : Thread Cert.AdamEvenIdeal.nD Cert.AdamEvenIdeal.τ).loc Cert.AdamEvenIdeal.main_arg2)) (m ((c.tc : Thread Cert.AdamEvenIdeal.nD Cert.AdamEvenIdeal.τ).loc Cert.AdamEvenIdeal.main_arg3)) (m ((c.tc : Thread Cert.AdamEvenIdeal.nD Cert.AdamEvenIdeal.τ).loc Cert.AdamEvenIdeal.main_arg4)) (m ((c.tc : Thread Cert.AdamEvenIdeal.nD Cert.AdamEvenIdeal.τ).loc Cert.AdamEvenIdeal.main_arg5)) (m ((c.tc : Thread Cert.AdamEvenIdeal.nD Cert.AdamEvenIdeal.τ).loc Cert.AdamEvenIdeal.main_arg6)), fun c => Cert.AdamEvenClaim.R2 (m ((c.tc : Thread Cert.AdamEvenIdeal.nD Cert.AdamEvenIdeal.τ).loc Cert.AdamEvenIdeal.main_arg0)) (m ((c.tc : Thread Cert.AdamEvenIdeal.nD Cert.AdamEvenIdeal.τ).loc Cert.AdamEvenIdeal.main_arg1)) (m ((c.tc : Thread Cert.AdamEvenIdeal.nD Cert.AdamEvenIdeal.τ).loc Cert.AdamEvenIdeal.main_arg2)) (m ((c.tc : Thread Cert.AdamEvenIdeal.nD Cert.AdamEvenIdeal.τ).loc Cert.AdamEvenIdeal.main_arg3)) (m ((c.tc : Thread Cert.AdamEvenIdeal.nD Cert.AdamEvenIdeal.τ).loc Cert.AdamEvenIdeal.main_arg4)) (m ((c.tc : Thread Cert.AdamEvenIdeal.nD Cert.AdamEvenIdeal.τ).loc Cert.AdamEvenIdeal.main_arg5)) (m ((c.tc : Thread Cert.AdamEvenIdeal.nD Cert.AdamEvenIdeal.τ).loc Cert.AdamEvenIdeal.main_arg6)), fun c => Cert.AdamEvenClaim.R3 (m ((c.tc : Thread Cert.AdamEvenIdeal.nD Cert.AdamEvenIdeal.τ).loc Cert.AdamEvenIdeal.main_arg1)) (m ((c.tc : Thread Cert.AdamEvenIdeal.nD Cert.AdamEvenIdeal.τ).loc Cert.AdamEvenIdeal.main_arg2)) (m ((c.tc : Thread Cert.AdamEvenIdeal.nD Cert.AdamEvenIdeal.τ).loc Cert.AdamEvenIdeal.main_arg3)) (m ((c.tc : Thread Cert.AdamEvenIdeal.nD Cert.AdamEvenIdeal.τ).loc Cert.AdamEvenIdeal.main_arg4)),
    Cert.AdamEvenClaim.kernel_run m ρ, (θ_run _ _ _).mono (fun r h c => ⟨(h c).1.trans (congr (congr (congr (congr (congr (congr (congrArg Cert.AdamEvenClaim.R0 (hag c).1) (hag c).2.1) (hag c).2.2.1) (hag c).2.2.2.1) (hag c).2.2.2.2.1) (hag c).2.2.2.2.2.1) (hag c).2.2.2.2.2.2), (h c).2.1.trans (congr (congr (congr (congr (congr (congr (congrArg Cert.AdamEvenClaim.R1 (hag c).1) (hag c).2.1) (hag c).2.2.1) (hag c).2.2.2.1) (hag c).2.2.2.2.1) (hag c).2.2.2.2.2.1) (hag c).2.2.2.2.2.2), (h c).2.2.1.trans (congr (congr (congr (congr (congr (congr (congrArg Cert.AdamEvenClaim.R2 (hag c).1) (hag c).2.1) (hag c).2.2.1) (hag c).2.2.2.1) (hag c).2.2.2.2.1) (hag c).2.2.2.2.2.1) (hag c).2.2.2.2.2.2), (h c).2.2.2.1.trans (congr (congr (congr (congrArg Cert.AdamEvenClaim.R3 (hag c).2.1) (hag c).2.2.1) (hag c).2.2.2.1) (hag c).2.2.2.2.1), (h c).2.2.2.2⟩) (Cert.AdamEvenClaim.ref_run m' ρ')⟩

/-- The reference's program of `AdamOdd` declares no semaphore, and its run keeps its arguments. -/
theorem AdamOdd_ref_frame : Cert.quiescent_AdamOddRefIdeal (hAdamOddRefIdeal := Cert.AdamOddRefIdeal.Gen.facts) := fun m ρ _ =>
  (θ_run _ _ _).mono (fun r h => ⟨fun c => (h c).2.2.2.2, sem_eq_zero_of_no_sems (by decide) r.2⟩) (Cert.AdamOddRefIdeal.Value.run (F := Ideal) m ρ)

/-- The two programs of `AdamOdd` end at the same result on the extended reals. -/
theorem AdamOdd_algebraic : Cert.algebraic_AdamOddIdeal_AdamOddRefIdeal (hAdamOddIdeal := Cert.AdamOddIdeal.Gen.facts) (hAdamOddRefIdeal := Cert.AdamOddRefIdeal.Gen.facts) := fun m ρ m' ρ' _ hag =>
  ⟨fun c => Cert.AdamOddClaim.R0 (m ((c.tc : Thread Cert.AdamOddIdeal.nD Cert.AdamOddIdeal.τ).loc Cert.AdamOddIdeal.main_arg0)) (m ((c.tc : Thread Cert.AdamOddIdeal.nD Cert.AdamOddIdeal.τ).loc Cert.AdamOddIdeal.main_arg1)) (m ((c.tc : Thread Cert.AdamOddIdeal.nD Cert.AdamOddIdeal.τ).loc Cert.AdamOddIdeal.main_arg2)) (m ((c.tc : Thread Cert.AdamOddIdeal.nD Cert.AdamOddIdeal.τ).loc Cert.AdamOddIdeal.main_arg3)) (m ((c.tc : Thread Cert.AdamOddIdeal.nD Cert.AdamOddIdeal.τ).loc Cert.AdamOddIdeal.main_arg4)), fun c => Cert.AdamOddClaim.R1 (m ((c.tc : Thread Cert.AdamOddIdeal.nD Cert.AdamOddIdeal.τ).loc Cert.AdamOddIdeal.main_arg0)) (m ((c.tc : Thread Cert.AdamOddIdeal.nD Cert.AdamOddIdeal.τ).loc Cert.AdamOddIdeal.main_arg1)) (m ((c.tc : Thread Cert.AdamOddIdeal.nD Cert.AdamOddIdeal.τ).loc Cert.AdamOddIdeal.main_arg2)) (m ((c.tc : Thread Cert.AdamOddIdeal.nD Cert.AdamOddIdeal.τ).loc Cert.AdamOddIdeal.main_arg3)) (m ((c.tc : Thread Cert.AdamOddIdeal.nD Cert.AdamOddIdeal.τ).loc Cert.AdamOddIdeal.main_arg4)), fun c => Cert.AdamOddClaim.R2 (m ((c.tc : Thread Cert.AdamOddIdeal.nD Cert.AdamOddIdeal.τ).loc Cert.AdamOddIdeal.main_arg0)) (m ((c.tc : Thread Cert.AdamOddIdeal.nD Cert.AdamOddIdeal.τ).loc Cert.AdamOddIdeal.main_arg1)) (m ((c.tc : Thread Cert.AdamOddIdeal.nD Cert.AdamOddIdeal.τ).loc Cert.AdamOddIdeal.main_arg2)) (m ((c.tc : Thread Cert.AdamOddIdeal.nD Cert.AdamOddIdeal.τ).loc Cert.AdamOddIdeal.main_arg3)) (m ((c.tc : Thread Cert.AdamOddIdeal.nD Cert.AdamOddIdeal.τ).loc Cert.AdamOddIdeal.main_arg4)), fun c => Cert.AdamOddClaim.R3 (m ((c.tc : Thread Cert.AdamOddIdeal.nD Cert.AdamOddIdeal.τ).loc Cert.AdamOddIdeal.main_arg1)) (m ((c.tc : Thread Cert.AdamOddIdeal.nD Cert.AdamOddIdeal.τ).loc Cert.AdamOddIdeal.main_arg2)),
    Cert.AdamOddClaim.kernel_run m ρ, (θ_run _ _ _).mono (fun r h c => ⟨(h c).1.trans (congr (congr (congr (congr (congrArg Cert.AdamOddClaim.R0 (hag c).1) (hag c).2.1) (hag c).2.2.1) (hag c).2.2.2.1) (hag c).2.2.2.2), (h c).2.1.trans (congr (congr (congr (congr (congrArg Cert.AdamOddClaim.R1 (hag c).1) (hag c).2.1) (hag c).2.2.1) (hag c).2.2.2.1) (hag c).2.2.2.2), (h c).2.2.1.trans (congr (congr (congr (congr (congrArg Cert.AdamOddClaim.R2 (hag c).1) (hag c).2.1) (hag c).2.2.1) (hag c).2.2.2.1) (hag c).2.2.2.2), (h c).2.2.2.1.trans (congr (congrArg Cert.AdamOddClaim.R3 (hag c).2.1) (hag c).2.2.1), (h c).2.2.2.2⟩) (Cert.AdamOddClaim.ref_run m' ρ')⟩

/-- The reference's program of `RsFinal` declares no semaphore, and its run keeps its arguments. -/
theorem RsFinal_ref_frame : Cert.quiescent_RsFinalRefIdeal (hRsFinalRefIdeal := Cert.RsFinalRefIdeal.Gen.facts) := fun m ρ _ =>
  (θ_run _ _ _).mono (fun r h => ⟨fun c => (h c).2, sem_eq_zero_of_no_sems (by decide) r.2⟩) (Cert.RsFinalRefIdeal.Value.run (F := Ideal) m ρ)

/-- The two programs of `RsFinal` end at the same result on the extended reals. -/
theorem RsFinal_algebraic : Cert.algebraic_RsFinalIdeal_RsFinalRefIdeal (hRsFinalIdeal := Cert.RsFinalIdeal.Gen.facts) (hRsFinalRefIdeal := Cert.RsFinalRefIdeal.Gen.facts) := fun m ρ m' ρ' _ hag =>
  ⟨fun c => Cert.RsFinalClaim.R (m ((c.tc : Thread Cert.RsFinalIdeal.nD Cert.RsFinalIdeal.τ).loc Cert.RsFinalIdeal.main_arg0)) (m ((c.tc : Thread Cert.RsFinalIdeal.nD Cert.RsFinalIdeal.τ).loc Cert.RsFinalIdeal.main_arg1)),
    Cert.RsFinalClaim.kernel_run m ρ, (θ_run _ _ _).mono (fun r h c => ⟨(h c).1.trans (congr (congrArg Cert.RsFinalClaim.R (hag c).1) (hag c).2), (h c).2⟩) (Cert.RsFinalClaim.ref_run m' ρ')⟩

/-- The reference's program of `SumSmall` declares no semaphore, and its run keeps its arguments. -/
theorem SumSmall_ref_frame : Cert.quiescent_SumSmallRefIdeal (hSumSmallRefIdeal := Cert.SumSmallRefIdeal.Gen.facts) := fun m ρ _ =>
  (θ_run _ _ _).mono (fun r h => ⟨fun c => (h c).2, sem_eq_zero_of_no_sems (by decide) r.2⟩) (Cert.SumSmallRefIdeal.Value.run (F := Ideal) m ρ)

/-- The two programs of `SumSmall` end at the same result on the extended reals. -/
theorem SumSmall_algebraic : Cert.algebraic_SumSmallIdeal_SumSmallRefIdeal (hSumSmallIdeal := Cert.SumSmallIdeal.Gen.facts) (hSumSmallRefIdeal := Cert.SumSmallRefIdeal.Gen.facts) := fun m ρ m' ρ' _ hag =>
  ⟨fun c => Cert.SumSmallClaim.R (m ((c.tc : Thread Cert.SumSmallIdeal.nD Cert.SumSmallIdeal.τ).loc Cert.SumSmallIdeal.main_arg0)),
    Cert.SumSmallClaim.kernel_run m ρ, (θ_run _ _ _).mono (fun r h c => ⟨(h c).1.trans (congrArg Cert.SumSmallClaim.R (hag c)), (h c).2⟩) (Cert.SumSmallClaim.ref_run m' ρ')⟩

/-- The reference's program of `CastX` declares no semaphore, and its run keeps its arguments. -/
theorem CastX_ref_frame : Cert.quiescent_CastXRefIdeal (hCastXRefIdeal := Cert.CastXRefIdeal.Gen.facts) := fun m ρ _ =>
  (θ_run _ _ _).mono (fun r h => ⟨fun c => (h c).2, sem_eq_zero_of_no_sems (by decide) r.2⟩) (Cert.CastXRefIdeal.Value.run (F := Ideal) m ρ)

/-- The two programs of `CastX` end at the same result on the extended reals. -/
theorem CastX_algebraic : Cert.algebraic_CastXIdeal_CastXRefIdeal (hCastXIdeal := Cert.CastXIdeal.Gen.facts) (hCastXRefIdeal := Cert.CastXRefIdeal.Gen.facts) := fun m ρ m' ρ' _ hag =>
  ⟨fun c => Cert.CastXClaim.R (m ((c.tc : Thread Cert.CastXIdeal.nD Cert.CastXIdeal.τ).loc Cert.CastXIdeal.main_arg0)),
    Cert.CastXClaim.kernel_run m ρ, (θ_run _ _ _).mono (fun r h c => ⟨(h c).1.trans (congrArg Cert.CastXClaim.R (hag c)), (h c).2⟩) (Cert.CastXClaim.ref_run m' ρ')⟩

/-- The reference's program of `AddOut` declares no semaphore, and its run keeps its arguments. -/
theorem AddOut_ref_frame : Cert.quiescent_AddOutRefIdeal (hAddOutRefIdeal := Cert.AddOutRefIdeal.Gen.facts) := fun m ρ _ =>
  (θ_run _ _ _).mono (fun r h => ⟨fun c => (h c).2, sem_eq_zero_of_no_sems (by decide) r.2⟩) (Cert.AddOutRefIdeal.Value.run (F := Ideal) m ρ)

/-- The two programs of `AddOut` end at the same result on the extended reals. -/
theorem AddOut_algebraic : Cert.algebraic_AddOutIdeal_AddOutRefIdeal (hAddOutIdeal := Cert.AddOutIdeal.Gen.facts) (hAddOutRefIdeal := Cert.AddOutRefIdeal.Gen.facts) := fun m ρ m' ρ' _ hag =>
  ⟨fun c => Cert.AddOutClaim.R (m ((c.tc : Thread Cert.AddOutIdeal.nD Cert.AddOutIdeal.τ).loc Cert.AddOutIdeal.main_arg0)) (m ((c.tc : Thread Cert.AddOutIdeal.nD Cert.AddOutIdeal.τ).loc Cert.AddOutIdeal.main_arg1)),
    Cert.AddOutClaim.kernel_run m ρ, (θ_run _ _ _).mono (fun r h c => ⟨(h c).1.trans (congr (congrArg Cert.AddOutClaim.R (hag c).1) (hag c).2), (h c).2⟩) (Cert.AddOutClaim.ref_run m' ρ')⟩

/-- The reference's program of `AddEven` declares no semaphore, and its run keeps its arguments. -/
theorem AddEven_ref_frame : Cert.quiescent_AddEvenRefIdeal (hAddEvenRefIdeal := Cert.AddEvenRefIdeal.Gen.facts) := fun m ρ _ =>
  (θ_run _ _ _).mono (fun r h => ⟨fun c => (h c).2, sem_eq_zero_of_no_sems (by decide) r.2⟩) (Cert.AddEvenRefIdeal.Value.run (F := Ideal) m ρ)

/-- The two programs of `AddEven` end at the same result on the extended reals. -/
theorem AddEven_algebraic : Cert.algebraic_AddEvenIdeal_AddEvenRefIdeal (hAddEvenIdeal := Cert.AddEvenIdeal.Gen.facts) (hAddEvenRefIdeal := Cert.AddEvenRefIdeal.Gen.facts) := fun m ρ m' ρ' _ hag =>
  ⟨fun c => Cert.AddEvenClaim.R (m ((c.tc : Thread Cert.AddEvenIdeal.nD Cert.AddEvenIdeal.τ).loc Cert.AddEvenIdeal.main_arg0)) (m ((c.tc : Thread Cert.AddEvenIdeal.nD Cert.AddEvenIdeal.τ).loc Cert.AddEvenIdeal.main_arg1)),
    Cert.AddEvenClaim.kernel_run m ρ, (θ_run _ _ _).mono (fun r h c => ⟨(h c).1.trans (congr (congrArg Cert.AddEvenClaim.R (hag c).1) (hag c).2), (h c).2⟩) (Cert.AddEvenClaim.ref_run m' ρ')⟩

/-- The reference's program of `AddOdd` declares no semaphore, and its run keeps its arguments. -/
theorem AddOdd_ref_frame : Cert.quiescent_AddOddRefIdeal (hAddOddRefIdeal := Cert.AddOddRefIdeal.Gen.facts) := fun m ρ _ =>
  (θ_run _ _ _).mono (fun r h => ⟨fun c => (h c).2, sem_eq_zero_of_no_sems (by decide) r.2⟩) (Cert.AddOddRefIdeal.Value.run (F := Ideal) m ρ)

/-- The two programs of `AddOdd` end at the same result on the extended reals. -/
theorem AddOdd_algebraic : Cert.algebraic_AddOddIdeal_AddOddRefIdeal (hAddOddIdeal := Cert.AddOddIdeal.Gen.facts) (hAddOddRefIdeal := Cert.AddOddRefIdeal.Gen.facts) := fun m ρ m' ρ' _ hag =>
  ⟨fun c => Cert.AddOddClaim.R (m ((c.tc : Thread Cert.AddOddIdeal.nD Cert.AddOddIdeal.τ).loc Cert.AddOddIdeal.main_arg0)) (m ((c.tc : Thread Cert.AddOddIdeal.nD Cert.AddOddIdeal.τ).loc Cert.AddOddIdeal.main_arg1)),
    Cert.AddOddClaim.kernel_run m ρ, (θ_run _ _ _).mono (fun r h c => ⟨(h c).1.trans (congr (congrArg Cert.AddOddClaim.R (hag c).1) (hag c).2), (h c).2⟩) (Cert.AddOddClaim.ref_run m' ρ')⟩

/-- Everything the certificate claims. -/
theorem claim : Cert.Claim := ⟨Cert.Pool.Gen.facts, Cert.PoolIdeal.Gen.facts, Cert.PoolRefIdeal.Gen.facts,
  Cert.InOdd.Gen.facts, Cert.InOddIdeal.Gen.facts, Cert.InOddRefIdeal.Gen.facts,
  Cert.InEven.Gen.facts, Cert.InEvenIdeal.Gen.facts, Cert.InEvenRefIdeal.Gen.facts,
  Cert.DMix.Gen.facts, Cert.DMixIdeal.Gen.facts, Cert.DMixRefIdeal.Gen.facts,
  Cert.DwOut.Gen.facts, Cert.DwOutIdeal.Gen.facts, Cert.DwOutRefIdeal.Gen.facts,
  Cert.DwOdd.Gen.facts, Cert.DwOddIdeal.Gen.facts, Cert.DwOddRefIdeal.Gen.facts,
  Cert.DwEven.Gen.facts, Cert.DwEvenIdeal.Gen.facts, Cert.DwEvenRefIdeal.Gen.facts,
  Cert.DxOdd.Gen.facts, Cert.DxOddIdeal.Gen.facts, Cert.DxOddRefIdeal.Gen.facts,
  Cert.DxEven.Gen.facts, Cert.DxEvenIdeal.Gen.facts, Cert.DxEvenRefIdeal.Gen.facts,
  Cert.OutLn.Gen.facts, Cert.OutLnIdeal.Gen.facts, Cert.OutLnRefIdeal.Gen.facts,
  Cert.LnBwd.Gen.facts, Cert.LnBwdIdeal.Gen.facts, Cert.LnBwdRefIdeal.Gen.facts,
  Cert.LossLn.Gen.facts, Cert.LossLnIdeal.Gen.facts, Cert.LossLnRefIdeal.Gen.facts,
  Cert.PoolFwd.Gen.facts, Cert.PoolFwdIdeal.Gen.facts, Cert.PoolFwdRefIdeal.Gen.facts,
  Cert.AdamOut.Gen.facts, Cert.AdamOutIdeal.Gen.facts, Cert.AdamOutRefIdeal.Gen.facts,
  Cert.AdamEven.Gen.facts, Cert.AdamEvenIdeal.Gen.facts, Cert.AdamEvenRefIdeal.Gen.facts,
  Cert.AdamOdd.Gen.facts, Cert.AdamOddIdeal.Gen.facts, Cert.AdamOddRefIdeal.Gen.facts,
  Cert.RsFinal.Gen.facts, Cert.RsFinalIdeal.Gen.facts, Cert.RsFinalRefIdeal.Gen.facts,
  Cert.SumSmall.Gen.facts, Cert.SumSmallIdeal.Gen.facts, Cert.SumSmallRefIdeal.Gen.facts,
  Cert.CastX.Gen.facts, Cert.CastXIdeal.Gen.facts, Cert.CastXRefIdeal.Gen.facts,
  Cert.AddOut.Gen.facts, Cert.AddOutIdeal.Gen.facts, Cert.AddOutRefIdeal.Gen.facts,
  Cert.AddEven.Gen.facts, Cert.AddEvenIdeal.Gen.facts, Cert.AddEvenRefIdeal.Gen.facts,
  Cert.AddOdd.Gen.facts, Cert.AddOddIdeal.Gen.facts, Cert.AddOddRefIdeal.Gen.facts, Cert.PoolFinite.facts, ⟨by decide, by decide⟩, ⟨by decide, by decide⟩, ⟨by decide, by decide⟩,
  fun m ρ _ => Cert.Pool.Gen.frame m ρ, fun m ρ _ => Cert.PoolIdeal.Gen.frame m ρ, fun m ρ _ => Cert.PoolIdeal.Gen.frame m ρ,
  fun m ρ _ => pool_ref_frame m ρ, fun m ρ _ => pool_ref_frame m ρ,
  fun m ρ _ => Cert.InOdd.Gen.frame m ρ, fun m ρ _ => Cert.InOddIdeal.Gen.frame m ρ, InOdd_ref_frame,
  fun m ρ _ => Cert.InEven.Gen.frame m ρ, fun m ρ _ => Cert.InEvenIdeal.Gen.frame m ρ, InEven_ref_frame,
  fun m ρ _ => Cert.DMix.Gen.frame m ρ, fun m ρ _ => Cert.DMixIdeal.Gen.frame m ρ, DMix_ref_frame,
  fun m ρ _ => Cert.DwOut.Gen.frame m ρ, fun m ρ _ => Cert.DwOutIdeal.Gen.frame m ρ, DwOut_ref_frame,
  fun m ρ _ => Cert.DwOdd.Gen.frame m ρ, fun m ρ _ => Cert.DwOddIdeal.Gen.frame m ρ, DwOdd_ref_frame,
  fun m ρ _ => Cert.DwEven.Gen.frame m ρ, fun m ρ _ => Cert.DwEvenIdeal.Gen.frame m ρ, DwEven_ref_frame,
  fun m ρ _ => Cert.DxOdd.Gen.frame m ρ, fun m ρ _ => Cert.DxOddIdeal.Gen.frame m ρ, DxOdd_ref_frame,
  fun m ρ _ => Cert.DxEven.Gen.frame m ρ, fun m ρ _ => Cert.DxEvenIdeal.Gen.frame m ρ, DxEven_ref_frame,
  fun m ρ _ => Cert.OutLn.Gen.frame m ρ, fun m ρ _ => Cert.OutLnIdeal.Gen.frame m ρ, OutLn_ref_frame,
  fun m ρ _ => Cert.LnBwd.Gen.frame m ρ, fun m ρ _ => Cert.LnBwdIdeal.Gen.frame m ρ, fun m ρ _ => Cert.LnBwdIdeal.Gen.frame m ρ, LnBwd_ref_frame, fun m ρ _ => LnBwd_ref_frame m ρ trivial,
  fun m ρ _ => Cert.LossLn.Gen.frame m ρ, fun m ρ _ => Cert.LossLnIdeal.Gen.frame m ρ, fun m ρ _ => Cert.LossLnIdeal.Gen.frame m ρ, LossLn_ref_frame, fun m ρ _ => LossLn_ref_frame m ρ trivial,
  fun m ρ _ => Cert.PoolFwd.Gen.frame m ρ, fun m ρ _ => Cert.PoolFwdIdeal.Gen.frame m ρ, fun m ρ _ => Cert.PoolFwdIdeal.Gen.frame m ρ, PoolFwd_ref_frame, fun m ρ _ => PoolFwd_ref_frame m ρ trivial,
  fun m ρ _ => Cert.AdamOut.Gen.frame m ρ, fun m ρ _ => Cert.AdamOutIdeal.Gen.frame m ρ, AdamOut_ref_frame,
  fun m ρ _ => Cert.AdamEven.Gen.frame m ρ, fun m ρ _ => Cert.AdamEvenIdeal.Gen.frame m ρ, AdamEven_ref_frame,
  fun m ρ _ => Cert.AdamOdd.Gen.frame m ρ, fun m ρ _ => Cert.AdamOddIdeal.Gen.frame m ρ, AdamOdd_ref_frame,
  fun m ρ _ => Cert.RsFinal.Gen.frame m ρ, fun m ρ _ => Cert.RsFinalIdeal.Gen.frame m ρ, RsFinal_ref_frame,
  fun m ρ _ => Cert.SumSmall.Gen.frame m ρ, fun m ρ _ => Cert.SumSmallIdeal.Gen.frame m ρ, SumSmall_ref_frame,
  fun m ρ _ => Cert.CastX.Gen.frame m ρ, fun m ρ _ => Cert.CastXIdeal.Gen.frame m ρ, CastX_ref_frame,
  fun m ρ _ => Cert.AddOut.Gen.frame m ρ (Cert.AddOutClaim.ok m), fun m ρ _ => Cert.AddOutIdeal.Gen.frame m ρ (Cert.AddOutClaim.ok_ideal m), AddOut_ref_frame,
  fun m ρ _ => Cert.AddEven.Gen.frame m ρ (Cert.AddEvenClaim.ok m), fun m ρ _ => Cert.AddEvenIdeal.Gen.frame m ρ (Cert.AddEvenClaim.ok_ideal m), AddEven_ref_frame,
  fun m ρ _ => Cert.AddOdd.Gen.frame m ρ (Cert.AddOddClaim.ok m), fun m ρ _ => Cert.AddOddIdeal.Gen.frame m ρ (Cert.AddOddClaim.ok_ideal m), AddOdd_ref_frame,
  trivial, @Cert.PoolClaim.algebraic Cert.PoolFinite.facts,
  trivial, InOdd_algebraic,
  trivial, InEven_algebraic,
  trivial, DMix_algebraic,
  trivial, DwOut_algebraic,
  trivial, DwOdd_algebraic,
  trivial, DwEven_algebraic,
  trivial, DxOdd_algebraic,
  trivial, DxEven_algebraic,
  trivial, OutLn_algebraic,
  trivial, LnBwd_algebraic,
  trivial, LossLn_algebraic,
  trivial, PoolFwd_algebraic,
  trivial, AdamOut_algebraic,
  trivial, AdamEven_algebraic,
  trivial, AdamOdd_algebraic,
  trivial, RsFinal_algebraic,
  trivial, SumSmall_algebraic,
  trivial, CastX_algebraic,
  trivial, AddOut_algebraic,
  trivial, AddEven_algebraic,
  trivial, AddOdd_algebraic⟩

end Cert.Proof

end
